-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_Bo (m : (ℓ : Loc Cert.Bo.nD Cert.Bo.τ Cert.Bo.sig) → Buf (Elt Bits) ℓ) : Prop :=
  True

def Pre_BoIdeal (m : (ℓ : Loc Cert.BoIdeal.nD Cert.BoIdeal.τ Cert.BoIdeal.sig) → Buf (Elt Ideal) ℓ) : Prop :=
  True

def Pre_BoRefIdeal (m : (ℓ : Loc Cert.BoRefIdeal.nD Cert.BoRefIdeal.τ Cert.BoRefIdeal.sig) → Buf (Elt Ideal) ℓ) : Prop :=
  True

def Pre_BoDx (m : (ℓ : Loc Cert.BoDx.nD Cert.BoDx.τ Cert.BoDx.sig) → Buf (Elt Bits) ℓ) : Prop :=
  True

def Pre_BoDxIdeal (m : (ℓ : Loc Cert.BoDxIdeal.nD Cert.BoDxIdeal.τ Cert.BoDxIdeal.sig) → Buf (Elt Ideal) ℓ) : Prop :=
  True

def Pre_BoDxRefIdeal (m : (ℓ : Loc Cert.BoDxRefIdeal.nD Cert.BoDxRefIdeal.τ Cert.BoDxRefIdeal.sig) → Buf (Elt Ideal) ℓ) : Prop :=
  True

def Pre_BoDw (m : (ℓ : Loc Cert.BoDw.nD Cert.BoDw.τ Cert.BoDw.sig) → Buf (Elt Bits) ℓ) : Prop :=
  True

def Pre_BoDwIdeal (m : (ℓ : Loc Cert.BoDwIdeal.nD Cert.BoDwIdeal.τ Cert.BoDwIdeal.sig) → Buf (Elt Ideal) ℓ) : Prop :=
  True

def Pre_BoDwRefIdeal (m : (ℓ : Loc Cert.BoDwRefIdeal.nD Cert.BoDwRefIdeal.τ Cert.BoDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_UqDx (m : (ℓ : Loc Cert.UqDx.nD Cert.UqDx.τ Cert.UqDx.sig) → Buf (Elt Bits) ℓ) : Prop :=
  True

def Pre_UqDxIdeal (m : (ℓ : Loc Cert.UqDxIdeal.nD Cert.UqDxIdeal.τ Cert.UqDxIdeal.sig) → Buf (Elt Ideal) ℓ) : Prop :=
  True

def Pre_UqDxRefIdeal (m : (ℓ : Loc Cert.UqDxRefIdeal.nD Cert.UqDxRefIdeal.τ Cert.UqDxRefIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_UqDwRefIdeal (m : (ℓ : Loc Cert.UqDwRefIdeal.nD Cert.UqDwRefIdeal.τ Cert.UqDwRefIdeal.sig) → Buf (Elt Ideal) ℓ) : Prop :=
  True

def Pre_Uk (m : (ℓ : Loc Cert.Uk.nD Cert.Uk.τ Cert.Uk.sig) → Buf (Elt Bits) ℓ) : Prop :=
  True

def Pre_UkIdeal (m : (ℓ : Loc Cert.UkIdeal.nD Cert.UkIdeal.τ Cert.UkIdeal.sig) → Buf (Elt Ideal) ℓ) : Prop :=
  True

def Pre_UkRefIdeal (m : (ℓ : Loc Cert.UkRefIdeal.nD Cert.UkRefIdeal.τ Cert.UkRefIdeal.sig) → Buf (Elt Ideal) ℓ) : Prop :=
  True

def Pre_UkDx (m : (ℓ : Loc Cert.UkDx.nD Cert.UkDx.τ Cert.UkDx.sig) → Buf (Elt Bits) ℓ) : Prop :=
  True

def Pre_UkDxIdeal (m : (ℓ : Loc Cert.UkDxIdeal.nD Cert.UkDxIdeal.τ Cert.UkDxIdeal.sig) → Buf (Elt Ideal) ℓ) : Prop :=
  True

def Pre_UkDxRefIdeal (m : (ℓ : Loc Cert.UkDxRefIdeal.nD Cert.UkDxRefIdeal.τ Cert.UkDxRefIdeal.sig) → Buf (Elt Ideal) ℓ) : Prop :=
  True

def Pre_UkDw (m : (ℓ : Loc Cert.UkDw.nD Cert.UkDw.τ Cert.UkDw.sig) → Buf (Elt Bits) ℓ) : Prop :=
  True

def Pre_UkDwIdeal (m : (ℓ : Loc Cert.UkDwIdeal.nD Cert.UkDwIdeal.τ Cert.UkDwIdeal.sig) → Buf (Elt Ideal) ℓ) : Prop :=
  True

def Pre_UkDwRefIdeal (m : (ℓ : Loc Cert.UkDwRefIdeal.nD Cert.UkDwRefIdeal.τ Cert.UkDwRefIdeal.sig) → Buf (Elt Ideal) ℓ) : Prop :=
  True

def Pre_Uv (m : (ℓ : Loc Cert.Uv.nD Cert.Uv.τ Cert.Uv.sig) → Buf (Elt Bits) ℓ) : Prop :=
  True

def Pre_UvIdeal (m : (ℓ : Loc Cert.UvIdeal.nD Cert.UvIdeal.τ Cert.UvIdeal.sig) → Buf (Elt Ideal) ℓ) : Prop :=
  True

def Pre_UvRefIdeal (m : (ℓ : Loc Cert.UvRefIdeal.nD Cert.UvRefIdeal.τ Cert.UvRefIdeal.sig) → Buf (Elt Ideal) ℓ) : Prop :=
  True

def Pre_UvDx (m : (ℓ : Loc Cert.UvDx.nD Cert.UvDx.τ Cert.UvDx.sig) → Buf (Elt Bits) ℓ) : Prop :=
  True

def Pre_UvDxIdeal (m : (ℓ : Loc Cert.UvDxIdeal.nD Cert.UvDxIdeal.τ Cert.UvDxIdeal.sig) → Buf (Elt Ideal) ℓ) : Prop :=
  True

def Pre_UvDxRefIdeal (m : (ℓ : Loc Cert.UvDxRefIdeal.nD Cert.UvDxRefIdeal.τ Cert.UvDxRefIdeal.sig) → Buf (Elt Ideal) ℓ) : Prop :=
  True

def Pre_UvDw (m : (ℓ : Loc Cert.UvDw.nD Cert.UvDw.τ Cert.UvDw.sig) → Buf (Elt Bits) ℓ) : Prop :=
  True

def Pre_UvDwIdeal (m : (ℓ : Loc Cert.UvDwIdeal.nD Cert.UvDwIdeal.τ Cert.UvDwIdeal.sig) → Buf (Elt Ideal) ℓ) : Prop :=
  True

def Pre_UvDwRefIdeal (m : (ℓ : Loc Cert.UvDwRefIdeal.nD Cert.UvDwRefIdeal.τ Cert.UvDwRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemKvDx (m : (ℓ : Loc Cert.MemKvDx.nD Cert.MemKvDx.τ Cert.MemKvDx.sig) → Buf (Elt Bits) ℓ) : Prop :=
  True

def Pre_MemKvDxIdeal (m : (ℓ : Loc Cert.MemKvDxIdeal.nD Cert.MemKvDxIdeal.τ Cert.MemKvDxIdeal.sig) → Buf (Elt Ideal) ℓ) : Prop :=
  True

def Pre_MemKvDxRefIdeal (m : (ℓ : Loc Cert.MemKvDxRefIdeal.nD Cert.MemKvDxRefIdeal.τ Cert.MemKvDxRefIdeal.sig) → Buf (Elt Ideal) ℓ) : Prop :=
  True

def Pre_MemKvDw (m : (ℓ : Loc Cert.MemKvDw.nD Cert.MemKvDw.τ Cert.MemKvDw.sig) → Buf (Elt Bits) ℓ) : Prop :=
  True

def Pre_MemKvDwIdeal (m : (ℓ : Loc Cert.MemKvDwIdeal.nD Cert.MemKvDwIdeal.τ Cert.MemKvDwIdeal.sig) → Buf (Elt Ideal) ℓ) : Prop :=
  True

def Pre_MemKvDwRefIdeal (m : (ℓ : Loc Cert.MemKvDwRefIdeal.nD Cert.MemKvDwRefIdeal.τ Cert.MemKvDwRefIdeal.sig) → Buf (Elt Ideal) ℓ) : Prop :=
  True

def Pre_OutNorms (m : (ℓ : Loc Cert.OutNorms.nD Cert.OutNorms.τ Cert.OutNorms.sig) → Buf (Elt Bits) ℓ) : Prop :=
  True

def Pre_OutNormsIdeal (m : (ℓ : Loc Cert.OutNormsIdeal.nD Cert.OutNormsIdeal.τ Cert.OutNormsIdeal.sig) → Buf (Elt Ideal) ℓ) : Prop :=
  True

def Pre_OutNormsRefIdeal (m : (ℓ : Loc Cert.OutNormsRefIdeal.nD Cert.OutNormsRefIdeal.τ Cert.OutNormsRefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_RmsQBwd (m : (ℓ : Loc Cert.RmsQBwd.nD Cert.RmsQBwd.τ Cert.RmsQBwd.sig) → Buf (Elt Bits) ℓ) : Prop :=
  True

def Pre_RmsQBwdIdeal (m : (ℓ : Loc Cert.RmsQBwdIdeal.nD Cert.RmsQBwdIdeal.τ Cert.RmsQBwdIdeal.sig) → Buf (Elt Ideal) ℓ) : Prop :=
  True

def Pre_RmsQBwdRefIdeal (m : (ℓ : Loc Cert.RmsQBwdRefIdeal.nD Cert.RmsQBwdRefIdeal.τ Cert.RmsQBwdRefIdeal.sig) → Buf (Elt Ideal) ℓ) : Prop :=
  True

def Pre_RmsKvBwd (m : (ℓ : Loc Cert.RmsKvBwd.nD Cert.RmsKvBwd.τ Cert.RmsKvBwd.sig) → Buf (Elt Bits) ℓ) : Prop :=
  True

def Pre_RmsKvBwdIdeal (m : (ℓ : Loc Cert.RmsKvBwdIdeal.nD Cert.RmsKvBwdIdeal.τ Cert.RmsKvBwdIdeal.sig) → Buf (Elt Ideal) ℓ) : Prop :=
  True

def Pre_RmsKvBwdRefIdeal (m : (ℓ : Loc Cert.RmsKvBwdRefIdeal.nD Cert.RmsKvBwdRefIdeal.τ Cert.RmsKvBwdRefIdeal.sig) → Buf (Elt Ideal) ℓ) : Prop :=
  True

def Pre_RmsMemBwd (m : (ℓ : Loc Cert.RmsMemBwd.nD Cert.RmsMemBwd.τ Cert.RmsMemBwd.sig) → Buf (Elt Bits) ℓ) : Prop :=
  True

def Pre_RmsMemBwdIdeal (m : (ℓ : Loc Cert.RmsMemBwdIdeal.nD Cert.RmsMemBwdIdeal.τ Cert.RmsMemBwdIdeal.sig) → Buf (Elt Ideal) ℓ) : Prop :=
  True

def Pre_RmsMemBwdRefIdeal (m : (ℓ : Loc Cert.RmsMemBwdRefIdeal.nD Cert.RmsMemBwdRefIdeal.τ Cert.RmsMemBwdRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_RmsMix (m : (ℓ : Loc Cert.RmsMix.nD Cert.RmsMix.τ Cert.RmsMix.sig) → Buf (Elt Bits) ℓ) : Prop :=
  True

def Pre_RmsMixIdeal (m : (ℓ : Loc Cert.RmsMixIdeal.nD Cert.RmsMixIdeal.τ Cert.RmsMixIdeal.sig) → Buf (Elt Ideal) ℓ) : Prop :=
  True

def Pre_RmsMixRefIdeal (m : (ℓ : Loc Cert.RmsMixRefIdeal.nD Cert.RmsMixRefIdeal.τ Cert.RmsMixRefIdeal.sig) → Buf (Elt Ideal) ℓ) : Prop :=
  True

def Pre_RmsQ (m : (ℓ : Loc Cert.RmsQ.nD Cert.RmsQ.τ Cert.RmsQ.sig) → Buf (Elt Bits) ℓ) : Prop :=
  True

def Pre_RmsQIdeal (m : (ℓ : Loc Cert.RmsQIdeal.nD Cert.RmsQIdeal.τ Cert.RmsQIdeal.sig) → Buf (Elt Ideal) ℓ) : Prop :=
  True

def Pre_RmsQRefIdeal (m : (ℓ : Loc Cert.RmsQRefIdeal.nD Cert.RmsQRefIdeal.τ Cert.RmsQRefIdeal.sig) → Buf (Elt Ideal) ℓ) : Prop :=
  True

def Pre_RmsKv (m : (ℓ : Loc Cert.RmsKv.nD Cert.RmsKv.τ Cert.RmsKv.sig) → Buf (Elt Bits) ℓ) : Prop :=
  True

def Pre_RmsKvIdeal (m : (ℓ : Loc Cert.RmsKvIdeal.nD Cert.RmsKvIdeal.τ Cert.RmsKvIdeal.sig) → Buf (Elt Ideal) ℓ) : Prop :=
  True

def Pre_RmsKvRefIdeal (m : (ℓ : Loc Cert.RmsKvRefIdeal.nD Cert.RmsKvRefIdeal.τ Cert.RmsKvRefIdeal.sig) → Buf (Elt Ideal) ℓ) : Prop :=
  True

def Pre_RmsMem (m : (ℓ : Loc Cert.RmsMem.nD Cert.RmsMem.τ Cert.RmsMem.sig) → Buf (Elt Bits) ℓ) : Prop :=
  True

def Pre_RmsMemIdeal (m : (ℓ : Loc Cert.RmsMemIdeal.nD Cert.RmsMemIdeal.τ Cert.RmsMemIdeal.sig) → Buf (Elt Ideal) ℓ) : Prop :=
  True

def Pre_RmsMemRefIdeal (m : (ℓ : Loc Cert.RmsMemRefIdeal.nD Cert.RmsMemRefIdeal.τ Cert.RmsMemRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_RopeBwd (m : (ℓ : Loc Cert.RopeBwd.nD Cert.RopeBwd.τ Cert.RopeBwd.sig) → Buf (Elt Bits) ℓ) : Prop :=
  True

def Pre_RopeBwdIdeal (m : (ℓ : Loc Cert.RopeBwdIdeal.nD Cert.RopeBwdIdeal.τ Cert.RopeBwdIdeal.sig) → Buf (Elt Ideal) ℓ) : Prop :=
  True

def Pre_RopeBwdRefIdeal (m : (ℓ : Loc Cert.RopeBwdRefIdeal.nD Cert.RopeBwdRefIdeal.τ Cert.RopeBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2)
      ∧ r.2.mem ((c.tc : Thread Cert.DownDx.nD Cert.DownDx.τ).loc Cert.DownDx.main_arg3) = m ((c.tc : Thread Cert.DownDx.nD Cert.DownDx.τ).loc Cert.DownDx.main_arg3))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
      ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2)
      ∧ r.2.mem ((c.tc : Thread Cert.DownDxRefIdeal.nD Cert.DownDxRefIdeal.τ).loc Cert.DownDxRefIdeal.main_arg3) = m ((c.tc : Thread Cert.DownDxRefIdeal.nD Cert.DownDxRefIdeal.τ).loc Cert.DownDxRefIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_Bo [hBo : Cert.Bo.Facts] : Prop :=
  ∀ (m : (ℓ : Loc Cert.Bo.nD Cert.Bo.τ Cert.Bo.sig) → Buf (Elt Bits) ℓ) (g : Dev Cert.Bo.nD → PrngReg), Pre_Bo m →
    θ_run (Cert.Bo.defs (F := Bits)) (onTc (τ := Cert.Bo.τ) (Cert.Bo.main (F := Bits))) ⟨m, fun _ => 0, g⟩ (fun r => (∀ c : Dev Cert.Bo.nD,
      r.2.mem ((c.tc : Thread Cert.Bo.nD Cert.Bo.τ).loc Cert.Bo.main_arg0) = m ((c.tc : Thread Cert.Bo.nD Cert.Bo.τ).loc Cert.Bo.main_arg0)
      ∧ r.2.mem ((c.tc : Thread Cert.Bo.nD Cert.Bo.τ).loc Cert.Bo.main_arg1) = m ((c.tc : Thread Cert.Bo.nD Cert.Bo.τ).loc Cert.Bo.main_arg1))
      ∧ r.2.sem = fun _ => 0)

def quiescent_BoIdeal [hBoIdeal : Cert.BoIdeal.Facts] : Prop :=
  ∀ (m : (ℓ : Loc Cert.BoIdeal.nD Cert.BoIdeal.τ Cert.BoIdeal.sig) → Buf (Elt Ideal) ℓ) (g : Dev Cert.BoIdeal.nD → PrngReg), Pre_BoIdeal m →
    θ_run (Cert.BoIdeal.defs (F := Ideal)) (onTc (τ := Cert.BoIdeal.τ) (Cert.BoIdeal.main (F := Ideal))) ⟨m, fun _ => 0, g⟩ (fun r => (∀ c : Dev Cert.BoIdeal.nD,
      r.2.mem ((c.tc : Thread Cert.BoIdeal.nD Cert.BoIdeal.τ).loc Cert.BoIdeal.main_arg0) = m ((c.tc : Thread Cert.BoIdeal.nD Cert.BoIdeal.τ).loc Cert.BoIdeal.main_arg0)
      ∧ r.2.mem ((c.tc : Thread Cert.BoIdeal.nD Cert.BoIdeal.τ).loc Cert.BoIdeal.main_arg1) = m ((c.tc : Thread Cert.BoIdeal.nD Cert.BoIdeal.τ).loc Cert.BoIdeal.main_arg1))
      ∧ r.2.sem = fun _ => 0)

def quiescent_BoRefIdeal [hBoRefIdeal : Cert.BoRefIdeal.Facts] : Prop :=
  ∀ (m : (ℓ : Loc Cert.BoRefIdeal.nD Cert.BoRefIdeal.τ Cert.BoRefIdeal.sig) → Buf (Elt Ideal) ℓ) (g : Dev Cert.BoRefIdeal.nD → PrngReg), Pre_BoRefIdeal m →
    θ_run (Cert.BoRefIdeal.defs (F := Ideal)) (onTc (τ := Cert.BoRefIdeal.τ) (Cert.BoRefIdeal.main (F := Ideal))) ⟨m, fun _ => 0, g⟩ (fun r => (∀ c : Dev Cert.BoRefIdeal.nD,
      r.2.mem ((c.tc : Thread Cert.BoRefIdeal.nD Cert.BoRefIdeal.τ).loc Cert.BoRefIdeal.main_arg0) = m ((c.tc : Thread Cert.BoRefIdeal.nD Cert.BoRefIdeal.τ).loc Cert.BoRefIdeal.main_arg0)
      ∧ r.2.mem ((c.tc : Thread Cert.BoRefIdeal.nD Cert.BoRefIdeal.τ).loc Cert.BoRefIdeal.main_arg1) = m ((c.tc : Thread Cert.BoRefIdeal.nD Cert.BoRefIdeal.τ).loc Cert.BoRefIdeal.main_arg1))
      ∧ r.2.sem = fun _ => 0)

def quiescent_BoDx [hBoDx : Cert.BoDx.Facts] : Prop :=
  ∀ (m : (ℓ : Loc Cert.BoDx.nD Cert.BoDx.τ Cert.BoDx.sig) → Buf (Elt Bits) ℓ) (g : Dev Cert.BoDx.nD → PrngReg), Pre_BoDx m →
    θ_run (Cert.BoDx.defs (F := Bits)) (onTc (τ := Cert.BoDx.τ) (Cert.BoDx.main (F := Bits))) ⟨m, fun _ => 0, g⟩ (fun r => (∀ c : Dev Cert.BoDx.nD,
      r.2.mem ((c.tc : Thread Cert.BoDx.nD Cert.BoDx.τ).loc Cert.BoDx.main_arg0) = m ((c.tc : Thread Cert.BoDx.nD Cert.BoDx.τ).loc Cert.BoDx.main_arg0)
      ∧ r.2.mem ((c.tc : Thread Cert.BoDx.nD Cert.BoDx.τ).loc Cert.BoDx.main_arg1) = m ((c.tc : Thread Cert.BoDx.nD Cert.BoDx.τ).loc Cert.BoDx.main_arg1))
      ∧ r.2.sem = fun _ => 0)

def quiescent_BoDxIdeal [hBoDxIdeal : Cert.BoDxIdeal.Facts] : Prop :=
  ∀ (m : (ℓ : Loc Cert.BoDxIdeal.nD Cert.BoDxIdeal.τ Cert.BoDxIdeal.sig) → Buf (Elt Ideal) ℓ) (g : Dev Cert.BoDxIdeal.nD → PrngReg), Pre_BoDxIdeal m →
    θ_run (Cert.BoDxIdeal.defs (F := Ideal)) (onTc (τ := Cert.BoDxIdeal.τ) (Cert.BoDxIdeal.main (F := Ideal))) ⟨m, fun _ => 0, g⟩ (fun r => (∀ c : Dev Cert.BoDxIdeal.nD,
      r.2.mem ((c.tc : Thread Cert.BoDxIdeal.nD Cert.BoDxIdeal.τ).loc Cert.BoDxIdeal.main_arg0) = m ((c.tc : Thread Cert.BoDxIdeal.nD Cert.BoDxIdeal.τ).loc Cert.BoDxIdeal.main_arg0)
      ∧ r.2.mem ((c.tc : Thread Cert.BoDxIdeal.nD Cert.BoDxIdeal.τ).loc Cert.BoDxIdeal.main_arg1) = m ((c.tc : Thread Cert.BoDxIdeal.nD Cert.BoDxIdeal.τ).loc Cert.BoDxIdeal.main_arg1))
      ∧ r.2.sem = fun _ => 0)

def quiescent_BoDxRefIdeal [hBoDxRefIdeal : Cert.BoDxRefIdeal.Facts] : Prop :=
  ∀ (m : (ℓ : Loc Cert.BoDxRefIdeal.nD Cert.BoDxRefIdeal.τ Cert.BoDxRefIdeal.sig) → Buf (Elt Ideal) ℓ) (g : Dev Cert.BoDxRefIdeal.nD → PrngReg), Pre_BoDxRefIdeal m →
    θ_run (Cert.BoDxRefIdeal.defs (F := Ideal)) (onTc (τ := Cert.BoDxRefIdeal.τ) (Cert.BoDxRefIdeal.main (F := Ideal))) ⟨m, fun _ => 0, g⟩ (fun r => (∀ c : Dev Cert.BoDxRefIdeal.nD,
      r.2.mem ((c.tc : Thread Cert.BoDxRefIdeal.nD Cert.BoDxRefIdeal.τ).loc Cert.BoDxRefIdeal.main_arg0) = m ((c.tc : Thread Cert.BoDxRefIdeal.nD Cert.BoDxRefIdeal.τ).loc Cert.BoDxRefIdeal.main_arg0)
      ∧ r.2.mem ((c.tc : Thread Cert.BoDxRefIdeal.nD Cert.BoDxRefIdeal.τ).loc Cert.BoDxRefIdeal.main_arg1) = m ((c.tc : Thread Cert.BoDxRefIdeal.nD Cert.BoDxRefIdeal.τ).loc Cert.BoDxRefIdeal.main_arg1))
      ∧ r.2.sem = fun _ => 0)

def quiescent_BoDw [hBoDw : Cert.BoDw.Facts] : Prop :=
  ∀ (m : (ℓ : Loc Cert.BoDw.nD Cert.BoDw.τ Cert.BoDw.sig) → Buf (Elt Bits) ℓ) (g : Dev Cert.BoDw.nD → PrngReg), Pre_BoDw m →
    θ_run (Cert.BoDw.defs (F := Bits)) (onTc (τ := Cert.BoDw.τ) (Cert.BoDw.main (F := Bits))) ⟨m, fun _ => 0, g⟩ (fun r => (∀ c : Dev Cert.BoDw.nD,
      r.2.mem ((c.tc : Thread Cert.BoDw.nD Cert.BoDw.τ).loc Cert.BoDw.main_arg0) = m ((c.tc : Thread Cert.BoDw.nD Cert.BoDw.τ).loc Cert.BoDw.main_arg0)
      ∧ r.2.mem ((c.tc : Thread Cert.BoDw.nD Cert.BoDw.τ).loc Cert.BoDw.main_arg1) = m ((c.tc : Thread Cert.BoDw.nD Cert.BoDw.τ).loc Cert.BoDw.main_arg1))
      ∧ r.2.sem = fun _ => 0)

def quiescent_BoDwIdeal [hBoDwIdeal : Cert.BoDwIdeal.Facts] : Prop :=
  ∀ (m : (ℓ : Loc Cert.BoDwIdeal.nD Cert.BoDwIdeal.τ Cert.BoDwIdeal.sig) → Buf (Elt Ideal) ℓ) (g : Dev Cert.BoDwIdeal.nD → PrngReg), Pre_BoDwIdeal m →
    θ_run (Cert.BoDwIdeal.defs (F := Ideal)) (onTc (τ := Cert.BoDwIdeal.τ) (Cert.BoDwIdeal.main (F := Ideal))) ⟨m, fun _ => 0, g⟩ (fun r => (∀ c : Dev Cert.BoDwIdeal.nD,
      r.2.mem ((c.tc : Thread Cert.BoDwIdeal.nD Cert.BoDwIdeal.τ).loc Cert.BoDwIdeal.main_arg0) = m ((c.tc : Thread Cert.BoDwIdeal.nD Cert.BoDwIdeal.τ).loc Cert.BoDwIdeal.main_arg0)
      ∧ r.2.mem ((c.tc : Thread Cert.BoDwIdeal.nD Cert.BoDwIdeal.τ).loc Cert.BoDwIdeal.main_arg1) = m ((c.tc : Thread Cert.BoDwIdeal.nD Cert.BoDwIdeal.τ).loc Cert.BoDwIdeal.main_arg1))
      ∧ r.2.sem = fun _ => 0)

def quiescent_BoDwRefIdeal [hBoDwRefIdeal : Cert.BoDwRefIdeal.Facts] : Prop :=
  ∀ (m : (ℓ : Loc Cert.BoDwRefIdeal.nD Cert.BoDwRefIdeal.τ Cert.BoDwRefIdeal.sig) → Buf (Elt Ideal) ℓ) (g : Dev Cert.BoDwRefIdeal.nD → PrngReg), Pre_BoDwRefIdeal m →
    θ_run (Cert.BoDwRefIdeal.defs (F := Ideal)) (onTc (τ := Cert.BoDwRefIdeal.τ) (Cert.BoDwRefIdeal.main (F := Ideal))) ⟨m, fun _ => 0, g⟩ (fun r => (∀ c : Dev Cert.BoDwRefIdeal.nD,
      r.2.mem ((c.tc : Thread Cert.BoDwRefIdeal.nD Cert.BoDwRefIdeal.τ).loc Cert.BoDwRefIdeal.main_arg0) = m ((c.tc : Thread Cert.BoDwRefIdeal.nD Cert.BoDwRefIdeal.τ).loc Cert.BoDwRefIdeal.main_arg0)
      ∧ r.2.mem ((c.tc : Thread Cert.BoDwRefIdeal.nD Cert.BoDwRefIdeal.τ).loc Cert.BoDwRefIdeal.main_arg1) = m ((c.tc : Thread Cert.BoDwRefIdeal.nD Cert.BoDwRefIdeal.τ).loc Cert.BoDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1))
      ∧ r.2.sem = fun _ => 0)

def quiescent_UqDx [hUqDx : Cert.UqDx.Facts] : Prop :=
  ∀ (m : (ℓ : Loc Cert.UqDx.nD Cert.UqDx.τ Cert.UqDx.sig) → Buf (Elt Bits) ℓ) (g : Dev Cert.UqDx.nD → PrngReg), Pre_UqDx m →
    θ_run (Cert.UqDx.defs (F := Bits)) (onTc (τ := Cert.UqDx.τ) (Cert.UqDx.main (F := Bits))) ⟨m, fun _ => 0, g⟩ (fun r => (∀ c : Dev Cert.UqDx.nD,
      r.2.mem ((c.tc : Thread Cert.UqDx.nD Cert.UqDx.τ).loc Cert.UqDx.main_arg0) = m ((c.tc : Thread Cert.UqDx.nD Cert.UqDx.τ).loc Cert.UqDx.main_arg0)
      ∧ r.2.mem ((c.tc : Thread Cert.UqDx.nD Cert.UqDx.τ).loc Cert.UqDx.main_arg1) = m ((c.tc : Thread Cert.UqDx.nD Cert.UqDx.τ).loc Cert.UqDx.main_arg1))
      ∧ r.2.sem = fun _ => 0)

def quiescent_UqDxIdeal [hUqDxIdeal : Cert.UqDxIdeal.Facts] : Prop :=
  ∀ (m : (ℓ : Loc Cert.UqDxIdeal.nD Cert.UqDxIdeal.τ Cert.UqDxIdeal.sig) → Buf (Elt Ideal) ℓ) (g : Dev Cert.UqDxIdeal.nD → PrngReg), Pre_UqDxIdeal m →
    θ_run (Cert.UqDxIdeal.defs (F := Ideal)) (onTc (τ := Cert.UqDxIdeal.τ) (Cert.UqDxIdeal.main (F := Ideal))) ⟨m, fun _ => 0, g⟩ (fun r => (∀ c : Dev Cert.UqDxIdeal.nD,
      r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
      ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1))
      ∧ r.2.sem = fun _ => 0)

def quiescent_UqDxRefIdeal [hUqDxRefIdeal : Cert.UqDxRefIdeal.Facts] : Prop :=
  ∀ (m : (ℓ : Loc Cert.UqDxRefIdeal.nD Cert.UqDxRefIdeal.τ Cert.UqDxRefIdeal.sig) → Buf (Elt Ideal) ℓ) (g : Dev Cert.UqDxRefIdeal.nD → PrngReg), Pre_UqDxRefIdeal m →
    θ_run (Cert.UqDxRefIdeal.defs (F := Ideal)) (onTc (τ := Cert.UqDxRefIdeal.τ) (Cert.UqDxRefIdeal.main (F := Ideal))) ⟨m, fun _ => 0, g⟩ (fun r => (∀ c : Dev Cert.UqDxRefIdeal.nD,
      r.2.mem ((c.tc : Thread Cert.UqDxRefIdeal.nD Cert.UqDxRefIdeal.τ).loc Cert.UqDxRefIdeal.main_arg0) = m ((c.tc : Thread Cert.UqDxRefIdeal.nD Cert.UqDxRefIdeal.τ).loc Cert.UqDxRefIdeal.main_arg0)
      ∧ r.2.mem ((c.tc : Thread Cert.UqDxRefIdeal.nD Cert.UqDxRefIdeal.τ).loc Cert.UqDxRefIdeal.main_arg1) = m ((c.tc : Thread Cert.UqDxRefIdeal.nD Cert.UqDxRefIdeal.τ).loc Cert.UqDxRefIdeal.main_arg1))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ r.2.sem = fun _ => 0)

def quiescent_UqDwRefIdeal [hUqDwRefIdeal : Cert.UqDwRefIdeal.Facts] : Prop :=
  ∀ (m : (ℓ : Loc Cert.UqDwRefIdeal.nD Cert.UqDwRefIdeal.τ Cert.UqDwRefIdeal.sig) → Buf (Elt Ideal) ℓ) (g : Dev Cert.UqDwRefIdeal.nD → PrngReg), Pre_UqDwRefIdeal m →
    θ_run (Cert.UqDwRefIdeal.defs (F := Ideal)) (onTc (τ := Cert.UqDwRefIdeal.τ) (Cert.UqDwRefIdeal.main (F := Ideal))) ⟨m, fun _ => 0, g⟩ (fun r => (∀ c : Dev Cert.UqDwRefIdeal.nD,
      r.2.mem ((c.tc : Thread Cert.UqDwRefIdeal.nD Cert.UqDwRefIdeal.τ).loc Cert.UqDwRefIdeal.main_arg0) = m ((c.tc : Thread Cert.UqDwRefIdeal.nD Cert.UqDwRefIdeal.τ).loc Cert.UqDwRefIdeal.main_arg0)
      ∧ r.2.mem ((c.tc : Thread Cert.UqDwRefIdeal.nD Cert.UqDwRefIdeal.τ).loc Cert.UqDwRefIdeal.main_arg1) = m ((c.tc : Thread Cert.UqDwRefIdeal.nD Cert.UqDwRefIdeal.τ).loc Cert.UqDwRefIdeal.main_arg1))
      ∧ r.2.sem = fun _ => 0)

def quiescent_Uk [hUk : Cert.Uk.Facts] : Prop :=
  ∀ (m : (ℓ : Loc Cert.Uk.nD Cert.Uk.τ Cert.Uk.sig) → Buf (Elt Bits) ℓ) (g : Dev Cert.Uk.nD → PrngReg), Pre_Uk m →
    θ_run (Cert.Uk.defs (F := Bits)) (onTc (τ := Cert.Uk.τ) (Cert.Uk.main (F := Bits))) ⟨m, fun _ => 0, g⟩ (fun r => (∀ c : Dev Cert.Uk.nD,
      r.2.mem ((c.tc : Thread Cert.Uk.nD Cert.Uk.τ).loc Cert.Uk.main_arg0) = m ((c.tc : Thread Cert.Uk.nD Cert.Uk.τ).loc Cert.Uk.main_arg0)
      ∧ r.2.mem ((c.tc : Thread Cert.Uk.nD Cert.Uk.τ).loc Cert.Uk.main_arg1) = m ((c.tc : Thread Cert.Uk.nD Cert.Uk.τ).loc Cert.Uk.main_arg1))
      ∧ r.2.sem = fun _ => 0)

def quiescent_UkIdeal [hUkIdeal : Cert.UkIdeal.Facts] : Prop :=
  ∀ (m : (ℓ : Loc Cert.UkIdeal.nD Cert.UkIdeal.τ Cert.UkIdeal.sig) → Buf (Elt Ideal) ℓ) (g : Dev Cert.UkIdeal.nD → PrngReg), Pre_UkIdeal m →
    θ_run (Cert.UkIdeal.defs (F := Ideal)) (onTc (τ := Cert.UkIdeal.τ) (Cert.UkIdeal.main (F := Ideal))) ⟨m, fun _ => 0, g⟩ (fun r => (∀ c : Dev Cert.UkIdeal.nD,
      r.2.mem ((c.tc : Thread Cert.UkIdeal.nD Cert.UkIdeal.τ).loc Cert.UkIdeal.main_arg0) = m ((c.tc : Thread Cert.UkIdeal.nD Cert.UkIdeal.τ).loc Cert.UkIdeal.main_arg0)
      ∧ r.2.mem ((c.tc : Thread Cert.UkIdeal.nD Cert.UkIdeal.τ).loc Cert.UkIdeal.main_arg1) = m ((c.tc : Thread Cert.UkIdeal.nD Cert.UkIdeal.τ).loc Cert.UkIdeal.main_arg1))
      ∧ r.2.sem = fun _ => 0)

def quiescent_UkRefIdeal [hUkRefIdeal : Cert.UkRefIdeal.Facts] : Prop :=
  ∀ (m : (ℓ : Loc Cert.UkRefIdeal.nD Cert.UkRefIdeal.τ Cert.UkRefIdeal.sig) → Buf (Elt Ideal) ℓ) (g : Dev Cert.UkRefIdeal.nD → PrngReg), Pre_UkRefIdeal m →
    θ_run (Cert.UkRefIdeal.defs (F := Ideal)) (onTc (τ := Cert.UkRefIdeal.τ) (Cert.UkRefIdeal.main (F := Ideal))) ⟨m, fun _ => 0, g⟩ (fun r => (∀ c : Dev Cert.UkRefIdeal.nD,
      r.2.mem ((c.tc : Thread Cert.UkRefIdeal.nD Cert.UkRefIdeal.τ).loc Cert.UkRefIdeal.main_arg0) = m ((c.tc : Thread Cert.UkRefIdeal.nD Cert.UkRefIdeal.τ).loc Cert.UkRefIdeal.main_arg0)
      ∧ r.2.mem ((c.tc : Thread Cert.UkRefIdeal.nD Cert.UkRefIdeal.τ).loc Cert.UkRefIdeal.main_arg1) = m ((c.tc : Thread Cert.UkRefIdeal.nD Cert.UkRefIdeal.τ).loc Cert.UkRefIdeal.main_arg1))
      ∧ r.2.sem = fun _ => 0)

def quiescent_UkDx [hUkDx : Cert.UkDx.Facts] : Prop :=
  ∀ (m : (ℓ : Loc Cert.UkDx.nD Cert.UkDx.τ Cert.UkDx.sig) → Buf (Elt Bits) ℓ) (g : Dev Cert.UkDx.nD → PrngReg), Pre_UkDx m →
    θ_run (Cert.UkDx.defs (F := Bits)) (onTc (τ := Cert.UkDx.τ) (Cert.UkDx.main (F := Bits))) ⟨m, fun _ => 0, g⟩ (fun r => (∀ c : Dev Cert.UkDx.nD,
      r.2.mem ((c.tc : Thread Cert.UkDx.nD Cert.UkDx.τ).loc Cert.UkDx.main_arg0) = m ((c.tc : Thread Cert.UkDx.nD Cert.UkDx.τ).loc Cert.UkDx.main_arg0)
      ∧ r.2.mem ((c.tc : Thread Cert.UkDx.nD Cert.UkDx.τ).loc Cert.UkDx.main_arg1) = m ((c.tc : Thread Cert.UkDx.nD Cert.UkDx.τ).loc Cert.UkDx.main_arg1))
      ∧ r.2.sem = fun _ => 0)

def quiescent_UkDxIdeal [hUkDxIdeal : Cert.UkDxIdeal.Facts] : Prop :=
  ∀ (m : (ℓ : Loc Cert.UkDxIdeal.nD Cert.UkDxIdeal.τ Cert.UkDxIdeal.sig) → Buf (Elt Ideal) ℓ) (g : Dev Cert.UkDxIdeal.nD → PrngReg), Pre_UkDxIdeal m →
    θ_run (Cert.UkDxIdeal.defs (F := Ideal)) (onTc (τ := Cert.UkDxIdeal.τ) (Cert.UkDxIdeal.main (F := Ideal))) ⟨m, fun _ => 0, g⟩ (fun r => (∀ c : Dev Cert.UkDxIdeal.nD,
      r.2.mem ((c.tc : Thread Cert.UkDxIdeal.nD Cert.UkDxIdeal.τ).loc Cert.UkDxIdeal.main_arg0) = m ((c.tc : Thread Cert.UkDxIdeal.nD Cert.UkDxIdeal.τ).loc Cert.UkDxIdeal.main_arg0)
      ∧ r.2.mem ((c.tc : Thread Cert.UkDxIdeal.nD Cert.UkDxIdeal.τ).loc Cert.UkDxIdeal.main_arg1) = m ((c.tc : Thread Cert.UkDxIdeal.nD Cert.UkDxIdeal.τ).loc Cert.UkDxIdeal.main_arg1))
      ∧ r.2.sem = fun _ => 0)

def quiescent_UkDxRefIdeal [hUkDxRefIdeal : Cert.UkDxRefIdeal.Facts] : Prop :=
  ∀ (m : (ℓ : Loc Cert.UkDxRefIdeal.nD Cert.UkDxRefIdeal.τ Cert.UkDxRefIdeal.sig) → Buf (Elt Ideal) ℓ) (g : Dev Cert.UkDxRefIdeal.nD → PrngReg), Pre_UkDxRefIdeal m →
    θ_run (Cert.UkDxRefIdeal.defs (F := Ideal)) (onTc (τ := Cert.UkDxRefIdeal.τ) (Cert.UkDxRefIdeal.main (F := Ideal))) ⟨m, fun _ => 0, g⟩ (fun r => (∀ c : Dev Cert.UkDxRefIdeal.nD,
      r.2.mem ((c.tc : Thread Cert.UkDxRefIdeal.nD Cert.UkDxRefIdeal.τ).loc Cert.UkDxRefIdeal.main_arg0) = m ((c.tc : Thread Cert.UkDxRefIdeal.nD Cert.UkDxRefIdeal.τ).loc Cert.UkDxRefIdeal.main_arg0)
      ∧ r.2.mem ((c.tc : Thread Cert.UkDxRefIdeal.nD Cert.UkDxRefIdeal.τ).loc Cert.UkDxRefIdeal.main_arg1) = m ((c.tc : Thread Cert.UkDxRefIdeal.nD Cert.UkDxRefIdeal.τ).loc Cert.UkDxRefIdeal.main_arg1))
      ∧ r.2.sem = fun _ => 0)

def quiescent_UkDw [hUkDw : Cert.UkDw.Facts] : Prop :=
  ∀ (m : (ℓ : Loc Cert.UkDw.nD Cert.UkDw.τ Cert.UkDw.sig) → Buf (Elt Bits) ℓ) (g : Dev Cert.UkDw.nD → PrngReg), Pre_UkDw m →
    θ_run (Cert.UkDw.defs (F := Bits)) (onTc (τ := Cert.UkDw.τ) (Cert.UkDw.main (F := Bits))) ⟨m, fun _ => 0, g⟩ (fun r => (∀ c : Dev Cert.UkDw.nD,
      r.2.mem ((c.tc : Thread Cert.UkDw.nD Cert.UkDw.τ).loc Cert.UkDw.main_arg0) = m ((c.tc : Thread Cert.UkDw.nD Cert.UkDw.τ).loc Cert.UkDw.main_arg0)
      ∧ r.2.mem ((c.tc : Thread Cert.UkDw.nD Cert.UkDw.τ).loc Cert.UkDw.main_arg1) = m ((c.tc : Thread Cert.UkDw.nD Cert.UkDw.τ).loc Cert.UkDw.main_arg1))
      ∧ r.2.sem = fun _ => 0)

def quiescent_UkDwIdeal [hUkDwIdeal : Cert.UkDwIdeal.Facts] : Prop :=
  ∀ (m : (ℓ : Loc Cert.UkDwIdeal.nD Cert.UkDwIdeal.τ Cert.UkDwIdeal.sig) → Buf (Elt Ideal) ℓ) (g : Dev Cert.UkDwIdeal.nD → PrngReg), Pre_UkDwIdeal m →
    θ_run (Cert.UkDwIdeal.defs (F := Ideal)) (onTc (τ := Cert.UkDwIdeal.τ) (Cert.UkDwIdeal.main (F := Ideal))) ⟨m, fun _ => 0, g⟩ (fun r => (∀ c : Dev Cert.UkDwIdeal.nD,
      r.2.mem ((c.tc : Thread Cert.UkDwIdeal.nD Cert.UkDwIdeal.τ).loc Cert.UkDwIdeal.main_arg0) = m ((c.tc : Thread Cert.UkDwIdeal.nD Cert.UkDwIdeal.τ).loc Cert.UkDwIdeal.main_arg0)
      ∧ r.2.mem ((c.tc : Thread Cert.UkDwIdeal.nD Cert.UkDwIdeal.τ).loc Cert.UkDwIdeal.main_arg1) = m ((c.tc : Thread Cert.UkDwIdeal.nD Cert.UkDwIdeal.τ).loc Cert.UkDwIdeal.main_arg1))
      ∧ r.2.sem = fun _ => 0)

def quiescent_UkDwRefIdeal [hUkDwRefIdeal : Cert.UkDwRefIdeal.Facts] : Prop :=
  ∀ (m : (ℓ : Loc Cert.UkDwRefIdeal.nD Cert.UkDwRefIdeal.τ Cert.UkDwRefIdeal.sig) → Buf (Elt Ideal) ℓ) (g : Dev Cert.UkDwRefIdeal.nD → PrngReg), Pre_UkDwRefIdeal m →
    θ_run (Cert.UkDwRefIdeal.defs (F := Ideal)) (onTc (τ := Cert.UkDwRefIdeal.τ) (Cert.UkDwRefIdeal.main (F := Ideal))) ⟨m, fun _ => 0, g⟩ (fun r => (∀ c : Dev Cert.UkDwRefIdeal.nD,
      r.2.mem ((c.tc : Thread Cert.UkDwRefIdeal.nD Cert.UkDwRefIdeal.τ).loc Cert.UkDwRefIdeal.main_arg0) = m ((c.tc : Thread Cert.UkDwRefIdeal.nD Cert.UkDwRefIdeal.τ).loc Cert.UkDwRefIdeal.main_arg0)
      ∧ r.2.mem ((c.tc : Thread Cert.UkDwRefIdeal.nD Cert.UkDwRefIdeal.τ).loc Cert.UkDwRefIdeal.main_arg1) = m ((c.tc : Thread Cert.UkDwRefIdeal.nD Cert.UkDwRefIdeal.τ).loc Cert.UkDwRefIdeal.main_arg1))
      ∧ r.2.sem = fun _ => 0)

def quiescent_Uv [hUv : Cert.Uv.Facts] : Prop :=
  ∀ (m : (ℓ : Loc Cert.Uv.nD Cert.Uv.τ Cert.Uv.sig) → Buf (Elt Bits) ℓ) (g : Dev Cert.Uv.nD → PrngReg), Pre_Uv m →
    θ_run (Cert.Uv.defs (F := Bits)) (onTc (τ := Cert.Uv.τ) (Cert.Uv.main (F := Bits))) ⟨m, fun _ => 0, g⟩ (fun r => (∀ c : Dev Cert.Uv.nD,
      r.2.mem ((c.tc : Thread Cert.Uv.nD Cert.Uv.τ).loc Cert.Uv.main_arg0) = m ((c.tc : Thread Cert.Uv.nD Cert.Uv.τ).loc Cert.Uv.main_arg0)
      ∧ r.2.mem ((c.tc : Thread Cert.Uv.nD Cert.Uv.τ).loc Cert.Uv.main_arg1) = m ((c.tc : Thread Cert.Uv.nD Cert.Uv.τ).loc Cert.Uv.main_arg1))
      ∧ r.2.sem = fun _ => 0)

def quiescent_UvIdeal [hUvIdeal : Cert.UvIdeal.Facts] : Prop :=
  ∀ (m : (ℓ : Loc Cert.UvIdeal.nD Cert.UvIdeal.τ Cert.UvIdeal.sig) → Buf (Elt Ideal) ℓ) (g : Dev Cert.UvIdeal.nD → PrngReg), Pre_UvIdeal m →
    θ_run (Cert.UvIdeal.defs (F := Ideal)) (onTc (τ := Cert.UvIdeal.τ) (Cert.UvIdeal.main (F := Ideal))) ⟨m, fun _ => 0, g⟩ (fun r => (∀ c : Dev Cert.UvIdeal.nD,
      r.2.mem ((c.tc : Thread Cert.UvIdeal.nD Cert.UvIdeal.τ).loc Cert.UvIdeal.main_arg0) = m ((c.tc : Thread Cert.UvIdeal.nD Cert.UvIdeal.τ).loc Cert.UvIdeal.main_arg0)
      ∧ r.2.mem ((c.tc : Thread Cert.UvIdeal.nD Cert.UvIdeal.τ).loc Cert.UvIdeal.main_arg1) = m ((c.tc : Thread Cert.UvIdeal.nD Cert.UvIdeal.τ).loc Cert.UvIdeal.main_arg1))
      ∧ r.2.sem = fun _ => 0)

def quiescent_UvRefIdeal [hUvRefIdeal : Cert.UvRefIdeal.Facts] : Prop :=
  ∀ (m : (ℓ : Loc Cert.UvRefIdeal.nD Cert.UvRefIdeal.τ Cert.UvRefIdeal.sig) → Buf (Elt Ideal) ℓ) (g : Dev Cert.UvRefIdeal.nD → PrngReg), Pre_UvRefIdeal m →
    θ_run (Cert.UvRefIdeal.defs (F := Ideal)) (onTc (τ := Cert.UvRefIdeal.τ) (Cert.UvRefIdeal.main (F := Ideal))) ⟨m, fun _ => 0, g⟩ (fun r => (∀ c : Dev Cert.UvRefIdeal.nD,
      r.2.mem ((c.tc : Thread Cert.UvRefIdeal.nD Cert.UvRefIdeal.τ).loc Cert.UvRefIdeal.main_arg0) = m ((c.tc : Thread Cert.UvRefIdeal.nD Cert.UvRefIdeal.τ).loc Cert.UvRefIdeal.main_arg0)
      ∧ r.2.mem ((c.tc : Thread Cert.UvRefIdeal.nD Cert.UvRefIdeal.τ).loc Cert.UvRefIdeal.main_arg1) = m ((c.tc : Thread Cert.UvRefIdeal.nD Cert.UvRefIdeal.τ).loc Cert.UvRefIdeal.main_arg1))
      ∧ r.2.sem = fun _ => 0)

def quiescent_UvDx [hUvDx : Cert.UvDx.Facts] : Prop :=
  ∀ (m : (ℓ : Loc Cert.UvDx.nD Cert.UvDx.τ Cert.UvDx.sig) → Buf (Elt Bits) ℓ) (g : Dev Cert.UvDx.nD → PrngReg), Pre_UvDx m →
    θ_run (Cert.UvDx.defs (F := Bits)) (onTc (τ := Cert.UvDx.τ) (Cert.UvDx.main (F := Bits))) ⟨m, fun _ => 0, g⟩ (fun r => (∀ c : Dev Cert.UvDx.nD,
      r.2.mem ((c.tc : Thread Cert.UvDx.nD Cert.UvDx.τ).loc Cert.UvDx.main_arg0) = m ((c.tc : Thread Cert.UvDx.nD Cert.UvDx.τ).loc Cert.UvDx.main_arg0)
      ∧ r.2.mem ((c.tc : Thread Cert.UvDx.nD Cert.UvDx.τ).loc Cert.UvDx.main_arg1) = m ((c.tc : Thread Cert.UvDx.nD Cert.UvDx.τ).loc Cert.UvDx.main_arg1)
      ∧ r.2.mem ((c.tc : Thread Cert.UvDx.nD Cert.UvDx.τ).loc Cert.UvDx.main_arg2) = m ((c.tc : Thread Cert.UvDx.nD Cert.UvDx.τ).loc Cert.UvDx.main_arg2))
      ∧ r.2.sem = fun _ => 0)

def quiescent_UvDxIdeal [hUvDxIdeal : Cert.UvDxIdeal.Facts] : Prop :=
  ∀ (m : (ℓ : Loc Cert.UvDxIdeal.nD Cert.UvDxIdeal.τ Cert.UvDxIdeal.sig) → Buf (Elt Ideal) ℓ) (g : Dev Cert.UvDxIdeal.nD → PrngReg), Pre_UvDxIdeal m →
    θ_run (Cert.UvDxIdeal.defs (F := Ideal)) (onTc (τ := Cert.UvDxIdeal.τ) (Cert.UvDxIdeal.main (F := Ideal))) ⟨m, fun _ => 0, g⟩ (fun r => (∀ c : Dev Cert.UvDxIdeal.nD,
      r.2.mem ((c.tc : Thread Cert.UvDxIdeal.nD Cert.UvDxIdeal.τ).loc Cert.UvDxIdeal.main_arg0) = m ((c.tc : Thread Cert.UvDxIdeal.nD Cert.UvDxIdeal.τ).loc Cert.UvDxIdeal.main_arg0)
      ∧ r.2.mem ((c.tc : Thread Cert.UvDxIdeal.nD Cert.UvDxIdeal.τ).loc Cert.UvDxIdeal.main_arg1) = m ((c.tc : Thread Cert.UvDxIdeal.nD Cert.UvDxIdeal.τ).loc Cert.UvDxIdeal.main_arg1)
      ∧ r.2.mem ((c.tc : Thread Cert.UvDxIdeal.nD Cert.UvDxIdeal.τ).loc Cert.UvDxIdeal.main_arg2) = m ((c.tc : Thread Cert.UvDxIdeal.nD Cert.UvDxIdeal.τ).loc Cert.UvDxIdeal.main_arg2))
      ∧ r.2.sem = fun _ => 0)

def quiescent_UvDxRefIdeal [hUvDxRefIdeal : Cert.UvDxRefIdeal.Facts] : Prop :=
  ∀ (m : (ℓ : Loc Cert.UvDxRefIdeal.nD Cert.UvDxRefIdeal.τ Cert.UvDxRefIdeal.sig) → Buf (Elt Ideal) ℓ) (g : Dev Cert.UvDxRefIdeal.nD → PrngReg), Pre_UvDxRefIdeal m →
    θ_run (Cert.UvDxRefIdeal.defs (F := Ideal)) (onTc (τ := Cert.UvDxRefIdeal.τ) (Cert.UvDxRefIdeal.main (F := Ideal))) ⟨m, fun _ => 0, g⟩ (fun r => (∀ c : Dev Cert.UvDxRefIdeal.nD,
      r.2.mem ((c.tc : Thread Cert.UvDxRefIdeal.nD Cert.UvDxRefIdeal.τ).loc Cert.UvDxRefIdeal.main_arg0) = m ((c.tc : Thread Cert.UvDxRefIdeal.nD Cert.UvDxRefIdeal.τ).loc Cert.UvDxRefIdeal.main_arg0)
      ∧ r.2.mem ((c.tc : Thread Cert.UvDxRefIdeal.nD Cert.UvDxRefIdeal.τ).loc Cert.UvDxRefIdeal.main_arg1) = m ((c.tc : Thread Cert.UvDxRefIdeal.nD Cert.UvDxRefIdeal.τ).loc Cert.UvDxRefIdeal.main_arg1)
      ∧ r.2.mem ((c.tc : Thread Cert.UvDxRefIdeal.nD Cert.UvDxRefIdeal.τ).loc Cert.UvDxRefIdeal.main_arg2) = m ((c.tc : Thread Cert.UvDxRefIdeal.nD Cert.UvDxRefIdeal.τ).loc Cert.UvDxRefIdeal.main_arg2))
      ∧ r.2.sem = fun _ => 0)

def quiescent_UvDw [hUvDw : Cert.UvDw.Facts] : Prop :=
  ∀ (m : (ℓ : Loc Cert.UvDw.nD Cert.UvDw.τ Cert.UvDw.sig) → Buf (Elt Bits) ℓ) (g : Dev Cert.UvDw.nD → PrngReg), Pre_UvDw m →
    θ_run (Cert.UvDw.defs (F := Bits)) (onTc (τ := Cert.UvDw.τ) (Cert.UvDw.main (F := Bits))) ⟨m, fun _ => 0, g⟩ (fun r => (∀ c : Dev Cert.UvDw.nD,
      r.2.mem ((c.tc : Thread Cert.UvDw.nD Cert.UvDw.τ).loc Cert.UvDw.main_arg0) = m ((c.tc : Thread Cert.UvDw.nD Cert.UvDw.τ).loc Cert.UvDw.main_arg0)
      ∧ r.2.mem ((c.tc : Thread Cert.UvDw.nD Cert.UvDw.τ).loc Cert.UvDw.main_arg1) = m ((c.tc : Thread Cert.UvDw.nD Cert.UvDw.τ).loc Cert.UvDw.main_arg1))
      ∧ r.2.sem = fun _ => 0)

def quiescent_UvDwIdeal [hUvDwIdeal : Cert.UvDwIdeal.Facts] : Prop :=
  ∀ (m : (ℓ : Loc Cert.UvDwIdeal.nD Cert.UvDwIdeal.τ Cert.UvDwIdeal.sig) → Buf (Elt Ideal) ℓ) (g : Dev Cert.UvDwIdeal.nD → PrngReg), Pre_UvDwIdeal m →
    θ_run (Cert.UvDwIdeal.defs (F := Ideal)) (onTc (τ := Cert.UvDwIdeal.τ) (Cert.UvDwIdeal.main (F := Ideal))) ⟨m, fun _ => 0, g⟩ (fun r => (∀ c : Dev Cert.UvDwIdeal.nD,
      r.2.mem ((c.tc : Thread Cert.UvDwIdeal.nD Cert.UvDwIdeal.τ).loc Cert.UvDwIdeal.main_arg0) = m ((c.tc : Thread Cert.UvDwIdeal.nD Cert.UvDwIdeal.τ).loc Cert.UvDwIdeal.main_arg0)
      ∧ r.2.mem ((c.tc : Thread Cert.UvDwIdeal.nD Cert.UvDwIdeal.τ).loc Cert.UvDwIdeal.main_arg1) = m ((c.tc : Thread Cert.UvDwIdeal.nD Cert.UvDwIdeal.τ).loc Cert.UvDwIdeal.main_arg1))
      ∧ r.2.sem = fun _ => 0)

def quiescent_UvDwRefIdeal [hUvDwRefIdeal : Cert.UvDwRefIdeal.Facts] : Prop :=
  ∀ (m : (ℓ : Loc Cert.UvDwRefIdeal.nD Cert.UvDwRefIdeal.τ Cert.UvDwRefIdeal.sig) → Buf (Elt Ideal) ℓ) (g : Dev Cert.UvDwRefIdeal.nD → PrngReg), Pre_UvDwRefIdeal m →
    θ_run (Cert.UvDwRefIdeal.defs (F := Ideal)) (onTc (τ := Cert.UvDwRefIdeal.τ) (Cert.UvDwRefIdeal.main (F := Ideal))) ⟨m, fun _ => 0, g⟩ (fun r => (∀ c : Dev Cert.UvDwRefIdeal.nD,
      r.2.mem ((c.tc : Thread Cert.UvDwRefIdeal.nD Cert.UvDwRefIdeal.τ).loc Cert.UvDwRefIdeal.main_arg0) = m ((c.tc : Thread Cert.UvDwRefIdeal.nD Cert.UvDwRefIdeal.τ).loc Cert.UvDwRefIdeal.main_arg0)
      ∧ r.2.mem ((c.tc : Thread Cert.UvDwRefIdeal.nD Cert.UvDwRefIdeal.τ).loc Cert.UvDwRefIdeal.main_arg1) = m ((c.tc : Thread Cert.UvDwRefIdeal.nD Cert.UvDwRefIdeal.τ).loc Cert.UvDwRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MemKvDx [hMemKvDx : Cert.MemKvDx.Facts] : Prop :=
  ∀ (m : (ℓ : Loc Cert.MemKvDx.nD Cert.MemKvDx.τ Cert.MemKvDx.sig) → Buf (Elt Bits) ℓ) (g : Dev Cert.MemKvDx.nD → PrngReg), Pre_MemKvDx m →
    θ_run (Cert.MemKvDx.defs (F := Bits)) (onTc (τ := Cert.MemKvDx.τ) (Cert.MemKvDx.main (F := Bits))) ⟨m, fun _ => 0, g⟩ (fun r => (∀ c : Dev Cert.MemKvDx.nD,
      r.2.mem ((c.tc : Thread Cert.MemKvDx.nD Cert.MemKvDx.τ).loc Cert.MemKvDx.main_arg0) = m ((c.tc : Thread Cert.MemKvDx.nD Cert.MemKvDx.τ).loc Cert.MemKvDx.main_arg0)
      ∧ r.2.mem ((c.tc : Thread Cert.MemKvDx.nD Cert.MemKvDx.τ).loc Cert.MemKvDx.main_arg1) = m ((c.tc : Thread Cert.MemKvDx.nD Cert.MemKvDx.τ).loc Cert.MemKvDx.main_arg1))
      ∧ r.2.sem = fun _ => 0)

def quiescent_MemKvDxIdeal [hMemKvDxIdeal : Cert.MemKvDxIdeal.Facts] : Prop :=
  ∀ (m : (ℓ : Loc Cert.MemKvDxIdeal.nD Cert.MemKvDxIdeal.τ Cert.MemKvDxIdeal.sig) → Buf (Elt Ideal) ℓ) (g : Dev Cert.MemKvDxIdeal.nD → PrngReg), Pre_MemKvDxIdeal m →
    θ_run (Cert.MemKvDxIdeal.defs (F := Ideal)) (onTc (τ := Cert.MemKvDxIdeal.τ) (Cert.MemKvDxIdeal.main (F := Ideal))) ⟨m, fun _ => 0, g⟩ (fun r => (∀ c : Dev Cert.MemKvDxIdeal.nD,
      r.2.mem ((c.tc : Thread Cert.MemKvDxIdeal.nD Cert.MemKvDxIdeal.τ).loc Cert.MemKvDxIdeal.main_arg0) = m ((c.tc : Thread Cert.MemKvDxIdeal.nD Cert.MemKvDxIdeal.τ).loc Cert.MemKvDxIdeal.main_arg0)
      ∧ r.2.mem ((c.tc : Thread Cert.MemKvDxIdeal.nD Cert.MemKvDxIdeal.τ).loc Cert.MemKvDxIdeal.main_arg1) = m ((c.tc : Thread Cert.MemKvDxIdeal.nD Cert.MemKvDxIdeal.τ).loc Cert.MemKvDxIdeal.main_arg1))
      ∧ r.2.sem = fun _ => 0)

def quiescent_MemKvDxRefIdeal [hMemKvDxRefIdeal : Cert.MemKvDxRefIdeal.Facts] : Prop :=
  ∀ (m : (ℓ : Loc Cert.MemKvDxRefIdeal.nD Cert.MemKvDxRefIdeal.τ Cert.MemKvDxRefIdeal.sig) → Buf (Elt Ideal) ℓ) (g : Dev Cert.MemKvDxRefIdeal.nD → PrngReg), Pre_MemKvDxRefIdeal m →
    θ_run (Cert.MemKvDxRefIdeal.defs (F := Ideal)) (onTc (τ := Cert.MemKvDxRefIdeal.τ) (Cert.MemKvDxRefIdeal.main (F := Ideal))) ⟨m, fun _ => 0, g⟩ (fun r => (∀ c : Dev Cert.MemKvDxRefIdeal.nD,
      r.2.mem ((c.tc : Thread Cert.MemKvDxRefIdeal.nD Cert.MemKvDxRefIdeal.τ).loc Cert.MemKvDxRefIdeal.main_arg0) = m ((c.tc : Thread Cert.MemKvDxRefIdeal.nD Cert.MemKvDxRefIdeal.τ).loc Cert.MemKvDxRefIdeal.main_arg0)
      ∧ r.2.mem ((c.tc : Thread Cert.MemKvDxRefIdeal.nD Cert.MemKvDxRefIdeal.τ).loc Cert.MemKvDxRefIdeal.main_arg1) = m ((c.tc : Thread Cert.MemKvDxRefIdeal.nD Cert.MemKvDxRefIdeal.τ).loc Cert.MemKvDxRefIdeal.main_arg1))
      ∧ r.2.sem = fun _ => 0)

def quiescent_MemKvDw [hMemKvDw : Cert.MemKvDw.Facts] : Prop :=
  ∀ (m : (ℓ : Loc Cert.MemKvDw.nD Cert.MemKvDw.τ Cert.MemKvDw.sig) → Buf (Elt Bits) ℓ) (g : Dev Cert.MemKvDw.nD → PrngReg), Pre_MemKvDw m →
    θ_run (Cert.MemKvDw.defs (F := Bits)) (onTc (τ := Cert.MemKvDw.τ) (Cert.MemKvDw.main (F := Bits))) ⟨m, fun _ => 0, g⟩ (fun r => (∀ c : Dev Cert.MemKvDw.nD,
      r.2.mem ((c.tc : Thread Cert.MemKvDw.nD Cert.MemKvDw.τ).loc Cert.MemKvDw.main_arg0) = m ((c.tc : Thread Cert.MemKvDw.nD Cert.MemKvDw.τ).loc Cert.MemKvDw.main_arg0)
      ∧ r.2.mem ((c.tc : Thread Cert.MemKvDw.nD Cert.MemKvDw.τ).loc Cert.MemKvDw.main_arg1) = m ((c.tc : Thread Cert.MemKvDw.nD Cert.MemKvDw.τ).loc Cert.MemKvDw.main_arg1))
      ∧ r.2.sem = fun _ => 0)

def quiescent_MemKvDwIdeal [hMemKvDwIdeal : Cert.MemKvDwIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg), Pre_MemKvDwIdeal m →
    θ_run (Cert.MemKvDwIdeal.defs (F := Ideal)) (onTc (τ := Cert.MemKvDwIdeal.τ) (Cert.MemKvDwIdeal.main (F := Ideal))) ⟨m, fun _ => 0, g⟩ (fun r => (∀ c : Dev Cert.MemKvDwIdeal.nD,
      r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
      ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1))
      ∧ r.2.sem = fun _ => 0)

def quiescent_MemKvDwRefIdeal [hMemKvDwRefIdeal : Cert.MemKvDwRefIdeal.Facts] : Prop :=
  ∀ (m : (ℓ : Loc Cert.MemKvDwRefIdeal.nD Cert.MemKvDwRefIdeal.τ Cert.MemKvDwRefIdeal.sig) → Buf (Elt Ideal) ℓ) (g : Dev Cert.MemKvDwRefIdeal.nD → PrngReg), Pre_MemKvDwRefIdeal m →
    θ_run (Cert.MemKvDwRefIdeal.defs (F := Ideal)) (onTc (τ := Cert.MemKvDwRefIdeal.τ) (Cert.MemKvDwRefIdeal.main (F := Ideal))) ⟨m, fun _ => 0, g⟩ (fun r => (∀ c : Dev Cert.MemKvDwRefIdeal.nD,
      r.2.mem ((c.tc : Thread Cert.MemKvDwRefIdeal.nD Cert.MemKvDwRefIdeal.τ).loc Cert.MemKvDwRefIdeal.main_arg0) = m ((c.tc : Thread Cert.MemKvDwRefIdeal.nD Cert.MemKvDwRefIdeal.τ).loc Cert.MemKvDwRefIdeal.main_arg0)
      ∧ r.2.mem ((c.tc : Thread Cert.MemKvDwRefIdeal.nD Cert.MemKvDwRefIdeal.τ).loc Cert.MemKvDwRefIdeal.main_arg1) = m ((c.tc : Thread Cert.MemKvDwRefIdeal.nD Cert.MemKvDwRefIdeal.τ).loc Cert.MemKvDwRefIdeal.main_arg1))
      ∧ r.2.sem = fun _ => 0)

def quiescent_OutNorms [hOutNorms : Cert.OutNorms.Facts] : Prop :=
  ∀ (m : (ℓ : Loc Cert.OutNorms.nD Cert.OutNorms.τ Cert.OutNorms.sig) → Buf (Elt Bits) ℓ) (g : Dev Cert.OutNorms.nD → PrngReg), Pre_OutNorms m →
    θ_run (Cert.OutNorms.defs (F := Bits)) (onTc (τ := Cert.OutNorms.τ) (Cert.OutNorms.main (F := Bits))) ⟨m, fun _ => 0, g⟩ (fun r => (∀ c : Dev Cert.OutNorms.nD,
      r.2.mem ((c.tc : Thread Cert.OutNorms.nD Cert.OutNorms.τ).loc Cert.OutNorms.main_arg0) = m ((c.tc : Thread Cert.OutNorms.nD Cert.OutNorms.τ).loc Cert.OutNorms.main_arg0)
      ∧ r.2.mem ((c.tc : Thread Cert.OutNorms.nD Cert.OutNorms.τ).loc Cert.OutNorms.main_arg1) = m ((c.tc : Thread Cert.OutNorms.nD Cert.OutNorms.τ).loc Cert.OutNorms.main_arg1)
      ∧ r.2.mem ((c.tc : Thread Cert.OutNorms.nD Cert.OutNorms.τ).loc Cert.OutNorms.main_arg2) = m ((c.tc : Thread Cert.OutNorms.nD Cert.OutNorms.τ).loc Cert.OutNorms.main_arg2)
      ∧ r.2.mem ((c.tc : Thread Cert.OutNorms.nD Cert.OutNorms.τ).loc Cert.OutNorms.main_arg3) = m ((c.tc : Thread Cert.OutNorms.nD Cert.OutNorms.τ).loc Cert.OutNorms.main_arg3)
      ∧ r.2.mem ((c.tc : Thread Cert.OutNorms.nD Cert.OutNorms.τ).loc Cert.OutNorms.main_arg4) = m ((c.tc : Thread Cert.OutNorms.nD Cert.OutNorms.τ).loc Cert.OutNorms.main_arg4))
      ∧ r.2.sem = fun _ => 0)

def quiescent_OutNormsIdeal [hOutNormsIdeal : Cert.OutNormsIdeal.Facts] : Prop :=
  ∀ (m : (ℓ : Loc Cert.OutNormsIdeal.nD Cert.OutNormsIdeal.τ Cert.OutNormsIdeal.sig) → Buf (Elt Ideal) ℓ) (g : Dev Cert.OutNormsIdeal.nD → PrngReg), Pre_OutNormsIdeal m →
    θ_run (Cert.OutNormsIdeal.defs (F := Ideal)) (onTc (τ := Cert.OutNormsIdeal.τ) (Cert.OutNormsIdeal.main (F := Ideal))) ⟨m, fun _ => 0, g⟩ (fun r => (∀ c : Dev Cert.OutNormsIdeal.nD,
      r.2.mem ((c.tc : Thread Cert.OutNormsIdeal.nD Cert.OutNormsIdeal.τ).loc Cert.OutNormsIdeal.main_arg0) = m ((c.tc : Thread Cert.OutNormsIdeal.nD Cert.OutNormsIdeal.τ).loc Cert.OutNormsIdeal.main_arg0)
      ∧ r.2.mem ((c.tc : Thread Cert.OutNormsIdeal.nD Cert.OutNormsIdeal.τ).loc Cert.OutNormsIdeal.main_arg1) = m ((c.tc : Thread Cert.OutNormsIdeal.nD Cert.OutNormsIdeal.τ).loc Cert.OutNormsIdeal.main_arg1)
      ∧ r.2.mem ((c.tc : Thread Cert.OutNormsIdeal.nD Cert.OutNormsIdeal.τ).loc Cert.OutNormsIdeal.main_arg2) = m ((c.tc : Thread Cert.OutNormsIdeal.nD Cert.OutNormsIdeal.τ).loc Cert.OutNormsIdeal.main_arg2)
      ∧ r.2.mem ((c.tc : Thread Cert.OutNormsIdeal.nD Cert.OutNormsIdeal.τ).loc Cert.OutNormsIdeal.main_arg3) = m ((c.tc : Thread Cert.OutNormsIdeal.nD Cert.OutNormsIdeal.τ).loc Cert.OutNormsIdeal.main_arg3)
      ∧ r.2.mem ((c.tc : Thread Cert.OutNormsIdeal.nD Cert.OutNormsIdeal.τ).loc Cert.OutNormsIdeal.main_arg4) = m ((c.tc : Thread Cert.OutNormsIdeal.nD Cert.OutNormsIdeal.τ).loc Cert.OutNormsIdeal.main_arg4))
      ∧ r.2.sem = fun _ => 0)

def quiescent_OutNormsRefIdeal [hOutNormsRefIdeal : Cert.OutNormsRefIdeal.Facts] : Prop :=
  ∀ (m : (ℓ : Loc Cert.OutNormsRefIdeal.nD Cert.OutNormsRefIdeal.τ Cert.OutNormsRefIdeal.sig) → Buf (Elt Ideal) ℓ) (g : Dev Cert.OutNormsRefIdeal.nD → PrngReg), Pre_OutNormsRefIdeal m →
    θ_run (Cert.OutNormsRefIdeal.defs (F := Ideal)) (onTc (τ := Cert.OutNormsRefIdeal.τ) (Cert.OutNormsRefIdeal.main (F := Ideal))) ⟨m, fun _ => 0, g⟩ (fun r => (∀ c : Dev Cert.OutNormsRefIdeal.nD,
      r.2.mem ((c.tc : Thread Cert.OutNormsRefIdeal.nD Cert.OutNormsRefIdeal.τ).loc Cert.OutNormsRefIdeal.main_arg0) = m ((c.tc : Thread Cert.OutNormsRefIdeal.nD Cert.OutNormsRefIdeal.τ).loc Cert.OutNormsRefIdeal.main_arg0)
      ∧ r.2.mem ((c.tc : Thread Cert.OutNormsRefIdeal.nD Cert.OutNormsRefIdeal.τ).loc Cert.OutNormsRefIdeal.main_arg1) = m ((c.tc : Thread Cert.OutNormsRefIdeal.nD Cert.OutNormsRefIdeal.τ).loc Cert.OutNormsRefIdeal.main_arg1)
      ∧ r.2.mem ((c.tc : Thread Cert.OutNormsRefIdeal.nD Cert.OutNormsRefIdeal.τ).loc Cert.OutNormsRefIdeal.main_arg2) = m ((c.tc : Thread Cert.OutNormsRefIdeal.nD Cert.OutNormsRefIdeal.τ).loc Cert.OutNormsRefIdeal.main_arg2)
      ∧ r.2.mem ((c.tc : Thread Cert.OutNormsRefIdeal.nD Cert.OutNormsRefIdeal.τ).loc Cert.OutNormsRefIdeal.main_arg3) = m ((c.tc : Thread Cert.OutNormsRefIdeal.nD Cert.OutNormsRefIdeal.τ).loc Cert.OutNormsRefIdeal.main_arg3)
      ∧ r.2.mem ((c.tc : Thread Cert.OutNormsRefIdeal.nD Cert.OutNormsRefIdeal.τ).loc Cert.OutNormsRefIdeal.main_arg4) = m ((c.tc : Thread Cert.OutNormsRefIdeal.nD Cert.OutNormsRefIdeal.τ).loc Cert.OutNormsRefIdeal.main_arg4))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4)
      ∧ r.2.mem ((c.tc : Thread Cert.UpDx.nD Cert.UpDx.τ).loc Cert.UpDx.main_arg5) = m ((c.tc : Thread Cert.UpDx.nD Cert.UpDx.τ).loc Cert.UpDx.main_arg5)
      ∧ r.2.mem ((c.tc : Thread Cert.UpDx.nD Cert.UpDx.τ).loc Cert.UpDx.main_arg6) = m ((c.tc : Thread Cert.UpDx.nD Cert.UpDx.τ).loc Cert.UpDx.main_arg6))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4)
      ∧ r.2.mem ((c.tc : Thread Cert.UpDxIdeal.nD Cert.UpDxIdeal.τ).loc Cert.UpDxIdeal.main_arg5) = m ((c.tc : Thread Cert.UpDxIdeal.nD Cert.UpDxIdeal.τ).loc Cert.UpDxIdeal.main_arg5)
      ∧ r.2.mem ((c.tc : Thread Cert.UpDxIdeal.nD Cert.UpDxIdeal.τ).loc Cert.UpDxIdeal.main_arg6) = m ((c.tc : Thread Cert.UpDxIdeal.nD Cert.UpDxIdeal.τ).loc Cert.UpDxIdeal.main_arg6))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4)
      ∧ r.2.mem ((c.tc : Thread Cert.UpDxRefIdeal.nD Cert.UpDxRefIdeal.τ).loc Cert.UpDxRefIdeal.main_arg5) = m ((c.tc : Thread Cert.UpDxRefIdeal.nD Cert.UpDxRefIdeal.τ).loc Cert.UpDxRefIdeal.main_arg5)
      ∧ r.2.mem ((c.tc : Thread Cert.UpDxRefIdeal.nD Cert.UpDxRefIdeal.τ).loc Cert.UpDxRefIdeal.main_arg6) = m ((c.tc : Thread Cert.UpDxRefIdeal.nD Cert.UpDxRefIdeal.τ).loc Cert.UpDxRefIdeal.main_arg6))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_RmsQBwd [hRmsQBwd : Cert.RmsQBwd.Facts] : Prop :=
  ∀ (m : (ℓ : Loc Cert.RmsQBwd.nD Cert.RmsQBwd.τ Cert.RmsQBwd.sig) → Buf (Elt Bits) ℓ) (g : Dev Cert.RmsQBwd.nD → PrngReg), Pre_RmsQBwd m →
    θ_run (Cert.RmsQBwd.defs (F := Bits)) (onTc (τ := Cert.RmsQBwd.τ) (Cert.RmsQBwd.main (F := Bits))) ⟨m, fun _ => 0, g⟩ (fun r => (∀ c : Dev Cert.RmsQBwd.nD,
      r.2.mem ((c.tc : Thread Cert.RmsQBwd.nD Cert.RmsQBwd.τ).loc Cert.RmsQBwd.main_arg0) = m ((c.tc : Thread Cert.RmsQBwd.nD Cert.RmsQBwd.τ).loc Cert.RmsQBwd.main_arg0)
      ∧ r.2.mem ((c.tc : Thread Cert.RmsQBwd.nD Cert.RmsQBwd.τ).loc Cert.RmsQBwd.main_arg1) = m ((c.tc : Thread Cert.RmsQBwd.nD Cert.RmsQBwd.τ).loc Cert.RmsQBwd.main_arg1)
      ∧ r.2.mem ((c.tc : Thread Cert.RmsQBwd.nD Cert.RmsQBwd.τ).loc Cert.RmsQBwd.main_arg2) = m ((c.tc : Thread Cert.RmsQBwd.nD Cert.RmsQBwd.τ).loc Cert.RmsQBwd.main_arg2))
      ∧ r.2.sem = fun _ => 0)

def quiescent_RmsQBwdIdeal [hRmsQBwdIdeal : Cert.RmsQBwdIdeal.Facts] : Prop :=
  ∀ (m : (ℓ : Loc Cert.RmsQBwdIdeal.nD Cert.RmsQBwdIdeal.τ Cert.RmsQBwdIdeal.sig) → Buf (Elt Ideal) ℓ) (g : Dev Cert.RmsQBwdIdeal.nD → PrngReg), Pre_RmsQBwdIdeal m →
    θ_run (Cert.RmsQBwdIdeal.defs (F := Ideal)) (onTc (τ := Cert.RmsQBwdIdeal.τ) (Cert.RmsQBwdIdeal.main (F := Ideal))) ⟨m, fun _ => 0, g⟩ (fun r => (∀ c : Dev Cert.RmsQBwdIdeal.nD,
      r.2.mem ((c.tc : Thread Cert.RmsQBwdIdeal.nD Cert.RmsQBwdIdeal.τ).loc Cert.RmsQBwdIdeal.main_arg0) = m ((c.tc : Thread Cert.RmsQBwdIdeal.nD Cert.RmsQBwdIdeal.τ).loc Cert.RmsQBwdIdeal.main_arg0)
      ∧ r.2.mem ((c.tc : Thread Cert.RmsQBwdIdeal.nD Cert.RmsQBwdIdeal.τ).loc Cert.RmsQBwdIdeal.main_arg1) = m ((c.tc : Thread Cert.RmsQBwdIdeal.nD Cert.RmsQBwdIdeal.τ).loc Cert.RmsQBwdIdeal.main_arg1)
      ∧ r.2.mem ((c.tc : Thread Cert.RmsQBwdIdeal.nD Cert.RmsQBwdIdeal.τ).loc Cert.RmsQBwdIdeal.main_arg2) = m ((c.tc : Thread Cert.RmsQBwdIdeal.nD Cert.RmsQBwdIdeal.τ).loc Cert.RmsQBwdIdeal.main_arg2))
      ∧ r.2.sem = fun _ => 0)

def quiescent_RmsQBwdRefIdeal [hRmsQBwdRefIdeal : Cert.RmsQBwdRefIdeal.Facts] : Prop :=
  ∀ (m : (ℓ : Loc Cert.RmsQBwdRefIdeal.nD Cert.RmsQBwdRefIdeal.τ Cert.RmsQBwdRefIdeal.sig) → Buf (Elt Ideal) ℓ) (g : Dev Cert.RmsQBwdRefIdeal.nD → PrngReg), Pre_RmsQBwdRefIdeal m →
    θ_run (Cert.RmsQBwdRefIdeal.defs (F := Ideal)) (onTc (τ := Cert.RmsQBwdRefIdeal.τ) (Cert.RmsQBwdRefIdeal.main (F := Ideal))) ⟨m, fun _ => 0, g⟩ (fun r => (∀ c : Dev Cert.RmsQBwdRefIdeal.nD,
      r.2.mem ((c.tc : Thread Cert.RmsQBwdRefIdeal.nD Cert.RmsQBwdRefIdeal.τ).loc Cert.RmsQBwdRefIdeal.main_arg0) = m ((c.tc : Thread Cert.RmsQBwdRefIdeal.nD Cert.RmsQBwdRefIdeal.τ).loc Cert.RmsQBwdRefIdeal.main_arg0)
      ∧ r.2.mem ((c.tc : Thread Cert.RmsQBwdRefIdeal.nD Cert.RmsQBwdRefIdeal.τ).loc Cert.RmsQBwdRefIdeal.main_arg1) = m ((c.tc : Thread Cert.RmsQBwdRefIdeal.nD Cert.RmsQBwdRefIdeal.τ).loc Cert.RmsQBwdRefIdeal.main_arg1)
      ∧ r.2.mem ((c.tc : Thread Cert.RmsQBwdRefIdeal.nD Cert.RmsQBwdRefIdeal.τ).loc Cert.RmsQBwdRefIdeal.main_arg2) = m ((c.tc : Thread Cert.RmsQBwdRefIdeal.nD Cert.RmsQBwdRefIdeal.τ).loc Cert.RmsQBwdRefIdeal.main_arg2))
      ∧ r.2.sem = fun _ => 0)

def quiescent_RmsKvBwd [hRmsKvBwd : Cert.RmsKvBwd.Facts] : Prop :=
  ∀ (m : (ℓ : Loc Cert.RmsKvBwd.nD Cert.RmsKvBwd.τ Cert.RmsKvBwd.sig) → Buf (Elt Bits) ℓ) (g : Dev Cert.RmsKvBwd.nD → PrngReg), Pre_RmsKvBwd m →
    θ_run (Cert.RmsKvBwd.defs (F := Bits)) (onTc (τ := Cert.RmsKvBwd.τ) (Cert.RmsKvBwd.main (F := Bits))) ⟨m, fun _ => 0, g⟩ (fun r => (∀ c : Dev Cert.RmsKvBwd.nD,
      r.2.mem ((c.tc : Thread Cert.RmsKvBwd.nD Cert.RmsKvBwd.τ).loc Cert.RmsKvBwd.main_arg0) = m ((c.tc : Thread Cert.RmsKvBwd.nD Cert.RmsKvBwd.τ).loc Cert.RmsKvBwd.main_arg0)
      ∧ r.2.mem ((c.tc : Thread Cert.RmsKvBwd.nD Cert.RmsKvBwd.τ).loc Cert.RmsKvBwd.main_arg1) = m ((c.tc : Thread Cert.RmsKvBwd.nD Cert.RmsKvBwd.τ).loc Cert.RmsKvBwd.main_arg1)
      ∧ r.2.mem ((c.tc : Thread Cert.RmsKvBwd.nD Cert.RmsKvBwd.τ).loc Cert.RmsKvBwd.main_arg2) = m ((c.tc : Thread Cert.RmsKvBwd.nD Cert.RmsKvBwd.τ).loc Cert.RmsKvBwd.main_arg2))
      ∧ r.2.sem = fun _ => 0)

def quiescent_RmsKvBwdIdeal [hRmsKvBwdIdeal : Cert.RmsKvBwdIdeal.Facts] : Prop :=
  ∀ (m : (ℓ : Loc Cert.RmsKvBwdIdeal.nD Cert.RmsKvBwdIdeal.τ Cert.RmsKvBwdIdeal.sig) → Buf (Elt Ideal) ℓ) (g : Dev Cert.RmsKvBwdIdeal.nD → PrngReg), Pre_RmsKvBwdIdeal m →
    θ_run (Cert.RmsKvBwdIdeal.defs (F := Ideal)) (onTc (τ := Cert.RmsKvBwdIdeal.τ) (Cert.RmsKvBwdIdeal.main (F := Ideal))) ⟨m, fun _ => 0, g⟩ (fun r => (∀ c : Dev Cert.RmsKvBwdIdeal.nD,
      r.2.mem ((c.tc : Thread Cert.RmsKvBwdIdeal.nD Cert.RmsKvBwdIdeal.τ).loc Cert.RmsKvBwdIdeal.main_arg0) = m ((c.tc : Thread Cert.RmsKvBwdIdeal.nD Cert.RmsKvBwdIdeal.τ).loc Cert.RmsKvBwdIdeal.main_arg0)
      ∧ r.2.mem ((c.tc : Thread Cert.RmsKvBwdIdeal.nD Cert.RmsKvBwdIdeal.τ).loc Cert.RmsKvBwdIdeal.main_arg1) = m ((c.tc : Thread Cert.RmsKvBwdIdeal.nD Cert.RmsKvBwdIdeal.τ).loc Cert.RmsKvBwdIdeal.main_arg1)
      ∧ r.2.mem ((c.tc : Thread Cert.RmsKvBwdIdeal.nD Cert.RmsKvBwdIdeal.τ).loc Cert.RmsKvBwdIdeal.main_arg2) = m ((c.tc : Thread Cert.RmsKvBwdIdeal.nD Cert.RmsKvBwdIdeal.τ).loc Cert.RmsKvBwdIdeal.main_arg2))
      ∧ r.2.sem = fun _ => 0)

def quiescent_RmsKvBwdRefIdeal [hRmsKvBwdRefIdeal : Cert.RmsKvBwdRefIdeal.Facts] : Prop :=
  ∀ (m : (ℓ : Loc Cert.RmsKvBwdRefIdeal.nD Cert.RmsKvBwdRefIdeal.τ Cert.RmsKvBwdRefIdeal.sig) → Buf (Elt Ideal) ℓ) (g : Dev Cert.RmsKvBwdRefIdeal.nD → PrngReg), Pre_RmsKvBwdRefIdeal m →
    θ_run (Cert.RmsKvBwdRefIdeal.defs (F := Ideal)) (onTc (τ := Cert.RmsKvBwdRefIdeal.τ) (Cert.RmsKvBwdRefIdeal.main (F := Ideal))) ⟨m, fun _ => 0, g⟩ (fun r => (∀ c : Dev Cert.RmsKvBwdRefIdeal.nD,
      r.2.mem ((c.tc : Thread Cert.RmsKvBwdRefIdeal.nD Cert.RmsKvBwdRefIdeal.τ).loc Cert.RmsKvBwdRefIdeal.main_arg0) = m ((c.tc : Thread Cert.RmsKvBwdRefIdeal.nD Cert.RmsKvBwdRefIdeal.τ).loc Cert.RmsKvBwdRefIdeal.main_arg0)
      ∧ r.2.mem ((c.tc : Thread Cert.RmsKvBwdRefIdeal.nD Cert.RmsKvBwdRefIdeal.τ).loc Cert.RmsKvBwdRefIdeal.main_arg1) = m ((c.tc : Thread Cert.RmsKvBwdRefIdeal.nD Cert.RmsKvBwdRefIdeal.τ).loc Cert.RmsKvBwdRefIdeal.main_arg1)
      ∧ r.2.mem ((c.tc : Thread Cert.RmsKvBwdRefIdeal.nD Cert.RmsKvBwdRefIdeal.τ).loc Cert.RmsKvBwdRefIdeal.main_arg2) = m ((c.tc : Thread Cert.RmsKvBwdRefIdeal.nD Cert.RmsKvBwdRefIdeal.τ).loc Cert.RmsKvBwdRefIdeal.main_arg2))
      ∧ r.2.sem = fun _ => 0)

def quiescent_RmsMemBwd [hRmsMemBwd : Cert.RmsMemBwd.Facts] : Prop :=
  ∀ (m : (ℓ : Loc Cert.RmsMemBwd.nD Cert.RmsMemBwd.τ Cert.RmsMemBwd.sig) → Buf (Elt Bits) ℓ) (g : Dev Cert.RmsMemBwd.nD → PrngReg), Pre_RmsMemBwd m →
    θ_run (Cert.RmsMemBwd.defs (F := Bits)) (onTc (τ := Cert.RmsMemBwd.τ) (Cert.RmsMemBwd.main (F := Bits))) ⟨m, fun _ => 0, g⟩ (fun r => (∀ c : Dev Cert.RmsMemBwd.nD,
      r.2.mem ((c.tc : Thread Cert.RmsMemBwd.nD Cert.RmsMemBwd.τ).loc Cert.RmsMemBwd.main_arg0) = m ((c.tc : Thread Cert.RmsMemBwd.nD Cert.RmsMemBwd.τ).loc Cert.RmsMemBwd.main_arg0)
      ∧ r.2.mem ((c.tc : Thread Cert.RmsMemBwd.nD Cert.RmsMemBwd.τ).loc Cert.RmsMemBwd.main_arg1) = m ((c.tc : Thread Cert.RmsMemBwd.nD Cert.RmsMemBwd.τ).loc Cert.RmsMemBwd.main_arg1)
      ∧ r.2.mem ((c.tc : Thread Cert.RmsMemBwd.nD Cert.RmsMemBwd.τ).loc Cert.RmsMemBwd.main_arg2) = m ((c.tc : Thread Cert.RmsMemBwd.nD Cert.RmsMemBwd.τ).loc Cert.RmsMemBwd.main_arg2))
      ∧ r.2.sem = fun _ => 0)

def quiescent_RmsMemBwdIdeal [hRmsMemBwdIdeal : Cert.RmsMemBwdIdeal.Facts] : Prop :=
  ∀ (m : (ℓ : Loc Cert.RmsMemBwdIdeal.nD Cert.RmsMemBwdIdeal.τ Cert.RmsMemBwdIdeal.sig) → Buf (Elt Ideal) ℓ) (g : Dev Cert.RmsMemBwdIdeal.nD → PrngReg), Pre_RmsMemBwdIdeal m →
    θ_run (Cert.RmsMemBwdIdeal.defs (F := Ideal)) (onTc (τ := Cert.RmsMemBwdIdeal.τ) (Cert.RmsMemBwdIdeal.main (F := Ideal))) ⟨m, fun _ => 0, g⟩ (fun r => (∀ c : Dev Cert.RmsMemBwdIdeal.nD,
      r.2.mem ((c.tc : Thread Cert.RmsMemBwdIdeal.nD Cert.RmsMemBwdIdeal.τ).loc Cert.RmsMemBwdIdeal.main_arg0) = m ((c.tc : Thread Cert.RmsMemBwdIdeal.nD Cert.RmsMemBwdIdeal.τ).loc Cert.RmsMemBwdIdeal.main_arg0)
      ∧ r.2.mem ((c.tc : Thread Cert.RmsMemBwdIdeal.nD Cert.RmsMemBwdIdeal.τ).loc Cert.RmsMemBwdIdeal.main_arg1) = m ((c.tc : Thread Cert.RmsMemBwdIdeal.nD Cert.RmsMemBwdIdeal.τ).loc Cert.RmsMemBwdIdeal.main_arg1)
      ∧ r.2.mem ((c.tc : Thread Cert.RmsMemBwdIdeal.nD Cert.RmsMemBwdIdeal.τ).loc Cert.RmsMemBwdIdeal.main_arg2) = m ((c.tc : Thread Cert.RmsMemBwdIdeal.nD Cert.RmsMemBwdIdeal.τ).loc Cert.RmsMemBwdIdeal.main_arg2))
      ∧ r.2.sem = fun _ => 0)

def quiescent_RmsMemBwdRefIdeal [hRmsMemBwdRefIdeal : Cert.RmsMemBwdRefIdeal.Facts] : Prop :=
  ∀ (m : (ℓ : Loc Cert.RmsMemBwdRefIdeal.nD Cert.RmsMemBwdRefIdeal.τ Cert.RmsMemBwdRefIdeal.sig) → Buf (Elt Ideal) ℓ) (g : Dev Cert.RmsMemBwdRefIdeal.nD → PrngReg), Pre_RmsMemBwdRefIdeal m →
    θ_run (Cert.RmsMemBwdRefIdeal.defs (F := Ideal)) (onTc (τ := Cert.RmsMemBwdRefIdeal.τ) (Cert.RmsMemBwdRefIdeal.main (F := Ideal))) ⟨m, fun _ => 0, g⟩ (fun r => (∀ c : Dev Cert.RmsMemBwdRefIdeal.nD,
      r.2.mem ((c.tc : Thread Cert.RmsMemBwdRefIdeal.nD Cert.RmsMemBwdRefIdeal.τ).loc Cert.RmsMemBwdRefIdeal.main_arg0) = m ((c.tc : Thread Cert.RmsMemBwdRefIdeal.nD Cert.RmsMemBwdRefIdeal.τ).loc Cert.RmsMemBwdRefIdeal.main_arg0)
      ∧ r.2.mem ((c.tc : Thread Cert.RmsMemBwdRefIdeal.nD Cert.RmsMemBwdRefIdeal.τ).loc Cert.RmsMemBwdRefIdeal.main_arg1) = m ((c.tc : Thread Cert.RmsMemBwdRefIdeal.nD Cert.RmsMemBwdRefIdeal.τ).loc Cert.RmsMemBwdRefIdeal.main_arg1)
      ∧ r.2.mem ((c.tc : Thread Cert.RmsMemBwdRefIdeal.nD Cert.RmsMemBwdRefIdeal.τ).loc Cert.RmsMemBwdRefIdeal.main_arg2) = m ((c.tc : Thread Cert.RmsMemBwdRefIdeal.nD Cert.RmsMemBwdRefIdeal.τ).loc Cert.RmsMemBwdRefIdeal.main_arg2))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4)
      ∧ r.2.mem ((c.tc : Thread Cert.GateBwd.nD Cert.GateBwd.τ).loc Cert.GateBwd.main_arg5) = m ((c.tc : Thread Cert.GateBwd.nD Cert.GateBwd.τ).loc Cert.GateBwd.main_arg5))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4)
      ∧ r.2.mem ((c.tc : Thread Cert.GateBwdRefIdeal.nD Cert.GateBwdRefIdeal.τ).loc Cert.GateBwdRefIdeal.main_arg5) = m ((c.tc : Thread Cert.GateBwdRefIdeal.nD Cert.GateBwdRefIdeal.τ).loc Cert.GateBwdRefIdeal.main_arg5))
      ∧ r.2.sem = fun _ => 0)

def quiescent_RmsMix [hRmsMix : Cert.RmsMix.Facts] : Prop :=
  ∀ (m : (ℓ : Loc Cert.RmsMix.nD Cert.RmsMix.τ Cert.RmsMix.sig) → Buf (Elt Bits) ℓ) (g : Dev Cert.RmsMix.nD → PrngReg), Pre_RmsMix m →
    θ_run (Cert.RmsMix.defs (F := Bits)) (onTc (τ := Cert.RmsMix.τ) (Cert.RmsMix.main (F := Bits))) ⟨m, fun _ => 0, g⟩ (fun r => (∀ c : Dev Cert.RmsMix.nD,
      r.2.mem ((c.tc : Thread Cert.RmsMix.nD Cert.RmsMix.τ).loc Cert.RmsMix.main_arg0) = m ((c.tc : Thread Cert.RmsMix.nD Cert.RmsMix.τ).loc Cert.RmsMix.main_arg0)
      ∧ r.2.mem ((c.tc : Thread Cert.RmsMix.nD Cert.RmsMix.τ).loc Cert.RmsMix.main_arg1) = m ((c.tc : Thread Cert.RmsMix.nD Cert.RmsMix.τ).loc Cert.RmsMix.main_arg1))
      ∧ r.2.sem = fun _ => 0)

def quiescent_RmsMixIdeal [hRmsMixIdeal : Cert.RmsMixIdeal.Facts] : Prop :=
  ∀ (m : (ℓ : Loc Cert.RmsMixIdeal.nD Cert.RmsMixIdeal.τ Cert.RmsMixIdeal.sig) → Buf (Elt Ideal) ℓ) (g : Dev Cert.RmsMixIdeal.nD → PrngReg), Pre_RmsMixIdeal m →
    θ_run (Cert.RmsMixIdeal.defs (F := Ideal)) (onTc (τ := Cert.RmsMixIdeal.τ) (Cert.RmsMixIdeal.main (F := Ideal))) ⟨m, fun _ => 0, g⟩ (fun r => (∀ c : Dev Cert.RmsMixIdeal.nD,
      r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
      ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1))
      ∧ r.2.sem = fun _ => 0)

def quiescent_RmsMixRefIdeal [hRmsMixRefIdeal : Cert.RmsMixRefIdeal.Facts] : Prop :=
  ∀ (m : (ℓ : Loc Cert.RmsMixRefIdeal.nD Cert.RmsMixRefIdeal.τ Cert.RmsMixRefIdeal.sig) → Buf (Elt Ideal) ℓ) (g : Dev Cert.RmsMixRefIdeal.nD → PrngReg), Pre_RmsMixRefIdeal m →
    θ_run (Cert.RmsMixRefIdeal.defs (F := Ideal)) (onTc (τ := Cert.RmsMixRefIdeal.τ) (Cert.RmsMixRefIdeal.main (F := Ideal))) ⟨m, fun _ => 0, g⟩ (fun r => (∀ c : Dev Cert.RmsMixRefIdeal.nD,
      r.2.mem ((c.tc : Thread Cert.RmsMixRefIdeal.nD Cert.RmsMixRefIdeal.τ).loc Cert.RmsMixRefIdeal.main_arg0) = m ((c.tc : Thread Cert.RmsMixRefIdeal.nD Cert.RmsMixRefIdeal.τ).loc Cert.RmsMixRefIdeal.main_arg0)
      ∧ r.2.mem ((c.tc : Thread Cert.RmsMixRefIdeal.nD Cert.RmsMixRefIdeal.τ).loc Cert.RmsMixRefIdeal.main_arg1) = m ((c.tc : Thread Cert.RmsMixRefIdeal.nD Cert.RmsMixRefIdeal.τ).loc Cert.RmsMixRefIdeal.main_arg1))
      ∧ r.2.sem = fun _ => 0)

def quiescent_RmsQ [hRmsQ : Cert.RmsQ.Facts] : Prop :=
  ∀ (m : (ℓ : Loc Cert.RmsQ.nD Cert.RmsQ.τ Cert.RmsQ.sig) → Buf (Elt Bits) ℓ) (g : Dev Cert.RmsQ.nD → PrngReg), Pre_RmsQ m →
    θ_run (Cert.RmsQ.defs (F := Bits)) (onTc (τ := Cert.RmsQ.τ) (Cert.RmsQ.main (F := Bits))) ⟨m, fun _ => 0, g⟩ (fun r => (∀ c : Dev Cert.RmsQ.nD,
      r.2.mem ((c.tc : Thread Cert.RmsQ.nD Cert.RmsQ.τ).loc Cert.RmsQ.main_arg0) = m ((c.tc : Thread Cert.RmsQ.nD Cert.RmsQ.τ).loc Cert.RmsQ.main_arg0)
      ∧ r.2.mem ((c.tc : Thread Cert.RmsQ.nD Cert.RmsQ.τ).loc Cert.RmsQ.main_arg1) = m ((c.tc : Thread Cert.RmsQ.nD Cert.RmsQ.τ).loc Cert.RmsQ.main_arg1))
      ∧ r.2.sem = fun _ => 0)

def quiescent_RmsQIdeal [hRmsQIdeal : Cert.RmsQIdeal.Facts] : Prop :=
  ∀ (m : (ℓ : Loc Cert.RmsQIdeal.nD Cert.RmsQIdeal.τ Cert.RmsQIdeal.sig) → Buf (Elt Ideal) ℓ) (g : Dev Cert.RmsQIdeal.nD → PrngReg), Pre_RmsQIdeal m →
    θ_run (Cert.RmsQIdeal.defs (F := Ideal)) (onTc (τ := Cert.RmsQIdeal.τ) (Cert.RmsQIdeal.main (F := Ideal))) ⟨m, fun _ => 0, g⟩ (fun r => (∀ c : Dev Cert.RmsQIdeal.nD,
      r.2.mem ((c.tc : Thread Cert.RmsQIdeal.nD Cert.RmsQIdeal.τ).loc Cert.RmsQIdeal.main_arg0) = m ((c.tc : Thread Cert.RmsQIdeal.nD Cert.RmsQIdeal.τ).loc Cert.RmsQIdeal.main_arg0)
      ∧ r.2.mem ((c.tc : Thread Cert.RmsQIdeal.nD Cert.RmsQIdeal.τ).loc Cert.RmsQIdeal.main_arg1) = m ((c.tc : Thread Cert.RmsQIdeal.nD Cert.RmsQIdeal.τ).loc Cert.RmsQIdeal.main_arg1))
      ∧ r.2.sem = fun _ => 0)

def quiescent_RmsQRefIdeal [hRmsQRefIdeal : Cert.RmsQRefIdeal.Facts] : Prop :=
  ∀ (m : (ℓ : Loc Cert.RmsQRefIdeal.nD Cert.RmsQRefIdeal.τ Cert.RmsQRefIdeal.sig) → Buf (Elt Ideal) ℓ) (g : Dev Cert.RmsQRefIdeal.nD → PrngReg), Pre_RmsQRefIdeal m →
    θ_run (Cert.RmsQRefIdeal.defs (F := Ideal)) (onTc (τ := Cert.RmsQRefIdeal.τ) (Cert.RmsQRefIdeal.main (F := Ideal))) ⟨m, fun _ => 0, g⟩ (fun r => (∀ c : Dev Cert.RmsQRefIdeal.nD,
      r.2.mem ((c.tc : Thread Cert.RmsQRefIdeal.nD Cert.RmsQRefIdeal.τ).loc Cert.RmsQRefIdeal.main_arg0) = m ((c.tc : Thread Cert.RmsQRefIdeal.nD Cert.RmsQRefIdeal.τ).loc Cert.RmsQRefIdeal.main_arg0)
      ∧ r.2.mem ((c.tc : Thread Cert.RmsQRefIdeal.nD Cert.RmsQRefIdeal.τ).loc Cert.RmsQRefIdeal.main_arg1) = m ((c.tc : Thread Cert.RmsQRefIdeal.nD Cert.RmsQRefIdeal.τ).loc Cert.RmsQRefIdeal.main_arg1))
      ∧ r.2.sem = fun _ => 0)

def quiescent_RmsKv [hRmsKv : Cert.RmsKv.Facts] : Prop :=
  ∀ (m : (ℓ : Loc Cert.RmsKv.nD Cert.RmsKv.τ Cert.RmsKv.sig) → Buf (Elt Bits) ℓ) (g : Dev Cert.RmsKv.nD → PrngReg), Pre_RmsKv m →
    θ_run (Cert.RmsKv.defs (F := Bits)) (onTc (τ := Cert.RmsKv.τ) (Cert.RmsKv.main (F := Bits))) ⟨m, fun _ => 0, g⟩ (fun r => (∀ c : Dev Cert.RmsKv.nD,
      r.2.mem ((c.tc : Thread Cert.RmsKv.nD Cert.RmsKv.τ).loc Cert.RmsKv.main_arg0) = m ((c.tc : Thread Cert.RmsKv.nD Cert.RmsKv.τ).loc Cert.RmsKv.main_arg0)
      ∧ r.2.mem ((c.tc : Thread Cert.RmsKv.nD Cert.RmsKv.τ).loc Cert.RmsKv.main_arg1) = m ((c.tc : Thread Cert.RmsKv.nD Cert.RmsKv.τ).loc Cert.RmsKv.main_arg1))
      ∧ r.2.sem = fun _ => 0)

def quiescent_RmsKvIdeal [hRmsKvIdeal : Cert.RmsKvIdeal.Facts] : Prop :=
  ∀ (m : (ℓ : Loc Cert.RmsKvIdeal.nD Cert.RmsKvIdeal.τ Cert.RmsKvIdeal.sig) → Buf (Elt Ideal) ℓ) (g : Dev Cert.RmsKvIdeal.nD → PrngReg), Pre_RmsKvIdeal m →
    θ_run (Cert.RmsKvIdeal.defs (F := Ideal)) (onTc (τ := Cert.RmsKvIdeal.τ) (Cert.RmsKvIdeal.main (F := Ideal))) ⟨m, fun _ => 0, g⟩ (fun r => (∀ c : Dev Cert.RmsKvIdeal.nD,
      r.2.mem ((c.tc : Thread Cert.RmsKvIdeal.nD Cert.RmsKvIdeal.τ).loc Cert.RmsKvIdeal.main_arg0) = m ((c.tc : Thread Cert.RmsKvIdeal.nD Cert.RmsKvIdeal.τ).loc Cert.RmsKvIdeal.main_arg0)
      ∧ r.2.mem ((c.tc : Thread Cert.RmsKvIdeal.nD Cert.RmsKvIdeal.τ).loc Cert.RmsKvIdeal.main_arg1) = m ((c.tc : Thread Cert.RmsKvIdeal.nD Cert.RmsKvIdeal.τ).loc Cert.RmsKvIdeal.main_arg1))
      ∧ r.2.sem = fun _ => 0)

def quiescent_RmsKvRefIdeal [hRmsKvRefIdeal : Cert.RmsKvRefIdeal.Facts] : Prop :=
  ∀ (m : (ℓ : Loc Cert.RmsKvRefIdeal.nD Cert.RmsKvRefIdeal.τ Cert.RmsKvRefIdeal.sig) → Buf (Elt Ideal) ℓ) (g : Dev Cert.RmsKvRefIdeal.nD → PrngReg), Pre_RmsKvRefIdeal m →
    θ_run (Cert.RmsKvRefIdeal.defs (F := Ideal)) (onTc (τ := Cert.RmsKvRefIdeal.τ) (Cert.RmsKvRefIdeal.main (F := Ideal))) ⟨m, fun _ => 0, g⟩ (fun r => (∀ c : Dev Cert.RmsKvRefIdeal.nD,
      r.2.mem ((c.tc : Thread Cert.RmsKvRefIdeal.nD Cert.RmsKvRefIdeal.τ).loc Cert.RmsKvRefIdeal.main_arg0) = m ((c.tc : Thread Cert.RmsKvRefIdeal.nD Cert.RmsKvRefIdeal.τ).loc Cert.RmsKvRefIdeal.main_arg0)
      ∧ r.2.mem ((c.tc : Thread Cert.RmsKvRefIdeal.nD Cert.RmsKvRefIdeal.τ).loc Cert.RmsKvRefIdeal.main_arg1) = m ((c.tc : Thread Cert.RmsKvRefIdeal.nD Cert.RmsKvRefIdeal.τ).loc Cert.RmsKvRefIdeal.main_arg1))
      ∧ r.2.sem = fun _ => 0)

def quiescent_RmsMem [hRmsMem : Cert.RmsMem.Facts] : Prop :=
  ∀ (m : (ℓ : Loc Cert.RmsMem.nD Cert.RmsMem.τ Cert.RmsMem.sig) → Buf (Elt Bits) ℓ) (g : Dev Cert.RmsMem.nD → PrngReg), Pre_RmsMem m →
    θ_run (Cert.RmsMem.defs (F := Bits)) (onTc (τ := Cert.RmsMem.τ) (Cert.RmsMem.main (F := Bits))) ⟨m, fun _ => 0, g⟩ (fun r => (∀ c : Dev Cert.RmsMem.nD,
      r.2.mem ((c.tc : Thread Cert.RmsMem.nD Cert.RmsMem.τ).loc Cert.RmsMem.main_arg0) = m ((c.tc : Thread Cert.RmsMem.nD Cert.RmsMem.τ).loc Cert.RmsMem.main_arg0)
      ∧ r.2.mem ((c.tc : Thread Cert.RmsMem.nD Cert.RmsMem.τ).loc Cert.RmsMem.main_arg1) = m ((c.tc : Thread Cert.RmsMem.nD Cert.RmsMem.τ).loc Cert.RmsMem.main_arg1))
      ∧ r.2.sem = fun _ => 0)

def quiescent_RmsMemIdeal [hRmsMemIdeal : Cert.RmsMemIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg), Pre_RmsMemIdeal m →
    θ_run (Cert.RmsMemIdeal.defs (F := Ideal)) (onTc (τ := Cert.RmsMemIdeal.τ) (Cert.RmsMemIdeal.main (F := Ideal))) ⟨m, fun _ => 0, g⟩ (fun r => (∀ c : Dev Cert.RmsMemIdeal.nD,
      r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
      ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1))
      ∧ r.2.sem = fun _ => 0)

def quiescent_RmsMemRefIdeal [hRmsMemRefIdeal : Cert.RmsMemRefIdeal.Facts] : Prop :=
  ∀ (m : (ℓ : Loc Cert.RmsMemRefIdeal.nD Cert.RmsMemRefIdeal.τ Cert.RmsMemRefIdeal.sig) → Buf (Elt Ideal) ℓ) (g : Dev Cert.RmsMemRefIdeal.nD → PrngReg), Pre_RmsMemRefIdeal m →
    θ_run (Cert.RmsMemRefIdeal.defs (F := Ideal)) (onTc (τ := Cert.RmsMemRefIdeal.τ) (Cert.RmsMemRefIdeal.main (F := Ideal))) ⟨m, fun _ => 0, g⟩ (fun r => (∀ c : Dev Cert.RmsMemRefIdeal.nD,
      r.2.mem ((c.tc : Thread Cert.RmsMemRefIdeal.nD Cert.RmsMemRefIdeal.τ).loc Cert.RmsMemRefIdeal.main_arg0) = m ((c.tc : Thread Cert.RmsMemRefIdeal.nD Cert.RmsMemRefIdeal.τ).loc Cert.RmsMemRefIdeal.main_arg0)
      ∧ r.2.mem ((c.tc : Thread Cert.RmsMemRefIdeal.nD Cert.RmsMemRefIdeal.τ).loc Cert.RmsMemRefIdeal.main_arg1) = m ((c.tc : Thread Cert.RmsMemRefIdeal.nD Cert.RmsMemRefIdeal.τ).loc Cert.RmsMemRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4))
      ∧ r.2.sem = fun _ => 0)

def quiescent_RopeBwd [hRopeBwd : Cert.RopeBwd.Facts] : Prop :=
  ∀ (m : (ℓ : Loc Cert.RopeBwd.nD Cert.RopeBwd.τ Cert.RopeBwd.sig) → Buf (Elt Bits) ℓ) (g : Dev Cert.RopeBwd.nD → PrngReg), Pre_RopeBwd m →
    θ_run (Cert.RopeBwd.defs (F := Bits)) (onTc (τ := Cert.RopeBwd.τ) (Cert.RopeBwd.main (F := Bits))) ⟨m, fun _ => 0, g⟩ (fun r => (∀ c : Dev Cert.RopeBwd.nD,
      r.2.mem ((c.tc : Thread Cert.RopeBwd.nD Cert.RopeBwd.τ).loc Cert.RopeBwd.main_arg0) = m ((c.tc : Thread Cert.RopeBwd.nD Cert.RopeBwd.τ).loc Cert.RopeBwd.main_arg0)
      ∧ r.2.mem ((c.tc : Thread Cert.RopeBwd.nD Cert.RopeBwd.τ).loc Cert.RopeBwd.main_arg1) = m ((c.tc : Thread Cert.RopeBwd.nD Cert.RopeBwd.τ).loc Cert.RopeBwd.main_arg1)
      ∧ r.2.mem ((c.tc : Thread Cert.RopeBwd.nD Cert.RopeBwd.τ).loc Cert.RopeBwd.main_arg2) = m ((c.tc : Thread Cert.RopeBwd.nD Cert.RopeBwd.τ).loc Cert.RopeBwd.main_arg2)
      ∧ r.2.mem ((c.tc : Thread Cert.RopeBwd.nD Cert.RopeBwd.τ).loc Cert.RopeBwd.main_arg3) = m ((c.tc : Thread Cert.RopeBwd.nD Cert.RopeBwd.τ).loc Cert.RopeBwd.main_arg3))
      ∧ r.2.sem = fun _ => 0)

def quiescent_RopeBwdIdeal [hRopeBwdIdeal : Cert.RopeBwdIdeal.Facts] : Prop :=
  ∀ (m : (ℓ : Loc Cert.RopeBwdIdeal.nD Cert.RopeBwdIdeal.τ Cert.RopeBwdIdeal.sig) → Buf (Elt Ideal) ℓ) (g : Dev Cert.RopeBwdIdeal.nD → PrngReg), Pre_RopeBwdIdeal m →
    θ_run (Cert.RopeBwdIdeal.defs (F := Ideal)) (onTc (τ := Cert.RopeBwdIdeal.τ) (Cert.RopeBwdIdeal.main (F := Ideal))) ⟨m, fun _ => 0, g⟩ (fun r => (∀ c : Dev Cert.RopeBwdIdeal.nD,
      r.2.mem ((c.tc : Thread Cert.RopeBwdIdeal.nD Cert.RopeBwdIdeal.τ).loc Cert.RopeBwdIdeal.main_arg0) = m ((c.tc : Thread Cert.RopeBwdIdeal.nD Cert.RopeBwdIdeal.τ).loc Cert.RopeBwdIdeal.main_arg0)
      ∧ r.2.mem ((c.tc : Thread Cert.RopeBwdIdeal.nD Cert.RopeBwdIdeal.τ).loc Cert.RopeBwdIdeal.main_arg1) = m ((c.tc : Thread Cert.RopeBwdIdeal.nD Cert.RopeBwdIdeal.τ).loc Cert.RopeBwdIdeal.main_arg1)
      ∧ r.2.mem ((c.tc : Thread Cert.RopeBwdIdeal.nD Cert.RopeBwdIdeal.τ).loc Cert.RopeBwdIdeal.main_arg2) = m ((c.tc : Thread Cert.RopeBwdIdeal.nD Cert.RopeBwdIdeal.τ).loc Cert.RopeBwdIdeal.main_arg2)
      ∧ r.2.mem ((c.tc : Thread Cert.RopeBwdIdeal.nD Cert.RopeBwdIdeal.τ).loc Cert.RopeBwdIdeal.main_arg3) = m ((c.tc : Thread Cert.RopeBwdIdeal.nD Cert.RopeBwdIdeal.τ).loc Cert.RopeBwdIdeal.main_arg3))
      ∧ r.2.sem = fun _ => 0)

def quiescent_RopeBwdRefIdeal [hRopeBwdRefIdeal : Cert.RopeBwdRefIdeal.Facts] : Prop :=
  ∀ (m : (ℓ : Loc Cert.RopeBwdRefIdeal.nD Cert.RopeBwdRefIdeal.τ Cert.RopeBwdRefIdeal.sig) → Buf (Elt Ideal) ℓ) (g : Dev Cert.RopeBwdRefIdeal.nD → PrngReg), Pre_RopeBwdRefIdeal m →
    θ_run (Cert.RopeBwdRefIdeal.defs (F := Ideal)) (onTc (τ := Cert.RopeBwdRefIdeal.τ) (Cert.RopeBwdRefIdeal.main (F := Ideal))) ⟨m, fun _ => 0, g⟩ (fun r => (∀ c : Dev Cert.RopeBwdRefIdeal.nD,
      r.2.mem ((c.tc : Thread Cert.RopeBwdRefIdeal.nD Cert.RopeBwdRefIdeal.τ).loc Cert.RopeBwdRefIdeal.main_arg0) = m ((c.tc : Thread Cert.RopeBwdRefIdeal.nD Cert.RopeBwdRefIdeal.τ).loc Cert.RopeBwdRefIdeal.main_arg0)
      ∧ r.2.mem ((c.tc : Thread Cert.RopeBwdRefIdeal.nD Cert.RopeBwdRefIdeal.τ).loc Cert.RopeBwdRefIdeal.main_arg1) = m ((c.tc : Thread Cert.RopeBwdRefIdeal.nD Cert.RopeBwdRefIdeal.τ).loc Cert.RopeBwdRefIdeal.main_arg1)
      ∧ r.2.mem ((c.tc : Thread Cert.RopeBwdRefIdeal.nD Cert.RopeBwdRefIdeal.τ).loc Cert.RopeBwdRefIdeal.main_arg2) = m ((c.tc : Thread Cert.RopeBwdRefIdeal.nD Cert.RopeBwdRefIdeal.τ).loc Cert.RopeBwdRefIdeal.main_arg2)
      ∧ r.2.mem ((c.tc : Thread Cert.RopeBwdRefIdeal.nD Cert.RopeBwdRefIdeal.τ).loc Cert.RopeBwdRefIdeal.main_arg3) = m ((c.tc : Thread Cert.RopeBwdRefIdeal.nD Cert.RopeBwdRefIdeal.τ).loc Cert.RopeBwdRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_v8) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)
      ∧ m' ((c.tc : Thread Cert.DownDxRefIdeal.nD Cert.DownDxRefIdeal.τ).loc Cert.DownDxRefIdeal.main_arg3) = m ((c.tc : Thread Cert.DownDxIdeal.nD Cert.DownDxIdeal.τ).loc Cert.DownDxIdeal.main_arg3)) →
    ∃ (v0 : (c : Dev Cert.DownDxIdeal.nD) → Buf (Elt Ideal) ((c.tc : Thread Cert.DownDxIdeal.nD Cert.DownDxIdeal.τ).loc Cert.DownDxIdeal.main_v7)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v7) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
          ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v19) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2)
          ∧ r.2.mem ((c.tc : Thread Cert.DownDxRefIdeal.nD Cert.DownDxRefIdeal.τ).loc Cert.DownDxRefIdeal.main_arg3) = m' ((c.tc : Thread Cert.DownDxRefIdeal.nD Cert.DownDxRefIdeal.τ).loc Cert.DownDxRefIdeal.main_arg3))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v8) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v3) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_Bo_BoIdeal : Prop :=
  True

def algebraic_BoIdeal_BoRefIdeal [hBoIdeal : Cert.BoIdeal.Facts] [hBoRefIdeal : Cert.BoRefIdeal.Facts] : Prop :=
  ∀ (m : (ℓ : Loc Cert.BoIdeal.nD Cert.BoIdeal.τ Cert.BoIdeal.sig) → Buf (Elt Ideal) ℓ) (g : Dev Cert.BoIdeal.nD → PrngReg)
    (m' : (ℓ : Loc Cert.BoRefIdeal.nD Cert.BoRefIdeal.τ Cert.BoRefIdeal.sig) → Buf (Elt Ideal) ℓ) (g' : Dev Cert.BoRefIdeal.nD → PrngReg), Pre_BoIdeal m →
    (∀ c : Dev Cert.BoIdeal.nD,
      m' ((c.tc : Thread Cert.BoRefIdeal.nD Cert.BoRefIdeal.τ).loc Cert.BoRefIdeal.main_arg0) = m ((c.tc : Thread Cert.BoIdeal.nD Cert.BoIdeal.τ).loc Cert.BoIdeal.main_arg0)
      ∧ m' ((c.tc : Thread Cert.BoRefIdeal.nD Cert.BoRefIdeal.τ).loc Cert.BoRefIdeal.main_arg1) = m ((c.tc : Thread Cert.BoIdeal.nD Cert.BoIdeal.τ).loc Cert.BoIdeal.main_arg1)) →
    ∃ (v0 : (c : Dev Cert.BoIdeal.nD) → Buf (Elt Ideal) ((c.tc : Thread Cert.BoIdeal.nD Cert.BoIdeal.τ).loc Cert.BoIdeal.main_v0)),
      θ_run (Cert.BoIdeal.defs (F := Ideal)) (onTc (τ := Cert.BoIdeal.τ) (Cert.BoIdeal.main (F := Ideal))) ⟨m, fun _ => 0, g⟩ (fun r => ∀ c : Dev Cert.BoIdeal.nD,
          r.2.mem ((c.tc : Thread Cert.BoIdeal.nD Cert.BoIdeal.τ).loc Cert.BoIdeal.main_v0) = v0 c
          ∧ r.2.mem ((c.tc : Thread Cert.BoIdeal.nD Cert.BoIdeal.τ).loc Cert.BoIdeal.main_arg0) = m ((c.tc : Thread Cert.BoIdeal.nD Cert.BoIdeal.τ).loc Cert.BoIdeal.main_arg0)
          ∧ r.2.mem ((c.tc : Thread Cert.BoIdeal.nD Cert.BoIdeal.τ).loc Cert.BoIdeal.main_arg1) = m ((c.tc : Thread Cert.BoIdeal.nD Cert.BoIdeal.τ).loc Cert.BoIdeal.main_arg1))
      ∧ θ_run (Cert.BoRefIdeal.defs (F := Ideal)) (onTc (τ := Cert.BoRefIdeal.τ) (Cert.BoRefIdeal.main (F := Ideal))) ⟨m', fun _ => 0, g'⟩ (fun r => ∀ c : Dev Cert.BoRefIdeal.nD,
          r.2.mem ((c.tc : Thread Cert.BoRefIdeal.nD Cert.BoRefIdeal.τ).loc Cert.BoRefIdeal.main_v2) = v0 c
          ∧ r.2.mem ((c.tc : Thread Cert.BoRefIdeal.nD Cert.BoRefIdeal.τ).loc Cert.BoRefIdeal.main_arg0) = m' ((c.tc : Thread Cert.BoRefIdeal.nD Cert.BoRefIdeal.τ).loc Cert.BoRefIdeal.main_arg0)
          ∧ r.2.mem ((c.tc : Thread Cert.BoRefIdeal.nD Cert.BoRefIdeal.τ).loc Cert.BoRefIdeal.main_arg1) = m' ((c.tc : Thread Cert.BoRefIdeal.nD Cert.BoRefIdeal.τ).loc Cert.BoRefIdeal.main_arg1))

def preserves_BoDx_BoDxIdeal : Prop :=
  True

def algebraic_BoDxIdeal_BoDxRefIdeal [hBoDxIdeal : Cert.BoDxIdeal.Facts] [hBoDxRefIdeal : Cert.BoDxRefIdeal.Facts] : Prop :=
  ∀ (m : (ℓ : Loc Cert.BoDxIdeal.nD Cert.BoDxIdeal.τ Cert.BoDxIdeal.sig) → Buf (Elt Ideal) ℓ) (g : Dev Cert.BoDxIdeal.nD → PrngReg)
    (m' : (ℓ : Loc Cert.BoDxRefIdeal.nD Cert.BoDxRefIdeal.τ Cert.BoDxRefIdeal.sig) → Buf (Elt Ideal) ℓ) (g' : Dev Cert.BoDxRefIdeal.nD → PrngReg), Pre_BoDxIdeal m →
    (∀ c : Dev Cert.BoDxIdeal.nD,
      m' ((c.tc : Thread Cert.BoDxRefIdeal.nD Cert.BoDxRefIdeal.τ).loc Cert.BoDxRefIdeal.main_arg0) = m ((c.tc : Thread Cert.BoDxIdeal.nD Cert.BoDxIdeal.τ).loc Cert.BoDxIdeal.main_arg0)
      ∧ m' ((c.tc : Thread Cert.BoDxRefIdeal.nD Cert.BoDxRefIdeal.τ).loc Cert.BoDxRefIdeal.main_arg1) = m ((c.tc : Thread Cert.BoDxIdeal.nD Cert.BoDxIdeal.τ).loc Cert.BoDxIdeal.main_arg1)) →
    ∃ (v0 : (c : Dev Cert.BoDxIdeal.nD) → Buf (Elt Ideal) ((c.tc : Thread Cert.BoDxIdeal.nD Cert.BoDxIdeal.τ).loc Cert.BoDxIdeal.main_v0)),
      θ_run (Cert.BoDxIdeal.defs (F := Ideal)) (onTc (τ := Cert.BoDxIdeal.τ) (Cert.BoDxIdeal.main (F := Ideal))) ⟨m, fun _ => 0, g⟩ (fun r => ∀ c : Dev Cert.BoDxIdeal.nD,
          r.2.mem ((c.tc : Thread Cert.BoDxIdeal.nD Cert.BoDxIdeal.τ).loc Cert.BoDxIdeal.main_v0) = v0 c
          ∧ r.2.mem ((c.tc : Thread Cert.BoDxIdeal.nD Cert.BoDxIdeal.τ).loc Cert.BoDxIdeal.main_arg0) = m ((c.tc : Thread Cert.BoDxIdeal.nD Cert.BoDxIdeal.τ).loc Cert.BoDxIdeal.main_arg0)
          ∧ r.2.mem ((c.tc : Thread Cert.BoDxIdeal.nD Cert.BoDxIdeal.τ).loc Cert.BoDxIdeal.main_arg1) = m ((c.tc : Thread Cert.BoDxIdeal.nD Cert.BoDxIdeal.τ).loc Cert.BoDxIdeal.main_arg1))
      ∧ θ_run (Cert.BoDxRefIdeal.defs (F := Ideal)) (onTc (τ := Cert.BoDxRefIdeal.τ) (Cert.BoDxRefIdeal.main (F := Ideal))) ⟨m', fun _ => 0, g'⟩ (fun r => ∀ c : Dev Cert.BoDxRefIdeal.nD,
          r.2.mem ((c.tc : Thread Cert.BoDxRefIdeal.nD Cert.BoDxRefIdeal.τ).loc Cert.BoDxRefIdeal.main_v5) = v0 c
          ∧ r.2.mem ((c.tc : Thread Cert.BoDxRefIdeal.nD Cert.BoDxRefIdeal.τ).loc Cert.BoDxRefIdeal.main_arg0) = m' ((c.tc : Thread Cert.BoDxRefIdeal.nD Cert.BoDxRefIdeal.τ).loc Cert.BoDxRefIdeal.main_arg0)
          ∧ r.2.mem ((c.tc : Thread Cert.BoDxRefIdeal.nD Cert.BoDxRefIdeal.τ).loc Cert.BoDxRefIdeal.main_arg1) = m' ((c.tc : Thread Cert.BoDxRefIdeal.nD Cert.BoDxRefIdeal.τ).loc Cert.BoDxRefIdeal.main_arg1))

def preserves_BoDw_BoDwIdeal : Prop :=
  True

def algebraic_BoDwIdeal_BoDwRefIdeal [hBoDwIdeal : Cert.BoDwIdeal.Facts] [hBoDwRefIdeal : Cert.BoDwRefIdeal.Facts] : Prop :=
  ∀ (m : (ℓ : Loc Cert.BoDwIdeal.nD Cert.BoDwIdeal.τ Cert.BoDwIdeal.sig) → Buf (Elt Ideal) ℓ) (g : Dev Cert.BoDwIdeal.nD → PrngReg)
    (m' : (ℓ : Loc Cert.BoDwRefIdeal.nD Cert.BoDwRefIdeal.τ Cert.BoDwRefIdeal.sig) → Buf (Elt Ideal) ℓ) (g' : Dev Cert.BoDwRefIdeal.nD → PrngReg), Pre_BoDwIdeal m →
    (∀ c : Dev Cert.BoDwIdeal.nD,
      m' ((c.tc : Thread Cert.BoDwRefIdeal.nD Cert.BoDwRefIdeal.τ).loc Cert.BoDwRefIdeal.main_arg0) = m ((c.tc : Thread Cert.BoDwIdeal.nD Cert.BoDwIdeal.τ).loc Cert.BoDwIdeal.main_arg0)
      ∧ m' ((c.tc : Thread Cert.BoDwRefIdeal.nD Cert.BoDwRefIdeal.τ).loc Cert.BoDwRefIdeal.main_arg1) = m ((c.tc : Thread Cert.BoDwIdeal.nD Cert.BoDwIdeal.τ).loc Cert.BoDwIdeal.main_arg1)) →
    ∃ (v0 : (c : Dev Cert.BoDwIdeal.nD) → Buf (Elt Ideal) ((c.tc : Thread Cert.BoDwIdeal.nD Cert.BoDwIdeal.τ).loc Cert.BoDwIdeal.main_v0)),
      θ_run (Cert.BoDwIdeal.defs (F := Ideal)) (onTc (τ := Cert.BoDwIdeal.τ) (Cert.BoDwIdeal.main (F := Ideal))) ⟨m, fun _ => 0, g⟩ (fun r => ∀ c : Dev Cert.BoDwIdeal.nD,
          r.2.mem ((c.tc : Thread Cert.BoDwIdeal.nD Cert.BoDwIdeal.τ).loc Cert.BoDwIdeal.main_v0) = v0 c
          ∧ r.2.mem ((c.tc : Thread Cert.BoDwIdeal.nD Cert.BoDwIdeal.τ).loc Cert.BoDwIdeal.main_arg0) = m ((c.tc : Thread Cert.BoDwIdeal.nD Cert.BoDwIdeal.τ).loc Cert.BoDwIdeal.main_arg0)
          ∧ r.2.mem ((c.tc : Thread Cert.BoDwIdeal.nD Cert.BoDwIdeal.τ).loc Cert.BoDwIdeal.main_arg1) = m ((c.tc : Thread Cert.BoDwIdeal.nD Cert.BoDwIdeal.τ).loc Cert.BoDwIdeal.main_arg1))
      ∧ θ_run (Cert.BoDwRefIdeal.defs (F := Ideal)) (onTc (τ := Cert.BoDwRefIdeal.τ) (Cert.BoDwRefIdeal.main (F := Ideal))) ⟨m', fun _ => 0, g'⟩ (fun r => ∀ c : Dev Cert.BoDwRefIdeal.nD,
          r.2.mem ((c.tc : Thread Cert.BoDwRefIdeal.nD Cert.BoDwRefIdeal.τ).loc Cert.BoDwRefIdeal.main_v5) = v0 c
          ∧ r.2.mem ((c.tc : Thread Cert.BoDwRefIdeal.nD Cert.BoDwRefIdeal.τ).loc Cert.BoDwRefIdeal.main_arg0) = m' ((c.tc : Thread Cert.BoDwRefIdeal.nD Cert.BoDwRefIdeal.τ).loc Cert.BoDwRefIdeal.main_arg0)
          ∧ r.2.mem ((c.tc : Thread Cert.BoDwRefIdeal.nD Cert.BoDwRefIdeal.τ).loc Cert.BoDwRefIdeal.main_arg1) = m' ((c.tc : Thread Cert.BoDwRefIdeal.nD Cert.BoDwRefIdeal.τ).loc Cert.BoDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v0)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v0) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v3) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1))

def preserves_UqDx_UqDxIdeal : Prop :=
  True

def algebraic_UqDxIdeal_UqDxRefIdeal [hUqDxIdeal : Cert.UqDxIdeal.Facts] [hUqDxRefIdeal : Cert.UqDxRefIdeal.Facts] : Prop :=
  ∀ (m : (ℓ : Loc Cert.UqDxIdeal.nD Cert.UqDxIdeal.τ Cert.UqDxIdeal.sig) → Buf (Elt Ideal) ℓ) (g : Dev Cert.UqDxIdeal.nD → PrngReg)
    (m' : (ℓ : Loc Cert.UqDxRefIdeal.nD Cert.UqDxRefIdeal.τ Cert.UqDxRefIdeal.sig) → Buf (Elt Ideal) ℓ) (g' : Dev Cert.UqDxRefIdeal.nD → PrngReg), Pre_UqDxIdeal m →
    (∀ c : Dev Cert.UqDxIdeal.nD,
      m' ((c.tc : Thread Cert.UqDxRefIdeal.nD Cert.UqDxRefIdeal.τ).loc Cert.UqDxRefIdeal.main_arg0) = m ((c.tc : Thread Cert.UqDxIdeal.nD Cert.UqDxIdeal.τ).loc Cert.UqDxIdeal.main_arg0)
      ∧ m' ((c.tc : Thread Cert.UqDxRefIdeal.nD Cert.UqDxRefIdeal.τ).loc Cert.UqDxRefIdeal.main_arg1) = m ((c.tc : Thread Cert.UqDxIdeal.nD Cert.UqDxIdeal.τ).loc Cert.UqDxIdeal.main_arg1)) →
    ∃ (v0 : (c : Dev Cert.UqDxIdeal.nD) → Buf (Elt Ideal) ((c.tc : Thread Cert.UqDxIdeal.nD Cert.UqDxIdeal.τ).loc Cert.UqDxIdeal.main_v0)),
      θ_run (Cert.UqDxIdeal.defs (F := Ideal)) (onTc (τ := Cert.UqDxIdeal.τ) (Cert.UqDxIdeal.main (F := Ideal))) ⟨m, fun _ => 0, g⟩ (fun r => ∀ c : Dev Cert.UqDxIdeal.nD,
          r.2.mem ((c.tc : Thread Cert.UqDxIdeal.nD Cert.UqDxIdeal.τ).loc Cert.UqDxIdeal.main_v0) = v0 c
          ∧ r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
          ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1))
      ∧ θ_run (Cert.UqDxRefIdeal.defs (F := Ideal)) (onTc (τ := Cert.UqDxRefIdeal.τ) (Cert.UqDxRefIdeal.main (F := Ideal))) ⟨m', fun _ => 0, g'⟩ (fun r => ∀ c : Dev Cert.UqDxRefIdeal.nD,
          r.2.mem ((c.tc : Thread Cert.UqDxRefIdeal.nD Cert.UqDxRefIdeal.τ).loc Cert.UqDxRefIdeal.main_v4) = v0 c
          ∧ r.2.mem ((c.tc : Thread Cert.UqDxRefIdeal.nD Cert.UqDxRefIdeal.τ).loc Cert.UqDxRefIdeal.main_arg0) = m' ((c.tc : Thread Cert.UqDxRefIdeal.nD Cert.UqDxRefIdeal.τ).loc Cert.UqDxRefIdeal.main_arg0)
          ∧ r.2.mem ((c.tc : Thread Cert.UqDxRefIdeal.nD Cert.UqDxRefIdeal.τ).loc Cert.UqDxRefIdeal.main_arg1) = m' ((c.tc : Thread Cert.UqDxRefIdeal.nD Cert.UqDxRefIdeal.τ).loc Cert.UqDxRefIdeal.main_arg1))

def preserves_UqDw_UqDwIdeal : Prop :=
  True

def algebraic_UqDwIdeal_UqDwRefIdeal [hUqDwIdeal : Cert.UqDwIdeal.Facts] [hUqDwRefIdeal : Cert.UqDwRefIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.UqDwRefIdeal.nD Cert.UqDwRefIdeal.τ Cert.UqDwRefIdeal.sig) → Buf (Elt Ideal) ℓ) (g' : Dev Cert.UqDwRefIdeal.nD → PrngReg), Pre_UqDwIdeal m →
    (∀ c : Dev Cert.UqDwIdeal.nD,
      m' ((c.tc : Thread Cert.UqDwRefIdeal.nD Cert.UqDwRefIdeal.τ).loc Cert.UqDwRefIdeal.main_arg0) = m ((c.tc : Thread Cert.UqDwIdeal.nD Cert.UqDwIdeal.τ).loc Cert.UqDwIdeal.main_arg0)
      ∧ m' ((c.tc : Thread Cert.UqDwRefIdeal.nD Cert.UqDwRefIdeal.τ).loc Cert.UqDwRefIdeal.main_arg1) = m ((c.tc : Thread Cert.UqDwIdeal.nD Cert.UqDwIdeal.τ).loc Cert.UqDwIdeal.main_arg1)) →
    ∃ (v0 : (c : Dev Cert.UqDwIdeal.nD) → Buf (Elt Ideal) ((c.tc : Thread Cert.UqDwIdeal.nD Cert.UqDwIdeal.τ).loc Cert.UqDwIdeal.main_v0)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v0) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ θ_run (Cert.UqDwRefIdeal.defs (F := Ideal)) (onTc (τ := Cert.UqDwRefIdeal.τ) (Cert.UqDwRefIdeal.main (F := Ideal))) ⟨m', fun _ => 0, g'⟩ (fun r => ∀ c : Dev Cert.UqDwRefIdeal.nD,
          r.2.mem ((c.tc : Thread Cert.UqDwRefIdeal.nD Cert.UqDwRefIdeal.τ).loc Cert.UqDwRefIdeal.main_v6) = v0 c
          ∧ r.2.mem ((c.tc : Thread Cert.UqDwRefIdeal.nD Cert.UqDwRefIdeal.τ).loc Cert.UqDwRefIdeal.main_arg0) = m' ((c.tc : Thread Cert.UqDwRefIdeal.nD Cert.UqDwRefIdeal.τ).loc Cert.UqDwRefIdeal.main_arg0)
          ∧ r.2.mem ((c.tc : Thread Cert.UqDwRefIdeal.nD Cert.UqDwRefIdeal.τ).loc Cert.UqDwRefIdeal.main_arg1) = m' ((c.tc : Thread Cert.UqDwRefIdeal.nD Cert.UqDwRefIdeal.τ).loc Cert.UqDwRefIdeal.main_arg1))

def preserves_Uk_UkIdeal : Prop :=
  True

def algebraic_UkIdeal_UkRefIdeal [hUkIdeal : Cert.UkIdeal.Facts] [hUkRefIdeal : Cert.UkRefIdeal.Facts] : Prop :=
  ∀ (m : (ℓ : Loc Cert.UkIdeal.nD Cert.UkIdeal.τ Cert.UkIdeal.sig) → Buf (Elt Ideal) ℓ) (g : Dev Cert.UkIdeal.nD → PrngReg)
    (m' : (ℓ : Loc Cert.UkRefIdeal.nD Cert.UkRefIdeal.τ Cert.UkRefIdeal.sig) → Buf (Elt Ideal) ℓ) (g' : Dev Cert.UkRefIdeal.nD → PrngReg), Pre_UkIdeal m →
    (∀ c : Dev Cert.UkIdeal.nD,
      m' ((c.tc : Thread Cert.UkRefIdeal.nD Cert.UkRefIdeal.τ).loc Cert.UkRefIdeal.main_arg0) = m ((c.tc : Thread Cert.UkIdeal.nD Cert.UkIdeal.τ).loc Cert.UkIdeal.main_arg0)
      ∧ m' ((c.tc : Thread Cert.UkRefIdeal.nD Cert.UkRefIdeal.τ).loc Cert.UkRefIdeal.main_arg1) = m ((c.tc : Thread Cert.UkIdeal.nD Cert.UkIdeal.τ).loc Cert.UkIdeal.main_arg1)) →
    ∃ (v0 : (c : Dev Cert.UkIdeal.nD) → Buf (Elt Ideal) ((c.tc : Thread Cert.UkIdeal.nD Cert.UkIdeal.τ).loc Cert.UkIdeal.main_v0)),
      θ_run (Cert.UkIdeal.defs (F := Ideal)) (onTc (τ := Cert.UkIdeal.τ) (Cert.UkIdeal.main (F := Ideal))) ⟨m, fun _ => 0, g⟩ (fun r => ∀ c : Dev Cert.UkIdeal.nD,
          r.2.mem ((c.tc : Thread Cert.UkIdeal.nD Cert.UkIdeal.τ).loc Cert.UkIdeal.main_v0) = v0 c
          ∧ r.2.mem ((c.tc : Thread Cert.UkIdeal.nD Cert.UkIdeal.τ).loc Cert.UkIdeal.main_arg0) = m ((c.tc : Thread Cert.UkIdeal.nD Cert.UkIdeal.τ).loc Cert.UkIdeal.main_arg0)
          ∧ r.2.mem ((c.tc : Thread Cert.UkIdeal.nD Cert.UkIdeal.τ).loc Cert.UkIdeal.main_arg1) = m ((c.tc : Thread Cert.UkIdeal.nD Cert.UkIdeal.τ).loc Cert.UkIdeal.main_arg1))
      ∧ θ_run (Cert.UkRefIdeal.defs (F := Ideal)) (onTc (τ := Cert.UkRefIdeal.τ) (Cert.UkRefIdeal.main (F := Ideal))) ⟨m', fun _ => 0, g'⟩ (fun r => ∀ c : Dev Cert.UkRefIdeal.nD,
          r.2.mem ((c.tc : Thread Cert.UkRefIdeal.nD Cert.UkRefIdeal.τ).loc Cert.UkRefIdeal.main_v3) = v0 c
          ∧ r.2.mem ((c.tc : Thread Cert.UkRefIdeal.nD Cert.UkRefIdeal.τ).loc Cert.UkRefIdeal.main_arg0) = m' ((c.tc : Thread Cert.UkRefIdeal.nD Cert.UkRefIdeal.τ).loc Cert.UkRefIdeal.main_arg0)
          ∧ r.2.mem ((c.tc : Thread Cert.UkRefIdeal.nD Cert.UkRefIdeal.τ).loc Cert.UkRefIdeal.main_arg1) = m' ((c.tc : Thread Cert.UkRefIdeal.nD Cert.UkRefIdeal.τ).loc Cert.UkRefIdeal.main_arg1))

def preserves_UkDx_UkDxIdeal : Prop :=
  True

def algebraic_UkDxIdeal_UkDxRefIdeal [hUkDxIdeal : Cert.UkDxIdeal.Facts] [hUkDxRefIdeal : Cert.UkDxRefIdeal.Facts] : Prop :=
  ∀ (m : (ℓ : Loc Cert.UkDxIdeal.nD Cert.UkDxIdeal.τ Cert.UkDxIdeal.sig) → Buf (Elt Ideal) ℓ) (g : Dev Cert.UkDxIdeal.nD → PrngReg)
    (m' : (ℓ : Loc Cert.UkDxRefIdeal.nD Cert.UkDxRefIdeal.τ Cert.UkDxRefIdeal.sig) → Buf (Elt Ideal) ℓ) (g' : Dev Cert.UkDxRefIdeal.nD → PrngReg), Pre_UkDxIdeal m →
    (∀ c : Dev Cert.UkDxIdeal.nD,
      m' ((c.tc : Thread Cert.UkDxRefIdeal.nD Cert.UkDxRefIdeal.τ).loc Cert.UkDxRefIdeal.main_arg0) = m ((c.tc : Thread Cert.UkDxIdeal.nD Cert.UkDxIdeal.τ).loc Cert.UkDxIdeal.main_arg0)
      ∧ m' ((c.tc : Thread Cert.UkDxRefIdeal.nD Cert.UkDxRefIdeal.τ).loc Cert.UkDxRefIdeal.main_arg1) = m ((c.tc : Thread Cert.UkDxIdeal.nD Cert.UkDxIdeal.τ).loc Cert.UkDxIdeal.main_arg1)) →
    ∃ (v0 : (c : Dev Cert.UkDxIdeal.nD) → Buf (Elt Ideal) ((c.tc : Thread Cert.UkDxIdeal.nD Cert.UkDxIdeal.τ).loc Cert.UkDxIdeal.main_v0)),
      θ_run (Cert.UkDxIdeal.defs (F := Ideal)) (onTc (τ := Cert.UkDxIdeal.τ) (Cert.UkDxIdeal.main (F := Ideal))) ⟨m, fun _ => 0, g⟩ (fun r => ∀ c : Dev Cert.UkDxIdeal.nD,
          r.2.mem ((c.tc : Thread Cert.UkDxIdeal.nD Cert.UkDxIdeal.τ).loc Cert.UkDxIdeal.main_v0) = v0 c
          ∧ r.2.mem ((c.tc : Thread Cert.UkDxIdeal.nD Cert.UkDxIdeal.τ).loc Cert.UkDxIdeal.main_arg0) = m ((c.tc : Thread Cert.UkDxIdeal.nD Cert.UkDxIdeal.τ).loc Cert.UkDxIdeal.main_arg0)
          ∧ r.2.mem ((c.tc : Thread Cert.UkDxIdeal.nD Cert.UkDxIdeal.τ).loc Cert.UkDxIdeal.main_arg1) = m ((c.tc : Thread Cert.UkDxIdeal.nD Cert.UkDxIdeal.τ).loc Cert.UkDxIdeal.main_arg1))
      ∧ θ_run (Cert.UkDxRefIdeal.defs (F := Ideal)) (onTc (τ := Cert.UkDxRefIdeal.τ) (Cert.UkDxRefIdeal.main (F := Ideal))) ⟨m', fun _ => 0, g'⟩ (fun r => ∀ c : Dev Cert.UkDxRefIdeal.nD,
          r.2.mem ((c.tc : Thread Cert.UkDxRefIdeal.nD Cert.UkDxRefIdeal.τ).loc Cert.UkDxRefIdeal.main_v3) = v0 c
          ∧ r.2.mem ((c.tc : Thread Cert.UkDxRefIdeal.nD Cert.UkDxRefIdeal.τ).loc Cert.UkDxRefIdeal.main_arg0) = m' ((c.tc : Thread Cert.UkDxRefIdeal.nD Cert.UkDxRefIdeal.τ).loc Cert.UkDxRefIdeal.main_arg0)
          ∧ r.2.mem ((c.tc : Thread Cert.UkDxRefIdeal.nD Cert.UkDxRefIdeal.τ).loc Cert.UkDxRefIdeal.main_arg1) = m' ((c.tc : Thread Cert.UkDxRefIdeal.nD Cert.UkDxRefIdeal.τ).loc Cert.UkDxRefIdeal.main_arg1))

def preserves_UkDw_UkDwIdeal : Prop :=
  True

def algebraic_UkDwIdeal_UkDwRefIdeal [hUkDwIdeal : Cert.UkDwIdeal.Facts] [hUkDwRefIdeal : Cert.UkDwRefIdeal.Facts] : Prop :=
  ∀ (m : (ℓ : Loc Cert.UkDwIdeal.nD Cert.UkDwIdeal.τ Cert.UkDwIdeal.sig) → Buf (Elt Ideal) ℓ) (g : Dev Cert.UkDwIdeal.nD → PrngReg)
    (m' : (ℓ : Loc Cert.UkDwRefIdeal.nD Cert.UkDwRefIdeal.τ Cert.UkDwRefIdeal.sig) → Buf (Elt Ideal) ℓ) (g' : Dev Cert.UkDwRefIdeal.nD → PrngReg), Pre_UkDwIdeal m →
    (∀ c : Dev Cert.UkDwIdeal.nD,
      m' ((c.tc : Thread Cert.UkDwRefIdeal.nD Cert.UkDwRefIdeal.τ).loc Cert.UkDwRefIdeal.main_arg0) = m ((c.tc : Thread Cert.UkDwIdeal.nD Cert.UkDwIdeal.τ).loc Cert.UkDwIdeal.main_arg0)
      ∧ m' ((c.tc : Thread Cert.UkDwRefIdeal.nD Cert.UkDwRefIdeal.τ).loc Cert.UkDwRefIdeal.main_arg1) = m ((c.tc : Thread Cert.UkDwIdeal.nD Cert.UkDwIdeal.τ).loc Cert.UkDwIdeal.main_arg1)) →
    ∃ (v0 : (c : Dev Cert.UkDwIdeal.nD) → Buf (Elt Ideal) ((c.tc : Thread Cert.UkDwIdeal.nD Cert.UkDwIdeal.τ).loc Cert.UkDwIdeal.main_v0)),
      θ_run (Cert.UkDwIdeal.defs (F := Ideal)) (onTc (τ := Cert.UkDwIdeal.τ) (Cert.UkDwIdeal.main (F := Ideal))) ⟨m, fun _ => 0, g⟩ (fun r => ∀ c : Dev Cert.UkDwIdeal.nD,
          r.2.mem ((c.tc : Thread Cert.UkDwIdeal.nD Cert.UkDwIdeal.τ).loc Cert.UkDwIdeal.main_v0) = v0 c
          ∧ r.2.mem ((c.tc : Thread Cert.UkDwIdeal.nD Cert.UkDwIdeal.τ).loc Cert.UkDwIdeal.main_arg0) = m ((c.tc : Thread Cert.UkDwIdeal.nD Cert.UkDwIdeal.τ).loc Cert.UkDwIdeal.main_arg0)
          ∧ r.2.mem ((c.tc : Thread Cert.UkDwIdeal.nD Cert.UkDwIdeal.τ).loc Cert.UkDwIdeal.main_arg1) = m ((c.tc : Thread Cert.UkDwIdeal.nD Cert.UkDwIdeal.τ).loc Cert.UkDwIdeal.main_arg1))
      ∧ θ_run (Cert.UkDwRefIdeal.defs (F := Ideal)) (onTc (τ := Cert.UkDwRefIdeal.τ) (Cert.UkDwRefIdeal.main (F := Ideal))) ⟨m', fun _ => 0, g'⟩ (fun r => ∀ c : Dev Cert.UkDwRefIdeal.nD,
          r.2.mem ((c.tc : Thread Cert.UkDwRefIdeal.nD Cert.UkDwRefIdeal.τ).loc Cert.UkDwRefIdeal.main_v5) = v0 c
          ∧ r.2.mem ((c.tc : Thread Cert.UkDwRefIdeal.nD Cert.UkDwRefIdeal.τ).loc Cert.UkDwRefIdeal.main_arg0) = m' ((c.tc : Thread Cert.UkDwRefIdeal.nD Cert.UkDwRefIdeal.τ).loc Cert.UkDwRefIdeal.main_arg0)
          ∧ r.2.mem ((c.tc : Thread Cert.UkDwRefIdeal.nD Cert.UkDwRefIdeal.τ).loc Cert.UkDwRefIdeal.main_arg1) = m' ((c.tc : Thread Cert.UkDwRefIdeal.nD Cert.UkDwRefIdeal.τ).loc Cert.UkDwRefIdeal.main_arg1))

def preserves_Uv_UvIdeal : Prop :=
  True

def algebraic_UvIdeal_UvRefIdeal [hUvIdeal : Cert.UvIdeal.Facts] [hUvRefIdeal : Cert.UvRefIdeal.Facts] : Prop :=
  ∀ (m : (ℓ : Loc Cert.UvIdeal.nD Cert.UvIdeal.τ Cert.UvIdeal.sig) → Buf (Elt Ideal) ℓ) (g : Dev Cert.UvIdeal.nD → PrngReg)
    (m' : (ℓ : Loc Cert.UvRefIdeal.nD Cert.UvRefIdeal.τ Cert.UvRefIdeal.sig) → Buf (Elt Ideal) ℓ) (g' : Dev Cert.UvRefIdeal.nD → PrngReg), Pre_UvIdeal m →
    (∀ c : Dev Cert.UvIdeal.nD,
      m' ((c.tc : Thread Cert.UvRefIdeal.nD Cert.UvRefIdeal.τ).loc Cert.UvRefIdeal.main_arg0) = m ((c.tc : Thread Cert.UvIdeal.nD Cert.UvIdeal.τ).loc Cert.UvIdeal.main_arg0)
      ∧ m' ((c.tc : Thread Cert.UvRefIdeal.nD Cert.UvRefIdeal.τ).loc Cert.UvRefIdeal.main_arg1) = m ((c.tc : Thread Cert.UvIdeal.nD Cert.UvIdeal.τ).loc Cert.UvIdeal.main_arg1)) →
    ∃ (v0 : (c : Dev Cert.UvIdeal.nD) → Buf (Elt Ideal) ((c.tc : Thread Cert.UvIdeal.nD Cert.UvIdeal.τ).loc Cert.UvIdeal.main_v0)),
      θ_run (Cert.UvIdeal.defs (F := Ideal)) (onTc (τ := Cert.UvIdeal.τ) (Cert.UvIdeal.main (F := Ideal))) ⟨m, fun _ => 0, g⟩ (fun r => ∀ c : Dev Cert.UvIdeal.nD,
          r.2.mem ((c.tc : Thread Cert.UvIdeal.nD Cert.UvIdeal.τ).loc Cert.UvIdeal.main_v0) = v0 c
          ∧ r.2.mem ((c.tc : Thread Cert.UvIdeal.nD Cert.UvIdeal.τ).loc Cert.UvIdeal.main_arg0) = m ((c.tc : Thread Cert.UvIdeal.nD Cert.UvIdeal.τ).loc Cert.UvIdeal.main_arg0)
          ∧ r.2.mem ((c.tc : Thread Cert.UvIdeal.nD Cert.UvIdeal.τ).loc Cert.UvIdeal.main_arg1) = m ((c.tc : Thread Cert.UvIdeal.nD Cert.UvIdeal.τ).loc Cert.UvIdeal.main_arg1))
      ∧ θ_run (Cert.UvRefIdeal.defs (F := Ideal)) (onTc (τ := Cert.UvRefIdeal.τ) (Cert.UvRefIdeal.main (F := Ideal))) ⟨m', fun _ => 0, g'⟩ (fun r => ∀ c : Dev Cert.UvRefIdeal.nD,
          r.2.mem ((c.tc : Thread Cert.UvRefIdeal.nD Cert.UvRefIdeal.τ).loc Cert.UvRefIdeal.main_v3) = v0 c
          ∧ r.2.mem ((c.tc : Thread Cert.UvRefIdeal.nD Cert.UvRefIdeal.τ).loc Cert.UvRefIdeal.main_arg0) = m' ((c.tc : Thread Cert.UvRefIdeal.nD Cert.UvRefIdeal.τ).loc Cert.UvRefIdeal.main_arg0)
          ∧ r.2.mem ((c.tc : Thread Cert.UvRefIdeal.nD Cert.UvRefIdeal.τ).loc Cert.UvRefIdeal.main_arg1) = m' ((c.tc : Thread Cert.UvRefIdeal.nD Cert.UvRefIdeal.τ).loc Cert.UvRefIdeal.main_arg1))

def preserves_UvDx_UvDxIdeal : Prop :=
  True

def algebraic_UvDxIdeal_UvDxRefIdeal [hUvDxIdeal : Cert.UvDxIdeal.Facts] [hUvDxRefIdeal : Cert.UvDxRefIdeal.Facts] : Prop :=
  ∀ (m : (ℓ : Loc Cert.UvDxIdeal.nD Cert.UvDxIdeal.τ Cert.UvDxIdeal.sig) → Buf (Elt Ideal) ℓ) (g : Dev Cert.UvDxIdeal.nD → PrngReg)
    (m' : (ℓ : Loc Cert.UvDxRefIdeal.nD Cert.UvDxRefIdeal.τ Cert.UvDxRefIdeal.sig) → Buf (Elt Ideal) ℓ) (g' : Dev Cert.UvDxRefIdeal.nD → PrngReg), Pre_UvDxIdeal m →
    (∀ c : Dev Cert.UvDxIdeal.nD,
      m' ((c.tc : Thread Cert.UvDxRefIdeal.nD Cert.UvDxRefIdeal.τ).loc Cert.UvDxRefIdeal.main_arg0) = m ((c.tc : Thread Cert.UvDxIdeal.nD Cert.UvDxIdeal.τ).loc Cert.UvDxIdeal.main_arg0)
      ∧ m' ((c.tc : Thread Cert.UvDxRefIdeal.nD Cert.UvDxRefIdeal.τ).loc Cert.UvDxRefIdeal.main_arg1) = m ((c.tc : Thread Cert.UvDxIdeal.nD Cert.UvDxIdeal.τ).loc Cert.UvDxIdeal.main_arg1)
      ∧ m' ((c.tc : Thread Cert.UvDxRefIdeal.nD Cert.UvDxRefIdeal.τ).loc Cert.UvDxRefIdeal.main_arg2) = m ((c.tc : Thread Cert.UvDxIdeal.nD Cert.UvDxIdeal.τ).loc Cert.UvDxIdeal.main_arg2)) →
    ∃ (v0 : (c : Dev Cert.UvDxIdeal.nD) → Buf (Elt Ideal) ((c.tc : Thread Cert.UvDxIdeal.nD Cert.UvDxIdeal.τ).loc Cert.UvDxIdeal.main_v0)),
      θ_run (Cert.UvDxIdeal.defs (F := Ideal)) (onTc (τ := Cert.UvDxIdeal.τ) (Cert.UvDxIdeal.main (F := Ideal))) ⟨m, fun _ => 0, g⟩ (fun r => ∀ c : Dev Cert.UvDxIdeal.nD,
          r.2.mem ((c.tc : Thread Cert.UvDxIdeal.nD Cert.UvDxIdeal.τ).loc Cert.UvDxIdeal.main_v0) = v0 c
          ∧ r.2.mem ((c.tc : Thread Cert.UvDxIdeal.nD Cert.UvDxIdeal.τ).loc Cert.UvDxIdeal.main_arg0) = m ((c.tc : Thread Cert.UvDxIdeal.nD Cert.UvDxIdeal.τ).loc Cert.UvDxIdeal.main_arg0)
          ∧ r.2.mem ((c.tc : Thread Cert.UvDxIdeal.nD Cert.UvDxIdeal.τ).loc Cert.UvDxIdeal.main_arg1) = m ((c.tc : Thread Cert.UvDxIdeal.nD Cert.UvDxIdeal.τ).loc Cert.UvDxIdeal.main_arg1)
          ∧ r.2.mem ((c.tc : Thread Cert.UvDxIdeal.nD Cert.UvDxIdeal.τ).loc Cert.UvDxIdeal.main_arg2) = m ((c.tc : Thread Cert.UvDxIdeal.nD Cert.UvDxIdeal.τ).loc Cert.UvDxIdeal.main_arg2))
      ∧ θ_run (Cert.UvDxRefIdeal.defs (F := Ideal)) (onTc (τ := Cert.UvDxRefIdeal.τ) (Cert.UvDxRefIdeal.main (F := Ideal))) ⟨m', fun _ => 0, g'⟩ (fun r => ∀ c : Dev Cert.UvDxRefIdeal.nD,
          r.2.mem ((c.tc : Thread Cert.UvDxRefIdeal.nD Cert.UvDxRefIdeal.τ).loc Cert.UvDxRefIdeal.main_v4) = v0 c
          ∧ r.2.mem ((c.tc : Thread Cert.UvDxRefIdeal.nD Cert.UvDxRefIdeal.τ).loc Cert.UvDxRefIdeal.main_arg0) = m' ((c.tc : Thread Cert.UvDxRefIdeal.nD Cert.UvDxRefIdeal.τ).loc Cert.UvDxRefIdeal.main_arg0)
          ∧ r.2.mem ((c.tc : Thread Cert.UvDxRefIdeal.nD Cert.UvDxRefIdeal.τ).loc Cert.UvDxRefIdeal.main_arg1) = m' ((c.tc : Thread Cert.UvDxRefIdeal.nD Cert.UvDxRefIdeal.τ).loc Cert.UvDxRefIdeal.main_arg1)
          ∧ r.2.mem ((c.tc : Thread Cert.UvDxRefIdeal.nD Cert.UvDxRefIdeal.τ).loc Cert.UvDxRefIdeal.main_arg2) = m' ((c.tc : Thread Cert.UvDxRefIdeal.nD Cert.UvDxRefIdeal.τ).loc Cert.UvDxRefIdeal.main_arg2))

def preserves_UvDw_UvDwIdeal : Prop :=
  True

def algebraic_UvDwIdeal_UvDwRefIdeal [hUvDwIdeal : Cert.UvDwIdeal.Facts] [hUvDwRefIdeal : Cert.UvDwRefIdeal.Facts] : Prop :=
  ∀ (m : (ℓ : Loc Cert.UvDwIdeal.nD Cert.UvDwIdeal.τ Cert.UvDwIdeal.sig) → Buf (Elt Ideal) ℓ) (g : Dev Cert.UvDwIdeal.nD → PrngReg)
    (m' : (ℓ : Loc Cert.UvDwRefIdeal.nD Cert.UvDwRefIdeal.τ Cert.UvDwRefIdeal.sig) → Buf (Elt Ideal) ℓ) (g' : Dev Cert.UvDwRefIdeal.nD → PrngReg), Pre_UvDwIdeal m →
    (∀ c : Dev Cert.UvDwIdeal.nD,
      m' ((c.tc : Thread Cert.UvDwRefIdeal.nD Cert.UvDwRefIdeal.τ).loc Cert.UvDwRefIdeal.main_arg0) = m ((c.tc : Thread Cert.UvDwIdeal.nD Cert.UvDwIdeal.τ).loc Cert.UvDwIdeal.main_arg0)
      ∧ m' ((c.tc : Thread Cert.UvDwRefIdeal.nD Cert.UvDwRefIdeal.τ).loc Cert.UvDwRefIdeal.main_arg1) = m ((c.tc : Thread Cert.UvDwIdeal.nD Cert.UvDwIdeal.τ).loc Cert.UvDwIdeal.main_arg1)) →
    ∃ (v0 : (c : Dev Cert.UvDwIdeal.nD) → Buf (Elt Ideal) ((c.tc : Thread Cert.UvDwIdeal.nD Cert.UvDwIdeal.τ).loc Cert.UvDwIdeal.main_v0)),
      θ_run (Cert.UvDwIdeal.defs (F := Ideal)) (onTc (τ := Cert.UvDwIdeal.τ) (Cert.UvDwIdeal.main (F := Ideal))) ⟨m, fun _ => 0, g⟩ (fun r => ∀ c : Dev Cert.UvDwIdeal.nD,
          r.2.mem ((c.tc : Thread Cert.UvDwIdeal.nD Cert.UvDwIdeal.τ).loc Cert.UvDwIdeal.main_v0) = v0 c
          ∧ r.2.mem ((c.tc : Thread Cert.UvDwIdeal.nD Cert.UvDwIdeal.τ).loc Cert.UvDwIdeal.main_arg0) = m ((c.tc : Thread Cert.UvDwIdeal.nD Cert.UvDwIdeal.τ).loc Cert.UvDwIdeal.main_arg0)
          ∧ r.2.mem ((c.tc : Thread Cert.UvDwIdeal.nD Cert.UvDwIdeal.τ).loc Cert.UvDwIdeal.main_arg1) = m ((c.tc : Thread Cert.UvDwIdeal.nD Cert.UvDwIdeal.τ).loc Cert.UvDwIdeal.main_arg1))
      ∧ θ_run (Cert.UvDwRefIdeal.defs (F := Ideal)) (onTc (τ := Cert.UvDwRefIdeal.τ) (Cert.UvDwRefIdeal.main (F := Ideal))) ⟨m', fun _ => 0, g'⟩ (fun r => ∀ c : Dev Cert.UvDwRefIdeal.nD,
          r.2.mem ((c.tc : Thread Cert.UvDwRefIdeal.nD Cert.UvDwRefIdeal.τ).loc Cert.UvDwRefIdeal.main_v5) = v0 c
          ∧ r.2.mem ((c.tc : Thread Cert.UvDwRefIdeal.nD Cert.UvDwRefIdeal.τ).loc Cert.UvDwRefIdeal.main_arg0) = m' ((c.tc : Thread Cert.UvDwRefIdeal.nD Cert.UvDwRefIdeal.τ).loc Cert.UvDwRefIdeal.main_arg0)
          ∧ r.2.mem ((c.tc : Thread Cert.UvDwRefIdeal.nD Cert.UvDwRefIdeal.τ).loc Cert.UvDwRefIdeal.main_arg1) = m' ((c.tc : Thread Cert.UvDwRefIdeal.nD Cert.UvDwRefIdeal.τ).loc Cert.UvDwRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v3) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MemKvDx_MemKvDxIdeal : Prop :=
  True

def algebraic_MemKvDxIdeal_MemKvDxRefIdeal [hMemKvDxIdeal : Cert.MemKvDxIdeal.Facts] [hMemKvDxRefIdeal : Cert.MemKvDxRefIdeal.Facts] : Prop :=
  ∀ (m : (ℓ : Loc Cert.MemKvDxIdeal.nD Cert.MemKvDxIdeal.τ Cert.MemKvDxIdeal.sig) → Buf (Elt Ideal) ℓ) (g : Dev Cert.MemKvDxIdeal.nD → PrngReg)
    (m' : (ℓ : Loc Cert.MemKvDxRefIdeal.nD Cert.MemKvDxRefIdeal.τ Cert.MemKvDxRefIdeal.sig) → Buf (Elt Ideal) ℓ) (g' : Dev Cert.MemKvDxRefIdeal.nD → PrngReg), Pre_MemKvDxIdeal m →
    (∀ c : Dev Cert.MemKvDxIdeal.nD,
      m' ((c.tc : Thread Cert.MemKvDxRefIdeal.nD Cert.MemKvDxRefIdeal.τ).loc Cert.MemKvDxRefIdeal.main_arg0) = m ((c.tc : Thread Cert.MemKvDxIdeal.nD Cert.MemKvDxIdeal.τ).loc Cert.MemKvDxIdeal.main_arg0)
      ∧ m' ((c.tc : Thread Cert.MemKvDxRefIdeal.nD Cert.MemKvDxRefIdeal.τ).loc Cert.MemKvDxRefIdeal.main_arg1) = m ((c.tc : Thread Cert.MemKvDxIdeal.nD Cert.MemKvDxIdeal.τ).loc Cert.MemKvDxIdeal.main_arg1)) →
    ∃ (v0 : (c : Dev Cert.MemKvDxIdeal.nD) → Buf (Elt Ideal) ((c.tc : Thread Cert.MemKvDxIdeal.nD Cert.MemKvDxIdeal.τ).loc Cert.MemKvDxIdeal.main_v0)),
      θ_run (Cert.MemKvDxIdeal.defs (F := Ideal)) (onTc (τ := Cert.MemKvDxIdeal.τ) (Cert.MemKvDxIdeal.main (F := Ideal))) ⟨m, fun _ => 0, g⟩ (fun r => ∀ c : Dev Cert.MemKvDxIdeal.nD,
          r.2.mem ((c.tc : Thread Cert.MemKvDxIdeal.nD Cert.MemKvDxIdeal.τ).loc Cert.MemKvDxIdeal.main_v0) = v0 c
          ∧ r.2.mem ((c.tc : Thread Cert.MemKvDxIdeal.nD Cert.MemKvDxIdeal.τ).loc Cert.MemKvDxIdeal.main_arg0) = m ((c.tc : Thread Cert.MemKvDxIdeal.nD Cert.MemKvDxIdeal.τ).loc Cert.MemKvDxIdeal.main_arg0)
          ∧ r.2.mem ((c.tc : Thread Cert.MemKvDxIdeal.nD Cert.MemKvDxIdeal.τ).loc Cert.MemKvDxIdeal.main_arg1) = m ((c.tc : Thread Cert.MemKvDxIdeal.nD Cert.MemKvDxIdeal.τ).loc Cert.MemKvDxIdeal.main_arg1))
      ∧ θ_run (Cert.MemKvDxRefIdeal.defs (F := Ideal)) (onTc (τ := Cert.MemKvDxRefIdeal.τ) (Cert.MemKvDxRefIdeal.main (F := Ideal))) ⟨m', fun _ => 0, g'⟩ (fun r => ∀ c : Dev Cert.MemKvDxRefIdeal.nD,
          r.2.mem ((c.tc : Thread Cert.MemKvDxRefIdeal.nD Cert.MemKvDxRefIdeal.τ).loc Cert.MemKvDxRefIdeal.main_v4) = v0 c
          ∧ r.2.mem ((c.tc : Thread Cert.MemKvDxRefIdeal.nD Cert.MemKvDxRefIdeal.τ).loc Cert.MemKvDxRefIdeal.main_arg0) = m' ((c.tc : Thread Cert.MemKvDxRefIdeal.nD Cert.MemKvDxRefIdeal.τ).loc Cert.MemKvDxRefIdeal.main_arg0)
          ∧ r.2.mem ((c.tc : Thread Cert.MemKvDxRefIdeal.nD Cert.MemKvDxRefIdeal.τ).loc Cert.MemKvDxRefIdeal.main_arg1) = m' ((c.tc : Thread Cert.MemKvDxRefIdeal.nD Cert.MemKvDxRefIdeal.τ).loc Cert.MemKvDxRefIdeal.main_arg1))

def preserves_MemKvDw_MemKvDwIdeal : Prop :=
  True

def algebraic_MemKvDwIdeal_MemKvDwRefIdeal [hMemKvDwIdeal : Cert.MemKvDwIdeal.Facts] [hMemKvDwRefIdeal : Cert.MemKvDwRefIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg)
    (m' : (ℓ : Loc Cert.MemKvDwRefIdeal.nD Cert.MemKvDwRefIdeal.τ Cert.MemKvDwRefIdeal.sig) → Buf (Elt Ideal) ℓ) (g' : Dev Cert.MemKvDwRefIdeal.nD → PrngReg), Pre_MemKvDwIdeal m →
    (∀ c : Dev Cert.MemKvDwIdeal.nD,
      m' ((c.tc : Thread Cert.MemKvDwRefIdeal.nD Cert.MemKvDwRefIdeal.τ).loc Cert.MemKvDwRefIdeal.main_arg0) = m ((c.tc : Thread Cert.MemKvDwIdeal.nD Cert.MemKvDwIdeal.τ).loc Cert.MemKvDwIdeal.main_arg0)
      ∧ m' ((c.tc : Thread Cert.MemKvDwRefIdeal.nD Cert.MemKvDwRefIdeal.τ).loc Cert.MemKvDwRefIdeal.main_arg1) = m ((c.tc : Thread Cert.MemKvDwIdeal.nD Cert.MemKvDwIdeal.τ).loc Cert.MemKvDwIdeal.main_arg1)) →
    ∃ (v0 : (c : Dev Cert.MemKvDwIdeal.nD) → Buf (Elt Ideal) ((c.tc : Thread Cert.MemKvDwIdeal.nD Cert.MemKvDwIdeal.τ).loc Cert.MemKvDwIdeal.main_v0)),
      θ_run (Cert.MemKvDwIdeal.defs (F := Ideal)) (onTc (τ := Cert.MemKvDwIdeal.τ) (Cert.MemKvDwIdeal.main (F := Ideal))) ⟨m, fun _ => 0, g⟩ (fun r => ∀ c : Dev Cert.MemKvDwIdeal.nD,
          r.2.mem ((c.tc : Thread Cert.MemKvDwIdeal.nD Cert.MemKvDwIdeal.τ).loc Cert.MemKvDwIdeal.main_v0) = v0 c
          ∧ r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
          ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1))
      ∧ θ_run (Cert.MemKvDwRefIdeal.defs (F := Ideal)) (onTc (τ := Cert.MemKvDwRefIdeal.τ) (Cert.MemKvDwRefIdeal.main (F := Ideal))) ⟨m', fun _ => 0, g'⟩ (fun r => ∀ c : Dev Cert.MemKvDwRefIdeal.nD,
          r.2.mem ((c.tc : Thread Cert.MemKvDwRefIdeal.nD Cert.MemKvDwRefIdeal.τ).loc Cert.MemKvDwRefIdeal.main_v6) = v0 c
          ∧ r.2.mem ((c.tc : Thread Cert.MemKvDwRefIdeal.nD Cert.MemKvDwRefIdeal.τ).loc Cert.MemKvDwRefIdeal.main_arg0) = m' ((c.tc : Thread Cert.MemKvDwRefIdeal.nD Cert.MemKvDwRefIdeal.τ).loc Cert.MemKvDwRefIdeal.main_arg0)
          ∧ r.2.mem ((c.tc : Thread Cert.MemKvDwRefIdeal.nD Cert.MemKvDwRefIdeal.τ).loc Cert.MemKvDwRefIdeal.main_arg1) = m' ((c.tc : Thread Cert.MemKvDwRefIdeal.nD Cert.MemKvDwRefIdeal.τ).loc Cert.MemKvDwRefIdeal.main_arg1))

def preserves_OutNorms_OutNormsIdeal : Prop :=
  True

def algebraic_OutNormsIdeal_OutNormsRefIdeal [hOutNormsIdeal : Cert.OutNormsIdeal.Facts] [hOutNormsRefIdeal : Cert.OutNormsRefIdeal.Facts] : Prop :=
  ∀ (m : (ℓ : Loc Cert.OutNormsIdeal.nD Cert.OutNormsIdeal.τ Cert.OutNormsIdeal.sig) → Buf (Elt Ideal) ℓ) (g : Dev Cert.OutNormsIdeal.nD → PrngReg)
    (m' : (ℓ : Loc Cert.OutNormsRefIdeal.nD Cert.OutNormsRefIdeal.τ Cert.OutNormsRefIdeal.sig) → Buf (Elt Ideal) ℓ) (g' : Dev Cert.OutNormsRefIdeal.nD → PrngReg), Pre_OutNormsIdeal m →
    (∀ c : Dev Cert.OutNormsIdeal.nD,
      m' ((c.tc : Thread Cert.OutNormsRefIdeal.nD Cert.OutNormsRefIdeal.τ).loc Cert.OutNormsRefIdeal.main_arg0) = m ((c.tc : Thread Cert.OutNormsIdeal.nD Cert.OutNormsIdeal.τ).loc Cert.OutNormsIdeal.main_arg0)
      ∧ m' ((c.tc : Thread Cert.OutNormsRefIdeal.nD Cert.OutNormsRefIdeal.τ).loc Cert.OutNormsRefIdeal.main_arg1) = m ((c.tc : Thread Cert.OutNormsIdeal.nD Cert.OutNormsIdeal.τ).loc Cert.OutNormsIdeal.main_arg1)
      ∧ m' ((c.tc : Thread Cert.OutNormsRefIdeal.nD Cert.OutNormsRefIdeal.τ).loc Cert.OutNormsRefIdeal.main_arg2) = m ((c.tc : Thread Cert.OutNormsIdeal.nD Cert.OutNormsIdeal.τ).loc Cert.OutNormsIdeal.main_arg2)
      ∧ m' ((c.tc : Thread Cert.OutNormsRefIdeal.nD Cert.OutNormsRefIdeal.τ).loc Cert.OutNormsRefIdeal.main_arg3) = m ((c.tc : Thread Cert.OutNormsIdeal.nD Cert.OutNormsIdeal.τ).loc Cert.OutNormsIdeal.main_arg3)
      ∧ m' ((c.tc : Thread Cert.OutNormsRefIdeal.nD Cert.OutNormsRefIdeal.τ).loc Cert.OutNormsRefIdeal.main_arg4) = m ((c.tc : Thread Cert.OutNormsIdeal.nD Cert.OutNormsIdeal.τ).loc Cert.OutNormsIdeal.main_arg4)) →
    ∃ (v0 : (c : Dev Cert.OutNormsIdeal.nD) → Buf (Elt Ideal) ((c.tc : Thread Cert.OutNormsIdeal.nD Cert.OutNormsIdeal.τ).loc Cert.OutNormsIdeal.main_v0_0)) (v1 : (c : Dev Cert.OutNormsIdeal.nD) → Buf (Elt Ideal) ((c.tc : Thread Cert.OutNormsIdeal.nD Cert.OutNormsIdeal.τ).loc Cert.OutNormsIdeal.main_v0_1)) (v2 : (c : Dev Cert.OutNormsIdeal.nD) → Buf (Elt Ideal) ((c.tc : Thread Cert.OutNormsIdeal.nD Cert.OutNormsIdeal.τ).loc Cert.OutNormsIdeal.main_v0_2)),
      θ_run (Cert.OutNormsIdeal.defs (F := Ideal)) (onTc (τ := Cert.OutNormsIdeal.τ) (Cert.OutNormsIdeal.main (F := Ideal))) ⟨m, fun _ => 0, g⟩ (fun r => ∀ c : Dev Cert.OutNormsIdeal.nD,
          r.2.mem ((c.tc : Thread Cert.OutNormsIdeal.nD Cert.OutNormsIdeal.τ).loc Cert.OutNormsIdeal.main_v0_0) = v0 c
          ∧ r.2.mem ((c.tc : Thread Cert.OutNormsIdeal.nD Cert.OutNormsIdeal.τ).loc Cert.OutNormsIdeal.main_v0_1) = v1 c
          ∧ r.2.mem ((c.tc : Thread Cert.OutNormsIdeal.nD Cert.OutNormsIdeal.τ).loc Cert.OutNormsIdeal.main_v0_2) = v2 c
          ∧ r.2.mem ((c.tc : Thread Cert.OutNormsIdeal.nD Cert.OutNormsIdeal.τ).loc Cert.OutNormsIdeal.main_arg0) = m ((c.tc : Thread Cert.OutNormsIdeal.nD Cert.OutNormsIdeal.τ).loc Cert.OutNormsIdeal.main_arg0)
          ∧ r.2.mem ((c.tc : Thread Cert.OutNormsIdeal.nD Cert.OutNormsIdeal.τ).loc Cert.OutNormsIdeal.main_arg1) = m ((c.tc : Thread Cert.OutNormsIdeal.nD Cert.OutNormsIdeal.τ).loc Cert.OutNormsIdeal.main_arg1)
          ∧ r.2.mem ((c.tc : Thread Cert.OutNormsIdeal.nD Cert.OutNormsIdeal.τ).loc Cert.OutNormsIdeal.main_arg2) = m ((c.tc : Thread Cert.OutNormsIdeal.nD Cert.OutNormsIdeal.τ).loc Cert.OutNormsIdeal.main_arg2)
          ∧ r.2.mem ((c.tc : Thread Cert.OutNormsIdeal.nD Cert.OutNormsIdeal.τ).loc Cert.OutNormsIdeal.main_arg3) = m ((c.tc : Thread Cert.OutNormsIdeal.nD Cert.OutNormsIdeal.τ).loc Cert.OutNormsIdeal.main_arg3)
          ∧ r.2.mem ((c.tc : Thread Cert.OutNormsIdeal.nD Cert.OutNormsIdeal.τ).loc Cert.OutNormsIdeal.main_arg4) = m ((c.tc : Thread Cert.OutNormsIdeal.nD Cert.OutNormsIdeal.τ).loc Cert.OutNormsIdeal.main_arg4))
      ∧ θ_run (Cert.OutNormsRefIdeal.defs (F := Ideal)) (onTc (τ := Cert.OutNormsRefIdeal.τ) (Cert.OutNormsRefIdeal.main (F := Ideal))) ⟨m', fun _ => 0, g'⟩ (fun r => ∀ c : Dev Cert.OutNormsRefIdeal.nD,
          r.2.mem ((c.tc : Thread Cert.OutNormsRefIdeal.nD Cert.OutNormsRefIdeal.τ).loc Cert.OutNormsRefIdeal.main_v2) = v0 c
          ∧ r.2.mem ((c.tc : Thread Cert.OutNormsRefIdeal.nD Cert.OutNormsRefIdeal.τ).loc Cert.OutNormsRefIdeal.main_v15) = v1 c
          ∧ r.2.mem ((c.tc : Thread Cert.OutNormsRefIdeal.nD Cert.OutNormsRefIdeal.τ).loc Cert.OutNormsRefIdeal.main_v28) = v2 c
          ∧ r.2.mem ((c.tc : Thread Cert.OutNormsRefIdeal.nD Cert.OutNormsRefIdeal.τ).loc Cert.OutNormsRefIdeal.main_arg0) = m' ((c.tc : Thread Cert.OutNormsRefIdeal.nD Cert.OutNormsRefIdeal.τ).loc Cert.OutNormsRefIdeal.main_arg0)
          ∧ r.2.mem ((c.tc : Thread Cert.OutNormsRefIdeal.nD Cert.OutNormsRefIdeal.τ).loc Cert.OutNormsRefIdeal.main_arg1) = m' ((c.tc : Thread Cert.OutNormsRefIdeal.nD Cert.OutNormsRefIdeal.τ).loc Cert.OutNormsRefIdeal.main_arg1)
          ∧ r.2.mem ((c.tc : Thread Cert.OutNormsRefIdeal.nD Cert.OutNormsRefIdeal.τ).loc Cert.OutNormsRefIdeal.main_arg2) = m' ((c.tc : Thread Cert.OutNormsRefIdeal.nD Cert.OutNormsRefIdeal.τ).loc Cert.OutNormsRefIdeal.main_arg2)
          ∧ r.2.mem ((c.tc : Thread Cert.OutNormsRefIdeal.nD Cert.OutNormsRefIdeal.τ).loc Cert.OutNormsRefIdeal.main_arg3) = m' ((c.tc : Thread Cert.OutNormsRefIdeal.nD Cert.OutNormsRefIdeal.τ).loc Cert.OutNormsRefIdeal.main_arg3)
          ∧ r.2.mem ((c.tc : Thread Cert.OutNormsRefIdeal.nD Cert.OutNormsRefIdeal.τ).loc Cert.OutNormsRefIdeal.main_arg4) = m' ((c.tc : Thread Cert.OutNormsRefIdeal.nD Cert.OutNormsRefIdeal.τ).loc Cert.OutNormsRefIdeal.main_arg4))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)) (v3 : (c : Dev Cert.DownLossIdeal.nD) → Buf (Elt Ideal) ((c.tc : Thread Cert.DownLossIdeal.nD Cert.DownLossIdeal.τ).loc Cert.DownLossIdeal.main_v0_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_v0_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v33) = v0 c
          ∧ r.2.mem ((c.tc : Thread Cert.DownLossRefIdeal.nD Cert.DownLossRefIdeal.τ).loc Cert.DownLossRefIdeal.main_v53) = v1 c
          ∧ r.2.mem ((c.tc : Thread Cert.DownLossRefIdeal.nD Cert.DownLossRefIdeal.τ).loc Cert.DownLossRefIdeal.main_v54) = v2 c
          ∧ r.2.mem ((c.tc : Thread Cert.DownLossRefIdeal.nD Cert.DownLossRefIdeal.τ).loc Cert.DownLossRefIdeal.main_v36) = v3 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)
      ∧ m' ((c.tc : Thread Cert.UpDxRefIdeal.nD Cert.UpDxRefIdeal.τ).loc Cert.UpDxRefIdeal.main_arg5) = m ((c.tc : Thread Cert.UpDxIdeal.nD Cert.UpDxIdeal.τ).loc Cert.UpDxIdeal.main_arg5)
      ∧ m' ((c.tc : Thread Cert.UpDxRefIdeal.nD Cert.UpDxRefIdeal.τ).loc Cert.UpDxRefIdeal.main_arg6) = m ((c.tc : Thread Cert.UpDxIdeal.nD Cert.UpDxIdeal.τ).loc Cert.UpDxIdeal.main_arg6)) →
    ∃ (v0 : (c : Dev Cert.UpDxIdeal.nD) → Buf (Elt Ideal) ((c.tc : Thread Cert.UpDxIdeal.nD Cert.UpDxIdeal.τ).loc Cert.UpDxIdeal.main_v0_0)) (v1 : (c : Dev Cert.UpDxIdeal.nD) → Buf (Elt Ideal) ((c.tc : Thread Cert.UpDxIdeal.nD Cert.UpDxIdeal.τ).loc Cert.UpDxIdeal.main_v0_1)) (v2 : (c : Dev Cert.UpDxIdeal.nD) → Buf (Elt Ideal) ((c.tc : Thread Cert.UpDxIdeal.nD Cert.UpDxIdeal.τ).loc Cert.UpDxIdeal.main_v0_2)) (v3 : (c : Dev Cert.UpDxIdeal.nD) → Buf (Elt Ideal) ((c.tc : Thread Cert.UpDxIdeal.nD Cert.UpDxIdeal.τ).loc Cert.UpDxIdeal.main_v0_3)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0_0) = v0 c
          ∧ r.2.mem ((c.tc : Thread Cert.UpDxIdeal.nD Cert.UpDxIdeal.τ).loc Cert.UpDxIdeal.main_v0_1) = v1 c
          ∧ r.2.mem ((c.tc : Thread Cert.UpDxIdeal.nD Cert.UpDxIdeal.τ).loc Cert.UpDxIdeal.main_v0_2) = v2 c
          ∧ r.2.mem ((c.tc : Thread Cert.UpDxIdeal.nD Cert.UpDxIdeal.τ).loc Cert.UpDxIdeal.main_v0_3) = v3 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4)
          ∧ r.2.mem ((c.tc : Thread Cert.UpDxIdeal.nD Cert.UpDxIdeal.τ).loc Cert.UpDxIdeal.main_arg5) = m ((c.tc : Thread Cert.UpDxIdeal.nD Cert.UpDxIdeal.τ).loc Cert.UpDxIdeal.main_arg5)
          ∧ r.2.mem ((c.tc : Thread Cert.UpDxIdeal.nD Cert.UpDxIdeal.τ).loc Cert.UpDxIdeal.main_arg6) = m ((c.tc : Thread Cert.UpDxIdeal.nD Cert.UpDxIdeal.τ).loc Cert.UpDxIdeal.main_arg6))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v38) = v0 c
          ∧ r.2.mem ((c.tc : Thread Cert.UpDxRefIdeal.nD Cert.UpDxRefIdeal.τ).loc Cert.UpDxRefIdeal.main_v73) = v1 c
          ∧ r.2.mem ((c.tc : Thread Cert.UpDxRefIdeal.nD Cert.UpDxRefIdeal.τ).loc Cert.UpDxRefIdeal.main_v21) = v2 c
          ∧ r.2.mem ((c.tc : Thread Cert.UpDxRefIdeal.nD Cert.UpDxRefIdeal.τ).loc Cert.UpDxRefIdeal.main_v56) = v3 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4)
          ∧ r.2.mem ((c.tc : Thread Cert.UpDxRefIdeal.nD Cert.UpDxRefIdeal.τ).loc Cert.UpDxRefIdeal.main_arg5) = m' ((c.tc : Thread Cert.UpDxRefIdeal.nD Cert.UpDxRefIdeal.τ).loc Cert.UpDxRefIdeal.main_arg5)
          ∧ r.2.mem ((c.tc : Thread Cert.UpDxRefIdeal.nD Cert.UpDxRefIdeal.τ).loc Cert.UpDxRefIdeal.main_arg6) = m' ((c.tc : Thread Cert.UpDxRefIdeal.nD Cert.UpDxRefIdeal.τ).loc Cert.UpDxRefIdeal.main_arg6))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v0_0)) (v1 : (c : Dev Cert.InDxIdeal.nD) → Buf (Elt Ideal) ((c.tc : Thread Cert.InDxIdeal.nD Cert.InDxIdeal.τ).loc Cert.InDxIdeal.main_v0_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0_0) = v0 c
          ∧ r.2.mem ((c.tc : Thread Cert.InDxIdeal.nD Cert.InDxIdeal.τ).loc Cert.InDxIdeal.main_v0_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v38) = v0 c
          ∧ r.2.mem ((c.tc : Thread Cert.InDxRefIdeal.nD Cert.InDxRefIdeal.τ).loc Cert.InDxRefIdeal.main_v21) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_RmsQBwd_RmsQBwdIdeal : Prop :=
  True

def algebraic_RmsQBwdIdeal_RmsQBwdRefIdeal [hRmsQBwdIdeal : Cert.RmsQBwdIdeal.Facts] [hRmsQBwdRefIdeal : Cert.RmsQBwdRefIdeal.Facts] : Prop :=
  ∀ (m : (ℓ : Loc Cert.RmsQBwdIdeal.nD Cert.RmsQBwdIdeal.τ Cert.RmsQBwdIdeal.sig) → Buf (Elt Ideal) ℓ) (g : Dev Cert.RmsQBwdIdeal.nD → PrngReg)
    (m' : (ℓ : Loc Cert.RmsQBwdRefIdeal.nD Cert.RmsQBwdRefIdeal.τ Cert.RmsQBwdRefIdeal.sig) → Buf (Elt Ideal) ℓ) (g' : Dev Cert.RmsQBwdRefIdeal.nD → PrngReg), Pre_RmsQBwdIdeal m →
    (∀ c : Dev Cert.RmsQBwdIdeal.nD,
      m' ((c.tc : Thread Cert.RmsQBwdRefIdeal.nD Cert.RmsQBwdRefIdeal.τ).loc Cert.RmsQBwdRefIdeal.main_arg0) = m ((c.tc : Thread Cert.RmsQBwdIdeal.nD Cert.RmsQBwdIdeal.τ).loc Cert.RmsQBwdIdeal.main_arg0)
      ∧ m' ((c.tc : Thread Cert.RmsQBwdRefIdeal.nD Cert.RmsQBwdRefIdeal.τ).loc Cert.RmsQBwdRefIdeal.main_arg1) = m ((c.tc : Thread Cert.RmsQBwdIdeal.nD Cert.RmsQBwdIdeal.τ).loc Cert.RmsQBwdIdeal.main_arg1)
      ∧ m' ((c.tc : Thread Cert.RmsQBwdRefIdeal.nD Cert.RmsQBwdRefIdeal.τ).loc Cert.RmsQBwdRefIdeal.main_arg2) = m ((c.tc : Thread Cert.RmsQBwdIdeal.nD Cert.RmsQBwdIdeal.τ).loc Cert.RmsQBwdIdeal.main_arg2)) →
    ∃ (v0 : (c : Dev Cert.RmsQBwdIdeal.nD) → Buf (Elt Ideal) ((c.tc : Thread Cert.RmsQBwdIdeal.nD Cert.RmsQBwdIdeal.τ).loc Cert.RmsQBwdIdeal.main_v0_0)) (v1 : (c : Dev Cert.RmsQBwdIdeal.nD) → Buf (Elt Ideal) ((c.tc : Thread Cert.RmsQBwdIdeal.nD Cert.RmsQBwdIdeal.τ).loc Cert.RmsQBwdIdeal.main_v0_1)),
      θ_run (Cert.RmsQBwdIdeal.defs (F := Ideal)) (onTc (τ := Cert.RmsQBwdIdeal.τ) (Cert.RmsQBwdIdeal.main (F := Ideal))) ⟨m, fun _ => 0, g⟩ (fun r => ∀ c : Dev Cert.RmsQBwdIdeal.nD,
          r.2.mem ((c.tc : Thread Cert.RmsQBwdIdeal.nD Cert.RmsQBwdIdeal.τ).loc Cert.RmsQBwdIdeal.main_v0_0) = v0 c
          ∧ r.2.mem ((c.tc : Thread Cert.RmsQBwdIdeal.nD Cert.RmsQBwdIdeal.τ).loc Cert.RmsQBwdIdeal.main_v0_1) = v1 c
          ∧ r.2.mem ((c.tc : Thread Cert.RmsQBwdIdeal.nD Cert.RmsQBwdIdeal.τ).loc Cert.RmsQBwdIdeal.main_arg0) = m ((c.tc : Thread Cert.RmsQBwdIdeal.nD Cert.RmsQBwdIdeal.τ).loc Cert.RmsQBwdIdeal.main_arg0)
          ∧ r.2.mem ((c.tc : Thread Cert.RmsQBwdIdeal.nD Cert.RmsQBwdIdeal.τ).loc Cert.RmsQBwdIdeal.main_arg1) = m ((c.tc : Thread Cert.RmsQBwdIdeal.nD Cert.RmsQBwdIdeal.τ).loc Cert.RmsQBwdIdeal.main_arg1)
          ∧ r.2.mem ((c.tc : Thread Cert.RmsQBwdIdeal.nD Cert.RmsQBwdIdeal.τ).loc Cert.RmsQBwdIdeal.main_arg2) = m ((c.tc : Thread Cert.RmsQBwdIdeal.nD Cert.RmsQBwdIdeal.τ).loc Cert.RmsQBwdIdeal.main_arg2))
      ∧ θ_run (Cert.RmsQBwdRefIdeal.defs (F := Ideal)) (onTc (τ := Cert.RmsQBwdRefIdeal.τ) (Cert.RmsQBwdRefIdeal.main (F := Ideal))) ⟨m', fun _ => 0, g'⟩ (fun r => ∀ c : Dev Cert.RmsQBwdRefIdeal.nD,
          r.2.mem ((c.tc : Thread Cert.RmsQBwdRefIdeal.nD Cert.RmsQBwdRefIdeal.τ).loc Cert.RmsQBwdRefIdeal.main_v36) = v0 c
          ∧ r.2.mem ((c.tc : Thread Cert.RmsQBwdRefIdeal.nD Cert.RmsQBwdRefIdeal.τ).loc Cert.RmsQBwdRefIdeal.main_v19) = v1 c
          ∧ r.2.mem ((c.tc : Thread Cert.RmsQBwdRefIdeal.nD Cert.RmsQBwdRefIdeal.τ).loc Cert.RmsQBwdRefIdeal.main_arg0) = m' ((c.tc : Thread Cert.RmsQBwdRefIdeal.nD Cert.RmsQBwdRefIdeal.τ).loc Cert.RmsQBwdRefIdeal.main_arg0)
          ∧ r.2.mem ((c.tc : Thread Cert.RmsQBwdRefIdeal.nD Cert.RmsQBwdRefIdeal.τ).loc Cert.RmsQBwdRefIdeal.main_arg1) = m' ((c.tc : Thread Cert.RmsQBwdRefIdeal.nD Cert.RmsQBwdRefIdeal.τ).loc Cert.RmsQBwdRefIdeal.main_arg1)
          ∧ r.2.mem ((c.tc : Thread Cert.RmsQBwdRefIdeal.nD Cert.RmsQBwdRefIdeal.τ).loc Cert.RmsQBwdRefIdeal.main_arg2) = m' ((c.tc : Thread Cert.RmsQBwdRefIdeal.nD Cert.RmsQBwdRefIdeal.τ).loc Cert.RmsQBwdRefIdeal.main_arg2))

def preserves_RmsKvBwd_RmsKvBwdIdeal : Prop :=
  True

def algebraic_RmsKvBwdIdeal_RmsKvBwdRefIdeal [hRmsKvBwdIdeal : Cert.RmsKvBwdIdeal.Facts] [hRmsKvBwdRefIdeal : Cert.RmsKvBwdRefIdeal.Facts] : Prop :=
  ∀ (m : (ℓ : Loc Cert.RmsKvBwdIdeal.nD Cert.RmsKvBwdIdeal.τ Cert.RmsKvBwdIdeal.sig) → Buf (Elt Ideal) ℓ) (g : Dev Cert.RmsKvBwdIdeal.nD → PrngReg)
    (m' : (ℓ : Loc Cert.RmsKvBwdRefIdeal.nD Cert.RmsKvBwdRefIdeal.τ Cert.RmsKvBwdRefIdeal.sig) → Buf (Elt Ideal) ℓ) (g' : Dev Cert.RmsKvBwdRefIdeal.nD → PrngReg), Pre_RmsKvBwdIdeal m →
    (∀ c : Dev Cert.RmsKvBwdIdeal.nD,
      m' ((c.tc : Thread Cert.RmsKvBwdRefIdeal.nD Cert.RmsKvBwdRefIdeal.τ).loc Cert.RmsKvBwdRefIdeal.main_arg0) = m ((c.tc : Thread Cert.RmsKvBwdIdeal.nD Cert.RmsKvBwdIdeal.τ).loc Cert.RmsKvBwdIdeal.main_arg0)
      ∧ m' ((c.tc : Thread Cert.RmsKvBwdRefIdeal.nD Cert.RmsKvBwdRefIdeal.τ).loc Cert.RmsKvBwdRefIdeal.main_arg1) = m ((c.tc : Thread Cert.RmsKvBwdIdeal.nD Cert.RmsKvBwdIdeal.τ).loc Cert.RmsKvBwdIdeal.main_arg1)
      ∧ m' ((c.tc : Thread Cert.RmsKvBwdRefIdeal.nD Cert.RmsKvBwdRefIdeal.τ).loc Cert.RmsKvBwdRefIdeal.main_arg2) = m ((c.tc : Thread Cert.RmsKvBwdIdeal.nD Cert.RmsKvBwdIdeal.τ).loc Cert.RmsKvBwdIdeal.main_arg2)) →
    ∃ (v0 : (c : Dev Cert.RmsKvBwdIdeal.nD) → Buf (Elt Ideal) ((c.tc : Thread Cert.RmsKvBwdIdeal.nD Cert.RmsKvBwdIdeal.τ).loc Cert.RmsKvBwdIdeal.main_v0_0)) (v1 : (c : Dev Cert.RmsKvBwdIdeal.nD) → Buf (Elt Ideal) ((c.tc : Thread Cert.RmsKvBwdIdeal.nD Cert.RmsKvBwdIdeal.τ).loc Cert.RmsKvBwdIdeal.main_v0_1)),
      θ_run (Cert.RmsKvBwdIdeal.defs (F := Ideal)) (onTc (τ := Cert.RmsKvBwdIdeal.τ) (Cert.RmsKvBwdIdeal.main (F := Ideal))) ⟨m, fun _ => 0, g⟩ (fun r => ∀ c : Dev Cert.RmsKvBwdIdeal.nD,
          r.2.mem ((c.tc : Thread Cert.RmsKvBwdIdeal.nD Cert.RmsKvBwdIdeal.τ).loc Cert.RmsKvBwdIdeal.main_v0_0) = v0 c
          ∧ r.2.mem ((c.tc : Thread Cert.RmsKvBwdIdeal.nD Cert.RmsKvBwdIdeal.τ).loc Cert.RmsKvBwdIdeal.main_v0_1) = v1 c
          ∧ r.2.mem ((c.tc : Thread Cert.RmsKvBwdIdeal.nD Cert.RmsKvBwdIdeal.τ).loc Cert.RmsKvBwdIdeal.main_arg0) = m ((c.tc : Thread Cert.RmsKvBwdIdeal.nD Cert.RmsKvBwdIdeal.τ).loc Cert.RmsKvBwdIdeal.main_arg0)
          ∧ r.2.mem ((c.tc : Thread Cert.RmsKvBwdIdeal.nD Cert.RmsKvBwdIdeal.τ).loc Cert.RmsKvBwdIdeal.main_arg1) = m ((c.tc : Thread Cert.RmsKvBwdIdeal.nD Cert.RmsKvBwdIdeal.τ).loc Cert.RmsKvBwdIdeal.main_arg1)
          ∧ r.2.mem ((c.tc : Thread Cert.RmsKvBwdIdeal.nD Cert.RmsKvBwdIdeal.τ).loc Cert.RmsKvBwdIdeal.main_arg2) = m ((c.tc : Thread Cert.RmsKvBwdIdeal.nD Cert.RmsKvBwdIdeal.τ).loc Cert.RmsKvBwdIdeal.main_arg2))
      ∧ θ_run (Cert.RmsKvBwdRefIdeal.defs (F := Ideal)) (onTc (τ := Cert.RmsKvBwdRefIdeal.τ) (Cert.RmsKvBwdRefIdeal.main (F := Ideal))) ⟨m', fun _ => 0, g'⟩ (fun r => ∀ c : Dev Cert.RmsKvBwdRefIdeal.nD,
          r.2.mem ((c.tc : Thread Cert.RmsKvBwdRefIdeal.nD Cert.RmsKvBwdRefIdeal.τ).loc Cert.RmsKvBwdRefIdeal.main_v36) = v0 c
          ∧ r.2.mem ((c.tc : Thread Cert.RmsKvBwdRefIdeal.nD Cert.RmsKvBwdRefIdeal.τ).loc Cert.RmsKvBwdRefIdeal.main_v19) = v1 c
          ∧ r.2.mem ((c.tc : Thread Cert.RmsKvBwdRefIdeal.nD Cert.RmsKvBwdRefIdeal.τ).loc Cert.RmsKvBwdRefIdeal.main_arg0) = m' ((c.tc : Thread Cert.RmsKvBwdRefIdeal.nD Cert.RmsKvBwdRefIdeal.τ).loc Cert.RmsKvBwdRefIdeal.main_arg0)
          ∧ r.2.mem ((c.tc : Thread Cert.RmsKvBwdRefIdeal.nD Cert.RmsKvBwdRefIdeal.τ).loc Cert.RmsKvBwdRefIdeal.main_arg1) = m' ((c.tc : Thread Cert.RmsKvBwdRefIdeal.nD Cert.RmsKvBwdRefIdeal.τ).loc Cert.RmsKvBwdRefIdeal.main_arg1)
          ∧ r.2.mem ((c.tc : Thread Cert.RmsKvBwdRefIdeal.nD Cert.RmsKvBwdRefIdeal.τ).loc Cert.RmsKvBwdRefIdeal.main_arg2) = m' ((c.tc : Thread Cert.RmsKvBwdRefIdeal.nD Cert.RmsKvBwdRefIdeal.τ).loc Cert.RmsKvBwdRefIdeal.main_arg2))

def preserves_RmsMemBwd_RmsMemBwdIdeal : Prop :=
  True

def algebraic_RmsMemBwdIdeal_RmsMemBwdRefIdeal [hRmsMemBwdIdeal : Cert.RmsMemBwdIdeal.Facts] [hRmsMemBwdRefIdeal : Cert.RmsMemBwdRefIdeal.Facts] : Prop :=
  ∀ (m : (ℓ : Loc Cert.RmsMemBwdIdeal.nD Cert.RmsMemBwdIdeal.τ Cert.RmsMemBwdIdeal.sig) → Buf (Elt Ideal) ℓ) (g : Dev Cert.RmsMemBwdIdeal.nD → PrngReg)
    (m' : (ℓ : Loc Cert.RmsMemBwdRefIdeal.nD Cert.RmsMemBwdRefIdeal.τ Cert.RmsMemBwdRefIdeal.sig) → Buf (Elt Ideal) ℓ) (g' : Dev Cert.RmsMemBwdRefIdeal.nD → PrngReg), Pre_RmsMemBwdIdeal m →
    (∀ c : Dev Cert.RmsMemBwdIdeal.nD,
      m' ((c.tc : Thread Cert.RmsMemBwdRefIdeal.nD Cert.RmsMemBwdRefIdeal.τ).loc Cert.RmsMemBwdRefIdeal.main_arg0) = m ((c.tc : Thread Cert.RmsMemBwdIdeal.nD Cert.RmsMemBwdIdeal.τ).loc Cert.RmsMemBwdIdeal.main_arg0)
      ∧ m' ((c.tc : Thread Cert.RmsMemBwdRefIdeal.nD Cert.RmsMemBwdRefIdeal.τ).loc Cert.RmsMemBwdRefIdeal.main_arg1) = m ((c.tc : Thread Cert.RmsMemBwdIdeal.nD Cert.RmsMemBwdIdeal.τ).loc Cert.RmsMemBwdIdeal.main_arg1)
      ∧ m' ((c.tc : Thread Cert.RmsMemBwdRefIdeal.nD Cert.RmsMemBwdRefIdeal.τ).loc Cert.RmsMemBwdRefIdeal.main_arg2) = m ((c.tc : Thread Cert.RmsMemBwdIdeal.nD Cert.RmsMemBwdIdeal.τ).loc Cert.RmsMemBwdIdeal.main_arg2)) →
    ∃ (v0 : (c : Dev Cert.RmsMemBwdIdeal.nD) → Buf (Elt Ideal) ((c.tc : Thread Cert.RmsMemBwdIdeal.nD Cert.RmsMemBwdIdeal.τ).loc Cert.RmsMemBwdIdeal.main_v0_0)) (v1 : (c : Dev Cert.RmsMemBwdIdeal.nD) → Buf (Elt Ideal) ((c.tc : Thread Cert.RmsMemBwdIdeal.nD Cert.RmsMemBwdIdeal.τ).loc Cert.RmsMemBwdIdeal.main_v0_1)),
      θ_run (Cert.RmsMemBwdIdeal.defs (F := Ideal)) (onTc (τ := Cert.RmsMemBwdIdeal.τ) (Cert.RmsMemBwdIdeal.main (F := Ideal))) ⟨m, fun _ => 0, g⟩ (fun r => ∀ c : Dev Cert.RmsMemBwdIdeal.nD,
          r.2.mem ((c.tc : Thread Cert.RmsMemBwdIdeal.nD Cert.RmsMemBwdIdeal.τ).loc Cert.RmsMemBwdIdeal.main_v0_0) = v0 c
          ∧ r.2.mem ((c.tc : Thread Cert.RmsMemBwdIdeal.nD Cert.RmsMemBwdIdeal.τ).loc Cert.RmsMemBwdIdeal.main_v0_1) = v1 c
          ∧ r.2.mem ((c.tc : Thread Cert.RmsMemBwdIdeal.nD Cert.RmsMemBwdIdeal.τ).loc Cert.RmsMemBwdIdeal.main_arg0) = m ((c.tc : Thread Cert.RmsMemBwdIdeal.nD Cert.RmsMemBwdIdeal.τ).loc Cert.RmsMemBwdIdeal.main_arg0)
          ∧ r.2.mem ((c.tc : Thread Cert.RmsMemBwdIdeal.nD Cert.RmsMemBwdIdeal.τ).loc Cert.RmsMemBwdIdeal.main_arg1) = m ((c.tc : Thread Cert.RmsMemBwdIdeal.nD Cert.RmsMemBwdIdeal.τ).loc Cert.RmsMemBwdIdeal.main_arg1)
          ∧ r.2.mem ((c.tc : Thread Cert.RmsMemBwdIdeal.nD Cert.RmsMemBwdIdeal.τ).loc Cert.RmsMemBwdIdeal.main_arg2) = m ((c.tc : Thread Cert.RmsMemBwdIdeal.nD Cert.RmsMemBwdIdeal.τ).loc Cert.RmsMemBwdIdeal.main_arg2))
      ∧ θ_run (Cert.RmsMemBwdRefIdeal.defs (F := Ideal)) (onTc (τ := Cert.RmsMemBwdRefIdeal.τ) (Cert.RmsMemBwdRefIdeal.main (F := Ideal))) ⟨m', fun _ => 0, g'⟩ (fun r => ∀ c : Dev Cert.RmsMemBwdRefIdeal.nD,
          r.2.mem ((c.tc : Thread Cert.RmsMemBwdRefIdeal.nD Cert.RmsMemBwdRefIdeal.τ).loc Cert.RmsMemBwdRefIdeal.main_v33) = v0 c
          ∧ r.2.mem ((c.tc : Thread Cert.RmsMemBwdRefIdeal.nD Cert.RmsMemBwdRefIdeal.τ).loc Cert.RmsMemBwdRefIdeal.main_v17) = v1 c
          ∧ r.2.mem ((c.tc : Thread Cert.RmsMemBwdRefIdeal.nD Cert.RmsMemBwdRefIdeal.τ).loc Cert.RmsMemBwdRefIdeal.main_arg0) = m' ((c.tc : Thread Cert.RmsMemBwdRefIdeal.nD Cert.RmsMemBwdRefIdeal.τ).loc Cert.RmsMemBwdRefIdeal.main_arg0)
          ∧ r.2.mem ((c.tc : Thread Cert.RmsMemBwdRefIdeal.nD Cert.RmsMemBwdRefIdeal.τ).loc Cert.RmsMemBwdRefIdeal.main_arg1) = m' ((c.tc : Thread Cert.RmsMemBwdRefIdeal.nD Cert.RmsMemBwdRefIdeal.τ).loc Cert.RmsMemBwdRefIdeal.main_arg1)
          ∧ r.2.mem ((c.tc : Thread Cert.RmsMemBwdRefIdeal.nD Cert.RmsMemBwdRefIdeal.τ).loc Cert.RmsMemBwdRefIdeal.main_arg2) = m' ((c.tc : Thread Cert.RmsMemBwdRefIdeal.nD Cert.RmsMemBwdRefIdeal.τ).loc Cert.RmsMemBwdRefIdeal.main_arg2))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)
      ∧ m' ((c.tc : Thread Cert.GateBwdRefIdeal.nD Cert.GateBwdRefIdeal.τ).loc Cert.GateBwdRefIdeal.main_arg4) = m ((c.tc : Thread Cert.GateBwdIdeal.nD Cert.GateBwdIdeal.τ).loc Cert.GateBwdIdeal.main_arg4)
      ∧ m' ((c.tc : Thread Cert.GateBwdRefIdeal.nD Cert.GateBwdRefIdeal.τ).loc Cert.GateBwdRefIdeal.main_arg5) = m ((c.tc : Thread Cert.GateBwdIdeal.nD Cert.GateBwdIdeal.τ).loc Cert.GateBwdIdeal.main_arg5)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)) (v3 : (c : Dev Cert.GateBwdIdeal.nD) → Buf (Elt Ideal) ((c.tc : Thread Cert.GateBwdIdeal.nD Cert.GateBwdIdeal.τ).loc Cert.GateBwdIdeal.main_v0_3)) (v4 : (c : Dev Cert.GateBwdIdeal.nD) → Buf (Elt Ideal) ((c.tc : Thread Cert.GateBwdIdeal.nD Cert.GateBwdIdeal.τ).loc Cert.GateBwdIdeal.main_v0_4)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_v0_3) = v3 c
          ∧ r.2.mem ((c.tc : Thread Cert.GateBwdIdeal.nD Cert.GateBwdIdeal.τ).loc Cert.GateBwdIdeal.main_v0_4) = v4 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
          ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v48) = v0 c
          ∧ r.2.mem ((c.tc : Thread Cert.GateBwdRefIdeal.nD Cert.GateBwdRefIdeal.τ).loc Cert.GateBwdRefIdeal.main_v49) = v1 c
          ∧ r.2.mem ((c.tc : Thread Cert.GateBwdRefIdeal.nD Cert.GateBwdRefIdeal.τ).loc Cert.GateBwdRefIdeal.main_v50) = v2 c
          ∧ r.2.mem ((c.tc : Thread Cert.GateBwdRefIdeal.nD Cert.GateBwdRefIdeal.τ).loc Cert.GateBwdRefIdeal.main_v51) = v3 c
          ∧ r.2.mem ((c.tc : Thread Cert.GateBwdRefIdeal.nD Cert.GateBwdRefIdeal.τ).loc Cert.GateBwdRefIdeal.main_v47) = v4 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3)
          ∧ r.2.mem ((c.tc : Thread Cert.GateBwdRefIdeal.nD Cert.GateBwdRefIdeal.τ).loc Cert.GateBwdRefIdeal.main_arg4) = m' ((c.tc : Thread Cert.GateBwdRefIdeal.nD Cert.GateBwdRefIdeal.τ).loc Cert.GateBwdRefIdeal.main_arg4)
          ∧ r.2.mem ((c.tc : Thread Cert.GateBwdRefIdeal.nD Cert.GateBwdRefIdeal.τ).loc Cert.GateBwdRefIdeal.main_arg5) = m' ((c.tc : Thread Cert.GateBwdRefIdeal.nD Cert.GateBwdRefIdeal.τ).loc Cert.GateBwdRefIdeal.main_arg5))

def preserves_RmsMix_RmsMixIdeal : Prop :=
  True

def algebraic_RmsMixIdeal_RmsMixRefIdeal [hRmsMixIdeal : Cert.RmsMixIdeal.Facts] [hRmsMixRefIdeal : Cert.RmsMixRefIdeal.Facts] : Prop :=
  ∀ (m : (ℓ : Loc Cert.RmsMixIdeal.nD Cert.RmsMixIdeal.τ Cert.RmsMixIdeal.sig) → Buf (Elt Ideal) ℓ) (g : Dev Cert.RmsMixIdeal.nD → PrngReg)
    (m' : (ℓ : Loc Cert.RmsMixRefIdeal.nD Cert.RmsMixRefIdeal.τ Cert.RmsMixRefIdeal.sig) → Buf (Elt Ideal) ℓ) (g' : Dev Cert.RmsMixRefIdeal.nD → PrngReg), Pre_RmsMixIdeal m →
    (∀ c : Dev Cert.RmsMixIdeal.nD,
      m' ((c.tc : Thread Cert.RmsMixRefIdeal.nD Cert.RmsMixRefIdeal.τ).loc Cert.RmsMixRefIdeal.main_arg0) = m ((c.tc : Thread Cert.RmsMixIdeal.nD Cert.RmsMixIdeal.τ).loc Cert.RmsMixIdeal.main_arg0)
      ∧ m' ((c.tc : Thread Cert.RmsMixRefIdeal.nD Cert.RmsMixRefIdeal.τ).loc Cert.RmsMixRefIdeal.main_arg1) = m ((c.tc : Thread Cert.RmsMixIdeal.nD Cert.RmsMixIdeal.τ).loc Cert.RmsMixIdeal.main_arg1)) →
    ∃ (v0 : (c : Dev Cert.RmsMixIdeal.nD) → Buf (Elt Ideal) ((c.tc : Thread Cert.RmsMixIdeal.nD Cert.RmsMixIdeal.τ).loc Cert.RmsMixIdeal.main_v0)),
      θ_run (Cert.RmsMixIdeal.defs (F := Ideal)) (onTc (τ := Cert.RmsMixIdeal.τ) (Cert.RmsMixIdeal.main (F := Ideal))) ⟨m, fun _ => 0, g⟩ (fun r => ∀ c : Dev Cert.RmsMixIdeal.nD,
          r.2.mem ((c.tc : Thread Cert.RmsMixIdeal.nD Cert.RmsMixIdeal.τ).loc Cert.RmsMixIdeal.main_v0) = v0 c
          ∧ r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
          ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1))
      ∧ θ_run (Cert.RmsMixRefIdeal.defs (F := Ideal)) (onTc (τ := Cert.RmsMixRefIdeal.τ) (Cert.RmsMixRefIdeal.main (F := Ideal))) ⟨m', fun _ => 0, g'⟩ (fun r => ∀ c : Dev Cert.RmsMixRefIdeal.nD,
          r.2.mem ((c.tc : Thread Cert.RmsMixRefIdeal.nD Cert.RmsMixRefIdeal.τ).loc Cert.RmsMixRefIdeal.main_v12) = v0 c
          ∧ r.2.mem ((c.tc : Thread Cert.RmsMixRefIdeal.nD Cert.RmsMixRefIdeal.τ).loc Cert.RmsMixRefIdeal.main_arg0) = m' ((c.tc : Thread Cert.RmsMixRefIdeal.nD Cert.RmsMixRefIdeal.τ).loc Cert.RmsMixRefIdeal.main_arg0)
          ∧ r.2.mem ((c.tc : Thread Cert.RmsMixRefIdeal.nD Cert.RmsMixRefIdeal.τ).loc Cert.RmsMixRefIdeal.main_arg1) = m' ((c.tc : Thread Cert.RmsMixRefIdeal.nD Cert.RmsMixRefIdeal.τ).loc Cert.RmsMixRefIdeal.main_arg1))

def preserves_RmsQ_RmsQIdeal : Prop :=
  True

def algebraic_RmsQIdeal_RmsQRefIdeal [hRmsQIdeal : Cert.RmsQIdeal.Facts] [hRmsQRefIdeal : Cert.RmsQRefIdeal.Facts] : Prop :=
  ∀ (m : (ℓ : Loc Cert.RmsQIdeal.nD Cert.RmsQIdeal.τ Cert.RmsQIdeal.sig) → Buf (Elt Ideal) ℓ) (g : Dev Cert.RmsQIdeal.nD → PrngReg)
    (m' : (ℓ : Loc Cert.RmsQRefIdeal.nD Cert.RmsQRefIdeal.τ Cert.RmsQRefIdeal.sig) → Buf (Elt Ideal) ℓ) (g' : Dev Cert.RmsQRefIdeal.nD → PrngReg), Pre_RmsQIdeal m →
    (∀ c : Dev Cert.RmsQIdeal.nD,
      m' ((c.tc : Thread Cert.RmsQRefIdeal.nD Cert.RmsQRefIdeal.τ).loc Cert.RmsQRefIdeal.main_arg0) = m ((c.tc : Thread Cert.RmsQIdeal.nD Cert.RmsQIdeal.τ).loc Cert.RmsQIdeal.main_arg0)
      ∧ m' ((c.tc : Thread Cert.RmsQRefIdeal.nD Cert.RmsQRefIdeal.τ).loc Cert.RmsQRefIdeal.main_arg1) = m ((c.tc : Thread Cert.RmsQIdeal.nD Cert.RmsQIdeal.τ).loc Cert.RmsQIdeal.main_arg1)) →
    ∃ (v0 : (c : Dev Cert.RmsQIdeal.nD) → Buf (Elt Ideal) ((c.tc : Thread Cert.RmsQIdeal.nD Cert.RmsQIdeal.τ).loc Cert.RmsQIdeal.main_v0)),
      θ_run (Cert.RmsQIdeal.defs (F := Ideal)) (onTc (τ := Cert.RmsQIdeal.τ) (Cert.RmsQIdeal.main (F := Ideal))) ⟨m, fun _ => 0, g⟩ (fun r => ∀ c : Dev Cert.RmsQIdeal.nD,
          r.2.mem ((c.tc : Thread Cert.RmsQIdeal.nD Cert.RmsQIdeal.τ).loc Cert.RmsQIdeal.main_v0) = v0 c
          ∧ r.2.mem ((c.tc : Thread Cert.RmsQIdeal.nD Cert.RmsQIdeal.τ).loc Cert.RmsQIdeal.main_arg0) = m ((c.tc : Thread Cert.RmsQIdeal.nD Cert.RmsQIdeal.τ).loc Cert.RmsQIdeal.main_arg0)
          ∧ r.2.mem ((c.tc : Thread Cert.RmsQIdeal.nD Cert.RmsQIdeal.τ).loc Cert.RmsQIdeal.main_arg1) = m ((c.tc : Thread Cert.RmsQIdeal.nD Cert.RmsQIdeal.τ).loc Cert.RmsQIdeal.main_arg1))
      ∧ θ_run (Cert.RmsQRefIdeal.defs (F := Ideal)) (onTc (τ := Cert.RmsQRefIdeal.τ) (Cert.RmsQRefIdeal.main (F := Ideal))) ⟨m', fun _ => 0, g'⟩ (fun r => ∀ c : Dev Cert.RmsQRefIdeal.nD,
          r.2.mem ((c.tc : Thread Cert.RmsQRefIdeal.nD Cert.RmsQRefIdeal.τ).loc Cert.RmsQRefIdeal.main_v14) = v0 c
          ∧ r.2.mem ((c.tc : Thread Cert.RmsQRefIdeal.nD Cert.RmsQRefIdeal.τ).loc Cert.RmsQRefIdeal.main_arg0) = m' ((c.tc : Thread Cert.RmsQRefIdeal.nD Cert.RmsQRefIdeal.τ).loc Cert.RmsQRefIdeal.main_arg0)
          ∧ r.2.mem ((c.tc : Thread Cert.RmsQRefIdeal.nD Cert.RmsQRefIdeal.τ).loc Cert.RmsQRefIdeal.main_arg1) = m' ((c.tc : Thread Cert.RmsQRefIdeal.nD Cert.RmsQRefIdeal.τ).loc Cert.RmsQRefIdeal.main_arg1))

def preserves_RmsKv_RmsKvIdeal : Prop :=
  True

def algebraic_RmsKvIdeal_RmsKvRefIdeal [hRmsKvIdeal : Cert.RmsKvIdeal.Facts] [hRmsKvRefIdeal : Cert.RmsKvRefIdeal.Facts] : Prop :=
  ∀ (m : (ℓ : Loc Cert.RmsKvIdeal.nD Cert.RmsKvIdeal.τ Cert.RmsKvIdeal.sig) → Buf (Elt Ideal) ℓ) (g : Dev Cert.RmsKvIdeal.nD → PrngReg)
    (m' : (ℓ : Loc Cert.RmsKvRefIdeal.nD Cert.RmsKvRefIdeal.τ Cert.RmsKvRefIdeal.sig) → Buf (Elt Ideal) ℓ) (g' : Dev Cert.RmsKvRefIdeal.nD → PrngReg), Pre_RmsKvIdeal m →
    (∀ c : Dev Cert.RmsKvIdeal.nD,
      m' ((c.tc : Thread Cert.RmsKvRefIdeal.nD Cert.RmsKvRefIdeal.τ).loc Cert.RmsKvRefIdeal.main_arg0) = m ((c.tc : Thread Cert.RmsKvIdeal.nD Cert.RmsKvIdeal.τ).loc Cert.RmsKvIdeal.main_arg0)
      ∧ m' ((c.tc : Thread Cert.RmsKvRefIdeal.nD Cert.RmsKvRefIdeal.τ).loc Cert.RmsKvRefIdeal.main_arg1) = m ((c.tc : Thread Cert.RmsKvIdeal.nD Cert.RmsKvIdeal.τ).loc Cert.RmsKvIdeal.main_arg1)) →
    ∃ (v0 : (c : Dev Cert.RmsKvIdeal.nD) → Buf (Elt Ideal) ((c.tc : Thread Cert.RmsKvIdeal.nD Cert.RmsKvIdeal.τ).loc Cert.RmsKvIdeal.main_v0)),
      θ_run (Cert.RmsKvIdeal.defs (F := Ideal)) (onTc (τ := Cert.RmsKvIdeal.τ) (Cert.RmsKvIdeal.main (F := Ideal))) ⟨m, fun _ => 0, g⟩ (fun r => ∀ c : Dev Cert.RmsKvIdeal.nD,
          r.2.mem ((c.tc : Thread Cert.RmsKvIdeal.nD Cert.RmsKvIdeal.τ).loc Cert.RmsKvIdeal.main_v0) = v0 c
          ∧ r.2.mem ((c.tc : Thread Cert.RmsKvIdeal.nD Cert.RmsKvIdeal.τ).loc Cert.RmsKvIdeal.main_arg0) = m ((c.tc : Thread Cert.RmsKvIdeal.nD Cert.RmsKvIdeal.τ).loc Cert.RmsKvIdeal.main_arg0)
          ∧ r.2.mem ((c.tc : Thread Cert.RmsKvIdeal.nD Cert.RmsKvIdeal.τ).loc Cert.RmsKvIdeal.main_arg1) = m ((c.tc : Thread Cert.RmsKvIdeal.nD Cert.RmsKvIdeal.τ).loc Cert.RmsKvIdeal.main_arg1))
      ∧ θ_run (Cert.RmsKvRefIdeal.defs (F := Ideal)) (onTc (τ := Cert.RmsKvRefIdeal.τ) (Cert.RmsKvRefIdeal.main (F := Ideal))) ⟨m', fun _ => 0, g'⟩ (fun r => ∀ c : Dev Cert.RmsKvRefIdeal.nD,
          r.2.mem ((c.tc : Thread Cert.RmsKvRefIdeal.nD Cert.RmsKvRefIdeal.τ).loc Cert.RmsKvRefIdeal.main_v14) = v0 c
          ∧ r.2.mem ((c.tc : Thread Cert.RmsKvRefIdeal.nD Cert.RmsKvRefIdeal.τ).loc Cert.RmsKvRefIdeal.main_arg0) = m' ((c.tc : Thread Cert.RmsKvRefIdeal.nD Cert.RmsKvRefIdeal.τ).loc Cert.RmsKvRefIdeal.main_arg0)
          ∧ r.2.mem ((c.tc : Thread Cert.RmsKvRefIdeal.nD Cert.RmsKvRefIdeal.τ).loc Cert.RmsKvRefIdeal.main_arg1) = m' ((c.tc : Thread Cert.RmsKvRefIdeal.nD Cert.RmsKvRefIdeal.τ).loc Cert.RmsKvRefIdeal.main_arg1))

def preserves_RmsMem_RmsMemIdeal : Prop :=
  True

def algebraic_RmsMemIdeal_RmsMemRefIdeal [hRmsMemIdeal : Cert.RmsMemIdeal.Facts] [hRmsMemRefIdeal : Cert.RmsMemRefIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg)
    (m' : (ℓ : Loc Cert.RmsMemRefIdeal.nD Cert.RmsMemRefIdeal.τ Cert.RmsMemRefIdeal.sig) → Buf (Elt Ideal) ℓ) (g' : Dev Cert.RmsMemRefIdeal.nD → PrngReg), Pre_RmsMemIdeal m →
    (∀ c : Dev Cert.RmsMemIdeal.nD,
      m' ((c.tc : Thread Cert.RmsMemRefIdeal.nD Cert.RmsMemRefIdeal.τ).loc Cert.RmsMemRefIdeal.main_arg0) = m ((c.tc : Thread Cert.RmsMemIdeal.nD Cert.RmsMemIdeal.τ).loc Cert.RmsMemIdeal.main_arg0)
      ∧ m' ((c.tc : Thread Cert.RmsMemRefIdeal.nD Cert.RmsMemRefIdeal.τ).loc Cert.RmsMemRefIdeal.main_arg1) = m ((c.tc : Thread Cert.RmsMemIdeal.nD Cert.RmsMemIdeal.τ).loc Cert.RmsMemIdeal.main_arg1)) →
    ∃ (v0 : (c : Dev Cert.RmsMemIdeal.nD) → Buf (Elt Ideal) ((c.tc : Thread Cert.RmsMemIdeal.nD Cert.RmsMemIdeal.τ).loc Cert.RmsMemIdeal.main_v0)),
      θ_run (Cert.RmsMemIdeal.defs (F := Ideal)) (onTc (τ := Cert.RmsMemIdeal.τ) (Cert.RmsMemIdeal.main (F := Ideal))) ⟨m, fun _ => 0, g⟩ (fun r => ∀ c : Dev Cert.RmsMemIdeal.nD,
          r.2.mem ((c.tc : Thread Cert.RmsMemIdeal.nD Cert.RmsMemIdeal.τ).loc Cert.RmsMemIdeal.main_v0) = v0 c
          ∧ r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
          ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1))
      ∧ θ_run (Cert.RmsMemRefIdeal.defs (F := Ideal)) (onTc (τ := Cert.RmsMemRefIdeal.τ) (Cert.RmsMemRefIdeal.main (F := Ideal))) ⟨m', fun _ => 0, g'⟩ (fun r => ∀ c : Dev Cert.RmsMemRefIdeal.nD,
          r.2.mem ((c.tc : Thread Cert.RmsMemRefIdeal.nD Cert.RmsMemRefIdeal.τ).loc Cert.RmsMemRefIdeal.main_v12) = v0 c
          ∧ r.2.mem ((c.tc : Thread Cert.RmsMemRefIdeal.nD Cert.RmsMemRefIdeal.τ).loc Cert.RmsMemRefIdeal.main_arg0) = m' ((c.tc : Thread Cert.RmsMemRefIdeal.nD Cert.RmsMemRefIdeal.τ).loc Cert.RmsMemRefIdeal.main_arg0)
          ∧ r.2.mem ((c.tc : Thread Cert.RmsMemRefIdeal.nD Cert.RmsMemRefIdeal.τ).loc Cert.RmsMemRefIdeal.main_arg1) = m' ((c.tc : Thread Cert.RmsMemRefIdeal.nD Cert.RmsMemRefIdeal.τ).loc Cert.RmsMemRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v25) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4))

def preserves_RopeBwd_RopeBwdIdeal : Prop :=
  True

def algebraic_RopeBwdIdeal_RopeBwdRefIdeal [hRopeBwdIdeal : Cert.RopeBwdIdeal.Facts] [hRopeBwdRefIdeal : Cert.RopeBwdRefIdeal.Facts] : Prop :=
  ∀ (m : (ℓ : Loc Cert.RopeBwdIdeal.nD Cert.RopeBwdIdeal.τ Cert.RopeBwdIdeal.sig) → Buf (Elt Ideal) ℓ) (g : Dev Cert.RopeBwdIdeal.nD → PrngReg)
    (m' : (ℓ : Loc Cert.RopeBwdRefIdeal.nD Cert.RopeBwdRefIdeal.τ Cert.RopeBwdRefIdeal.sig) → Buf (Elt Ideal) ℓ) (g' : Dev Cert.RopeBwdRefIdeal.nD → PrngReg), Pre_RopeBwdIdeal m →
    (∀ c : Dev Cert.RopeBwdIdeal.nD,
      m' ((c.tc : Thread Cert.RopeBwdRefIdeal.nD Cert.RopeBwdRefIdeal.τ).loc Cert.RopeBwdRefIdeal.main_arg0) = m ((c.tc : Thread Cert.RopeBwdIdeal.nD Cert.RopeBwdIdeal.τ).loc Cert.RopeBwdIdeal.main_arg0)
      ∧ m' ((c.tc : Thread Cert.RopeBwdRefIdeal.nD Cert.RopeBwdRefIdeal.τ).loc Cert.RopeBwdRefIdeal.main_arg1) = m ((c.tc : Thread Cert.RopeBwdIdeal.nD Cert.RopeBwdIdeal.τ).loc Cert.RopeBwdIdeal.main_arg1)
      ∧ m' ((c.tc : Thread Cert.RopeBwdRefIdeal.nD Cert.RopeBwdRefIdeal.τ).loc Cert.RopeBwdRefIdeal.main_arg2) = m ((c.tc : Thread Cert.RopeBwdIdeal.nD Cert.RopeBwdIdeal.τ).loc Cert.RopeBwdIdeal.main_arg2)
      ∧ m' ((c.tc : Thread Cert.RopeBwdRefIdeal.nD Cert.RopeBwdRefIdeal.τ).loc Cert.RopeBwdRefIdeal.main_arg3) = m ((c.tc : Thread Cert.RopeBwdIdeal.nD Cert.RopeBwdIdeal.τ).loc Cert.RopeBwdIdeal.main_arg3)) →
    ∃ (v0 : (c : Dev Cert.RopeBwdIdeal.nD) → Buf (Elt Ideal) ((c.tc : Thread Cert.RopeBwdIdeal.nD Cert.RopeBwdIdeal.τ).loc Cert.RopeBwdIdeal.main_v3_0)) (v1 : (c : Dev Cert.RopeBwdIdeal.nD) → Buf (Elt Ideal) ((c.tc : Thread Cert.RopeBwdIdeal.nD Cert.RopeBwdIdeal.τ).loc Cert.RopeBwdIdeal.main_v3_1)),
      θ_run (Cert.RopeBwdIdeal.defs (F := Ideal)) (onTc (τ := Cert.RopeBwdIdeal.τ) (Cert.RopeBwdIdeal.main (F := Ideal))) ⟨m, fun _ => 0, g⟩ (fun r => ∀ c : Dev Cert.RopeBwdIdeal.nD,
          r.2.mem ((c.tc : Thread Cert.RopeBwdIdeal.nD Cert.RopeBwdIdeal.τ).loc Cert.RopeBwdIdeal.main_v3_0) = v0 c
          ∧ r.2.mem ((c.tc : Thread Cert.RopeBwdIdeal.nD Cert.RopeBwdIdeal.τ).loc Cert.RopeBwdIdeal.main_v3_1) = v1 c
          ∧ r.2.mem ((c.tc : Thread Cert.RopeBwdIdeal.nD Cert.RopeBwdIdeal.τ).loc Cert.RopeBwdIdeal.main_arg0) = m ((c.tc : Thread Cert.RopeBwdIdeal.nD Cert.RopeBwdIdeal.τ).loc Cert.RopeBwdIdeal.main_arg0)
          ∧ r.2.mem ((c.tc : Thread Cert.RopeBwdIdeal.nD Cert.RopeBwdIdeal.τ).loc Cert.RopeBwdIdeal.main_arg1) = m ((c.tc : Thread Cert.RopeBwdIdeal.nD Cert.RopeBwdIdeal.τ).loc Cert.RopeBwdIdeal.main_arg1)
          ∧ r.2.mem ((c.tc : Thread Cert.RopeBwdIdeal.nD Cert.RopeBwdIdeal.τ).loc Cert.RopeBwdIdeal.main_arg2) = m ((c.tc : Thread Cert.RopeBwdIdeal.nD Cert.RopeBwdIdeal.τ).loc Cert.RopeBwdIdeal.main_arg2)
          ∧ r.2.mem ((c.tc : Thread Cert.RopeBwdIdeal.nD Cert.RopeBwdIdeal.τ).loc Cert.RopeBwdIdeal.main_arg3) = m ((c.tc : Thread Cert.RopeBwdIdeal.nD Cert.RopeBwdIdeal.τ).loc Cert.RopeBwdIdeal.main_arg3))
      ∧ θ_run (Cert.RopeBwdRefIdeal.defs (F := Ideal)) (onTc (τ := Cert.RopeBwdRefIdeal.τ) (Cert.RopeBwdRefIdeal.main (F := Ideal))) ⟨m', fun _ => 0, g'⟩ (fun r => ∀ c : Dev Cert.RopeBwdRefIdeal.nD,
          r.2.mem ((c.tc : Thread Cert.RopeBwdRefIdeal.nD Cert.RopeBwdRefIdeal.τ).loc Cert.RopeBwdRefIdeal.main_v98) = v0 c
          ∧ r.2.mem ((c.tc : Thread Cert.RopeBwdRefIdeal.nD Cert.RopeBwdRefIdeal.τ).loc Cert.RopeBwdRefIdeal.main_v100) = v1 c
          ∧ r.2.mem ((c.tc : Thread Cert.RopeBwdRefIdeal.nD Cert.RopeBwdRefIdeal.τ).loc Cert.RopeBwdRefIdeal.main_arg0) = m' ((c.tc : Thread Cert.RopeBwdRefIdeal.nD Cert.RopeBwdRefIdeal.τ).loc Cert.RopeBwdRefIdeal.main_arg0)
          ∧ r.2.mem ((c.tc : Thread Cert.RopeBwdRefIdeal.nD Cert.RopeBwdRefIdeal.τ).loc Cert.RopeBwdRefIdeal.main_arg1) = m' ((c.tc : Thread Cert.RopeBwdRefIdeal.nD Cert.RopeBwdRefIdeal.τ).loc Cert.RopeBwdRefIdeal.main_arg1)
          ∧ r.2.mem ((c.tc : Thread Cert.RopeBwdRefIdeal.nD Cert.RopeBwdRefIdeal.τ).loc Cert.RopeBwdRefIdeal.main_arg2) = m' ((c.tc : Thread Cert.RopeBwdRefIdeal.nD Cert.RopeBwdRefIdeal.τ).loc Cert.RopeBwdRefIdeal.main_arg2)
          ∧ r.2.mem ((c.tc : Thread Cert.RopeBwdRefIdeal.nD Cert.RopeBwdRefIdeal.τ).loc Cert.RopeBwdRefIdeal.main_arg3) = m' ((c.tc : Thread Cert.RopeBwdRefIdeal.nD Cert.RopeBwdRefIdeal.τ).loc Cert.RopeBwdRefIdeal.main_arg3))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hInFwd : Cert.InFwd.Facts) (hInFwdIdeal : Cert.InFwdIdeal.Facts) (hInFwdRefIdeal : Cert.InFwdRefIdeal.Facts) (hInDw : Cert.InDw.Facts) (hInDwIdeal : Cert.InDwIdeal.Facts) (hInDwRefIdeal : Cert.InDwRefIdeal.Facts) (hBo : Cert.Bo.Facts) (hBoIdeal : Cert.BoIdeal.Facts) (hBoRefIdeal : Cert.BoRefIdeal.Facts) (hBoDx : Cert.BoDx.Facts) (hBoDxIdeal : Cert.BoDxIdeal.Facts) (hBoDxRefIdeal : Cert.BoDxRefIdeal.Facts) (hBoDw : Cert.BoDw.Facts) (hBoDwIdeal : Cert.BoDwIdeal.Facts) (hBoDwRefIdeal : Cert.BoDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hUq : Cert.Uq.Facts) (hUqIdeal : Cert.UqIdeal.Facts) (hUqRefIdeal : Cert.UqRefIdeal.Facts) (hUqDx : Cert.UqDx.Facts) (hUqDxIdeal : Cert.UqDxIdeal.Facts) (hUqDxRefIdeal : Cert.UqDxRefIdeal.Facts) (hUqDw : Cert.UqDw.Facts) (hUqDwIdeal : Cert.UqDwIdeal.Facts) (hUqDwRefIdeal : Cert.UqDwRefIdeal.Facts) (hUk : Cert.Uk.Facts) (hUkIdeal : Cert.UkIdeal.Facts) (hUkRefIdeal : Cert.UkRefIdeal.Facts) (hUkDx : Cert.UkDx.Facts) (hUkDxIdeal : Cert.UkDxIdeal.Facts) (hUkDxRefIdeal : Cert.UkDxRefIdeal.Facts) (hUkDw : Cert.UkDw.Facts) (hUkDwIdeal : Cert.UkDwIdeal.Facts) (hUkDwRefIdeal : Cert.UkDwRefIdeal.Facts) (hUv : Cert.Uv.Facts) (hUvIdeal : Cert.UvIdeal.Facts) (hUvRefIdeal : Cert.UvRefIdeal.Facts) (hUvDx : Cert.UvDx.Facts) (hUvDxIdeal : Cert.UvDxIdeal.Facts) (hUvDxRefIdeal : Cert.UvDxRefIdeal.Facts) (hUvDw : Cert.UvDw.Facts) (hUvDwIdeal : Cert.UvDwIdeal.Facts) (hUvDwRefIdeal : Cert.UvDwRefIdeal.Facts) (hMemKv : Cert.MemKv.Facts) (hMemKvIdeal : Cert.MemKvIdeal.Facts) (hMemKvRefIdeal : Cert.MemKvRefIdeal.Facts) (hMemKvDx : Cert.MemKvDx.Facts) (hMemKvDxIdeal : Cert.MemKvDxIdeal.Facts) (hMemKvDxRefIdeal : Cert.MemKvDxRefIdeal.Facts) (hMemKvDw : Cert.MemKvDw.Facts) (hMemKvDwIdeal : Cert.MemKvDwIdeal.Facts) (hMemKvDwRefIdeal : Cert.MemKvDwRefIdeal.Facts) (hOutNorms : Cert.OutNorms.Facts) (hOutNormsIdeal : Cert.OutNormsIdeal.Facts) (hOutNormsRefIdeal : Cert.OutNormsRefIdeal.Facts) (hDownLoss : Cert.DownLoss.Facts) (hDownLossIdeal : Cert.DownLossIdeal.Facts) (hDownLossRefIdeal : Cert.DownLossRefIdeal.Facts) (hUpDx : Cert.UpDx.Facts) (hUpDxIdeal : Cert.UpDxIdeal.Facts) (hUpDxRefIdeal : Cert.UpDxRefIdeal.Facts) (hInDx : Cert.InDx.Facts) (hInDxIdeal : Cert.InDxIdeal.Facts) (hInDxRefIdeal : Cert.InDxRefIdeal.Facts) (hRmsQBwd : Cert.RmsQBwd.Facts) (hRmsQBwdIdeal : Cert.RmsQBwdIdeal.Facts) (hRmsQBwdRefIdeal : Cert.RmsQBwdRefIdeal.Facts) (hRmsKvBwd : Cert.RmsKvBwd.Facts) (hRmsKvBwdIdeal : Cert.RmsKvBwdIdeal.Facts) (hRmsKvBwdRefIdeal : Cert.RmsKvBwdRefIdeal.Facts) (hRmsMemBwd : Cert.RmsMemBwd.Facts) (hRmsMemBwdIdeal : Cert.RmsMemBwdIdeal.Facts) (hRmsMemBwdRefIdeal : Cert.RmsMemBwdRefIdeal.Facts) (hGateBwd : Cert.GateBwd.Facts) (hGateBwdIdeal : Cert.GateBwdIdeal.Facts) (hGateBwdRefIdeal : Cert.GateBwdRefIdeal.Facts) (hRmsMix : Cert.RmsMix.Facts) (hRmsMixIdeal : Cert.RmsMixIdeal.Facts) (hRmsMixRefIdeal : Cert.RmsMixRefIdeal.Facts) (hRmsQ : Cert.RmsQ.Facts) (hRmsQIdeal : Cert.RmsQIdeal.Facts) (hRmsQRefIdeal : Cert.RmsQRefIdeal.Facts) (hRmsKv : Cert.RmsKv.Facts) (hRmsKvIdeal : Cert.RmsKvIdeal.Facts) (hRmsKvRefIdeal : Cert.RmsKvRefIdeal.Facts) (hRmsMem : Cert.RmsMem.Facts) (hRmsMemIdeal : Cert.RmsMemIdeal.Facts) (hRmsMemRefIdeal : Cert.RmsMemRefIdeal.Facts) (hGates : Cert.Gates.Facts) (hGatesIdeal : Cert.GatesIdeal.Facts) (hGatesRefIdeal : Cert.GatesRefIdeal.Facts) (hRopeBwd : Cert.RopeBwd.Facts) (hRopeBwdIdeal : Cert.RopeBwdIdeal.Facts) (hRopeBwdRefIdeal : Cert.RopeBwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_InDw (hInDw := hInDw)
    ∧ quiescent_InDwIdeal (hInDwIdeal := hInDwIdeal)
    ∧ quiescent_InDwRefIdeal (hInDwRefIdeal := hInDwRefIdeal)
    ∧ quiescent_Bo (hBo := hBo)
    ∧ quiescent_BoIdeal (hBoIdeal := hBoIdeal)
    ∧ quiescent_BoRefIdeal (hBoRefIdeal := hBoRefIdeal)
    ∧ quiescent_BoDx (hBoDx := hBoDx)
    ∧ quiescent_BoDxIdeal (hBoDxIdeal := hBoDxIdeal)
    ∧ quiescent_BoDxRefIdeal (hBoDxRefIdeal := hBoDxRefIdeal)
    ∧ quiescent_BoDw (hBoDw := hBoDw)
    ∧ quiescent_BoDwIdeal (hBoDwIdeal := hBoDwIdeal)
    ∧ quiescent_BoDwRefIdeal (hBoDwRefIdeal := hBoDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Uq (hUq := hUq)
    ∧ quiescent_UqIdeal (hUqIdeal := hUqIdeal)
    ∧ quiescent_UqRefIdeal (hUqRefIdeal := hUqRefIdeal)
    ∧ quiescent_UqDx (hUqDx := hUqDx)
    ∧ quiescent_UqDxIdeal (hUqDxIdeal := hUqDxIdeal)
    ∧ quiescent_UqDxRefIdeal (hUqDxRefIdeal := hUqDxRefIdeal)
    ∧ quiescent_UqDw (hUqDw := hUqDw)
    ∧ quiescent_UqDwIdeal (hUqDwIdeal := hUqDwIdeal)
    ∧ quiescent_UqDwRefIdeal (hUqDwRefIdeal := hUqDwRefIdeal)
    ∧ quiescent_Uk (hUk := hUk)
    ∧ quiescent_UkIdeal (hUkIdeal := hUkIdeal)
    ∧ quiescent_UkRefIdeal (hUkRefIdeal := hUkRefIdeal)
    ∧ quiescent_UkDx (hUkDx := hUkDx)
    ∧ quiescent_UkDxIdeal (hUkDxIdeal := hUkDxIdeal)
    ∧ quiescent_UkDxRefIdeal (hUkDxRefIdeal := hUkDxRefIdeal)
    ∧ quiescent_UkDw (hUkDw := hUkDw)
    ∧ quiescent_UkDwIdeal (hUkDwIdeal := hUkDwIdeal)
    ∧ quiescent_UkDwRefIdeal (hUkDwRefIdeal := hUkDwRefIdeal)
    ∧ quiescent_Uv (hUv := hUv)
    ∧ quiescent_UvIdeal (hUvIdeal := hUvIdeal)
    ∧ quiescent_UvRefIdeal (hUvRefIdeal := hUvRefIdeal)
    ∧ quiescent_UvDx (hUvDx := hUvDx)
    ∧ quiescent_UvDxIdeal (hUvDxIdeal := hUvDxIdeal)
    ∧ quiescent_UvDxRefIdeal (hUvDxRefIdeal := hUvDxRefIdeal)
    ∧ quiescent_UvDw (hUvDw := hUvDw)
    ∧ quiescent_UvDwIdeal (hUvDwIdeal := hUvDwIdeal)
    ∧ quiescent_UvDwRefIdeal (hUvDwRefIdeal := hUvDwRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemKvDx (hMemKvDx := hMemKvDx)
    ∧ quiescent_MemKvDxIdeal (hMemKvDxIdeal := hMemKvDxIdeal)
    ∧ quiescent_MemKvDxRefIdeal (hMemKvDxRefIdeal := hMemKvDxRefIdeal)
    ∧ quiescent_MemKvDw (hMemKvDw := hMemKvDw)
    ∧ quiescent_MemKvDwIdeal (hMemKvDwIdeal := hMemKvDwIdeal)
    ∧ quiescent_MemKvDwRefIdeal (hMemKvDwRefIdeal := hMemKvDwRefIdeal)
    ∧ quiescent_OutNorms (hOutNorms := hOutNorms)
    ∧ quiescent_OutNormsIdeal (hOutNormsIdeal := hOutNormsIdeal)
    ∧ quiescent_OutNormsRefIdeal (hOutNormsRefIdeal := hOutNormsRefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_InDx (hInDx := hInDx)
    ∧ quiescent_InDxIdeal (hInDxIdeal := hInDxIdeal)
    ∧ quiescent_InDxRefIdeal (hInDxRefIdeal := hInDxRefIdeal)
    ∧ quiescent_RmsQBwd (hRmsQBwd := hRmsQBwd)
    ∧ quiescent_RmsQBwdIdeal (hRmsQBwdIdeal := hRmsQBwdIdeal)
    ∧ quiescent_RmsQBwdRefIdeal (hRmsQBwdRefIdeal := hRmsQBwdRefIdeal)
    ∧ quiescent_RmsKvBwd (hRmsKvBwd := hRmsKvBwd)
    ∧ quiescent_RmsKvBwdIdeal (hRmsKvBwdIdeal := hRmsKvBwdIdeal)
    ∧ quiescent_RmsKvBwdRefIdeal (hRmsKvBwdRefIdeal := hRmsKvBwdRefIdeal)
    ∧ quiescent_RmsMemBwd (hRmsMemBwd := hRmsMemBwd)
    ∧ quiescent_RmsMemBwdIdeal (hRmsMemBwdIdeal := hRmsMemBwdIdeal)
    ∧ quiescent_RmsMemBwdRefIdeal (hRmsMemBwdRefIdeal := hRmsMemBwdRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_RmsMix (hRmsMix := hRmsMix)
    ∧ quiescent_RmsMixIdeal (hRmsMixIdeal := hRmsMixIdeal)
    ∧ quiescent_RmsMixRefIdeal (hRmsMixRefIdeal := hRmsMixRefIdeal)
    ∧ quiescent_RmsQ (hRmsQ := hRmsQ)
    ∧ quiescent_RmsQIdeal (hRmsQIdeal := hRmsQIdeal)
    ∧ quiescent_RmsQRefIdeal (hRmsQRefIdeal := hRmsQRefIdeal)
    ∧ quiescent_RmsKv (hRmsKv := hRmsKv)
    ∧ quiescent_RmsKvIdeal (hRmsKvIdeal := hRmsKvIdeal)
    ∧ quiescent_RmsKvRefIdeal (hRmsKvRefIdeal := hRmsKvRefIdeal)
    ∧ quiescent_RmsMem (hRmsMem := hRmsMem)
    ∧ quiescent_RmsMemIdeal (hRmsMemIdeal := hRmsMemIdeal)
    ∧ quiescent_RmsMemRefIdeal (hRmsMemRefIdeal := hRmsMemRefIdeal)
    ∧ quiescent_Gates (hGates := hGates)
    ∧ quiescent_GatesIdeal (hGatesIdeal := hGatesIdeal)
    ∧ quiescent_GatesRefIdeal (hGatesRefIdeal := hGatesRefIdeal)
    ∧ quiescent_RopeBwd (hRopeBwd := hRopeBwd)
    ∧ quiescent_RopeBwdIdeal (hRopeBwdIdeal := hRopeBwdIdeal)
    ∧ quiescent_RopeBwdRefIdeal (hRopeBwdRefIdeal := hRopeBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_InFwd_InFwdIdeal
    ∧ algebraic_InFwdIdeal_InFwdRefIdeal (hInFwdIdeal := hInFwdIdeal) (hInFwdRefIdeal := hInFwdRefIdeal)
    ∧ preserves_InDw_InDwIdeal
    ∧ algebraic_InDwIdeal_InDwRefIdeal (hInDwIdeal := hInDwIdeal) (hInDwRefIdeal := hInDwRefIdeal)
    ∧ preserves_Bo_BoIdeal
    ∧ algebraic_BoIdeal_BoRefIdeal (hBoIdeal := hBoIdeal) (hBoRefIdeal := hBoRefIdeal)
    ∧ preserves_BoDx_BoDxIdeal
    ∧ algebraic_BoDxIdeal_BoDxRefIdeal (hBoDxIdeal := hBoDxIdeal) (hBoDxRefIdeal := hBoDxRefIdeal)
    ∧ preserves_BoDw_BoDwIdeal
    ∧ algebraic_BoDwIdeal_BoDwRefIdeal (hBoDwIdeal := hBoDwIdeal) (hBoDwRefIdeal := hBoDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_Uq_UqIdeal
    ∧ algebraic_UqIdeal_UqRefIdeal (hUqIdeal := hUqIdeal) (hUqRefIdeal := hUqRefIdeal)
    ∧ preserves_UqDx_UqDxIdeal
    ∧ algebraic_UqDxIdeal_UqDxRefIdeal (hUqDxIdeal := hUqDxIdeal) (hUqDxRefIdeal := hUqDxRefIdeal)
    ∧ preserves_UqDw_UqDwIdeal
    ∧ algebraic_UqDwIdeal_UqDwRefIdeal (hUqDwIdeal := hUqDwIdeal) (hUqDwRefIdeal := hUqDwRefIdeal)
    ∧ preserves_Uk_UkIdeal
    ∧ algebraic_UkIdeal_UkRefIdeal (hUkIdeal := hUkIdeal) (hUkRefIdeal := hUkRefIdeal)
    ∧ preserves_UkDx_UkDxIdeal
    ∧ algebraic_UkDxIdeal_UkDxRefIdeal (hUkDxIdeal := hUkDxIdeal) (hUkDxRefIdeal := hUkDxRefIdeal)
    ∧ preserves_UkDw_UkDwIdeal
    ∧ algebraic_UkDwIdeal_UkDwRefIdeal (hUkDwIdeal := hUkDwIdeal) (hUkDwRefIdeal := hUkDwRefIdeal)
    ∧ preserves_Uv_UvIdeal
    ∧ algebraic_UvIdeal_UvRefIdeal (hUvIdeal := hUvIdeal) (hUvRefIdeal := hUvRefIdeal)
    ∧ preserves_UvDx_UvDxIdeal
    ∧ algebraic_UvDxIdeal_UvDxRefIdeal (hUvDxIdeal := hUvDxIdeal) (hUvDxRefIdeal := hUvDxRefIdeal)
    ∧ preserves_UvDw_UvDwIdeal
    ∧ algebraic_UvDwIdeal_UvDwRefIdeal (hUvDwIdeal := hUvDwIdeal) (hUvDwRefIdeal := hUvDwRefIdeal)
    ∧ preserves_MemKv_MemKvIdeal
    ∧ algebraic_MemKvIdeal_MemKvRefIdeal (hMemKvIdeal := hMemKvIdeal) (hMemKvRefIdeal := hMemKvRefIdeal)
    ∧ preserves_MemKvDx_MemKvDxIdeal
    ∧ algebraic_MemKvDxIdeal_MemKvDxRefIdeal (hMemKvDxIdeal := hMemKvDxIdeal) (hMemKvDxRefIdeal := hMemKvDxRefIdeal)
    ∧ preserves_MemKvDw_MemKvDwIdeal
    ∧ algebraic_MemKvDwIdeal_MemKvDwRefIdeal (hMemKvDwIdeal := hMemKvDwIdeal) (hMemKvDwRefIdeal := hMemKvDwRefIdeal)
    ∧ preserves_OutNorms_OutNormsIdeal
    ∧ algebraic_OutNormsIdeal_OutNormsRefIdeal (hOutNormsIdeal := hOutNormsIdeal) (hOutNormsRefIdeal := hOutNormsRefIdeal)
    ∧ preserves_DownLoss_DownLossIdeal
    ∧ algebraic_DownLossIdeal_DownLossRefIdeal (hDownLossIdeal := hDownLossIdeal) (hDownLossRefIdeal := hDownLossRefIdeal)
    ∧ preserves_UpDx_UpDxIdeal
    ∧ algebraic_UpDxIdeal_UpDxRefIdeal (hUpDxIdeal := hUpDxIdeal) (hUpDxRefIdeal := hUpDxRefIdeal)
    ∧ preserves_InDx_InDxIdeal
    ∧ algebraic_InDxIdeal_InDxRefIdeal (hInDxIdeal := hInDxIdeal) (hInDxRefIdeal := hInDxRefIdeal)
    ∧ preserves_RmsQBwd_RmsQBwdIdeal
    ∧ algebraic_RmsQBwdIdeal_RmsQBwdRefIdeal (hRmsQBwdIdeal := hRmsQBwdIdeal) (hRmsQBwdRefIdeal := hRmsQBwdRefIdeal)
    ∧ preserves_RmsKvBwd_RmsKvBwdIdeal
    ∧ algebraic_RmsKvBwdIdeal_RmsKvBwdRefIdeal (hRmsKvBwdIdeal := hRmsKvBwdIdeal) (hRmsKvBwdRefIdeal := hRmsKvBwdRefIdeal)
    ∧ preserves_RmsMemBwd_RmsMemBwdIdeal
    ∧ algebraic_RmsMemBwdIdeal_RmsMemBwdRefIdeal (hRmsMemBwdIdeal := hRmsMemBwdIdeal) (hRmsMemBwdRefIdeal := hRmsMemBwdRefIdeal)
    ∧ preserves_GateBwd_GateBwdIdeal
    ∧ algebraic_GateBwdIdeal_GateBwdRefIdeal (hGateBwdIdeal := hGateBwdIdeal) (hGateBwdRefIdeal := hGateBwdRefIdeal)
    ∧ preserves_RmsMix_RmsMixIdeal
    ∧ algebraic_RmsMixIdeal_RmsMixRefIdeal (hRmsMixIdeal := hRmsMixIdeal) (hRmsMixRefIdeal := hRmsMixRefIdeal)
    ∧ preserves_RmsQ_RmsQIdeal
    ∧ algebraic_RmsQIdeal_RmsQRefIdeal (hRmsQIdeal := hRmsQIdeal) (hRmsQRefIdeal := hRmsQRefIdeal)
    ∧ preserves_RmsKv_RmsKvIdeal
    ∧ algebraic_RmsKvIdeal_RmsKvRefIdeal (hRmsKvIdeal := hRmsKvIdeal) (hRmsKvRefIdeal := hRmsKvRefIdeal)
    ∧ preserves_RmsMem_RmsMemIdeal
    ∧ algebraic_RmsMemIdeal_RmsMemRefIdeal (hRmsMemIdeal := hRmsMemIdeal) (hRmsMemRefIdeal := hRmsMemRefIdeal)
    ∧ preserves_Gates_GatesIdeal
    ∧ algebraic_GatesIdeal_GatesRefIdeal (hGatesIdeal := hGatesIdeal) (hGatesRefIdeal := hGatesRefIdeal)
    ∧ preserves_RopeBwd_RopeBwdIdeal
    ∧ algebraic_RopeBwdIdeal_RopeBwdRefIdeal (hRopeBwdIdeal := hRopeBwdIdeal) (hRopeBwdRefIdeal := hRopeBwdRefIdeal)
-- ==== Pre_finite.lean ====
abbrev S2x2048x6144 : Shape := ⟨3, ![2, 2048, 6144]⟩
abbrev S2x2048x512 : Shape := ⟨3, ![2, 2048, 512]⟩
abbrev S2x2048x1536 : Shape := ⟨3, ![2, 2048, 1536]⟩
abbrev S_ : Shape := ⟨0, ![]⟩

class Facts : Prop where
  slices_S2x2048x6144_S2x2048x1536_0_0_3840 : S2x2048x6144.Slices ![0, 0, 3840] S2x2048x1536
  bcast_S_S2x2048x1536 : S_.BroadcastsInDim S2x2048x1536 (![] : Fin 0 → Fin S2x2048x1536.rank)
  reducesTo_S2x2048x1536_S_d0_1_2 : S2x2048x1536.ReducesTo [0, 1, 2] S_
  h_S_ : 0 < S_.numel
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn {F : FTy → Type} [FloatOps F] (main_arg0 : FVec F S2x2048x6144 .bf16) (main_arg1 : FVec F S2x2048x512 .f32) (main_arg2 : FVec F S2x2048x512 .bf16) : IVec S_ 1 × IVec S_ 1 :=
  let main_v0 : FVec F S2x2048x1536 .bf16 := (extractStridedSlice S2x2048x1536 ![0, 0, 3840] · slices_S2x2048x6144_S2x2048x1536_0_0_3840) main_arg0
  let main_v1 : FVec F S2x2048x1536 .bf16 := Host.absf main_v0
  let main_cst : FVec F S_ .bf16 := constant S_ .bf16 0x7F80#16
  let main_v2 : FVec F S2x2048x1536 .bf16 := broadcastInDim S2x2048x1536 ![] bcast_S_S2x2048x1536 main_cst
  let main_v3 : IVec S2x2048x1536 1 := cmpf .olt main_v1 main_v2
  let main_c : IVec S_ 1 := constantI S_ 1 1#1
  let main_v4 : IVec S_ 1 := (fun x v => Host.reduce IntOp.andi x v reducesTo_S2x2048x1536_S_d0_1_2 h_S_) main_v3 main_c
  let main_v5 : FVec F S2x2048x512 .bf16 := Host.absf main_arg2
  let main_cst_0 : FVec F S_ .bf16 := constant S_ .bf16 0x7F80#16
  let main_v6 : FVec F S2x2048x512 .bf16 := broadcastInDim S2x2048x512 ![] bcast_S_S2x2048x512 main_cst_0
  let main_v7 : IVec S2x2048x512 1 := cmpf .olt main_v5 main_v6
  let main_c_1 : IVec S_ 1 := constantI S_ 1 1#1
  let main_v8 : IVec S_ 1 := (fun x v => Host.reduce IntOp.andi x v reducesTo_S2x2048x512_S_d0_1_2 h_S_) main_v7 main_c_1
  (main_v4, main_v8)
-- ==== Kernel.lean ====
abbrev S2x2048x6144 : Shape := ⟨3, ![2, 2048, 6144]⟩
abbrev S2x2048x512 : Shape := ⟨3, ![2, 2048, 512]⟩
abbrev S2x2048x1536 : Shape := ⟨3, ![2, 2048, 1536]⟩
abbrev S2x2048x3x8x64 : Shape := ⟨5, ![2, 2048, 3, 8, 64]⟩
abbrev S2x2048x1x8x64 : Shape := ⟨5, ![2, 2048, 1, 8, 64]⟩
abbrev S2x2048x8x64 : Shape := ⟨4, ![2, 2048, 8, 64]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x4x2x2048 : Shape := ⟨4, ![2, 4, 2, 2048]⟩
abbrev S2x4x2048x2 : Shape := ⟨4, ![2, 4, 2048, 2]⟩
abbrev S2x4x2048x2x1 : Shape := ⟨5, ![2, 4, 2048, 2, 1]⟩
abbrev S2x4x2048x2x64 : Shape := ⟨5, ![2, 4, 2048, 2, 64]⟩
abbrev S2x4x2048x128 : Shape := ⟨4, ![2, 4, 2048, 128]⟩
abbrev S1x512x128 : Shape := ⟨3, ![1, 512, 128]⟩
abbrev S1x2048x128 : Shape := ⟨3, ![1, 2048, 128]⟩
abbrev S1x1x512x128 : Shape := ⟨4, ![1, 1, 512, 128]⟩
abbrev S512x128 : Shape := ⟨2, ![512, 128]⟩
abbrev S1x128 : Shape := ⟨2, ![1, 128]⟩
abbrev S512x1 : Shape := ⟨2, ![512, 1]⟩
abbrev S512x512 : Shape := ⟨2, ![512, 512]⟩
abbrev S256x256 : Shape := ⟨2, ![256, 256]⟩
abbrev S512x256 : Shape := ⟨2, ![512, 256]⟩
abbrev S512 : Shape := ⟨1, ![512]⟩

abbrev nBuf : Space → Nat
  | .hbm => 53
  | .vmem => 18
  | .smem => 0
  | _ => 0

abbrev bufTy : (tb : Table) → Fin (tcTables nBuf tb) → BufTy
  | .hbm, ⟨0, _⟩ => ⟨S2x2048x6144, .bf16⟩
  | .hbm, ⟨1, _⟩ => ⟨S2x2048x512, .f32⟩
  | .hbm, ⟨2, _⟩ => ⟨S2x2048x512, .bf16⟩
  | .hbm, ⟨3, _⟩ => ⟨S2x2048x1536, .bf16⟩
  | .hbm, ⟨4, _⟩ => ⟨S2x2048x1536, .f32⟩
  | .hbm, ⟨5, _⟩ => ⟨S2x2048x3x8x64, .f32⟩
  | .hbm, ⟨6, _⟩ => ⟨S2x2048x1x8x64, .f32⟩
  | .hbm, ⟨7, _⟩ => ⟨S2x2048x8x64, .f32⟩
  | .hbm, ⟨8, _⟩ => ⟨S2x2048x1x8x64, .f32⟩
  | .hbm, ⟨9, _⟩ => ⟨S2x2048x8x64, .f32⟩
  | .hbm, ⟨10, _⟩ => ⟨S2x8x2048x2048, .f32⟩
  | .hbm, ⟨11, _⟩ => ⟨S_, .f32⟩
  | .hbm, ⟨12, _⟩ => ⟨S2x8x2048x2048, .f32⟩
  | .hbm, ⟨13, _⟩ => ⟨S2x8x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S2x8x2048x2048, .f32⟩
  | .hbm, ⟨22, _⟩ => ⟨S2x8x2048x2048, .f32⟩
  | .hbm, ⟨23, _⟩ => ⟨S_, .f32⟩
  | .hbm, ⟨24, _⟩ => ⟨S2x8x2048x2048, .f32⟩
  | .hbm, ⟨25, _⟩ => ⟨S2x8x2048x2048, .f32⟩
  | .hbm, ⟨26, _⟩ => ⟨S2x8x2048x2048, .f32⟩
  | .hbm, ⟨27, _⟩ => ⟨S2x8x2048x2048, .f32⟩
  | .hbm, ⟨28, _⟩ => ⟨S2x8x2048x2048, .i1⟩
  | .hbm, ⟨29, _⟩ => ⟨S2x8x2048x2048, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S2x8x2048x2048, .f32⟩
  | .hbm, ⟨35, _⟩ => ⟨S2x8x2048x2048, .f32⟩
  | .hbm, ⟨36, _⟩ => ⟨S2x8x2048x2048, .f32⟩
  | .hbm, ⟨37, _⟩ => ⟨S2x8x2048x2048, .f32⟩
  | .hbm, ⟨38, _⟩ => ⟨S_, .f32⟩
  | .hbm, ⟨39, _⟩ => ⟨S_, .f32⟩
  | .hbm, ⟨40, _⟩ => ⟨S2x8x2048x2048, .i1⟩
  | .hbm, ⟨41, _⟩ => ⟨S2x8x2048x2048, .f32⟩
  | .hbm, ⟨42, _⟩ => ⟨S2x8x2048x2048, .f32⟩
  | .hbm, ⟨43, _⟩ => ⟨S_, .f32⟩
  | .hbm, ⟨44, _⟩ => ⟨S2x8x2048, .f32⟩
  | .hbm, ⟨45, _⟩ => ⟨S2x4x2x2048, .f32⟩
  | .hbm, ⟨46, _⟩ => ⟨S2x4x2048x2, .f32⟩
  | .hbm, ⟨47, _⟩ => ⟨S2x4x2048x2x1, .f32⟩
  | .hbm, ⟨48, _⟩ => ⟨S2x4x2048x2x64, .f32⟩
  | .hbm, ⟨49, _⟩ => ⟨S2x4x2048x128, .f32⟩
  | .hbm, ⟨50, _⟩ => ⟨S2x2048x512, .bf16⟩
  | .hbm, ⟨51, _⟩ => ⟨S2x2048x512, .f32⟩
  | .hbm, ⟨52, _⟩ => ⟨S2x2048x512, .f32⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x512x128, .f32⟩
  | .local _ .vmem, ⟨7, _⟩ => ⟨S1x512x128, .f32⟩
  | .local _ .vmem, ⟨8, _⟩ => ⟨S1x1x512x128, .f32⟩
  | .local _ .vmem, ⟨9, _⟩ => ⟨S1x1x512x128, .f32⟩
  | .local _ .vmem, ⟨10, _⟩ => ⟨S1x512x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | _, _ => ⟨S2x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v18 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26_0 : Ref sig .tc := ⟨.hbm, 50, rfl⟩
abbrev main_v26_1 : Ref sig .tc := ⟨.hbm, 51, rfl⟩
abbrev main_v26_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 4], ![false, false, false]⟩

@[reducible] def k0_t1_loop (i : grid0.Coords) : Scf.Loop 32 :=
  let c0_i32_29 : BitVec 32 := 0#32
  let arg2 : BitVec 32 := BitVec.ofNat 32 (i 2).val
  let v76 : BitVec 32 := Scalar.subi arg2 c0_i32_29
  let c1_i32 : BitVec 32 := 1#32
  let v78 : BitVec 32 := Scalar.divsi v76 c1_i32
  let v79 : BitVec 32 := Scalar.muli v78 c1_i32
  let v80 : BitVec 32 := Scalar.addi c0_i32_29 v79
  let c1_i32_30 : BitVec 32 := 1#32
  ⟨c0_i32_29, v80, c1_i32_30⟩
def k0_mult1 (i : grid0.Coords) (k0_t1 : Fin (k0_t1_loop i).trips) : BitVec 32 :=
  let c0_i32_29 : BitVec 32 := 0#32
  let c1_i32_30 : BitVec 32 := 1#32
  let arg12 : BitVec 32 := Scf.iv c0_i32_29 c1_i32_30 k0_t1
  let c512_i32_87 : BitVec 32 := 512#32
  let v268 : BitVec 32 := Scalar.muli arg12 c512_i32_87
  v268
def k0_off1 (i : grid0.Coords) (k0_t1 : Fin (k0_t1_loop i).trips) : Fin 3 → Nat :=
  let c0_88 : Index := 0#32
  let c0_i32_29 : BitVec 32 := 0#32
  let c1_i32_30 : BitVec 32 := 1#32
  let arg12 : BitVec 32 := Scf.iv c0_i32_29 c1_i32_30 k0_t1
  let c512_i32_87 : BitVec 32 := 512#32
  let v268 : BitVec 32 := Scalar.muli arg12 c512_i32_87
  let v269 : BitVec 32 := v268
  let v270 : Index := Scalar.indexCast v269
  let c0_89 : Index := 0#32
  ![0, v270.toNat, 0]
@[reducible] def k0_t2_loop (i : grid0.Coords) : Scf.Loop 32 :=
  let c0_i32_29 : BitVec 32 := 0#32
  let arg2 : BitVec 32 := BitVec.ofNat 32 (i 2).val
  let v76 : BitVec 32 := Scalar.subi arg2 c0_i32_29
  let c1_i32 : BitVec 32 := 1#32
  let v78 : BitVec 32 := Scalar.divsi v76 c1_i32
  let v79 : BitVec 32 := Scalar.muli v78 c1_i32
  let v80 : BitVec 32 := Scalar.addi c0_i32_29 v79
  let v77 : BitVec 32 := Scalar.addi c0_i32_29 v76
  let c1_i32_31 : BitVec 32 := 1#32
  ⟨v80, v77, c1_i32_31⟩
def k0_mult2 (i : grid0.Coords) (k0_t2 : Fin (k0_t2_loop i).trips) : BitVec 32 :=
  let c0_i32_29 : BitVec 32 := 0#32
  let arg2 : BitVec 32 := BitVec.ofNat 32 (i 2).val
  let v76 : BitVec 32 := Scalar.subi arg2 c0_i32_29
  let c1_i32 : BitVec 32 := 1#32
  let v78 : BitVec 32 := Scalar.divsi v76 c1_i32
  let v79 : BitVec 32 := Scalar.muli v78 c1_i32
  let v80 : BitVec 32 := Scalar.addi c0_i32_29 v79
  let c1_i32_31 : BitVec 32 := 1#32
  let arg12 : BitVec 32 := Scf.iv v80 c1_i32_31 k0_t2
  let c512_i32_87 : BitVec 32 := 512#32
  let v268 : BitVec 32 := Scalar.muli arg12 c512_i32_87
  v268
def k0_off2 (i : grid0.Coords) (k0_t2 : Fin (k0_t2_loop i).trips) : Fin 3 → Nat :=
  let c0_88 : Index := 0#32
  let c0_i32_29 : BitVec 32 := 0#32
  let arg2 : BitVec 32 := BitVec.ofNat 32 (i 2).val
  let v76 : BitVec 32 := Scalar.subi arg2 c0_i32_29
  let c1_i32 : BitVec 32 := 1#32
  let v78 : BitVec 32 := Scalar.divsi v76 c1_i32
  let v79 : BitVec 32 := Scalar.muli v78 c1_i32
  let v80 : BitVec 32 := Scalar.addi c0_i32_29 v79
  let c1_i32_31 : BitVec 32 := 1#32
  let arg12 : BitVec 32 := Scf.iv v80 c1_i32_31 k0_t2
  let c512_i32_87 : BitVec 32 := 512#32
  let v268 : BitVec 32 := Scalar.muli arg12 c512_i32_87
  let v269 : BitVec 32 := v268
  let v270 : Index := Scalar.indexCast v269
  let c0_89 : Index := 0#32
  ![0, v270.toNat, 0]
def k0_mult3 (i : grid0.Coords) : BitVec 32 :=
  let arg2 : BitVec 32 := BitVec.ofNat 32 (i 2).val
  let c512_i32 : BitVec 32 := 512#32
  let v83 : BitVec 32 := Scalar.muli arg2 c512_i32
  v83
def k0_off3 (i : grid0.Coords) : Fin 3 → Nat :=
  let c0_32 : Index := 0#32
  let arg2 : BitVec 32 := BitVec.ofNat 32 (i 2).val
  let c512_i32 : BitVec 32 := 512#32
  let v83 : BitVec 32 := Scalar.muli arg2 c512_i32
  let v84 : BitVec 32 := v83
  let v85 : Index := Scalar.indexCast v84
  let c0_33 : Index := 0#32
  ![0, v85.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c30_i32 : BitVec 32 := 30#32
  let v0 : BitVec 32 := Scalar.addi c30_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.addi c34_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c38_i32 : BitVec 32 := 38#32
  let v0 : BitVec 32 := Scalar.addi c38_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S2x2048x6144 : Shape := ⟨3, ![2, 2048, 6144]⟩
abbrev S2x2048x512 : Shape := ⟨3, ![2, 2048, 512]⟩
abbrev S2x2048x1536 : Shape := ⟨3, ![2, 2048, 1536]⟩
abbrev S2x2048x3x8x64 : Shape := ⟨5, ![2, 2048, 3, 8, 64]⟩
abbrev S2x2048x1x8x64 : Shape := ⟨5, ![2, 2048, 1, 8, 64]⟩
abbrev S2x2048x8x64 : Shape := ⟨4, ![2, 2048, 8, 64]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048x2047 : Shape := ⟨4, ![2, 8, 2048, 2047]⟩
abbrev S2x8x2048x1 : Shape := ⟨4, ![2, 8, 2048, 1]⟩
abbrev S2x8x64x2048 : Shape := ⟨4, ![2, 8, 64, 2048]⟩
abbrev S2x8x2048x64 : Shape := ⟨4, ![2, 8, 2048, 64]⟩

abbrev nBuf : Space → Nat
  | .hbm => 187
  | .vmem => 0
  | .smem => 0
  | _ => 0

abbrev hbmTy0_0 (i : Nat) : BufTy := match i % 128 with
  | 0 => ⟨S2x2048x6144, .bf16⟩
  | 1 => ⟨S2x2048x512, .f32⟩
  | 2 => ⟨S2x2048x512, .bf16⟩
  | 3 => ⟨S2x2048x1536, .bf16⟩
  | 4 => ⟨S2x2048x1536, .f32⟩
  | 5 => ⟨S2x2048x3x8x64, .f32⟩
  | 6 => ⟨S2x2048x1x8x64, .f32⟩
  | 7 => ⟨S2x2048x8x64, .f32⟩
  | 8 => ⟨S2x2048x1x8x64, .f32⟩
  | 9 => ⟨S2x2048x8x64, .f32⟩
  | 10 => ⟨S2x2048x1x8x64, .f32⟩
  | 11 => ⟨S2x2048x8x64, .f32⟩
  | 12 => ⟨S2x8x2048x2048, .f32⟩
  | 13 => ⟨S_, .f32⟩
  | 14 => ⟨S2x8x2048x2048, .f32⟩
  | 15 => ⟨S2x8x2048x2048, .f32⟩
  | 16 => ⟨S2048, .i32⟩
  | 17 => ⟨S2048x1, .i32⟩
  | 18 => ⟨S2048, .i32⟩
  | 19 => ⟨S1x2048, .i32⟩
  | 20 => ⟨S2048x2048, .i32⟩
  | 21 => ⟨S2048x2048, .i32⟩
  | 22 => ⟨S2048x2048, .i1⟩
  | 23 => ⟨S2x8x2048x2048, .f32⟩
  | 24 => ⟨S2x8x2048x2048, .f32⟩
  | 25 => ⟨S_, .f32⟩
  | 26 => ⟨S2x8x2048x2048, .f32⟩
  | 27 => ⟨S2x8x2048x2048, .f32⟩
  | 28 => ⟨S2x8x2048x2048, .f32⟩
  | 29 => ⟨S2x8x2048x2048, .f32⟩
  | 30 => ⟨S2x8x2048x2048, .i1⟩
  | 31 => ⟨S2x8x2048x2048, .f32⟩
  | 32 => ⟨S2x8x2048x2048, .f32⟩
  | 33 => ⟨S2x8x2048x2048, .f32⟩
  | 34 => ⟨S2x8x2048x2048, .f32⟩
  | 35 => ⟨S2x8x2048x2048, .f32⟩
  | 36 => ⟨S2x8x2048x2048, .f32⟩
  | 37 => ⟨S2x8x2048x2048, .f32⟩
  | 38 => ⟨S2x8x2048x2048, .f32⟩
  | 39 => ⟨S_, .f32⟩
  | 40 => ⟨S2x8x2048x2048, .f32⟩
  | 41 => ⟨S2x8x2048x2048, .i1⟩
  | 42 => ⟨S_, .f32⟩
  | 43 => ⟨S2x8x2048x2048, .f32⟩
  | 44 => ⟨S2x8x2048x2048, .f32⟩
  | 45 => ⟨S_, .f32⟩
  | 46 => ⟨S2x8x2048x2048, .f32⟩
  | 47 => ⟨S2x8x2048x2048, .i1⟩
  | 48 => ⟨S_, .f32⟩
  | 49 => ⟨S2x8x2048x2048, .f32⟩
  | 50 => ⟨S2x8x2048x2048, .f32⟩
  | 51 => ⟨S2x8x2048x2048, .f32⟩
  | 52 => ⟨S2x8x2048x2048, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S2x8x2048x2048, .f32⟩
  | 61 => ⟨S2x8x2048x2048, .i1⟩
  | 62 => ⟨S_, .f32⟩
  | 63 => ⟨S2x8x2048x2048, .f32⟩
  | 64 => ⟨S2x8x2048x2048, .f32⟩
  | 65 => ⟨S2x8x2048x2048, .f32⟩
  | 66 => ⟨S2x8x2048x2048, .f32⟩
  | 67 => ⟨S2x8x2048x2048, .f32⟩
  | 68 => ⟨S_, .f32⟩
  | 69 => ⟨S2x8x2048x2048, .f32⟩
  | 70 => ⟨S2x8x2048x2048, .f32⟩
  | 71 => ⟨S2x8x2048x2048, .f32⟩
  | 72 => ⟨S_, .f32⟩
  | 73 => ⟨S_, .f32⟩
  | 74 => ⟨S2x8x2048x2048, .i1⟩
  | 75 => ⟨S2x8x2048x2048, .f32⟩
  | 76 => ⟨S2x8x2048x2048, .f32⟩
  | 77 => ⟨S_, .f32⟩
  | 78 => ⟨S2x8x2048x2048, .f32⟩
  | 79 => ⟨S_, .f32⟩
  | 80 => ⟨S_, .f32⟩
  | 81 => ⟨S2x8x2048x2048, .f32⟩
  | 82 => ⟨S2x8x2048x2047, .f32⟩
  | 83 => ⟨S2x8x2048x1, .f32⟩
  | 84 => ⟨S_, .f32⟩
  | 85 => ⟨S2x8x2048x1, .f32⟩
  | 86 => ⟨S2x8x2048x2048, .f32⟩
  | 87 => ⟨S_, .f32⟩
  | 88 => ⟨S2x8x2048x1, .f32⟩
  | 89 => ⟨S2x8x2048x2048, .f32⟩
  | 90 => ⟨S_, .f32⟩
  | 91 => ⟨S2x8x2048x2048, .f32⟩
  | 92 => ⟨S2x8x2048x2048, .f32⟩
  | 93 => ⟨S2x8x2048x2048, .f32⟩
  | 94 => ⟨S2x8x2048x2048, .f32⟩
  | 95 => ⟨S2x8x2048x2048, .i1⟩
  | 96 => ⟨S2x8x2048x2048, .f32⟩
  | 97 => ⟨S2x8x2048x2048, .f32⟩
  | 98 => ⟨S2x8x2048x2048, .f32⟩
  | 99 => ⟨S2x8x2048x2048, .f32⟩
  | 100 => ⟨S2x8x2048x2048, .f32⟩
  | 101 => ⟨S2x8x2048x2048, .f32⟩
  | 102 => ⟨S2x8x2048x2048, .f32⟩
  | 103 => ⟨S2x8x2048x2048, .f32⟩
  | 104 => ⟨S_, .f32⟩
  | 105 => ⟨S2x8x2048x2048, .f32⟩
  | 106 => ⟨S2x8x2048x2048, .i1⟩
  | 107 => ⟨S_, .f32⟩
  | 108 => ⟨S2x8x2048x2048, .f32⟩
  | 109 => ⟨S2x8x2048x2048, .f32⟩
  | 110 => ⟨S_, .f32⟩
  | 111 => ⟨S2x8x2048x2048, .f32⟩
  | 112 => ⟨S2x8x2048x2048, .i1⟩
  | 113 => ⟨S_, .f32⟩
  | 114 => ⟨S2x8x2048x2048, .f32⟩
  | 115 => ⟨S2x8x2048x2048, .f32⟩
  | 116 => ⟨S2x8x2048x2048, .f32⟩
  | 117 => ⟨S2x8x2048x2048, .f32⟩
  | 118 => ⟨S_, .f32⟩
  | 119 => ⟨S_, .f32⟩
  | 120 => ⟨S_, .i1⟩
  | 121 => ⟨S_, .f32⟩
  | 122 => ⟨S_, .f32⟩
  | 123 => ⟨S_, .f32⟩
  | 124 => ⟨S_, .f32⟩
  | 125 => ⟨S2x8x2048x2048, .f32⟩
  | 126 => ⟨S2x8x2048x2048, .i1⟩
  | 127 => ⟨S_, .f32⟩
  | _ => ⟨S2x2048x6144, .bf16⟩

abbrev hbmTy0_1 (i : Nat) : BufTy := match i % 128 with
  | 0 => ⟨S2x8x2048x2048, .f32⟩
  | 1 => ⟨S2x8x2048x2048, .f32⟩
  | 2 => ⟨S2x8x2048x2048, .f32⟩
  | 3 => ⟨S2x8x2048x2048, .f32⟩
  | 4 => ⟨S2x8x2048x2048, .f32⟩
  | 5 => ⟨S_, .f32⟩
  | 6 => ⟨S2x8x2048x2048, .f32⟩
  | 7 => ⟨S2x8x2048x2048, .f32⟩
  | 8 => ⟨S2x8x2048x2048, .f32⟩
  | 9 => ⟨S2x8x2048x2048, .f32⟩
  | 10 => ⟨S2x8x2048x2048, .f32⟩
  | 11 => ⟨S_, .f32⟩
  | 12 => ⟨S_, .f32⟩
  | 13 => ⟨S2x8x2048x2048, .i1⟩
  | 14 => ⟨S2x8x2048x2048, .f32⟩
  | 15 => ⟨S2x8x2048x2048, .f32⟩
  | 16 => ⟨S_, .f32⟩
  | 17 => ⟨S2x8x2048x2048, .f32⟩
  | 18 => ⟨S2x8x64x2048, .f32⟩
  | 19 => ⟨S2x2048x8x64, .f32⟩
  | 20 => ⟨S2x2048x512, .f32⟩
  | 21 => ⟨S2x2048x8x64, .f32⟩
  | 22 => ⟨S2x8x64x2048, .f32⟩
  | 23 => ⟨S2x8x2048x2048, .f32⟩
  | 24 => ⟨S2x8x64x2048, .f32⟩
  | 25 => ⟨S2x2048x8x64, .f32⟩
  | 26 => ⟨S_, .f32⟩
  | 27 => ⟨S2x8x2048x2048, .f32⟩
  | 28 => ⟨S2x8x2048x2048, .f32⟩
  | 29 => ⟨S2x8x2048x2048, .f32⟩
  | 30 => ⟨S2x8x2048x2048, .f32⟩
  | 31 => ⟨S2x8x2048x2048, .f32⟩
  | 32 => ⟨S2x8x2048x2048, .f32⟩
  | 33 => ⟨S2x8x2048x2047, .f32⟩
  | 34 => ⟨S2x8x2048x1, .f32⟩
  | 35 => ⟨S_, .f32⟩
  | 36 => ⟨S2x8x2048x2048, .f32⟩
  | 37 => ⟨S_, .f32⟩
  | 38 => ⟨S_, .f32⟩
  | 39 => ⟨S2x8x2048x2048, .f32⟩
  | 40 => ⟨S_, .f32⟩
  | 41 => ⟨S2x8x2048x2048, .f32⟩
  | 42 => ⟨S2x8x2048x2048, .f32⟩
  | 43 => ⟨S2x8x2048x2048, .f32⟩
  | 44 => ⟨S2x8x2048x2048, .f32⟩
  | 45 => ⟨S2x8x2048x2048, .f32⟩
  | 46 => ⟨S2x8x2048x2048, .f32⟩
  | 47 => ⟨S2x8x2048x2048, .f32⟩
  | 48 => ⟨S_, .f32⟩
  | 49 => ⟨S2x8x2048x2048, .f32⟩
  | 50 => ⟨S2x8x2048x2048, .f32⟩
  | 51 => ⟨S2x8x2048x64, .f32⟩
  | 52 => ⟨S2x2048x8x64, .f32⟩
  | 53 => ⟨S2x8x2048x64, .f32⟩
  | 54 => ⟨S2x2048x8x64, .f32⟩
  | 55 => ⟨S2x2048x512, .f32⟩
  | 56 => ⟨S2x2048x512, .f32⟩
  | 57 => ⟨S2x2048x512, .f32⟩
  | 58 => ⟨S2x2048x512, .bf16⟩
  | _ => ⟨S2x2048x6144, .bf16⟩

abbrev hbmTy (i : Nat) : BufTy := match i / 128 with
  | 0 => hbmTy0_0 i
  | 1 => hbmTy0_1 i
  | _ => ⟨S2x2048x6144, .bf16⟩

abbrev bufTy : (tb : Table) → Fin (tcTables nBuf tb) → BufTy
  | .hbm, ⟨i, _⟩ => hbmTy i
  | _, _ => ⟨S2x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v20_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v20_2 : Ref sig .tc := ⟨.hbm, 70, rfl⟩
abbrev main_v20_0 : Ref sig .tc := ⟨.hbm, 71, rfl⟩
abbrev main_cst_0 : Ref sig .tc := ⟨.hbm, 72, rfl⟩
abbrev main_call1_v0 : Ref sig .tc := ⟨.hbm, 73, rfl⟩
abbrev main_v21_1 : Ref sig .tc := ⟨.hbm, 74, rfl⟩
abbrev main_call1_v2 : Ref sig .tc := ⟨.hbm, 75, rfl⟩
abbrev main_v21_0 : Ref sig .tc := ⟨.hbm, 76, rfl⟩
abbrev main_call1_cst : Ref sig .tc := ⟨.hbm, 77, rfl⟩
abbrev main_v21_2 : Ref sig .tc := ⟨.hbm, 78, rfl⟩
abbrev main_call2_cst : Ref sig .tc := ⟨.hbm, 79, rfl⟩
abbrev main_call2_v0 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_cst_1 : Ref sig .tc := ⟨.hbm, 84, rfl⟩
abbrev main_v25 : Ref sig .tc := ⟨.hbm, 85, rfl⟩
abbrev main_v26 : Ref sig .tc := ⟨.hbm, 86, rfl⟩
abbrev main_cst_2 : Ref sig .tc := ⟨.hbm, 87, rfl⟩
abbrev main_v27 : Ref sig .tc := ⟨.hbm, 88, rfl⟩
abbrev main_call3_v0 : Ref sig .tc := ⟨.hbm, 89, rfl⟩
abbrev main_call3_call0_cst : Ref sig .tc := ⟨.hbm, 90, rfl⟩
abbrev main_call3_call0_v0 : Ref sig .tc := ⟨.hbm, 91, rfl⟩
abbrev main_call3_call0_v1 : Ref sig .tc := ⟨.hbm, 92, rfl⟩
abbrev main_call3_call0_v2 : Ref sig .tc := ⟨.hbm, 93, rfl⟩
abbrev main_call3_call0_v3 : Ref sig .tc := ⟨.hbm, 94, rfl⟩
abbrev main_call3_call0_v4 : Ref sig .tc := ⟨.hbm, 95, rfl⟩
abbrev main_call3_call0_v5 : Ref sig .tc := ⟨.hbm, 96, rfl⟩
abbrev main_call3_call0_v6 : Ref sig .tc := ⟨.hbm, 97, rfl⟩
abbrev main_call3_call0_v7 : Ref sig .tc := ⟨.hbm, 98, rfl⟩
abbrev main_call3_call0_v8 : Ref sig .tc := ⟨.hbm, 99, rfl⟩
abbrev main_call3_call0_v9 : Ref sig .tc := ⟨.hbm, 100, rfl⟩
abbrev main_call3_call0_v10 : Ref sig .tc := ⟨.hbm, 101, rfl⟩
abbrev main_call3_call0_v11 : Ref sig .tc := ⟨.hbm, 102, rfl⟩
abbrev main_call3_v1_0 : Ref sig .tc := ⟨.hbm, 103, rfl⟩
abbrev main_call3_call0_cst_0 : Ref sig .tc := ⟨.hbm, 104, rfl⟩
abbrev main_call3_call0_v13 : Ref sig .tc := ⟨.hbm, 105, rfl⟩
abbrev main_call3_call0_v14 : Ref sig .tc := ⟨.hbm, 106, rfl⟩
abbrev main_call3_call0_cst_1 : Ref sig .tc := ⟨.hbm, 107, rfl⟩
abbrev main_call3_call0_v15 : Ref sig .tc := ⟨.hbm, 108, rfl⟩
abbrev main_call3_call0_v16 : Ref sig .tc := ⟨.hbm, 109, rfl⟩
abbrev main_call3_call0_cst_2 : Ref sig .tc := ⟨.hbm, 110, rfl⟩
abbrev main_call3_call0_v17 : Ref sig .tc := ⟨.hbm, 111, rfl⟩
abbrev main_call3_call0_v18 : Ref sig .tc := ⟨.hbm, 112, rfl⟩
abbrev main_call3_call0_cst_3 : Ref sig .tc := ⟨.hbm, 113, rfl⟩
abbrev main_call3_call0_v19 : Ref sig .tc := ⟨.hbm, 114, rfl⟩
abbrev main_call3_call0_v20 : Ref sig .tc := ⟨.hbm, 115, rfl⟩
abbrev main_call3_call0_v21 : Ref sig .tc := ⟨.hbm, 116, rfl⟩
abbrev main_v28_1 : Ref sig .tc := ⟨.hbm, 117, rfl⟩
abbrev main_call3_call0_cst_4 : Ref sig .tc := ⟨.hbm, 118, rfl⟩
abbrev main_call3_call0_cst_5 : Ref sig .tc := ⟨.hbm, 119, rfl⟩
abbrev main_call3_call0_v23 : Ref sig .tc := ⟨.hbm, 120, rfl⟩
abbrev main_call3_call0_cst_6 : Ref sig .tc := ⟨.hbm, 121, rfl⟩
abbrev main_call3_call0_cst_7 : Ref sig .tc := ⟨.hbm, 122, rfl⟩
abbrev main_call3_call0_v24 : Ref sig .tc := ⟨.hbm, 123, rfl⟩
abbrev main_call3_call0_cst_8 : Ref sig .tc := ⟨.hbm, 124, rfl⟩
abbrev main_call3_call0_v25 : Ref sig .tc := ⟨.hbm, 125, rfl⟩
abbrev main_call3_call0_v26 : Ref sig .tc := ⟨.hbm, 126, rfl⟩
abbrev main_call3_call0_cst_9 : Ref sig .tc := ⟨.hbm, 127, rfl⟩
abbrev main_call3_call0_v27 : Ref sig .tc := ⟨.hbm, 128, rfl⟩
abbrev main_call3_call0_v28 : Ref sig .tc := ⟨.hbm, 129, rfl⟩
abbrev main_call3_call0_v29 : Ref sig .tc := ⟨.hbm, 130, rfl⟩
abbrev main_call3_call0_v30 : Ref sig .tc := ⟨.hbm, 131, rfl⟩
abbrev main_call3_call0_v31 : Ref sig .tc := ⟨.hbm, 132, rfl⟩
abbrev main_call3_call0_cst_10 : Ref sig .tc := ⟨.hbm, 133, rfl⟩
abbrev main_call3_call0_v32 : Ref sig .tc := ⟨.hbm, 134, rfl⟩
abbrev main_v28_2 : Ref sig .tc := ⟨.hbm, 135, rfl⟩
abbrev main_v28_0 : Ref sig .tc := ⟨.hbm, 136, rfl⟩
abbrev main_v29 : Ref sig .tc := ⟨.hbm, 137, rfl⟩
abbrev main_v30 : Ref sig .tc := ⟨.hbm, 138, rfl⟩
abbrev main_cst_3 : Ref sig .tc := ⟨.hbm, 139, rfl⟩
abbrev main_call4_v0 : Ref sig .tc := ⟨.hbm, 140, rfl⟩
abbrev main_v31_1 : Ref sig .tc := ⟨.hbm, 141, rfl⟩
abbrev main_call4_v2 : Ref sig .tc := ⟨.hbm, 142, rfl⟩
abbrev main_v31_0 : Ref sig .tc := ⟨.hbm, 143, rfl⟩
abbrev main_call4_cst : Ref sig .tc := ⟨.hbm, 144, rfl⟩
abbrev main_v31_2 : Ref sig .tc := ⟨.hbm, 145, rfl⟩
abbrev main_v32 : Ref sig .tc := ⟨.hbm, 146, rfl⟩
abbrev main_v33 : Ref sig .tc := ⟨.hbm, 147, rfl⟩
abbrev main_v34 : Ref sig .tc := ⟨.hbm, 148, rfl⟩
abbrev main_v35 : Ref sig .tc := ⟨.hbm, 149, rfl⟩
abbrev main_v36 : Ref sig .tc := ⟨.hbm, 150, rfl⟩
abbrev main_v37 : Ref sig .tc := ⟨.hbm, 151, rfl⟩
abbrev main_v38 : Ref sig .tc := ⟨.hbm, 152, rfl⟩
abbrev main_v39 : Ref sig .tc := ⟨.hbm, 153, rfl⟩
abbrev main_call5_cst : Ref sig .tc := ⟨.hbm, 154, rfl⟩
abbrev main_call5_v0 : Ref sig .tc := ⟨.hbm, 155, rfl⟩
abbrev main_v40 : Ref sig .tc := ⟨.hbm, 156, rfl⟩
abbrev main_v41 : Ref sig .tc := ⟨.hbm, 157, rfl⟩
abbrev main_call6_v0 : Ref sig .tc := ⟨.hbm, 158, rfl⟩
abbrev main_call6_v1 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩
abbrev main_cst_4 : Ref sig .tc := ⟨.hbm, 163, rfl⟩
abbrev main_v45 : Ref sig .tc := ⟨.hbm, 164, rfl⟩
abbrev main_call7_cst : Ref sig .tc := ⟨.hbm, 165, rfl⟩
abbrev main_call7_v0 : Ref sig .tc := ⟨.hbm, 166, rfl⟩
abbrev main_v46 : Ref sig .tc := ⟨.hbm, 167, rfl⟩
abbrev main_call8_cst : Ref sig .tc := ⟨.hbm, 168, rfl⟩
abbrev main_call8_v0 : Ref sig .tc := ⟨.hbm, 169, rfl⟩
abbrev main_v47 : Ref sig .tc := ⟨.hbm, 170, rfl⟩
abbrev main_call9_v0 : Ref sig .tc := ⟨.hbm, 171, rfl⟩
abbrev main_call9_v1 : Ref sig .tc := ⟨.hbm, 172, rfl⟩
abbrev main_v48 : Ref sig .tc := ⟨.hbm, 173, rfl⟩
abbrev main_v49 : Ref sig .tc := ⟨.hbm, 174, rfl⟩
abbrev main_v50 : Ref sig .tc := ⟨.hbm, 175, rfl⟩
abbrev main_cst_5 : Ref sig .tc := ⟨.hbm, 176, rfl⟩
abbrev main_v51 : Ref sig .tc := ⟨.hbm, 177, rfl⟩
abbrev main_v52 : Ref sig .tc := ⟨.hbm, 178, rfl⟩
abbrev main_v53 : Ref sig .tc := ⟨.hbm, 179, rfl⟩
abbrev main_v54 : Ref sig .tc := ⟨.hbm, 180, rfl⟩
abbrev main_v55 : Ref sig .tc := ⟨.hbm, 181, rfl⟩
abbrev main_v56 : Ref sig .tc := ⟨.hbm, 182, rfl⟩
abbrev main_v57 : Ref sig .tc := ⟨.hbm, 183, rfl⟩
abbrev main_v58 : Ref sig .tc := ⟨.hbm, 184, rfl⟩
abbrev main_v59 : Ref sig .tc := ⟨.hbm, 185, rfl⟩
abbrev main_v60 : Ref sig .tc := ⟨.hbm, 186, rfl⟩

abbrev nD : Nat := 1
abbrev τ : Topo := Topo.v7x

variable {F : FTy → Type} [FloatOps F]
-- ==== Up.lean ====
abbrev S4096x1024 : Shape := ⟨2, ![4096, 1024]⟩
abbrev S8x1024x512 : Shape := ⟨3, ![8, 1024, 512]⟩
abbrev S4096x4096 : Shape := ⟨2, ![4096, 4096]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x1024, .f32⟩
  | .hbm, ⟨3, _⟩ => ⟨S1024x8x512, .bf16⟩
  | .hbm, ⟨4, _⟩ => ⟨S1024x4096, .bf16⟩
  | .hbm, ⟨5, _⟩ => ⟨S1024x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DownDx.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 14
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S1024x8x512, .bf16⟩
  | .hbm, ⟨6, _⟩ => ⟨S1024x4096, .bf16⟩
  | .hbm, ⟨7, _⟩ => ⟨S1024x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S1024x8x512, .bf16⟩
  | .hbm, ⟨6, _⟩ => ⟨S1024x4096, .bf16⟩
  | .hbm, ⟨7, _⟩ => ⟨S1024x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== DownDw.lean ====
abbrev S4096x4096 : Shape := ⟨2, ![4096, 4096]⟩
abbrev S4096x1024 : Shape := ⟨2, ![4096, 1024]⟩
abbrev S2x4x512x1024 : Shape := ⟨4, ![2, 4, 512, 1024]⟩
abbrev S4096x512 : Shape := ⟨2, ![4096, 512]⟩
abbrev S1x1x512x1024 : Shape := ⟨4, ![1, 1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S2x4x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x1x512x1024, .bf16⟩
  | .local _ .vmem, ⟨4, _⟩ => ⟨S1x1x512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x2x512x1024 : Shape := ⟨4, ![4, 2, 512, 1024]⟩
abbrev S2x4x512x1024 : Shape := ⟨4, ![2, 4, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4x2x512x1024, .f32⟩
  | .hbm, ⟨10, _⟩ => ⟨S2x4x512x1024, .f32⟩
  | .hbm, ⟨11, _⟩ => ⟨S2x4x512x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpDw.lean ====
abbrev S4096x1024 : Shape := ⟨2, ![4096, 1024]⟩
abbrev S4096x4096 : Shape := ⟨2, ![4096, 4096]⟩
abbrev S2x4x1024x512 : Shape := ⟨4, ![2, 4, 1024, 512]⟩
abbrev S4096x512 : Shape := ⟨2, ![4096, 512]⟩
abbrev S1x1x1024x512 : Shape := ⟨4, ![1, 1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S2x4x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1x1024x512, .bf16⟩
  | .local _ .vmem, ⟨4, _⟩ => ⟨S1x1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg1 c2_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg1 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg0.toNat, c0_i32_10.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x2x512 : Shape := ⟨4, ![1024, 4, 2, 512]⟩
abbrev S2x4x1024x512 : Shape := ⟨4, ![2, 4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x2x512, .f32⟩
  | .hbm, ⟨10, _⟩ => ⟨S2x4x1024x512, .f32⟩
  | .hbm, ⟨11, _⟩ => ⟨S2x4x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InFwd.lean ====
abbrev S4096x1024 : Shape := ⟨2, ![4096, 1024]⟩
abbrev S1024x6144 : Shape := ⟨2, ![1024, 6144]⟩
abbrev S4096x6144 : Shape := ⟨2, ![4096, 6144]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .f32⟩
  | .hbm, ⟨3, _⟩ => ⟨S1024x6144, .f32⟩
  | .hbm, ⟨4, _⟩ => ⟨S4096x6144, .f32⟩
  | .hbm, ⟨5, _⟩ => ⟨S4096x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InDw.lean ====
abbrev S4096x1024 : Shape := ⟨2, ![4096, 1024]⟩
abbrev S4096x6144 : Shape := ⟨2, ![4096, 6144]⟩
abbrev S1024x6144 : Shape := ⟨2, ![1024, 6144]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S1024x6144, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S_, .f32⟩
  | .hbm, ⟨3, _⟩ => ⟨S1024x6144, .f32⟩
  | .hbm, ⟨4, _⟩ => ⟨S4096x1024, .f32⟩
  | .hbm, ⟨5, _⟩ => ⟨S4096x6144, .f32⟩
  | .hbm, ⟨6, _⟩ => ⟨S4096x6144, .f32⟩
  | .hbm, ⟨7, _⟩ => ⟨S6144x1024, .f32⟩
  | .hbm, ⟨8, _⟩ => ⟨S1024x6144, .f32⟩
  | .hbm, ⟨9, _⟩ => ⟨S1024x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Bo.lean ====
abbrev S4096x512 : Shape := ⟨2, ![4096, 512]⟩
abbrev S512x1024 : Shape := ⟨2, ![512, 1024]⟩
abbrev S4096x1024 : Shape := ⟨2, ![4096, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x1024, .bf16⟩
  | .hbm, ⟨2, _⟩ => ⟨S4096x1024, .bf16⟩
  | .local _ .vmem, ⟨0, _⟩ => ⟨S2048x512, .f32⟩
  | .local _ .vmem, ⟨1, _⟩ => ⟨S2048x512, .f32⟩
  | .local _ .vmem, ⟨2, _⟩ => ⟨S512x1024, .bf16⟩
  | .local _ .vmem, ⟨3, _⟩ => ⟨S2048x1024, .bf16⟩
  | .local _ .vmem, ⟨4, _⟩ => ⟨S2048x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BoRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .bf16⟩
  | .hbm, ⟨2, _⟩ => ⟨S512x1024, .f32⟩
  | .hbm, ⟨3, _⟩ => ⟨S4096x1024, .f32⟩
  | .hbm, ⟨4, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BoDx.lean ====
abbrev S4096x1024 : Shape := ⟨2, ![4096, 1024]⟩
abbrev S512x1024 : Shape := ⟨2, ![512, 1024]⟩
abbrev S4096x512 : Shape := ⟨2, ![4096, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BoDxRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | .hbm, ⟨8, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BoDw.lean ====
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .f32⟩
  | .hbm, ⟨1, _⟩ => ⟨S4096x1024, .bf16⟩
  | .hbm, ⟨2, _⟩ => ⟨S512x1024, .bf16⟩
  | .local _ .vmem, ⟨0, _⟩ => ⟨S4096x512, .f32⟩
  | .local _ .vmem, ⟨1, _⟩ => ⟨S4096x1024, .bf16⟩
  | .local _ .vmem, ⟨2, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BoDwRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S4096x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Uq.lean ====
abbrev S4096x384 : Shape := ⟨2, ![4096, 384]⟩
abbrev S384x1024 : Shape := ⟨2, ![384, 1024]⟩
abbrev S4096x1024 : Shape := ⟨2, ![4096, 1024]⟩
abbrev S2048x384 : Shape := ⟨2, ![2048, 384]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S4096x1024, .bf16⟩
  | .local _ .vmem, ⟨0, _⟩ => ⟨S2048x384, .bf16⟩
  | .local _ .vmem, ⟨1, _⟩ => ⟨S2048x384, .bf16⟩
  | .local _ .vmem, ⟨2, _⟩ => ⟨S384x1024, .bf16⟩
  | .local _ .vmem, ⟨3, _⟩ => ⟨S2048x1024, .bf16⟩
  | .local _ .vmem, ⟨4, _⟩ => ⟨S2048x1024, .bf16⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqRefIdeal.lean ====
abbrev S4096x384 : Shape := ⟨2, ![4096, 384]⟩
abbrev S384x1024 : Shape := ⟨2, ![384, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S4096x384, .f32⟩
  | .hbm, ⟨3, _⟩ => ⟨S384x1024, .f32⟩
  | .hbm, ⟨4, _⟩ => ⟨S4096x1024, .f32⟩
  | .hbm, ⟨5, _⟩ => ⟨S4096x1024, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UqDx.lean ====
abbrev S4096x1024 : Shape := ⟨2, ![4096, 1024]⟩
abbrev S384x1024 : Shape := ⟨2, ![384, 1024]⟩
abbrev S4096x384 : Shape := ⟨2, ![4096, 384]⟩
abbrev S2048x1024 : Shape := ⟨2, ![2048, 1024]⟩
abbrev S2048x384 : Shape := ⟨2, ![2048, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S384x1024, .bf16⟩
  | .hbm, ⟨2, _⟩ => ⟨S4096x384, .f32⟩
  | .local _ .vmem, ⟨0, _⟩ => ⟨S2048x1024, .bf16⟩
  | .local _ .vmem, ⟨1, _⟩ => ⟨S2048x1024, .bf16⟩
  | .local _ .vmem, ⟨2, _⟩ => ⟨S384x1024, .bf16⟩
  | .local _ .vmem, ⟨3, _⟩ => ⟨S2048x384, .f32⟩
  | .local _ .vmem, ⟨4, _⟩ => ⟨S2048x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDxRefIdeal.lean ====
abbrev S4096x1024 : Shape := ⟨2, ![4096, 1024]⟩
abbrev S384x1024 : Shape := ⟨2, ![384, 1024]⟩
abbrev S_ : Shape := ⟨0, ![]⟩
abbrev S4096x384 : Shape := ⟨2, ![4096, 384]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S384x1024, .bf16⟩
  | .hbm, ⟨2, _⟩ => ⟨S_, .f32⟩
  | .hbm, ⟨3, _⟩ => ⟨S4096x384, .f32⟩
  | .hbm, ⟨4, _⟩ => ⟨S384x1024, .f32⟩
  | .hbm, ⟨5, _⟩ => ⟨S4096x1024, .f32⟩
  | .hbm, ⟨6, _⟩ => ⟨S4096x1024, .f32⟩
  | .hbm, ⟨7, _⟩ => ⟨S4096x384, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UqDw.lean ====
abbrev S4096x384 : Shape := ⟨2, ![4096, 384]⟩
abbrev S4096x1024 : Shape := ⟨2, ![4096, 1024]⟩
abbrev S384x1024 : Shape := ⟨2, ![384, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x384, .bf16⟩
  | .hbm, ⟨1, _⟩ => ⟨S4096x1024, .bf16⟩
  | .hbm, ⟨2, _⟩ => ⟨S384x1024, .bf16⟩
  | .local _ .vmem, ⟨0, _⟩ => ⟨S4096x384, .bf16⟩
  | .local _ .vmem, ⟨1, _⟩ => ⟨S4096x1024, .bf16⟩
  | .local _ .vmem, ⟨2, _⟩ => ⟨S384x1024, .bf16⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqDwRefIdeal.lean ====
abbrev S4096x384 : Shape := ⟨2, ![4096, 384]⟩
abbrev S4096x1024 : Shape := ⟨2, ![4096, 1024]⟩
abbrev S_ : Shape := ⟨0, ![]⟩
abbrev S384x1024 : Shape := ⟨2, ![384, 1024]⟩
abbrev S1024x384 : Shape := ⟨2, ![1024, 384]⟩

abbrev nBuf : Space → Nat
  | .hbm => 10
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x1024, .bf16⟩
  | .hbm, ⟨2, _⟩ => ⟨S_, .f32⟩
  | .hbm, ⟨3, _⟩ => ⟨S384x1024, .f32⟩
  | .hbm, ⟨4, _⟩ => ⟨S4096x384, .f32⟩
  | .hbm, ⟨5, _⟩ => ⟨S4096x1024, .f32⟩
  | .hbm, ⟨6, _⟩ => ⟨S4096x1024, .f32⟩
  | .hbm, ⟨7, _⟩ => ⟨S1024x384, .f32⟩
  | .hbm, ⟨8, _⟩ => ⟨S384x1024, .f32⟩
  | .hbm, ⟨9, _⟩ => ⟨S384x1024, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Uk.lean ====
abbrev S4096x256 : Shape := ⟨2, ![4096, 256]⟩
abbrev S256x1024 : Shape := ⟨2, ![256, 1024]⟩
abbrev S4096x1024 : Shape := ⟨2, ![4096, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S256x1024, .bf16⟩
  | .local _ .vmem, ⟨3, _⟩ => ⟨S2048x1024, .bf16⟩
  | .local _ .vmem, ⟨4, _⟩ => ⟨S2048x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkRefIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x256, .f32⟩
  | .hbm, ⟨3, _⟩ => ⟨S256x1024, .f32⟩
  | .hbm, ⟨4, _⟩ => ⟨S4096x1024, .f32⟩
  | .hbm, ⟨5, _⟩ => ⟨S4096x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UkDx.lean ====
abbrev S4096x1024 : Shape := ⟨2, ![4096, 1024]⟩
abbrev S256x1024 : Shape := ⟨2, ![256, 1024]⟩
abbrev S4096x256 : Shape := ⟨2, ![4096, 256]⟩
abbrev S2048x1024 : Shape := ⟨2, ![2048, 1024]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S256x1024, .bf16⟩
  | .hbm, ⟨2, _⟩ => ⟨S4096x256, .f32⟩
  | .local _ .vmem, ⟨0, _⟩ => ⟨S2048x1024, .f32⟩
  | .local _ .vmem, ⟨1, _⟩ => ⟨S2048x1024, .f32⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkDxRefIdeal.lean ====
abbrev S4096x1024 : Shape := ⟨2, ![4096, 1024]⟩
abbrev S256x1024 : Shape := ⟨2, ![256, 1024]⟩
abbrev S_ : Shape := ⟨0, ![]⟩
abbrev S4096x256 : Shape := ⟨2, ![4096, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .bf16⟩
  | .hbm, ⟨2, _⟩ => ⟨S_, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UkDw.lean ====
abbrev S4096x256 : Shape := ⟨2, ![4096, 256]⟩
abbrev S4096x1024 : Shape := ⟨2, ![4096, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x256, .bf16⟩
  | .hbm, ⟨1, _⟩ => ⟨S4096x1024, .f32⟩
  | .hbm, ⟨2, _⟩ => ⟨S256x1024, .bf16⟩
  | .local _ .vmem, ⟨0, _⟩ => ⟨S4096x256, .bf16⟩
  | .local _ .vmem, ⟨1, _⟩ => ⟨S4096x1024, .f32⟩
  | .local _ .vmem, ⟨2, _⟩ => ⟨S256x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkDwRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Uv.lean ====
abbrev S4096x256 : Shape := ⟨2, ![4096, 256]⟩
abbrev S256x512 : Shape := ⟨2, ![256, 512]⟩
abbrev S4096x512 : Shape := ⟨2, ![4096, 512]⟩
abbrev S2048x256 : Shape := ⟨2, ![2048, 256]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x512, .bf16⟩
  | .hbm, ⟨2, _⟩ => ⟨S4096x512, .bf16⟩
  | .local _ .vmem, ⟨0, _⟩ => ⟨S2048x256, .bf16⟩
  | .local _ .vmem, ⟨1, _⟩ => ⟨S2048x256, .bf16⟩
  | .local _ .vmem, ⟨2, _⟩ => ⟨S256x512, .bf16⟩
  | .local _ .vmem, ⟨3, _⟩ => ⟨S2048x512, .bf16⟩
  | .local _ .vmem, ⟨4, _⟩ => ⟨S2048x512, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UvRefIdeal.lean ====
abbrev S4096x256 : Shape := ⟨2, ![4096, 256]⟩
abbrev S256x512 : Shape := ⟨2, ![256, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x512, .bf16⟩
  | .hbm, ⟨2, _⟩ => ⟨S4096x256, .f32⟩
  | .hbm, ⟨3, _⟩ => ⟨S256x512, .f32⟩
  | .hbm, ⟨4, _⟩ => ⟨S4096x512, .f32⟩
  | .hbm, ⟨5, _⟩ => ⟨S4096x512, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UvDx.lean ====
abbrev S4096x512 : Shape := ⟨2, ![4096, 512]⟩
abbrev S256x512 : Shape := ⟨2, ![256, 512]⟩
abbrev S4096x256 : Shape := ⟨2, ![4096, 256]⟩
abbrev S2048x512 : Shape := ⟨2, ![2048, 512]⟩
abbrev S2048x256 : Shape := ⟨2, ![2048, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S256x512, .bf16⟩
  | .hbm, ⟨2, _⟩ => ⟨S4096x256, .f32⟩
  | .hbm, ⟨3, _⟩ => ⟨S4096x256, .f32⟩
  | .local _ .vmem, ⟨0, _⟩ => ⟨S2048x512, .f32⟩
  | .local _ .vmem, ⟨1, _⟩ => ⟨S2048x512, .f32⟩
  | .local _ .vmem, ⟨2, _⟩ => ⟨S256x512, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UvDxRefIdeal.lean ====
abbrev S4096x512 : Shape := ⟨2, ![4096, 512]⟩
abbrev S256x512 : Shape := ⟨2, ![256, 512]⟩
abbrev S4096x256 : Shape := ⟨2, ![4096, 256]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S256x512, .bf16⟩
  | .hbm, ⟨2, _⟩ => ⟨S4096x256, .f32⟩
  | .hbm, ⟨3, _⟩ => ⟨S_, .f32⟩
  | .hbm, ⟨4, _⟩ => ⟨S4096x256, .f32⟩
  | .hbm, ⟨5, _⟩ => ⟨S256x512, .f32⟩
  | .hbm, ⟨6, _⟩ => ⟨S4096x512, .f32⟩
  | .hbm, ⟨7, _⟩ => ⟨S4096x256, .f32⟩
  | .hbm, ⟨8, _⟩ => ⟨S4096x256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== UvDw.lean ====
abbrev S4096x256 : Shape := ⟨2, ![4096, 256]⟩
abbrev S4096x512 : Shape := ⟨2, ![4096, 512]⟩
abbrev S256x512 : Shape := ⟨2, ![256, 512]⟩

abbrev nBuf : Space → Nat
  | .hbm => 3
  | .vmem => 3
  | .smem => 0
  | _ => 0

abbrev bufTy : (tb : Table) → Fin (tcTables nBuf tb) → BufTy
  | .hbm, ⟨0, _⟩ => ⟨S4096x256, .bf16⟩
  | .hbm, ⟨1, _⟩ => ⟨S4096x512, .f32⟩
  | .hbm, ⟨2, _⟩ => ⟨S256x512, .bf16⟩
  | .local _ .vmem, ⟨0, _⟩ => ⟨S4096x256, .bf16⟩
  | .local _ .vmem, ⟨1, _⟩ => ⟨S4096x512, .f32⟩
  | .local _ .vmem, ⟨2, _⟩ => ⟨S256x512, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UvDwRefIdeal.lean ====
abbrev S4096x256 : Shape := ⟨2, ![4096, 256]⟩
abbrev S4096x512 : Shape := ⟨2, ![4096, 512]⟩
abbrev S_ : Shape := ⟨0, ![]⟩
abbrev S256x512 : Shape := ⟨2, ![256, 512]⟩
abbrev S512x256 : Shape := ⟨2, ![512, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x512, .f32⟩
  | .hbm, ⟨2, _⟩ => ⟨S_, .f32⟩
  | .hbm, ⟨3, _⟩ => ⟨S256x512, .f32⟩
  | .hbm, ⟨4, _⟩ => ⟨S4096x256, .f32⟩
  | .hbm, ⟨5, _⟩ => ⟨S4096x512, .f32⟩
  | .hbm, ⟨6, _⟩ => ⟨S512x256, .f32⟩
  | .hbm, ⟨7, _⟩ => ⟨S256x512, .f32⟩
  | .hbm, ⟨8, _⟩ => ⟨S256x512, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemKv.lean ====
abbrev S512x1024 : Shape := ⟨2, ![512, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .bf16⟩
  | .local _ .vmem, ⟨0, _⟩ => ⟨S512x1024, .bf16⟩
  | .local _ .vmem, ⟨1, _⟩ => ⟨S1024x1024, .bf16⟩
  | .local _ .vmem, ⟨2, _⟩ => ⟨S512x1024, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvRefIdeal.lean ====
abbrev S512x1024 : Shape := ⟨2, ![512, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .f32⟩
  | .hbm, ⟨3, _⟩ => ⟨S1024x1024, .f32⟩
  | .hbm, ⟨4, _⟩ => ⟨S512x1024, .f32⟩
  | .hbm, ⟨5, _⟩ => ⟨S512x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MemKvDx.lean ====
abbrev S512x1024 : Shape := ⟨2, ![512, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .f32⟩
  | .local _ .vmem, ⟨0, _⟩ => ⟨S512x1024, .bf16⟩
  | .local _ .vmem, ⟨1, _⟩ => ⟨S1024x1024, .bf16⟩
  | .local _ .vmem, ⟨2, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvDxRefIdeal.lean ====
abbrev S512x1024 : Shape := ⟨2, ![512, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S_, .f32⟩
  | .hbm, ⟨3, _⟩ => ⟨S512x1024, .f32⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemKvDw.lean ====
abbrev S512x1024 : Shape := ⟨2, ![512, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvDwRefIdeal.lean ====
abbrev S512x1024 : Shape := ⟨2, ![512, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S_, .f32⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutNorms.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== OutNormsRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== DownLoss.lean ====
abbrev S4096x4096 : Shape := ⟨2, ![4096, 4096]⟩
abbrev S4096x1024 : Shape := ⟨2, ![4096, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x128, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_27 : BitVec 32 := 0#32
  let v67 : BitVec 1 := Scalar.cmpi .ne v66 c0_i32_27
  v67

def k0_cond2 (i : grid0.Coords) : BitVec 1 :=
  let arg0 : BitVec 32 := BitVec.ofNat 32 (i 0).val
  let c0_i32_28 : BitVec 32 := 0#32
  let v68 : BitVec 1 := Scalar.cmpi .sgt arg0 c0_i32_28
  let v69 : BitVec 32 := Scalar.extui v68
  let c0_i32_29 : BitVec 32 := 0#32
  let v70 : BitVec 1 := Scalar.cmpi .ne v69 c0_i32_29
  v70

def k0_cond3 (i : grid0.Coords) : BitVec 1 :=
  let arg0 : BitVec 32 := BitVec.ofNat 32 (i 0).val
  let c0_i32_30 : BitVec 32 := 0#32
  let v71 : BitVec 1 := Scalar.cmpi .eq arg0 c0_i32_30
  let v72 : BitVec 32 := Scalar.extui v71
  let c0_i32_31 : BitVec 32 := 0#32
  let v73 : BitVec 1 := Scalar.cmpi .ne v72 c0_i32_31
  v73

def k0_cond4 (i : grid0.Coords) : BitVec 1 :=
  let arg0 : BitVec 32 := BitVec.ofNat 32 (i 0).val
  let c0_i32_32 : BitVec 32 := 0#32
  let v74 : BitVec 1 := Scalar.cmpi .sgt arg0 c0_i32_32
  let v75 : BitVec 32 := Scalar.extui v74
  let c0_i32_33 : BitVec 32 := 0#32
  let v76 : BitVec 1 := Scalar.cmpi .ne v75 c0_i32_33
  v76

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== DownLossRefIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S1x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== UpDx.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S512x2048 : Shape := ⟨2, ![512, 2048]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_35 : BitVec 32 := 0#32
  let v80 : BitVec 1 := Scalar.cmpi .eq arg0 c0_i32_35
  let v81 : BitVec 32 := Scalar.extui v80
  let c0_i32_36 : BitVec 32 := 0#32
  let v82 : BitVec 1 := Scalar.cmpi .ne v81 c0_i32_36
  v82

def k0_cond5 (i : grid0.Coords) : BitVec 1 :=
  let arg0 : BitVec 32 := BitVec.ofNat 32 (i 0).val
  let c0_i32_37 : BitVec 32 := 0#32
  let v83 : BitVec 1 := Scalar.cmpi .sgt arg0 c0_i32_37
  let v84 : BitVec 32 := Scalar.extui v83
  let c0_i32_38 : BitVec 32 := 0#32
  let v85 : BitVec 1 := Scalar.cmpi .ne v84 c0_i32_38
  v85

def k0_cond6 (i : grid0.Coords) : BitVec 1 :=
  let arg0 : BitVec 32 := BitVec.ofNat 32 (i 0).val
  let c0_i32_39 : BitVec 32 := 0#32
  let v86 : BitVec 1 := Scalar.cmpi .eq arg0 c0_i32_39
  let v87 : BitVec 32 := Scalar.extui v86
  let c0_i32_40 : BitVec 32 := 0#32
  let v88 : BitVec 1 := Scalar.cmpi .ne v87 c0_i32_40
  v88

def k0_cond7 (i : grid0.Coords) : BitVec 1 :=
  let arg0 : BitVec 32 := BitVec.ofNat 32 (i 0).val
  let c0_i32_41 : BitVec 32 := 0#32
  let v89 : BitVec 1 := Scalar.cmpi .sgt arg0 c0_i32_41
  let v90 : BitVec 32 := Scalar.extui v89
  let c0_i32_42 : BitVec 32 := 0#32
  let v91 : BitVec 1 := Scalar.cmpi .ne v90 c0_i32_42
  v91

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== UpDxRefIdeal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x4096, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== InDx.lean ====
abbrev S4096x6144 : Shape := ⟨2, ![4096, 6144]⟩
abbrev S1024x6144 : Shape := ⟨2, ![1024, 6144]⟩
abbrev S4096x1024 : Shape := ⟨2, ![4096, 1024]⟩
abbrev S1x1024 : Shape := ⟨2, ![1, 1024]⟩
abbrev S512x3072 : Shape := ⟨2, ![512, 3072]⟩
abbrev S1024x3072 : Shape := ⟨2, ![1024, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_23 : BitVec 32 := 0#32
  let v47 : BitVec 1 := Scalar.cmpi .eq arg0 c0_i32_23
  let v48 : BitVec 32 := Scalar.extui v47
  let c0_i32_24 : BitVec 32 := 0#32
  let v49 : BitVec 1 := Scalar.cmpi .ne v48 c0_i32_24
  v49

def k0_cond5 (i : grid0.Coords) : BitVec 1 :=
  let arg0 : BitVec 32 := BitVec.ofNat 32 (i 0).val
  let c0_i32_25 : BitVec 32 := 0#32
  let v50 : BitVec 1 := Scalar.cmpi .sgt arg0 c0_i32_25
  let v51 : BitVec 32 := Scalar.extui v50
  let c0_i32_26 : BitVec 32 := 0#32
  let v52 : BitVec 1 := Scalar.cmpi .ne v51 c0_i32_26
  v52

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== InDxRefIdeal.lean ====
abbrev S4096x6144 : Shape := ⟨2, ![4096, 6144]⟩
abbrev S1024x6144 : Shape := ⟨2, ![1024, 6144]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x6144, .f32⟩
  | .hbm, ⟨25, _⟩ => ⟨S4096x6144, .f32⟩
  | .hbm, ⟨26, _⟩ => ⟨S4096x6144, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== RmsQBwd.lean ====
abbrev S4096x384 : Shape := ⟨2, ![4096, 384]⟩
abbrev S4096x6144 : Shape := ⟨2, ![4096, 6144]⟩
abbrev S1x384 : Shape := ⟨2, ![1, 384]⟩
abbrev S512x384 : Shape := ⟨2, ![512, 384]⟩
abbrev S512 : Shape := ⟨1, ![512]⟩
abbrev S512x1 : Shape := ⟨2, ![512, 1]⟩
abbrev S384 : Shape := ⟨1, ![384]⟩

abbrev nBuf : Space → Nat
  | .hbm => 5
  | .vmem => 8
  | .smem => 0
  | _ => 0

abbrev bufTy : (tb : Table) → Fin (tcTables nBuf tb) → BufTy
  | .hbm, ⟨0, _⟩ => ⟨S4096x384, .f32⟩
  | .hbm, ⟨1, _⟩ => ⟨S4096x6144, .bf16⟩
  | .hbm, ⟨2, _⟩ => ⟨S1x384, .f32⟩
  | .hbm, ⟨3, _⟩ => ⟨S4096x384, .bf16⟩
  | .hbm, ⟨4, _⟩ => ⟨S1x384, .f32⟩
  | .local _ .vmem, ⟨0, _⟩ => ⟨S512x384, .f32⟩
  | .local _ .vmem, ⟨1, _⟩ => ⟨S512x384, .f32⟩
  | .local _ .vmem, ⟨2, _⟩ => ⟨S512x384, .bf16⟩
  | .local _ .vmem, ⟨3, _⟩ => ⟨S512x384, .bf16⟩
  | .local _ .vmem, ⟨4, _⟩ => ⟨S1x384, .f32⟩
  | .local _ .vmem, ⟨5, _⟩ => ⟨S512x384, .bf16⟩
  | .local _ .vmem, ⟨6, _⟩ => ⟨S512x384, .bf16⟩
  | .local _ .vmem, ⟨7, _⟩ => ⟨S1x384, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_12 : BitVec 32 := 0#32
  let v37 : BitVec 1 := Scalar.cmpi .ne v36 c0_i32_12
  v37

def k0_cond2 (i : grid0.Coords) : BitVec 1 :=
  let arg0 : BitVec 32 := BitVec.ofNat 32 (i 0).val
  let c0_i32_13 : BitVec 32 := 0#32
  let v38 : BitVec 1 := Scalar.cmpi .sgt arg0 c0_i32_13
  let v39 : BitVec 32 := Scalar.extui v38
  let c0_i32_14 : BitVec 32 := 0#32
  let v40 : BitVec 1 := Scalar.cmpi .ne v39 c0_i32_14
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsQBwdRefIdeal.lean ====
abbrev S4096x384 : Shape := ⟨2, ![4096, 384]⟩
abbrev S4096x6144 : Shape := ⟨2, ![4096, 6144]⟩
abbrev S1x384 : Shape := ⟨2, ![1, 384]⟩
abbrev S_ : Shape := ⟨0, ![]⟩
abbrev S4096 : Shape := ⟨1, ![4096]⟩
abbrev S4096x1 : Shape := ⟨2, ![4096, 1]⟩
abbrev S384 : Shape := ⟨1, ![384]⟩

abbrev nBuf : Space → Nat
  | .hbm => 48
  | .vmem => 0
  | .smem => 0
  | _ => 0

abbrev bufTy : (tb : Table) → Fin (tcTables nBuf tb) → BufTy
  | .hbm, ⟨0, _⟩ => ⟨S4096x384, .f32⟩
  | .hbm, ⟨1, _⟩ => ⟨S4096x6144, .bf16⟩
  | .hbm, ⟨2, _⟩ => ⟨S1x384, .f32⟩
  | .hbm, ⟨3, _⟩ => ⟨S4096x384, .bf16⟩
  | .hbm, ⟨4, _⟩ => ⟨S4096x384, .f32⟩
  | .hbm, ⟨5, _⟩ => ⟨S4096x384, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x384, .f32⟩
  | .hbm, ⟨21, _⟩ => ⟨S4096x384, .f32⟩
  | .hbm, ⟨22, _⟩ => ⟨S4096x384, .f32⟩
  | .hbm, ⟨23, _⟩ => ⟨S4096x384, .f32⟩
  | .hbm, ⟨24, _⟩ => ⟨S4096x384, .f32⟩
  | .hbm, ⟨25, _⟩ => ⟨S_, .f32⟩
  | .hbm, ⟨26, _⟩ => ⟨S384, .f32⟩
  | .hbm, ⟨27, _⟩ => ⟨S1x384, .f32⟩
  | .hbm, ⟨28, _⟩ => ⟨S4096x384, .f32⟩
  | .hbm, ⟨29, _⟩ => ⟨S4096x384, .f32⟩
  | .hbm, ⟨30, _⟩ => ⟨S4096x384, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x384, .f32⟩
  | .hbm, ⟨35, _⟩ => ⟨S4096x384, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x384, .f32⟩
  | .hbm, ⟨43, _⟩ => ⟨S4096x384, .f32⟩
  | .hbm, ⟨44, _⟩ => ⟨S4096x384, .f32⟩
  | .hbm, ⟨45, _⟩ => ⟨S4096x384, .f32⟩
  | .hbm, ⟨46, _⟩ => ⟨S4096x384, .f32⟩
  | .hbm, ⟨47, _⟩ => ⟨S4096x384, .bf16⟩
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== RmsKvBwd.lean ====
abbrev S4096x256 : Shape := ⟨2, ![4096, 256]⟩
abbrev S4096x6144 : Shape := ⟨2, ![4096, 6144]⟩
abbrev S1x256 : Shape := ⟨2, ![1, 256]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 5
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x6144, .bf16⟩
  | .hbm, ⟨2, _⟩ => ⟨S1x256, .f32⟩
  | .hbm, ⟨3, _⟩ => ⟨S4096x256, .bf16⟩
  | .hbm, ⟨4, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S512x256, .bf16⟩
  | .local _ .vmem, ⟨3, _⟩ => ⟨S512x256, .bf16⟩
  | .local _ .vmem, ⟨4, _⟩ => ⟨S1x256, .f32⟩
  | .local _ .vmem, ⟨5, _⟩ => ⟨S512x256, .bf16⟩
  | .local _ .vmem, ⟨6, _⟩ => ⟨S512x256, .bf16⟩
  | .local _ .vmem, ⟨7, _⟩ => ⟨S1x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_12 : BitVec 32 := 0#32
  let v37 : BitVec 1 := Scalar.cmpi .ne v36 c0_i32_12
  v37

def k0_cond2 (i : grid0.Coords) : BitVec 1 :=
  let arg0 : BitVec 32 := BitVec.ofNat 32 (i 0).val
  let c0_i32_13 : BitVec 32 := 0#32
  let v38 : BitVec 1 := Scalar.cmpi .sgt arg0 c0_i32_13
  let v39 : BitVec 32 := Scalar.extui v38
  let c0_i32_14 : BitVec 32 := 0#32
  let v40 : BitVec 1 := Scalar.cmpi .ne v39 c0_i32_14
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsKvBwdRefIdeal.lean ====
abbrev S4096x256 : Shape := ⟨2, ![4096, 256]⟩
abbrev S4096x6144 : Shape := ⟨2, ![4096, 6144]⟩
abbrev S1x256 : Shape := ⟨2, ![1, 256]⟩
abbrev S_ : Shape := ⟨0, ![]⟩
abbrev S4096 : Shape := ⟨1, ![4096]⟩
abbrev S4096x1 : Shape := ⟨2, ![4096, 1]⟩
abbrev S256 : Shape := ⟨1, ![256]⟩

abbrev nBuf : Space → Nat
  | .hbm => 48
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x6144, .bf16⟩
  | .hbm, ⟨2, _⟩ => ⟨S1x256, .f32⟩
  | .hbm, ⟨3, _⟩ => ⟨S4096x256, .bf16⟩
  | .hbm, ⟨4, _⟩ => ⟨S4096x256, .f32⟩
  | .hbm, ⟨5, _⟩ => ⟨S4096x256, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S256, .f32⟩
  | .hbm, ⟨27, _⟩ => ⟨S1x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x256, .f32⟩
  | .hbm, ⟨35, _⟩ => ⟨S4096x256, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S4096x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== RmsMemBwd.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x1024, .f32⟩
  | .hbm, ⟨3, _⟩ => ⟨S512x1024, .f32⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_12 : BitVec 32 := 0#32
  let v35 : BitVec 1 := Scalar.cmpi .ne v34 c0_i32_12
  v35

def k0_cond2 (i : grid0.Coords) : BitVec 1 :=
  let arg0 : BitVec 32 := BitVec.ofNat 32 (i 0).val
  let c0_i32_13 : BitVec 32 := 0#32
  let v36 : BitVec 1 := Scalar.cmpi .sgt arg0 c0_i32_13
  let v37 : BitVec 32 := Scalar.extui v36
  let c0_i32_14 : BitVec 32 := 0#32
  let v38 : BitVec 1 := Scalar.cmpi .ne v37 c0_i32_14
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsMemBwdRefIdeal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x1024, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512, .f32⟩
  | .hbm, ⟨31, _⟩ => ⟨S512x1, .f32⟩
  | .hbm, ⟨32, _⟩ => ⟨S512x1024, .f32⟩
  | .hbm, ⟨33, _⟩ => ⟨S512x1024, .f32⟩
  | .hbm, ⟨34, _⟩ => ⟨S512x1, .f32⟩
  | .hbm, ⟨35, _⟩ => ⟨S_, .f32⟩
  | .hbm, ⟨36, _⟩ => ⟨S512x1, .f32⟩
  | .hbm, ⟨37, _⟩ => ⟨S512x1, .f32⟩
  | .hbm, ⟨38, _⟩ => ⟨S_, .f32⟩
  | .hbm, ⟨39, _⟩ => ⟨S512, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S512x1024, .f32⟩
  | .hbm, ⟨44, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== GateBwd.lean ====
abbrev S4096x1024 : Shape := ⟨2, ![4096, 1024]⟩
abbrev S4096x6144 : Shape := ⟨2, ![4096, 6144]⟩
abbrev S1x3072 : Shape := ⟨2, ![1, 3072]⟩
abbrev S4096x3072 : Shape := ⟨2, ![4096, 3072]⟩
abbrev S512x1024 : Shape := ⟨2, ![512, 1024]⟩
abbrev S1x1024 : Shape := ⟨2, ![1, 1024]⟩
abbrev S512x3072 : Shape := ⟨2, ![512, 3072]⟩
abbrev S1024 : Shape := ⟨1, ![1024]⟩

abbrev nBuf : Space → Nat
  | .hbm => 11
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x6144, .bf16⟩
  | .hbm, ⟨2, _⟩ => ⟨S1x3072, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x3072, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S1x3072, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x3072, .bf16⟩
  | .local _ .vmem, ⟨18, _⟩ => ⟨S512x3072, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1x3072, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_12 : BitVec 32 := 0#32
  let v23 : BitVec 1 := Scalar.cmpi .ne v22 c0_i32_12
  v23

def k0_cond2 (i : grid0.Coords) : BitVec 1 :=
  let arg0 : BitVec 32 := BitVec.ofNat 32 (i 0).val
  let c0_i32_13 : BitVec 32 := 0#32
  let v24 : BitVec 1 := Scalar.cmpi .sgt arg0 c0_i32_13
  let v25 : BitVec 32 := Scalar.extui v24
  let c0_i32_14 : BitVec 32 := 0#32
  let v26 : BitVec 1 := Scalar.cmpi .ne v25 c0_i32_14
  v26

def k0_cond3 (i : grid0.Coords) : BitVec 1 :=
  let arg0 : BitVec 32 := BitVec.ofNat 32 (i 0).val
  let c0_i32_26 : BitVec 32 := 0#32
  let v47 : BitVec 1 := Scalar.cmpi .eq arg0 c0_i32_26
  let v48 : BitVec 32 := Scalar.extui v47
  let c0_i32_27 : BitVec 32 := 0#32
  let v49 : BitVec 1 := Scalar.cmpi .ne v48 c0_i32_27
  v49

def k0_cond4 (i : grid0.Coords) : BitVec 1 :=
  let arg0 : BitVec 32 := BitVec.ofNat 32 (i 0).val
  let c0_i32_28 : BitVec 32 := 0#32
  let v50 : BitVec 1 := Scalar.cmpi .sgt arg0 c0_i32_28
  let v51 : BitVec 32 := Scalar.extui v50
  let c0_i32_29 : BitVec 32 := 0#32
  let v52 : BitVec 1 := Scalar.cmpi .ne v51 c0_i32_29
  v52

def k0_cond5 (i : grid0.Coords) : BitVec 1 :=
  let arg0 : BitVec 32 := BitVec.ofNat 32 (i 0).val
  let c0_i32_41 : BitVec 32 := 0#32
  let v73 : BitVec 1 := Scalar.cmpi .eq arg0 c0_i32_41
  let v74 : BitVec 32 := Scalar.extui v73
  let c0_i32_42 : BitVec 32 := 0#32
  let v75 : BitVec 1 := Scalar.cmpi .ne v74 c0_i32_42
  v75

def k0_cond6 (i : grid0.Coords) : BitVec 1 :=
  let arg0 : BitVec 32 := BitVec.ofNat 32 (i 0).val
  let c0_i32_43 : BitVec 32 := 0#32
  let v76 : BitVec 1 := Scalar.cmpi .sgt arg0 c0_i32_43
  let v77 : BitVec 32 := Scalar.extui v76
  let c0_i32_44 : BitVec 32 := 0#32
  let v78 : BitVec 1 := Scalar.cmpi .ne v77 c0_i32_44
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== GateBwdRefIdeal.lean ====
abbrev S4096x1024 : Shape := ⟨2, ![4096, 1024]⟩
abbrev S4096x6144 : Shape := ⟨2, ![4096, 6144]⟩
abbrev S1x3072 : Shape := ⟨2, ![1, 3072]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩
abbrev S3072 : Shape := ⟨1, ![3072]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .bf16⟩
  | .hbm, ⟨2, _⟩ => ⟨S1x3072, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x3072, .bf16⟩
  | .hbm, ⟨7, _⟩ => ⟨S4096x3072, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x3072, .f32⟩
  | .hbm, ⟨12, _⟩ => ⟨S4096x3072, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S_, .f32⟩
  | .hbm, ⟨19, _⟩ => ⟨S4096x3072, .f32⟩
  | .hbm, ⟨20, _⟩ => ⟨S4096x3072, .f32⟩
  | .hbm, ⟨21, _⟩ => ⟨S_, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S4096x3x1024, .f32⟩
  | .hbm, ⟨26, _⟩ => ⟨S4096x1x1024, .f32⟩
  | .hbm, ⟨27, _⟩ => ⟨S4096x1024, .f32⟩
  | .hbm, ⟨28, _⟩ => ⟨S4096x1024, .f32⟩
  | .hbm, ⟨29, _⟩ => ⟨S4096x1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1x1024, .f32⟩
  | .hbm, ⟨42, _⟩ => ⟨S_, .f32⟩
  | .hbm, ⟨43, _⟩ => ⟨S4096x3x1024, .f32⟩
  | .hbm, ⟨44, _⟩ => ⟨S4096x1024, .f32⟩
  | .hbm, ⟨45, _⟩ => ⟨S4096x1024, .f32⟩
  | .hbm, ⟨46, _⟩ => ⟨S4096x1x1024, .f32⟩
  | .hbm, ⟨47, _⟩ => ⟨S_, .f32⟩
  | .hbm, ⟨48, _⟩ => ⟨S4096x3x1024, .f32⟩
  | .hbm, ⟨49, _⟩ => ⟨S4096x3x1024, .f32⟩
  | .hbm, ⟨50, _⟩ => ⟨S4096x1024, .f32⟩
  | .hbm, ⟨51, _⟩ => ⟨S4096x1024, .f32⟩
  | .hbm, ⟨52, _⟩ => ⟨S4096x1x1024, .f32⟩
  | .hbm, ⟨53, _⟩ => ⟨S_, .f32⟩
  | .hbm, ⟨54, _⟩ => ⟨S4096x3x1024, .f32⟩
  | .hbm, ⟨55, _⟩ => ⟨S4096x3x1024, .f32⟩
  | .hbm, ⟨56, _⟩ => ⟨S4096x3072, .f32⟩
  | .hbm, ⟨57, _⟩ => ⟨S4096x3072, .f32⟩
  | .hbm, ⟨58, _⟩ => ⟨S_, .f32⟩
  | .hbm, ⟨59, _⟩ => ⟨S3072, .f32⟩
  | .hbm, ⟨60, _⟩ => ⟨S1x3072, .f32⟩
  | .hbm, ⟨61, _⟩ => ⟨S4096x3072, .bf16⟩
  | .hbm, ⟨62, _⟩ => ⟨S4096x1024, .bf16⟩
  | .hbm, ⟨63, _⟩ => ⟨S4096x1024, .bf16⟩
  | .hbm, ⟨64, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== RmsMix.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsMixRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsQ.lean ====
abbrev S4096x6144 : Shape := ⟨2, ![4096, 6144]⟩
abbrev S1x384 : Shape := ⟨2, ![1, 384]⟩
abbrev S4096x384 : Shape := ⟨2, ![4096, 384]⟩
abbrev S512x384 : Shape := ⟨2, ![512, 384]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x6144, .bf16⟩
  | .hbm, ⟨1, _⟩ => ⟨S1x384, .f32⟩
  | .hbm, ⟨2, _⟩ => ⟨S4096x384, .bf16⟩
  | .local _ .vmem, ⟨0, _⟩ => ⟨S512x384, .bf16⟩
  | .local _ .vmem, ⟨1, _⟩ => ⟨S512x384, .bf16⟩
  | .local _ .vmem, ⟨2, _⟩ => ⟨S1x384, .f32⟩
  | .local _ .vmem, ⟨3, _⟩ => ⟨S512x384, .bf16⟩
  | .local _ .vmem, ⟨4, _⟩ => ⟨S512x384, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsQRefIdeal.lean ====
abbrev S4096x6144 : Shape := ⟨2, ![4096, 6144]⟩
abbrev S1x384 : Shape := ⟨2, ![1, 384]⟩
abbrev S4096x384 : Shape := ⟨2, ![4096, 384]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1x384, .f32⟩
  | .hbm, ⟨2, _⟩ => ⟨S4096x384, .bf16⟩
  | .hbm, ⟨3, _⟩ => ⟨S4096x384, .f32⟩
  | .hbm, ⟨4, _⟩ => ⟨S4096x384, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x384, .f32⟩
  | .hbm, ⟨16, _⟩ => ⟨S4096x384, .f32⟩
  | .hbm, ⟨17, _⟩ => ⟨S4096x384, .f32⟩
  | .hbm, ⟨18, _⟩ => ⟨S4096x384, .f32⟩
  | .hbm, ⟨19, _⟩ => ⟨S4096x384, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== RmsKv.lean ====
abbrev S4096x6144 : Shape := ⟨2, ![4096, 6144]⟩
abbrev S1x256 : Shape := ⟨2, ![1, 256]⟩
abbrev S4096x256 : Shape := ⟨2, ![4096, 256]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x6144, .bf16⟩
  | .hbm, ⟨1, _⟩ => ⟨S1x256, .f32⟩
  | .hbm, ⟨2, _⟩ => ⟨S4096x256, .bf16⟩
  | .local _ .vmem, ⟨0, _⟩ => ⟨S512x256, .bf16⟩
  | .local _ .vmem, ⟨1, _⟩ => ⟨S512x256, .bf16⟩
  | .local _ .vmem, ⟨2, _⟩ => ⟨S1x256, .f32⟩
  | .local _ .vmem, ⟨3, _⟩ => ⟨S512x256, .bf16⟩
  | .local _ .vmem, ⟨4, _⟩ => ⟨S512x256, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsKvRefIdeal.lean ====
abbrev S4096x6144 : Shape := ⟨2, ![4096, 6144]⟩
abbrev S1x256 : Shape := ⟨2, ![1, 256]⟩
abbrev S4096x256 : Shape := ⟨2, ![4096, 256]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1x256, .f32⟩
  | .hbm, ⟨2, _⟩ => ⟨S4096x256, .bf16⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S4096x256, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== RmsMem.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RmsMemRefIdeal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Gates.lean ====
abbrev S4096x6144 : Shape := ⟨2, ![4096, 6144]⟩
abbrev S1x3072 : Shape := ⟨2, ![1, 3072]⟩
abbrev S4096x1024 : Shape := ⟨2, ![4096, 1024]⟩
abbrev S512x1024 : Shape := ⟨2, ![512, 1024]⟩
abbrev S1x1024 : Shape := ⟨2, ![1, 1024]⟩

abbrev nBuf : Space → Nat
  | .hbm => 6
  | .vmem => 17
  | .smem => 0
  | _ => 0

abbrev bufTy : (tb : Table) → Fin (tcTables nBuf tb) → BufTy
  | .hbm, ⟨0, _⟩ => ⟨S4096x6144, .bf16⟩
  | .hbm, ⟨1, _⟩ => ⟨S1x3072, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GatesRefIdeal.lean ====
abbrev S4096x6144 : Shape := ⟨2, ![4096, 6144]⟩
abbrev S1x3072 : Shape := ⟨2, ![1, 3072]⟩
abbrev S4096x1024 : Shape := ⟨2, ![4096, 1024]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1x3072, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x3072, .bf16⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S_, .f32⟩
  | .hbm, ⟨15, _⟩ => ⟨S4096x3072, .f32⟩
  | .hbm, ⟨16, _⟩ => ⟨S4096x3072, .f32⟩
  | .hbm, ⟨17, _⟩ => ⟨S4096x3x1024, .f32⟩
  | .hbm, ⟨18, _⟩ => ⟨S4096x1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== RopeBwd.lean ====
abbrev S4096x1024 : Shape := ⟨2, ![4096, 1024]⟩
abbrev S4096x1 : Shape := ⟨2, ![4096, 1]⟩
abbrev S1x16 : Shape := ⟨2, ![1, 16]⟩
abbrev S_ : Shape := ⟨0, ![]⟩
abbrev S1x64 : Shape := ⟨2, ![1, 64]⟩
abbrev S1x32 : Shape := ⟨2, ![1, 32]⟩
abbrev S1x128 : Shape := ⟨2, ![1, 128]⟩
abbrev S4096x128 : Shape := ⟨2, ![4096, 128]⟩
abbrev S512x1024 : Shape := ⟨2, ![512, 1024]⟩
abbrev S512x1 : Shape := ⟨2, ![512, 1]⟩
abbrev S512x128 : Shape := ⟨2, ![512, 128]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1, .f32⟩
  | .hbm, ⟨3, _⟩ => ⟨S1x16, .f32⟩
  | .hbm, ⟨4, _⟩ => ⟨S_, .f32⟩
  | .hbm, ⟨5, _⟩ => ⟨S1x64, .f32⟩
  | .hbm, ⟨6, _⟩ => ⟨S_, .f32⟩
  | .hbm, ⟨7, _⟩ => ⟨S1x32, .f32⟩
  | .hbm, ⟨8, _⟩ => ⟨S1x128, .f32⟩
  | .hbm, ⟨9, _⟩ => ⟨S4096x1024, .bf16⟩
  | .hbm, ⟨10, _⟩ => ⟨S4096x128, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | .local _ .vmem, ⟨9, _⟩ => ⟨S512x128, .bf16⟩
  | .local _ .vmem, ⟨10, _⟩ => ⟨S512x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RopeBwdRefIdeal.lean ====
abbrev S4096x1024 : Shape := ⟨2, ![4096, 1024]⟩
abbrev S4096x1 : Shape := ⟨2, ![4096, 1]⟩
abbrev S1x16 : Shape := ⟨2, ![1, 16]⟩
abbrev S_ : Shape := ⟨0, ![]⟩
abbrev S4096x32 : Shape := ⟨2, ![4096, 32]⟩
abbrev S4096x8x128 : Shape := ⟨3, ![4096, 8, 128]⟩
abbrev S4096x8x64 : Shape := ⟨3, ![4096, 8, 64]⟩
abbrev S4096x8x32 : Shape := ⟨3, ![4096, 8, 32]⟩
abbrev S4096x16 : Shape := ⟨2, ![4096, 16]⟩
abbrev S4096x1x16 : Shape := ⟨3, ![4096, 1, 16]⟩
abbrev S4096x8x16 : Shape := ⟨3, ![4096, 8, 16]⟩
abbrev S4096x1x32 : Shape := ⟨3, ![4096, 1, 32]⟩
abbrev S4096x128 : Shape := ⟨2, ![4096, 128]⟩

abbrev nBuf : Space → Nat
  | .hbm => 122
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1, .f32⟩
  | .hbm, ⟨3, _⟩ => ⟨S1x16, .f32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S4096x32, .f32⟩
  | .hbm, ⟨8, _⟩ => ⟨S4096x8x128, .f32⟩
  | .hbm, ⟨9, _⟩ => ⟨S4096x8x64, .f32⟩
  | .hbm, ⟨10, _⟩ => ⟨S4096x8x32, .f32⟩
  | .hbm, ⟨11, _⟩ => ⟨S4096x16, .f32⟩
  | .hbm, ⟨12, _⟩ => ⟨S4096x16, .f32⟩
  | .hbm, ⟨13, _⟩ => ⟨S4096x16, .f32⟩
  | .hbm, ⟨14, _⟩ => ⟨S4096x16, .f32⟩
  | .hbm, ⟨15, _⟩ => ⟨S4096x1x16, .f32⟩
  | .hbm, ⟨16, _⟩ => ⟨S4096x16, .f32⟩
  | .hbm, ⟨17, _⟩ => ⟨S4096x1x16, .f32⟩
  | .hbm, ⟨18, _⟩ => ⟨S4096x8x16, .f32⟩
  | .hbm, ⟨19, _⟩ => ⟨S4096x8x16, .f32⟩
  | .hbm, ⟨20, _⟩ => ⟨S4096x8x16, .f32⟩
  | .hbm, ⟨21, _⟩ => ⟨S4096x8x16, .f32⟩
  | .hbm, ⟨22, _⟩ => ⟨S4096x8x16, .f32⟩
  | .hbm, ⟨23, _⟩ => ⟨S4096x8x16, .f32⟩
  | .hbm, ⟨24, _⟩ => ⟨S4096x8x16, .f32⟩
  | .hbm, ⟨25, _⟩ => ⟨S4096x8x16, .f32⟩
  | .hbm, ⟨26, _⟩ => ⟨S4096x8x16, .f32⟩
  | .hbm, ⟨27, _⟩ => ⟨S4096x8x16, .f32⟩
  | .hbm, ⟨28, _⟩ => ⟨S4096x8x16, .f32⟩
  | .hbm, ⟨29, _⟩ => ⟨S4096x8x16, .f32⟩
  | .hbm, ⟨30, _⟩ => ⟨S4096x8x32, .f32⟩
  | .hbm, ⟨31, _⟩ => ⟨S4096x8x32, .f32⟩
  | .hbm, ⟨32, _⟩ => ⟨S4096x8x128, .f32⟩
  | .hbm, ⟨33, _⟩ => ⟨S4096x1x32, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x1x16, .f32⟩
  | .hbm, ⟨39, _⟩ => ⟨S4096x16, .f32⟩
  | .hbm, ⟨40, _⟩ => ⟨S4096x1x16, .f32⟩
  | .hbm, ⟨41, _⟩ => ⟨S4096x1x16, .f32⟩
  | .hbm, ⟨42, _⟩ => ⟨S4096x1x16, .f32⟩
  | .hbm, ⟨43, _⟩ => ⟨S4096x1x16, .f32⟩
  | .hbm, ⟨44, _⟩ => ⟨S4096x1x16, .f32⟩
  | .hbm, ⟨45, _⟩ => ⟨S4096x1x16, .f32⟩
  | .hbm, ⟨46, _⟩ => ⟨S4096x1x16, .f32⟩
  | .hbm, ⟨47, _⟩ => ⟨S4096x1x16, .f32⟩
  | .hbm, ⟨48, _⟩ => ⟨S4096x1x16, .f32⟩
  | .hbm, ⟨49, _⟩ => ⟨S4096x1x32, .f32⟩
  | .hbm, ⟨50, _⟩ => ⟨S4096x8x32, .f32⟩
  | .hbm, ⟨51, _⟩ => ⟨S_, .f32⟩
  | .hbm, ⟨52, _⟩ => ⟨S4096x8x64, .f32⟩
  | .hbm, ⟨53, _⟩ => ⟨S_, .f32⟩
  | .hbm, ⟨54, _⟩ => ⟨S4096x8x32, .f32⟩
  | .hbm, ⟨55, _⟩ => ⟨S4096x8x128, .f32⟩
  | .hbm, ⟨56, _⟩ => ⟨S_, .f32⟩
  | .hbm, ⟨57, _⟩ => ⟨S4096x8x64, .f32⟩
  | .hbm, ⟨58, _⟩ => ⟨S_, .f32⟩
  | .hbm, ⟨59, _⟩ => ⟨S4096x8x32, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x8x128, .f32⟩
  | .hbm, ⟨64, _⟩ => ⟨S4096x8x128, .f32⟩
  | .hbm, ⟨65, _⟩ => ⟨S4096x8x64, .f32⟩
  | .hbm, ⟨66, _⟩ => ⟨S4096x8x32, .f32⟩
  | .hbm, ⟨67, _⟩ => ⟨S4096x8x32, .f32⟩
  | .hbm, ⟨68, _⟩ => ⟨S_, .f32⟩
  | .hbm, ⟨69, _⟩ => ⟨S4096x32, .f32⟩
  | .hbm, ⟨70, _⟩ => ⟨S4096x1x32, .f32⟩
  | .hbm, ⟨71, _⟩ => ⟨S4096x1x16, .f32⟩
  | .hbm, ⟨72, _⟩ => ⟨S4096x1x16, .f32⟩
  | .hbm, ⟨73, _⟩ => ⟨S4096x1x16, .f32⟩
  | .hbm, ⟨74, _⟩ => ⟨S4096x1x16, .f32⟩
  | .hbm, ⟨75, _⟩ => ⟨S4096x1x16, .f32⟩
  | .hbm, ⟨76, _⟩ => ⟨S4096x1x16, .f32⟩
  | .hbm, ⟨77, _⟩ => ⟨S4096x1x16, .f32⟩
  | .hbm, ⟨78, _⟩ => ⟨S4096x1x16, .f32⟩
  | .hbm, ⟨79, _⟩ => ⟨S4096x1x16, .f32⟩
  | .hbm, ⟨80, _⟩ => ⟨S_, .f32⟩
  | .hbm, ⟨81, _⟩ => ⟨S4096x1x32, .f32⟩
  | .hbm, ⟨82, _⟩ => ⟨S_, .f32⟩
  | .hbm, ⟨83, _⟩ => ⟨S4096x1x32, .f32⟩
  | .hbm, ⟨84, _⟩ => ⟨S4096x1x32, .f32⟩
  | .hbm, ⟨85, _⟩ => ⟨S_, .f32⟩
  | .hbm, ⟨86, _⟩ => ⟨S4096x32, .f32⟩
  | .hbm, ⟨87, _⟩ => ⟨S4096x8x64, .f32⟩
  | .hbm, ⟨88, _⟩ => ⟨S4096x8x32, .f32⟩
  | .hbm, ⟨89, _⟩ => ⟨S4096x8x32, .f32⟩
  | .hbm, ⟨90, _⟩ => ⟨S_, .f32⟩
  | .hbm, ⟨91, _⟩ => ⟨S4096x8x128, .f32⟩
  | .hbm, ⟨92, _⟩ => ⟨S4096x8x16, .f32⟩
  | .hbm, ⟨93, _⟩ => ⟨S4096x8x16, .f32⟩
  | .hbm, ⟨94, _⟩ => ⟨S4096x8x16, .f32⟩
  | .hbm, ⟨95, _⟩ => ⟨S4096x8x16, .f32⟩
  | .hbm, ⟨96, _⟩ => ⟨S4096x8x16, .f32⟩
  | .hbm, ⟨97, _⟩ => ⟨S4096x8x16, .f32⟩
  | .hbm, ⟨98, _⟩ => ⟨S4096x8x16, .f32⟩
  | .hbm, ⟨99, _⟩ => ⟨S4096x8x16, .f32⟩
  | .hbm, ⟨100, _⟩ => ⟨S4096x8x16, .f32⟩
  | .hbm, ⟨101, _⟩ => ⟨S4096x8x16, .f32⟩
  | .hbm, ⟨102, _⟩ => ⟨S4096x8x16, .f32⟩
  | .hbm, ⟨103, _⟩ => ⟨S4096x8x16, .f32⟩
  | .hbm, ⟨104, _⟩ => ⟨S4096x8x16, .f32⟩
  | .hbm, ⟨105, _⟩ => ⟨S_, .f32⟩
  | .hbm, ⟨106, _⟩ => ⟨S4096x8x32, .f32⟩
  | .hbm, ⟨107, _⟩ => ⟨S_, .f32⟩
  | .hbm, ⟨108, _⟩ => ⟨S4096x8x32, .f32⟩
  | .hbm, ⟨109, _⟩ => ⟨S4096x8x32, .f32⟩
  | .hbm, ⟨110, _⟩ => ⟨S_, .f32⟩
  | .hbm, ⟨111, _⟩ => ⟨S4096x8x128, .f32⟩
  | .hbm, ⟨112, _⟩ => ⟨S4096x8x128, .f32⟩
  | .hbm, ⟨113, _⟩ => ⟨S_, .f32⟩
  | .hbm, ⟨114, _⟩ => ⟨S4096x8x128, .f32⟩
  | .hbm, ⟨115, _⟩ => ⟨S4096x8x128, .f32⟩
  | .hbm, ⟨116, _⟩ => ⟨S4096x1024, .f32⟩
  | .hbm, ⟨117, _⟩ => ⟨S4096x1024, .bf16⟩
  | .hbm, ⟨118, _⟩ => ⟨S_, .i32⟩
  | .hbm, ⟨119, _⟩ => ⟨S_, .f32⟩
  | .hbm, ⟨120, _⟩ => ⟨S4096x128, .f32⟩
  | .hbm, ⟨121, _⟩ => ⟨S4096x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_1 : Ref sig .tc := ⟨.hbm, 51, rfl⟩
abbrev main_v45 : Ref sig .tc := ⟨.hbm, 52, rfl⟩
abbrev main_cst_2 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_6 : Ref sig .tc := ⟨.hbm, 80, rfl⟩
abbrev main_v69 : Ref sig .tc := ⟨.hbm, 81, rfl⟩
abbrev main_cst_7 : Ref sig .tc := ⟨.hbm, 82, rfl⟩
abbrev main_v70 : Ref sig .tc := ⟨.hbm, 83, rfl⟩
abbrev main_v71 : Ref sig .tc := ⟨.hbm, 84, rfl⟩
abbrev main_cst_8 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_9 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_cst_10 : Ref sig .tc := ⟨.hbm, 105, rfl⟩
abbrev main_v90 : Ref sig .tc := ⟨.hbm, 106, rfl⟩
abbrev main_cst_11 : Ref sig .tc := ⟨.hbm, 107, rfl⟩
abbrev main_v91 : Ref sig .tc := ⟨.hbm, 108, rfl⟩
abbrev main_v92 : Ref sig .tc := ⟨.hbm, 109, rfl⟩
abbrev main_cst_12 : Ref sig .tc := ⟨.hbm, 110, rfl⟩
abbrev main_v93 : Ref sig .tc := ⟨.hbm, 111, rfl⟩
abbrev main_v94 : Ref sig .tc := ⟨.hbm, 112, rfl⟩
abbrev main_cst_13 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_c : Ref sig .tc := ⟨.hbm, 118, rfl⟩
abbrev main_call0_v0 : Ref sig .tc := ⟨.hbm, 119, rfl⟩
abbrev main_v99 : Ref sig .tc := ⟨.hbm, 120, rfl⟩
abbrev main_v100 : Ref sig .tc := ⟨.hbm, 121, rfl⟩

abbrev nD : Nat := 1
abbrev τ : Topo := Topo.v7x

variable {F : FTy → Type} [FloatOps F]
-- ==== Proof.Real.lean ====
/- Real numbers among the extended reals, and the gradient of stick-breaking attention over the reals: the one formula
   both the kernel and the reference are shown to compute. -/
module

public import Idealize.ShloMosaic.Lib.Pointwise

@[expose] public section

noncomputable section

open Idealize.ShloMosaic

namespace Cert.SB

/-! ## Real numbers among the extended reals -/

/-- A sum of reals, read among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => rw [Finset.sum_empty, Finset.sum_empty]; rfl
  | insert a s ha ih => rw [Finset.sum_insert ha, Finset.sum_insert ha, ih, EReal.coe_add]

/-- The larger of two reals, read among the extended reals. -/
theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- A choice between two reals, read among the extended reals. -/
theorem coe_ite (p : Prop) [Decidable p] (x y : ℝ) :
    (if p then (x : EReal) else (y : EReal)) = ((if p then x else y : ℝ) : EReal) := by
  split_ifs <;> rfl

/-- The absolute value of a real, read among the extended reals. -/
theorem coe_abs' (x : ℝ) : max (x : EReal) (-(x : EReal)) = ((|x| : ℝ) : EReal) := by
  rw [← EReal.coe_neg, coe_max]; rfl

/-- The logarithm of `1 + exp x` is a real. -/
theorem log_one_add_exp (x : ℝ) :
    Ideal.log (1 + ((Real.exp x : ℝ) : EReal)) = ((Real.log (1 + Real.exp x) : ℝ) : EReal) := by
  have h : (1 : EReal) + ((Real.exp x : ℝ) : EReal) = ((1 + Real.exp x : ℝ) : EReal) := by
    rw [EReal.coe_add, EReal.coe_one]
  rw [h, Ideal.log_coe, if_neg (not_le.2 (by positivity))]

/-! ## Sums over an initial part -/

/-- The first `c + 1` of `n` terms. -/
theorem sum_fin_le (n : ℕ) (c : Fin n) (f : ℕ → ℝ) :
    (∑ i : Fin n, if i.val ≤ c.val then f i.val else 0) = ∑ i ∈ Finset.range (c.val + 1), f i := by
  rw [Fin.sum_univ_eq_sum_range (fun i => if i ≤ c.val then f i else 0) n, ← Finset.sum_filter]
  refine Finset.sum_congr (Finset.ext fun i => ?_) fun _ _ => rfl
  simp only [Finset.mem_filter, Finset.mem_range]
  have := c.isLt
  omega

/-- The first `c` of `n` terms. -/
theorem sum_fin_lt (n : ℕ) (c : Fin n) (f : ℕ → ℝ) :
    (∑ i : Fin n, if i.val < c.val then f i.val else 0) = ∑ i ∈ Finset.range c.val, f i := by
  rw [Fin.sum_univ_eq_sum_range (fun i => if i < c.val then f i else 0) n, ← Finset.sum_filter]
  refine Finset.sum_congr (Finset.ext fun i => ?_) fun _ _ => rfl
  simp only [Finset.mem_filter, Finset.mem_range]
  have := c.isLt
  omega

/-- The terms after the `s`-th are all of them but the first `s + 1`. -/
theorem sum_after (n s : ℕ) (hs : s < n) (f : ℕ → ℝ) :
    (∑ i ∈ Finset.range n, if s < i then f i else 0) = (∑ i ∈ Finset.range n, f i) - ∑ i ∈ Finset.range (s + 1), f i := by
  rw [← Finset.sum_filter, eq_sub_iff_add_eq, ← Finset.sum_union]
  · refine Finset.sum_congr (Finset.ext fun i => ?_) fun _ _ => rfl
    simp only [Finset.mem_union, Finset.mem_filter, Finset.mem_range]
    omega
  · rw [Finset.disjoint_left]
    intro i
    simp only [Finset.mem_filter, Finset.mem_range]
    omega

/-! ## The gradient of stick-breaking attention -/

/-- The logarithm of the sigmoid of `-z`. -/
def lsn (z : ℝ) : ℝ := -max z 0 - Real.log (1 + Real.exp (-|z|))

section Model

variable (q k v o : ℕ → ℕ → ℝ)

/-- The score of row `r` at key `s`. -/
def Z (r s : ℕ) : ℝ := (∑ d : Fin 64, q r d * k s d) * (1 / 8)

/-- The logarithm of what row `r` keeps past key `s`. -/
def Lm (r s : ℕ) : ℝ := if s < r then lsn (Z q k r s) else 0

/-- The stick-breaking weight of key `s` in row `r`. -/
def A (r s : ℕ) : ℝ :=
  if s < r then Real.exp (lsn (Z q k r s) + Z q k r s + ∑ i ∈ Finset.range 2048, if s < i then Lm q k r i else 0) else 0

/-- The weight's gradient times the weight. -/
def G (r s : ℕ) : ℝ := (∑ d : Fin 64, o r d * v s d) * A q k r s

/-- The gradient of the score. -/
def DZ (r s : ℕ) : ℝ :=
  if s < r then G q k v o r s * (1 - Real.exp (lsn (Z q k r s) + Z q k r s))
    - (∑ i ∈ Finset.range s, G q k v o r i) * Real.exp (lsn (Z q k r s) + Z q k r s) else 0

/-- The gradient of the queries. -/
def DQ (r d : ℕ) : ℝ := (∑ s ∈ Finset.range 2048, DZ q k v o r s * k s d) * (1 / 8)

/-- The gradient of the keys. -/
def DK (s d : ℕ) : ℝ := ∑ r ∈ Finset.range 2048, DZ q k v o r s * (q r d * (1 / 8))

/-- The gradient of the values. -/
def DV (s d : ℕ) : ℝ := ∑ r ∈ Finset.range 2048, A q k r s * o r d

end Model

end Cert.SB

end
-- ==== Proof.Tile.lean ====
/- The kernel's arithmetic on one tile of 512 queries and 512 keys, for one head: each step's value at an index, when
   what it reads is real. -/
module

public import proofs.«01_k».proof.Proof.Real
public import proofs.«01_k».proof.Proof.Gen.KernelIdeal.Skeleton
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.KernelIdeal.Value

open Cert.KernelIdeal Cert.KernelIdeal.Gen Cert.SB

abbrev V512 := FVec Ideal S512x512 .f32

/-! ## The steps -/

/-- Scores: a tile of queries against a tile of keys. -/
def kZ (q kt : FVec Ideal S512x128 .bf16) : V512 :=
  matmul dot_S512x128_S512x128_S512x512_1_1_0_0_n_n none q kt (constant S512x512 .f32 0x00000000#32)

/-- The logarithm of the sigmoid of the negated scores. -/
def kL (z : V512) : V512 :=
  subf (subf (broadcast S512x512 (Scalar.ofBits .f32 0x00000000#32)) (maximumf z (broadcast S512x512 (Scalar.ofBits .f32 0x00000000#32))))
    (log (addf (broadcast S512x512 (Scalar.ofBits .f32 0x3F800000#32)) (exp (subf (broadcast S512x512 (Scalar.ofBits .f32 0x00000000#32)) (absf z)))))

/-- The part of a tile below its diagonal, zero elsewhere. -/
def kMask (v : V512) : V512 :=
  select (cmpi .sgt (iota .tc S512x512 32 [0] iota_S512x512_d0_w32) (iota .tc S512x512 32 [1] iota_S512x512_d1_w32)) v
    (broadcast S512x512 (Scalar.ofBits .f32 0x00000000#32))

/-- The left half of a tile. -/
def kLeft (v : V512) : FVec Ideal S512x256 .f32 := extractStridedSlice S512x256 ![0, 0] v slices_S512x512_o0_0_S512x256

/-- The right half of a tile. -/
def kRight (v : V512) : FVec Ideal S512x256 .f32 := extractStridedSlice S512x256 ![0, 256] v slices_S512x512_o0_256_S512x256

/-- A half's row sums. -/
def kTot (h : FVec Ideal S512x256 .f32) : FVec Ideal S512x1 .f32 :=
  shapeCast S512x1 (multiReduction .add [1] S512 h 0x00000000#32 reduces_S512x256_S512 (.inl rfl) rfl) shapeCasts_S512_S512x1

/-- A half against the triangle, in two words. -/
def kTwo (h : FVec Ideal S512x256 .f32) (tri : FVec Ideal S512x256 .bf16) : FVec Ideal S512x256 .f32 :=
  matmul dot_S512x512_S512x256_S512x256_1_0_0_1_n_n none
    (concatenate S512x512 1 [⟨S512x256, truncf .bf16 h bitsLt_bf16_f32⟩, ⟨S512x256, truncf .bf16 (subf h (extf .f32 (truncf .bf16 h bitsLt_bf16_f32) bitsLt_bf16_f32)) bitsLt_bf16_f32⟩] concatenates_S512x256_S512x256_S512x512_d1)
    tri (constant S512x256 .f32 0x00000000#32)

/-- A half against the triangle, in one word. -/
def kOne (h : FVec Ideal S512x256 .f32) (tri : FVec Ideal S256x256 .bf16) : FVec Ideal S512x256 .f32 :=
  matmul dot_S512x256_S256x256_S512x256_1_0_0_1_n_n none (truncf .bf16 h bitsLt_bf16_f32) tri (constant S512x256 .f32 0x00000000#32)

/-- Two halves side by side, the right one shifted by the left one's totals. -/
def kJoin (a b : FVec Ideal S512x256 .f32) (t : FVec Ideal S512x1 .f32) : V512 :=
  concatenate S512x512 1 [⟨S512x256, a⟩, ⟨S512x256, addf b (broadcastTo S512x256 t broadcasts_S512x1_S512x256)⟩] concatenates_S512x256_S512x256_S512x512_d1

/-- Running sums along the rows, the current term included. -/
def cumLe (x : V512) (tri : FVec Ideal S512x256 .bf16) : V512 :=
  kJoin (kTwo (kLeft x) tri) (kTwo (kRight x) tri) (kTot (kLeft x))

/-- Running sums along the rows, the current term left out. -/
def cumLt (x : V512) (tri : FVec Ideal S256x256 .bf16) : V512 :=
  kJoin (kOne (kLeft x) tri) (kOne (kRight x) tri) (kTot (kLeft x))

/-- The weights. -/
def kA (lz : V512) (st cp : FVec Ideal S512x1 .f32) (x : V512) (tri : FVec Ideal S512x256 .bf16) : V512 :=
  exp (addf lz (subf (broadcastTo S512x512 (subf st cp) broadcasts_S512x1_S512x512) (cumLe x tri)))

/-- The gradient of the scores. -/
def kDz (g lz : V512) (cg : FVec Ideal S512x1 .f32) (tri : FVec Ideal S256x256 .bf16) : V512 :=
  subf (mulf g (subf (broadcast S512x512 (Scalar.ofBits .f32 0x3F800000#32)) (exp lz)))
    (mulf (addf (broadcastTo S512x512 cg broadcasts_S512x1_S512x512) (cumLt g tri)) (exp lz))

/-- A running total with a tile's row sums added. -/
def kSum (c : FVec Ideal S512x1 .f32) (x : V512) : FVec Ideal S512x1 .f32 :=
  addf c (shapeCast S512x1 (multiReduction .add [1] S512 x 0x00000000#32 reduces_S512x512_S512 (.inl rfl) rfl) shapeCasts_S512_S512x1)

/-! ## Their values -/

theorem kZ_at (q kt : FVec Ideal S512x128 .bf16) (Q K : ℕ → ℕ → ℝ) (hq : ∀ (r : Fin 512) (l : Fin 128), q (ix2 r l) = ((Q r l : ℝ) : EReal))
    (hk : ∀ (c : Fin 512) (l : Fin 128), kt (ix2 c l) = ((K c l : ℝ) : EReal)) (r c : Fin 512) :
    kZ q kt (ix2 r c) = ((∑ l : Fin 128, Q r l * K c l : ℝ) : EReal) := by
  pointwise [kZ]
  simp only [hq, hk, ← EReal.coe_mul, coe_sum, zero_add]

theorem kL_at (z : V512) (r c : Fin 512) (ζ : ℝ) (hz : z (ix2 r c) = (ζ : EReal)) :
    kL z (ix2 r c) = ((lsn ζ : ℝ) : EReal) := by
  pointwise [kL]
  simp only [hz]
  have h0 : (0 : EReal) = ((0 : ℝ) : EReal) := rfl
  have ha : FloatOps.absf (F := Ideal) (φ := .f32) (ζ : EReal) = ((|ζ| : ℝ) : EReal) := (Ideal.absf_def _).trans (coe_abs' ζ)
  rw [ha, h0, coe_max, ← EReal.coe_sub, ← EReal.coe_sub, Ideal.exp_coe, log_one_add_exp, ← EReal.coe_sub, zero_sub, zero_sub]
  rfl

theorem kMask_at (x : V512) (r c : Fin 512) (ξ : ℝ) (hx : x (ix2 r c) = (ξ : EReal)) :
    kMask x (ix2 r c) = (((if c.val < r.val then ξ else 0) : ℝ) : EReal) := by
  pointwise [kMask]
  word_cmp
  rw [hx]
  exact coe_ite _ _ _

theorem kTot_at (x : V512) (X : ℕ → ℕ → ℝ) (hx : ∀ r c : Fin 512, x (ix2 r c) = ((X r c : ℝ) : EReal)) (r : Fin 512) :
    kTot (kLeft x) (ix2 r 0) = ((∑ i ∈ Finset.range 256, X r i : ℝ) : EReal) := by
  pointwise [kTot, kLeft]
  simp only [hx, coe_sum]
  rw [Fin.sum_univ_eq_sum_range (fun i => X r i) 256]

theorem kSum_at (cp : FVec Ideal S512x1 .f32) (x : V512) (X : ℕ → ℕ → ℝ) (hx : ∀ r c : Fin 512, x (ix2 r c) = ((X r c : ℝ) : EReal)) (r : Fin 512)
    (γ : ℝ) (hc : cp (ix2 r 0) = (γ : EReal)) :
    kSum cp x (ix2 r 0) = ((γ + ∑ i ∈ Finset.range 512, X r i : ℝ) : EReal) := by
  pointwise [kSum]
  simp only [hx, hc, coe_sum]
  rw [Fin.sum_univ_eq_sum_range (fun i => X r i) 512, ← EReal.coe_add]

theorem triLe_at (a : Fin 512) (b : Fin 256) : k0_pay66 (F := Ideal) (ix2 a b) = (((if a.val % 256 ≤ b.val then 1 else 0) : ℝ) : EReal) := by
  pointwise [k0_pay66]
  by_cases h : a.val < 256
  · rw [dif_pos h, Nat.mod_eq_of_lt h]
    word_cmp
    exact coe_ite _ _ _
  · rw [dif_neg h, (by omega : a.val % 256 = a.val - 256)]
    word_cmp
    exact coe_ite _ _ _

theorem triLt_at (a b : Fin 256) : k0_pay67 (F := Ideal) (ix2 a b) = (((if a.val < b.val then 1 else 0) : ℝ) : EReal) := by
  pointwise [k0_pay67]
  word_cmp
  exact coe_ite _ _ _

theorem kTwo_at (h : FVec Ideal S512x256 .f32) (H : ℕ → ℝ) (r : Fin 512) (hh : ∀ i : Fin 256, h (ix2 r i) = ((H i : ℝ) : EReal)) (c : Fin 256) :
    kTwo h (k0_pay66 (F := Ideal)) (ix2 r c) = ((∑ i ∈ Finset.range (c.val + 1), H i : ℝ) : EReal) := by
  have ht := triLe_at
  pointwise [kTwo]
  simp only [hh, ht, ← EReal.coe_sub, sub_self, ← EReal.coe_mul, zero_mul, coe_sum, Finset.sum_const_zero, EReal.coe_zero, add_zero, zero_add]
  rw [← sum_fin_le 256 c H]
  refine congrArg _ (Finset.sum_congr rfl fun i _ => ?_)
  rw [Nat.mod_eq_of_lt i.isLt]
  split_ifs <;> ring

theorem kOne_at (h : FVec Ideal S512x256 .f32) (H : ℕ → ℝ) (r : Fin 512) (hh : ∀ i : Fin 256, h (ix2 r i) = ((H i : ℝ) : EReal)) (c : Fin 256) :
    kOne h (k0_pay67 (F := Ideal)) (ix2 r c) = ((∑ i ∈ Finset.range c.val, H i : ℝ) : EReal) := by
  have ht := triLt_at
  pointwise [kOne]
  simp only [hh, ht, ← EReal.coe_mul, coe_sum, zero_add]
  rw [← sum_fin_lt 256 c H]
  refine congrArg _ (Finset.sum_congr rfl fun i _ => ?_)
  split_ifs <;> ring

theorem kLeft_at (x : V512) (r : Fin 512) (i : Fin 256) : kLeft x (ix2 r i) = x (ix2 r ⟨i.val, by omega⟩) := by
  pointwise [kLeft]

theorem kRight_at (x : V512) (r : Fin 512) (i : Fin 256) : kRight x (ix2 r i) = x (ix2 r ⟨256 + i.val, by omega⟩) := by
  pointwise [kRight]

theorem cumLe_at (x : V512) (X : ℕ → ℕ → ℝ) (hx : ∀ r c : Fin 512, x (ix2 r c) = ((X r c : ℝ) : EReal)) (r c : Fin 512) :
    cumLe x (k0_pay66 (F := Ideal)) (ix2 r c) = ((∑ i ∈ Finset.range (c.val + 1), X r i : ℝ) : EReal) := by
  pointwise [cumLe, kJoin]
  by_cases h : c.val < 256
  · rw [dif_pos h, kTwo_at _ (fun i => X r i) r (fun i => (kLeft_at x r i).trans (hx r _)) ⟨c.val, h⟩]
  · rw [dif_neg h, kTwo_at _ (fun i => X r (256 + i)) r (fun i => (kRight_at x r i).trans (hx r _)) ⟨c.val - 256, by omega⟩, kTot_at x X hx, ← EReal.coe_add,
      show c.val + 1 = 256 + (c.val - 256 + 1) by omega, Finset.sum_range_add (fun i => X r i) 256, add_comm]

theorem cumLt_at (x : V512) (X : ℕ → ℕ → ℝ) (hx : ∀ r c : Fin 512, x (ix2 r c) = ((X r c : ℝ) : EReal)) (r c : Fin 512) :
    cumLt x (k0_pay67 (F := Ideal)) (ix2 r c) = ((∑ i ∈ Finset.range c.val, X r i : ℝ) : EReal) := by
  pointwise [cumLt, kJoin]
  by_cases h : c.val < 256
  · rw [dif_pos h, kOne_at _ (fun i => X r i) r (fun i => (kLeft_at x r i).trans (hx r _)) ⟨c.val, h⟩]
  · rw [dif_neg h, kOne_at _ (fun i => X r (256 + i)) r (fun i => (kRight_at x r i).trans (hx r _)) ⟨c.val - 256, by omega⟩, kTot_at x X hx, ← EReal.coe_add,
      show Finset.range c.val = Finset.range (256 + (c.val - 256)) by rw [Nat.add_sub_cancel' (by omega)], Finset.sum_range_add, add_comm]

theorem kA_at (lz : V512) (st cp : FVec Ideal S512x1 .f32) (x : V512) (X : ℕ → ℕ → ℝ) (hx : ∀ r c : Fin 512, x (ix2 r c) = ((X r c : ℝ) : EReal))
    (r c : Fin 512) (μ σ γ : ℝ) (hl : lz (ix2 r c) = (μ : EReal)) (hs : st (ix2 r 0) = (σ : EReal)) (hc : cp (ix2 r 0) = (γ : EReal)) :
    kA lz st cp x (k0_pay66 (F := Ideal)) (ix2 r c) = ((Real.exp (μ + (σ - γ - ∑ i ∈ Finset.range (c.val + 1), X r i)) : ℝ) : EReal) := by
  have hcum := cumLe_at x X hx
  pointwise [kA]
  rw [hcum, hl, hs, hc, ← EReal.coe_sub, ← EReal.coe_sub, ← EReal.coe_add, Ideal.exp_coe]

theorem kDz_at (g lz : V512) (cg : FVec Ideal S512x1 .f32) (X : ℕ → ℕ → ℝ) (hg : ∀ r c : Fin 512, g (ix2 r c) = ((X r c : ℝ) : EReal))
    (r c : Fin 512) (μ γ : ℝ) (hl : lz (ix2 r c) = (μ : EReal)) (hc : cg (ix2 r 0) = (γ : EReal)) :
    kDz g lz cg (k0_pay67 (F := Ideal)) (ix2 r c)
      = ((X r c * (1 - Real.exp μ) - (γ + ∑ i ∈ Finset.range c.val, X r i) * Real.exp μ : ℝ) : EReal) := by
  have hcum := cumLt_at g X hg
  pointwise [kDz]
  rw [hcum, hl, hg, hc, Ideal.exp_coe]
  push_cast
  rfl

end Cert.KernelIdeal.Value

end
-- ==== Proof.Block.lean ====
/- One head's step on a tile of 512 queries and 512 keys: the weights, their gradients and the running totals are the
   model's, tile below the diagonal or on it. -/
module

public import proofs.«01_k».proof.Proof.Tile

@[expose] public section

set_option maxRecDepth 16384

noncomputable section

open Idealize.ShloMosaic Idealize.ShloMosaic.TcCoe Idealize.SL.Sem

namespace Cert.KernelIdeal.Value

open Cert.KernelIdeal Cert.KernelIdeal.Gen Cert.SB

/-- A tile on the diagonal keeps its part below it; another tile keeps all. -/
def onDiag (dg : Bool) (x : V512) : V512 := match dg with
  | true => kMask x
  | false => x

/-- The masked logarithms. -/
def tL (dg : Bool) (z : V512) : V512 := onDiag dg (kL z)

/-- The masked weights. -/
def tA (dg : Bool) (z : V512) (st cp : FVec Ideal S512x1 .f32) : V512 :=
  onDiag dg (kA (addf (kL z) z) st cp (tL dg z) (k0_pay66 (F := Ideal)))

/-- The weights' gradients times the weights. -/
def tG (dg : Bool) (z ov : V512) (st cp : FVec Ideal S512x1 .f32) : V512 := mulf ov (tA dg z st cp)

/-- The masked gradients of the scores. -/
def tD (dg : Bool) (z ov : V512) (st cp cg : FVec Ideal S512x1 .f32) : V512 :=
  onDiag dg (kDz (tG dg z ov st cp) (addf (kL z) z) cg (k0_pay67 (F := Ideal)))

/-- What a head's step reads, in the model's terms: tile `i` of the queries, tile `j` of the keys. -/
structure Reads (q k v o : ℕ → ℕ → ℝ) (dg : Bool) (i j : ℕ) (z ov : V512) (st cp cg : FVec Ideal S512x1 .f32) : Prop where
  low : dg = false → j < i
  diag : dg = true → j = i
  row : i < 4
  score : ∀ r c : Fin 512, z (ix2 r c) = ((Z q k (512 * i + r) (512 * j + c) : ℝ) : EReal)
  prod : ∀ r c : Fin 512, ov (ix2 r c) = ((∑ d : Fin 64, o (512 * i + r) d * v (512 * j + c) d : ℝ) : EReal)
  total : ∀ r : Fin 512, st (ix2 r 0) = ((∑ s ∈ Finset.range 2048, Lm q k (512 * i + r) s : ℝ) : EReal)
  past : ∀ r : Fin 512, cp (ix2 r 0) = ((∑ s ∈ Finset.range (512 * j), Lm q k (512 * i + r) s : ℝ) : EReal)
  pastG : ∀ r : Fin 512, cg (ix2 r 0) = ((∑ s ∈ Finset.range (512 * j), G q k v o (512 * i + r) s : ℝ) : EReal)

section

variable {q k v o : ℕ → ℕ → ℝ} {dg : Bool} {i j : ℕ} {z ov : V512} {st cp cg : FVec Ideal S512x1 .f32}
  (h : Reads q k v o dg i j z ov st cp cg)

include h

/-- Masking a tile of values that belong below the diagonal. -/
theorem onDiag_at (x : V512) (X : ℕ → ℕ → ℝ) (r c : Fin 512) (hx : x (ix2 r c) = ((X (512 * i + r) (512 * j + c) : ℝ) : EReal)) :
    onDiag dg x (ix2 r c) = (((if 512 * j + c.val < 512 * i + r.val then X (512 * i + r) (512 * j + c) else 0) : ℝ) : EReal) := by
  cases dg with
  | false => have := h.low rfl; rw [if_pos (by omega)]; exact hx
  | true =>
    have hj := h.diag rfl
    rw [show (onDiag true x) = kMask x from rfl, kMask_at x r c _ hx]
    simp only [hj, Nat.add_lt_add_iff_left]

theorem tL_at (r c : Fin 512) : tL dg z (ix2 r c) = ((Lm q k (512 * i + r) (512 * j + c) : ℝ) : EReal) :=
  onDiag_at h _ (fun a b => lsn (Z q k a b)) r c (kL_at z r c _ (h.score r c))

theorem lz_at (r c : Fin 512) : addf (kL z) z (ix2 r c)
    = ((lsn (Z q k (512 * i + r) (512 * j + c)) + Z q k (512 * i + r) (512 * j + c) : ℝ) : EReal) := by
  have e := kL_at z r c _ (h.score r c)
  pointwise
  rw [e, h.score, ← EReal.coe_add]

theorem tA_at (r c : Fin 512) : tA dg z st cp (ix2 r c) = ((A q k (512 * i + r) (512 * j + c) : ℝ) : EReal) := by
  refine onDiag_at h _ (fun a b => Real.exp (lsn (Z q k a b) + Z q k a b + ∑ t ∈ Finset.range 2048, if b < t then Lm q k a t else 0)) r c ?_
  rw [kA_at _ st cp _ (fun a b => Lm q k (512 * i + a) (512 * j + b)) (fun r c => tL_at h r c) r c _ _ _ (lz_at h r c) (h.total r) (h.past r)]
  have hi := h.row
  have hj : j ≤ i := by cases dg with
    | false => exact (h.low rfl).le
    | true => exact (h.diag rfl).le
  rw [sum_after 2048 _ (by omega), Nat.add_assoc, Finset.sum_range_add (fun s => Lm q k (512 * i + r) s) (512 * j), sub_sub]

theorem tG_at (r c : Fin 512) : tG dg z ov st cp (ix2 r c) = ((G q k v o (512 * i + r) (512 * j + c) : ℝ) : EReal) := by
  have e := tA_at h r c
  pointwise [tG]
  rw [e, h.prod, ← EReal.coe_mul]
  rfl

theorem tD_at (r c : Fin 512) : tD dg z ov st cp cg (ix2 r c) = ((DZ q k v o (512 * i + r) (512 * j + c) : ℝ) : EReal) := by
  refine onDiag_at h _ (fun a b => G q k v o a b * (1 - Real.exp (lsn (Z q k a b) + Z q k a b))
    - (∑ t ∈ Finset.range b, G q k v o a t) * Real.exp (lsn (Z q k a b) + Z q k a b)) r c ?_
  rw [kDz_at _ _ cg (fun a b => G q k v o (512 * i + a) (512 * j + b)) (fun r c => tG_at h r c) r c _ _ (lz_at h r c) (h.pastG r)]
  rw [Finset.sum_range_add (fun s => G q k v o (512 * i + r) s) (512 * j)]

theorem past_next (r : Fin 512) : kSum cp (tL dg z) (ix2 r 0) = ((∑ s ∈ Finset.range (512 * (j + 1)), Lm q k (512 * i + r) s : ℝ) : EReal) := by
  rw [kSum_at cp _ (fun a b => Lm q k (512 * i + a) (512 * j + b)) (fun r c => tL_at h r c) r _ (h.past r), Nat.mul_add, Nat.mul_one,
    Finset.sum_range_add (fun s => Lm q k (512 * i + r) s) (512 * j)]

theorem pastG_next (r : Fin 512) : kSum cg (tG dg z ov st cp) (ix2 r 0) = ((∑ s ∈ Finset.range (512 * (j + 1)), G q k v o (512 * i + r) s : ℝ) : EReal) := by
  rw [kSum_at cg _ (fun a b => G q k v o (512 * i + a) (512 * j + b)) (fun r c => tG_at h r c) r _ (h.pastG r), Nat.mul_add, Nat.mul_one,
    Finset.sum_range_add (fun s => G q k v o (512 * i + r) s) (512 * j)]

end

end Cert.KernelIdeal.Value

end
-- ==== Proof.Trip.lean ====
/- One turn of the loop over the key tiles, in terms of the tile operations. -/
module

public import proofs.«01_k».proof.Proof.Gen.KernelIdeal.Frame
public import proofs.«01_k».proof.Proof.Block
public import Idealize.ShloMosaic.Lib.Pipeline.ValueKit

@[expose] public section

set_option maxRecDepth 16384

noncomputable section

open Idealize.ShloMosaic Idealize.ShloMosaic.TcCoe Idealize.SL.Sem Idealize.ShloMosaic.Tactic
open Idealize.ShloMosaic.Pipeline (Dat)

namespace Cert.KernelIdeal.Value

open Cert.KernelIdeal Cert.KernelIdeal.Gen

/-- The queries' gradient with a tile's part added. -/
def kDq (acc : FVec Ideal S512x128 .f32) (dz : V512) (kt : FVec Ideal S512x128 .bf16) : FVec Ideal S512x128 .f32 :=
  addf acc (matmul dot_S512x512_S512x128_S512x128_1_0_0_1_n_n none (truncf .bf16 dz bitsLt_bf16_f32) kt (constant S512x128 .f32 0x00000000#32))

/-- A tile of the keys' or the values' gradient with both heads' parts added. -/
def kCol (p0 p1 : V512) (x0 x1 : FVec Ideal S512x128 .bf16) (old : FVec Ideal S1x512x128 .f32) : FVec Ideal S1x512x128 .f32 :=
  shapeCast S1x512x128 (addf (shapeCast S512x128 old shapeCasts_S1x512x128_S512x128)
    (addf (matmul dot_S512x512_S512x128_S512x128_0_0_1_1_n_n none (truncf .bf16 p0 bitsLt_bf16_f32) x0 (constant S512x128 .f32 0x00000000#32))
      (matmul dot_S512x512_S512x128_S512x128_0_0_1_1_n_n none (truncf .bf16 p1 bitsLt_bf16_f32) x1 (constant S512x128 .f32 0x00000000#32))))
    shapeCasts_S512x128_S1x512x128

/-- The rectangle of a turn's key tile. -/
abbrev tileRect (i : grid0.Coords) (k : Fin (k0_t1_loop i).trips) : Rect S1x2048x128 :=
  Rect.unit (s := S1x2048x128) (k0_off1 i k) ![1, 512, 128] (k0_off1_inb i k)

theorem tripR_eq (𝒱 : Variants) (c : Dev nD) (bd : Option 𝒱.V) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x1x512x128 .f32) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x2048x128 .f32) (harg10 : arg10.IsWhole) (arg11 : Memref sig .tc .vmem S1x2048x128 .f32) (harg11 : arg11.IsWhole) (arg2 : BitVec 32) (v40 : FVec Ideal S512x128 .bf16) (v42 : FVec Ideal S512x128 .bf16) (v47 : FVec Ideal S512x128 .bf16) (v52 : FVec Ideal S512x128 .bf16) (v53 : FVec Ideal S512x1 .f32) (v54 : FVec Ideal S512x1 .f32) (v55 : IVec S512x512 32) (v56 : IVec S512x512 32) (v72 : FVec Ideal S512x128 .f32) (v73 : FVec Ideal S512x128 .f32) (v74 : FVec Ideal S512x1 .f32) (v75 : FVec Ideal S512x1 .f32) (c0_i32_29 : BitVec 32) (v79 : BitVec 32) (X_arg4 : BufTy.Contents (Elt Ideal) arg4.view.ty) (X_arg5 : BufTy.Contents (Elt Ideal) arg5.view.ty) (k : Fin (k0_t1_loop i).trips)
    (acc : FVec Ideal S512x128 .f32 × FVec Ideal S512x128 .f32 × FVec Ideal S512x1 .f32 × FVec Ideal S512x1 .f32 × FVec Ideal S512x1 .f32 × FVec Ideal S512x1 .f32)
    (f10 : BufTy.Contents (Elt Ideal) arg10.view.ty) (f11 : BufTy.Contents (Elt Ideal) arg11.view.ty) :
    tripR_k0_t1 (F := Ideal) 𝒱 c bd i arg3 harg3 arg4 harg4 arg5 harg5 arg6 harg6 arg7 harg7 arg8 harg8 arg9 harg9 arg10 harg10 arg11 harg11 arg2 v40 v42 v47 v52 v53 v54 v55 v56 (k0_pay66 (F := Ideal)) (k0_pay67 (F := Ideal)) v72 v73 v74 v75 c0_i32_29 v79 X_arg4 X_arg5 k acc f10 f11
    = (kDq acc.1 (tD false (kZ v40 (k0_pay2 (F := Ideal) (View.readAt (Elt Ideal) arg4.view (tileRect i k).toLoadRect X_arg4))) (kZ v47 (k0_pay3 (F := Ideal) (View.readAt (Elt Ideal) arg5.view (tileRect i k).toLoadRect X_arg5))) v53 acc.2.2.1 acc.2.2.2.2.1) (k0_pay2 (F := Ideal) (View.readAt (Elt Ideal) arg4.view (tileRect i k).toLoadRect X_arg4)),
       kDq acc.2.1 (tD false (kZ v42 (k0_pay2 (F := Ideal) (View.readAt (Elt Ideal) arg4.view (tileRect i k).toLoadRect X_arg4))) (kZ v52 (k0_pay3 (F := Ideal) (View.readAt (Elt Ideal) arg5.view (tileRect i k).toLoadRect X_arg5))) v54 acc.2.2.2.1 acc.2.2.2.2.2) (k0_pay2 (F := Ideal) (View.readAt (Elt Ideal) arg4.view (tileRect i k).toLoadRect X_arg4)),
       kSum acc.2.2.1 (tL false (kZ v40 (k0_pay2 (F := Ideal) (View.readAt (Elt Ideal) arg4.view (tileRect i k).toLoadRect X_arg4)))),
       kSum acc.2.2.2.1 (tL false (kZ v42 (k0_pay2 (F := Ideal) (View.readAt (Elt Ideal) arg4.view (tileRect i k).toLoadRect X_arg4)))),
       kSum acc.2.2.2.2.1 (tG false (kZ v40 (k0_pay2 (F := Ideal) (View.readAt (Elt Ideal) arg4.view (tileRect i k).toLoadRect X_arg4))) (kZ v47 (k0_pay3 (F := Ideal) (View.readAt (Elt Ideal) arg5.view (tileRect i k).toLoadRect X_arg5))) v53 acc.2.2.1),
       kSum acc.2.2.2.2.2 (tG false (kZ v42 (k0_pay2 (F := Ideal) (View.readAt (Elt Ideal) arg4.view (tileRect i k).toLoadRect X_arg4))) (kZ v52 (k0_pay3 (F := Ideal) (View.readAt (Elt Ideal) arg5.view (tileRect i k).toLoadRect X_arg5))) v54 acc.2.2.2.1)) := by
  unfold tripR_k0_t1 trip_k0_t1
  dsimp only
  rfl

theorem tripL_eq (𝒱 : Variants) (c : Dev nD) (bd : Option 𝒱.V) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x1x512x128 .f32) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x2048x128 .f32) (harg10 : arg10.IsWhole) (arg11 : Memref sig .tc .vmem S1x2048x128 .f32) (harg11 : arg11.IsWhole) (arg2 : BitVec 32) (v40 : FVec Ideal S512x128 .bf16) (v42 : FVec Ideal S512x128 .bf16) (v47 : FVec Ideal S512x128 .bf16) (v52 : FVec Ideal S512x128 .bf16) (v53 : FVec Ideal S512x1 .f32) (v54 : FVec Ideal S512x1 .f32) (v55 : IVec S512x512 32) (v56 : IVec S512x512 32) (v72 : FVec Ideal S512x128 .f32) (v73 : FVec Ideal S512x128 .f32) (v74 : FVec Ideal S512x1 .f32) (v75 : FVec Ideal S512x1 .f32) (c0_i32_29 : BitVec 32) (v79 : BitVec 32) (X_arg4 : BufTy.Contents (Elt Ideal) arg4.view.ty) (X_arg5 : BufTy.Contents (Elt Ideal) arg5.view.ty) (k : Fin (k0_t1_loop i).trips)
    (acc : FVec Ideal S512x128 .f32 × FVec Ideal S512x128 .f32 × FVec Ideal S512x1 .f32 × FVec Ideal S512x1 .f32 × FVec Ideal S512x1 .f32 × FVec Ideal S512x1 .f32)
    (f10 : BufTy.Contents (Elt Ideal) arg10.view.ty) (f11 : BufTy.Contents (Elt Ideal) arg11.view.ty) :
    tripL_k0_t1 (F := Ideal) 𝒱 c bd i arg3 harg3 arg4 harg4 arg5 harg5 arg6 harg6 arg7 harg7 arg8 harg8 arg9 harg9 arg10 harg10 arg11 harg11 arg2 v40 v42 v47 v52 v53 v54 v55 v56 (k0_pay66 (F := Ideal)) (k0_pay67 (F := Ideal)) v72 v73 v74 v75 c0_i32_29 v79 X_arg4 X_arg5 k acc f10 f11
    = ([⟨tileRect i k, kCol (tD false (kZ v40 (k0_pay2 (F := Ideal) (View.readAt (Elt Ideal) arg4.view (tileRect i k).toLoadRect X_arg4))) (kZ v47 (k0_pay3 (F := Ideal) (View.readAt (Elt Ideal) arg5.view (tileRect i k).toLoadRect X_arg5))) v53 acc.2.2.1 acc.2.2.2.2.1) (tD false (kZ v42 (k0_pay2 (F := Ideal) (View.readAt (Elt Ideal) arg4.view (tileRect i k).toLoadRect X_arg4))) (kZ v52 (k0_pay3 (F := Ideal) (View.readAt (Elt Ideal) arg5.view (tileRect i k).toLoadRect X_arg5))) v54 acc.2.2.2.1 acc.2.2.2.2.2) v40 v42 (View.readAt (Elt Ideal) arg10.view (tileRect i k).toLoadRect f10)⟩],
       [⟨tileRect i k, kCol (tA false (kZ v40 (k0_pay2 (F := Ideal) (View.readAt (Elt Ideal) arg4.view (tileRect i k).toLoadRect X_arg4))) v53 acc.2.2.1) (tA false (kZ v42 (k0_pay2 (F := Ideal) (View.readAt (Elt Ideal) arg4.view (tileRect i k).toLoadRect X_arg4))) v54 acc.2.2.2.1) v47 v52 (View.readAt (Elt Ideal) arg11.view (tileRect i k).toLoadRect f11)⟩]) := by
  unfold tripL_k0_t1 trip_k0_t1
  dsimp only
  rfl

end Cert.KernelIdeal.Value

end
-- ==== Proof.Lanes.lean ====
/- The two heads side by side in the 128 lanes: what the kernel reads, in the model's terms. -/
module

public import proofs.«01_k».proof.Proof.Trip

@[expose] public section

set_option maxRecDepth 16384

noncomputable section

open Idealize.ShloMosaic Idealize.ShloMosaic.TcCoe Idealize.SL.Sem

namespace Cert.SB

/-- Head `e`'s columns of an array of 128 lanes. -/
def hd (f : ℕ → ℕ → ℝ) (e : ℕ) : ℕ → ℕ → ℝ := fun r d => f r (64 * e + d)

/-- An array of 128 lanes with head `e`'s columns kept. -/
def only (f : ℕ → ℕ → ℝ) (e : ℕ) : ℕ → ℕ → ℝ := fun r l => if l / 64 = e then f r l else 0

/-- A product over the lanes of which one head's are kept. -/
theorem sum_only (f : ℕ → ℕ → ℝ) (e : ℕ) (he : e < 2) (r : ℕ) (g : ℕ → ℝ) :
    (∑ l : Fin 128, only f e r l * g l) = ∑ d : Fin 64, hd f e r d * g (64 * e + d) := by
  rw [Fin.sum_univ_eq_sum_range (fun l => only f e r l * g l) 128, Fin.sum_univ_eq_sum_range (fun d => hd f e r d * g (64 * e + d)) 64,
    Finset.sum_range_add (fun l => only f e r l * g l) 64 64]
  have h0 : ∀ d ∈ Finset.range 64, only f e r d * g d = if e = 0 then f r d * g d else 0 := fun d hd => by
    have := Finset.mem_range.1 hd
    unfold only
    rw [Nat.div_eq_of_lt this]
    by_cases h : e = 0
    · rw [if_pos h, if_pos h.symm]
    · rw [if_neg h, if_neg (Ne.symm h), zero_mul]
  have h1 : ∀ d ∈ Finset.range 64, only f e r (64 + d) * g (64 + d) = if e = 1 then f r (64 + d) * g (64 + d) else 0 := fun d hd => by
    have := Finset.mem_range.1 hd
    unfold only
    rw [show (64 + d) / 64 = 1 by omega]
    by_cases h : e = 1
    · rw [if_pos h, if_pos h.symm]
    · rw [if_neg h, if_neg (Ne.symm h), zero_mul]
  rw [Finset.sum_congr rfl h0, Finset.sum_congr rfl h1]
  obtain rfl | rfl : e = 0 ∨ e = 1 := by omega
  · simp only [if_true, zero_ne_one, if_false, Finset.sum_const_zero, add_zero, hd, Nat.mul_zero, Nat.zero_add]
  · simp only [if_true, one_ne_zero, if_false, Finset.sum_const_zero, zero_add, hd, Nat.mul_one]

/-- The queries' lanes, scaled. -/
def q8 (q : ℕ → ℕ → ℝ) : ℕ → ℕ → ℝ := fun r l => q r l * (1 / 8)

end Cert.SB

namespace Cert.KernelIdeal.Value

open Cert.KernelIdeal Cert.KernelIdeal.Gen Cert.SB

/-- The queries of head 0, scaled. -/
abbrev vq0 (x : FVec Ideal S1x512x128 .bf16) : FVec Ideal S512x128 .bf16 := k0_pay60 (F := Ideal) (k0_pay59 x)

/-- The queries of head 1, scaled. -/
abbrev vq1 (x : FVec Ideal S1x512x128 .bf16) : FVec Ideal S512x128 .bf16 := k0_pay61 (F := Ideal) (k0_pay52 x) k0_pay56

/-- The output's gradient, head 0. -/
abbrev vo0 (x : FVec Ideal S1x512x128 .bf16) : FVec Ideal S512x128 .bf16 := k0_pay62 (F := Ideal) (k0_pay53 x) k0_pay57

/-- The output's gradient, head 1. -/
abbrev vo1 (x : FVec Ideal S1x512x128 .bf16) : FVec Ideal S512x128 .bf16 := k0_pay63 (F := Ideal) (k0_pay53 x) k0_pay58

/-- The saved row sums, head 0. -/
abbrev vs0 (x : FVec Ideal S1x1x512x128 .f32) : FVec Ideal S512x1 .f32 := k0_pay64 (F := Ideal) (k0_pay54 x)

/-- The saved row sums, head 1. -/
abbrev vs1 (x : FVec Ideal S1x1x512x128 .f32) : FVec Ideal S512x1 .f32 := k0_pay65 (F := Ideal) (k0_pay54 x)

theorem only_at (f : ℕ → ℕ → ℝ) (e r : ℕ) (l : Fin 128) (p : Prop) [Decidable p] (h : p ↔ l.val / 64 = e) :
    (if p then ((f r l : ℝ) : EReal) else 0) = ((only f e r l : ℝ) : EReal) := by
  unfold only
  by_cases hp : p
  · rw [if_pos hp, if_pos (h.1 hp)]
  · rw [if_neg hp, if_neg (fun e => hp (h.2 e)), EReal.coe_zero]

/-- The queries' factor. -/
theorem eighth : Ideal.ofBits FTy.bf16 0x3E00#16 = ((1 / 8 : ℝ) : EReal) := by
  simp [Ideal.ofBits, Ideal.ieee, -EReal.coe_mul]; norm_num

/-- The result's factor. -/
theorem eighth32 : Ideal.ofBits FTy.f32 0x3E000000#32 = ((1 / 8 : ℝ) : EReal) := by
  simp [Ideal.ofBits, Ideal.ieee, -EReal.coe_mul]; norm_num

theorem vq0_at (x : FVec Ideal S1x512x128 .bf16) (X : ℕ → ℕ → ℝ) (r : Fin 512) (l : Fin 128) (hx : x (ix3 0 r l) = ((X r l : ℝ) : EReal)) :
    vq0 x (ix2 r l) = ((only (q8 X) 0 r l : ℝ) : EReal) := by
  have e : x (ix3 0 r l) * Ideal.ofBits FTy.bf16 0x3E00#16 = ((q8 X r l : ℝ) : EReal) := by rw [hx, eighth, ← EReal.coe_mul]; rfl
  pointwise [vq0, k0_pay60, k0_pay59, k0_pay52, k0_pay55]
  word_cmp
  rw [e]
  exact only_at _ _ _ _ _ (by have := l.isLt; omega)

theorem vq1_at (x : FVec Ideal S1x512x128 .bf16) (X : ℕ → ℕ → ℝ) (r : Fin 512) (l : Fin 128) (hx : x (ix3 0 r l) = ((X r l : ℝ) : EReal)) :
    vq1 x (ix2 r l) = ((only (q8 X) 1 r l : ℝ) : EReal) := by
  have e : x (ix3 0 r l) * Ideal.ofBits FTy.bf16 0x3E00#16 = ((q8 X r l : ℝ) : EReal) := by rw [hx, eighth, ← EReal.coe_mul]; rfl
  pointwise [vq1, k0_pay61, k0_pay52, k0_pay56]
  word_cmp
  rw [e]
  exact only_at _ _ _ _ _ (by have := l.isLt; omega)

theorem vo0_at (x : FVec Ideal S1x512x128 .bf16) (X : ℕ → ℕ → ℝ) (r : Fin 512) (l : Fin 128) (hx : x (ix3 0 r l) = ((X r l : ℝ) : EReal)) :
    vo0 x (ix2 r l) = ((only X 0 r l : ℝ) : EReal) := by
  pointwise [vo0, k0_pay62, k0_pay53, k0_pay57]
  word_cmp
  rw [hx]
  exact only_at _ _ _ _ _ (by have := l.isLt; omega)

theorem vo1_at (x : FVec Ideal S1x512x128 .bf16) (X : ℕ → ℕ → ℝ) (r : Fin 512) (l : Fin 128) (hx : x (ix3 0 r l) = ((X r l : ℝ) : EReal)) :
    vo1 x (ix2 r l) = ((only X 1 r l : ℝ) : EReal) := by
  pointwise [vo1, k0_pay63, k0_pay53, k0_pay58]
  word_cmp
  rw [hx]
  exact only_at _ _ _ _ _ (by have := l.isLt; omega)

theorem vs1_at (x : FVec Ideal S1x1x512x128 .f32) (r : Fin 512) : vs1 x (ix2 r 0) = x (ix4 0 0 r 64) := by
  pointwise [vs1, k0_pay65, k0_pay54]

theorem vs0_at (x : FVec Ideal S1x1x512x128 .f32) (r : Fin 512) : vs0 x (ix2 r 0) = x (ix4 0 0 r 0) := by
  pointwise [vs0, k0_pay64, k0_pay54]

theorem kDq_at (a : FVec Ideal S512x128 .f32) (dz : V512) (kt : FVec Ideal S512x128 .bf16) (D K : ℕ → ℕ → ℝ)
    (hd : ∀ r c : Fin 512, dz (ix2 r c) = ((D r c : ℝ) : EReal)) (hk : ∀ (c : Fin 512) (l : Fin 128), kt (ix2 c l) = ((K c l : ℝ) : EReal))
    (r : Fin 512) (l : Fin 128) (α : ℝ) (ha : a (ix2 r l) = (α : EReal)) :
    kDq a dz kt (ix2 r l) = ((α + ∑ c ∈ Finset.range 512, D r c * K c l : ℝ) : EReal) := by
  pointwise [kDq]
  simp only [hd, hk, ha, ← EReal.coe_mul, coe_sum, zero_add, ← EReal.coe_add]
  rw [Fin.sum_univ_eq_sum_range (fun c => D r c * K c l) 512]

theorem kCol_at (p0 p1 : V512) (x0 x1 : FVec Ideal S512x128 .bf16) (old : FVec Ideal S1x512x128 .f32) (P0 P1 X0 X1 : ℕ → ℕ → ℝ)
    (h0 : ∀ r c : Fin 512, p0 (ix2 r c) = ((P0 r c : ℝ) : EReal)) (h1 : ∀ r c : Fin 512, p1 (ix2 r c) = ((P1 r c : ℝ) : EReal))
    (hx0 : ∀ (r : Fin 512) (l : Fin 128), x0 (ix2 r l) = ((X0 r l : ℝ) : EReal)) (hx1 : ∀ (r : Fin 512) (l : Fin 128), x1 (ix2 r l) = ((X1 r l : ℝ) : EReal))
    (c : Fin 512) (l : Fin 128) (α : ℝ) (ha : old (ix3 0 c l) = (α : EReal)) :
    kCol p0 p1 x0 x1 old (ix3 0 c l)
      = ((α + ((∑ r ∈ Finset.range 512, P0 r c * X0 r l) + ∑ r ∈ Finset.range 512, P1 r c * X1 r l) : ℝ) : EReal) := by
  pointwise [kCol]
  simp only [h0, h1, hx0, hx1, ha, ← EReal.coe_mul, coe_sum, zero_add, ← EReal.coe_add]
  rw [Fin.sum_univ_eq_sum_range (fun r => P0 r c * X0 r l) 512, Fin.sum_univ_eq_sum_range (fun r => P1 r c * X1 r l) 512]

end Cert.KernelIdeal.Value

end
-- ==== Proof.Step.lean ====
/- One key tile's step for both heads: the running sums and the parts it adds to the keys' and the values' gradients,
   in the model's terms. -/
module

public import proofs.«01_k».proof.Proof.Lanes

@[expose] public section

set_option maxRecDepth 16384

noncomputable section

open Idealize.ShloMosaic Idealize.ShloMosaic.TcCoe Idealize.SL.Sem

namespace Cert.SB

/-- Two heads' queries, keys, values and output gradients, side by side in 128 lanes. -/
structure Lanes where
  q : ℕ → ℕ → ℝ
  k : ℕ → ℕ → ℝ
  v : ℕ → ℕ → ℝ
  o : ℕ → ℕ → ℝ

namespace Lanes

variable (L : Lanes)

/-- Head `e`'s masked logarithms. -/
def lm (e : ℕ) : ℕ → ℕ → ℝ := Lm (hd L.q e) (hd L.k e)

/-- Head `e`'s weights. -/
def wt (e : ℕ) : ℕ → ℕ → ℝ := A (hd L.q e) (hd L.k e)

/-- Head `e`'s weights' gradients times the weights. -/
def gw (e : ℕ) : ℕ → ℕ → ℝ := G (hd L.q e) (hd L.k e) (hd L.v e) (hd L.o e)

/-- Head `e`'s scores' gradients. -/
def dz (e : ℕ) : ℕ → ℕ → ℝ := DZ (hd L.q e) (hd L.k e) (hd L.v e) (hd L.o e)

/-- What the queries of tile `i` add to the keys' gradient. -/
def partK (i s l : ℕ) : ℝ :=
  (∑ r ∈ Finset.range 512, L.dz 0 (512 * i + r) s * only (q8 L.q) 0 (512 * i + r) l)
    + ∑ r ∈ Finset.range 512, L.dz 1 (512 * i + r) s * only (q8 L.q) 1 (512 * i + r) l

/-- What the queries of tile `i` add to the values' gradient. -/
def partV (i s l : ℕ) : ℝ :=
  (∑ r ∈ Finset.range 512, L.wt 0 (512 * i + r) s * only L.o 0 (512 * i + r) l)
    + ∑ r ∈ Finset.range 512, L.wt 1 (512 * i + r) s * only L.o 1 (512 * i + r) l

end Lanes

end Cert.SB

namespace Cert.KernelIdeal.Value

open Cert.KernelIdeal Cert.KernelIdeal.Gen Cert.SB

/-- What the loop carries: both heads' gradients of the queries, past logarithms, past weight gradients. -/
abbrev Acc := FVec Ideal S512x128 .f32 × FVec Ideal S512x128 .f32 × FVec Ideal S512x1 .f32 × FVec Ideal S512x1 .f32 × FVec Ideal S512x1 .f32 × FVec Ideal S512x1 .f32

section

variable (dg : Bool) (q0 q1 o0 o1 : FVec Ideal S512x128 .bf16) (s0 s1 : FVec Ideal S512x1 .f32) (kt vt : FVec Ideal S512x128 .bf16) (acc : Acc)

/-- What the loop carries after a key tile. -/
def stepAcc : Acc :=
  (kDq acc.1 (tD dg (kZ q0 kt) (kZ o0 vt) s0 acc.2.2.1 acc.2.2.2.2.1) kt,
   kDq acc.2.1 (tD dg (kZ q1 kt) (kZ o1 vt) s1 acc.2.2.2.1 acc.2.2.2.2.2) kt,
   kSum acc.2.2.1 (tL dg (kZ q0 kt)),
   kSum acc.2.2.2.1 (tL dg (kZ q1 kt)),
   kSum acc.2.2.2.2.1 (tG dg (kZ q0 kt) (kZ o0 vt) s0 acc.2.2.1),
   kSum acc.2.2.2.2.2 (tG dg (kZ q1 kt) (kZ o1 vt) s1 acc.2.2.2.1))

/-- The tile's keys' gradient after it. -/
def stepK (old : FVec Ideal S1x512x128 .f32) : FVec Ideal S1x512x128 .f32 :=
  kCol (tD dg (kZ q0 kt) (kZ o0 vt) s0 acc.2.2.1 acc.2.2.2.2.1) (tD dg (kZ q1 kt) (kZ o1 vt) s1 acc.2.2.2.1 acc.2.2.2.2.2) q0 q1 old

/-- The tile's values' gradient after it. -/
def stepV (old : FVec Ideal S1x512x128 .f32) : FVec Ideal S1x512x128 .f32 :=
  kCol (tA dg (kZ q0 kt) s0 acc.2.2.1) (tA dg (kZ q1 kt) s1 acc.2.2.2.1) o0 o1 old

end

/-- The queries' side of a point: tile `i`. -/
structure PtIn (L : Lanes) (i : ℕ) (q0 q1 o0 o1 : FVec Ideal S512x128 .bf16) (s0 s1 : FVec Ideal S512x1 .f32) : Prop where
  row : i < 4
  hq0 : ∀ (r : Fin 512) (l : Fin 128), q0 (ix2 r l) = ((only (q8 L.q) 0 (512 * i + r) l : ℝ) : EReal)
  hq1 : ∀ (r : Fin 512) (l : Fin 128), q1 (ix2 r l) = ((only (q8 L.q) 1 (512 * i + r) l : ℝ) : EReal)
  ho0 : ∀ (r : Fin 512) (l : Fin 128), o0 (ix2 r l) = ((only L.o 0 (512 * i + r) l : ℝ) : EReal)
  ho1 : ∀ (r : Fin 512) (l : Fin 128), o1 (ix2 r l) = ((only L.o 1 (512 * i + r) l : ℝ) : EReal)
  hs0 : ∀ r : Fin 512, s0 (ix2 r 0) = ((∑ s ∈ Finset.range 2048, L.lm 0 (512 * i + r) s : ℝ) : EReal)
  hs1 : ∀ r : Fin 512, s1 (ix2 r 0) = ((∑ s ∈ Finset.range 2048, L.lm 1 (512 * i + r) s : ℝ) : EReal)

/-- Tile `n` of the keys and the values. -/
structure KvIn (L : Lanes) (n : ℕ) (kt vt : FVec Ideal S512x128 .bf16) : Prop where
  hk : ∀ (c : Fin 512) (l : Fin 128), kt (ix2 c l) = ((L.k (512 * n + c) l : ℝ) : EReal)
  hv : ∀ (c : Fin 512) (l : Fin 128), vt (ix2 c l) = ((L.v (512 * n + c) l : ℝ) : EReal)

/-- What the loop carries before key tile `n`. -/
structure AccAt (L : Lanes) (i n : ℕ) (acc : Acc) : Prop where
  dq0 : ∀ (r : Fin 512) (l : Fin 128), acc.1 (ix2 r l) = ((∑ s ∈ Finset.range (512 * n), L.dz 0 (512 * i + r) s * L.k s l : ℝ) : EReal)
  dq1 : ∀ (r : Fin 512) (l : Fin 128), acc.2.1 (ix2 r l) = ((∑ s ∈ Finset.range (512 * n), L.dz 1 (512 * i + r) s * L.k s l : ℝ) : EReal)
  cp0 : ∀ r : Fin 512, acc.2.2.1 (ix2 r 0) = ((∑ s ∈ Finset.range (512 * n), L.lm 0 (512 * i + r) s : ℝ) : EReal)
  cp1 : ∀ r : Fin 512, acc.2.2.2.1 (ix2 r 0) = ((∑ s ∈ Finset.range (512 * n), L.lm 1 (512 * i + r) s : ℝ) : EReal)
  cg0 : ∀ r : Fin 512, acc.2.2.2.2.1 (ix2 r 0) = ((∑ s ∈ Finset.range (512 * n), L.gw 0 (512 * i + r) s : ℝ) : EReal)
  cg1 : ∀ r : Fin 512, acc.2.2.2.2.2 (ix2 r 0) = ((∑ s ∈ Finset.range (512 * n), L.gw 1 (512 * i + r) s : ℝ) : EReal)

section

variable {L : Lanes} {i n : ℕ} {q0 q1 o0 o1 : FVec Ideal S512x128 .bf16} {s0 s1 : FVec Ideal S512x1 .f32} {kt vt : FVec Ideal S512x128 .bf16} {acc : Acc}
  (hp : PtIn L i q0 q1 o0 o1 s0 s1) (hkv : KvIn L n kt vt) (ha : AccAt L i n acc) (dg : Bool) (h0 : dg = false → n < i) (h1 : dg = true → n = i)

include hp hkv

theorem score_at (e : ℕ) (he : e < 2) (x : FVec Ideal S512x128 .bf16)
    (hx : ∀ (r : Fin 512) (l : Fin 128), x (ix2 r l) = ((only (q8 L.q) e (512 * i + r) l : ℝ) : EReal)) (r c : Fin 512) :
    kZ x kt (ix2 r c) = ((Z (hd L.q e) (hd L.k e) (512 * i + r) (512 * n + c) : ℝ) : EReal) := by
  rw [kZ_at x kt (fun r l => only (q8 L.q) e (512 * i + r) l) (fun c l => L.k (512 * n + c) l) hx hkv.hk r c,
    sum_only (q8 L.q) e he _ (fun l => L.k (512 * n + c) l)]
  unfold Z
  rw [Finset.sum_mul]
  refine congrArg _ (Finset.sum_congr rfl fun d _ => ?_)
  simp only [hd, q8]
  ring

theorem prod_at (e : ℕ) (he : e < 2) (x : FVec Ideal S512x128 .bf16)
    (hx : ∀ (r : Fin 512) (l : Fin 128), x (ix2 r l) = ((only L.o e (512 * i + r) l : ℝ) : EReal)) (r c : Fin 512) :
    kZ x vt (ix2 r c) = ((∑ d : Fin 64, hd L.o e (512 * i + r) d * hd L.v e (512 * n + c) d : ℝ) : EReal) := by
  rw [kZ_at x vt (fun r l => only L.o e (512 * i + r) l) (fun c l => L.v (512 * n + c) l) hx hkv.hv r c,
    sum_only L.o e he _ (fun l => L.v (512 * n + c) l)]
  rfl

include ha h0 h1

theorem reads0 : Reads (hd L.q 0) (hd L.k 0) (hd L.v 0) (hd L.o 0) dg i n (kZ q0 kt) (kZ o0 vt) s0 acc.2.2.1 acc.2.2.2.2.1 :=
  ⟨h0, h1, hp.row, score_at hp hkv 0 (by omega) q0 hp.hq0, prod_at hp hkv 0 (by omega) o0 hp.ho0, hp.hs0, ha.cp0, ha.cg0⟩

theorem reads1 : Reads (hd L.q 1) (hd L.k 1) (hd L.v 1) (hd L.o 1) dg i n (kZ q1 kt) (kZ o1 vt) s1 acc.2.2.2.1 acc.2.2.2.2.2 :=
  ⟨h0, h1, hp.row, score_at hp hkv 1 (by omega) q1 hp.hq1, prod_at hp hkv 1 (by omega) o1 hp.ho1, hp.hs1, ha.cp1, ha.cg1⟩

theorem stepAcc_at : AccAt L i (n + 1) (stepAcc dg q0 q1 o0 o1 s0 s1 kt vt acc) := by
  have e0 := reads0 hp hkv ha dg h0 h1
  have e1 := reads1 hp hkv ha dg h0 h1
  refine ⟨fun r l => ?_, fun r l => ?_, fun r => past_next e0 r, fun r => past_next e1 r, fun r => pastG_next e0 r, fun r => pastG_next e1 r⟩
  · refine (kDq_at _ _ kt (fun r c => L.dz 0 (512 * i + r) (512 * n + c)) (fun c l => L.k (512 * n + c) l) (tD_at e0) hkv.hk r l _ (ha.dq0 r l)).trans ?_
    rw [Nat.mul_add, Nat.mul_one, Finset.sum_range_add (fun s => L.dz 0 (512 * i + r) s * L.k s l) (512 * n)]
  · refine (kDq_at _ _ kt (fun r c => L.dz 1 (512 * i + r) (512 * n + c)) (fun c l => L.k (512 * n + c) l) (tD_at e1) hkv.hk r l _ (ha.dq1 r l)).trans ?_
    rw [Nat.mul_add, Nat.mul_one, Finset.sum_range_add (fun s => L.dz 1 (512 * i + r) s * L.k s l) (512 * n)]

theorem stepK_at (old : FVec Ideal S1x512x128 .f32) (c : Fin 512) (l : Fin 128) (α : ℝ) (hα : old (ix3 0 c l) = (α : EReal)) :
    stepK dg q0 q1 o0 o1 s0 s1 kt vt acc old (ix3 0 c l) = ((α + L.partK i (512 * n + c) l : ℝ) : EReal) :=
  kCol_at _ _ q0 q1 old (fun r c => L.dz 0 (512 * i + r) (512 * n + c)) (fun r c => L.dz 1 (512 * i + r) (512 * n + c))
    (fun r l => only (q8 L.q) 0 (512 * i + r) l) (fun r l => only (q8 L.q) 1 (512 * i + r) l)
    (tD_at (reads0 hp hkv ha dg h0 h1)) (tD_at (reads1 hp hkv ha dg h0 h1)) hp.hq0 hp.hq1 c l α hα

theorem stepV_at (old : FVec Ideal S1x512x128 .f32) (c : Fin 512) (l : Fin 128) (α : ℝ) (hα : old (ix3 0 c l) = (α : EReal)) :
    stepV dg q0 q1 o0 o1 s0 s1 kt acc old (ix3 0 c l) = ((α + L.partV i (512 * n + c) l : ℝ) : EReal) :=
  kCol_at _ _ o0 o1 old (fun r c => L.wt 0 (512 * i + r) (512 * n + c)) (fun r c => L.wt 1 (512 * i + r) (512 * n + c))
    (fun r l => only L.o 0 (512 * i + r) l) (fun r l => only L.o 1 (512 * i + r) l)
    (tA_at (reads0 hp hkv ha dg h0 h1)) (tA_at (reads1 hp hkv ha dg h0 h1)) hp.ho0 hp.ho1 c l α hα

end

end Cert.KernelIdeal.Value

end
-- ==== Proof.Loop.lean ====
/- The loop over the key tiles below the diagonal, in the model's terms. -/
module

public import proofs.«01_k».proof.Proof.Step
public import Idealize.ShloMosaic.Lib.VecWindow
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Cert.SB

/-- A point's loop turns once per key tile below its own. -/
theorem trips_eq (i : grid0.Coords) : (k0_t1_loop i).trips = (i 2).val := by
  have h : ∀ a : Fin 4, Scf.trips (0#32) (Scalar.addi (0#32) (Scalar.muli (Scalar.divsi (Scalar.subi (BitVec.ofNat 32 a.val) 0#32) 1#32) 1#32)) 1#32 = a.val := by decide
  exact h (i 2)

/-- Turn `k` works on key tile `k`. -/
theorem off1_eq (i : grid0.Coords) (k : Fin (k0_t1_loop i).trips) : k0_off1 i k = ![0, 512 * k.val, 0] := by
  have h : ∀ k : Fin 4, (Scalar.indexCast (Scalar.muli (Scf.iv 0#32 1#32 k.val) 512#32)).toNat = 512 * k.val := by decide
  have hk : k.val < 4 := lt_trans (lt_of_lt_of_eq k.isLt (trips_eq i)) (i 2).isLt
  exact congrArg (fun n => ![0, n, 0]) (h ⟨k.val, hk⟩)

/-- The last tile is the diagonal one. -/
theorem off3_eq (i : grid0.Coords) : k0_off3 i = ![0, 512 * (i 2).val, 0] := by
  have h : ∀ a : Fin 4, (Scalar.indexCast (Scalar.muli (BitVec.ofNat 32 a.val) 512#32)).toNat = 512 * a.val := by decide
  exact congrArg (fun n => ![0, n, 0]) (h (i 2))

section

variable {κ : Kind} {sp : Space} {e : EltTy} (v : View sig κ sp S1x2048x128 e) (f : v.ty.Contents (Elt Ideal)) {off : Fin 3 → ℕ} {n : ℕ} (hn : n < 4)
  (inb : ∀ a : Fin 3, off a + (![1, 512, 128] : Fin 3 → ℕ) a ≤ S1x2048x128.size a) (ho : off = ![0, 512 * n, 0])

include ho

/-- A load of key tile `n`, at an index. -/
theorem load_tile (c : Fin 512) (l : Fin 128) :
    v.readAt (Elt Ideal) (Rect.unit (s := S1x2048x128) off ![1, 512, 128] inb).toLoadRect f (ix3 0 c l) = v.read (Elt Ideal) f (ix3 0 ⟨512 * n + c.val, by omega⟩ l) := by
  subst ho
  rw [View.readAt_eq_ld]
  exact View.ld_unit_apply_of _ _ _ _ _ _ fun a => by fin_cases a <;> simp

/-- The contents after a store of key tile `n`, at an index. -/
theorem store_tile (w : S1x512x128.Idx → Elt Ideal e) (L : List (View.Piece (Elt Ideal) S1x2048x128 e)) (s : Fin 2048) (l : Fin 128) :
    v.read (Elt Ideal) (v.writes (Elt Ideal) f ((⟨Rect.unit (s := S1x2048x128) off ![1, 512, 128] inb, w⟩ : View.Piece (Elt Ideal) S1x2048x128 e) :: L)) (ix3 0 s l)
      = if h : 512 * n ≤ s.val ∧ s.val < 512 * n + 512 then w (ix3 0 ⟨s.val - 512 * n, by omega⟩ l)
        else v.read (Elt Ideal) (v.writes (Elt Ideal) f L) (ix3 0 s l) := by
  rw [View.read_writes_cons_unit v f inb w L (ix3 0 s l) ho]
  by_cases h : 512 * n ≤ s.val ∧ s.val < 512 * n + 512
  · have h' : ∀ a : Fin 3, (![0, 512 * n, 0] : Fin 3 → ℕ) a ≤ ((ix3 0 s l : S1x2048x128.Idx) a).val ∧ ((ix3 0 s l : S1x2048x128.Idx) a).val < (![0, 512 * n, 0] : Fin 3 → ℕ) a + (![1, 512, 128] : Fin 3 → ℕ) a := by
      intro a; fin_cases a
      · simp
      · simpa using h
      · simpa using l.isLt
    rw [dif_pos h, dif_pos h']
    exact congrArg w (funext fun a => Fin.ext (by fin_cases a <;> simp))
  · rw [dif_neg h, dif_neg fun h' => h (by simpa using h' 1)]

end

/-- A gradient of the keys or the values, with what the first `n` tiles add. -/
def Held (x : S1x2048x128.Idx → EReal) (old part : ℕ → ℕ → ℝ) (n : ℕ) : Prop :=
  ∀ (s : Fin 2048) (l : Fin 128), x (ix3 0 s l) = ((old s l + if s.val < 512 * n then part s l else 0 : ℝ) : EReal)

theorem held_next {κ : Kind} {sp : Space} (v : View sig κ sp S1x2048x128 .f32) (f : v.ty.Contents (Elt Ideal)) {off : Fin 3 → ℕ} {n : ℕ} (hn : n < 4)
    (inb : ∀ a : Fin 3, off a + (![1, 512, 128] : Fin 3 → ℕ) a ≤ S1x2048x128.size a) (ho : off = ![0, 512 * n, 0])
    (w : S1x512x128.Idx → EReal) (L : List (View.Piece (Elt Ideal) S1x2048x128 .f32)) (old part : ℕ → ℕ → ℝ)
    (h : Held (v.read (Elt Ideal) (v.writes (Elt Ideal) f L)) old part n)
    (hw : ∀ (c : Fin 512) (l : Fin 128), w (ix3 0 c l) = ((old (512 * n + c) l + part (512 * n + c) l : ℝ) : EReal)) :
    Held (v.read (Elt Ideal) (v.writes (Elt Ideal) f ((⟨Rect.unit (s := S1x2048x128) off ![1, 512, 128] inb, w⟩ : View.Piece (Elt Ideal) S1x2048x128 .f32) :: L))) old part (n + 1) := by
  intro s l
  refine (store_tile v f inb ho w L s l).trans ?_
  by_cases hs : 512 * n ≤ s.val ∧ s.val < 512 * n + 512
  · rw [dif_pos hs, hw, if_pos (by omega)]
    simp only [Nat.add_sub_cancel' hs.1]
  · rw [dif_neg hs, h s l]
    have : (s.val < 512 * n) ↔ (s.val < 512 * (n + 1)) := by omega
    simp only [this]

/-- What a tile's load reads of a gradient held so far. -/
theorem held_load {κ : Kind} {sp : Space} (v : View sig κ sp S1x2048x128 .f32) (f : v.ty.Contents (Elt Ideal)) {off : Fin 3 → ℕ} {n : ℕ} (hn : n < 4)
    (inb : ∀ a : Fin 3, off a + (![1, 512, 128] : Fin 3 → ℕ) a ≤ S1x2048x128.size a) (ho : off = ![0, 512 * n, 0]) (old part : ℕ → ℕ → ℝ)
    (h : Held (v.read (Elt Ideal) f) old part n) (c : Fin 512) (l : Fin 128) :
    v.readAt (Elt Ideal) (Rect.unit (s := S1x2048x128) off ![1, 512, 128] inb).toLoadRect f (ix3 0 c l) = ((old (512 * n + c) l : ℝ) : EReal) := by
  rw [load_tile v f hn inb ho c l, h, if_neg (by simp), add_zero]

/-- A tile of the keys and of the values, loaded. -/
theorem kv_load {κ κ' : Kind} {sp sp' : Space} (v : View sig κ sp S1x2048x128 .bf16) (f : v.ty.Contents (Elt Ideal)) (v' : View sig κ' sp' S1x2048x128 .bf16) (f' : v'.ty.Contents (Elt Ideal))
    {off : Fin 3 → ℕ} {n : ℕ} (hn : n < 4)
    (inb : ∀ a : Fin 3, off a + (![1, 512, 128] : Fin 3 → ℕ) a ≤ S1x2048x128.size a) (ho : off = ![0, 512 * n, 0]) (L : Lanes)
    (hk : ∀ (s : Fin 2048) (l : Fin 128), v.read (Elt Ideal) f (ix3 0 s l) = ((L.k s l : ℝ) : EReal))
    (hv : ∀ (s : Fin 2048) (l : Fin 128), v'.read (Elt Ideal) f' (ix3 0 s l) = ((L.v s l : ℝ) : EReal)) :
    KvIn L n (k0_pay2 (F := Ideal) (v.readAt (Elt Ideal) (Rect.unit (s := S1x2048x128) off ![1, 512, 128] inb).toLoadRect f))
      (k0_pay3 (F := Ideal) (v'.readAt (Elt Ideal) (Rect.unit (s := S1x2048x128) off ![1, 512, 128] inb).toLoadRect f')) := by
  refine ⟨fun c l => ?_, fun c l => ?_⟩
  · have e : ∀ x : FVec Ideal S1x512x128 .bf16, k0_pay2 (F := Ideal) x (ix2 c l) = x (ix3 0 c l) := fun x => by pointwise [k0_pay2]
    refine (e _).trans ?_
    rw [load_tile v f hn inb ho c l, hk]
  · have e : ∀ x : FVec Ideal S1x512x128 .bf16, k0_pay3 (F := Ideal) x (ix2 c l) = x (ix3 0 c l) := fun x => by pointwise [k0_pay3]
    refine (e _).trans ?_
    rw [load_tile v' f' hn inb ho c l, hv]

/-- Before turn `n`: the running sums over the first `n` key tiles, and their parts added to the two gradients. -/
theorem loop_at (𝒱 : Variants) (c : Dev nD) (bd : Option 𝒱.V) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x1x512x128 .f32) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x2048x128 .f32) (harg10 : arg10.IsWhole) (arg11 : Memref sig .tc .vmem S1x2048x128 .f32) (harg11 : arg11.IsWhole) (arg2 : BitVec 32) (v40 : FVec Ideal S512x128 .bf16) (v42 : FVec Ideal S512x128 .bf16) (v47 : FVec Ideal S512x128 .bf16) (v52 : FVec Ideal S512x128 .bf16) (v53 : FVec Ideal S512x1 .f32) (v54 : FVec Ideal S512x1 .f32) (v55 : IVec S512x512 32) (v56 : IVec S512x512 32) (v72 : FVec Ideal S512x128 .f32) (v73 : FVec Ideal S512x128 .f32) (v74 : FVec Ideal S512x1 .f32) (v75 : FVec Ideal S512x1 .f32) (c0_i32_29 : BitVec 32) (v79 : BitVec 32) (X_arg4 : BufTy.Contents (Elt Ideal) arg4.view.ty) (X_arg5 : BufTy.Contents (Elt Ideal) arg5.view.ty)
    (G10 : BufTy.Contents (Elt Ideal) arg10.view.ty) (G11 : BufTy.Contents (Elt Ideal) arg11.view.ty) (init : Acc) (L : Lanes)
    (hp : PtIn L (i 2).val v40 v42 v47 v52 v53 v54)
    (hk : ∀ (s : Fin 2048) (l : Fin 128), arg4.view.read (Elt Ideal) X_arg4 (ix3 0 s l) = ((L.k s l : ℝ) : EReal))
    (hv : ∀ (s : Fin 2048) (l : Fin 128), arg5.view.read (Elt Ideal) X_arg5 (ix3 0 s l) = ((L.v s l : ℝ) : EReal))
    (hi : AccAt L (i 2).val 0 init) (old10 old11 : ℕ → ℕ → ℝ)
    (h10 : Held (arg10.view.read (Elt Ideal) G10) old10 (L.partK (i 2).val) 0)
    (h11 : Held (arg11.view.read (Elt Ideal) G11) old11 (L.partV (i 2).val) 0) :
    ∀ n : ℕ, n ≤ (i 2).val →
      AccAt L (i 2).val n (st_k0_t1 (F := Ideal) 𝒱 c bd i arg3 harg3 arg4 harg4 arg5 harg5 arg6 harg6 arg7 harg7 arg8 harg8 arg9 harg9 arg10 harg10 arg11 harg11 arg2 v40 v42 v47 v52 v53 v54 v55 v56 (k0_pay66 (F := Ideal)) (k0_pay67 (F := Ideal)) v72 v73 v74 v75 c0_i32_29 v79 X_arg4 X_arg5 G10 G11 init n).1
      ∧ Held (arg10.view.read (Elt Ideal) (arg10.view.writes (Elt Ideal) G10 (st_k0_t1 (F := Ideal) 𝒱 c bd i arg3 harg3 arg4 harg4 arg5 harg5 arg6 harg6 arg7 harg7 arg8 harg8 arg9 harg9 arg10 harg10 arg11 harg11 arg2 v40 v42 v47 v52 v53 v54 v55 v56 (k0_pay66 (F := Ideal)) (k0_pay67 (F := Ideal)) v72 v73 v74 v75 c0_i32_29 v79 X_arg4 X_arg5 G10 G11 init n).2.1)) old10 (L.partK (i 2).val) n
      ∧ Held (arg11.view.read (Elt Ideal) (arg11.view.writes (Elt Ideal) G11 (st_k0_t1 (F := Ideal) 𝒱 c bd i arg3 harg3 arg4 harg4 arg5 harg5 arg6 harg6 arg7 harg7 arg8 harg8 arg9 harg9 arg10 harg10 arg11 harg11 arg2 v40 v42 v47 v52 v53 v54 v55 v56 (k0_pay66 (F := Ideal)) (k0_pay67 (F := Ideal)) v72 v73 v74 v75 c0_i32_29 v79 X_arg4 X_arg5 G10 G11 init n).2.2)) old11 (L.partV (i 2).val) n
  | 0, _ => ⟨hi, h10, h11⟩
  | n + 1, hn => by
    obtain ⟨ha, hK, hV⟩ := loop_at 𝒱 c bd i arg3 harg3 arg4 harg4 arg5 harg5 arg6 harg6 arg7 harg7 arg8 harg8 arg9 harg9 arg10 harg10 arg11 harg11 arg2 v40 v42 v47 v52 v53 v54 v55 v56 v72 v73 v74 v75 c0_i32_29 v79 X_arg4 X_arg5 G10 G11 init L hp hk hv hi old10 old11 h10 h11 n (by omega)
    have h4 : n < 4 := by have := (i 2).isLt; have : (i 2).val < 4 := this; omega
    have hkn : n < (k0_t1_loop i).trips := by rw [trips_eq]; omega
    have ho := off1_eq i ⟨n, hkn⟩
    have es := st_k0_t1_succ (F := Ideal) 𝒱 c bd i arg3 harg3 arg4 harg4 arg5 harg5 arg6 harg6 arg7 harg7 arg8 harg8 arg9 harg9 arg10 harg10 arg11 harg11 arg2 v40 v42 v47 v52 v53 v54 v55 v56 (k0_pay66 (F := Ideal)) (k0_pay67 (F := Ideal)) v72 v73 v74 v75 c0_i32_29 v79 X_arg4 X_arg5 G10 G11 init ⟨n, hkn⟩
    rw [tripR_eq, tripL_eq] at es
    have hkv := kv_load arg4.view X_arg4 arg5.view X_arg5 h4 (k0_off1_inb i ⟨n, hkn⟩) ho L hk hv
    have hd0 : false = false → n < (i 2).val := fun _ => by omega
    have hd1 : false = true → n = (i 2).val := fun h => absurd h (by decide)
    refine ⟨?_, ?_, ?_⟩
    · rw [es]
      exact stepAcc_at hp hkv ha false hd0 hd1
    · rw [es]
      exact held_next _ _ h4 _ ho _ _ _ _ hK fun c l =>
        stepK_at hp hkv ha false hd0 hd1 _ c l _ (held_load _ _ h4 _ ho _ _ hK c l)
    · rw [es]
      exact held_next _ _ h4 _ ho _ _ _ _ hV fun c l =>
        stepV_at hp hkv ha false hd0 hd1 _ c l _ (held_load _ _ h4 _ ho _ _ hV c l)

end Cert.KernelIdeal.Value

end
-- ==== Proof.Point.lean ====
/- What a grid point leaves in its three output blocks, in terms of the tile steps. -/
module

public import proofs.«01_k».proof.Proof.Loop
public import proofs.«01_k».proof.Proof.Gen.KernelIdeal.Frame

@[expose] public section

set_option maxRecDepth 16384

noncomputable section

open Idealize.ShloMosaic Idealize.ShloMosaic.TcCoe Idealize.SL.Sem

namespace Cert.KernelIdeal.Value

open Cert.KernelIdeal Cert.KernelIdeal.Gen Cert.SB

section

variable  (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x1x512x128 .f32) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x2048x128 .f32) (harg10 : arg10.IsWhole) (arg11 : Memref sig .tc .vmem S1x2048x128 .f32) (harg11 : arg11.IsWhole)
  (x0 : FVec Ideal S1x512x128 .bf16) (x1 : FVec Ideal S1x2048x128 .bf16) (x2 : FVec Ideal S1x2048x128 .bf16) (x4 : FVec Ideal S1x1x512x128 .f32) (x5 : FVec Ideal S1x512x128 .bf16)

/-- The queries' block, loaded. -/
abbrev lq : FVec Ideal S1x512x128 .bf16 := View.readAt (Elt Ideal) arg3.view (Rect.unit (s := S1x512x128) ![0, 0, 0] S1x512x128.size inb_S1x512x128_S1x512x128_0_0_0).toLoadRect (harg3.unread x0)

/-- The output gradient's block, loaded. -/
abbrev lo : FVec Ideal S1x512x128 .bf16 := View.readAt (Elt Ideal) arg8.view (Rect.unit (s := S1x512x128) ![0, 0, 0] S1x512x128.size inb_S1x512x128_S1x512x128_0_0_0).toLoadRect (harg8.unread x5)

/-- The saved row sums' block, loaded. -/
abbrev ls : FVec Ideal S1x1x512x128 .f32 := View.readAt (Elt Ideal) arg7.view (Rect.unit (s := S1x1x512x128) ![0, 0, 0, 0] S1x1x512x128.size inb_S1x1x512x128_S1x1x512x128_0_0_0_0).toLoadRect (harg7.unread x4)

variable (G10 : BufTy.Contents (Elt Ideal) arg10.view.ty) (G11 : BufTy.Contents (Elt Ideal) arg11.view.ty)

/-- The first loop's state after `n` turns. -/
abbrev st1 (n : ℕ) : Acc × List (View.Piece (Elt Ideal) S1x2048x128 .f32) × List (View.Piece (Elt Ideal) S1x2048x128 .f32) :=
  st_k0_t1 (F := Ideal) Variants.none c none i arg3 harg3 arg4 harg4 arg5 harg5 arg6 harg6 arg7 harg7 arg8 harg8 arg9 harg9 arg10 harg10 arg11 harg11 (BitVec.ofNat 32 (i 2).val)
    (vq0 (lq arg3 harg3 x0)) (vq1 (lq arg3 harg3 x0)) (vo0 (lo arg8 harg8 x5)) (vo1 (lo arg8 harg8 x5)) (vs0 (ls arg7 harg7 x4)) (vs1 (ls arg7 harg7 x4))
    (iota .tc S512x512 32 [0] iota_S512x512_d0_w32) (iota .tc S512x512 32 [1] iota_S512x512_d1_w32) (k0_pay66 (F := Ideal)) (k0_pay67 (F := Ideal))
    (k0_pay68 (F := Ideal)) (k0_pay69 (F := Ideal)) (k0_pay70 (F := Ideal)) (k0_pay71 (F := Ideal)) (0#32) (Scalar.muli (Scalar.divsi (Scalar.subi (BitVec.ofNat 32 (i 2).val) 0#32) 1#32) 1#32)
    (harg4.unread x1) (harg5.unread x2) G10 G11 (k0_pay68 (F := Ideal), k0_pay69 (F := Ideal), k0_pay70 (F := Ideal), k0_pay71 (F := Ideal), k0_pay70 (F := Ideal), k0_pay71 (F := Ideal)) n

/-- The second loop's state after `n` turns. -/
abbrev st2 (n : ℕ) : Acc × List (View.Piece (Elt Ideal) S1x2048x128 .f32) × List (View.Piece (Elt Ideal) S1x2048x128 .f32) :=
  st_k0_t2 (F := Ideal) Variants.none c none i arg3 harg3 arg4 harg4 arg5 harg5 arg6 harg6 arg7 harg7 arg8 harg8 arg9 harg9 arg10 harg10 arg11 harg11 (BitVec.ofNat 32 (i 2).val)
    (vq0 (lq arg3 harg3 x0)) (vq1 (lq arg3 harg3 x0)) (vo0 (lo arg8 harg8 x5)) (vo1 (lo arg8 harg8 x5)) (vs0 (ls arg7 harg7 x4)) (vs1 (ls arg7 harg7 x4))
    (iota .tc S512x512 32 [0] iota_S512x512_d0_w32) (iota .tc S512x512 32 [1] iota_S512x512_d1_w32) (k0_pay66 (F := Ideal)) (k0_pay67 (F := Ideal))
    (k0_pay68 (F := Ideal)) (k0_pay69 (F := Ideal)) (k0_pay70 (F := Ideal)) (k0_pay71 (F := Ideal)) (0#32) (Scalar.muli (Scalar.divsi (Scalar.subi (BitVec.ofNat 32 (i 2).val) 0#32) 1#32) 1#32) (Scalar.addi 0#32 (Scalar.muli (Scalar.divsi (Scalar.subi (BitVec.ofNat 32 (i 2).val) 0#32) 1#32) 1#32))
    (harg4.unread x1) (harg5.unread x2) (arg10.view.writes (Elt Ideal) G10 (st1 c i arg3 harg3 arg4 harg4 arg5 harg5 arg6 harg6 arg7 harg7 arg8 harg8 arg9 harg9 arg10 harg10 arg11 harg11 x0 x1 x2 x4 x5 G10 G11 (k0_t1_loop i).trips).2.1) (arg11.view.writes (Elt Ideal) G11 (st1 c i arg3 harg3 arg4 harg4 arg5 harg5 arg6 harg6 arg7 harg7 arg8 harg8 arg9 harg9 arg10 harg10 arg11 harg11 x0 x1 x2 x4 x5 G10 G11 (k0_t1_loop i).trips).2.2) (st1 c i arg3 harg3 arg4 harg4 arg5 harg5 arg6 harg6 arg7 harg7 arg8 harg8 arg9 harg9 arg10 harg10 arg11 harg11 x0 x1 x2 x4 x5 G10 G11 (k0_t1_loop i).trips).1 n

/-- What the loops carry to the diagonal tile. -/
abbrev accD : Acc := (st2 c i arg3 harg3 arg4 harg4 arg5 harg5 arg6 harg6 arg7 harg7 arg8 harg8 arg9 harg9 arg10 harg10 arg11 harg11 x0 x1 x2 x4 x5 G10 G11 (k0_t2_loop i).trips).1

/-- The stores of the loops, the keys' gradient. -/
abbrev listK : List (View.Piece (Elt Ideal) S1x2048x128 .f32) := (st2 c i arg3 harg3 arg4 harg4 arg5 harg5 arg6 harg6 arg7 harg7 arg8 harg8 arg9 harg9 arg10 harg10 arg11 harg11 x0 x1 x2 x4 x5 G10 G11 (k0_t2_loop i).trips).2.1 ++ (st1 c i arg3 harg3 arg4 harg4 arg5 harg5 arg6 harg6 arg7 harg7 arg8 harg8 arg9 harg9 arg10 harg10 arg11 harg11 x0 x1 x2 x4 x5 G10 G11 (k0_t1_loop i).trips).2.1

/-- The stores of the loops, the values' gradient. -/
abbrev listV : List (View.Piece (Elt Ideal) S1x2048x128 .f32) := (st2 c i arg3 harg3 arg4 harg4 arg5 harg5 arg6 harg6 arg7 harg7 arg8 harg8 arg9 harg9 arg10 harg10 arg11 harg11 x0 x1 x2 x4 x5 G10 G11 (k0_t2_loop i).trips).2.2 ++ (st1 c i arg3 harg3 arg4 harg4 arg5 harg5 arg6 harg6 arg7 harg7 arg8 harg8 arg9 harg9 arg10 harg10 arg11 harg11 x0 x1 x2 x4 x5 G10 G11 (k0_t1_loop i).trips).2.2

/-- The diagonal tile's rectangle. -/
abbrev diagRect : Rect S1x2048x128 := Rect.unit (s := S1x2048x128) (k0_off3 i) ![1, 512, 128] (k0_off3_inb i)

/-- The diagonal tile's keys. -/
abbrev ktD : FVec Ideal S512x128 .bf16 := k0_pay2 (F := Ideal) (View.readAt (Elt Ideal) arg4.view (diagRect i).toLoadRect (harg4.unread x1))

/-- The diagonal tile's values. -/
abbrev vtD : FVec Ideal S512x128 .bf16 := k0_pay3 (F := Ideal) (View.readAt (Elt Ideal) arg5.view (diagRect i).toLoadRect (harg5.unread x2))

/-- The carried sums after the diagonal tile. -/
abbrev accE : Acc := stepAcc true (vq0 (lq arg3 harg3 x0)) (vq1 (lq arg3 harg3 x0)) (vo0 (lo arg8 harg8 x5)) (vo1 (lo arg8 harg8 x5)) (vs0 (ls arg7 harg7 x4)) (vs1 (ls arg7 harg7 x4))
  (ktD i arg4 harg4 x1) (vtD i arg5 harg5 x2) (accD c i arg3 harg3 arg4 harg4 arg5 harg5 arg6 harg6 arg7 harg7 arg8 harg8 arg9 harg9 arg10 harg10 arg11 harg11 x0 x1 x2 x4 x5 G10 G11)

/-- The queries' gradient's block. -/
abbrev blockQ : FVec Ideal S1x512x128 .bf16 :=
  k0_pay1 (F := Ideal) (mulf (accE c i arg3 harg3 arg4 harg4 arg5 harg5 arg6 harg6 arg7 harg7 arg8 harg8 arg9 harg9 arg10 harg10 arg11 harg11 x0 x1 x2 x4 x5 G10 G11).1 (broadcast S512x128 (Scalar.ofBits .f32 0x3E000000#32)))
    (mulf (accE c i arg3 harg3 arg4 harg4 arg5 harg5 arg6 harg6 arg7 harg7 arg8 harg8 arg9 harg9 arg10 harg10 arg11 harg11 x0 x1 x2 x4 x5 G10 G11).2.1 (broadcast S512x128 (Scalar.ofBits .f32 0x3E000000#32))) (k0_pay120 k0_pay55)

/-- The keys' gradient after the diagonal tile. -/
abbrev readK : FVec Ideal S1x2048x128 .f32 :=
  arg10.view.read (Elt Ideal) (arg10.view.writes (Elt Ideal) G10
    (⟨diagRect i, stepK true (vq0 (lq arg3 harg3 x0)) (vq1 (lq arg3 harg3 x0)) (vo0 (lo arg8 harg8 x5)) (vo1 (lo arg8 harg8 x5)) (vs0 (ls arg7 harg7 x4)) (vs1 (ls arg7 harg7 x4))
      (ktD i arg4 harg4 x1) (vtD i arg5 harg5 x2) (accD c i arg3 harg3 arg4 harg4 arg5 harg5 arg6 harg6 arg7 harg7 arg8 harg8 arg9 harg9 arg10 harg10 arg11 harg11 x0 x1 x2 x4 x5 G10 G11)
      (View.readAt (Elt Ideal) arg10.view (diagRect i).toLoadRect (arg10.view.writes (Elt Ideal) G10 (listK c i arg3 harg3 arg4 harg4 arg5 harg5 arg6 harg6 arg7 harg7 arg8 harg8 arg9 harg9 arg10 harg10 arg11 harg11 x0 x1 x2 x4 x5 G10 G11)))⟩ :: listK c i arg3 harg3 arg4 harg4 arg5 harg5 arg6 harg6 arg7 harg7 arg8 harg8 arg9 harg9 arg10 harg10 arg11 harg11 x0 x1 x2 x4 x5 G10 G11))

/-- The values' gradient after the diagonal tile. -/
abbrev readV : FVec Ideal S1x2048x128 .f32 :=
  arg11.view.read (Elt Ideal) (arg11.view.writes (Elt Ideal) G11
    (⟨diagRect i, stepV true (vq0 (lq arg3 harg3 x0)) (vq1 (lq arg3 harg3 x0)) (vo0 (lo arg8 harg8 x5)) (vo1 (lo arg8 harg8 x5)) (vs0 (ls arg7 harg7 x4)) (vs1 (ls arg7 harg7 x4))
      (ktD i arg4 harg4 x1) (accD c i arg3 harg3 arg4 harg4 arg5 harg5 arg6 harg6 arg7 harg7 arg8 harg8 arg9 harg9 arg10 harg10 arg11 harg11 x0 x1 x2 x4 x5 G10 G11)
      (View.readAt (Elt Ideal) arg11.view (diagRect i).toLoadRect (arg11.view.writes (Elt Ideal) G11 (listV c i arg3 harg3 arg4 harg4 arg5 harg5 arg6 harg6 arg7 harg7 arg8 harg8 arg9 harg9 arg10 harg10 arg11 harg11 x0 x1 x2 x4 x5 G10 G11)))⟩ :: listV c i arg3 harg3 arg4 harg4 arg5 harg5 arg6 harg6 arg7 harg7 arg8 harg8 arg9 harg9 arg10 harg10 arg11 harg11 x0 x1 x2 x4 x5 G10 G11))

end

set_option maxHeartbeats 4000000 in
theorem out0_B_7_eq  (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x1x512x128 .f32) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x2048x128 .f32) (harg10 : arg10.IsWhole) (arg11 : Memref sig .tc .vmem S1x2048x128 .f32) (harg11 : arg11.IsWhole) (hc0 : ¬cond0_0 i)     (x0 : FVec Ideal S1x512x128 .bf16) (x1 : FVec Ideal S1x2048x128 .bf16) (x2 : FVec Ideal S1x2048x128 .bf16) (x3 : FVec Ideal S1x512x128 .f32) (x4 : FVec Ideal S1x1x512x128 .f32) (x5 : FVec Ideal S1x512x128 .bf16) (xo7 : FVec Ideal S1x2048x128 .f32) (xo8 : FVec Ideal S1x2048x128 .f32) :
    out0_B_7 (F := Ideal) c i arg3 harg3 arg4 harg4 arg5 harg5 arg6 harg6 arg7 harg7 arg8 harg8 arg9 harg9 arg10 harg10 arg11 harg11 hc0 x0 x1 x2 x3 x4 x5 xo7 xo8 = readK c i arg3 harg3 arg4 harg4 arg5 harg5 arg6 harg6 arg7 harg7 arg8 harg8 arg9 harg9 arg10 harg10 arg11 harg11 x0 x1 x2 x4 x5 (harg10.unread xo7) (harg11.unread xo8) := by
  unfold out0_B_7
  unfold kernelRun0_B
  dsimp only
  rfl

set_option maxHeartbeats 4000000 in
theorem out0_B_8_eq  (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x1x512x128 .f32) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x2048x128 .f32) (harg10 : arg10.IsWhole) (arg11 : Memref sig .tc .vmem S1x2048x128 .f32) (harg11 : arg11.IsWhole) (hc0 : ¬cond0_0 i)     (x0 : FVec Ideal S1x512x128 .bf16) (x1 : FVec Ideal S1x2048x128 .bf16) (x2 : FVec Ideal S1x2048x128 .bf16) (x3 : FVec Ideal S1x512x128 .f32) (x4 : FVec Ideal S1x1x512x128 .f32) (x5 : FVec Ideal S1x512x128 .bf16) (xo7 : FVec Ideal S1x2048x128 .f32) (xo8 : FVec Ideal S1x2048x128 .f32) :
    out0_B_8 (F := Ideal) c i arg3 harg3 arg4 harg4 arg5 harg5 arg6 harg6 arg7 harg7 arg8 harg8 arg9 harg9 arg10 harg10 arg11 harg11 hc0 x0 x1 x2 x3 x4 x5 xo7 xo8 = readV c i arg3 harg3 arg4 harg4 arg5 harg5 arg6 harg6 arg7 harg7 arg8 harg8 arg9 harg9 arg10 harg10 arg11 harg11 x0 x1 x2 x4 x5 (harg10.unread xo7) (harg11.unread xo8) := by
  unfold out0_B_8
  unfold kernelRun0_B
  dsimp only
  rfl

set_option maxHeartbeats 4000000 in
theorem out0_B_6_eq  (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x1x512x128 .f32) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x2048x128 .f32) (harg10 : arg10.IsWhole) (arg11 : Memref sig .tc .vmem S1x2048x128 .f32) (harg11 : arg11.IsWhole) (hc0 : ¬cond0_0 i)     (x0 : FVec Ideal S1x512x128 .bf16) (x1 : FVec Ideal S1x2048x128 .bf16) (x2 : FVec Ideal S1x2048x128 .bf16) (x3 : FVec Ideal S1x512x128 .f32) (x4 : FVec Ideal S1x1x512x128 .f32) (x5 : FVec Ideal S1x512x128 .bf16) (xo7 : FVec Ideal S1x2048x128 .f32) (xo8 : FVec Ideal S1x2048x128 .f32) :
    out0_B_6 (F := Ideal) c i arg3 harg3 arg4 harg4 arg5 harg5 arg6 harg6 arg7 harg7 arg8 harg8 arg9 harg9 arg10 harg10 arg11 harg11 hc0 x0 x1 x2 x3 x4 x5 xo7 xo8 = VO0_6.read (Elt Ideal) (VO0_6.writes (Elt Ideal) VO0_6.junk [⟨Rect.unit (s := S1x512x128) ![0, 0, 0] S1x512x128.size inb_S1x512x128_S1x512x128_0_0_0, blockQ c i arg3 harg3 arg4 harg4 arg5 harg5 arg6 harg6 arg7 harg7 arg8 harg8 arg9 harg9 arg10 harg10 arg11 harg11 x0 x1 x2 x4 x5 (harg10.unread xo7) (harg11.unread xo8)⟩]) := by
  unfold out0_B_6
  unfold kernelRun0_B
  dsimp only
  rfl

end Cert.KernelIdeal.Value

end
-- ==== Proof.PointA.lean ====
/- What the first grid point of a run of four leaves in its three output blocks, in terms of the tile steps. -/
module

public import proofs.«01_k».proof.Proof.Point

@[expose] public section

set_option maxRecDepth 16384

noncomputable section

open Idealize.ShloMosaic Idealize.ShloMosaic.TcCoe Idealize.SL.Sem

namespace Cert.KernelIdeal.Value

open Cert.KernelIdeal Cert.KernelIdeal.Gen Cert.SB

section

variable  (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x1x512x128 .f32) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x2048x128 .f32) (harg10 : arg10.IsWhole) (arg11 : Memref sig .tc .vmem S1x2048x128 .f32) (harg11 : arg11.IsWhole)
  (x0 : FVec Ideal S1x512x128 .bf16) (x1 : FVec Ideal S1x2048x128 .bf16) (x2 : FVec Ideal S1x2048x128 .bf16) (x4 : FVec Ideal S1x1x512x128 .f32) (x5 : FVec Ideal S1x512x128 .bf16)

/-- The keys' gradient set to zero. -/
abbrev zeroK : List (View.Piece (Elt Ideal) S1x2048x128 .f32) := [⟨Rect.unit (s := S1x2048x128) ![0, 0, 0] S1x2048x128.size inb_S1x2048x128_S1x2048x128_0_0_0, k0_pay50 (F := Ideal)⟩]

/-- The values' gradient set to zero. -/
abbrev zeroV : List (View.Piece (Elt Ideal) S1x2048x128 .f32) := [⟨Rect.unit (s := S1x2048x128) ![0, 0, 0] S1x2048x128.size inb_S1x2048x128_S1x2048x128_0_0_0, k0_pay51 (F := Ideal)⟩]

/-- The first loop's last state, from zeroed gradients. -/
abbrev st1A : Acc × List (View.Piece (Elt Ideal) S1x2048x128 .f32) × List (View.Piece (Elt Ideal) S1x2048x128 .f32) := st1 c i arg3 harg3 arg4 harg4 arg5 harg5 arg6 harg6 arg7 harg7 arg8 harg8 arg9 harg9 arg10 harg10 arg11 harg11 x0 x1 x2 x4 x5 (arg10.view.writes (Elt Ideal) arg10.view.junk zeroK) (arg11.view.writes (Elt Ideal) arg11.view.junk zeroV) (k0_t1_loop i).trips

/-- The second loop's last state, from zeroed gradients. -/
abbrev st2A : Acc × List (View.Piece (Elt Ideal) S1x2048x128 .f32) × List (View.Piece (Elt Ideal) S1x2048x128 .f32) :=
  st_k0_t2 (F := Ideal) Variants.none c none i arg3 harg3 arg4 harg4 arg5 harg5 arg6 harg6 arg7 harg7 arg8 harg8 arg9 harg9 arg10 harg10 arg11 harg11 (BitVec.ofNat 32 (i 2).val)
    (vq0 (lq arg3 harg3 x0)) (vq1 (lq arg3 harg3 x0)) (vo0 (lo arg8 harg8 x5)) (vo1 (lo arg8 harg8 x5)) (vs0 (ls arg7 harg7 x4)) (vs1 (ls arg7 harg7 x4))
    (iota .tc S512x512 32 [0] iota_S512x512_d0_w32) (iota .tc S512x512 32 [1] iota_S512x512_d1_w32) (k0_pay66 (F := Ideal)) (k0_pay67 (F := Ideal))
    (k0_pay68 (F := Ideal)) (k0_pay69 (F := Ideal)) (k0_pay70 (F := Ideal)) (k0_pay71 (F := Ideal)) (0#32) (Scalar.muli (Scalar.divsi (Scalar.subi (BitVec.ofNat 32 (i 2).val) 0#32) 1#32) 1#32) (Scalar.addi 0#32 (Scalar.muli (Scalar.divsi (Scalar.subi (BitVec.ofNat 32 (i 2).val) 0#32) 1#32) 1#32))
    (harg4.unread x1) (harg5.unread x2) (arg10.view.writes (Elt Ideal) arg10.view.junk ((st1A c i arg3 harg3 arg4 harg4 arg5 harg5 arg6 harg6 arg7 harg7 arg8 harg8 arg9 harg9 arg10 harg10 arg11 harg11 x0 x1 x2 x4 x5).2.1 ++ zeroK)) (arg11.view.writes (Elt Ideal) arg11.view.junk ((st1A c i arg3 harg3 arg4 harg4 arg5 harg5 arg6 harg6 arg7 harg7 arg8 harg8 arg9 harg9 arg10 harg10 arg11 harg11 x0 x1 x2 x4 x5).2.2 ++ zeroV)) (st1A c i arg3 harg3 arg4 harg4 arg5 harg5 arg6 harg6 arg7 harg7 arg8 harg8 arg9 harg9 arg10 harg10 arg11 harg11 x0 x1 x2 x4 x5).1 (k0_t2_loop i).trips

/-- All stores before the diagonal tile, the keys' gradient. -/
abbrev listKA : List (View.Piece (Elt Ideal) S1x2048x128 .f32) := (st2A c i arg3 harg3 arg4 harg4 arg5 harg5 arg6 harg6 arg7 harg7 arg8 harg8 arg9 harg9 arg10 harg10 arg11 harg11 x0 x1 x2 x4 x5).2.1 ++ ((st1A c i arg3 harg3 arg4 harg4 arg5 harg5 arg6 harg6 arg7 harg7 arg8 harg8 arg9 harg9 arg10 harg10 arg11 harg11 x0 x1 x2 x4 x5).2.1 ++ zeroK)

/-- All stores before the diagonal tile, the values' gradient. -/
abbrev listVA : List (View.Piece (Elt Ideal) S1x2048x128 .f32) := (st2A c i arg3 harg3 arg4 harg4 arg5 harg5 arg6 harg6 arg7 harg7 arg8 harg8 arg9 harg9 arg10 harg10 arg11 harg11 x0 x1 x2 x4 x5).2.2 ++ ((st1A c i arg3 harg3 arg4 harg4 arg5 harg5 arg6 harg6 arg7 harg7 arg8 harg8 arg9 harg9 arg10 harg10 arg11 harg11 x0 x1 x2 x4 x5).2.2 ++ zeroV)

/-- The carried sums after the diagonal tile. -/
abbrev accEA : Acc := stepAcc true (vq0 (lq arg3 harg3 x0)) (vq1 (lq arg3 harg3 x0)) (vo0 (lo arg8 harg8 x5)) (vo1 (lo arg8 harg8 x5)) (vs0 (ls arg7 harg7 x4)) (vs1 (ls arg7 harg7 x4))
  (ktD i arg4 harg4 x1) (vtD i arg5 harg5 x2) (st2A c i arg3 harg3 arg4 harg4 arg5 harg5 arg6 harg6 arg7 harg7 arg8 harg8 arg9 harg9 arg10 harg10 arg11 harg11 x0 x1 x2 x4 x5).1

/-- The queries' gradient's block. -/
abbrev blockQA : FVec Ideal S1x512x128 .bf16 :=
  k0_pay1 (F := Ideal) (mulf (accEA c i arg3 harg3 arg4 harg4 arg5 harg5 arg6 harg6 arg7 harg7 arg8 harg8 arg9 harg9 arg10 harg10 arg11 harg11 x0 x1 x2 x4 x5).1 (broadcast S512x128 (Scalar.ofBits .f32 0x3E000000#32)))
    (mulf (accEA c i arg3 harg3 arg4 harg4 arg5 harg5 arg6 harg6 arg7 harg7 arg8 harg8 arg9 harg9 arg10 harg10 arg11 harg11 x0 x1 x2 x4 x5).2.1 (broadcast S512x128 (Scalar.ofBits .f32 0x3E000000#32))) (k0_pay120 k0_pay55)

/-- The stores of the keys' gradient. -/
abbrev piecesKA : List (View.Piece (Elt Ideal) S1x2048x128 .f32) :=
    ⟨diagRect i, stepK true (vq0 (lq arg3 harg3 x0)) (vq1 (lq arg3 harg3 x0)) (vo0 (lo arg8 harg8 x5)) (vo1 (lo arg8 harg8 x5)) (vs0 (ls arg7 harg7 x4)) (vs1 (ls arg7 harg7 x4))
      (ktD i arg4 harg4 x1) (vtD i arg5 harg5 x2) (st2A c i arg3 harg3 arg4 harg4 arg5 harg5 arg6 harg6 arg7 harg7 arg8 harg8 arg9 harg9 arg10 harg10 arg11 harg11 x0 x1 x2 x4 x5).1
      (View.readAt (Elt Ideal) arg10.view (diagRect i).toLoadRect (arg10.view.writes (Elt Ideal) arg10.view.junk (listKA c i arg3 harg3 arg4 harg4 arg5 harg5 arg6 harg6 arg7 harg7 arg8 harg8 arg9 harg9 arg10 harg10 arg11 harg11 x0 x1 x2 x4 x5)))⟩ :: listKA c i arg3 harg3 arg4 harg4 arg5 harg5 arg6 harg6 arg7 harg7 arg8 harg8 arg9 harg9 arg10 harg10 arg11 harg11 x0 x1 x2 x4 x5

/-- The stores of the values' gradient. -/
abbrev piecesVA : List (View.Piece (Elt Ideal) S1x2048x128 .f32) :=
    ⟨diagRect i, stepV true (vq0 (lq arg3 harg3 x0)) (vq1 (lq arg3 harg3 x0)) (vo0 (lo arg8 harg8 x5)) (vo1 (lo arg8 harg8 x5)) (vs0 (ls arg7 harg7 x4)) (vs1 (ls arg7 harg7 x4))
      (ktD i arg4 harg4 x1) (st2A c i arg3 harg3 arg4 harg4 arg5 harg5 arg6 harg6 arg7 harg7 arg8 harg8 arg9 harg9 arg10 harg10 arg11 harg11 x0 x1 x2 x4 x5).1
      (View.readAt (Elt Ideal) arg11.view (diagRect i).toLoadRect (arg11.view.writes (Elt Ideal) arg11.view.junk (listVA c i arg3 harg3 arg4 harg4 arg5 harg5 arg6 harg6 arg7 harg7 arg8 harg8 arg9 harg9 arg10 harg10 arg11 harg11 x0 x1 x2 x4 x5)))⟩ :: listVA c i arg3 harg3 arg4 harg4 arg5 harg5 arg6 harg6 arg7 harg7 arg8 harg8 arg9 harg9 arg10 harg10 arg11 harg11 x0 x1 x2 x4 x5

end

set_option maxHeartbeats 4000000 in
theorem out0_A_6_eq  (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x1x512x128 .f32) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x2048x128 .f32) (harg10 : arg10.IsWhole) (arg11 : Memref sig .tc .vmem S1x2048x128 .f32) (harg11 : arg11.IsWhole) (hc0 : cond0_0 i)     (x0 : FVec Ideal S1x512x128 .bf16) (x1 : FVec Ideal S1x2048x128 .bf16) (x2 : FVec Ideal S1x2048x128 .bf16) (x3 : FVec Ideal S1x512x128 .f32) (x4 : FVec Ideal S1x1x512x128 .f32) (x5 : FVec Ideal S1x512x128 .bf16) :
    out0_A_6 (F := Ideal) c i arg3 harg3 arg4 harg4 arg5 harg5 arg6 harg6 arg7 harg7 arg8 harg8 arg9 harg9 arg10 harg10 arg11 harg11 hc0 x0 x1 x2 x3 x4 x5 = VO0_6.read (Elt Ideal) (VO0_6.writes (Elt Ideal) VO0_6.junk [⟨Rect.unit (s := S1x512x128) ![0, 0, 0] S1x512x128.size inb_S1x512x128_S1x512x128_0_0_0, blockQA c i arg3 harg3 arg4 harg4 arg5 harg5 arg6 harg6 arg7 harg7 arg8 harg8 arg9 harg9 arg10 harg10 arg11 harg11 x0 x1 x2 x4 x5⟩]) := by
  unfold out0_A_6
  unfold kernelRun0_A
  dsimp only
  rfl

set_option maxHeartbeats 4000000 in
theorem out0_A_7_eq  (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x1x512x128 .f32) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x2048x128 .f32) (harg10 : arg10.IsWhole) (arg11 : Memref sig .tc .vmem S1x2048x128 .f32) (harg11 : arg11.IsWhole) (hc0 : cond0_0 i)     (x0 : FVec Ideal S1x512x128 .bf16) (x1 : FVec Ideal S1x2048x128 .bf16) (x2 : FVec Ideal S1x2048x128 .bf16) (x3 : FVec Ideal S1x512x128 .f32) (x4 : FVec Ideal S1x1x512x128 .f32) (x5 : FVec Ideal S1x512x128 .bf16) :
    out0_A_7 (F := Ideal) c i arg3 harg3 arg4 harg4 arg5 harg5 arg6 harg6 arg7 harg7 arg8 harg8 arg9 harg9 arg10 harg10 arg11 harg11 hc0 x0 x1 x2 x3 x4 x5 = VO0_7.read (Elt Ideal) (VO0_7.writes (Elt Ideal) VO0_7.junk (piecesKA c i arg3 harg3 arg4 harg4 arg5 harg5 arg6 harg6 arg7 harg7 arg8 harg8 arg9 harg9 arg10 harg10 arg11 harg11 x0 x1 x2 x4 x5)) := by
  unfold out0_A_7
  unfold kernelRun0_A
  dsimp only
  rfl

set_option maxHeartbeats 4000000 in
theorem out0_A_8_eq  (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x1x512x128 .f32) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x2048x128 .f32) (harg10 : arg10.IsWhole) (arg11 : Memref sig .tc .vmem S1x2048x128 .f32) (harg11 : arg11.IsWhole) (hc0 : cond0_0 i)     (x0 : FVec Ideal S1x512x128 .bf16) (x1 : FVec Ideal S1x2048x128 .bf16) (x2 : FVec Ideal S1x2048x128 .bf16) (x3 : FVec Ideal S1x512x128 .f32) (x4 : FVec Ideal S1x1x512x128 .f32) (x5 : FVec Ideal S1x512x128 .bf16) :
    out0_A_8 (F := Ideal) c i arg3 harg3 arg4 harg4 arg5 harg5 arg6 harg6 arg7 harg7 arg8 harg8 arg9 harg9 arg10 harg10 arg11 harg11 hc0 x0 x1 x2 x3 x4 x5 = VO0_8.read (Elt Ideal) (VO0_8.writes (Elt Ideal) VO0_8.junk (piecesVA c i arg3 harg3 arg4 harg4 arg5 harg5 arg6 harg6 arg7 harg7 arg8 harg8 arg9 harg9 arg10 harg10 arg11 harg11 x0 x1 x2 x4 x5)) := by
  unfold out0_A_8
  unfold kernelRun0_A
  dsimp only
  rfl

end Cert.KernelIdeal.Value

end
-- ==== Proof.Out.lean ====
/- A grid point's three output blocks in the model's terms. -/
module

public import proofs.«01_k».proof.Proof.PointA

@[expose] public section

set_option maxRecDepth 16384

noncomputable section

open Idealize.ShloMosaic Idealize.ShloMosaic.TcCoe Idealize.SL.Sem

namespace Cert.KernelIdeal.Value

open Cert.KernelIdeal Cert.KernelIdeal.Gen Cert.SB

/-- The second loop never turns. -/
theorem trips2_eq (i : grid0.Coords) : (k0_t2_loop i).trips = 0 := by
  have h : ∀ a : Fin 4, Scf.trips (Scalar.addi (0#32) (Scalar.muli (Scalar.divsi (Scalar.subi (BitVec.ofNat 32 a.val) 0#32) 1#32) 1#32))
    (Scalar.addi (0#32) (Scalar.subi (BitVec.ofNat 32 a.val) 0#32)) 1#32 = 0 := by decide
  exact h (i 2)

/-- What a point's input blocks hold: query tile `i` of two heads, their keys and values whole. -/
structure BlkIn (L : Lanes) (i : ℕ) (x0 : FVec Ideal S1x512x128 .bf16) (x1 : FVec Ideal S1x2048x128 .bf16) (x2 : FVec Ideal S1x2048x128 .bf16)
    (x4 : FVec Ideal S1x1x512x128 .f32) (x5 : FVec Ideal S1x512x128 .bf16) : Prop where
  row : i < 4
  hq : ∀ (r : Fin 512) (l : Fin 128), x0 (ix3 0 r l) = ((L.q (512 * i + r) l : ℝ) : EReal)
  hk : ∀ (s : Fin 2048) (l : Fin 128), x1 (ix3 0 s l) = ((L.k s l : ℝ) : EReal)
  hv : ∀ (s : Fin 2048) (l : Fin 128), x2 (ix3 0 s l) = ((L.v s l : ℝ) : EReal)
  ho : ∀ (r : Fin 512) (l : Fin 128), x5 (ix3 0 r l) = ((L.o (512 * i + r) l : ℝ) : EReal)
  hs0 : ∀ r : Fin 512, x4 (ix4 0 0 r 0) = ((∑ s ∈ Finset.range 2048, L.lm 0 (512 * i + r) s : ℝ) : EReal)
  hs1 : ∀ r : Fin 512, x4 (ix4 0 0 r 64) = ((∑ s ∈ Finset.range 2048, L.lm 1 (512 * i + r) s : ℝ) : EReal)

theorem ptIn_of {L : Lanes} {i : ℕ} {x0 x1 x2 x4 x5} (h : BlkIn L i x0 x1 x2 x4 x5) :
    PtIn L i (vq0 x0) (vq1 x0) (vo0 x5) (vo1 x5) (vs0 x4) (vs1 x4) :=
  ⟨h.row, fun r l => vq0_at x0 (fun r l => L.q (512 * i + r) l) r l (h.hq r l), fun r l => vq1_at x0 (fun r l => L.q (512 * i + r) l) r l (h.hq r l),
    fun r l => vo0_at x5 (fun r l => L.o (512 * i + r) l) r l (h.ho r l), fun r l => vo1_at x5 (fun r l => L.o (512 * i + r) l) r l (h.ho r l),
    fun r => (vs0_at x4 r).trans (h.hs0 r), fun r => (vs1_at x4 r).trans (h.hs1 r)⟩

/-- The carried sums start at zero. -/
theorem acc_zero (L : Lanes) (i : ℕ) :
    AccAt L i 0 (k0_pay68 (F := Ideal), k0_pay69 (F := Ideal), k0_pay70 (F := Ideal), k0_pay71 (F := Ideal), k0_pay70 (F := Ideal), k0_pay71 (F := Ideal)) := by
  have e68 : ∀ (r : Fin 512) (l : Fin 128), k0_pay68 (F := Ideal) (ix2 r l) = 0 := fun r l => by pointwise [k0_pay68]
  have e69 : ∀ (r : Fin 512) (l : Fin 128), k0_pay69 (F := Ideal) (ix2 r l) = 0 := fun r l => by pointwise [k0_pay69]
  have e70 : ∀ (r : Fin 512), k0_pay70 (F := Ideal) (ix2 r 0) = 0 := fun r => by pointwise [k0_pay70]
  have e71 : ∀ (r : Fin 512), k0_pay71 (F := Ideal) (ix2 r 0) = 0 := fun r => by pointwise [k0_pay71]
  refine ⟨fun r l => (e68 r l).trans ?_, fun r l => (e69 r l).trans ?_, fun r => (e70 r).trans ?_, fun r => (e71 r).trans ?_, fun r => (e70 r).trans ?_, fun r => (e71 r).trans ?_⟩
    <;> simp

/-- The queries' gradient's block, at an index: each lane from its own head, scaled. -/
theorem joinQ_at (a b : FVec Ideal S512x128 .f32) (r : Fin 512) (l : Fin 128) (α β : ℝ) (ha : a (ix2 r l) = (α : EReal)) (hb : b (ix2 r l) = (β : EReal)) :
    k0_pay1 (F := Ideal) (mulf a (broadcast S512x128 (Scalar.ofBits .f32 0x3E000000#32))) (mulf b (broadcast S512x128 (Scalar.ofBits .f32 0x3E000000#32)))
      (k0_pay120 k0_pay55) (ix3 0 r l) = (((if l.val < 64 then α else β) * (1 / 8) : ℝ) : EReal) := by
  pointwise [k0_pay1, k0_pay120, k0_pay55]
  word_cmp
  rw [ha, hb, eighth32]
  by_cases h : l.val < 64
  · rw [if_pos h, if_pos (by omega), ← EReal.coe_mul]
  · rw [if_neg h, if_neg (by omega), ← EReal.coe_mul]

section

variable {L : Lanes} {i : grid0.Coords} {q0 q1 o0 o1 : FVec Ideal S512x128 .bf16} {s0 s1 : FVec Ideal S512x1 .f32} {kt vt : FVec Ideal S512x128 .bf16} {acc : Acc}
  (hp : PtIn L (i 2).val q0 q1 o0 o1 s0 s1) (hkv : KvIn L (i 2).val kt vt) (ha : AccAt L (i 2).val (i 2).val acc)

include hp hkv ha

/-- The keys' gradient after the diagonal tile. -/
theorem diagK {κ : Kind} {sp : Space} (v : View sig κ sp S1x2048x128 .f32) (f : v.ty.Contents (Elt Ideal)) (Ls : List (View.Piece (Elt Ideal) S1x2048x128 .f32))
    (old : ℕ → ℕ → ℝ) (h : Held (v.read (Elt Ideal) (v.writes (Elt Ideal) f Ls)) old (L.partK (i 2).val) (i 2).val) :
    Held (v.read (Elt Ideal) (v.writes (Elt Ideal) f (⟨diagRect i, stepK true q0 q1 o0 o1 s0 s1 kt vt acc (View.readAt (Elt Ideal) v (diagRect i).toLoadRect (v.writes (Elt Ideal) f Ls))⟩ :: Ls)))
      old (L.partK (i 2).val) ((i 2).val + 1) :=
  held_next v f hp.row _ (off3_eq i) _ _ _ _ h fun c l =>
    stepK_at hp hkv ha true (fun h => absurd h (by decide)) (fun _ => rfl) _ c l _ (held_load v _ hp.row _ (off3_eq i) _ _ h c l)

/-- The values' gradient after the diagonal tile. -/
theorem diagV {κ : Kind} {sp : Space} (v : View sig κ sp S1x2048x128 .f32) (f : v.ty.Contents (Elt Ideal)) (Ls : List (View.Piece (Elt Ideal) S1x2048x128 .f32))
    (old : ℕ → ℕ → ℝ) (h : Held (v.read (Elt Ideal) (v.writes (Elt Ideal) f Ls)) old (L.partV (i 2).val) (i 2).val) :
    Held (v.read (Elt Ideal) (v.writes (Elt Ideal) f (⟨diagRect i, stepV true q0 q1 o0 o1 s0 s1 kt acc (View.readAt (Elt Ideal) v (diagRect i).toLoadRect (v.writes (Elt Ideal) f Ls))⟩ :: Ls)))
      old (L.partV (i 2).val) ((i 2).val + 1) :=
  held_next v f hp.row _ (off3_eq i) _ _ _ _ h fun c l =>
    stepV_at hp hkv ha true (fun h => absurd h (by decide)) (fun _ => rfl) _ c l _ (held_load v _ hp.row _ (off3_eq i) _ _ h c l)

/-- The queries' gradient's block after the diagonal tile. -/
theorem diagQ (r : Fin 512) (l : Fin 128) :
    k0_pay1 (F := Ideal) (mulf (stepAcc true q0 q1 o0 o1 s0 s1 kt vt acc).1 (broadcast S512x128 (Scalar.ofBits .f32 0x3E000000#32)))
      (mulf (stepAcc true q0 q1 o0 o1 s0 s1 kt vt acc).2.1 (broadcast S512x128 (Scalar.ofBits .f32 0x3E000000#32))) (k0_pay120 k0_pay55) (ix3 0 r l)
      = (((if l.val < 64 then ∑ s ∈ Finset.range (512 * ((i 2).val + 1)), L.dz 0 (512 * (i 2).val + r) s * L.k s l
          else ∑ s ∈ Finset.range (512 * ((i 2).val + 1)), L.dz 1 (512 * (i 2).val + r) s * L.k s l) * (1 / 8) : ℝ) : EReal) :=
  have e := stepAcc_at hp hkv ha true (fun h => absurd h (by decide)) (fun _ => rfl)
  joinQ_at _ _ r l _ _ (e.dq0 r l) (e.dq1 r l)

end

section

variable  (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x512x128 .f32) (harg6 : arg6.IsWhole) (arg7 : Memref sig .tc .vmem S1x1x512x128 .f32) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x2048x128 .f32) (harg10 : arg10.IsWhole) (arg11 : Memref sig .tc .vmem S1x2048x128 .f32) (harg11 : arg11.IsWhole)
  (x0 : FVec Ideal S1x512x128 .bf16) (x1 : FVec Ideal S1x2048x128 .bf16) (x2 : FVec Ideal S1x2048x128 .bf16) (x4 : FVec Ideal S1x1x512x128 .f32) (x5 : FVec Ideal S1x512x128 .bf16)
  {L : Lanes} (hb : BlkIn L (i 2).val x0 x1 x2 x4 x5)

include hb

theorem loads_in : PtIn L (i 2).val (vq0 (lq arg3 harg3 x0)) (vq1 (lq arg3 harg3 x0)) (vo0 (lo arg8 harg8 x5)) (vo1 (lo arg8 harg8 x5)) (vs0 (ls arg7 harg7 x4)) (vs1 (ls arg7 harg7 x4)) := by
  have e0 : lq arg3 harg3 x0 = x0 := (View.readAt_full _ _ _).trans (harg3.read_unread (Val := Elt Ideal) x0)
  have e5 : lo arg8 harg8 x5 = x5 := (View.readAt_full _ _ _).trans (harg8.read_unread (Val := Elt Ideal) x5)
  have e4 : ls arg7 harg7 x4 = x4 := (View.readAt_full _ _ _).trans (harg7.read_unread (Val := Elt Ideal) x4)
  rw [e0, e5, e4]
  exact ptIn_of hb

theorem tiles_in : KvIn L (i 2).val (ktD i arg4 harg4 x1) (vtD i arg5 harg5 x2) :=
  kv_load arg4.view (harg4.unread x1) arg5.view (harg5.unread x2) hb.row (k0_off3_inb i) (off3_eq i) L
    (fun s l => by rw [harg4.read_unread]; exact hb.hk s l) (fun s l => by rw [harg5.read_unread]; exact hb.hv s l)

section

variable (G10 : BufTy.Contents (Elt Ideal) arg10.view.ty) (G11 : BufTy.Contents (Elt Ideal) arg11.view.ty) {old10 old11 : ℕ → ℕ → ℝ}
  (h10 : Held (arg10.view.read (Elt Ideal) G10) old10 (L.partK (i 2).val) 0) (h11 : Held (arg11.view.read (Elt Ideal) G11) old11 (L.partV (i 2).val) 0)

include h10 h11

theorem st1_at :
    AccAt L (i 2).val (i 2).val (st1 c i arg3 harg3 arg4 harg4 arg5 harg5 arg6 harg6 arg7 harg7 arg8 harg8 arg9 harg9 arg10 harg10 arg11 harg11 x0 x1 x2 x4 x5 G10 G11 (k0_t1_loop i).trips).1
    ∧ Held (arg10.view.read (Elt Ideal) (arg10.view.writes (Elt Ideal) G10 (st1 c i arg3 harg3 arg4 harg4 arg5 harg5 arg6 harg6 arg7 harg7 arg8 harg8 arg9 harg9 arg10 harg10 arg11 harg11 x0 x1 x2 x4 x5 G10 G11 (k0_t1_loop i).trips).2.1)) old10 (L.partK (i 2).val) (i 2).val
    ∧ Held (arg11.view.read (Elt Ideal) (arg11.view.writes (Elt Ideal) G11 (st1 c i arg3 harg3 arg4 harg4 arg5 harg5 arg6 harg6 arg7 harg7 arg8 harg8 arg9 harg9 arg10 harg10 arg11 harg11 x0 x1 x2 x4 x5 G10 G11 (k0_t1_loop i).trips).2.2)) old11 (L.partV (i 2).val) (i 2).val := by
  rw [trips_eq]
  exact loop_at Variants.none c none i arg3 harg3 arg4 harg4 arg5 harg5 arg6 harg6 arg7 harg7 arg8 harg8 arg9 harg9 arg10 harg10 arg11 harg11 _ _ _ _ _ _ _ _ _ _ _ _ _ _ _ (harg4.unread x1) (harg5.unread x2) G10 G11 _ L
    (loads_in i arg3 harg3 arg7 harg7 arg8 harg8 x0 x1 x2 x4 x5 hb)
    (fun s l => by rw [harg4.read_unread]; exact hb.hk s l) (fun s l => by rw [harg5.read_unread]; exact hb.hv s l) (acc_zero L _) old10 old11 h10 h11 _ le_rfl

omit hb h10 h11 in
theorem st2_eq : st2 c i arg3 harg3 arg4 harg4 arg5 harg5 arg6 harg6 arg7 harg7 arg8 harg8 arg9 harg9 arg10 harg10 arg11 harg11 x0 x1 x2 x4 x5 G10 G11 (k0_t2_loop i).trips = ((st1 c i arg3 harg3 arg4 harg4 arg5 harg5 arg6 harg6 arg7 harg7 arg8 harg8 arg9 harg9 arg10 harg10 arg11 harg11 x0 x1 x2 x4 x5 G10 G11 (k0_t1_loop i).trips).1, [], []) := by
  rw [trips2_eq]; rfl

theorem readK_at : Held (readK c i arg3 harg3 arg4 harg4 arg5 harg5 arg6 harg6 arg7 harg7 arg8 harg8 arg9 harg9 arg10 harg10 arg11 harg11 x0 x1 x2 x4 x5 G10 G11) old10 (L.partK (i 2).val) ((i 2).val + 1) := by
  unfold readK listK accD
  rw [st2_eq c i arg3 harg3 arg4 harg4 arg5 harg5 arg6 harg6 arg7 harg7 arg8 harg8 arg9 harg9 arg10 harg10 arg11 harg11 x0 x1 x2 x4 x5 G10 G11]
  exact diagK (loads_in i arg3 harg3 arg7 harg7 arg8 harg8 x0 x1 x2 x4 x5 hb) (tiles_in i arg4 harg4 arg5 harg5 x0 x1 x2 x4 x5 hb)
    (st1_at c i arg3 harg3 arg4 harg4 arg5 harg5 arg6 harg6 arg7 harg7 arg8 harg8 arg9 harg9 arg10 harg10 arg11 harg11 x0 x1 x2 x4 x5 hb G10 G11 h10 h11).1 _ _ _ _ (st1_at c i arg3 harg3 arg4 harg4 arg5 harg5 arg6 harg6 arg7 harg7 arg8 harg8 arg9 harg9 arg10 harg10 arg11 harg11 x0 x1 x2 x4 x5 hb G10 G11 h10 h11).2.1

theorem readV_at : Held (readV c i arg3 harg3 arg4 harg4 arg5 harg5 arg6 harg6 arg7 harg7 arg8 harg8 arg9 harg9 arg10 harg10 arg11 harg11 x0 x1 x2 x4 x5 G10 G11) old11 (L.partV (i 2).val) ((i 2).val + 1) := by
  unfold readV listV accD
  rw [st2_eq c i arg3 harg3 arg4 harg4 arg5 harg5 arg6 harg6 arg7 harg7 arg8 harg8 arg9 harg9 arg10 harg10 arg11 harg11 x0 x1 x2 x4 x5 G10 G11]
  exact diagV (loads_in i arg3 harg3 arg7 harg7 arg8 harg8 x0 x1 x2 x4 x5 hb) (tiles_in i arg4 harg4 arg5 harg5 x0 x1 x2 x4 x5 hb)
    (st1_at c i arg3 harg3 arg4 harg4 arg5 harg5 arg6 harg6 arg7 harg7 arg8 harg8 arg9 harg9 arg10 harg10 arg11 harg11 x0 x1 x2 x4 x5 hb G10 G11 h10 h11).1 _ _ _ _ (st1_at c i arg3 harg3 arg4 harg4 arg5 harg5 arg6 harg6 arg7 harg7 arg8 harg8 arg9 harg9 arg10 harg10 arg11 harg11 x0 x1 x2 x4 x5 hb G10 G11 h10 h11).2.2

theorem blockQ_at (r : Fin 512) (l : Fin 128) : blockQ c i arg3 harg3 arg4 harg4 arg5 harg5 arg6 harg6 arg7 harg7 arg8 harg8 arg9 harg9 arg10 harg10 arg11 harg11 x0 x1 x2 x4 x5 G10 G11 (ix3 0 r l)
      = (((if l.val < 64 then ∑ s ∈ Finset.range (512 * ((i 2).val + 1)), L.dz 0 (512 * (i 2).val + r) s * L.k s l
          else ∑ s ∈ Finset.range (512 * ((i 2).val + 1)), L.dz 1 (512 * (i 2).val + r) s * L.k s l) * (1 / 8) : ℝ) : EReal) := by
  unfold blockQ accE accD
  rw [st2_eq c i arg3 harg3 arg4 harg4 arg5 harg5 arg6 harg6 arg7 harg7 arg8 harg8 arg9 harg9 arg10 harg10 arg11 harg11 x0 x1 x2 x4 x5 G10 G11]
  exact diagQ (loads_in i arg3 harg3 arg7 harg7 arg8 harg8 x0 x1 x2 x4 x5 hb) (tiles_in i arg4 harg4 arg5 harg5 x0 x1 x2 x4 x5 hb)
    (st1_at c i arg3 harg3 arg4 harg4 arg5 harg5 arg6 harg6 arg7 harg7 arg8 harg8 arg9 harg9 arg10 harg10 arg11 harg11 x0 x1 x2 x4 x5 hb G10 G11 h10 h11).1 r l

end

omit hb in
theorem st2A_eq : st2A c i arg3 harg3 arg4 harg4 arg5 harg5 arg6 harg6 arg7 harg7 arg8 harg8 arg9 harg9 arg10 harg10 arg11 harg11 x0 x1 x2 x4 x5 = ((st1A c i arg3 harg3 arg4 harg4 arg5 harg5 arg6 harg6 arg7 harg7 arg8 harg8 arg9 harg9 arg10 harg10 arg11 harg11 x0 x1 x2 x4 x5).1, [], []) := by
  unfold st2A
  rw [trips2_eq]; rfl

omit hb in
theorem zeroK_held (part : ℕ → ℕ → ℝ) : Held (arg10.view.read (Elt Ideal) (arg10.view.writes (Elt Ideal) arg10.view.junk zeroK)) (fun _ _ => 0) part 0 := by
  intro s l
  rw [zeroK, View.read_writes_full]
  have e : k0_pay50 (F := Ideal) (ix3 0 s l) = 0 := by pointwise [k0_pay50]
  rw [e]; simp

omit hb in
theorem zeroV_held (part : ℕ → ℕ → ℝ) : Held (arg11.view.read (Elt Ideal) (arg11.view.writes (Elt Ideal) arg11.view.junk zeroV)) (fun _ _ => 0) part 0 := by
  intro s l
  rw [zeroV, View.read_writes_full]
  have e : k0_pay51 (F := Ideal) (ix3 0 s l) = 0 := by pointwise [k0_pay51]
  rw [e]; simp

theorem st1A_at :
    AccAt L (i 2).val (i 2).val (st1A c i arg3 harg3 arg4 harg4 arg5 harg5 arg6 harg6 arg7 harg7 arg8 harg8 arg9 harg9 arg10 harg10 arg11 harg11 x0 x1 x2 x4 x5).1
    ∧ Held (arg10.view.read (Elt Ideal) (arg10.view.writes (Elt Ideal) arg10.view.junk (listKA c i arg3 harg3 arg4 harg4 arg5 harg5 arg6 harg6 arg7 harg7 arg8 harg8 arg9 harg9 arg10 harg10 arg11 harg11 x0 x1 x2 x4 x5))) (fun _ _ => 0) (L.partK (i 2).val) (i 2).val
    ∧ Held (arg11.view.read (Elt Ideal) (arg11.view.writes (Elt Ideal) arg11.view.junk (listVA c i arg3 harg3 arg4 harg4 arg5 harg5 arg6 harg6 arg7 harg7 arg8 harg8 arg9 harg9 arg10 harg10 arg11 harg11 x0 x1 x2 x4 x5))) (fun _ _ => 0) (L.partV (i 2).val) (i 2).val := by
  have h := st1_at c i arg3 harg3 arg4 harg4 arg5 harg5 arg6 harg6 arg7 harg7 arg8 harg8 arg9 harg9 arg10 harg10 arg11 harg11 x0 x1 x2 x4 x5 hb _ _ (zeroK_held arg10 (L.partK (i 2).val)) (zeroV_held arg11 (L.partV (i 2).val))
  unfold listKA listVA
  rw [st2A_eq, List.nil_append, List.nil_append, View.writes_append, View.writes_append]
  exact h

theorem out0_A_7_at (hc0 : cond0_0 i) (x3 : FVec Ideal S1x512x128 .f32) : Held (out0_A_7 (F := Ideal) c i arg3 harg3 arg4 harg4 arg5 harg5 arg6 harg6 arg7 harg7 arg8 harg8 arg9 harg9 arg10 harg10 arg11 harg11 hc0 x0 x1 x2 x3 x4 x5) (fun _ _ => 0) (L.partK (i 2).val) ((i 2).val + 1) := by
  rw [out0_A_7_eq, View.read_writes_junk_eq_canon, ← View.read_writes_junk_eq_canon arg10.view]
  have h := st1A_at c i arg3 harg3 arg4 harg4 arg5 harg5 arg6 harg6 arg7 harg7 arg8 harg8 arg9 harg9 arg10 harg10 arg11 harg11 x0 x1 x2 x4 x5 hb
  unfold piecesKA
  have e : (st2A c i arg3 harg3 arg4 harg4 arg5 harg5 arg6 harg6 arg7 harg7 arg8 harg8 arg9 harg9 arg10 harg10 arg11 harg11 x0 x1 x2 x4 x5).1 = (st1A c i arg3 harg3 arg4 harg4 arg5 harg5 arg6 harg6 arg7 harg7 arg8 harg8 arg9 harg9 arg10 harg10 arg11 harg11 x0 x1 x2 x4 x5).1 := by rw [st2A_eq c i arg3 harg3 arg4 harg4 arg5 harg5 arg6 harg6 arg7 harg7 arg8 harg8 arg9 harg9 arg10 harg10 arg11 harg11 x0 x1 x2 x4 x5]
  rw [e]
  exact diagK (loads_in i arg3 harg3 arg7 harg7 arg8 harg8 x0 x1 x2 x4 x5 hb) (tiles_in i arg4 harg4 arg5 harg5 x0 x1 x2 x4 x5 hb) h.1 _ _ _ _ h.2.1

theorem out0_A_8_at (hc0 : cond0_0 i) (x3 : FVec Ideal S1x512x128 .f32) : Held (out0_A_8 (F := Ideal) c i arg3 harg3 arg4 harg4 arg5 harg5 arg6 harg6 arg7 harg7 arg8 harg8 arg9 harg9 arg10 harg10 arg11 harg11 hc0 x0 x1 x2 x3 x4 x5) (fun _ _ => 0) (L.partV (i 2).val) ((i 2).val + 1) := by
  rw [out0_A_8_eq, View.read_writes_junk_eq_canon, ← View.read_writes_junk_eq_canon arg11.view]
  have h := st1A_at c i arg3 harg3 arg4 harg4 arg5 harg5 arg6 harg6 arg7 harg7 arg8 harg8 arg9 harg9 arg10 harg10 arg11 harg11 x0 x1 x2 x4 x5 hb
  unfold piecesVA
  have e : (st2A c i arg3 harg3 arg4 harg4 arg5 harg5 arg6 harg6 arg7 harg7 arg8 harg8 arg9 harg9 arg10 harg10 arg11 harg11 x0 x1 x2 x4 x5).1 = (st1A c i arg3 harg3 arg4 harg4 arg5 harg5 arg6 harg6 arg7 harg7 arg8 harg8 arg9 harg9 arg10 harg10 arg11 harg11 x0 x1 x2 x4 x5).1 := by rw [st2A_eq c i arg3 harg3 arg4 harg4 arg5 harg5 arg6 harg6 arg7 harg7 arg8 harg8 arg9 harg9 arg10 harg10 arg11 harg11 x0 x1 x2 x4 x5]
  rw [e]
  exact diagV (loads_in i arg3 harg3 arg7 harg7 arg8 harg8 x0 x1 x2 x4 x5 hb) (tiles_in i arg4 harg4 arg5 harg5 x0 x1 x2 x4 x5 hb) h.1 _ _ _ _ h.2.2

theorem out0_A_6_at (hc0 : cond0_0 i) (x3 : FVec Ideal S1x512x128 .f32) (r : Fin 512) (l : Fin 128) : out0_A_6 (F := Ideal) c i arg3 harg3 arg4 harg4 arg5 harg5 arg6 harg6 arg7 harg7 arg8 harg8 arg9 harg9 arg10 harg10 arg11 harg11 hc0 x0 x1 x2 x3 x4 x5 (ix3 0 r l)
      = (((if l.val < 64 then ∑ s ∈ Finset.range (512 * ((i 2).val + 1)), L.dz 0 (512 * (i 2).val + r) s * L.k s l
          else ∑ s ∈ Finset.range (512 * ((i 2).val + 1)), L.dz 1 (512 * (i 2).val + r) s * L.k s l) * (1 / 8) : ℝ) : EReal) := by
  rw [out0_A_6_eq, View.read_writes_full]
  unfold blockQA accEA
  have e : (st2A c i arg3 harg3 arg4 harg4 arg5 harg5 arg6 harg6 arg7 harg7 arg8 harg8 arg9 harg9 arg10 harg10 arg11 harg11 x0 x1 x2 x4 x5).1 = (st1A c i arg3 harg3 arg4 harg4 arg5 harg5 arg6 harg6 arg7 harg7 arg8 harg8 arg9 harg9 arg10 harg10 arg11 harg11 x0 x1 x2 x4 x5).1 := by rw [st2A_eq c i arg3 harg3 arg4 harg4 arg5 harg5 arg6 harg6 arg7 harg7 arg8 harg8 arg9 harg9 arg10 harg10 arg11 harg11 x0 x1 x2 x4 x5]
  rw [e]
  exact diagQ (loads_in i arg3 harg3 arg7 harg7 arg8 harg8 x0 x1 x2 x4 x5 hb) (tiles_in i arg4 harg4 arg5 harg5 x0 x1 x2 x4 x5 hb) (st1A_at c i arg3 harg3 arg4 harg4 arg5 harg5 arg6 harg6 arg7 harg7 arg8 harg8 arg9 harg9 arg10 harg10 arg11 harg11 x0 x1 x2 x4 x5 hb).1 r l

section

variable (xo7 xo8 : FVec Ideal S1x2048x128 .f32) {old10 old11 : ℕ → ℕ → ℝ}
  (h10 : Held xo7 old10 (L.partK (i 2).val) 0) (h11 : Held xo8 old11 (L.partV (i 2).val) 0) (hc0 : ¬cond0_0 i) (x3 : FVec Ideal S1x512x128 .f32)

include h10 h11

theorem out0_B_7_at : Held (out0_B_7 (F := Ideal) c i arg3 harg3 arg4 harg4 arg5 harg5 arg6 harg6 arg7 harg7 arg8 harg8 arg9 harg9 arg10 harg10 arg11 harg11 hc0 x0 x1 x2 x3 x4 x5 xo7 xo8) old10 (L.partK (i 2).val) ((i 2).val + 1) := by
  rw [out0_B_7_eq]
  exact readK_at c i arg3 harg3 arg4 harg4 arg5 harg5 arg6 harg6 arg7 harg7 arg8 harg8 arg9 harg9 arg10 harg10 arg11 harg11 x0 x1 x2 x4 x5 hb _ _ (by rw [harg10.read_unread]; exact h10) (by rw [harg11.read_unread]; exact h11)

theorem out0_B_8_at : Held (out0_B_8 (F := Ideal) c i arg3 harg3 arg4 harg4 arg5 harg5 arg6 harg6 arg7 harg7 arg8 harg8 arg9 harg9 arg10 harg10 arg11 harg11 hc0 x0 x1 x2 x3 x4 x5 xo7 xo8) old11 (L.partV (i 2).val) ((i 2).val + 1) := by
  rw [out0_B_8_eq]
  exact readV_at c i arg3 harg3 arg4 harg4 arg5 harg5 arg6 harg6 arg7 harg7 arg8 harg8 arg9 harg9 arg10 harg10 arg11 harg11 x0 x1 x2 x4 x5 hb _ _ (by rw [harg10.read_unread]; exact h10) (by rw [harg11.read_unread]; exact h11)

theorem out0_B_6_at (r : Fin 512) (l : Fin 128) : out0_B_6 (F := Ideal) c i arg3 harg3 arg4 harg4 arg5 harg5 arg6 harg6 arg7 harg7 arg8 harg8 arg9 harg9 arg10 harg10 arg11 harg11 hc0 x0 x1 x2 x3 x4 x5 xo7 xo8 (ix3 0 r l)
      = (((if l.val < 64 then ∑ s ∈ Finset.range (512 * ((i 2).val + 1)), L.dz 0 (512 * (i 2).val + r) s * L.k s l
          else ∑ s ∈ Finset.range (512 * ((i 2).val + 1)), L.dz 1 (512 * (i 2).val + r) s * L.k s l) * (1 / 8) : ℝ) : EReal) := by
  rw [out0_B_6_eq, View.read_writes_full]
  exact blockQ_at c i arg3 harg3 arg4 harg4 arg5 harg5 arg6 harg6 arg7 harg7 arg8 harg8 arg9 harg9 arg10 harg10 arg11 harg11 x0 x1 x2 x4 x5 hb _ _ (by rw [harg10.read_unread]; exact h10) (by rw [harg11.read_unread]; exact h11) r l

end

end

end Cert.KernelIdeal.Value

end
-- ==== Proof.Sums.lean ====
/- The saved row sums at an index. -/
module

public import proofs.«01_k».proof.Proof.Out
public import proofs.«01_k».proof.Proof.Gen.KernelIdeal.Value
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Idealize.ShloMosaic.StableHlo

namespace Cert.KernelIdeal.Value

open Cert.KernelIdeal Cert.KernelIdeal.Gen Cert.SB

/-- The negated scores, on the host. -/
def hNegZ (x : FVec Ideal S2x2048x6144 .bf16) : FVec Ideal S2x8x2048x2048 .f32 :=
  let v2 : FVec Ideal S2x2048x3x8x64 .f32 := shapeCast S2x2048x3x8x64 (extf (F := Ideal) .f32 (extractStridedSlice S2x2048x1536 ![0, 0, 3840] x slices_S2x2048x6144_S2x2048x1536_0_0_3840) bitsLt_bf16_f32) shapeCasts_S2x2048x1536_S2x2048x3x8x64
  Host.negf (mulf (Host.dotGeneral dot_S2x2048x8x64_S2x2048x8x64_S2x8x2048x2048_3_3_1_1_02_02 none
      (shapeCast S2x2048x8x64 (extractStridedSlice S2x2048x1x8x64 ![0, 0, 0, 0, 0] v2 slices_S2x2048x3x8x64_S2x2048x1x8x64_0_0_0_0_0) shapeCasts_S2x2048x1x8x64_S2x2048x8x64)
      (shapeCast S2x2048x8x64 (extractStridedSlice S2x2048x1x8x64 ![0, 0, 1, 0, 0] v2 slices_S2x2048x3x8x64_S2x2048x1x8x64_0_0_1_0_0) shapeCasts_S2x2048x1x8x64_S2x2048x8x64))
    (broadcastInDim S2x8x2048x2048 ![] bcast_S_S2x8x2048x2048 (constant S_ .f32 0x3E000000#32)))

/-- Where the key comes before the query, on the host. -/
def hMask : IVec S2048x2048 1 :=
  cmpi .sgt (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))

/-- The logarithm of the sigmoid, on the host. -/
def hLogSig (x : FVec Ideal S2x8x2048x2048 .f32) : FVec Ideal S2x8x2048x2048 .f32 :=
  let y : FVec Ideal S2x8x2048x2048 .f32 := Host.negf x
  let z : FVec Ideal S2x8x2048x2048 .f32 := broadcastInDim S2x8x2048x2048 ![] bcast_S_S2x8x2048x2048 (constant S_ .f32 0x00000000#32)
  let d : FVec Ideal S2x8x2048x2048 .f32 := subf y z
  Host.negf (select (cmpf .une d d) (addf y z) (addf (maximumf y z) (Host.log1p (Host.exp (Host.negf (Host.absf d))))))

/-- Each row's sum, spread over its head's lanes. -/
def hSpread (x : FVec Ideal S2x8x2048x2048 .f32) : FVec Ideal S2x4x2048x128 .f32 :=
  shapeCast S2x4x2048x128 (broadcastInDim S2x4x2048x2x64 ![0, 1, 2, 3, 4] bcast_S2x4x2048x2x1_S2x4x2048x2x64_0_1_2_3_4
    (broadcastInDim S2x4x2048x2x1 ![0, 1, 2, 3] bcast_S2x4x2048x2_S2x4x2048x2x1_0_1_2_3
      (transpose S2x4x2048x2 [0, 1, 3, 2] (shapeCast S2x4x2x2048 (Host.reduceAdd (F := Ideal) x (constant S_ .f32 0x00000000#32) reducesTo_S2x8x2048x2048_S2x8x2048_d3 h_S_) shapeCasts_S2x8x2048_S2x4x2x2048)
        transposes_S2x4x2x2048_S2x4x2048x2_0_1_3_2))) shapeCasts_S2x4x2048x2x64_S2x4x2048x128

section

variable (σ : Valuation τ sig (Elt Ideal))

theorem h0_v17 : after hostOps0 σ (no_index (Proc.devRef .tc main_v17)) = hNegZ (σ (Proc.devRef .tc main_arg0)) := by
  simp only [hostOps0]
  after_results_simp
  rfl

theorem h0_v16 : after hostOps0 σ (no_index (Proc.devRef .tc main_v16)) = hMask := by
  simp only [hostOps0]
  after_results_simp
  rfl

theorem h1_v18 : after hostOps0_1 σ (no_index (Proc.devRef .tc main_v18)) = hLogSig (σ (Proc.devRef .tc main_v17)) := by
  simp only [hostOps0_1, TRef.binary, TRef.nullary, TRef.ternary, TRef.unary, TRef.toBuf, TRef.ofBuf, cast_eq]
  after_results_simp
  rfl

theorem h1_v16 : after hostOps0_1 σ (no_index (Proc.devRef .tc main_v16)) = σ (Proc.devRef .tc main_v16) := by
  simp only [hostOps0_1, TRef.binary, TRef.nullary, TRef.ternary, TRef.unary, TRef.toBuf, TRef.ofBuf, cast_eq]
  after_results_simp

theorem h2_v16 : after hostOps0_2 σ (no_index (Proc.devRef .tc main_v16)) = σ (Proc.devRef .tc main_v16) := by
  simp only [hostOps0_2]
  after_results_simp

theorem h2_v18 : after hostOps0_2 σ (no_index (Proc.devRef .tc main_v18)) = σ (Proc.devRef .tc main_v18) := by
  simp only [hostOps0_2]
  after_results_simp

theorem h2_cst : after hostOps0_2 σ (no_index (Proc.devRef .tc main_cst_0)) = constant (F := Ideal) S_ .f32 0x00000000#32 := by
  simp only [hostOps0_2]
  after_results_simp
  try rfl

theorem h3_v19 : after hostOps0_3 σ (no_index (Proc.devRef .tc main_v19))
    = select (broadcastInDim S2x8x2048x2048 ![2, 3] bcast_S2048x2048_S2x8x2048x2048_2_3 (σ (Proc.devRef .tc main_v16))) (σ (Proc.devRef .tc main_v18))
      (broadcastInDim S2x8x2048x2048 ![] bcast_S_S2x8x2048x2048 (σ (Proc.devRef .tc main_cst_0))) := by
  simp only [hostOps0_3, TRef.binary, TRef.nullary, TRef.ternary, TRef.unary, TRef.toBuf, TRef.ofBuf, cast_eq]
  after_results_simp
  rfl

theorem h4_v25 : after hostOps0_4 σ (no_index (Proc.devRef .tc main_v25)) = hSpread (σ (Proc.devRef .tc main_v19)) := by
  simp only [hostOps0_4]
  after_results_simp
  rfl

end

variable (m : (ℓ : Loc nD τ sig) → Buf (Elt Ideal) ℓ)

/-- The saved row sums, as the host leaves them. -/
def sumsOf (c : Dev nD) : S2x4x2048x128.Idx → EReal := V m c main_v25

theorem sumsOf_eq (c : Dev nD) : sumsOf m c
    = hSpread (select (broadcastInDim S2x8x2048x2048 ![2, 3] bcast_S2048x2048_S2x8x2048x2048_2_3 hMask) (hLogSig (hNegZ (m ((c : Thread nD τ).loc main_arg0))))
      (broadcastInDim S2x8x2048x2048 ![] bcast_S_S2x8x2048x2048 (constant (F := Ideal) S_ .f32 0x00000000#32))) := by
  unfold sumsOf V
  simp only [List.flatten_cons, List.flatten_nil, List.append_nil, after_append]
  rw [h4_v25, h3_v19, h2_v16, h2_v18, h2_cst, h1_v16, h1_v18, h0_v16, h0_v17]

end Cert.KernelIdeal.Value

end
-- ==== Proof.Softplus.lean ====
/- The softplus function over the reals, as both programs compute it on the host. -/
module

public import proofs.«01_k».proof.Proof.Real

@[expose] public section

noncomputable section

open Idealize.ShloMosaic

namespace Cert.SB

/-- The host's softplus of a real. -/
theorem softplus_coe (y : ℝ) :
    (if (y : EReal) ≠ y then (y : EReal) else max (y : EReal) 0 + Ideal.log1p (Ideal.exp (-FloatOps.absf (F := Ideal) (φ := .f32) (y : EReal))))
      = ((-lsn y : ℝ) : EReal) := by
  have h0 : (0 : EReal) = ((0 : ℝ) : EReal) := rfl
  have ha : FloatOps.absf (F := Ideal) (φ := .f32) (y : EReal) = ((|y| : ℝ) : EReal) := (Ideal.absf_def _).trans (coe_abs' y)
  rw [if_neg (fun h => h rfl), ha, h0, coe_max, ← EReal.coe_neg, Ideal.exp_coe, Ideal.log1p, log_one_add_exp, ← EReal.coe_add]
  unfold lsn
  congr 1
  ring

/-- The sigmoid's logarithm at `z`, from the one at `-z`. -/
theorem lsn_neg (z : ℝ) : lsn (-z) = lsn z + z := by
  unfold lsn
  rw [abs_neg]
  rcases le_total z 0 with h | h
  · rw [max_eq_left (by linarith), max_eq_right h]; ring
  · rw [max_eq_right (by linarith), max_eq_left h]; ring

theorem exp_lsn (z : ℝ) : Real.exp (lsn z) = (1 + Real.exp z)⁻¹ := by
  have h1 : 0 < 1 + Real.exp z := by positivity
  rcases le_total z 0 with h | h
  · rw [lsn, max_eq_right h, abs_of_nonpos h, neg_neg, neg_zero, zero_sub, Real.exp_neg, Real.exp_log h1]
  · have h2 : 0 < 1 + Real.exp (-z) := by positivity
    rw [lsn, max_eq_left h, abs_of_nonneg h, Real.exp_sub, Real.exp_log h2, ← one_div, div_eq_div_iff h2.ne' h1.ne', mul_add, ← Real.exp_add, neg_add_cancel, Real.exp_zero]
    ring

/-- The two sigmoids add to one. -/
theorem exp_lsn_compl (z : ℝ) : Real.exp (lsn z) = 1 - Real.exp (lsn z + z) := by
  have h1 : 1 + Real.exp z ≠ 0 := by positivity
  rw [Real.exp_add, exp_lsn]
  field_simp
  ring

end Cert.SB

end
-- ==== Proof.Arrays.lean ====
/- The real numbers that the arguments hold, head by head. -/
module

public import Idealize.ShloMosaic.Lib.Pipeline.ValueKit
public import proofs.«01_k».proof.Proof.Softplus

@[expose] public section

noncomputable section

open Idealize.ShloMosaic Idealize.ShloMosaic.TcCoe

namespace Cert.SB

abbrev ProjShape : Shape := ⟨3, ![2, 2048, 6144]⟩
abbrev OutShape : Shape := ⟨3, ![2, 2048, 512]⟩

/-- The parts of the arguments that the attention reads hold the reals `P` (projections) and `D` (the output's gradient). -/
structure Reals (x : ProjShape.Idx → EReal) (y : OutShape.Idx → EReal) (P D : ℕ → ℕ → ℕ → ℝ) : Prop where
  hx : ∀ (b : Fin 2) (s : Fin 2048) (c : Fin 6144), 3840 ≤ c.val → c.val < 5376 → x (ix3 b s c) = ((P b.val s.val c.val : ℝ) : EReal)
  hy : ∀ (b : Fin 2) (s : Fin 2048) (c : Fin 512), y (ix3 b s c) = ((D b.val s.val c.val : ℝ) : EReal)

/-- The queries, keys and values of head `h`, and its output's gradient. -/
def Hq (P : ℕ → ℕ → ℕ → ℝ) (b h s d : ℕ) : ℝ := P b s (3840 + 64 * h + d)
def Hk (P : ℕ → ℕ → ℕ → ℝ) (b h s d : ℕ) : ℝ := P b s (4352 + 64 * h + d)
def Hv (P : ℕ → ℕ → ℕ → ℝ) (b h s d : ℕ) : ℝ := P b s (4864 + 64 * h + d)
def Ho (D : ℕ → ℕ → ℕ → ℝ) (b h s d : ℕ) : ℝ := D b s (64 * h + d)

end Cert.SB

end
-- ==== Proof.SumsAt.lean ====
/- The saved row sums at an index. -/
module

public import proofs.«01_k».proof.Proof.Sums
public import proofs.«01_k».proof.Proof.Arrays

@[expose] public section

set_option maxRecDepth 16384

noncomputable section

open Idealize.ShloMosaic Idealize.ShloMosaic.TcCoe Idealize.SL.Sem

namespace Cert.KernelIdeal.Value

open Cert.KernelIdeal Cert.KernelIdeal.Gen Cert.SB

theorem hNegZ_at (x : FVec Ideal S2x2048x6144 .bf16) (b : Fin 2) (h : Fin 8) (r s : Fin 2048) :
    hNegZ x (ix4 b h r s) = -((∑ d : Fin 64, x (ix3 b r ⟨3840 + 64 * h.val + d.val, by omega⟩) * x (ix3 b s ⟨4352 + 64 * h.val + d.val, by omega⟩))
      * Ideal.ofBits .f32 0x3E000000#32) := by
  pointwise [hNegZ]
  congr 2
  refine Finset.sum_congr rfl fun d _ => ?_
  congr 2
  · blk_ext
  · blk_ext

theorem hMask_at (r s : Fin 2048) : hMask (ix2 r s) = if s.val < r.val then 1#1 else 0#1 := by
  pointwise [hMask]
  word_cmp
  split_ifs with h <;> simp [h]

theorem hLogSig_at (x : FVec Ideal S2x8x2048x2048 .f32) (b : Fin 2) (h : Fin 8) (r s : Fin 2048) (z : ℝ) (hx : x (ix4 b h r s) = -(z : EReal)) :
    hLogSig x (ix4 b h r s) = ((lsn z : ℝ) : EReal) := by
  pointwise [hLogSig]
  have e : -(-(z : EReal)) = (z : EReal) := neg_neg _
  rw [hx, e, softplus_coe, ← EReal.coe_neg, neg_neg]

theorem hSpread_at (x : FVec Ideal S2x8x2048x2048 .f32) (b : Fin 2) (p : Fin 4) (r : Fin 2048) (l : Fin 128) :
    hSpread x (ix4 b p r l) = ∑ s : Fin 2048, x (ix4 b ⟨2 * p.val + l.val / 64, by omega⟩ r s) := by
  pointwise [hSpread]
  refine Finset.sum_congr rfl fun s _ => ?_
  blk_ext

variable {m : (ℓ : Loc nD τ sig) → Buf (Elt Ideal) ℓ} {c : Dev nD} {P D : ℕ → ℕ → ℕ → ℝ}

/-- What the kernel's first and third arguments hold, as arrays. -/
def arr0 (m : (ℓ : Loc nD τ sig) → Buf (Elt Ideal) ℓ) (c : Dev nD) : ProjShape.Idx → EReal := m ((c : Thread nD τ).loc main_arg0)
def arr2 (m : (ℓ : Loc nD τ sig) → Buf (Elt Ideal) ℓ) (c : Dev nD) : OutShape.Idx → EReal := m ((c : Thread nD τ).loc main_arg2)

theorem hNegZ_coe (H : Reals (arr0 m c) (arr2 m c) P D) (b : Fin 2) (h : Fin 8) (r s : Fin 2048) :
    hNegZ (arr0 m c) (ix4 b h r s) = -((Z (Hq P b.val h.val) (Hk P b.val h.val) r.val s.val : ℝ) : EReal) := by
  rw [hNegZ_at, eighth32, Finset.sum_congr rfl fun d _ => by
    rw [H.hx b r ⟨3840 + 64 * h.val + d.val, by omega⟩ (by show 3840 ≤ 3840 + 64 * h.val + d.val; omega) (by show 3840 + 64 * h.val + d.val < 5376; omega),
      H.hx b s ⟨4352 + 64 * h.val + d.val, by omega⟩ (by show 3840 ≤ 4352 + 64 * h.val + d.val; omega) (by show 4352 + 64 * h.val + d.val < 5376; omega), ← EReal.coe_mul], coe_sum, ← EReal.coe_mul]
  rfl

theorem zero_word : (constant (F := Ideal) S_ .f32 0x00000000#32 ix0 : EReal) = ((0 : ℝ) : EReal) := by
  show Ideal.ofBits .f32 0x00000000#32 = ((0 : ℝ) : EReal)
  simp [Ideal.ofBits, Ideal.ieee]

/-- The saved sums hold each row's sum of the masked logarithms. -/
theorem sums_at (H : Reals (arr0 m c) (arr2 m c) P D) (b : Fin 2) (p : Fin 4) (r : Fin 2048) (l : Fin 128) :
    sumsOf m c (ix4 b p r l)
      = ((∑ s ∈ Finset.range 2048, Lm (Hq P b.val (2 * p.val + l.val / 64)) (Hk P b.val (2 * p.val + l.val / 64)) r.val s : ℝ) : EReal) := by
  have hl := l.isLt
  rw [sumsOf_eq, hSpread_at, ← Fin.sum_univ_eq_sum_range, ← coe_sum]
  refine Finset.sum_congr rfl fun s _ => ?_
  have e : hLogSig (hNegZ (arr0 m c)) (ix4 b ⟨2 * p.val + l.val / 64, by omega⟩ r s) = _ :=
    hLogSig_at _ b ⟨2 * p.val + l.val / 64, by omega⟩ r s _ (hNegZ_coe H b ⟨2 * p.val + l.val / 64, by omega⟩ r s)
  unfold arr0 at e
  pointwise
  rw [hMask_at, e]
  unfold Lm
  by_cases hm : s.val < r.val
  · rw [if_pos hm, if_pos hm]; rfl
  · rw [if_neg hm, if_neg hm]; rfl

end Cert.KernelIdeal.Value

end
-- ==== Proof.Grid.lean ====
/- The kernel's input blocks, as parts of the arguments and of the saved sums. -/
module

public import proofs.«01_k».proof.Proof.SumsAt
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Cert.SB

variable (m : (ℓ : Loc nD τ sig) → Buf (Elt Ideal) ℓ)

/-- Which block of each array a point works on. -/
theorem idx : ∀ t : Fin cfg0.N,
    win0_0.index t = ![t.val / 16, t.val % 4, 30 + t.val / 4 % 4] ∧ win0_1.index t = ![t.val / 16, 0, 34 + t.val / 4 % 4]
    ∧ win0_2.index t = ![t.val / 16, 0, 38 + t.val / 4 % 4] ∧ win0_4.index t = ![t.val / 16, t.val / 4 % 4, t.val % 4, 0]
    ∧ win0_5.index t = ![t.val / 16, t.val % 4, t.val / 4 % 4] ∧ win0_6.index t = ![t.val / 16, t.val % 4, t.val / 4 % 4]
    ∧ win0_7.index t = ![t.val / 16, 0, t.val / 4 % 4] ∧ win0_8.index t = ![t.val / 16, 0, t.val / 4 % 4] :=
  (by decide +kernel : ∀ t : Fin grid0.N, _)

/-- A point's query tile. -/
theorem coord2 : ∀ t : Fin cfg0.N, (grid0.coords t 2).val = t.val % 4 := (by decide +kernel : ∀ t : Fin grid0.N, _)

theorem iblk0_at (c : Dev nD) (t : Fin cfg0.N) (ht : t.val < 32) (r : Fin 512) (l : Fin 128) :
    (iblk m c 0 t : FVec Ideal S1x512x128 .bf16) (ix3 0 r l) = (m ((c : Thread nD τ).loc main_arg0) : S2x2048x6144.Idx → EReal)
      (ix3 ⟨t.val / 16, by omega⟩ ⟨512 * (t.val % 4) + r.val, by omega⟩ ⟨3840 + 128 * (t.val / 4 % 4) + l.val, by omega⟩) := by
  blk_point [iblk, V, idx t]

theorem iblk1_at (c : Dev nD) (t : Fin cfg0.N) (ht : t.val < 32) (s : Fin 2048) (l : Fin 128) :
    (iblk m c 1 t : FVec Ideal S1x2048x128 .bf16) (ix3 0 s l) = (m ((c : Thread nD τ).loc main_arg0) : S2x2048x6144.Idx → EReal)
      (ix3 ⟨t.val / 16, by omega⟩ s ⟨4352 + 128 * (t.val / 4 % 4) + l.val, by omega⟩) := by
  blk_point [iblk, V, idx t]

theorem iblk2_at (c : Dev nD) (t : Fin cfg0.N) (ht : t.val < 32) (s : Fin 2048) (l : Fin 128) :
    (iblk m c 2 t : FVec Ideal S1x2048x128 .bf16) (ix3 0 s l) = (m ((c : Thread nD τ).loc main_arg0) : S2x2048x6144.Idx → EReal)
      (ix3 ⟨t.val / 16, by omega⟩ s ⟨4864 + 128 * (t.val / 4 % 4) + l.val, by omega⟩) := by
  blk_point [iblk, V, idx t]

theorem iblk5_at (c : Dev nD) (t : Fin cfg0.N) (ht : t.val < 32) (r : Fin 512) (l : Fin 128) :
    (iblk m c 5 t : FVec Ideal S1x512x128 .bf16) (ix3 0 r l) = (m ((c : Thread nD τ).loc main_arg2) : S2x2048x512.Idx → EReal)
      (ix3 ⟨t.val / 16, by omega⟩ ⟨512 * (t.val % 4) + r.val, by omega⟩ ⟨128 * (t.val / 4 % 4) + l.val, by omega⟩) := by
  blk_point [iblk, V, idx t]

theorem iblk4_at (c : Dev nD) (t : Fin cfg0.N) (ht : t.val < 32) (r : Fin 512) (l : Fin 128) :
    (iblk m c 4 t : FVec Ideal S1x1x512x128 .f32) (ix4 0 0 r l) = sumsOf m c
      (ix4 ⟨t.val / 16, by omega⟩ ⟨t.val / 4 % 4, by omega⟩ ⟨512 * (t.val % 4) + r.val, by omega⟩ l) := by
  show V m c main_v25 _ = V m c main_v25 _
  generalize V m c main_v25 = X
  refine congrArg X ?_
  blk_ext [idx t]

end Cert.KernelIdeal.Value

end
-- ==== Proof.Heads.lean ====
/- The tiles' sums put together: the gradients of each head. -/
module

public import proofs.«01_k».proof.Proof.Step
public import proofs.«01_k».proof.Proof.Arrays

@[expose] public section

set_option maxRecDepth 16384

noncomputable section

namespace Cert.SB

/-- The two heads that a point works on. -/
def pair (P D : ℕ → ℕ → ℕ → ℝ) (b p : ℕ) : Lanes where
  q := fun s l => P b s (3840 + 128 * p + l)
  k := fun s l => P b s (4352 + 128 * p + l)
  v := fun s l => P b s (4864 + 128 * p + l)
  o := fun s l => D b s (128 * p + l)

variable (P D : ℕ → ℕ → ℕ → ℝ) (b p : ℕ)

theorem hd_q (e : ℕ) : hd (pair P D b p).q e = Hq P b (2 * p + e) := by
  funext s d; unfold hd pair Hq; dsimp only; congr 1; ring

theorem hd_k (e : ℕ) : hd (pair P D b p).k e = Hk P b (2 * p + e) := by
  funext s d; unfold hd pair Hk; dsimp only; congr 1; ring

theorem hd_v (e : ℕ) : hd (pair P D b p).v e = Hv P b (2 * p + e) := by
  funext s d; unfold hd pair Hv; dsimp only; congr 1; ring

theorem hd_o (e : ℕ) : hd (pair P D b p).o e = Ho D b (2 * p + e) := by
  funext s d; unfold hd pair Ho; dsimp only; congr 1; ring

theorem dz_pair (e : ℕ) : (pair P D b p).dz e = DZ (Hq P b (2 * p + e)) (Hk P b (2 * p + e)) (Hv P b (2 * p + e)) (Ho D b (2 * p + e)) := by
  unfold Lanes.dz; rw [hd_q, hd_k, hd_v, hd_o]

theorem wt_pair (e : ℕ) : (pair P D b p).wt e = A (Hq P b (2 * p + e)) (Hk P b (2 * p + e)) := by
  unfold Lanes.wt; rw [hd_q, hd_k]

theorem lm_pair (e : ℕ) : (pair P D b p).lm e = Lm (Hq P b (2 * p + e)) (Hk P b (2 * p + e)) := by
  unfold Lanes.lm; rw [hd_q, hd_k]

/-- Of two sums of which one head's lanes are kept, the lane's head remains. -/
theorem two_heads (f : ℕ → ℕ → ℝ) (g : ℕ → ℕ → ℝ) (R : Finset ℕ) (l : ℕ) (hl : l < 128) :
    ((∑ r ∈ R, f 0 r * only g 0 r l) + ∑ r ∈ R, f 1 r * only g 1 r l) = ∑ r ∈ R, f (l / 64) r * g r l := by
  unfold only
  rcases (by omega : l / 64 = 0 ∨ l / 64 = 1) with h | h <;> simp [h]

theorem sum_tiles (f : ℕ → ℝ) (n : ℕ) : ∑ i ∈ Finset.range n, ∑ r ∈ Finset.range 512, f (512 * i + r) = ∑ r ∈ Finset.range (512 * n), f r := by
  induction n with
  | zero => simp
  | succ n ih => rw [Finset.sum_range_succ, ih, Nat.mul_succ, Finset.sum_range_add f (512 * n) 512]

theorem dz_zero (L : Lanes) (e r s : ℕ) (h : ¬ s < r) : L.dz e r s = 0 := by
  unfold Lanes.dz DZ; rw [if_neg h]

theorem wt_zero (L : Lanes) (e r s : ℕ) (h : ¬ s < r) : L.wt e r s = 0 := by
  unfold Lanes.wt A; rw [if_neg h]

/-- A tile's queries add nothing to later keys. -/
theorem partK_zero (L : Lanes) (i s l : ℕ) (h : ¬ s < 512 * (i + 1)) : L.partK i s l = 0 := by
  unfold Lanes.partK
  rw [Finset.sum_eq_zero fun r hr => by rw [dz_zero L _ _ _ (by have := Finset.mem_range.mp hr; omega), zero_mul],
    Finset.sum_eq_zero fun r hr => by rw [dz_zero L _ _ _ (by have := Finset.mem_range.mp hr; omega), zero_mul], add_zero]

theorem partV_zero (L : Lanes) (i s l : ℕ) (h : ¬ s < 512 * (i + 1)) : L.partV i s l = 0 := by
  unfold Lanes.partV
  rw [Finset.sum_eq_zero fun r hr => by rw [wt_zero L _ _ _ (by have := Finset.mem_range.mp hr; omega), zero_mul],
    Finset.sum_eq_zero fun r hr => by rw [wt_zero L _ _ _ (by have := Finset.mem_range.mp hr; omega), zero_mul], add_zero]

/-- The four tiles' parts are the keys' gradient. -/
theorem partK_total (s l : ℕ) (hl : l < 128) : ∑ i ∈ Finset.range 4, (pair P D b p).partK i s l
    = DK (Hq P b (2 * p + l / 64)) (Hk P b (2 * p + l / 64)) (Hv P b (2 * p + l / 64)) (Ho D b (2 * p + l / 64)) s (l % 64) := by
  have e : ∀ i ∈ Finset.range 4, (pair P D b p).partK i s l
      = ∑ r ∈ Finset.range 512, (fun r => (pair P D b p).dz (l / 64) r s * q8 (pair P D b p).q r l) (512 * i + r) := fun i _ =>
    two_heads (fun e r => (pair P D b p).dz e (512 * i + r) s) (fun r l => q8 (pair P D b p).q (512 * i + r) l) (Finset.range 512) l hl
  rw [Finset.sum_congr rfl e, sum_tiles (fun r => (pair P D b p).dz (l / 64) r s * q8 (pair P D b p).q r l) 4]
  unfold DK
  refine Finset.sum_congr rfl fun r _ => ?_
  rw [dz_pair]
  unfold q8 pair Hq
  rw [show 3840 + 64 * (2 * p + l / 64) + l % 64 = 3840 + 128 * p + l by omega]

/-- The four tiles' parts are the values' gradient. -/
theorem partV_total (s l : ℕ) (hl : l < 128) : ∑ i ∈ Finset.range 4, (pair P D b p).partV i s l
    = DV (Hq P b (2 * p + l / 64)) (Hk P b (2 * p + l / 64)) (Ho D b (2 * p + l / 64)) s (l % 64) := by
  have e : ∀ i ∈ Finset.range 4, (pair P D b p).partV i s l
      = ∑ r ∈ Finset.range 512, (fun r => (pair P D b p).wt (l / 64) r s * (pair P D b p).o r l) (512 * i + r) := fun i _ =>
    two_heads (fun e r => (pair P D b p).wt e (512 * i + r) s) (fun r l => (pair P D b p).o (512 * i + r) l) (Finset.range 512) l hl
  rw [Finset.sum_congr rfl e, sum_tiles (fun r => (pair P D b p).wt (l / 64) r s * (pair P D b p).o r l) 4]
  unfold DV
  refine Finset.sum_congr rfl fun r _ => ?_
  rw [wt_pair]
  unfold pair Ho
  rw [show 64 * (2 * p + l / 64) + l % 64 = 128 * p + l by omega]

/-- A query's gradient from the keys of its tiles. -/
theorem dq_total (i r l : ℕ) (hi : i < 4) (hr : r < 512) (hl : l < 128) :
    (if l < 64 then ∑ s ∈ Finset.range (512 * (i + 1)), (pair P D b p).dz 0 (512 * i + r) s * (pair P D b p).k s l
      else ∑ s ∈ Finset.range (512 * (i + 1)), (pair P D b p).dz 1 (512 * i + r) s * (pair P D b p).k s l) * (1 / 8)
    = DQ (Hq P b (2 * p + l / 64)) (Hk P b (2 * p + l / 64)) (Hv P b (2 * p + l / 64)) (Ho D b (2 * p + l / 64)) (512 * i + r) (l % 64) := by
  have e : (if l < 64 then ∑ s ∈ Finset.range (512 * (i + 1)), (pair P D b p).dz 0 (512 * i + r) s * (pair P D b p).k s l
      else ∑ s ∈ Finset.range (512 * (i + 1)), (pair P D b p).dz 1 (512 * i + r) s * (pair P D b p).k s l)
      = ∑ s ∈ Finset.range (512 * (i + 1)), (pair P D b p).dz (l / 64) (512 * i + r) s * (pair P D b p).k s l := by
    by_cases h : l < 64
    · rw [if_pos h, show l / 64 = 0 by omega]
    · rw [if_neg h, show l / 64 = 1 by omega]
  rw [e]
  unfold DQ
  refine congrArg (· * (1 / 8 : ℝ)) ?_
  rw [Finset.sum_subset (Finset.range_mono (by omega : 512 * (i + 1) ≤ 2048)) fun s _ hs => by
    rw [dz_zero _ _ _ _ (fun h => hs (Finset.mem_range.mpr (by omega))), zero_mul]]
  refine Finset.sum_congr rfl fun s _ => ?_
  rw [dz_pair]
  unfold pair Hk
  rw [show 4352 + 64 * (2 * p + l / 64) + l % 64 = 4352 + 128 * p + l by omega]

end Cert.SB

end
-- ==== Proof.Points.lean ====
/- What each grid point leaves in the results' blocks. -/
module

public import proofs.«01_k».proof.Proof.Grid
public import proofs.«01_k».proof.Proof.Heads

@[expose] public section

set_option maxRecDepth 16384

noncomputable section

open Idealize.ShloMosaic Idealize.ShloMosaic.TcCoe Idealize.SL.Sem

namespace Cert.KernelIdeal.Value

open Cert.KernelIdeal Cert.KernelIdeal.Gen Cert.SB

variable {m : (ℓ : Loc nD τ sig) → Buf (Elt Ideal) ℓ} {c : Dev nD} {P D : ℕ → ℕ → ℕ → ℝ} (H : Reals (arr0 m c) (arr2 m c) P D)

include H

/-- A point's blocks are those of its pair of heads. -/
theorem blkIn (t : Fin cfg0.N) : BlkIn (pair P D (t.val / 16) (t.val / 4 % 4)) (grid0.coords t 2).val (iblk m c 0 t) (iblk m c 1 t) (iblk m c 2 t) (iblk m c 4 t) (iblk m c 5 t) := by
  have ht : t.val < 32 := lt_of_lt_of_eq t.isLt (show cfg0.N = 32 from N_0)
  rw [coord2 t]
  refine ⟨by omega, fun r l => ?_, fun s l => ?_, fun s l => ?_, fun r l => ?_, fun r => ?_, fun r => ?_⟩
  · exact (iblk0_at m c t ht r l).trans (H.hx _ _ _ (by show 3840 ≤ 3840 + 128 * (t.val / 4 % 4) + l.val; omega) (by show 3840 + 128 * (t.val / 4 % 4) + l.val < 5376; omega))
  · exact (iblk1_at m c t ht s l).trans (H.hx _ _ _ (by show 3840 ≤ 4352 + 128 * (t.val / 4 % 4) + l.val; omega) (by show 4352 + 128 * (t.val / 4 % 4) + l.val < 5376; omega))
  · exact (iblk2_at m c t ht s l).trans (H.hx _ _ _ (by show 3840 ≤ 4864 + 128 * (t.val / 4 % 4) + l.val; omega) (by show 4864 + 128 * (t.val / 4 % 4) + l.val < 5376; omega))
  · exact (iblk5_at m c t ht r l).trans (H.hy _ _ _)
  · rw [lm_pair]
    exact (iblk4_at m c t ht r 0).trans (sums_at H ⟨t.val / 16, by omega⟩ ⟨t.val / 4 % 4, by omega⟩ ⟨512 * (t.val % 4) + r.val, by omega⟩ 0)
  · rw [lm_pair]
    exact (iblk4_at m c t ht r 64).trans (sums_at H ⟨t.val / 16, by omega⟩ ⟨t.val / 4 % 4, by omega⟩ ⟨512 * (t.val % 4) + r.val, by omega⟩ 64)

omit H in
/-- The sum of the parts of the tiles up to `i`, the last of which adds nothing to later keys. -/
theorem parts_next (part : ℕ → ℕ → ℕ → ℝ) (hz : ∀ i s l, ¬ s < 512 * (i + 1) → part i s l = 0) (x : S1x2048x128.Idx → EReal) (i : ℕ)
    (h : Held x (fun s l => ∑ j ∈ Finset.range i, part j s l) (part i) (i + 1)) :
    Held x (fun s l => ∑ j ∈ Finset.range (i + 1), part j s l) (part (i + 1)) 0 := by
  intro s l
  rw [h s l]
  refine congrArg (fun x : ℝ => (x : EReal)) ?_
  show (∑ j ∈ Finset.range i, part j s l) + (if s.val < 512 * (i + 1) then part i s l else 0) = (∑ j ∈ Finset.range (i + 1), part j s l) + (if s.val < 512 * 0 then part (i + 1) s l else 0)
  rw [Nat.mul_zero, if_neg (Nat.not_lt_zero _), add_zero, Finset.sum_range_succ]
  by_cases hs : s.val < 512 * (i + 1)
  · rw [if_pos hs]
  · rw [if_neg hs, hz i s l hs]

omit H in
/-- Nothing yet, before the first tile. -/
theorem parts_first (part : ℕ → ℕ → ℕ → ℝ) (x : S1x2048x128.Idx → EReal) (h : Held x (fun _ _ => 0) (part 0) (0 + 1)) :
    Held x (fun s l => ∑ j ∈ Finset.range 0, part j s l) (part 0) (0 + 1) := by
  intro s l
  rw [h s l]
  simp only [Finset.range_zero, Finset.sum_empty]

omit H in
theorem held_of {x y : S1x2048x128.Idx → EReal} {old : ℕ → ℕ → ℝ} (part : ℕ → ℕ → ℕ → ℝ) {i j : ℕ} (e : x = y) (hij : i = j) (h : Held y old (part i) (i + 1)) :
    Held x old (part j) (j + 1) := by
  subst hij
  subst e
  exact h

omit H in
theorem held_before {x : S1x2048x128.Idx → EReal} {old : ℕ → ℕ → ℝ} (part : ℕ → ℕ → ℕ → ℝ) {i j : ℕ} (hij : i = j) (h : Held x old (part i) 0) :
    Held x old (part j) 0 := by
  subst hij
  exact h

/-- The keys' and values' gradients after a pair's first point. -/
theorem first_at (t : Fin cfg0.N) (h0 : t.val % 4 = 0) :
    Held (outsAt0 m c t.val t.isLt).2.1 (fun _ _ => 0) ((pair P D (t.val / 16) (t.val / 4 % 4)).partK 0) (0 + 1)
    ∧ Held (outsAt0 m c t.val t.isLt).2.2 (fun _ _ => 0) ((pair P D (t.val / 16) (t.val / 4 % 4)).partV 0) (0 + 1) := by
  have hb := blkIn H t
  have h7 := out0_A_7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 4 t) (iblk m c 5 t) hb ((hcond0_0 t).mpr h0) (iblk m c 3 t)
  have h8 := out0_A_8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 4 t) (iblk m c 5 t) hb ((hcond0_0 t).mpr h0) (iblk m c 3 t)
  have e := outsAt0_A m c t h0
  have e7 := congrArg (fun x => x.2.1) e
  have e8 := congrArg (fun x => x.2.2) e
  dsimp only at e7 e8
  have c2 := (coord2 t).trans h0
  have g7 := held_of (pair P D (t.val / 16) (t.val / 4 % 4)).partK e7 c2 h7
  have g8 := held_of (pair P D (t.val / 16) (t.val / 4 % 4)).partV e8 c2 h8
  exact ⟨g7, g8⟩

/-- The keys' and values' gradients after a later point, over what the point before left. -/
theorem later_at (t : Fin cfg0.N) (h0 : ¬ t.val % 4 = 0) (old10 old11 : ℕ → ℕ → ℝ)
    (h10 : Held (outsAt0 m c (t.val - 1) (Nat.lt_of_le_of_lt (Nat.sub_le _ _) t.isLt)).2.1 old10 ((pair P D (t.val / 16) (t.val / 4 % 4)).partK (t.val % 4)) 0)
    (h11 : Held (outsAt0 m c (t.val - 1) (Nat.lt_of_le_of_lt (Nat.sub_le _ _) t.isLt)).2.2 old11 ((pair P D (t.val / 16) (t.val / 4 % 4)).partV (t.val % 4)) 0) :
    Held (outsAt0 m c t.val t.isLt).2.1 old10 ((pair P D (t.val / 16) (t.val / 4 % 4)).partK (t.val % 4)) (t.val % 4 + 1)
    ∧ Held (outsAt0 m c t.val t.isLt).2.2 old11 ((pair P D (t.val / 16) (t.val / 4 % 4)).partV (t.val % 4)) (t.val % 4 + 1) := by
  have hb := blkIn H t
  have g10 := held_before (pair P D (t.val / 16) (t.val / 4 % 4)).partK (coord2 t).symm h10
  have g11 := held_before (pair P D (t.val / 16) (t.val / 4 % 4)).partV (coord2 t).symm h11
  exact ⟨held_of _ (congrArg (fun x => x.2.1) (outsAt0_B m c t h0)) (coord2 t) (out0_B_7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 4 t) (iblk m c 5 t) hb (outsAt0 m c (t.val - 1) (Nat.lt_of_le_of_lt (Nat.sub_le _ _) t.isLt)).2.1 (outsAt0 m c (t.val - 1) (Nat.lt_of_le_of_lt (Nat.sub_le _ _) t.isLt)).2.2 g10 g11 (fun h => h0 ((hcond0_0 t).mp h)) (iblk m c 3 t)),
    held_of _ (congrArg (fun x => x.2.2) (outsAt0_B m c t h0)) (coord2 t) (out0_B_8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 4 t) (iblk m c 5 t) hb (outsAt0 m c (t.val - 1) (Nat.lt_of_le_of_lt (Nat.sub_le _ _) t.isLt)).2.1 (outsAt0 m c (t.val - 1) (Nat.lt_of_le_of_lt (Nat.sub_le _ _) t.isLt)).2.2 g10 g11 (fun h => h0 ((hcond0_0 t).mp h)) (iblk m c 3 t))⟩

theorem outs_at (n : ℕ) (hn : n < cfg0.N) :
    Held (outsAt0 m c n hn).2.1 (fun s l => ∑ j ∈ Finset.range (n % 4 + 1), (pair P D (n / 16) (n / 4 % 4)).partK j s l) ((pair P D (n / 16) (n / 4 % 4)).partK (n % 4 + 1)) 0
    ∧ Held (outsAt0 m c n hn).2.2 (fun s l => ∑ j ∈ Finset.range (n % 4 + 1), (pair P D (n / 16) (n / 4 % 4)).partV j s l) ((pair P D (n / 16) (n / 4 % 4)).partV (n % 4 + 1)) 0 := by
  induction n with
  | zero =>
    obtain ⟨h7, h8⟩ := first_at H ⟨0, hn⟩ rfl
    exact ⟨parts_next _ (partK_zero _) _ _ (parts_first _ _ h7), parts_next _ (partV_zero _) _ _ (parts_first _ _ h8)⟩
  | succ n ih =>
    refine ⟨parts_next _ (partK_zero _) _ _ ?_, parts_next _ (partV_zero _) _ _ ?_⟩ <;> by_cases h0 : (n + 1) % 4 = 0
    · rw [h0]; exact parts_first _ _ (first_at H ⟨n + 1, hn⟩ h0).1
    · obtain ⟨h7, h8⟩ := ih (by omega)
      rw [show n / 16 = (n + 1) / 16 by omega, show n / 4 % 4 = (n + 1) / 4 % 4 by omega, show n % 4 + 1 = (n + 1) % 4 by omega] at h7 h8
      exact (later_at H ⟨n + 1, hn⟩ h0 _ _ h7 h8).1
    · rw [h0]; exact parts_first _ _ (first_at H ⟨n + 1, hn⟩ h0).2
    · obtain ⟨h7, h8⟩ := ih (by omega)
      rw [show n / 16 = (n + 1) / 16 by omega, show n / 4 % 4 = (n + 1) / 4 % 4 by omega, show n % 4 + 1 = (n + 1) % 4 by omega] at h7 h8
      exact (later_at H ⟨n + 1, hn⟩ h0 _ _ h7 h8).2

omit H in
theorem tile_of {x : EReal} (f : ℕ → ℝ) {i j : ℕ} (hij : i = j) (h : x = ((f i : ℝ) : EReal)) : x = ((f j : ℝ) : EReal) := by
  subst hij
  exact h

/-- The queries' gradient that a point leaves. -/
theorem dq_at (t : Fin cfg0.N) (r : Fin 512) (l : Fin 128) : (outsAt0 m c t.val t.isLt).1 (ix3 0 r l)
    = ((DQ (Hq P (t.val / 16) (2 * (t.val / 4 % 4) + l.val / 64)) (Hk P (t.val / 16) (2 * (t.val / 4 % 4) + l.val / 64)) (Hv P (t.val / 16) (2 * (t.val / 4 % 4) + l.val / 64))
      (Ho D (t.val / 16) (2 * (t.val / 4 % 4) + l.val / 64)) (512 * (t.val % 4) + r.val) (l.val % 64) : ℝ) : EReal) := by
  have hb := blkIn H t
  rw [← dq_total P D (t.val / 16) (t.val / 4 % 4) (t.val % 4) r l (by omega) r.isLt l.isLt]
  refine tile_of (fun i => (if l.val < 64 then ∑ s ∈ Finset.range (512 * (i + 1)), (pair P D (t.val / 16) (t.val / 4 % 4)).dz 0 (512 * i + r.val) s * (pair P D (t.val / 16) (t.val / 4 % 4)).k s l.val
      else ∑ s ∈ Finset.range (512 * (i + 1)), (pair P D (t.val / 16) (t.val / 4 % 4)).dz 1 (512 * i + r.val) s * (pair P D (t.val / 16) (t.val / 4 % 4)).k s l.val) * (1 / 8)) (coord2 t) ?_
  by_cases h0 : t.val % 4 = 0
  · have e6 := congrFun (congrArg (fun x => x.1) (outsAt0_A m c t h0)) (ix3 0 r l)
    dsimp only at e6
    exact e6.trans (out0_A_6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 4 t) (iblk m c 5 t) hb ((hcond0_0 t).mpr h0) (iblk m c 3 t) r l)
  · have ht : t.val < cfg0.N := t.isLt
    obtain ⟨h7, h8⟩ := outs_at H (t.val - 1) (by omega)
    rw [show (t.val - 1) / 16 = t.val / 16 by omega, show (t.val - 1) / 4 % 4 = t.val / 4 % 4 by omega, show (t.val - 1) % 4 + 1 = t.val % 4 by omega] at h7 h8
    have g10 := held_before (pair P D (t.val / 16) (t.val / 4 % 4)).partK (coord2 t).symm h7
    have g11 := held_before (pair P D (t.val / 16) (t.val / 4 % 4)).partV (coord2 t).symm h8
    have e6 := congrFun (congrArg (fun x => x.1) (outsAt0_B m c t h0)) (ix3 0 r l)
    dsimp only at e6
    exact e6.trans (out0_B_6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 4 t) (iblk m c 5 t) hb (outsAt0 m c (t.val - 1) (Nat.lt_of_le_of_lt (Nat.sub_le _ _) t.isLt)).2.1 (outsAt0 m c (t.val - 1) (Nat.lt_of_le_of_lt (Nat.sub_le _ _) t.isLt)).2.2 g10 g11 (fun h => h0 ((hcond0_0 t).mp h)) (iblk m c 3 t) r l)

/-- The keys' gradient that a pair's last point leaves. -/
theorem dk_at (t : Fin cfg0.N) (h3 : t.val % 4 = 3) (s : Fin 2048) (l : Fin 128) : (outsAt0 m c t.val t.isLt).2.1 (ix3 0 s l)
    = ((DK (Hq P (t.val / 16) (2 * (t.val / 4 % 4) + l.val / 64)) (Hk P (t.val / 16) (2 * (t.val / 4 % 4) + l.val / 64)) (Hv P (t.val / 16) (2 * (t.val / 4 % 4) + l.val / 64))
      (Ho D (t.val / 16) (2 * (t.val / 4 % 4) + l.val / 64)) s.val (l.val % 64) : ℝ) : EReal) := by
  rw [← partK_total P D (t.val / 16) (t.val / 4 % 4) s l l.isLt]
  have h := (outs_at H t.val t.isLt).1 s l
  rw [h3, Nat.mul_zero, if_neg (Nat.not_lt_zero _), add_zero] at h
  exact h

/-- The values' gradient that a pair's last point leaves. -/
theorem dv_at (t : Fin cfg0.N) (h3 : t.val % 4 = 3) (s : Fin 2048) (l : Fin 128) : (outsAt0 m c t.val t.isLt).2.2 (ix3 0 s l)
    = ((DV (Hq P (t.val / 16) (2 * (t.val / 4 % 4) + l.val / 64)) (Hk P (t.val / 16) (2 * (t.val / 4 % 4) + l.val / 64))
      (Ho D (t.val / 16) (2 * (t.val / 4 % 4) + l.val / 64)) s.val (l.val % 64) : ℝ) : EReal) := by
  rw [← partV_total P D (t.val / 16) (t.val / 4 % 4) s l l.isLt]
  have h := (outs_at H t.val t.isLt).2 s l
  rw [h3, Nat.mul_zero, if_neg (Nat.not_lt_zero _), add_zero] at h
  exact h

end Cert.KernelIdeal.Value

end
-- ==== Proof.Window.lean ====
/- Running sums along a row, as the reference computes them: a window sum over the padded row. -/
module

public import proofs.«01_k».proof.Proof.Gen.ReferenceIdeal.Run
public import proofs.«01_k».proof.Proof.Softplus
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem Idealize.ShloMosaic.StableHlo

namespace Cert.ReferenceIdeal.Value

open Cert.ReferenceIdeal Cert.ReferenceIdeal.Gen Cert.SB

theorem foldl_add_sum {ι : Type} (l : List ι) (g : ι → EReal) (a : EReal) : l.foldl (fun r n => r + g n) a = a + (l.map g).sum := by
  induction l generalizing a with
  | nil => simp
  | cons n l ih => rw [List.foldl_cons, ih, List.map_cons, List.sum_cons, add_assoc]

/-- One row of `N` elements. -/
abbrev rowShape (N : ℕ) : Shape := ⟨4, ![1, 1, 1, N]⟩

/-- A sum over the positions of a window of one row, in row-major order. -/
theorem sum_row {N : ℕ} (g : (rowShape N).Idx → EReal) :
    ((List.finRange (rowShape N).numel).map fun n => g ((rowShape N).rowMajor.symm n)).sum = ∑ n : Fin N, g (ix4 0 0 0 n) := by
  rw [← Fin.sum_univ_def, Equiv.sum_comp (rowShape N).rowMajor.symm g]
  refine Finset.sum_nbij' (fun i => (i 3 : Fin N)) (fun n => ix4 0 0 0 n) (fun _ _ => Finset.mem_univ _) (fun _ _ => Finset.mem_univ _) (fun i _ => ?_) (fun n _ => rfl) (fun i _ => congrArg g ?_)
  all_goals
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

theorem sum_up (f : ℕ → ℝ) (L s : ℕ) (hs : s < L) : ∑ n ∈ Finset.range L, (if s + n < L then f (s + n) else 0) = ∑ i ∈ Finset.range L, if s ≤ i then f i else 0 := by
  rw [← Finset.sum_filter, ← Finset.sum_filter]
  have h1 : (Finset.range L).filter (fun n => s + n < L) = Finset.range (L - s) := by ext n; simp only [Finset.mem_filter, Finset.mem_range]; omega
  have h2 : (Finset.range L).filter (fun n => s ≤ n) = Finset.Ico s L := by ext n; simp only [Finset.mem_filter, Finset.mem_range, Finset.mem_Ico]; omega
  rw [h1, h2, Finset.sum_Ico_eq_sum_range]

theorem sum_down (f : ℕ → ℝ) (M s : ℕ) (hs : s < M + 1) : ∑ n ∈ Finset.range (M + 1), (if M ≤ s + n then f (s + n - M) else 0) = ∑ i ∈ Finset.range (s + 1), f i := by
  rw [← Finset.sum_filter]
  have h1 : (Finset.range (M + 1)).filter (fun n => M ≤ s + n) = Finset.Ico (M - s) (M + 1) := by ext n; simp only [Finset.mem_filter, Finset.mem_range, Finset.mem_Ico]; omega
  rw [h1, Finset.sum_Ico_eq_sum_range, show M + 1 - (M - s) = s + 1 by omega]
  refine Finset.sum_congr rfl fun i _ => congrArg f (by omega)

theorem zero_bcast (j : S_.Idx) : broadcastInDim S_ ![] bcast_S_S_ (constant (F := Ideal) S_ .f32 0x00000000#32) j = 0 := by
  show Ideal.ofBits .f32 0x00000000#32 = 0
  exact Ideal.ofBits_zero _

/-- The window sum over a row padded high: the sum of the row from `s` on. -/
theorem wsum_up (x : FVec Ideal S2x8x2048x2048 .f32) (b : Fin 2) (h : Fin 8) (r s : Fin 2048) (f : ℕ → ℝ) (hx : ∀ i : Fin 2048, x (ix4 b h r i) = ((f i.val : ℝ) : EReal)) :
    Host.reduceWindowAdd (F := Ideal) ![1, 1, 1, 2048] ![1, 1, 1, 1] ![0, 0, 0, 0] ![0, 0, 0, 2047] x (broadcastInDim S_ ![] bcast_S_S_ (constant S_ .f32 0x00000000#32)) reduceWindows_S2x8x2048x2048_S2x8x2048x2048_w1s1p0_0_w1s1p0_0_w1s1p0_0_w2048s1p0_2047 h_S_ (ix4 b h r s)
      = ((∑ i ∈ Finset.range 2048, (if s.val ≤ i then f i else 0) : ℝ) : EReal) := by
  unfold Host.reduceWindowAdd
  rw [Ideal.hostReduceWindowAdd_def, zero_bcast]
  unfold Ideal.hostReduceWindowAdd Host.reduceWindow
  dsimp only
  refine (foldl_add_sum _ _ _).trans ?_
  rw [zero_add]
  refine ((congrArg List.sum (List.map_congr_left fun n _ => dite_congr rfl (fun _ => rfl) (fun _ => rfl))).trans (sum_row (N := 2048) fun w => if hin : ∀ a : Fin 4, (![0, 0, 0, 0] : Fin 4 → ℕ) a ≤ (ix4 b h r s a).val * (![1, 1, 1, 1] : Fin 4 → ℕ) a + (w a).val
      ∧ (ix4 b h r s a).val * (![1, 1, 1, 1] : Fin 4 → ℕ) a + (w a).val - (![0, 0, 0, 0] : Fin 4 → ℕ) a < S2x8x2048x2048.size a
    then x (fun a => ⟨(ix4 b h r s a).val * (![1, 1, 1, 1] : Fin 4 → ℕ) a + (w a).val - (![0, 0, 0, 0] : Fin 4 → ℕ) a, (hin a).2⟩) else 0)).trans ?_
  rw [← sum_up f 2048 s.val s.isLt, ← Fin.sum_univ_eq_sum_range (fun n => if s.val + n < 2048 then f (s.val + n) else 0), ← coe_sum]
  refine Finset.sum_congr rfl fun n _ => ?_
  by_cases hn : s.val + n.val < 2048
  · rw [dif_pos, if_pos hn, ← hx ⟨s.val + n.val, hn⟩]
    · congr 1
      funext a
      apply Fin.ext
      match a with
      | ⟨0, _⟩ => show b.val * 1 + 0 - 0 = b.val; omega
      | ⟨1, _⟩ => show h.val * 1 + 0 - 0 = h.val; omega
      | ⟨2, _⟩ => show r.val * 1 + 0 - 0 = r.val; omega
      | ⟨3, _⟩ => show s.val * 1 + n.val - 0 = s.val + n.val; omega
    · intro a
      match a with
      | ⟨0, _⟩ => show 0 ≤ b.val * 1 + 0 ∧ b.val * 1 + 0 - 0 < 2; omega
      | ⟨1, _⟩ => show 0 ≤ h.val * 1 + 0 ∧ h.val * 1 + 0 - 0 < 8; omega
      | ⟨2, _⟩ => show 0 ≤ r.val * 1 + 0 ∧ r.val * 1 + 0 - 0 < 2048; omega
      | ⟨3, _⟩ => show 0 ≤ s.val * 1 + n.val ∧ s.val * 1 + n.val - 0 < 2048; omega
  · rw [dif_neg, if_neg hn]
    · rfl
    · intro hin
      have h3 := (hin 3).2
      change s.val * 1 + n.val - 0 < 2048 at h3
      omega

/-- The window sum over a row padded low: the sum of the row up to `s`. -/
theorem wsum_down (x : FVec Ideal S2x8x2048x2048 .f32) (b : Fin 2) (h : Fin 8) (r s : Fin 2048) (f : ℕ → ℝ) (hx : ∀ i : Fin 2048, x (ix4 b h r i) = ((f i.val : ℝ) : EReal)) :
    Host.reduceWindowAdd (F := Ideal) ![1, 1, 1, 2048] ![1, 1, 1, 1] ![0, 0, 0, 2047] ![0, 0, 0, 0] x (broadcastInDim S_ ![] bcast_S_S_ (constant S_ .f32 0x00000000#32)) reduceWindows_S2x8x2048x2048_S2x8x2048x2048_w1s1p0_0_w1s1p0_0_w1s1p0_0_w2048s1p2047_0 h_S_ (ix4 b h r s)
      = ((∑ i ∈ Finset.range (s.val + 1), f i : ℝ) : EReal) := by
  unfold Host.reduceWindowAdd
  rw [Ideal.hostReduceWindowAdd_def, zero_bcast]
  unfold Ideal.hostReduceWindowAdd Host.reduceWindow
  dsimp only
  refine (foldl_add_sum _ _ _).trans ?_
  rw [zero_add]
  refine ((congrArg List.sum (List.map_congr_left fun n _ => dite_congr rfl (fun _ => rfl) (fun _ => rfl))).trans (sum_row (N := 2048) fun w => if hin : ∀ a : Fin 4, (![0, 0, 0, 2047] : Fin 4 → ℕ) a ≤ (ix4 b h r s a).val * (![1, 1, 1, 1] : Fin 4 → ℕ) a + (w a).val
      ∧ (ix4 b h r s a).val * (![1, 1, 1, 1] : Fin 4 → ℕ) a + (w a).val - (![0, 0, 0, 2047] : Fin 4 → ℕ) a < S2x8x2048x2048.size a
    then x (fun a => ⟨(ix4 b h r s a).val * (![1, 1, 1, 1] : Fin 4 → ℕ) a + (w a).val - (![0, 0, 0, 2047] : Fin 4 → ℕ) a, (hin a).2⟩) else 0)).trans ?_
  rw [← sum_down f 2047 s.val s.isLt, ← Fin.sum_univ_eq_sum_range (fun n => if 2047 ≤ s.val + n then f (s.val + n - 2047) else 0), ← coe_sum]
  refine Finset.sum_congr rfl fun n _ => ?_
  have hs := s.isLt
  have hn' := n.isLt
  by_cases hn : 2047 ≤ s.val + n.val
  · rw [dif_pos, if_pos hn, ← hx ⟨s.val + n.val - 2047, by omega⟩]
    · congr 1
      funext a
      apply Fin.ext
      match a with
      | ⟨0, _⟩ => show b.val * 1 + 0 - 0 = b.val; omega
      | ⟨1, _⟩ => show h.val * 1 + 0 - 0 = h.val; omega
      | ⟨2, _⟩ => show r.val * 1 + 0 - 0 = r.val; omega
      | ⟨3, _⟩ => show s.val * 1 + n.val - 2047 = s.val + n.val - 2047; omega
    · intro a
      match a with
      | ⟨0, _⟩ => show 0 ≤ b.val * 1 + 0 ∧ b.val * 1 + 0 - 0 < 2; omega
      | ⟨1, _⟩ => show 0 ≤ h.val * 1 + 0 ∧ h.val * 1 + 0 - 0 < 8; omega
      | ⟨2, _⟩ => show 0 ≤ r.val * 1 + 0 ∧ r.val * 1 + 0 - 0 < 2048; omega
      | ⟨3, _⟩ => show 2047 ≤ s.val * 1 + n.val ∧ s.val * 1 + n.val - 2047 < 2048; omega
  · rw [dif_neg, if_neg hn]
    · rfl
    · intro hin
      have h3 := (hin 3).1
      change 2047 ≤ s.val * 1 + n.val at h3
      omega

/-- A row shifted by one, a zero before it. -/
theorem shift_down (x : FVec Ideal S2x8x2048x2048 .f32) (b : Fin 2) (h : Fin 8) (r s : Fin 2048) (f : ℕ → ℝ) (hx : ∀ i : Fin 2048, x (ix4 b h r i) = ((f i.val : ℝ) : EReal)) :
    pad S2x8x2048x2048 ![0, 0, 0, 1] ![0, 0, 0, 0] ![0, 0, 0, 0] (extractStridedSlice S2x8x2048x2047 ![0, 0, 0, 0] x slices_S2x8x2048x2048_S2x8x2048x2047_0_0_0_0) (constant (F := Ideal) S_ .f32 0x00000000#32) pads_S2x8x2048x2047_S2x8x2048x2048_000_000_000_100 h_S_ (ix4 b h r s)
      = (((if 0 < s.val then f (s.val - 1) else 0 : ℝ)) : EReal) := by
  have hs := s.isLt
  unfold pad
  dsimp only
  by_cases h0 : 0 < s.val
  · rw [dif_pos, if_pos h0, ← hx ⟨s.val - 1, by omega⟩]
    · unfold extractStridedSlice
      congr 1
      funext a
      apply Fin.ext
      match a with
      | ⟨0, _⟩ => show 0 + (b.val - 0) / 1 = b.val; omega
      | ⟨1, _⟩ => show 0 + (h.val - 0) / 1 = h.val; omega
      | ⟨2, _⟩ => show 0 + (r.val - 0) / 1 = r.val; omega
      | ⟨3, _⟩ => show 0 + (s.val - 1) / 1 = s.val - 1; omega
    · intro a
      match a with
      | ⟨0, _⟩ => show 0 ≤ b.val ∧ (b.val - 0) % 1 = 0 ∧ (b.val - 0) / 1 < 2; omega
      | ⟨1, _⟩ => show 0 ≤ h.val ∧ (h.val - 0) % 1 = 0 ∧ (h.val - 0) / 1 < 8; omega
      | ⟨2, _⟩ => show 0 ≤ r.val ∧ (r.val - 0) % 1 = 0 ∧ (r.val - 0) / 1 < 2048; omega
      | ⟨3, _⟩ => show 1 ≤ s.val ∧ (s.val - 1) % 1 = 0 ∧ (s.val - 1) / 1 < 2047; omega
  · rw [dif_neg, if_neg h0]
    · show Ideal.ofBits .f32 0x00000000#32 = ((0 : ℝ) : EReal)
      exact Ideal.ofBits_zero _
    · intro hin
      have h3 := (hin 3).1
      change 1 ≤ s.val at h3
      omega

theorem sum_shift (f : ℕ → ℝ) (s : ℕ) : ∑ i ∈ Finset.range (s + 1), (if 0 < i then f (i - 1) else 0) = ∑ i ∈ Finset.range s, f i := by
  rw [Finset.sum_range_succ']
  simp

end Cert.ReferenceIdeal.Value

end
-- ==== Proof.RefAt.lean ====
/- The reference's intermediate values at an index: the scores, the weights and their gradients. -/
module

public import proofs.«01_k».proof.Proof.Window
public import proofs.«01_k».proof.Proof.Arrays
public import Idealize.ShloMosaic.Lib.WordCmp

@[expose] public section

set_option maxRecDepth 16384

noncomputable section

open Idealize.ShloMosaic Idealize.ShloMosaic.TcCoe Idealize.SL.Sem Idealize.ShloMosaic.StableHlo

namespace Cert.ReferenceIdeal.Value

open Cert.ReferenceIdeal Cert.ReferenceIdeal.Gen Cert.SB

/-- What the reference's first and third arguments hold, as arrays. -/
def arr0 (V0 : Valuation τ sig (Elt Ideal)) : ProjShape.Idx → EReal := V0 (Proc.devRef .tc main_arg0)
def arr2 (V0 : Valuation τ sig (Elt Ideal)) : OutShape.Idx → EReal := V0 (Proc.devRef .tc main_arg2)

variable {V0 : Valuation τ sig (Elt Ideal)} {P D : ℕ → ℕ → ℕ → ℝ} (H : Reals (arr0 V0) (arr2 V0) P D)

/-- A choice by a mask of real entries. -/
theorem select_mask (p : Prop) [Decidable p] (x y : EReal) : Scalar.select (if p then 1#1 else 0#1) x y = if p then x else y := by
  by_cases h : p
  · rw [if_pos h, if_pos h]; rfl
  · rw [if_neg h, if_neg h]; rfl

/-- One eighth, as the reference's constant holds it. -/
theorem eighth_word : Ideal.ofBits .f32 0x3E000000#32 = ((1 / 8 : ℝ) : EReal) := by
  simp [Ideal.ofBits, Ideal.ieee, -EReal.coe_mul]
  norm_num

theorem zero_word : (constant (F := Ideal) S_ .f32 0x00000000#32 ix0 : EReal) = ((0 : ℝ) : EReal) := by
  show Ideal.ofBits .f32 0x00000000#32 = ((0 : ℝ) : EReal)
  simp [Ideal.ofBits, Ideal.ieee]

/-- The infinity that the guards look for. -/
theorem inf_word : Ideal.ofBits .f32 0x7F800000#32 = (⊤ : EReal) := by
  simp [Ideal.ofBits, Ideal.ieee]

/-- A real is not that infinity. -/
theorem guard_coe (z : ℝ) (y : EReal) : (if (z : EReal) = Ideal.ofBits .f32 0x7F800000#32 then y else (z : EReal)) = (z : EReal) := by
  rw [inf_word, if_neg (EReal.coe_ne_top z)]

/-- The gradient of a score, from its two terms. -/
theorem dz_coe (g z t : ℝ) :
    (-(-(g : EReal) * Ideal.exp (((-z : ℝ) : EReal) - ((-(lsn z + z) : ℝ) : EReal))) + - -(-(t : EReal) * Ideal.exp ((z : EReal) - ((-lsn z : ℝ) : EReal)))) * ((1 / 8 : ℝ) : EReal)
      = (((g * (1 - Real.exp (lsn z + z)) - t * Real.exp (lsn z + z)) * (1 / 8) : ℝ) : EReal) := by
  rw [← EReal.coe_sub, ← EReal.coe_sub, Ideal.exp_coe, Ideal.exp_coe, ← EReal.coe_neg, ← EReal.coe_neg, ← EReal.coe_mul, ← EReal.coe_mul, ← EReal.coe_neg, ← EReal.coe_neg, ← EReal.coe_neg, ← EReal.coe_add,
    ← EReal.coe_mul, show -z - -(lsn z + z) = lsn z by ring, exp_lsn_compl, show z - -lsn z = lsn z + z by ring]
  congr 1
  ring

include H

theorem v4_at (b : Fin 2) (s : Fin 2048) (h : Fin 8) (d : Fin 64) : res_main_v4 V0 (ix4 b s h d) = ((Hq P b.val h.val s.val d.val : ℝ) : EReal) := by
  refine Eq.trans ?_ (H.hx b s ⟨3840 + 64 * h.val + d.val, by omega⟩ (by show 3840 ≤ 3840 + 64 * h.val + d.val; omega) (by show 3840 + 64 * h.val + d.val < 5376; omega))
  pointwise [res_main_v4, res_main_v2]
  unfold arr0
  blk_ext

theorem v6_at (b : Fin 2) (s : Fin 2048) (h : Fin 8) (d : Fin 64) : res_main_v6 V0 (ix4 b s h d) = ((Hk P b.val h.val s.val d.val : ℝ) : EReal) := by
  refine Eq.trans ?_ (H.hx b s ⟨4352 + 64 * h.val + d.val, by omega⟩ (by show 3840 ≤ 4352 + 64 * h.val + d.val; omega) (by show 4352 + 64 * h.val + d.val < 5376; omega))
  pointwise [res_main_v6, res_main_v2]
  unfold arr0
  blk_ext

theorem v8_at (b : Fin 2) (s : Fin 2048) (h : Fin 8) (d : Fin 64) : res_main_v8 V0 (ix4 b s h d) = ((Hv P b.val h.val s.val d.val : ℝ) : EReal) := by
  refine Eq.trans ?_ (H.hx b s ⟨4864 + 64 * h.val + d.val, by omega⟩ (by show 3840 ≤ 4864 + 64 * h.val + d.val; omega) (by show 4864 + 64 * h.val + d.val < 5376; omega))
  pointwise [res_main_v8, res_main_v2]
  unfold arr0
  blk_ext

theorem v36_at (b : Fin 2) (h : Fin 8) (d : Fin 64) (r : Fin 2048) : res_main_v36 V0 (ix4 b h d r) = ((Ho D b.val h.val r.val d.val : ℝ) : EReal) := by
  refine Eq.trans ?_ (H.hy b r ⟨64 * h.val + d.val, by omega⟩)
  pointwise [res_main_v36]
  unfold arr2
  blk_ext

theorem v11_at (b : Fin 2) (h : Fin 8) (r s : Fin 2048) : res_main_v11 V0 (ix4 b h r s) = ((Z (Hq P b.val h.val) (Hk P b.val h.val) r.val s.val : ℝ) : EReal) := by
  pointwise [res_main_v11]
  rw [eighth_word, Finset.sum_congr rfl fun d _ => by rw [v4_at H, v6_at H, ← EReal.coe_mul], coe_sum, ← EReal.coe_mul]
  rfl

omit H in
theorem v18_at (r s : Fin 2048) : res_main_v18 V0 (ix2 r s) = if s.val < r.val then 1#1 else 0#1 := by
  pointwise [res_main_v18]
  word_cmp
  split_ifs with h <;> simp [h]

omit H in
theorem v21_1_at (b : Fin 2) (h : Fin 8) (r s : Fin 2048) : res_main_v21_1 V0 (ix4 b h r s) = if s.val < r.val then 1#1 else 0#1 := by
  refine Eq.trans ?_ (v18_at (V0 := V0) r s)
  pointwise [res_main_v21_1]

omit H in
theorem v31_1_at (b : Fin 2) (h : Fin 8) (r s : Fin 2048) : res_main_v31_1 V0 (ix4 b h r s) = if s.val < r.val then 1#1 else 0#1 := by
  refine Eq.trans ?_ (v18_at (V0 := V0) r s)
  pointwise [res_main_v31_1]

theorem c0_at (b : Fin 2) (h : Fin 8) (r s : Fin 2048) : res_main_call0_v0 V0 (ix4 b h r s) = ((Z (Hq P b.val h.val) (Hk P b.val h.val) r.val s.val : ℝ) : EReal) := by
  pointwise [res_main_call0_v0]
  rw [v11_at H, ← EReal.coe_neg, ← EReal.coe_neg, neg_neg]

theorem sp0_at (b : Fin 2) (h : Fin 8) (r s : Fin 2048) : res_main_call0_v1_0 V0 (ix4 b h r s) = ((-lsn (Z (Hq P b.val h.val) (Hk P b.val h.val) r.val s.val) : ℝ) : EReal) := by
  pointwise [res_main_call0_v1_0, res_main_call0_call0_v3, res_main_call0_call0_cst]
  rw [c0_at H]
  exact softplus_coe _

theorem v22_at (b : Fin 2) (h : Fin 8) (r s : Fin 2048) : res_main_v22 V0 (ix4 b h r s) = ((∑ i ∈ Finset.range 2048, (if s.val ≤ i then Lm (Hq P b.val h.val) (Hk P b.val h.val) r.val i else 0) : ℝ) : EReal) := by
  unfold res_main_v22
  refine wsum_up _ b h r s (Lm (Hq P b.val h.val) (Hk P b.val h.val) r.val) fun i => ?_
  pointwise
  rw [v21_1_at, sp0_at H, select_mask, ← EReal.coe_neg, neg_neg, id, zero_word, coe_ite]
  rfl

theorem c3_at (b : Fin 2) (h : Fin 8) (r s : Fin 2048) : res_main_call3_v0 V0 (ix4 b h r s) = ((-Z (Hq P b.val h.val) (Hk P b.val h.val) r.val s.val : ℝ) : EReal) := by
  pointwise [res_main_call3_v0]
  rw [v11_at H]
  rfl

theorem sp3_at (b : Fin 2) (h : Fin 8) (r s : Fin 2048) : res_main_call3_v1_0 V0 (ix4 b h r s)
    = ((-(lsn (Z (Hq P b.val h.val) (Hk P b.val h.val) r.val s.val) + Z (Hq P b.val h.val) (Hk P b.val h.val) r.val s.val) : ℝ) : EReal) := by
  pointwise [res_main_call3_v1_0, res_main_call3_call0_v3, res_main_call3_call0_cst]
  rw [c3_at H, ← lsn_neg]
  exact softplus_coe _

/-- The weight before the mask. -/
def W (q k : ℕ → ℕ → ℝ) (r s : ℕ) : ℝ := Real.exp (lsn (Z q k r s) + Z q k r s + ∑ i ∈ Finset.range 2048, if s < i then Lm q k r i else 0)

theorem v30_at (b : Fin 2) (h : Fin 8) (r s : Fin 2048) : res_main_v30 V0 (ix4 b h r s) = ((W (Hq P b.val h.val) (Hk P b.val h.val) r.val s.val : ℝ) : EReal) := by
  have e : (@dite EReal (s.val < 2047) _ (fun g => res_main_v22 V0 (ix4 b h r ⟨1 + s.val, by omega⟩)) (fun _ => 0))
      = ((∑ i ∈ Finset.range 2048, (if s.val < i then Lm (Hq P b.val h.val) (Hk P b.val h.val) r.val i else 0) : ℝ) : EReal) := by
    by_cases g : s.val < 2047
    · rw [dif_pos g, v22_at H]
      congr 1
      refine Finset.sum_congr rfl fun i _ => ?_
      show (if 1 + s.val ≤ i then _ else _) = _
      simp only [Nat.add_comm 1, Nat.succ_le_iff]
    · rw [dif_neg g, Finset.sum_eq_zero fun i hi => if_neg (by have := Finset.mem_range.mp hi; omega)]
      rfl
  pointwise [res_main_v30]
  rw [sp3_at H, e, ← EReal.coe_neg, neg_neg, ← EReal.coe_add, Ideal.exp_coe]
  rfl

theorem v31_at (b : Fin 2) (h : Fin 8) (r s : Fin 2048) : res_main_v31_0 V0 (ix4 b h r s) = ((A (Hq P b.val h.val) (Hk P b.val h.val) r.val s.val : ℝ) : EReal) := by
  pointwise [res_main_v31_0]
  rw [v31_1_at, v30_at H, select_mask, id, zero_word, coe_ite]
  rfl

theorem v41_at (b : Fin 2) (h : Fin 8) (r s : Fin 2048) : res_main_v41 V0 (ix4 b h r s)
    = ((G (Hq P b.val h.val) (Hk P b.val h.val) (Hv P b.val h.val) (Ho D b.val h.val) r.val s.val : ℝ) : EReal) := by
  pointwise [res_main_v41]
  rw [v31_1_at, v30_at H, select_mask, Finset.sum_congr rfl fun d _ => by rw [v36_at H, v8_at H, ← EReal.coe_mul], coe_sum, show (0 : EReal) = ((0 : ℝ) : EReal) from rfl, ← EReal.coe_mul, coe_ite]
  unfold G A
  congr 1
  split_ifs
  · rfl
  · rw [mul_zero]

/-- The sum of a row's weighted gradients before key `s`. -/
theorem before_at (b : Fin 2) (h : Fin 8) (r s : Fin 2048) :
    Host.reduceWindowAdd (F := Ideal) ![1, 1, 1, 2048] ![1, 1, 1, 1] ![0, 0, 0, 2047] ![0, 0, 0, 0] (pad S2x8x2048x2048 ![0, 0, 0, 1] ![0, 0, 0, 0] ![0, 0, 0, 0] (extractStridedSlice S2x8x2048x2047 ![0, 0, 0, 0] (res_main_v41 V0) slices_S2x8x2048x2048_S2x8x2048x2047_0_0_0_0) (constant S_ .f32 0x00000000#32) pads_S2x8x2048x2047_S2x8x2048x2048_000_000_000_100 h_S_) (broadcastInDim S_ ![] bcast_S_S_ (constant S_ .f32 0x00000000#32)) reduceWindows_S2x8x2048x2048_S2x8x2048x2048_w1s1p0_0_w1s1p0_0_w1s1p0_0_w2048s1p2047_0 h_S_ (ix4 b h r s)
      = ((∑ i ∈ Finset.range s.val, G (Hq P b.val h.val) (Hk P b.val h.val) (Hv P b.val h.val) (Ho D b.val h.val) r.val i : ℝ) : EReal) := by
  rw [← sum_shift]
  exact wsum_down _ b h r s _ fun i => shift_down _ b h r i _ fun j => v41_at H b h r j

theorem v52_at (b : Fin 2) (h : Fin 8) (r s : Fin 2048) : res_main_v52 V0 (ix4 b h r s)
    = ((DZ (Hq P b.val h.val) (Hk P b.val h.val) (Hv P b.val h.val) (Ho D b.val h.val) r.val s.val * (1 / 8) : ℝ) : EReal) := by
  have hb := before_at H b h r s
  pointwise [res_main_v52]
  rewrite [hb, v41_at H, c3_at H, sp3_at H, c0_at H, sp0_at H, v21_1_at, select_mask, eighth_word, guard_coe, guard_coe, guard_coe, guard_coe, show (0 : EReal) = ((0 : ℝ) : EReal) from rfl, coe_ite]
  rewrite [dz_coe]
  refine congrArg (fun x : ℝ => ((x * (1 / 8) : ℝ) : EReal)) ?_
  unfold DZ
  split_ifs with hm
  · rfl
  · rw [show G (Hq P b.val h.val) (Hk P b.val h.val) (Hv P b.val h.val) (Ho D b.val h.val) r.val s.val = 0 by unfold G A; rw [if_neg hm, mul_zero], zero_mul, zero_mul, sub_zero]

end Cert.ReferenceIdeal.Value

end
-- ==== Proof.RefOut.lean ====
/- The reference's three results at an index. -/
module

public import proofs.«01_k».proof.Proof.RefAt

@[expose] public section

set_option maxRecDepth 16384

noncomputable section

open Idealize.ShloMosaic Idealize.ShloMosaic.TcCoe Idealize.SL.Sem Idealize.ShloMosaic.StableHlo

namespace Cert.ReferenceIdeal.Value

open Cert.ReferenceIdeal Cert.ReferenceIdeal.Gen Cert.SB

/-- The reference's three results, as terms of its arguments. -/
def rDQ (V0 : Valuation τ sig (Elt Ideal)) : OutShape.Idx → EReal := truncf (F := Ideal) .bf16 (shapeCast _ (transpose S2x2048x8x64 [0, 2, 1, 3] (Host.dotGeneral (F := Ideal) (φ₁ := .f32) (φ₂ := .f32) dot_S2x8x2048x2048_S2x2048x8x64_S2x8x2048x64_3_1_2_3_01_02 none (res_main_v52 V0) (res_main_v6 V0)) transposes_S2x8x2048x64_S2x2048x8x64_0_2_1_3) shapeCasts_S2x2048x8x64_S2x2048x512) bitsLt_bf16_f32

def rDK (V0 : Valuation τ sig (Elt Ideal)) : OutShape.Idx → EReal := shapeCast _ (transpose S2x2048x8x64 [0, 2, 1, 3] (Host.dotGeneral (F := Ideal) (φ₁ := .f32) (φ₂ := .f32) dot_S2x8x2048x2048_S2x2048x8x64_S2x8x2048x64_2_1_3_3_01_02 none (res_main_v52 V0) (res_main_v4 V0)) transposes_S2x8x2048x64_S2x2048x8x64_0_2_1_3) shapeCasts_S2x2048x8x64_S2x2048x512

def rDV (V0 : Valuation τ sig (Elt Ideal)) : OutShape.Idx → EReal := shapeCast _ (transpose S2x2048x8x64 [0, 3, 1, 2] (Host.dotGeneral (F := Ideal) (φ₁ := .f32) (φ₂ := .f32) dot_S2x8x64x2048_S2x8x2048x2048_S2x8x64x2048_3_2_2_3_01_01 none (res_main_v36 V0) (res_main_v31_0 V0)) transposes_S2x8x64x2048_S2x2048x8x64_0_3_1_2) shapeCasts_S2x2048x8x64_S2x2048x512

variable {V0 : Valuation τ sig (Elt Ideal)} {P D : ℕ → ℕ → ℕ → ℝ} (H : Reals (arr0 V0) (arr2 V0) P D)

include H

theorem rDQ_at (b : Fin 2) (r : Fin 2048) (c : Fin 512) : rDQ V0 (ix3 b r c)
    = ((DQ (Hq P b.val (c.val / 64)) (Hk P b.val (c.val / 64)) (Hv P b.val (c.val / 64)) (Ho D b.val (c.val / 64)) r.val (c.val % 64) : ℝ) : EReal) := by
  pointwise [rDQ]
  rewrite [Finset.sum_congr rfl fun s _ => by rw [v52_at H, v6_at H, ← EReal.coe_mul], coe_sum]
  refine congrArg (fun x : ℝ => (x : EReal)) ?_
  unfold DQ
  rw [Finset.sum_mul, ← Fin.sum_univ_eq_sum_range]
  refine Finset.sum_congr rfl fun s _ => ?_
  ring

theorem rDK_at (b : Fin 2) (s : Fin 2048) (c : Fin 512) : rDK V0 (ix3 b s c)
    = ((DK (Hq P b.val (c.val / 64)) (Hk P b.val (c.val / 64)) (Hv P b.val (c.val / 64)) (Ho D b.val (c.val / 64)) s.val (c.val % 64) : ℝ) : EReal) := by
  pointwise [rDK]
  rewrite [Finset.sum_congr rfl fun s _ => by rw [v52_at H, v4_at H, ← EReal.coe_mul], coe_sum]
  refine congrArg (fun x : ℝ => (x : EReal)) ?_
  unfold DK
  rw [← Fin.sum_univ_eq_sum_range (fun r => DZ (Hq P b.val (c.val / 64)) (Hk P b.val (c.val / 64)) (Hv P b.val (c.val / 64)) (Ho D b.val (c.val / 64)) r s.val * (Hq P b.val (c.val / 64) r (c.val % 64) * (1 / 8)))]
  refine Finset.sum_congr rfl fun s _ => ?_
  ring

theorem rDV_at (b : Fin 2) (s : Fin 2048) (c : Fin 512) : rDV V0 (ix3 b s c)
    = ((DV (Hq P b.val (c.val / 64)) (Hk P b.val (c.val / 64)) (Ho D b.val (c.val / 64)) s.val (c.val % 64) : ℝ) : EReal) := by
  pointwise [rDV]
  rewrite [Finset.sum_congr rfl fun s _ => by rw [v36_at H, v31_at H, ← EReal.coe_mul], coe_sum]
  refine congrArg (fun x : ℝ => (x : EReal)) ?_
  unfold DV
  rw [← Fin.sum_univ_eq_sum_range (fun r => A (Hq P b.val (c.val / 64)) (Hk P b.val (c.val / 64)) r s.val * Ho D b.val (c.val / 64) r (c.val % 64))]
  refine Finset.sum_congr rfl fun s _ => ?_
  ring

end Cert.ReferenceIdeal.Value

end
-- ==== Proof.Final.lean ====
/- The result arrays after the run of the kernel, and those of the reference. -/
module

public import proofs.«01_k».proof.Proof.Points
public import proofs.«01_k».proof.Proof.RefOut

@[expose] public section

set_option maxRecDepth 16384

noncomputable section

open Idealize.ShloMosaic Idealize.ShloMosaic.TcCoe Idealize.SL.Sem

namespace Cert.SB

/-- The gradients of all heads' queries, keys and values, side by side as the results hold them. -/
def allDQ (P D : ℕ → ℕ → ℕ → ℝ) : OutShape.Idx → EReal := fun j =>
  ((DQ (Hq P (j 0).val ((j 2).val / 64)) (Hk P (j 0).val ((j 2).val / 64)) (Hv P (j 0).val ((j 2).val / 64)) (Ho D (j 0).val ((j 2).val / 64)) (j 1).val ((j 2).val % 64) : ℝ) : EReal)
def allDK (P D : ℕ → ℕ → ℕ → ℝ) : OutShape.Idx → EReal := fun j =>
  ((DK (Hq P (j 0).val ((j 2).val / 64)) (Hk P (j 0).val ((j 2).val / 64)) (Hv P (j 0).val ((j 2).val / 64)) (Ho D (j 0).val ((j 2).val / 64)) (j 1).val ((j 2).val % 64) : ℝ) : EReal)
def allDV (P D : ℕ → ℕ → ℕ → ℝ) : OutShape.Idx → EReal := fun j =>
  ((DV (Hq P (j 0).val ((j 2).val / 64)) (Hk P (j 0).val ((j 2).val / 64)) (Ho D (j 0).val ((j 2).val / 64)) (j 1).val ((j 2).val % 64) : ℝ) : EReal)

/-- An entry at the coordinates `b r c` of the array. -/
theorem allDQ_of (P D : ℕ → ℕ → ℕ → ℝ) (j : OutShape.Idx) (b h r d : ℕ) (h0 : (j 0).val = b) (h1 : (j 1).val = r) (h2 : (j 2).val / 64 = h) (h3 : (j 2).val % 64 = d) :
    allDQ P D j = ((DQ (Hq P b h) (Hk P b h) (Hv P b h) (Ho D b h) r d : ℝ) : EReal) := by
  subst h0 h1 h2 h3; rfl
theorem allDK_of (P D : ℕ → ℕ → ℕ → ℝ) (j : OutShape.Idx) (b h r d : ℕ) (h0 : (j 0).val = b) (h1 : (j 1).val = r) (h2 : (j 2).val / 64 = h) (h3 : (j 2).val % 64 = d) :
    allDK P D j = ((DK (Hq P b h) (Hk P b h) (Hv P b h) (Ho D b h) r d : ℝ) : EReal) := by
  subst h0 h1 h2 h3; rfl
theorem allDV_of (P D : ℕ → ℕ → ℕ → ℝ) (j : OutShape.Idx) (b h r d : ℕ) (h0 : (j 0).val = b) (h1 : (j 1).val = r) (h2 : (j 2).val / 64 = h) (h3 : (j 2).val % 64 = d) :
    allDV P D j = ((DV (Hq P b h) (Hk P b h) (Ho D b h) r d : ℝ) : EReal) := by
  subst h0 h1 h2 h3; rfl

end Cert.SB

namespace Cert.ReferenceIdeal.Value

open Cert.ReferenceIdeal Cert.ReferenceIdeal.Gen Cert.SB

variable {V0 : Valuation τ sig (Elt Ideal)} {P D : ℕ → ℕ → ℕ → ℝ} (H : Reals (arr0 V0) (arr2 V0) P D)

include H

theorem rDQ_eq : rDQ V0 = allDQ P D := by
  funext j
  rw [eq_ix3 j]
  exact rDQ_at H (j 0) (j 1) (j 2)

theorem rDK_eq : rDK V0 = allDK P D := by
  funext j
  rw [eq_ix3 j]
  exact rDK_at H (j 0) (j 1) (j 2)

theorem rDV_eq : rDV V0 = allDV P D := by
  funext j
  rw [eq_ix3 j]
  exact rDV_at H (j 0) (j 1) (j 2)

end Cert.ReferenceIdeal.Value

namespace Cert.KernelIdeal.Value

open Cert.KernelIdeal Cert.KernelIdeal.Gen Cert.SB

variable {m : (ℓ : Loc nD τ sig) → Buf (Elt Ideal) ℓ} {c : Dev nD} {P D : ℕ → ℕ → ℕ → ℝ} (H : Reals (arr0 m c) (arr2 m c) P D)

/-- Where a point's blocks lie in the arrays. -/
theorem emb6_val (t : Fin cfg0.N) (y : S1x512x128.Idx) :
    (((win0_6.blk t).view.emb y) 0).val = t.val / 16 ∧ (((win0_6.blk t).view.emb y) 1).val = 512 * (t.val % 4) + (y 1).val
      ∧ (((win0_6.blk t).view.emb y) 2).val = 128 * (t.val / 4 % 4) + (y 2).val := by
  have y0 : (y 0).val < 1 := (y 0).isLt
  refine ⟨?_, ?_, ?_⟩ <;> blk_simp [idx t] <;> simp <;> omega

theorem emb7_val (t : Fin cfg0.N) (y : S1x2048x128.Idx) :
    (((win0_7.blk t).view.emb y) 0).val = t.val / 16 ∧ (((win0_7.blk t).view.emb y) 1).val = (y 1).val
      ∧ (((win0_7.blk t).view.emb y) 2).val = 128 * (t.val / 4 % 4) + (y 2).val := by
  have y0 : (y 0).val < 1 := (y 0).isLt
  refine ⟨?_, ?_, ?_⟩ <;> blk_simp [idx t] <;> simp <;> omega

theorem emb8_val (t : Fin cfg0.N) (y : S1x2048x128.Idx) :
    (((win0_8.blk t).view.emb y) 0).val = t.val / 16 ∧ (((win0_8.blk t).view.emb y) 1).val = (y 1).val
      ∧ (((win0_8.blk t).view.emb y) 2).val = 128 * (t.val / 4 % 4) + (y 2).val := by
  have y0 : (y 0).val < 1 := (y 0).isLt
  refine ⟨?_, ?_, ?_⟩ <;> blk_simp [idx t] <;> simp <;> omega

/-- A block's index has first coordinate zero. -/
theorem first_zero {n1 n2 : ℕ} (y : (⟨3, ![1, n1, n2]⟩ : Shape).Idx) : y = ix3 (n0 := 1) (n1 := n1) (n2 := n2) 0 (y 1) (y 2) :=
  (eq_ix3 y).trans (congrArg (fun a : Fin 1 => ix3 (n0 := 1) (n1 := n1) (n2 := n2) a (y 1) (y 2)) (Subsingleton.elim _ _))

include H

/-- The result that holds the queries' gradient. -/
theorem final6 : (dats m 0 c).arrAt 6 cfg0.N = allDQ P D := by
  refine (dats m 0 c).arrAt_eq_of_covers 6 _ (by decide +kernel) fun t hf y => ?_
  blk_simp
  rw [after0_6]
  obtain ⟨e0, e1, e2⟩ := emb6_val t y
  have y2 : (y 2).val < 128 := (y 2).isLt
  refine ((congrArg _ (first_zero y)).trans (dq_at H t (y 1) (y 2))).trans (allDQ_of P D _ _ _ _ _ e0 e1 ?_ ?_).symm
  · rw [e2]; omega
  · rw [e2]; omega

/-- The result that holds the keys' gradient. -/
theorem final7 : (dats m 0 c).arrAt 7 cfg0.N = allDK P D := by
  refine (dats m 0 c).arrAt_eq_of_covers 7 _ (by decide +kernel) fun t hf y => ?_
  blk_simp
  rw [after0_7]
  obtain ⟨e0, e1, e2⟩ := emb7_val t y
  have y2 : (y 2).val < 128 := (y 2).isLt
  refine ((congrArg _ (first_zero y)).trans (dk_at H t ((flush0_7 t).mp hf) (y 1) (y 2))).trans (allDK_of P D _ _ _ _ _ e0 e1 ?_ ?_).symm
  · rw [e2]; omega
  · rw [e2]; omega

/-- The result that holds the values' gradient. -/
theorem final8 : (dats m 0 c).arrAt 8 cfg0.N = allDV P D := by
  refine (dats m 0 c).arrAt_eq_of_covers 8 _ (by decide +kernel) fun t hf y => ?_
  blk_simp
  rw [after0_8]
  obtain ⟨e0, e1, e2⟩ := emb8_val t y
  have y2 : (y 2).val < 128 := (y 2).isLt
  refine ((congrArg _ (first_zero y)).trans (dv_at H t ((flush0_8 t).mp hf) (y 1) (y 2))).trans (allDV_of P D _ _ _ _ _ e0 e1 ?_ ?_).symm
  · rw [e2]; omega
  · rw [e2]; omega

end Cert.KernelIdeal.Value

end
-- ==== Proof.Finite.lean ====
/- What the precondition says of the arguments: the entries that the attention reads are real numbers. -/
module

public import proofs.«01_k».proof.Defs
public import proofs.«01_k».proof.Proof.SumsAt
public import Idealize.ShloMosaic.Lib.ReduceAll

@[expose] public section

set_option maxRecDepth 16384

noncomputable section

open Idealize.ShloMosaic Idealize.ShloMosaic.TcCoe Idealize.SL.Sem

namespace Cert.Pre_finite

/-- The shape relations of the precondition's operations. -/
instance facts : Facts where
  slices_S2x2048x6144_S2x2048x1536_0_0_3840 := by decide
  bcast_S_S2x2048x1536 := by decide
  reducesTo_S2x2048x1536_S_d0_1_2 := by decide
  h_S_ := by decide
  bcast_S_S2x2048x512 := by decide
  reducesTo_S2x2048x512_S_d0_1_2 := by decide

/-- The bound that the precondition compares with is infinite. -/
theorem bound_word : Ideal.ofBits .bf16 0x7F80#16 = (⊤ : EReal) := by
  simp [Ideal.ofBits, Ideal.ieee]

/-- An entry whose absolute value is below the bound is its own real part. -/
theorem real_of (x : EReal) (h : max x (-x) < ⊤) : x = ((x.toReal : ℝ) : EReal) := by
  refine (EReal.coe_toReal ?_ ?_).symm
  · rintro rfl; simp at h
  · rintro rfl; simp at h

/-- The bit of a comparison that holds. -/
theorem word_true {b : Bool} (h : BitVec.ofBool b = 1#1) : b = true := by
  revert h; cases b <;> decide

theorem fn_fst (a0 : FVec Ideal S2x2048x6144 .bf16) (a1 : FVec Ideal S2x2048x512 .f32) (a2 : FVec Ideal S2x2048x512 .bf16) :
    (fn a0 a1 a2).1 = Host.reduce IntOp.andi (cmpf .olt (Host.absf (extractStridedSlice S2x2048x1536 ![0, 0, 3840] a0 Facts.slices_S2x2048x6144_S2x2048x1536_0_0_3840))
      (broadcastInDim S2x2048x1536 ![] Facts.bcast_S_S2x2048x1536 (constant S_ .bf16 0x7F80#16))) (constantI S_ 1 1#1) Facts.reducesTo_S2x2048x1536_S_d0_1_2 Facts.h_S_ := by
  dsimp only [fn]

theorem fn_snd (a0 : FVec Ideal S2x2048x6144 .bf16) (a1 : FVec Ideal S2x2048x512 .f32) (a2 : FVec Ideal S2x2048x512 .bf16) :
    (fn a0 a1 a2).2 = Host.reduce IntOp.andi (cmpf .olt (Host.absf a2)
      (broadcastInDim S2x2048x512 ![] Facts.bcast_S_S2x2048x512 (constant S_ .bf16 0x7F80#16))) (constantI S_ 1 1#1) Facts.reducesTo_S2x2048x512_S_d0_1_2 Facts.h_S_ := by
  dsimp only [fn]

instance : Subsingleton S_.Idx := ⟨fun i j => funext fun a => a.elim0⟩

theorem real_proj (a0 : FVec Ideal S2x2048x6144 .bf16) (a1 : FVec Ideal S2x2048x512 .f32) (a2 : FVec Ideal S2x2048x512 .bf16)
    (h : (fn a0 a1 a2).1 = fun _ => 1#1) (b : Fin 2) (s : Fin 2048) (c : Fin 1536) :
    a0 (ix3 b s ⟨3840 + c.val, by omega⟩) = (((a0 (ix3 b s ⟨3840 + c.val, by omega⟩) : EReal).toReal : ℝ) : EReal) := by
  rw [fn_fst] at h
  have h := congrFun h ix0
  have e := Host.reduce_andi_all _ _ _ _ ix0 h (ix3 b s c)
  pointwise at e
  rw [bound_word] at e
  exact real_of _ (of_decide_eq_true (word_true e))

theorem real_grad (a0 : FVec Ideal S2x2048x6144 .bf16) (a1 : FVec Ideal S2x2048x512 .f32) (a2 : FVec Ideal S2x2048x512 .bf16)
    (h : (fn a0 a1 a2).2 = fun _ => 1#1) (b : Fin 2) (s : Fin 2048) (c : Fin 512) :
    a2 (ix3 b s c) = (((a2 (ix3 b s c) : EReal).toReal : ℝ) : EReal) := by
  rw [fn_snd] at h
  have h := congrFun h ix0
  have e := Host.reduce_andi_all _ _ _ _ ix0 h (ix3 b s c)
  pointwise at e
  rw [bound_word] at e
  exact real_of _ (of_decide_eq_true (word_true e))

end Cert.Pre_finite

namespace Cert.KernelIdeal.Value

open Cert.KernelIdeal Cert.KernelIdeal.Gen Cert.SB

/-- The real numbers in the arguments of a device: the projections and the gradient of the attention's output. -/
def realP (m : (ℓ : Loc nD τ sig) → Buf (Elt Ideal) ℓ) (c : Dev nD) (b s k : ℕ) : ℝ :=
  if h : b < 2 ∧ s < 2048 ∧ k < 6144 then (arr0 m c (ix3 ⟨b, h.1⟩ ⟨s, h.2.1⟩ ⟨k, h.2.2⟩)).toReal else 0
def realD (m : (ℓ : Loc nD τ sig) → Buf (Elt Ideal) ℓ) (c : Dev nD) (b s k : ℕ) : ℝ :=
  if h : b < 2 ∧ s < 2048 ∧ k < 512 then (arr2 m c (ix3 ⟨b, h.1⟩ ⟨s, h.2.1⟩ ⟨k, h.2.2⟩)).toReal else 0

/-- Under the precondition the entries that the attention reads are those real numbers. -/
theorem reals (m : (ℓ : Loc nD τ sig) → Buf (Elt Ideal) ℓ) (hm : Cert.Pre_KernelIdeal_finite m) (c : Dev nD) :
    Reals (arr0 m c) (arr2 m c) (realP m c) (realD m c) where
  hx b s k h1 h2 := by
    have e := Cert.Pre_finite.real_proj _ _ _ (hm c).1 b s ⟨k.val - 3840, by omega⟩
    have hk : (⟨3840 + (k.val - 3840), by omega⟩ : Fin 6144) = k := Fin.ext (by show 3840 + (k.val - 3840) = k.val; omega)
    dsimp only at e
    rw [hk] at e
    unfold realP
    rw [dif_pos ⟨b.isLt, s.isLt, k.isLt⟩]
    exact e
  hy b s k := by
    have e := Cert.Pre_finite.real_grad _ _ _ (hm c).2 b s k
    unfold realD
    rw [dif_pos ⟨b.isLt, s.isLt, k.isLt⟩]
    exact e

end Cert.KernelIdeal.Value

end
-- ==== Proof.MatMul.lean ====
/- Indices of matrices. -/
module

public import Idealize.ShloMosaic.Lib.Pipeline.ValueKit

@[expose] public section

noncomputable section

open Idealize.ShloMosaic

namespace Cert.MatMul

/-- A number as an index of an axis. -/
def at' {n : ℕ} [NeZero n] (i : ℕ) : Fin n := Fin.ofNat n i

theorem at'_eq {n : ℕ} [NeZero n] (i : ℕ) (f : Fin n) (h : f.val = i) : (at' i : Fin n) = f := by
  subst h
  exact Fin.ext (Nat.mod_eq_of_lt f.isLt)

/-- A block's first two coordinates are zero where the block has one row of them. -/
theorem first_zeros {n2 n3 : ℕ} (y : (⟨4, ![1, 1, n2, n3]⟩ : Shape).Idx) : y = ix4 (n0 := 1) (n1 := 1) (n2 := n2) (n3 := n3) 0 0 (y 2) (y 3) :=
  (eq_ix4 y).trans (congrArg₂ (fun a b : Fin 1 => ix4 (n0 := 1) (n1 := 1) (n2 := n2) (n3 := n3) a b (y 2) (y 3)) (Subsingleton.elim _ _) (Subsingleton.elim _ _))

end Cert.MatMul

end
-- ==== Proof.UpFinal.lean ====
/- The MLP's first product and its squared relu: the tiled product, and the reference's. -/
module

public import proofs.«01_k».proof.Proof.Gen.Up
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.MatMul

@[expose] public section

set_option maxRecDepth 16384

noncomputable section

open Idealize.ShloMosaic Idealize.ShloMosaic.TcCoe Idealize.SL.Sem

namespace Cert.UpIdeal.Value

open Cert.UpIdeal Cert.UpIdeal.Gen Cert.MatMul

/-- The MLP's preactivations, from the weight's slots: column `512 q + f` is `f` of slot `q`. -/
def pre (h : S4096x1024.Idx → EReal) (w : S8x1024x512.Idx → EReal) (r f : ℕ) : EReal :=
  ∑ k : Fin 1024, h (ix2 (at' r) k) * w (ix3 (at' (f / 512)) k (at' (f % 512)))

theorem pre_of (h : S4096x1024.Idx → EReal) (w : S8x1024x512.Idx → EReal) (r f : ℕ) (d : Fin 4096) (q : Fin 8) (l : Fin 512)
    (hd : d.val = r) (hf : 512 * q.val + l.val = f) : pre h w r f = ∑ k : Fin 1024, h (ix2 d k) * w (ix3 q k l) := by
  unfold pre
  rw [at'_eq _ d hd, at'_eq _ q (by omega), at'_eq _ l (by omega)]

/-- The relu, and its square. -/
def relu (h : S4096x1024.Idx → EReal) (w : S8x1024x512.Idx → EReal) : S4096x4096.Idx → EReal := fun j =>
  max (pre h w (j 0).val (j 1).val) 0

def relu2 (h : S4096x1024.Idx → EReal) (w : S8x1024x512.Idx → EReal) : S4096x4096.Idx → EReal := fun j =>
  max (pre h w (j 0).val (j 1).val) 0 * max (pre h w (j 0).val (j 1).val) 0

variable (m : (ℓ : Loc nD τ sig) → Buf (Elt Ideal) ℓ) (c : Dev nD)

/-- A point's blocks. -/
theorem out3_at (x : FVec Ideal S2048x1024 .bf16) (y : FVec Ideal S1x1024x512 .bf16) (r : Fin 2048) (l : Fin 512) :
    out0_3 (F := Ideal) x y (ix2 r l) = (max (∑ k : Fin 1024, (x (ix2 r k) * y (ix3 0 k l) : EReal)) 0 : EReal) := by
  frame_out
  pointwise [k0_pay2, k0_pay1]

theorem out2_at (x : FVec Ideal S2048x1024 .bf16) (y : FVec Ideal S1x1024x512 .bf16) (r : Fin 2048) (l : Fin 512) :
    out0_2 (F := Ideal) x y (ix2 r l)
      = (max (∑ k : Fin 1024, (x (ix2 r k) * y (ix3 0 k l) : EReal)) 0 * max (∑ k : Fin 1024, (x (ix2 r k) * y (ix3 0 k l) : EReal)) 0 : EReal) := by
  frame_out
  pointwise [k0_pay3, k0_pay1]

theorem idx : ∀ t : Fin cfg0.N, win0_0.index t = ![t.val / 8, 0] ∧ win0_1.index t = ![t.val % 8, 0, 0] ∧ win0_2.index t = ![t.val / 8, t.val % 8]
    ∧ win0_3.index t = ![t.val / 8, t.val % 8] :=
  (by decide +kernel : ∀ t : Fin grid0.N, _)

theorem iblk0_at (t : Fin cfg0.N) (ht : t.val < 16) (r : Fin 2048) (k : Fin 1024) :
    (iblk m c 0 t : FVec Ideal S2048x1024 .bf16) (ix2 r k) = (m ((c : Thread nD τ).loc main_arg0) : S4096x1024.Idx → EReal) (ix2 ⟨2048 * (t.val / 8) + r.val, by omega⟩ k) := by
  blk_point [iblk, V, idx t]

theorem iblk1_at (t : Fin cfg0.N) (k : Fin 1024) (l : Fin 512) :
    (iblk m c 1 t : FVec Ideal S1x1024x512 .bf16) (ix3 0 k l) = (m ((c : Thread nD τ).loc main_arg1) : S8x1024x512.Idx → EReal) (ix3 ⟨t.val % 8, by omega⟩ k l) := by
  blk_point [iblk, V, idx t]

theorem emb2_val (t : Fin cfg0.N) (y : S2048x512.Idx) :
    (((win0_2.blk t).view.emb y) 0).val = 2048 * (t.val / 8) + (y 0).val ∧ (((win0_2.blk t).view.emb y) 1).val = 512 * (t.val % 8) + (y 1).val := by
  refine ⟨?_, ?_⟩ <;> blk_simp [idx t] <;> simp <;> omega

theorem emb3_val (t : Fin cfg0.N) (y : S2048x512.Idx) :
    (((win0_3.blk t).view.emb y) 0).val = 2048 * (t.val / 8) + (y 0).val ∧ (((win0_3.blk t).view.emb y) 1).val = 512 * (t.val % 8) + (y 1).val := by
  refine ⟨?_, ?_⟩ <;> blk_simp [idx t] <;> simp <;> omega

/-- A point's operands. -/
abbrev lhs (t : Fin cfg0.N) : S2048x1024.Idx → EReal := iblk m c 0 t
abbrev rhs (t : Fin cfg0.N) : S1x1024x512.Idx → EReal := iblk m c 1 t

/-- A point's preactivations. -/
theorem sum_at (t : Fin cfg0.N) (ht : t.val < 16) (r : Fin 2048) (l : Fin 512) :
    (∑ k : Fin 1024, lhs m c t (ix2 r k) * rhs m c t (ix3 0 k l))
      = pre (m ((c : Thread nD τ).loc main_arg0)) (m ((c : Thread nD τ).loc main_arg1)) (2048 * (t.val / 8) + r.val) (512 * (t.val % 8) + l.val) := by
  refine Eq.trans ?_ (pre_of _ _ _ _ ⟨2048 * (t.val / 8) + r.val, by omega⟩ ⟨t.val % 8, by omega⟩ l rfl rfl).symm
  exact Finset.sum_congr rfl fun k _ => congrArg₂ (fun a b : EReal => a * b) (iblk0_at m c t ht r k) (iblk1_at m c t k l)

/-- The results after the run. -/
theorem final2 : (dats m 0 c).arrAt 2 cfg0.N = relu2 (m ((c : Thread nD τ).loc main_arg0)) (m ((c : Thread nD τ).loc main_arg1)) := by
  refine (dats m 0 c).arrAt_eq_of_covers 2 _ (by decide +kernel) fun t hf y => ?_
  have ht : t.val < 16 := lt_of_lt_of_eq t.isLt (show cfg0.N = 16 from N_0)
  blk_simp
  rw [after0_2]
  obtain ⟨e0, e1⟩ := emb2_val t y
  refine ((congrArg _ (eq_ix2 y)).trans (out2_at _ _ (y 0) (y 1))).trans ?_
  rw [relu2, e0, e1]
  exact congrArg (fun s : EReal => max s 0 * max s 0) (sum_at m c t ht (y 0) (y 1))

theorem final3 : (dats m 0 c).arrAt 3 cfg0.N = relu (m ((c : Thread nD τ).loc main_arg0)) (m ((c : Thread nD τ).loc main_arg1)) := by
  refine (dats m 0 c).arrAt_eq_of_covers 3 _ (by decide +kernel) fun t hf y => ?_
  have ht : t.val < 16 := lt_of_lt_of_eq t.isLt (show cfg0.N = 16 from N_0)
  blk_simp
  rw [after0_3]
  obtain ⟨e0, e1⟩ := emb3_val t y
  refine ((congrArg _ (eq_ix2 y)).trans (out3_at _ _ (y 0) (y 1))).trans ?_
  rw [relu, e0, e1]
  exact congrArg (fun s : EReal => max s 0) (sum_at m c t ht (y 0) (y 1))

end Cert.UpIdeal.Value

namespace Cert.UpRefIdeal.Value

open Cert.UpRefIdeal Cert.UpRefIdeal.Gen

/-- The reference's results. -/
theorem ref_relu (h : FVec Ideal S4096x1024 .bf16) (w : FVec Ideal S8x1024x512 .bf16) :
    (truncf .bf16 (maximumf (Host.dotGeneral dot_S4096x1024_S1024x4096_S4096x4096_1_0_0_1_n_n none (extf .f32 h bitsLt_bf16_f32) (extf .f32 (shapeCast _ (transpose S1024x8x512 [1, 0, 2] w transposes_S8x1024x512_S1024x8x512_1_0_2) shapeCasts_S1024x8x512_S1024x4096) bitsLt_bf16_f32)) (broadcastInDim S4096x4096 ![] bcast_S_S4096x4096 (constant S_ .f32 0x00000000#32))) bitsLt_bf16_f32 : S4096x4096.Idx → EReal)
    = Cert.UpIdeal.Value.relu h w := by
  funext j
  obtain ⟨a, b, rfl⟩ : ∃ a b : Fin 4096, j = ix2 a b := ⟨j 0, j 1, eq_ix2 j⟩
  pointwise
  have hp := Cert.UpIdeal.Value.pre_of h w a.val b.val a ⟨b.val / 512, by omega⟩ ⟨b.val % 512, by omega⟩ rfl (by dsimp only; omega)
  exact congrArg (fun s : EReal => max s 0) hp.symm

theorem ref_relu2 (h : FVec Ideal S4096x1024 .bf16) (w : FVec Ideal S8x1024x512 .bf16) :
    (truncf .bf16 (mulf (maximumf (Host.dotGeneral dot_S4096x1024_S1024x4096_S4096x4096_1_0_0_1_n_n none (extf .f32 h bitsLt_bf16_f32) (extf .f32 (shapeCast _ (transpose S1024x8x512 [1, 0, 2] w transposes_S8x1024x512_S1024x8x512_1_0_2) shapeCasts_S1024x8x512_S1024x4096) bitsLt_bf16_f32)) (broadcastInDim S4096x4096 ![] bcast_S_S4096x4096 (constant S_ .f32 0x00000000#32))) (maximumf (Host.dotGeneral dot_S4096x1024_S1024x4096_S4096x4096_1_0_0_1_n_n none (extf .f32 h bitsLt_bf16_f32) (extf .f32 (shapeCast _ (transpose S1024x8x512 [1, 0, 2] w transposes_S8x1024x512_S1024x8x512_1_0_2) shapeCasts_S1024x8x512_S1024x4096) bitsLt_bf16_f32)) (broadcastInDim S4096x4096 ![] bcast_S_S4096x4096 (constant S_ .f32 0x00000000#32)))) bitsLt_bf16_f32 : S4096x4096.Idx → EReal)
    = Cert.UpIdeal.Value.relu2 h w := by
  funext j
  obtain ⟨a, b, rfl⟩ : ∃ a b : Fin 4096, j = ix2 a b := ⟨j 0, j 1, eq_ix2 j⟩
  pointwise
  have hp := Cert.UpIdeal.Value.pre_of h w a.val b.val a ⟨b.val / 512, by omega⟩ ⟨b.val % 512, by omega⟩ rfl (by dsimp only; omega)
  exact congrArg (fun s : EReal => max s 0 * max s 0) hp.symm

end Cert.UpRefIdeal.Value

end
-- ==== Proof.DownDxFinal.lean ====
/- The gradient of the MLP's preactivations: the tiled product through the squared relu, and the reference's. -/
module

public import proofs.«01_k».proof.Proof.Gen.DownDx
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.MatMul

@[expose] public section

set_option maxRecDepth 16384

noncomputable section

open Idealize.ShloMosaic Idealize.ShloMosaic.StableHlo Idealize.ShloMosaic.TcCoe Idealize.SL.Sem

namespace Cert.DownDxIdeal.Value

open Cert.DownDxIdeal Cert.DownDxIdeal.Gen Cert.MatMul

/-- The MLP's preactivations, from the weight's slots: column `512 q + f` is `f` of slot `q`. -/
def pre (h : S4096x1024.Idx → EReal) (w : S8x1024x512.Idx → EReal) (r f : ℕ) : EReal :=
  ∑ k : Fin 1024, h (ix2 (at' r) k) * w (ix3 (at' (f / 512)) k (at' (f % 512)))

theorem pre_of (h : S4096x1024.Idx → EReal) (w : S8x1024x512.Idx → EReal) (r f : ℕ) (d : Fin 4096) (q : Fin 8) (l : Fin 512)
    (hd : d.val = r) (hf : 512 * q.val + l.val = f) : pre h w r f = ∑ k : Fin 1024, h (ix2 d k) * w (ix3 q k l) := by
  unfold pre
  rw [at'_eq _ d hd, at'_eq _ q (by omega), at'_eq _ l (by omega)]

/-- The gradient of the hidden units. -/
def back (wd : S4096x1024.Idx → EReal) (dd : S4096x1024.Idx → EReal) (r f : ℕ) : EReal :=
  ∑ k : Fin 1024, dd (ix2 (at' r) k) * wd (ix2 (at' f) k)

theorem back_of (wd : S4096x1024.Idx → EReal) (dd : S4096x1024.Idx → EReal) (r f : ℕ) (d e : Fin 4096) (hd : d.val = r) (he : e.val = f) :
    back wd dd r f = ∑ k : Fin 1024, dd (ix2 d k) * wd (ix2 e k) := by
  unfold back
  rw [at'_eq _ d hd, at'_eq _ e he]

/-- The gradient of the preactivations: twice the relu times the hidden units' gradient. -/
def grad (h : S4096x1024.Idx → EReal) (w : S8x1024x512.Idx → EReal) (wd dd : S4096x1024.Idx → EReal) : S4096x4096.Idx → EReal := fun j =>
  back wd dd (j 0).val (j 1).val * (2 * max (pre h w (j 0).val (j 1).val) 0)

theorem two_word : Ideal.ofBits .f32 0x40000000#32 = (2 : EReal) := by
  rw [show (2 : EReal) = ((2 : ℝ) : EReal) by norm_cast]
  simp [Ideal.ofBits, Ideal.ieee, -EReal.coe_mul]
  norm_num

/-- The relu that the host's lines make. -/
def hRelu (h : FVec Ideal S4096x1024 .bf16) (w : FVec Ideal S8x1024x512 .bf16) : FVec Ideal S4096x4096 .bf16 :=
  truncf .bf16 (maximumf (Host.dotGeneral dot_S4096x1024_S1024x4096_S4096x4096_1_0_0_1_n_n none (extf .f32 h bitsLt_bf16_f32) (extf .f32 (shapeCast _ (transpose S1024x8x512 [1, 0, 2] w transposes_S8x1024x512_S1024x8x512_1_0_2) shapeCasts_S1024x8x512_S1024x4096) bitsLt_bf16_f32)) (broadcastInDim S4096x4096 ![] bcast_S_S4096x4096 (constant S_ .f32 0x00000000#32))) bitsLt_bf16_f32

theorem hRelu_at (h : FVec Ideal S4096x1024 .bf16) (w : FVec Ideal S8x1024x512 .bf16) (a b : Fin 4096) :
    (hRelu h w : S4096x4096.Idx → EReal) (ix2 a b) = max (pre h w a.val b.val) 0 := by
  unfold hRelu
  pointwise
  have hp := pre_of h w a.val b.val a ⟨b.val / 512, by omega⟩ ⟨b.val % 512, by omega⟩ rfl (by dsimp only; omega)
  exact congrArg (fun s : EReal => max s 0) hp.symm

section
variable (σ : (b : DevRef τ sig) → b.ty.Contents (Elt Ideal))

theorem host_relu : after ([hostOps0, hostOps0_1, hostOps0_2] : List (List (HloOp τ sig (Elt Ideal)))).flatten σ (Proc.devRef .tc main_v6)
    = hRelu (σ (Proc.devRef .tc main_arg0)) (σ (Proc.devRef .tc main_arg1)) := by
  simp only [List.flatten_cons, List.flatten_nil, List.append_nil, hostOps0, hostOps0_1, hostOps0_2, List.cons_append, List.nil_append,
    TRef.binary, TRef.nullary, TRef.unary, TRef.toBuf, TRef.ofBuf, cast_eq]
  after_results_simp
  rfl

end

variable (m : (ℓ : Loc nD τ sig) → Buf (Elt Ideal) ℓ) (c : Dev nD)

/-- A point's block. -/
theorem out_at (x : FVec Ideal S2048x1024 .bf16) (y : FVec Ideal S1024x1024 .bf16) (z : FVec Ideal S2048x1024 .bf16) (r : Fin 2048) (l : Fin 1024) :
    out0_3 (F := Ideal) x y z (ix2 r l) = ((∑ k : Fin 1024, (x (ix2 r k) * y (ix2 l k) : EReal)) * (2 * z (ix2 r l)) : EReal) := by
  frame_out
  pointwise [k0_pay1]
  rw [two_word]

theorem idx : ∀ t : Fin cfg0.N, win0_0.index t = ![t.val / 4, 0] ∧ win0_1.index t = ![t.val % 4, 0] ∧ win0_2.index t = ![t.val / 4, t.val % 4]
    ∧ win0_3.index t = ![t.val / 4, t.val % 4] :=
  (by decide +kernel : ∀ t : Fin grid0.N, _)

theorem iblk0_at (t : Fin cfg0.N) (ht : t.val < 8) (r : Fin 2048) (k : Fin 1024) :
    (iblk m c 0 t : FVec Ideal S2048x1024 .bf16) (ix2 r k) = (m ((c : Thread nD τ).loc main_arg3) : S4096x1024.Idx → EReal) (ix2 ⟨2048 * (t.val / 4) + r.val, by omega⟩ k) := by
  refine Eq.trans ?_ (congrFun (V_main_arg3 m c) _)
  show V m c main_arg3 _ = V m c main_arg3 _
  generalize V m c main_arg3 = X
  refine congrArg X ?_
  blk_ext [idx t]

theorem iblk1_at (t : Fin cfg0.N) (l : Fin 1024) (k : Fin 1024) :
    (iblk m c 1 t : FVec Ideal S1024x1024 .bf16) (ix2 l k) = (m ((c : Thread nD τ).loc main_arg2) : S4096x1024.Idx → EReal) (ix2 ⟨1024 * (t.val % 4) + l.val, by omega⟩ k) := by
  refine Eq.trans ?_ (congrFun (V_main_arg2 m c) _)
  show V m c main_arg2 _ = V m c main_arg2 _
  generalize V m c main_arg2 = X
  refine congrArg X ?_
  blk_ext [idx t]

theorem relu_eq : V m c main_v6 = hRelu (m ((c : Thread nD τ).loc main_arg0)) (m ((c : Thread nD τ).loc main_arg1)) :=
  host_relu (fun b => m (c, b))

theorem iblk2_at (t : Fin cfg0.N) (ht : t.val < 8) (r : Fin 2048) (l : Fin 1024) :
    (iblk m c 2 t : FVec Ideal S2048x1024 .bf16) (ix2 r l)
      = max (pre (m ((c : Thread nD τ).loc main_arg0)) (m ((c : Thread nD τ).loc main_arg1)) (2048 * (t.val / 4) + r.val) (1024 * (t.val % 4) + l.val)) 0 := by
  refine Eq.trans ?_ ((congrFun (relu_eq m c) _).trans (hRelu_at _ _ ⟨2048 * (t.val / 4) + r.val, by omega⟩ ⟨1024 * (t.val % 4) + l.val, by omega⟩))
  show V m c main_v6 _ = V m c main_v6 _
  generalize V m c main_v6 = X
  refine congrArg X ?_
  blk_ext [idx t]

theorem emb_val (t : Fin cfg0.N) (y : S2048x1024.Idx) :
    (((win0_3.blk t).view.emb y) 0).val = 2048 * (t.val / 4) + (y 0).val ∧ (((win0_3.blk t).view.emb y) 1).val = 1024 * (t.val % 4) + (y 1).val := by
  refine ⟨?_, ?_⟩ <;> blk_simp [idx t] <;> simp <;> omega

/-- A point's operands. -/
abbrev lhs (t : Fin cfg0.N) : S2048x1024.Idx → EReal := iblk m c 0 t
abbrev rhs (t : Fin cfg0.N) : S1024x1024.Idx → EReal := iblk m c 1 t

/-- A point's block of the hidden units' gradient. -/
theorem sum_at (t : Fin cfg0.N) (ht : t.val < 8) (r : Fin 2048) (l : Fin 1024) :
    (∑ k : Fin 1024, lhs m c t (ix2 r k) * rhs m c t (ix2 l k))
      = back (m ((c : Thread nD τ).loc main_arg2)) (m ((c : Thread nD τ).loc main_arg3)) (2048 * (t.val / 4) + r.val) (1024 * (t.val % 4) + l.val) := by
  refine Eq.trans ?_ (back_of _ _ _ _ ⟨2048 * (t.val / 4) + r.val, by omega⟩ ⟨1024 * (t.val % 4) + l.val, by omega⟩ rfl rfl).symm
  exact Finset.sum_congr rfl fun k _ => congrArg₂ (fun a b : EReal => a * b) (iblk0_at m c t ht r k) (iblk1_at m c t l k)

/-- The result after the run. -/
theorem final : (dats m 0 c).arrAt 3 cfg0.N = grad (m ((c : Thread nD τ).loc main_arg0)) (m ((c : Thread nD τ).loc main_arg1))
    (m ((c : Thread nD τ).loc main_arg2)) (m ((c : Thread nD τ).loc main_arg3)) := by
  refine (dats m 0 c).arrAt_eq_of_covers 3 _ (by decide +kernel) fun t hf y => ?_
  have ht : t.val < 8 := lt_of_lt_of_eq t.isLt (show cfg0.N = 8 from N_0)
  blk_simp
  rw [after0_3]
  obtain ⟨e0, e1⟩ := emb_val t y
  refine ((congrArg _ (eq_ix2 y)).trans (out_at _ _ _ (y 0) (y 1))).trans ?_
  rw [grad, e0, e1]
  exact congrArg₂ (fun a b : EReal => a * (2 * b)) (sum_at m c t ht (y 0) (y 1)) (iblk2_at m c t ht (y 0) (y 1))

end Cert.DownDxIdeal.Value

namespace Cert.DownDxRefIdeal.Value

open Cert.DownDxRefIdeal Cert.DownDxRefIdeal.Gen

/-- Where the preactivation is not positive both sides are `0`. -/
theorem select_relu (a g : EReal) : (if 0 < a then g * (2 * max a 0) else 0) = g * (2 * max a 0) := by
  split
  · rfl
  · rw [max_eq_right (not_lt.mp ‹_›), mul_zero, mul_zero]

/-- The reference's result. -/
theorem ref_eq (h : FVec Ideal S4096x1024 .bf16) (w : FVec Ideal S8x1024x512 .bf16) (wd dd : FVec Ideal S4096x1024 .bf16) :
    (truncf .bf16 (select (cmpf .ogt (Host.dotGeneral dot_S4096x1024_S1024x4096_S4096x4096_1_0_0_1_n_n none (extf .f32 h bitsLt_bf16_f32) (extf .f32 (shapeCast _ (transpose S1024x8x512 [1, 0, 2] w transposes_S8x1024x512_S1024x8x512_1_0_2) shapeCasts_S1024x8x512_S1024x4096) bitsLt_bf16_f32)) (broadcastInDim S4096x4096 ![] bcast_S_S4096x4096 (constant S_ .f32 0x00000000#32))) (mulf (Host.dotGeneral dot_S4096x1024_S4096x1024_S4096x4096_1_1_0_0_n_n none (extf .f32 dd bitsLt_bf16_f32) (extf .f32 wd bitsLt_bf16_f32)) (mulf (broadcastInDim S4096x4096 ![] bcast_S_S4096x4096 (constant S_ .f32 0x40000000#32)) (maximumf (Host.dotGeneral dot_S4096x1024_S1024x4096_S4096x4096_1_0_0_1_n_n none (extf .f32 h bitsLt_bf16_f32) (extf .f32 (shapeCast _ (transpose S1024x8x512 [1, 0, 2] w transposes_S8x1024x512_S1024x8x512_1_0_2) shapeCasts_S1024x8x512_S1024x4096) bitsLt_bf16_f32)) (broadcastInDim S4096x4096 ![] bcast_S_S4096x4096 (constant S_ .f32 0x00000000#32))))) (broadcastInDim S4096x4096 ![] bcast_S_S4096x4096 (constant S_ .f32 0x00000000#32))) bitsLt_bf16_f32 : S4096x4096.Idx → EReal)
    = Cert.DownDxIdeal.Value.grad h w wd dd := by
  funext j
  obtain ⟨a, b, rfl⟩ : ∃ a b : Fin 4096, j = ix2 a b := ⟨j 0, j 1, eq_ix2 j⟩
  have hp := Cert.DownDxIdeal.Value.pre_of h w a.val b.val a ⟨b.val / 512, by omega⟩ ⟨b.val % 512, by omega⟩ rfl (by dsimp only; omega)
  pointwise
  rw [Cert.DownDxIdeal.Value.two_word]
  refine (select_relu _ _).trans ?_
  exact congrArg₂ (fun a b : EReal => a * (2 * max b 0)) (Cert.DownDxIdeal.Value.back_of wd dd a.val b.val a b rfl rfl).symm hp.symm

end Cert.DownDxRefIdeal.Value

end
-- ==== Proof.DownDwFinal.lean ====
/- The gradient of the MLP's second weight: its tiled product, and the reference's. -/
module

public import proofs.«01_k».proof.Proof.Gen.DownDw
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.MatMul

@[expose] public section

set_option maxRecDepth 16384

noncomputable section

open Idealize.ShloMosaic Idealize.ShloMosaic.TcCoe Idealize.SL.Sem

namespace Cert.DownDwIdeal.Value

open Cert.DownDwIdeal Cert.DownDwIdeal.Gen Cert.MatMul

/-- The gradient in its owners' layout: row `1024 p + 512 q + r` of the weight is at `(q, p, r)`. -/
def grad (u : S4096x4096.Idx → EReal) (dd : S4096x1024.Idx → EReal) : S2x4x512x1024.Idx → EReal := fun j =>
  ∑ k : Fin 4096, u (ix2 k (at' (1024 * (j 1).val + 512 * (j 0).val + (j 2).val))) * dd (ix2 k (at' (j 3).val))

theorem grad_of (u : S4096x4096.Idx → EReal) (dd : S4096x1024.Idx → EReal) (j : S2x4x512x1024.Idx) (f : Fin 4096) (d : Fin 1024)
    (hf : f.val = 1024 * (j 1).val + 512 * (j 0).val + (j 2).val) (hd : d.val = (j 3).val) : grad u dd j = ∑ k : Fin 4096, u (ix2 k f) * dd (ix2 k d) := by
  unfold grad
  rw [at'_eq _ f hf, at'_eq _ d hd]

variable (m : (ℓ : Loc nD τ sig) → Buf (Elt Ideal) ℓ) (c : Dev nD)

theorem out_at (x : FVec Ideal S4096x512 .bf16) (y : FVec Ideal S4096x1024 .bf16) (r : Fin 512) (l : Fin 1024) :
    out0_2 (F := Ideal) x y (ix4 0 0 r l) = ∑ k : Fin 4096, (x (ix2 k r) * y (ix2 k l) : EReal) := by
  frame_out
  pointwise [k0_pay1]

theorem idx : ∀ t : Fin cfg0.N, win0_0.index t = ![0, t.val] ∧ win0_1.index t = ![0, 0] ∧ win0_2.index t = ![t.val % 2, t.val / 2, 0, 0] :=
  (by decide +kernel : ∀ t : Fin grid0.N, _)

theorem iblk0_at (t : Fin cfg0.N) (ht : t.val < 8) (k : Fin 4096) (r : Fin 512) :
    (iblk m c 0 t : FVec Ideal S4096x512 .bf16) (ix2 k r) = (m ((c : Thread nD τ).loc main_arg0) : S4096x4096.Idx → EReal) (ix2 k ⟨512 * t.val + r.val, by omega⟩) := by
  blk_point [iblk, V, idx t]

theorem iblk1_at (t : Fin cfg0.N) (k : Fin 4096) (r : Fin 1024) :
    (iblk m c 1 t : FVec Ideal S4096x1024 .bf16) (ix2 k r) = (m ((c : Thread nD τ).loc main_arg1) : S4096x1024.Idx → EReal) (ix2 k r) := by
  blk_point [iblk, V, idx t]

theorem emb_val (t : Fin cfg0.N) (y : S1x1x512x1024.Idx) :
    (((win0_2.blk t).view.emb y) 0).val = t.val % 2 ∧ (((win0_2.blk t).view.emb y) 1).val = t.val / 2
      ∧ (((win0_2.blk t).view.emb y) 2).val = (y 2).val ∧ (((win0_2.blk t).view.emb y) 3).val = (y 3).val := by
  have y0 : (y 0).val < 1 := (y 0).isLt
  have y1 : (y 1).val < 1 := (y 1).isLt
  refine ⟨?_, ?_, ?_, ?_⟩ <;> blk_simp [idx t] <;> simp <;> omega

theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have ht : t.val < 8 := lt_of_lt_of_eq t.isLt (show cfg0.N = 8 from N_0)
  blk_simp
  rw [after0_2]
  obtain ⟨e0, e1, e2, e3⟩ := emb_val t y
  have y2 : (y 2).val < 512 := (y 2).isLt
  refine ((congrArg _ (first_zeros y)).trans (out_at _ _ (y 2) (y 3))).trans ?_
  refine Eq.trans ?_ (grad_of _ _ _ ⟨512 * t.val + (y 2).val, by omega⟩ (y 3) (by rw [e0, e1, e2]; dsimp only; omega) e3.symm).symm
  exact Finset.sum_congr rfl fun k _ => congrArg₂ (fun a b : EReal => a * b) (iblk0_at m c t ht k (y 2)) (iblk1_at m c t k (y 3))

end Cert.DownDwIdeal.Value

namespace Cert.DownDwRefIdeal.Value

open Cert.DownDwRefIdeal Cert.DownDwRefIdeal.Gen

theorem ref_eq (u : FVec Ideal S4096x4096 .bf16) (dd : FVec Ideal S4096x1024 .bf16) :
    (truncf .bf16 (transpose S2x4x512x1024 [1, 0, 2, 3] (shapeCast _ (transpose S4096x1024 [1, 0] (Host.dotGeneral dot_S4096x1024_S4096x4096_S1024x4096_0_0_1_1_n_n none (extf .f32 dd bitsLt_bf16_f32) (extf .f32 u bitsLt_bf16_f32)) transposes_S1024x4096_S4096x1024_1_0) shapeCasts_S4096x1024_S4x2x512x1024) transposes_S4x2x512x1024_S2x4x512x1024_1_0_2_3) bitsLt_bf16_f32 : S2x4x512x1024.Idx → EReal)
    = Cert.DownDwIdeal.Value.grad u dd := by
  funext j
  rw [eq_ix4 j]
  generalize j 0 = a, j 1 = b, j 2 = c, j 3 = d
  pointwise
  refine Eq.trans (Finset.sum_congr rfl fun k _ => mul_comm _ _) (Cert.DownDwIdeal.Value.grad_of u dd (ix4 a b c d) ⟨b.val * 1024 + a.val * 512 + c.val, _⟩ d ?_ rfl).symm
  show b.val * 1024 + a.val * 512 + c.val = 1024 * b.val + 512 * a.val + c.val
  omega

end Cert.DownDwRefIdeal.Value

end
-- ==== Proof.UpDwFinal.lean ====
/- The gradient of the MLP's first weight: its tiled product, and the reference's. -/
module

public import proofs.«01_k».proof.Proof.Gen.UpDw
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.MatMul

@[expose] public section

set_option maxRecDepth 16384

noncomputable section

open Idealize.ShloMosaic Idealize.ShloMosaic.TcCoe Idealize.SL.Sem

namespace Cert.UpDwIdeal.Value

open Cert.UpDwIdeal Cert.UpDwIdeal.Gen Cert.MatMul

/-- The gradient in its owners' layout: column `1024 p + 512 q + f` of the weight is at `(q, p, ·, f)`. -/
def grad (h : S4096x1024.Idx → EReal) (da : S4096x4096.Idx → EReal) : S2x4x1024x512.Idx → EReal := fun j =>
  ∑ k : Fin 4096, h (ix2 k (at' (j 2).val)) * da (ix2 k (at' (1024 * (j 1).val + 512 * (j 0).val + (j 3).val)))

theorem grad_of (h : S4096x1024.Idx → EReal) (da : S4096x4096.Idx → EReal) (j : S2x4x1024x512.Idx) (d : Fin 1024) (f : Fin 4096)
    (hd : d.val = (j 2).val) (hf : f.val = 1024 * (j 1).val + 512 * (j 0).val + (j 3).val) : grad h da j = ∑ k : Fin 4096, h (ix2 k d) * da (ix2 k f) := by
  unfold grad
  rw [at'_eq _ f hf, at'_eq _ d hd]

variable (m : (ℓ : Loc nD τ sig) → Buf (Elt Ideal) ℓ) (c : Dev nD)

/-- A point's block of the product. -/
theorem out_at (x : FVec Ideal S4096x1024 .bf16) (y : FVec Ideal S4096x512 .bf16) (r : Fin 1024) (l : Fin 512) :
    out0_2 (F := Ideal) x y (ix4 0 0 r l) = ∑ k : Fin 4096, (x (ix2 k r) * y (ix2 k l) : EReal) := by
  frame_out
  pointwise [k0_pay1]

theorem idx : ∀ t : Fin cfg0.N, win0_0.index t = ![0, 0] ∧ win0_1.index t = ![0, t.val] ∧ win0_2.index t = ![t.val % 2, t.val / 2, 0, 0] :=
  (by decide +kernel : ∀ t : Fin grid0.N, _)

theorem iblk0_at (t : Fin cfg0.N) (k : Fin 4096) (r : Fin 1024) :
    (iblk m c 0 t : FVec Ideal S4096x1024 .bf16) (ix2 k r) = (m ((c : Thread nD τ).loc main_arg0) : S4096x1024.Idx → EReal) (ix2 k r) := by
  blk_point [iblk, V, idx t]

theorem iblk1_at (t : Fin cfg0.N) (ht : t.val < 8) (k : Fin 4096) (r : Fin 512) :
    (iblk m c 1 t : FVec Ideal S4096x512 .bf16) (ix2 k r) = (m ((c : Thread nD τ).loc main_arg1) : S4096x4096.Idx → EReal) (ix2 k ⟨512 * t.val + r.val, by omega⟩) := by
  blk_point [iblk, V, idx t]

theorem emb_val (t : Fin cfg0.N) (y : S1x1x1024x512.Idx) :
    (((win0_2.blk t).view.emb y) 0).val = t.val % 2 ∧ (((win0_2.blk t).view.emb y) 1).val = t.val / 2
      ∧ (((win0_2.blk t).view.emb y) 2).val = (y 2).val ∧ (((win0_2.blk t).view.emb y) 3).val = (y 3).val := by
  have y0 : (y 0).val < 1 := (y 0).isLt
  have y1 : (y 1).val < 1 := (y 1).isLt
  refine ⟨?_, ?_, ?_, ?_⟩ <;> blk_simp [idx t] <;> simp <;> omega

/-- The result after the run. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have ht : t.val < 8 := lt_of_lt_of_eq t.isLt (show cfg0.N = 8 from N_0)
  blk_simp
  rw [after0_2]
  obtain ⟨e0, e1, e2, e3⟩ := emb_val t y
  have y3 : (y 3).val < 512 := (y 3).isLt
  refine ((congrArg _ (first_zeros y)).trans (out_at _ _ (y 2) (y 3))).trans ?_
  refine Eq.trans ?_ (grad_of _ _ _ (y 2) ⟨512 * t.val + (y 3).val, by omega⟩ e2.symm (by rw [e0, e1, e3]; dsimp only; omega)).symm
  exact Finset.sum_congr rfl fun k _ => congrArg₂ (fun a b : EReal => a * b) (iblk0_at m c t k (y 2)) (iblk1_at m c t ht k (y 3))

end Cert.UpDwIdeal.Value

namespace Cert.UpDwRefIdeal.Value

open Cert.UpDwRefIdeal Cert.UpDwRefIdeal.Gen

/-- The reference's result. -/
theorem ref_eq (h : FVec Ideal S4096x1024 .bf16) (da : FVec Ideal S4096x4096 .bf16) :
    (truncf .bf16 (transpose S2x4x1024x512 [2, 1, 0, 3] (shapeCast _ (transpose S1024x4096 [1, 0] (Host.dotGeneral dot_S4096x4096_S4096x1024_S4096x1024_0_0_1_1_n_n none (extf .f32 da bitsLt_bf16_f32) (extf .f32 h bitsLt_bf16_f32)) transposes_S4096x1024_S1024x4096_1_0) shapeCasts_S1024x4096_S1024x4x2x512) transposes_S1024x4x2x512_S2x4x1024x512_2_1_0_3) bitsLt_bf16_f32 : S2x4x1024x512.Idx → EReal)
    = Cert.UpDwIdeal.Value.grad h da := by
  funext j
  rw [eq_ix4 j]
  generalize j 0 = a, j 1 = b, j 2 = c, j 3 = d
  pointwise
  refine Eq.trans (Finset.sum_congr rfl fun k _ => mul_comm _ _) (Cert.UpDwIdeal.Value.grad_of h da (ix4 a b c d) c ⟨b.val * 1024 + a.val * 512 + d.val, _⟩ rfl ?_).symm
  show b.val * 1024 + a.val * 512 + d.val = 1024 * b.val + 512 * a.val + d.val
  omega

end Cert.UpDwRefIdeal.Value

end
-- ==== Proof.InFwdFinal.lean ====
/- The input projection: its tiled product, and the reference's. -/
module

public import proofs.«01_k».proof.Proof.Gen.InFwd
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.MatMul

@[expose] public section

set_option maxRecDepth 16384

noncomputable section

open Idealize.ShloMosaic Idealize.ShloMosaic.TcCoe Idealize.SL.Sem

namespace Cert.InFwdIdeal.Value

open Cert.InFwdIdeal Cert.InFwdIdeal.Gen Cert.MatMul

/-- The projections of a token. -/
def prod (h : S4096x1024.Idx → EReal) (w : S1024x6144.Idx → EReal) : S4096x6144.Idx → EReal := fun j =>
  ∑ k : Fin 1024, h (ix2 (at' (j 0).val) k) * w (ix2 k (at' (j 1).val))

theorem prod_of (h : S4096x1024.Idx → EReal) (w : S1024x6144.Idx → EReal) (j : S4096x6144.Idx) (d : Fin 4096) (f : Fin 6144)
    (hd : d.val = (j 0).val) (hf : f.val = (j 1).val) : prod h w j = ∑ k : Fin 1024, h (ix2 d k) * w (ix2 k f) := by
  unfold prod
  rw [at'_eq _ f hf, at'_eq _ d hd]

variable (m : (ℓ : Loc nD τ sig) → Buf (Elt Ideal) ℓ) (c : Dev nD)

/-- A point's block of the product. -/
theorem out_at (x : FVec Ideal S2048x1024 .bf16) (y : FVec Ideal S1024x1024 .bf16) (r : Fin 2048) (l : Fin 1024) :
    out0_2 (F := Ideal) x y (ix2 r l) = ∑ k : Fin 1024, (x (ix2 r k) * y (ix2 k l) : EReal) := by
  frame_out
  pointwise [k0_pay1]

theorem idx : ∀ t : Fin cfg0.N, win0_0.index t = ![t.val / 6, 0] ∧ win0_1.index t = ![0, t.val % 6] ∧ win0_2.index t = ![t.val / 6, t.val % 6] :=
  (by decide +kernel : ∀ t : Fin grid0.N, _)

theorem iblk0_at (t : Fin cfg0.N) (ht : t.val < 12) (r : Fin 2048) (k : Fin 1024) :
    (iblk m c 0 t : FVec Ideal S2048x1024 .bf16) (ix2 r k) = (m ((c : Thread nD τ).loc main_arg0) : S4096x1024.Idx → EReal) (ix2 ⟨2048 * (t.val / 6) + r.val, by omega⟩ k) := by
  blk_point [iblk, V, idx t]

theorem iblk1_at (t : Fin cfg0.N) (k : Fin 1024) (r : Fin 1024) :
    (iblk m c 1 t : FVec Ideal S1024x1024 .bf16) (ix2 k r) = (m ((c : Thread nD τ).loc main_arg1) : S1024x6144.Idx → EReal) (ix2 k ⟨1024 * (t.val % 6) + r.val, by omega⟩) := by
  blk_point [iblk, V, idx t]

theorem emb_val (t : Fin cfg0.N) (y : S2048x1024.Idx) :
    (((win0_2.blk t).view.emb y) 0).val = 2048 * (t.val / 6) + (y 0).val ∧ (((win0_2.blk t).view.emb y) 1).val = 1024 * (t.val % 6) + (y 1).val := by
  refine ⟨?_, ?_⟩ <;> blk_simp [idx t] <;> simp <;> omega

/-- The result after the run. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht : t.val < 12 := lt_of_lt_of_eq t.isLt (show cfg0.N = 12 from N_0)
  blk_simp
  rw [after0_2]
  obtain ⟨e0, e1⟩ := emb_val t y
  have y0 : (y 0).val < 2048 := (y 0).isLt
  have y1 : (y 1).val < 1024 := (y 1).isLt
  refine ((congrArg _ (eq_ix2 y)).trans (out_at _ _ (y 0) (y 1))).trans ?_
  refine Eq.trans ?_ (prod_of _ _ _ ⟨2048 * (t.val / 6) + (y 0).val, by omega⟩ ⟨1024 * (t.val % 6) + (y 1).val, by omega⟩ e0.symm e1.symm).symm
  exact Finset.sum_congr rfl fun k _ => congrArg₂ (fun a b : EReal => a * b) (iblk0_at m c t ht (y 0) k) (iblk1_at m c t k (y 1))

end Cert.InFwdIdeal.Value

namespace Cert.InFwdRefIdeal.Value

open Cert.InFwdRefIdeal Cert.InFwdRefIdeal.Gen

/-- The reference's result. -/
theorem ref_eq (h : FVec Ideal S4096x1024 .bf16) (w : FVec Ideal S1024x6144 .bf16) :
    (truncf .bf16 (Host.dotGeneral dot_S4096x1024_S1024x6144_S4096x6144_1_0_0_1_n_n none (extf .f32 h bitsLt_bf16_f32) (extf .f32 w bitsLt_bf16_f32)) bitsLt_bf16_f32 : S4096x6144.Idx → EReal)
    = Cert.InFwdIdeal.Value.prod h w := by
  funext j
  rw [eq_ix2 j]
  generalize j 0 = a, j 1 = b
  pointwise
  exact (Cert.InFwdIdeal.Value.prod_of h w (ix2 a b) a b rfl rfl).symm

end Cert.InFwdRefIdeal.Value

end
-- ==== Proof.InDwFinal.lean ====
/- The gradient of the input projection's weight: its tiled product, and the reference's. -/
module

public import proofs.«01_k».proof.Proof.Gen.InDw
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.MatMul

@[expose] public section

set_option maxRecDepth 16384

noncomputable section

open Idealize.ShloMosaic Idealize.ShloMosaic.TcCoe Idealize.SL.Sem

namespace Cert.InDwIdeal.Value

open Cert.InDwIdeal Cert.InDwIdeal.Gen Cert.MatMul

/-- The gradient: a sum over the tokens. -/
def grad (h : S4096x1024.Idx → EReal) (dproj : S4096x6144.Idx → EReal) : S1024x6144.Idx → EReal := fun j =>
  ∑ k : Fin 4096, h (ix2 k (at' (j 0).val)) * dproj (ix2 k (at' (j 1).val))

theorem grad_of (h : S4096x1024.Idx → EReal) (dproj : S4096x6144.Idx → EReal) (j : S1024x6144.Idx) (d : Fin 1024) (f : Fin 6144)
    (hd : d.val = (j 0).val) (hf : f.val = (j 1).val) : grad h dproj j = ∑ k : Fin 4096, h (ix2 k d) * dproj (ix2 k f) := by
  unfold grad
  rw [at'_eq _ f hf, at'_eq _ d hd]

variable (m : (ℓ : Loc nD τ sig) → Buf (Elt Ideal) ℓ) (c : Dev nD)

/-- A point's block of the product. -/
theorem out_at (x : FVec Ideal S4096x1024 .bf16) (y : FVec Ideal S4096x1024 .bf16) (r : Fin 1024) (l : Fin 1024) :
    out0_2 (F := Ideal) x y (ix2 r l) = ∑ k : Fin 4096, (x (ix2 k r) * y (ix2 k l) : EReal) := by
  frame_out
  pointwise [k0_pay1]

theorem idx : ∀ t : Fin cfg0.N, win0_0.index t = ![0, 0] ∧ win0_1.index t = ![0, t.val] ∧ win0_2.index t = ![0, t.val] :=
  (by decide +kernel : ∀ t : Fin grid0.N, _)

theorem iblk0_at (t : Fin cfg0.N) (k : Fin 4096) (r : Fin 1024) :
    (iblk m c 0 t : FVec Ideal S4096x1024 .bf16) (ix2 k r) = (m ((c : Thread nD τ).loc main_arg0) : S4096x1024.Idx → EReal) (ix2 k r) := by
  blk_point [iblk, V, idx t]

theorem iblk1_at (t : Fin cfg0.N) (ht : t.val < 6) (k : Fin 4096) (r : Fin 1024) :
    (iblk m c 1 t : FVec Ideal S4096x1024 .bf16) (ix2 k r) = (m ((c : Thread nD τ).loc main_arg1) : S4096x6144.Idx → EReal) (ix2 k ⟨1024 * t.val + r.val, by omega⟩) := by
  blk_point [iblk, V, idx t]

theorem emb_val (t : Fin cfg0.N) (y : S1024x1024.Idx) :
    (((win0_2.blk t).view.emb y) 0).val = (y 0).val ∧ (((win0_2.blk t).view.emb y) 1).val = 1024 * t.val + (y 1).val := by
  refine ⟨?_, ?_⟩ <;> blk_simp [idx t] <;> simp <;> omega

/-- The result after the run. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have ht : t.val < 6 := lt_of_lt_of_eq t.isLt (show cfg0.N = 6 from N_0)
  blk_simp
  rw [after0_2]
  obtain ⟨e0, e1⟩ := emb_val t y
  have y1 : (y 1).val < 1024 := (y 1).isLt
  refine ((congrArg _ (eq_ix2 y)).trans (out_at _ _ (y 0) (y 1))).trans ?_
  refine Eq.trans ?_ (grad_of _ _ _ (y 0) ⟨1024 * t.val + (y 1).val, by omega⟩ e0.symm e1.symm).symm
  exact Finset.sum_congr rfl fun k _ => congrArg₂ (fun a b : EReal => a * b) (iblk0_at m c t k (y 0)) (iblk1_at m c t ht k (y 1))

end Cert.InDwIdeal.Value

namespace Cert.InDwRefIdeal.Value

open Cert.InDwRefIdeal Cert.InDwRefIdeal.Gen

/-- The reference's result. -/
theorem ref_eq (h : FVec Ideal S4096x1024 .bf16) (dproj : FVec Ideal S4096x6144 .bf16) :
    (truncf .bf16 (transpose S1024x6144 [1, 0] (Host.dotGeneral dot_S4096x6144_S4096x1024_S6144x1024_0_0_1_1_n_n none (extf .f32 dproj bitsLt_bf16_f32) (extf .f32 h bitsLt_bf16_f32)) transposes_S6144x1024_S1024x6144_1_0) bitsLt_bf16_f32 : S1024x6144.Idx → EReal)
    = Cert.InDwIdeal.Value.grad h dproj := by
  funext j
  rw [eq_ix2 j]
  generalize j 0 = a, j 1 = b
  pointwise
  exact Eq.trans (Finset.sum_congr rfl fun k _ => mul_comm _ _) (Cert.InDwIdeal.Value.grad_of h dproj (ix2 a b) a b rfl rfl).symm

end Cert.InDwRefIdeal.Value

end
-- ==== Proof.BoFinal.lean ====
/- A branch's output projection: the tiled product, and the reference's. -/
module

public import proofs.«01_k».proof.Proof.Gen.Bo
public import proofs.«01_k».proof.Proof.Gen.Bo.Frame
public import proofs.«01_k».proof.Proof.Gen.BoIdeal
public import proofs.«01_k».proof.Proof.Gen.BoIdeal.Skeleton
public import proofs.«01_k».proof.Proof.Gen.BoIdeal.Launch
public import proofs.«01_k».proof.Proof.Gen.BoIdeal.Points
public import proofs.«01_k».proof.Proof.Gen.BoIdeal.Frame
public import proofs.«01_k».proof.Proof.Gen.BoIdeal.Value
public import proofs.«01_k».proof.Proof.Gen.BoRefIdeal
public import proofs.«01_k».proof.Proof.Gen.BoRefIdeal.Run
public import proofs.«01_k».proof.Proof.MatMul

@[expose] public section

set_option maxRecDepth 16384

noncomputable section

open Idealize.ShloMosaic Idealize.ShloMosaic.TcCoe Idealize.SL.Sem

namespace Cert.BoIdeal.Value

open Cert.BoIdeal Cert.BoIdeal.Gen Cert.MatMul

/-- The result: a plain sum. -/
def prod (o : S4096x512.Idx → EReal) (w_bo : S512x1024.Idx → EReal) : S4096x1024.Idx → EReal := fun j =>
  (∑ k : Fin 512, o (ix2 (at' (j 0).val) k) * w_bo (ix2 k (at' (j 1).val)))

theorem prod_of (o : S4096x512.Idx → EReal) (w_bo : S512x1024.Idx → EReal) (j : S4096x1024.Idx) (d : Fin 4096) (f : Fin 1024)
    (hd : d.val = (j 0).val) (hf : f.val = (j 1).val) : prod o w_bo j = (∑ k : Fin 512, o (ix2 d k) * w_bo (ix2 k f)) := by
  unfold prod
  rw [at'_eq _ d hd, at'_eq _ f hf]

variable (m : (ℓ : Loc nD τ sig) → Buf (Elt Ideal) ℓ) (c : Dev nD)

/-- A point's block. -/
theorem out_at (x : FVec Ideal S2048x512 .f32) (y : FVec Ideal S512x1024 .bf16) (r : Fin 2048) (l : Fin 1024) :
    out0_2 (F := Ideal) x y (ix2 r l) = ((∑ k : Fin 512, (x (ix2 r k) * y (ix2 k l) : EReal)) : EReal) := by
  frame_out
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem iblk0_at (t : Fin cfg0.N) (ht : t.val < 2) (r : Fin 2048) (k : Fin 512) :
    (iblk m c 0 t : FVec Ideal S2048x512 .f32) (ix2 r k) = (m ((c : Thread nD τ).loc main_arg0) : S4096x512.Idx → EReal) (ix2 ⟨2048 * t.val + r.val, by omega⟩ k) := by
  blk_point [iblk, V, idx t]

theorem iblk1_at (t : Fin cfg0.N) (l : Fin 1024) (k : Fin 512) :
    (iblk m c 1 t : FVec Ideal S512x1024 .bf16) (ix2 k l) = (m ((c : Thread nD τ).loc main_arg1) : S512x1024.Idx → EReal) (ix2 k l) := by
  blk_point [iblk, V, idx t]

theorem emb_val (t : Fin cfg0.N) (y : S2048x1024.Idx) :
    (((win0_2.blk t).view.emb y) 0).val = 2048 * t.val + (y 0).val ∧ (((win0_2.blk t).view.emb y) 1).val = (y 1).val := by
  refine ⟨?_, ?_⟩ <;> blk_simp [idx t] <;> simp <;> omega

/-- The result after the run. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht : t.val < 2 := lt_of_lt_of_eq t.isLt (show cfg0.N = 2 from N_0)
  blk_simp
  rw [after0_2]
  obtain ⟨e0, e1⟩ := emb_val t y
  have y0 : (y 0).val < 2048 := (y 0).isLt
  refine ((congrArg _ (eq_ix2 y)).trans (out_at _ _ (y 0) (y 1))).trans ?_
  refine Eq.trans ?_ (prod_of _ _ _ ⟨2048 * t.val + (y 0).val, by omega⟩ (y 1) e0.symm e1.symm).symm
  exact Finset.sum_congr rfl fun k _ => congrArg₂ (fun a b : EReal => a * b) (iblk0_at m c t ht (y 0) k) (iblk1_at m c t (y 1) k)

end Cert.BoIdeal.Value

namespace Cert.BoRefIdeal.Value

open Cert.BoRefIdeal Cert.BoRefIdeal.Gen

/-- The reference's result. -/
theorem ref_eq (o : FVec Ideal S4096x512 .f32) (w_bo : FVec Ideal S512x1024 .bf16) :
    (truncf .bf16 (Host.dotGeneral dot_S4096x512_S512x1024_S4096x1024_1_0_0_1_n_n none o (extf .f32 w_bo bitsLt_bf16_f32)) bitsLt_bf16_f32 : S4096x1024.Idx → EReal)
    = Cert.BoIdeal.Value.prod o w_bo := by
  funext j
  obtain ⟨p, q, rfl⟩ : ∃ (p : Fin 4096) (q : Fin 1024), j = ix2 p q := ⟨j 0, j 1, eq_ix2 j⟩
  pointwise
  exact (Cert.BoIdeal.Value.prod_of o w_bo (ix2 p q) p q rfl rfl).symm

end Cert.BoRefIdeal.Value

end
-- ==== Proof.BoDxFinal.lean ====
/- The gradient of a branch's output: the tiled product, and the reference's. -/
module

public import proofs.«01_k».proof.Proof.Gen.BoDx
public import proofs.«01_k».proof.Proof.Gen.BoDx.Frame
public import proofs.«01_k».proof.Proof.Gen.BoDxIdeal
public import proofs.«01_k».proof.Proof.Gen.BoDxIdeal.Skeleton
public import proofs.«01_k».proof.Proof.Gen.BoDxIdeal.Launch
public import proofs.«01_k».proof.Proof.Gen.BoDxIdeal.Points
public import proofs.«01_k».proof.Proof.Gen.BoDxIdeal.Frame
public import proofs.«01_k».proof.Proof.Gen.BoDxIdeal.Value
public import proofs.«01_k».proof.Proof.Gen.BoDxRefIdeal
public import proofs.«01_k».proof.Proof.Gen.BoDxRefIdeal.Run
public import proofs.«01_k».proof.Proof.MatMul

@[expose] public section

set_option maxRecDepth 16384

noncomputable section

open Idealize.ShloMosaic Idealize.ShloMosaic.TcCoe Idealize.SL.Sem

namespace Cert.BoDxIdeal.Value

open Cert.BoDxIdeal Cert.BoDxIdeal.Gen Cert.MatMul

/-- The result: a plain sum. -/
def grad (dp : S4096x1024.Idx → EReal) (w_bo : S512x1024.Idx → EReal) : S4096x512.Idx → EReal := fun j =>
  (∑ k : Fin 1024, dp (ix2 (at' (j 0).val) k) * w_bo (ix2 (at' (j 1).val) k))

theorem grad_of (dp : S4096x1024.Idx → EReal) (w_bo : S512x1024.Idx → EReal) (j : S4096x512.Idx) (d : Fin 4096) (f : Fin 512)
    (hd : d.val = (j 0).val) (hf : f.val = (j 1).val) : grad dp w_bo j = (∑ k : Fin 1024, dp (ix2 d k) * w_bo (ix2 f k)) := by
  unfold grad
  rw [at'_eq _ d hd, at'_eq _ f hf]

variable (m : (ℓ : Loc nD τ sig) → Buf (Elt Ideal) ℓ) (c : Dev nD)

/-- A point's block. -/
theorem out_at (x : FVec Ideal S2048x1024 .bf16) (y : FVec Ideal S512x1024 .bf16) (r : Fin 2048) (l : Fin 512) :
    out0_2 (F := Ideal) x y (ix2 r l) = ((∑ k : Fin 1024, (x (ix2 r k) * y (ix2 l k) : EReal)) : EReal) := by
  frame_out
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem iblk0_at (t : Fin cfg0.N) (ht : t.val < 2) (r : Fin 2048) (k : Fin 1024) :
    (iblk m c 0 t : FVec Ideal S2048x1024 .bf16) (ix2 r k) = (m ((c : Thread nD τ).loc main_arg0) : S4096x1024.Idx → EReal) (ix2 ⟨2048 * t.val + r.val, by omega⟩ k) := by
  blk_point [iblk, V, idx t]

theorem iblk1_at (t : Fin cfg0.N) (l : Fin 512) (k : Fin 1024) :
    (iblk m c 1 t : FVec Ideal S512x1024 .bf16) (ix2 l k) = (m ((c : Thread nD τ).loc main_arg1) : S512x1024.Idx → EReal) (ix2 l k) := by
  blk_point [iblk, V, idx t]

theorem emb_val (t : Fin cfg0.N) (y : S2048x512.Idx) :
    (((win0_2.blk t).view.emb y) 0).val = 2048 * t.val + (y 0).val ∧ (((win0_2.blk t).view.emb y) 1).val = (y 1).val := by
  refine ⟨?_, ?_⟩ <;> blk_simp [idx t] <;> simp <;> omega

/-- The result after the run. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have ht : t.val < 2 := lt_of_lt_of_eq t.isLt (show cfg0.N = 2 from N_0)
  blk_simp
  rw [after0_2]
  obtain ⟨e0, e1⟩ := emb_val t y
  have y0 : (y 0).val < 2048 := (y 0).isLt
  refine ((congrArg _ (eq_ix2 y)).trans (out_at _ _ (y 0) (y 1))).trans ?_
  refine Eq.trans ?_ (grad_of _ _ _ ⟨2048 * t.val + (y 0).val, by omega⟩ (y 1) e0.symm e1.symm).symm
  exact Finset.sum_congr rfl fun k _ => congrArg₂ (fun a b : EReal => a * b) (iblk0_at m c t ht (y 0) k) (iblk1_at m c t (y 1) k)

end Cert.BoDxIdeal.Value

namespace Cert.BoDxRefIdeal.Value

open Cert.BoDxRefIdeal Cert.BoDxRefIdeal.Gen

/-- The reference's result. -/
theorem ref_eq (dp : FVec Ideal S4096x1024 .bf16) (w_bo : FVec Ideal S512x1024 .bf16) :
    (truncf .bf16 (Host.dotGeneral dot_S4096x1024_S512x1024_S4096x512_1_1_0_0_n_n none (extf .f32 dp bitsLt_bf16_f32) (extf .f32 w_bo bitsLt_bf16_f32)) bitsLt_bf16_f32 : S4096x512.Idx → EReal)
    = Cert.BoDxIdeal.Value.grad dp w_bo := by
  funext j
  obtain ⟨p, q, rfl⟩ : ∃ (p : Fin 4096) (q : Fin 512), j = ix2 p q := ⟨j 0, j 1, eq_ix2 j⟩
  pointwise
  exact (Cert.BoDxIdeal.Value.grad_of dp w_bo (ix2 p q) p q rfl rfl).symm

end Cert.BoDxRefIdeal.Value

end
-- ==== Proof.BoDwFinal.lean ====
/- The gradient of a branch's output projection: the tiled product, and the reference's. -/
module

public import proofs.«01_k».proof.Proof.Gen.BoDw
public import proofs.«01_k».proof.Proof.Gen.BoDw.Frame
public import proofs.«01_k».proof.Proof.Gen.BoDwIdeal
public import proofs.«01_k».proof.Proof.Gen.BoDwIdeal.Skeleton
public import proofs.«01_k».proof.Proof.Gen.BoDwIdeal.Launch
public import proofs.«01_k».proof.Proof.Gen.BoDwIdeal.Points
public import proofs.«01_k».proof.Proof.Gen.BoDwIdeal.Frame
public import proofs.«01_k».proof.Proof.Gen.BoDwIdeal.Value
public import proofs.«01_k».proof.Proof.Gen.BoDwRefIdeal
public import proofs.«01_k».proof.Proof.Gen.BoDwRefIdeal.Run
public import proofs.«01_k».proof.Proof.MatMul

@[expose] public section

set_option maxRecDepth 16384

noncomputable section

open Idealize.ShloMosaic Idealize.ShloMosaic.TcCoe Idealize.SL.Sem

namespace Cert.BoDwIdeal.Value

open Cert.BoDwIdeal Cert.BoDwIdeal.Gen Cert.MatMul

/-- The result: a plain sum. -/
def grad (o : S4096x512.Idx → EReal) (dp : S4096x1024.Idx → EReal) : S512x1024.Idx → EReal := fun j =>
  (∑ k : Fin 4096, o (ix2 k (at' (j 0).val)) * dp (ix2 k (at' (j 1).val)))

theorem grad_of (o : S4096x512.Idx → EReal) (dp : S4096x1024.Idx → EReal) (j : S512x1024.Idx) (d : Fin 512) (f : Fin 1024)
    (hd : d.val = (j 0).val) (hf : f.val = (j 1).val) : grad o dp j = (∑ k : Fin 4096, o (ix2 k d) * dp (ix2 k f)) := by
  unfold grad
  rw [at'_eq _ d hd, at'_eq _ f hf]

variable (m : (ℓ : Loc nD τ sig) → Buf (Elt Ideal) ℓ) (c : Dev nD)

/-- A point's block. -/
theorem out_at (x : FVec Ideal S4096x512 .f32) (y : FVec Ideal S4096x1024 .bf16) (r : Fin 512) (l : Fin 1024) :
    out0_2 (F := Ideal) x y (ix2 r l) = ((∑ k : Fin 4096, (x (ix2 k r) * y (ix2 k l) : EReal)) : EReal) := by
  frame_out
  pointwise [k0_pay1]

theorem idx : ∀ t : Fin cfg0.N, win0_0.index t = ![0, 0] ∧ win0_1.index t = ![0, 0] ∧ win0_2.index t = ![0, 0] :=
  (by decide +kernel : ∀ t : Fin grid0.N, _)

theorem iblk0_at (t : Fin cfg0.N) (r : Fin 512) (k : Fin 4096) :
    (iblk m c 0 t : FVec Ideal S4096x512 .f32) (ix2 k r) = (m ((c : Thread nD τ).loc main_arg0) : S4096x512.Idx → EReal) (ix2 k r) := by
  blk_point [iblk, V, idx t]

theorem iblk1_at (t : Fin cfg0.N) (l : Fin 1024) (k : Fin 4096) :
    (iblk m c 1 t : FVec Ideal S4096x1024 .bf16) (ix2 k l) = (m ((c : Thread nD τ).loc main_arg1) : S4096x1024.Idx → EReal) (ix2 k l) := by
  blk_point [iblk, V, idx t]

theorem emb_val (t : Fin cfg0.N) (y : S512x1024.Idx) :
    (((win0_2.blk t).view.emb y) 0).val = (y 0).val ∧ (((win0_2.blk t).view.emb y) 1).val = (y 1).val := by
  refine ⟨?_, ?_⟩ <;> blk_simp [idx t] <;> simp

/-- The result after the run. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1⟩ := emb_val t y
  refine ((congrArg _ (eq_ix2 y)).trans (out_at _ _ (y 0) (y 1))).trans ?_
  refine Eq.trans ?_ (grad_of _ _ _ (y 0) (y 1) e0.symm e1.symm).symm
  exact Finset.sum_congr rfl fun k _ => congrArg₂ (fun a b : EReal => a * b) (iblk0_at m c t (y 0) k) (iblk1_at m c t (y 1) k)

end Cert.BoDwIdeal.Value

namespace Cert.BoDwRefIdeal.Value

open Cert.BoDwRefIdeal Cert.BoDwRefIdeal.Gen

/-- The reference's result. -/
theorem ref_eq (o : FVec Ideal S4096x512 .f32) (dp : FVec Ideal S4096x1024 .bf16) :
    (truncf .bf16 (transpose S512x1024 [1, 0] (Host.dotGeneral dot_S4096x1024_S4096x512_S1024x512_0_0_1_1_n_n none (extf .f32 dp bitsLt_bf16_f32) o) transposes_S1024x512_S512x1024_1_0) bitsLt_bf16_f32 : S512x1024.Idx → EReal)
    = Cert.BoDwIdeal.Value.grad o dp := by
  funext j
  obtain ⟨p, q, rfl⟩ : ∃ (p : Fin 512) (q : Fin 1024), j = ix2 p q := ⟨j 0, j 1, eq_ix2 j⟩
  pointwise
  exact Eq.trans (Finset.sum_congr rfl fun k _ => mul_comm _ _) (Cert.BoDwIdeal.Value.grad_of o dp (ix2 p q) p q rfl rfl).symm

end Cert.BoDwRefIdeal.Value

end
-- ==== Proof.OutDxFinal.lean ====
/- The gradient of the merged branches: the tiled product, and the reference's. -/
module

public import proofs.«01_k».proof.Proof.Gen.OutDx
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.MatMul

@[expose] public section

set_option maxRecDepth 16384

noncomputable section

open Idealize.ShloMosaic Idealize.ShloMosaic.TcCoe Idealize.SL.Sem

namespace Cert.OutDxIdeal.Value

open Cert.OutDxIdeal Cert.OutDxIdeal.Gen Cert.MatMul

/-- The result: a plain sum. -/
def grad (dy : S4096x1024.Idx → EReal) (w_out : S1024x1024.Idx → EReal) : S4096x1024.Idx → EReal := fun j =>
  (∑ k : Fin 1024, dy (ix2 (at' (j 0).val) k) * w_out (ix2 (at' (j 1).val) k))

theorem grad_of (dy : S4096x1024.Idx → EReal) (w_out : S1024x1024.Idx → EReal) (j : S4096x1024.Idx) (d : Fin 4096) (f : Fin 1024)
    (hd : d.val = (j 0).val) (hf : f.val = (j 1).val) : grad dy w_out j = (∑ k : Fin 1024, dy (ix2 d k) * w_out (ix2 f k)) := by
  unfold grad
  rw [at'_eq _ d hd, at'_eq _ f hf]

variable (m : (ℓ : Loc nD τ sig) → Buf (Elt Ideal) ℓ) (c : Dev nD)

/-- A point's block. -/
theorem out_at (x : FVec Ideal S2048x1024 .bf16) (y : FVec Ideal S1024x1024 .bf16) (r : Fin 2048) (l : Fin 1024) :
    out0_2 (F := Ideal) x y (ix2 r l) = ((∑ k : Fin 1024, (x (ix2 r k) * y (ix2 l k) : EReal)) : EReal) := by
  frame_out
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem iblk0_at (t : Fin cfg0.N) (ht : t.val < 2) (r : Fin 2048) (k : Fin 1024) :
    (iblk m c 0 t : FVec Ideal S2048x1024 .bf16) (ix2 r k) = (m ((c : Thread nD τ).loc main_arg0) : S4096x1024.Idx → EReal) (ix2 ⟨2048 * t.val + r.val, by omega⟩ k) := by
  blk_point [iblk, V, idx t]

theorem iblk1_at (t : Fin cfg0.N) (l : Fin 1024) (k : Fin 1024) :
    (iblk m c 1 t : FVec Ideal S1024x1024 .bf16) (ix2 l k) = (m ((c : Thread nD τ).loc main_arg1) : S1024x1024.Idx → EReal) (ix2 l k) := by
  blk_point [iblk, V, idx t]

theorem emb_val (t : Fin cfg0.N) (y : S2048x1024.Idx) :
    (((win0_2.blk t).view.emb y) 0).val = 2048 * t.val + (y 0).val ∧ (((win0_2.blk t).view.emb y) 1).val = (y 1).val := by
  refine ⟨?_, ?_⟩ <;> blk_simp [idx t] <;> simp <;> omega

/-- The result after the run. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have ht : t.val < 2 := lt_of_lt_of_eq t.isLt (show cfg0.N = 2 from N_0)
  blk_simp
  rw [after0_2]
  obtain ⟨e0, e1⟩ := emb_val t y
  have y0 : (y 0).val < 2048 := (y 0).isLt
  refine ((congrArg _ (eq_ix2 y)).trans (out_at _ _ (y 0) (y 1))).trans ?_
  refine Eq.trans ?_ (grad_of _ _ _ ⟨2048 * t.val + (y 0).val, by omega⟩ (y 1) e0.symm e1.symm).symm
  exact Finset.sum_congr rfl fun k _ => congrArg₂ (fun a b : EReal => a * b) (iblk0_at m c t ht (y 0) k) (iblk1_at m c t (y 1) k)

end Cert.OutDxIdeal.Value

namespace Cert.OutDxRefIdeal.Value

open Cert.OutDxRefIdeal Cert.OutDxRefIdeal.Gen

/-- The reference's result. -/
theorem ref_eq (dy : FVec Ideal S4096x1024 .bf16) (w_out : FVec Ideal S1024x1024 .bf16) :
    (Host.dotGeneral dot_S4096x1024_S1024x1024_S4096x1024_1_1_0_0_n_n none (extf .f32 dy bitsLt_bf16_f32) (extf .f32 w_out bitsLt_bf16_f32) : S4096x1024.Idx → EReal)
    = Cert.OutDxIdeal.Value.grad dy w_out := by
  funext j
  obtain ⟨p, q, rfl⟩ : ∃ (p : Fin 4096) (q : Fin 1024), j = ix2 p q := ⟨j 0, j 1, eq_ix2 j⟩
  pointwise
  exact (Cert.OutDxIdeal.Value.grad_of dy w_out (ix2 p q) p q rfl rfl).symm

end Cert.OutDxRefIdeal.Value

end
-- ==== Proof.OutDwFinal.lean ====
/- The gradient of the output projection: the tiled product, and the reference's. -/
module

public import proofs.«01_k».proof.Proof.Gen.OutDw
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.MatMul

@[expose] public section

set_option maxRecDepth 16384

noncomputable section

open Idealize.ShloMosaic Idealize.ShloMosaic.TcCoe Idealize.SL.Sem

namespace Cert.OutDwIdeal.Value

open Cert.OutDwIdeal Cert.OutDwIdeal.Gen Cert.MatMul

/-- The result: a plain sum. -/
def grad (merged : S4096x1024.Idx → EReal) (dy : S4096x1024.Idx → EReal) : S1024x1024.Idx → EReal := fun j =>
  (∑ k : Fin 4096, merged (ix2 k (at' (j 0).val)) * dy (ix2 k (at' (j 1).val)))

theorem grad_of (merged : S4096x1024.Idx → EReal) (dy : S4096x1024.Idx → EReal) (j : S1024x1024.Idx) (d : Fin 1024) (f : Fin 1024)
    (hd : d.val = (j 0).val) (hf : f.val = (j 1).val) : grad merged dy j = (∑ k : Fin 4096, merged (ix2 k d) * dy (ix2 k f)) := by
  unfold grad
  rw [at'_eq _ d hd, at'_eq _ f hf]

variable (m : (ℓ : Loc nD τ sig) → Buf (Elt Ideal) ℓ) (c : Dev nD)

/-- A point's block. -/
theorem out_at (x : FVec Ideal S4096x1024 .bf16) (y : FVec Ideal S4096x1024 .bf16) (r : Fin 1024) (l : Fin 1024) :
    out0_2 (F := Ideal) x y (ix2 r l) = ((∑ k : Fin 4096, (x (ix2 k r) * y (ix2 k l) : EReal)) : EReal) := by
  frame_out
  pointwise [k0_pay1]

theorem idx : ∀ t : Fin cfg0.N, win0_0.index t = ![0, 0] ∧ win0_1.index t = ![0, 0] ∧ win0_2.index t = ![0, 0] :=
  (by decide +kernel : ∀ t : Fin grid0.N, _)

theorem iblk0_at (t : Fin cfg0.N) (r : Fin 1024) (k : Fin 4096) :
    (iblk m c 0 t : FVec Ideal S4096x1024 .bf16) (ix2 k r) = (m ((c : Thread nD τ).loc main_arg0) : S4096x1024.Idx → EReal) (ix2 k r) := by
  blk_point [iblk, V, idx t]

theorem iblk1_at (t : Fin cfg0.N) (l : Fin 1024) (k : Fin 4096) :
    (iblk m c 1 t : FVec Ideal S4096x1024 .bf16) (ix2 k l) = (m ((c : Thread nD τ).loc main_arg1) : S4096x1024.Idx → EReal) (ix2 k l) := by
  blk_point [iblk, V, idx t]

theorem emb_val (t : Fin cfg0.N) (y : S1024x1024.Idx) :
    (((win0_2.blk t).view.emb y) 0).val = (y 0).val ∧ (((win0_2.blk t).view.emb y) 1).val = (y 1).val := by
  refine ⟨?_, ?_⟩ <;> blk_simp [idx t] <;> simp

/-- The result after the run. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1⟩ := emb_val t y
  refine ((congrArg _ (eq_ix2 y)).trans (out_at _ _ (y 0) (y 1))).trans ?_
  refine Eq.trans ?_ (grad_of _ _ _ (y 0) (y 1) e0.symm e1.symm).symm
  exact Finset.sum_congr rfl fun k _ => congrArg₂ (fun a b : EReal => a * b) (iblk0_at m c t (y 0) k) (iblk1_at m c t (y 1) k)

end Cert.OutDwIdeal.Value

namespace Cert.OutDwRefIdeal.Value

open Cert.OutDwRefIdeal Cert.OutDwRefIdeal.Gen

/-- The reference's result. -/
theorem ref_eq (merged : FVec Ideal S4096x1024 .bf16) (dy : FVec Ideal S4096x1024 .bf16) :
    (truncf .bf16 (transpose S1024x1024 [1, 0] (Host.dotGeneral dot_S4096x1024_S4096x1024_S1024x1024_0_0_1_1_n_n none (extf .f32 dy bitsLt_bf16_f32) (extf .f32 merged bitsLt_bf16_f32)) transposes_S1024x1024_S1024x1024_1_0) bitsLt_bf16_f32 : S1024x1024.Idx → EReal)
    = Cert.OutDwIdeal.Value.grad merged dy := by
  funext j
  obtain ⟨p, q, rfl⟩ : ∃ (p : Fin 1024) (q : Fin 1024), j = ix2 p q := ⟨j 0, j 1, eq_ix2 j⟩
  pointwise
  exact Eq.trans (Finset.sum_congr rfl fun k _ => mul_comm _ _) (Cert.OutDwIdeal.Value.grad_of merged dy (ix2 p q) p q rfl rfl).symm

end Cert.OutDwRefIdeal.Value

end
-- ==== Proof.UqFinal.lean ====
/- The latent attention's queries: the tiled product, and the reference's. -/
module

public import proofs.«01_k».proof.Proof.Gen.Uq
public import proofs.«01_k».proof.Proof.Gen.Uq.Frame
public import proofs.«01_k».proof.Proof.Gen.UqIdeal
public import proofs.«01_k».proof.Proof.Gen.UqIdeal.Skeleton
public import proofs.«01_k».proof.Proof.Gen.UqIdeal.Launch
public import proofs.«01_k».proof.Proof.Gen.UqIdeal.Points
public import proofs.«01_k».proof.Proof.Gen.UqIdeal.Frame
public import proofs.«01_k».proof.Proof.Gen.UqIdeal.Value
public import proofs.«01_k».proof.Proof.Gen.UqRefIdeal
public import proofs.«01_k».proof.Proof.Gen.UqRefIdeal.Run
public import proofs.«01_k».proof.Proof.MatMul

@[expose] public section

set_option maxRecDepth 16384

noncomputable section

open Idealize.ShloMosaic Idealize.ShloMosaic.TcCoe Idealize.SL.Sem

namespace Cert.UqIdeal.Value

open Cert.UqIdeal Cert.UqIdeal.Gen Cert.MatMul

/-- The result: a plain sum. -/
def prod (cqn : S4096x384.Idx → EReal) (w_uq : S384x1024.Idx → EReal) : S4096x1024.Idx → EReal := fun j =>
  (∑ k : Fin 384, cqn (ix2 (at' (j 0).val) k) * w_uq (ix2 k (at' (j 1).val)))

theorem prod_of (cqn : S4096x384.Idx → EReal) (w_uq : S384x1024.Idx → EReal) (j : S4096x1024.Idx) (d : Fin 4096) (f : Fin 1024)
    (hd : d.val = (j 0).val) (hf : f.val = (j 1).val) : prod cqn w_uq j = (∑ k : Fin 384, cqn (ix2 d k) * w_uq (ix2 k f)) := by
  unfold prod
  rw [at'_eq _ d hd, at'_eq _ f hf]

variable (m : (ℓ : Loc nD τ sig) → Buf (Elt Ideal) ℓ) (c : Dev nD)

/-- A point's block. -/
theorem out_at (x : FVec Ideal S2048x384 .bf16) (y : FVec Ideal S384x1024 .bf16) (r : Fin 2048) (l : Fin 1024) :
    out0_2 (F := Ideal) x y (ix2 r l) = ((∑ k : Fin 384, (x (ix2 r k) * y (ix2 k l) : EReal)) : EReal) := by
  frame_out
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem iblk0_at (t : Fin cfg0.N) (ht : t.val < 2) (r : Fin 2048) (k : Fin 384) :
    (iblk m c 0 t : FVec Ideal S2048x384 .bf16) (ix2 r k) = (m ((c : Thread nD τ).loc main_arg0) : S4096x384.Idx → EReal) (ix2 ⟨2048 * t.val + r.val, by omega⟩ k) := by
  blk_point [iblk, V, idx t]

theorem iblk1_at (t : Fin cfg0.N) (l : Fin 1024) (k : Fin 384) :
    (iblk m c 1 t : FVec Ideal S384x1024 .bf16) (ix2 k l) = (m ((c : Thread nD τ).loc main_arg1) : S384x1024.Idx → EReal) (ix2 k l) := by
  blk_point [iblk, V, idx t]

theorem emb_val (t : Fin cfg0.N) (y : S2048x1024.Idx) :
    (((win0_2.blk t).view.emb y) 0).val = 2048 * t.val + (y 0).val ∧ (((win0_2.blk t).view.emb y) 1).val = (y 1).val := by
  refine ⟨?_, ?_⟩ <;> blk_simp [idx t] <;> simp <;> omega

/-- The result after the run. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht : t.val < 2 := lt_of_lt_of_eq t.isLt (show cfg0.N = 2 from N_0)
  blk_simp
  rw [after0_2]
  obtain ⟨e0, e1⟩ := emb_val t y
  have y0 : (y 0).val < 2048 := (y 0).isLt
  refine ((congrArg _ (eq_ix2 y)).trans (out_at _ _ (y 0) (y 1))).trans ?_
  refine Eq.trans ?_ (prod_of _ _ _ ⟨2048 * t.val + (y 0).val, by omega⟩ (y 1) e0.symm e1.symm).symm
  exact Finset.sum_congr rfl fun k _ => congrArg₂ (fun a b : EReal => a * b) (iblk0_at m c t ht (y 0) k) (iblk1_at m c t (y 1) k)

end Cert.UqIdeal.Value

namespace Cert.UqRefIdeal.Value

open Cert.UqRefIdeal Cert.UqRefIdeal.Gen

/-- The reference's result. -/
theorem ref_eq (cqn : FVec Ideal S4096x384 .bf16) (w_uq : FVec Ideal S384x1024 .bf16) :
    (truncf .bf16 (Host.dotGeneral dot_S4096x384_S384x1024_S4096x1024_1_0_0_1_n_n none (extf .f32 cqn bitsLt_bf16_f32) (extf .f32 w_uq bitsLt_bf16_f32)) bitsLt_bf16_f32 : S4096x1024.Idx → EReal)
    = Cert.UqIdeal.Value.prod cqn w_uq := by
  funext j
  obtain ⟨p, q, rfl⟩ : ∃ (p : Fin 4096) (q : Fin 1024), j = ix2 p q := ⟨j 0, j 1, eq_ix2 j⟩
  pointwise
  exact (Cert.UqIdeal.Value.prod_of cqn w_uq (ix2 p q) p q rfl rfl).symm

end Cert.UqRefIdeal.Value

end
-- ==== Proof.UqDxFinal.lean ====
/- The gradient of the query latents: the tiled product, and the reference's. -/
module

public import proofs.«01_k».proof.Proof.Gen.UqDx
public import proofs.«01_k».proof.Proof.Gen.UqDx.Frame
public import proofs.«01_k».proof.Proof.Gen.UqDxIdeal
public import proofs.«01_k».proof.Proof.Gen.UqDxIdeal.Skeleton
public import proofs.«01_k».proof.Proof.Gen.UqDxIdeal.Launch
public import proofs.«01_k».proof.Proof.Gen.UqDxIdeal.Points
public import proofs.«01_k».proof.Proof.Gen.UqDxIdeal.Frame
public import proofs.«01_k».proof.Proof.Gen.UqDxIdeal.Value
public import proofs.«01_k».proof.Proof.Gen.UqDxRefIdeal
public import proofs.«01_k».proof.Proof.Gen.UqDxRefIdeal.Run
public import proofs.«01_k».proof.Proof.MatMul

@[expose] public section

set_option maxRecDepth 16384

noncomputable section

open Idealize.ShloMosaic Idealize.ShloMosaic.TcCoe Idealize.SL.Sem

namespace Cert.UqDxIdeal.Value

open Cert.UqDxIdeal Cert.UqDxIdeal.Gen Cert.MatMul

/-- The result: a plain sum. -/
def grad (dq : S4096x1024.Idx → EReal) (w_uq : S384x1024.Idx → EReal) : S4096x384.Idx → EReal := fun j =>
  (∑ k : Fin 1024, dq (ix2 (at' (j 0).val) k) * w_uq (ix2 (at' (j 1).val) k))

theorem grad_of (dq : S4096x1024.Idx → EReal) (w_uq : S384x1024.Idx → EReal) (j : S4096x384.Idx) (d : Fin 4096) (f : Fin 384)
    (hd : d.val = (j 0).val) (hf : f.val = (j 1).val) : grad dq w_uq j = (∑ k : Fin 1024, dq (ix2 d k) * w_uq (ix2 f k)) := by
  unfold grad
  rw [at'_eq _ d hd, at'_eq _ f hf]

variable (m : (ℓ : Loc nD τ sig) → Buf (Elt Ideal) ℓ) (c : Dev nD)

/-- A point's block. -/
theorem out_at (x : FVec Ideal S2048x1024 .bf16) (y : FVec Ideal S384x1024 .bf16) (r : Fin 2048) (l : Fin 384) :
    out0_2 (F := Ideal) x y (ix2 r l) = ((∑ k : Fin 1024, (x (ix2 r k) * y (ix2 l k) : EReal)) : EReal) := by
  frame_out
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem iblk0_at (t : Fin cfg0.N) (ht : t.val < 2) (r : Fin 2048) (k : Fin 1024) :
    (iblk m c 0 t : FVec Ideal S2048x1024 .bf16) (ix2 r k) = (m ((c : Thread nD τ).loc main_arg0) : S4096x1024.Idx → EReal) (ix2 ⟨2048 * t.val + r.val, by omega⟩ k) := by
  blk_point [iblk, V, idx t]

theorem iblk1_at (t : Fin cfg0.N) (l : Fin 384) (k : Fin 1024) :
    (iblk m c 1 t : FVec Ideal S384x1024 .bf16) (ix2 l k) = (m ((c : Thread nD τ).loc main_arg1) : S384x1024.Idx → EReal) (ix2 l k) := by
  blk_point [iblk, V, idx t]

theorem emb_val (t : Fin cfg0.N) (y : S2048x384.Idx) :
    (((win0_2.blk t).view.emb y) 0).val = 2048 * t.val + (y 0).val ∧ (((win0_2.blk t).view.emb y) 1).val = (y 1).val := by
  refine ⟨?_, ?_⟩ <;> blk_simp [idx t] <;> simp <;> omega

/-- The result after the run. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have ht : t.val < 2 := lt_of_lt_of_eq t.isLt (show cfg0.N = 2 from N_0)
  blk_simp
  rw [after0_2]
  obtain ⟨e0, e1⟩ := emb_val t y
  have y0 : (y 0).val < 2048 := (y 0).isLt
  refine ((congrArg _ (eq_ix2 y)).trans (out_at _ _ (y 0) (y 1))).trans ?_
  refine Eq.trans ?_ (grad_of _ _ _ ⟨2048 * t.val + (y 0).val, by omega⟩ (y 1) e0.symm e1.symm).symm
  exact Finset.sum_congr rfl fun k _ => congrArg₂ (fun a b : EReal => a * b) (iblk0_at m c t ht (y 0) k) (iblk1_at m c t (y 1) k)

end Cert.UqDxIdeal.Value

namespace Cert.UqDxRefIdeal.Value

open Cert.UqDxRefIdeal Cert.UqDxRefIdeal.Gen

/-- The reference's result. -/
theorem ref_eq (dq : FVec Ideal S4096x1024 .bf16) (w_uq : FVec Ideal S384x1024 .bf16) :
    (Host.dotGeneral dot_S4096x1024_S384x1024_S4096x384_1_1_0_0_n_n none (extf .f32 dq bitsLt_bf16_f32) (extf .f32 w_uq bitsLt_bf16_f32) : S4096x384.Idx → EReal)
    = Cert.UqDxIdeal.Value.grad dq w_uq := by
  funext j
  obtain ⟨p, q, rfl⟩ : ∃ (p : Fin 4096) (q : Fin 384), j = ix2 p q := ⟨j 0, j 1, eq_ix2 j⟩
  pointwise
  exact (Cert.UqDxIdeal.Value.grad_of dq w_uq (ix2 p q) p q rfl rfl).symm

end Cert.UqDxRefIdeal.Value

end
-- ==== Proof.UqDwFinal.lean ====
/- The gradient of the query projection: the tiled product, and the reference's. -/
module

public import proofs.«01_k».proof.Proof.Gen.UqDw
public import proofs.«01_k».proof.Proof.Gen.UqDw.Frame
public import proofs.«01_k».proof.Proof.Gen.UqDwIdeal
public import proofs.«01_k».proof.Proof.Gen.UqDwIdeal.Skeleton
public import proofs.«01_k».proof.Proof.Gen.UqDwIdeal.Launch
public import proofs.«01_k».proof.Proof.Gen.UqDwIdeal.Points
public import proofs.«01_k».proof.Proof.Gen.UqDwIdeal.Frame
public import proofs.«01_k».proof.Proof.Gen.UqDwIdeal.Value
public import proofs.«01_k».proof.Proof.Gen.UqDwRefIdeal
public import proofs.«01_k».proof.Proof.Gen.UqDwRefIdeal.Run
public import proofs.«01_k».proof.Proof.MatMul

@[expose] public section

set_option maxRecDepth 16384

noncomputable section

open Idealize.ShloMosaic Idealize.ShloMosaic.TcCoe Idealize.SL.Sem

namespace Cert.UqDwIdeal.Value

open Cert.UqDwIdeal Cert.UqDwIdeal.Gen Cert.MatMul

/-- The result: a plain sum. -/
def grad (cqn : S4096x384.Idx → EReal) (dq : S4096x1024.Idx → EReal) : S384x1024.Idx → EReal := fun j =>
  (∑ k : Fin 4096, cqn (ix2 k (at' (j 0).val)) * dq (ix2 k (at' (j 1).val)))

theorem grad_of (cqn : S4096x384.Idx → EReal) (dq : S4096x1024.Idx → EReal) (j : S384x1024.Idx) (d : Fin 384) (f : Fin 1024)
    (hd : d.val = (j 0).val) (hf : f.val = (j 1).val) : grad cqn dq j = (∑ k : Fin 4096, cqn (ix2 k d) * dq (ix2 k f)) := by
  unfold grad
  rw [at'_eq _ d hd, at'_eq _ f hf]

variable (m : (ℓ : Loc nD τ sig) → Buf (Elt Ideal) ℓ) (c : Dev nD)

/-- A point's block. -/
theorem out_at (x : FVec Ideal S4096x384 .bf16) (y : FVec Ideal S4096x1024 .bf16) (r : Fin 384) (l : Fin 1024) :
    out0_2 (F := Ideal) x y (ix2 r l) = ((∑ k : Fin 4096, (x (ix2 k r) * y (ix2 k l) : EReal)) : EReal) := by
  frame_out
  pointwise [k0_pay1]

theorem idx : ∀ t : Fin cfg0.N, win0_0.index t = ![0, 0] ∧ win0_1.index t = ![0, 0] ∧ win0_2.index t = ![0, 0] :=
  (by decide +kernel : ∀ t : Fin grid0.N, _)

theorem iblk0_at (t : Fin cfg0.N) (r : Fin 384) (k : Fin 4096) :
    (iblk m c 0 t : FVec Ideal S4096x384 .bf16) (ix2 k r) = (m ((c : Thread nD τ).loc main_arg0) : S4096x384.Idx → EReal) (ix2 k r) := by
  blk_point [iblk, V, idx t]

theorem iblk1_at (t : Fin cfg0.N) (l : Fin 1024) (k : Fin 4096) :
    (iblk m c 1 t : FVec Ideal S4096x1024 .bf16) (ix2 k l) = (m ((c : Thread nD τ).loc main_arg1) : S4096x1024.Idx → EReal) (ix2 k l) := by
  blk_point [iblk, V, idx t]

theorem emb_val (t : Fin cfg0.N) (y : S384x1024.Idx) :
    (((win0_2.blk t).view.emb y) 0).val = (y 0).val ∧ (((win0_2.blk t).view.emb y) 1).val = (y 1).val := by
  refine ⟨?_, ?_⟩ <;> blk_simp [idx t] <;> simp

/-- The result after the run. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1⟩ := emb_val t y
  refine ((congrArg _ (eq_ix2 y)).trans (out_at _ _ (y 0) (y 1))).trans ?_
  refine Eq.trans ?_ (grad_of _ _ _ (y 0) (y 1) e0.symm e1.symm).symm
  exact Finset.sum_congr rfl fun k _ => congrArg₂ (fun a b : EReal => a * b) (iblk0_at m c t (y 0) k) (iblk1_at m c t (y 1) k)

end Cert.UqDwIdeal.Value

namespace Cert.UqDwRefIdeal.Value

open Cert.UqDwRefIdeal Cert.UqDwRefIdeal.Gen

/-- The reference's result. -/
theorem ref_eq (cqn : FVec Ideal S4096x384 .bf16) (dq : FVec Ideal S4096x1024 .bf16) :
    (truncf .bf16 (transpose S384x1024 [1, 0] (Host.dotGeneral dot_S4096x1024_S4096x384_S1024x384_0_0_1_1_n_n none (extf .f32 dq bitsLt_bf16_f32) (extf .f32 cqn bitsLt_bf16_f32)) transposes_S1024x384_S384x1024_1_0) bitsLt_bf16_f32 : S384x1024.Idx → EReal)
    = Cert.UqDwIdeal.Value.grad cqn dq := by
  funext j
  obtain ⟨p, q, rfl⟩ : ∃ (p : Fin 384) (q : Fin 1024), j = ix2 p q := ⟨j 0, j 1, eq_ix2 j⟩
  pointwise
  exact Eq.trans (Finset.sum_congr rfl fun k _ => mul_comm _ _) (Cert.UqDwIdeal.Value.grad_of cqn dq (ix2 p q) p q rfl rfl).symm

end Cert.UqDwRefIdeal.Value

end
-- ==== Proof.UkFinal.lean ====
/- The latent attention's keys: the tiled product, and the reference's. -/
module

public import proofs.«01_k».proof.Proof.Gen.Uk
public import proofs.«01_k».proof.Proof.Gen.Uk.Frame
public import proofs.«01_k».proof.Proof.Gen.UkIdeal
public import proofs.«01_k».proof.Proof.Gen.UkIdeal.Skeleton
public import proofs.«01_k».proof.Proof.Gen.UkIdeal.Launch
public import proofs.«01_k».proof.Proof.Gen.UkIdeal.Points
public import proofs.«01_k».proof.Proof.Gen.UkIdeal.Frame
public import proofs.«01_k».proof.Proof.Gen.UkIdeal.Value
public import proofs.«01_k».proof.Proof.Gen.UkRefIdeal
public import proofs.«01_k».proof.Proof.Gen.UkRefIdeal.Run
public import proofs.«01_k».proof.Proof.MatMul

@[expose] public section

set_option maxRecDepth 16384

noncomputable section

open Idealize.ShloMosaic Idealize.ShloMosaic.TcCoe Idealize.SL.Sem

namespace Cert.UkIdeal.Value

open Cert.UkIdeal Cert.UkIdeal.Gen Cert.MatMul

/-- The result: a plain sum. -/
def prod (ckvn : S4096x256.Idx → EReal) (w_uk : S256x1024.Idx → EReal) : S4096x1024.Idx → EReal := fun j =>
  (∑ k : Fin 256, ckvn (ix2 (at' (j 0).val) k) * w_uk (ix2 k (at' (j 1).val)))

theorem prod_of (ckvn : S4096x256.Idx → EReal) (w_uk : S256x1024.Idx → EReal) (j : S4096x1024.Idx) (d : Fin 4096) (f : Fin 1024)
    (hd : d.val = (j 0).val) (hf : f.val = (j 1).val) : prod ckvn w_uk j = (∑ k : Fin 256, ckvn (ix2 d k) * w_uk (ix2 k f)) := by
  unfold prod
  rw [at'_eq _ d hd, at'_eq _ f hf]

variable (m : (ℓ : Loc nD τ sig) → Buf (Elt Ideal) ℓ) (c : Dev nD)

/-- A point's block. -/
theorem out_at (x : FVec Ideal S2048x256 .bf16) (y : FVec Ideal S256x1024 .bf16) (r : Fin 2048) (l : Fin 1024) :
    out0_2 (F := Ideal) x y (ix2 r l) = ((∑ k : Fin 256, (x (ix2 r k) * y (ix2 k l) : EReal)) : EReal) := by
  frame_out
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem iblk0_at (t : Fin cfg0.N) (ht : t.val < 2) (r : Fin 2048) (k : Fin 256) :
    (iblk m c 0 t : FVec Ideal S2048x256 .bf16) (ix2 r k) = (m ((c : Thread nD τ).loc main_arg0) : S4096x256.Idx → EReal) (ix2 ⟨2048 * t.val + r.val, by omega⟩ k) := by
  blk_point [iblk, V, idx t]

theorem iblk1_at (t : Fin cfg0.N) (l : Fin 1024) (k : Fin 256) :
    (iblk m c 1 t : FVec Ideal S256x1024 .bf16) (ix2 k l) = (m ((c : Thread nD τ).loc main_arg1) : S256x1024.Idx → EReal) (ix2 k l) := by
  blk_point [iblk, V, idx t]

theorem emb_val (t : Fin cfg0.N) (y : S2048x1024.Idx) :
    (((win0_2.blk t).view.emb y) 0).val = 2048 * t.val + (y 0).val ∧ (((win0_2.blk t).view.emb y) 1).val = (y 1).val := by
  refine ⟨?_, ?_⟩ <;> blk_simp [idx t] <;> simp <;> omega

/-- The result after the run. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht : t.val < 2 := lt_of_lt_of_eq t.isLt (show cfg0.N = 2 from N_0)
  blk_simp
  rw [after0_2]
  obtain ⟨e0, e1⟩ := emb_val t y
  have y0 : (y 0).val < 2048 := (y 0).isLt
  refine ((congrArg _ (eq_ix2 y)).trans (out_at _ _ (y 0) (y 1))).trans ?_
  refine Eq.trans ?_ (prod_of _ _ _ ⟨2048 * t.val + (y 0).val, by omega⟩ (y 1) e0.symm e1.symm).symm
  exact Finset.sum_congr rfl fun k _ => congrArg₂ (fun a b : EReal => a * b) (iblk0_at m c t ht (y 0) k) (iblk1_at m c t (y 1) k)

end Cert.UkIdeal.Value

namespace Cert.UkRefIdeal.Value

open Cert.UkRefIdeal Cert.UkRefIdeal.Gen

/-- The reference's result. -/
theorem ref_eq (ckvn : FVec Ideal S4096x256 .bf16) (w_uk : FVec Ideal S256x1024 .bf16) :
    (truncf .bf16 (Host.dotGeneral dot_S4096x256_S256x1024_S4096x1024_1_0_0_1_n_n none (extf .f32 ckvn bitsLt_bf16_f32) (extf .f32 w_uk bitsLt_bf16_f32)) bitsLt_bf16_f32 : S4096x1024.Idx → EReal)
    = Cert.UkIdeal.Value.prod ckvn w_uk := by
  funext j
  obtain ⟨p, q, rfl⟩ : ∃ (p : Fin 4096) (q : Fin 1024), j = ix2 p q := ⟨j 0, j 1, eq_ix2 j⟩
  pointwise
  exact (Cert.UkIdeal.Value.prod_of ckvn w_uk (ix2 p q) p q rfl rfl).symm

end Cert.UkRefIdeal.Value

end
-- ==== Proof.UkDxFinal.lean ====
/- The gradient of the key latents: the tiled product, and the reference's. -/
module

public import proofs.«01_k».proof.Proof.Gen.UkDx
public import proofs.«01_k».proof.Proof.Gen.UkDx.Frame
public import proofs.«01_k».proof.Proof.Gen.UkDxIdeal
public import proofs.«01_k».proof.Proof.Gen.UkDxIdeal.Skeleton
public import proofs.«01_k».proof.Proof.Gen.UkDxIdeal.Launch
public import proofs.«01_k».proof.Proof.Gen.UkDxIdeal.Points
public import proofs.«01_k».proof.Proof.Gen.UkDxIdeal.Frame
public import proofs.«01_k».proof.Proof.Gen.UkDxIdeal.Value
public import proofs.«01_k».proof.Proof.Gen.UkDxRefIdeal
public import proofs.«01_k».proof.Proof.Gen.UkDxRefIdeal.Run
public import proofs.«01_k».proof.Proof.MatMul

@[expose] public section

set_option maxRecDepth 16384

noncomputable section

open Idealize.ShloMosaic Idealize.ShloMosaic.TcCoe Idealize.SL.Sem

namespace Cert.UkDxIdeal.Value

open Cert.UkDxIdeal Cert.UkDxIdeal.Gen Cert.MatMul

/-- The result: a plain sum. -/
def grad (dk : S4096x1024.Idx → EReal) (w_uk : S256x1024.Idx → EReal) : S4096x256.Idx → EReal := fun j =>
  (∑ k : Fin 1024, dk (ix2 (at' (j 0).val) k) * w_uk (ix2 (at' (j 1).val) k))

theorem grad_of (dk : S4096x1024.Idx → EReal) (w_uk : S256x1024.Idx → EReal) (j : S4096x256.Idx) (d : Fin 4096) (f : Fin 256)
    (hd : d.val = (j 0).val) (hf : f.val = (j 1).val) : grad dk w_uk j = (∑ k : Fin 1024, dk (ix2 d k) * w_uk (ix2 f k)) := by
  unfold grad
  rw [at'_eq _ d hd, at'_eq _ f hf]

variable (m : (ℓ : Loc nD τ sig) → Buf (Elt Ideal) ℓ) (c : Dev nD)

/-- A point's block. -/
theorem out_at (x : FVec Ideal S2048x1024 .f32) (y : FVec Ideal S256x1024 .bf16) (r : Fin 2048) (l : Fin 256) :
    out0_2 (F := Ideal) x y (ix2 r l) = ((∑ k : Fin 1024, (x (ix2 r k) * y (ix2 l k) : EReal)) : EReal) := by
  frame_out
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem iblk0_at (t : Fin cfg0.N) (ht : t.val < 2) (r : Fin 2048) (k : Fin 1024) :
    (iblk m c 0 t : FVec Ideal S2048x1024 .f32) (ix2 r k) = (m ((c : Thread nD τ).loc main_arg0) : S4096x1024.Idx → EReal) (ix2 ⟨2048 * t.val + r.val, by omega⟩ k) := by
  blk_point [iblk, V, idx t]

theorem iblk1_at (t : Fin cfg0.N) (l : Fin 256) (k : Fin 1024) :
    (iblk m c 1 t : FVec Ideal S256x1024 .bf16) (ix2 l k) = (m ((c : Thread nD τ).loc main_arg1) : S256x1024.Idx → EReal) (ix2 l k) := by
  blk_point [iblk, V, idx t]

theorem emb_val (t : Fin cfg0.N) (y : S2048x256.Idx) :
    (((win0_2.blk t).view.emb y) 0).val = 2048 * t.val + (y 0).val ∧ (((win0_2.blk t).view.emb y) 1).val = (y 1).val := by
  refine ⟨?_, ?_⟩ <;> blk_simp [idx t] <;> simp <;> omega

/-- The result after the run. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have ht : t.val < 2 := lt_of_lt_of_eq t.isLt (show cfg0.N = 2 from N_0)
  blk_simp
  rw [after0_2]
  obtain ⟨e0, e1⟩ := emb_val t y
  have y0 : (y 0).val < 2048 := (y 0).isLt
  refine ((congrArg _ (eq_ix2 y)).trans (out_at _ _ (y 0) (y 1))).trans ?_
  refine Eq.trans ?_ (grad_of _ _ _ ⟨2048 * t.val + (y 0).val, by omega⟩ (y 1) e0.symm e1.symm).symm
  exact Finset.sum_congr rfl fun k _ => congrArg₂ (fun a b : EReal => a * b) (iblk0_at m c t ht (y 0) k) (iblk1_at m c t (y 1) k)

end Cert.UkDxIdeal.Value

namespace Cert.UkDxRefIdeal.Value

open Cert.UkDxRefIdeal Cert.UkDxRefIdeal.Gen

/-- The reference's result. -/
theorem ref_eq (dk : FVec Ideal S4096x1024 .f32) (w_uk : FVec Ideal S256x1024 .bf16) :
    (Host.dotGeneral dot_S4096x1024_S256x1024_S4096x256_1_1_0_0_n_n none dk (extf .f32 w_uk bitsLt_bf16_f32) : S4096x256.Idx → EReal)
    = Cert.UkDxIdeal.Value.grad dk w_uk := by
  funext j
  obtain ⟨p, q, rfl⟩ : ∃ (p : Fin 4096) (q : Fin 256), j = ix2 p q := ⟨j 0, j 1, eq_ix2 j⟩
  pointwise
  exact (Cert.UkDxIdeal.Value.grad_of dk w_uk (ix2 p q) p q rfl rfl).symm

end Cert.UkDxRefIdeal.Value

end
-- ==== Proof.UkDwFinal.lean ====
/- The gradient of the key projection: the tiled product, and the reference's. -/
module

public import proofs.«01_k».proof.Proof.Gen.UkDw
public import proofs.«01_k».proof.Proof.Gen.UkDw.Frame
public import proofs.«01_k».proof.Proof.Gen.UkDwIdeal
public import proofs.«01_k».proof.Proof.Gen.UkDwIdeal.Skeleton
public import proofs.«01_k».proof.Proof.Gen.UkDwIdeal.Launch
public import proofs.«01_k».proof.Proof.Gen.UkDwIdeal.Points
public import proofs.«01_k».proof.Proof.Gen.UkDwIdeal.Frame
public import proofs.«01_k».proof.Proof.Gen.UkDwIdeal.Value
public import proofs.«01_k».proof.Proof.Gen.UkDwRefIdeal
public import proofs.«01_k».proof.Proof.Gen.UkDwRefIdeal.Run
public import proofs.«01_k».proof.Proof.MatMul

@[expose] public section

set_option maxRecDepth 16384

noncomputable section

open Idealize.ShloMosaic Idealize.ShloMosaic.TcCoe Idealize.SL.Sem

namespace Cert.UkDwIdeal.Value

open Cert.UkDwIdeal Cert.UkDwIdeal.Gen Cert.MatMul

/-- The result: a plain sum. -/
def grad (ckvn : S4096x256.Idx → EReal) (dk : S4096x1024.Idx → EReal) : S256x1024.Idx → EReal := fun j =>
  (∑ k : Fin 4096, ckvn (ix2 k (at' (j 0).val)) * dk (ix2 k (at' (j 1).val)))

theorem grad_of (ckvn : S4096x256.Idx → EReal) (dk : S4096x1024.Idx → EReal) (j : S256x1024.Idx) (d : Fin 256) (f : Fin 1024)
    (hd : d.val = (j 0).val) (hf : f.val = (j 1).val) : grad ckvn dk j = (∑ k : Fin 4096, ckvn (ix2 k d) * dk (ix2 k f)) := by
  unfold grad
  rw [at'_eq _ d hd, at'_eq _ f hf]

variable (m : (ℓ : Loc nD τ sig) → Buf (Elt Ideal) ℓ) (c : Dev nD)

/-- A point's block. -/
theorem out_at (x : FVec Ideal S4096x256 .bf16) (y : FVec Ideal S4096x1024 .f32) (r : Fin 256) (l : Fin 1024) :
    out0_2 (F := Ideal) x y (ix2 r l) = ((∑ k : Fin 4096, (x (ix2 k r) * y (ix2 k l) : EReal)) : EReal) := by
  frame_out
  pointwise [k0_pay1]

theorem idx : ∀ t : Fin cfg0.N, win0_0.index t = ![0, 0] ∧ win0_1.index t = ![0, 0] ∧ win0_2.index t = ![0, 0] :=
  (by decide +kernel : ∀ t : Fin grid0.N, _)

theorem iblk0_at (t : Fin cfg0.N) (r : Fin 256) (k : Fin 4096) :
    (iblk m c 0 t : FVec Ideal S4096x256 .bf16) (ix2 k r) = (m ((c : Thread nD τ).loc main_arg0) : S4096x256.Idx → EReal) (ix2 k r) := by
  blk_point [iblk, V, idx t]

theorem iblk1_at (t : Fin cfg0.N) (l : Fin 1024) (k : Fin 4096) :
    (iblk m c 1 t : FVec Ideal S4096x1024 .f32) (ix2 k l) = (m ((c : Thread nD τ).loc main_arg1) : S4096x1024.Idx → EReal) (ix2 k l) := by
  blk_point [iblk, V, idx t]

theorem emb_val (t : Fin cfg0.N) (y : S256x1024.Idx) :
    (((win0_2.blk t).view.emb y) 0).val = (y 0).val ∧ (((win0_2.blk t).view.emb y) 1).val = (y 1).val := by
  refine ⟨?_, ?_⟩ <;> blk_simp [idx t] <;> simp

/-- The result after the run. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1⟩ := emb_val t y
  refine ((congrArg _ (eq_ix2 y)).trans (out_at _ _ (y 0) (y 1))).trans ?_
  refine Eq.trans ?_ (grad_of _ _ _ (y 0) (y 1) e0.symm e1.symm).symm
  exact Finset.sum_congr rfl fun k _ => congrArg₂ (fun a b : EReal => a * b) (iblk0_at m c t (y 0) k) (iblk1_at m c t (y 1) k)

end Cert.UkDwIdeal.Value

namespace Cert.UkDwRefIdeal.Value

open Cert.UkDwRefIdeal Cert.UkDwRefIdeal.Gen

/-- The reference's result. -/
theorem ref_eq (ckvn : FVec Ideal S4096x256 .bf16) (dk : FVec Ideal S4096x1024 .f32) :
    (truncf .bf16 (transpose S256x1024 [1, 0] (Host.dotGeneral dot_S4096x1024_S4096x256_S1024x256_0_0_1_1_n_n none dk (extf .f32 ckvn bitsLt_bf16_f32)) transposes_S1024x256_S256x1024_1_0) bitsLt_bf16_f32 : S256x1024.Idx → EReal)
    = Cert.UkDwIdeal.Value.grad ckvn dk := by
  funext j
  obtain ⟨p, q, rfl⟩ : ∃ (p : Fin 256) (q : Fin 1024), j = ix2 p q := ⟨j 0, j 1, eq_ix2 j⟩
  pointwise
  exact Eq.trans (Finset.sum_congr rfl fun k _ => mul_comm _ _) (Cert.UkDwIdeal.Value.grad_of ckvn dk (ix2 p q) p q rfl rfl).symm

end Cert.UkDwRefIdeal.Value

end
-- ==== Proof.UvFinal.lean ====
/- The latent attention's values: the tiled product, and the reference's. -/
module

public import proofs.«01_k».proof.Proof.Gen.Uv
public import proofs.«01_k».proof.Proof.Gen.Uv.Frame
public import proofs.«01_k».proof.Proof.Gen.UvIdeal
public import proofs.«01_k».proof.Proof.Gen.UvIdeal.Skeleton
public import proofs.«01_k».proof.Proof.Gen.UvIdeal.Launch
public import proofs.«01_k».proof.Proof.Gen.UvIdeal.Points
public import proofs.«01_k».proof.Proof.Gen.UvIdeal.Frame
public import proofs.«01_k».proof.Proof.Gen.UvIdeal.Value
public import proofs.«01_k».proof.Proof.Gen.UvRefIdeal
public import proofs.«01_k».proof.Proof.Gen.UvRefIdeal.Run
public import proofs.«01_k».proof.Proof.MatMul

@[expose] public section

set_option maxRecDepth 16384

noncomputable section

open Idealize.ShloMosaic Idealize.ShloMosaic.TcCoe Idealize.SL.Sem

namespace Cert.UvIdeal.Value

open Cert.UvIdeal Cert.UvIdeal.Gen Cert.MatMul

/-- The result: a plain sum. -/
def prod (ckvn : S4096x256.Idx → EReal) (w_uv : S256x512.Idx → EReal) : S4096x512.Idx → EReal := fun j =>
  (∑ k : Fin 256, ckvn (ix2 (at' (j 0).val) k) * w_uv (ix2 k (at' (j 1).val)))

theorem prod_of (ckvn : S4096x256.Idx → EReal) (w_uv : S256x512.Idx → EReal) (j : S4096x512.Idx) (d : Fin 4096) (f : Fin 512)
    (hd : d.val = (j 0).val) (hf : f.val = (j 1).val) : prod ckvn w_uv j = (∑ k : Fin 256, ckvn (ix2 d k) * w_uv (ix2 k f)) := by
  unfold prod
  rw [at'_eq _ d hd, at'_eq _ f hf]

variable (m : (ℓ : Loc nD τ sig) → Buf (Elt Ideal) ℓ) (c : Dev nD)

/-- A point's block. -/
theorem out_at (x : FVec Ideal S2048x256 .bf16) (y : FVec Ideal S256x512 .bf16) (r : Fin 2048) (l : Fin 512) :
    out0_2 (F := Ideal) x y (ix2 r l) = ((∑ k : Fin 256, (x (ix2 r k) * y (ix2 k l) : EReal)) : EReal) := by
  frame_out
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem iblk0_at (t : Fin cfg0.N) (ht : t.val < 2) (r : Fin 2048) (k : Fin 256) :
    (iblk m c 0 t : FVec Ideal S2048x256 .bf16) (ix2 r k) = (m ((c : Thread nD τ).loc main_arg0) : S4096x256.Idx → EReal) (ix2 ⟨2048 * t.val + r.val, by omega⟩ k) := by
  blk_point [iblk, V, idx t]

theorem iblk1_at (t : Fin cfg0.N) (l : Fin 512) (k : Fin 256) :
    (iblk m c 1 t : FVec Ideal S256x512 .bf16) (ix2 k l) = (m ((c : Thread nD τ).loc main_arg1) : S256x512.Idx → EReal) (ix2 k l) := by
  blk_point [iblk, V, idx t]

theorem emb_val (t : Fin cfg0.N) (y : S2048x512.Idx) :
    (((win0_2.blk t).view.emb y) 0).val = 2048 * t.val + (y 0).val ∧ (((win0_2.blk t).view.emb y) 1).val = (y 1).val := by
  refine ⟨?_, ?_⟩ <;> blk_simp [idx t] <;> simp <;> omega

/-- The result after the run. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht : t.val < 2 := lt_of_lt_of_eq t.isLt (show cfg0.N = 2 from N_0)
  blk_simp
  rw [after0_2]
  obtain ⟨e0, e1⟩ := emb_val t y
  have y0 : (y 0).val < 2048 := (y 0).isLt
  refine ((congrArg _ (eq_ix2 y)).trans (out_at _ _ (y 0) (y 1))).trans ?_
  refine Eq.trans ?_ (prod_of _ _ _ ⟨2048 * t.val + (y 0).val, by omega⟩ (y 1) e0.symm e1.symm).symm
  exact Finset.sum_congr rfl fun k _ => congrArg₂ (fun a b : EReal => a * b) (iblk0_at m c t ht (y 0) k) (iblk1_at m c t (y 1) k)

end Cert.UvIdeal.Value

namespace Cert.UvRefIdeal.Value

open Cert.UvRefIdeal Cert.UvRefIdeal.Gen

/-- The reference's result. -/
theorem ref_eq (ckvn : FVec Ideal S4096x256 .bf16) (w_uv : FVec Ideal S256x512 .bf16) :
    (truncf .bf16 (Host.dotGeneral dot_S4096x256_S256x512_S4096x512_1_0_0_1_n_n none (extf .f32 ckvn bitsLt_bf16_f32) (extf .f32 w_uv bitsLt_bf16_f32)) bitsLt_bf16_f32 : S4096x512.Idx → EReal)
    = Cert.UvIdeal.Value.prod ckvn w_uv := by
  funext j
  obtain ⟨p, q, rfl⟩ : ∃ (p : Fin 4096) (q : Fin 512), j = ix2 p q := ⟨j 0, j 1, eq_ix2 j⟩
  pointwise
  exact (Cert.UvIdeal.Value.prod_of ckvn w_uv (ix2 p q) p q rfl rfl).symm

end Cert.UvRefIdeal.Value

end
-- ==== Proof.UvDxFinal.lean ====
/- The gradient of the key latents, added to the keys' part: the tiled product, and the reference's. -/
module

public import proofs.«01_k».proof.Proof.Gen.UvDx
public import proofs.«01_k».proof.Proof.Gen.UvDx.Frame
public import proofs.«01_k».proof.Proof.Gen.UvDxIdeal
public import proofs.«01_k».proof.Proof.Gen.UvDxIdeal.Skeleton
public import proofs.«01_k».proof.Proof.Gen.UvDxIdeal.Launch
public import proofs.«01_k».proof.Proof.Gen.UvDxIdeal.Points
public import proofs.«01_k».proof.Proof.Gen.UvDxIdeal.Frame
public import proofs.«01_k».proof.Proof.Gen.UvDxIdeal.Value
public import proofs.«01_k».proof.Proof.Gen.UvDxRefIdeal
public import proofs.«01_k».proof.Proof.Gen.UvDxRefIdeal.Run
public import proofs.«01_k».proof.Proof.MatMul

@[expose] public section

set_option maxRecDepth 16384

noncomputable section

open Idealize.ShloMosaic Idealize.ShloMosaic.TcCoe Idealize.SL.Sem

namespace Cert.UvDxIdeal.Value

open Cert.UvDxIdeal Cert.UvDxIdeal.Gen Cert.MatMul

/-- The result: a plain sum, added to the third argument. -/
def grad (dv : S4096x512.Idx → EReal) (w_uv : S256x512.Idx → EReal) (dckvn : S4096x256.Idx → EReal) : S4096x256.Idx → EReal := fun j =>
  (∑ k : Fin 512, dv (ix2 (at' (j 0).val) k) * w_uv (ix2 (at' (j 1).val) k)) + dckvn j

theorem grad_of (dv : S4096x512.Idx → EReal) (w_uv : S256x512.Idx → EReal) (dckvn : S4096x256.Idx → EReal) (j : S4096x256.Idx) (d : Fin 4096) (f : Fin 256)
    (hd : d.val = (j 0).val) (hf : f.val = (j 1).val) : grad dv w_uv dckvn j = (∑ k : Fin 512, dv (ix2 d k) * w_uv (ix2 f k)) + dckvn j := by
  unfold grad
  rw [at'_eq _ d hd, at'_eq _ f hf]

variable (m : (ℓ : Loc nD τ sig) → Buf (Elt Ideal) ℓ) (c : Dev nD)

/-- A point's block. -/
theorem out_at (x : FVec Ideal S2048x512 .f32) (y : FVec Ideal S256x512 .bf16) (z : FVec Ideal S2048x256 .f32) (r : Fin 2048) (l : Fin 256) :
    out0_3 (F := Ideal) x y z (ix2 r l) = ((∑ k : Fin 512, (x (ix2 r k) * y (ix2 l k) : EReal)) + z (ix2 r l) : EReal) := by
  frame_out
  pointwise [k0_pay1]

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem iblk0_at (t : Fin cfg0.N) (ht : t.val < 2) (r : Fin 2048) (k : Fin 512) :
    (iblk m c 0 t : FVec Ideal S2048x512 .f32) (ix2 r k) = (m ((c : Thread nD τ).loc main_arg0) : S4096x512.Idx → EReal) (ix2 ⟨2048 * t.val + r.val, by omega⟩ k) := by
  blk_point [iblk, V, idx t]

theorem iblk1_at (t : Fin cfg0.N) (l : Fin 256) (k : Fin 512) :
    (iblk m c 1 t : FVec Ideal S256x512 .bf16) (ix2 l k) = (m ((c : Thread nD τ).loc main_arg1) : S256x512.Idx → EReal) (ix2 l k) := by
  blk_point [iblk, V, idx t]

theorem iblk2_at (t : Fin cfg0.N) (ht : t.val < 2) (r : Fin 2048) (l : Fin 256) :
    (iblk m c 2 t : FVec Ideal S2048x256 .f32) (ix2 r l) = (m ((c : Thread nD τ).loc main_arg2) : S4096x256.Idx → EReal) (ix2 ⟨2048 * t.val + r.val, by omega⟩ l) := by
  blk_point [iblk, V, idx t]

theorem emb_val (t : Fin cfg0.N) (y : S2048x256.Idx) :
    (((win0_3.blk t).view.emb y) 0).val = 2048 * t.val + (y 0).val ∧ (((win0_3.blk t).view.emb y) 1).val = (y 1).val := by
  refine ⟨?_, ?_⟩ <;> blk_simp [idx t] <;> simp <;> omega

/-- The result after the run. -/
theorem final : (dats m 0 c).arrAt 3 cfg0.N = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 2 := lt_of_lt_of_eq t.isLt (show cfg0.N = 2 from N_0)
  blk_simp
  rw [after0_3]
  obtain ⟨e0, e1⟩ := emb_val t y
  have y0 : (y 0).val < 2048 := (y 0).isLt
  refine ((congrArg _ (eq_ix2 y)).trans (out_at _ _ _ (y 0) (y 1))).trans ?_
  have ej : (win0_3.blk t).view.emb y = ix2 ⟨2048 * t.val + (y 0).val, by omega⟩ (y 1) := by
    rw [eq_ix2 ((win0_3.blk t).view.emb y)]
    exact congrArg₂ ix2 (Fin.ext e0) (Fin.ext e1)
  rw [ej]
  refine Eq.trans ?_ (grad_of _ _ _ (ix2 ⟨2048 * t.val + (y 0).val, by omega⟩ (y 1)) ⟨2048 * t.val + (y 0).val, by omega⟩ (y 1) rfl rfl).symm
  exact congrArg₂ (fun a b : EReal => a + b) (Finset.sum_congr rfl fun k _ => congrArg₂ (fun a b : EReal => a * b) (iblk0_at m c t ht (y 0) k) (iblk1_at m c t (y 1) k)) (iblk2_at m c t ht (y 0) (y 1))

end Cert.UvDxIdeal.Value

namespace Cert.UvDxRefIdeal.Value

open Cert.UvDxRefIdeal Cert.UvDxRefIdeal.Gen

/-- The reference's result. -/
theorem ref_eq (dv : FVec Ideal S4096x512 .f32) (w_uv : FVec Ideal S256x512 .bf16) (dckvn : FVec Ideal S4096x256 .f32) :
    (addf dckvn (Host.dotGeneral dot_S4096x512_S256x512_S4096x256_1_1_0_0_n_n none dv (extf .f32 w_uv bitsLt_bf16_f32)) : S4096x256.Idx → EReal)
    = Cert.UvDxIdeal.Value.grad dv w_uv dckvn := by
  funext j
  obtain ⟨p, q, rfl⟩ : ∃ (p : Fin 4096) (q : Fin 256), j = ix2 p q := ⟨j 0, j 1, eq_ix2 j⟩
  pointwise
  exact (add_comm _ _).trans (Cert.UvDxIdeal.Value.grad_of dv w_uv dckvn (ix2 p q) p q rfl rfl).symm

end Cert.UvDxRefIdeal.Value

end
-- ==== Proof.UvDwFinal.lean ====
/- The gradient of the value projection: the tiled product, and the reference's. -/
module

public import proofs.«01_k».proof.Proof.Gen.UvDw
public import proofs.«01_k».proof.Proof.Gen.UvDw.Frame
public import proofs.«01_k».proof.Proof.Gen.UvDwIdeal
public import proofs.«01_k».proof.Proof.Gen.UvDwIdeal.Skeleton
public import proofs.«01_k».proof.Proof.Gen.UvDwIdeal.Launch
public import proofs.«01_k».proof.Proof.Gen.UvDwIdeal.Points
public import proofs.«01_k».proof.Proof.Gen.UvDwIdeal.Frame
public import proofs.«01_k».proof.Proof.Gen.UvDwIdeal.Value
public import proofs.«01_k».proof.Proof.Gen.UvDwRefIdeal
public import proofs.«01_k».proof.Proof.Gen.UvDwRefIdeal.Run
public import proofs.«01_k».proof.Proof.MatMul

@[expose] public section

set_option maxRecDepth 16384

noncomputable section

open Idealize.ShloMosaic Idealize.ShloMosaic.TcCoe Idealize.SL.Sem

namespace Cert.UvDwIdeal.Value

open Cert.UvDwIdeal Cert.UvDwIdeal.Gen Cert.MatMul

/-- The result: a plain sum. -/
def grad (ckvn : S4096x256.Idx → EReal) (dv : S4096x512.Idx → EReal) : S256x512.Idx → EReal := fun j =>
  (∑ k : Fin 4096, ckvn (ix2 k (at' (j 0).val)) * dv (ix2 k (at' (j 1).val)))

theorem grad_of (ckvn : S4096x256.Idx → EReal) (dv : S4096x512.Idx → EReal) (j : S256x512.Idx) (d : Fin 256) (f : Fin 512)
    (hd : d.val = (j 0).val) (hf : f.val = (j 1).val) : grad ckvn dv j = (∑ k : Fin 4096, ckvn (ix2 k d) * dv (ix2 k f)) := by
  unfold grad
  rw [at'_eq _ d hd, at'_eq _ f hf]

variable (m : (ℓ : Loc nD τ sig) → Buf (Elt Ideal) ℓ) (c : Dev nD)

/-- A point's block. -/
theorem out_at (x : FVec Ideal S4096x256 .bf16) (y : FVec Ideal S4096x512 .f32) (r : Fin 256) (l : Fin 512) :
    out0_2 (F := Ideal) x y (ix2 r l) = ((∑ k : Fin 4096, (x (ix2 k r) * y (ix2 k l) : EReal)) : EReal) := by
  frame_out
  pointwise [k0_pay1]

theorem idx : ∀ t : Fin cfg0.N, win0_0.index t = ![0, 0] ∧ win0_1.index t = ![0, 0] ∧ win0_2.index t = ![0, 0] :=
  (by decide +kernel : ∀ t : Fin grid0.N, _)

theorem iblk0_at (t : Fin cfg0.N) (r : Fin 256) (k : Fin 4096) :
    (iblk m c 0 t : FVec Ideal S4096x256 .bf16) (ix2 k r) = (m ((c : Thread nD τ).loc main_arg0) : S4096x256.Idx → EReal) (ix2 k r) := by
  blk_point [iblk, V, idx t]

theorem iblk1_at (t : Fin cfg0.N) (l : Fin 512) (k : Fin 4096) :
    (iblk m c 1 t : FVec Ideal S4096x512 .f32) (ix2 k l) = (m ((c : Thread nD τ).loc main_arg1) : S4096x512.Idx → EReal) (ix2 k l) := by
  blk_point [iblk, V, idx t]

theorem emb_val (t : Fin cfg0.N) (y : S256x512.Idx) :
    (((win0_2.blk t).view.emb y) 0).val = (y 0).val ∧ (((win0_2.blk t).view.emb y) 1).val = (y 1).val := by
  refine ⟨?_, ?_⟩ <;> blk_simp [idx t] <;> simp

/-- The result after the run. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1⟩ := emb_val t y
  refine ((congrArg _ (eq_ix2 y)).trans (out_at _ _ (y 0) (y 1))).trans ?_
  refine Eq.trans ?_ (grad_of _ _ _ (y 0) (y 1) e0.symm e1.symm).symm
  exact Finset.sum_congr rfl fun k _ => congrArg₂ (fun a b : EReal => a * b) (iblk0_at m c t (y 0) k) (iblk1_at m c t (y 1) k)

end Cert.UvDwIdeal.Value

namespace Cert.UvDwRefIdeal.Value

open Cert.UvDwRefIdeal Cert.UvDwRefIdeal.Gen

/-- The reference's result. -/
theorem ref_eq (ckvn : FVec Ideal S4096x256 .bf16) (dv : FVec Ideal S4096x512 .f32) :
    (truncf .bf16 (transpose S256x512 [1, 0] (Host.dotGeneral dot_S4096x512_S4096x256_S512x256_0_0_1_1_n_n none dv (extf .f32 ckvn bitsLt_bf16_f32)) transposes_S512x256_S256x512_1_0) bitsLt_bf16_f32 : S256x512.Idx → EReal)
    = Cert.UvDwIdeal.Value.grad ckvn dv := by
  funext j
  obtain ⟨p, q, rfl⟩ : ∃ (p : Fin 256) (q : Fin 512), j = ix2 p q := ⟨j 0, j 1, eq_ix2 j⟩
  pointwise
  exact Eq.trans (Finset.sum_congr rfl fun k _ => mul_comm _ _) (Cert.UvDwIdeal.Value.grad_of ckvn dv (ix2 p q) p q rfl rfl).symm

end Cert.UvDwRefIdeal.Value

end
-- ==== Proof.MemKvFinal.lean ====
/- The memory's keys and values: the tiled product, and the reference's. -/
module

public import proofs.«01_k».proof.Proof.Gen.MemKv
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.MatMul

@[expose] public section

set_option maxRecDepth 16384

noncomputable section

open Idealize.ShloMosaic Idealize.ShloMosaic.TcCoe Idealize.SL.Sem

namespace Cert.MemKvIdeal.Value

open Cert.MemKvIdeal Cert.MemKvIdeal.Gen Cert.MatMul

/-- The result: a plain sum. -/
def prod (memh : S512x1024.Idx → EReal) (w_kv : S1024x1024.Idx → EReal) : S512x1024.Idx → EReal := fun j =>
  (∑ k : Fin 1024, memh (ix2 (at' (j 0).val) k) * w_kv (ix2 k (at' (j 1).val)))

theorem prod_of (memh : S512x1024.Idx → EReal) (w_kv : S1024x1024.Idx → EReal) (j : S512x1024.Idx) (d : Fin 512) (f : Fin 1024)
    (hd : d.val = (j 0).val) (hf : f.val = (j 1).val) : prod memh w_kv j = (∑ k : Fin 1024, memh (ix2 d k) * w_kv (ix2 k f)) := by
  unfold prod
  rw [at'_eq _ d hd, at'_eq _ f hf]

variable (m : (ℓ : Loc nD τ sig) → Buf (Elt Ideal) ℓ) (c : Dev nD)

/-- A point's block. -/
theorem out_at (x : FVec Ideal S512x1024 .bf16) (y : FVec Ideal S1024x1024 .bf16) (r : Fin 512) (l : Fin 1024) :
    out0_2 (F := Ideal) x y (ix2 r l) = ((∑ k : Fin 1024, (x (ix2 r k) * y (ix2 k l) : EReal)) : EReal) := by
  frame_out
  pointwise [k0_pay1]

theorem idx : ∀ t : Fin cfg0.N, win0_0.index t = ![0, 0] ∧ win0_1.index t = ![0, 0] ∧ win0_2.index t = ![0, 0] :=
  (by decide +kernel : ∀ t : Fin grid0.N, _)

theorem iblk0_at (t : Fin cfg0.N) (r : Fin 512) (k : Fin 1024) :
    (iblk m c 0 t : FVec Ideal S512x1024 .bf16) (ix2 r k) = (m ((c : Thread nD τ).loc main_arg0) : S512x1024.Idx → EReal) (ix2 r k) := by
  blk_point [iblk, V, idx t]

theorem iblk1_at (t : Fin cfg0.N) (l : Fin 1024) (k : Fin 1024) :
    (iblk m c 1 t : FVec Ideal S1024x1024 .bf16) (ix2 k l) = (m ((c : Thread nD τ).loc main_arg1) : S1024x1024.Idx → EReal) (ix2 k l) := by
  blk_point [iblk, V, idx t]

theorem emb_val (t : Fin cfg0.N) (y : S512x1024.Idx) :
    (((win0_2.blk t).view.emb y) 0).val = (y 0).val ∧ (((win0_2.blk t).view.emb y) 1).val = (y 1).val := by
  refine ⟨?_, ?_⟩ <;> blk_simp [idx t] <;> simp

/-- The result after the run. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1⟩ := emb_val t y
  refine ((congrArg _ (eq_ix2 y)).trans (out_at _ _ (y 0) (y 1))).trans ?_
  refine Eq.trans ?_ (prod_of _ _ _ (y 0) (y 1) e0.symm e1.symm).symm
  exact Finset.sum_congr rfl fun k _ => congrArg₂ (fun a b : EReal => a * b) (iblk0_at m c t (y 0) k) (iblk1_at m c t (y 1) k)

end Cert.MemKvIdeal.Value

namespace Cert.MemKvRefIdeal.Value

open Cert.MemKvRefIdeal Cert.MemKvRefIdeal.Gen

/-- The reference's result. -/
theorem ref_eq (memh : FVec Ideal S512x1024 .bf16) (w_kv : FVec Ideal S1024x1024 .bf16) :
    (truncf .bf16 (Host.dotGeneral dot_S512x1024_S1024x1024_S512x1024_1_0_0_1_n_n none (extf .f32 memh bitsLt_bf16_f32) (extf .f32 w_kv bitsLt_bf16_f32)) bitsLt_bf16_f32 : S512x1024.Idx → EReal)
    = Cert.MemKvIdeal.Value.prod memh w_kv := by
  funext j
  obtain ⟨p, q, rfl⟩ : ∃ (p : Fin 512) (q : Fin 1024), j = ix2 p q := ⟨j 0, j 1, eq_ix2 j⟩
  pointwise
  exact (Cert.MemKvIdeal.Value.prod_of memh w_kv (ix2 p q) p q rfl rfl).symm

end Cert.MemKvRefIdeal.Value

end
-- ==== Proof.MemKvDxFinal.lean ====
/- The gradient of the normalised memory: the tiled product, and the reference's. -/
module

public import proofs.«01_k».proof.Proof.Gen.MemKvDx
public import proofs.«01_k».proof.Proof.Gen.MemKvDx.Frame
public import proofs.«01_k».proof.Proof.Gen.MemKvDxIdeal
public import proofs.«01_k».proof.Proof.Gen.MemKvDxIdeal.Skeleton
public import proofs.«01_k».proof.Proof.Gen.MemKvDxIdeal.Launch
public import proofs.«01_k».proof.Proof.Gen.MemKvDxIdeal.Points
public import proofs.«01_k».proof.Proof.Gen.MemKvDxIdeal.Frame
public import proofs.«01_k».proof.Proof.Gen.MemKvDxIdeal.Value
public import proofs.«01_k».proof.Proof.Gen.MemKvDxRefIdeal
public import proofs.«01_k».proof.Proof.Gen.MemKvDxRefIdeal.Run
public import proofs.«01_k».proof.Proof.MatMul

@[expose] public section

set_option maxRecDepth 16384

noncomputable section

open Idealize.ShloMosaic Idealize.ShloMosaic.TcCoe Idealize.SL.Sem

namespace Cert.MemKvDxIdeal.Value

open Cert.MemKvDxIdeal Cert.MemKvDxIdeal.Gen Cert.MatMul

/-- The result: a plain sum. -/
def grad (dkv : S512x1024.Idx → EReal) (w_kv : S1024x1024.Idx → EReal) : S512x1024.Idx → EReal := fun j =>
  (∑ k : Fin 1024, dkv (ix2 (at' (j 0).val) k) * w_kv (ix2 (at' (j 1).val) k))

theorem grad_of (dkv : S512x1024.Idx → EReal) (w_kv : S1024x1024.Idx → EReal) (j : S512x1024.Idx) (d : Fin 512) (f : Fin 1024)
    (hd : d.val = (j 0).val) (hf : f.val = (j 1).val) : grad dkv w_kv j = (∑ k : Fin 1024, dkv (ix2 d k) * w_kv (ix2 f k)) := by
  unfold grad
  rw [at'_eq _ d hd, at'_eq _ f hf]

variable (m : (ℓ : Loc nD τ sig) → Buf (Elt Ideal) ℓ) (c : Dev nD)

/-- A point's block. -/
theorem out_at (x : FVec Ideal S512x1024 .bf16) (y : FVec Ideal S1024x1024 .bf16) (r : Fin 512) (l : Fin 1024) :
    out0_2 (F := Ideal) x y (ix2 r l) = ((∑ k : Fin 1024, (x (ix2 r k) * y (ix2 l k) : EReal)) : EReal) := by
  frame_out
  pointwise [k0_pay1]

theorem idx : ∀ t : Fin cfg0.N, win0_0.index t = ![0, 0] ∧ win0_1.index t = ![0, 0] ∧ win0_2.index t = ![0, 0] :=
  (by decide +kernel : ∀ t : Fin grid0.N, _)

theorem iblk0_at (t : Fin cfg0.N) (r : Fin 512) (k : Fin 1024) :
    (iblk m c 0 t : FVec Ideal S512x1024 .bf16) (ix2 r k) = (m ((c : Thread nD τ).loc main_arg0) : S512x1024.Idx → EReal) (ix2 r k) := by
  blk_point [iblk, V, idx t]

theorem iblk1_at (t : Fin cfg0.N) (l : Fin 1024) (k : Fin 1024) :
    (iblk m c 1 t : FVec Ideal S1024x1024 .bf16) (ix2 l k) = (m ((c : Thread nD τ).loc main_arg1) : S1024x1024.Idx → EReal) (ix2 l k) := by
  blk_point [iblk, V, idx t]

theorem emb_val (t : Fin cfg0.N) (y : S512x1024.Idx) :
    (((win0_2.blk t).view.emb y) 0).val = (y 0).val ∧ (((win0_2.blk t).view.emb y) 1).val = (y 1).val := by
  refine ⟨?_, ?_⟩ <;> blk_simp [idx t] <;> simp

/-- The result after the run. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1⟩ := emb_val t y
  refine ((congrArg _ (eq_ix2 y)).trans (out_at _ _ (y 0) (y 1))).trans ?_
  refine Eq.trans ?_ (grad_of _ _ _ (y 0) (y 1) e0.symm e1.symm).symm
  exact Finset.sum_congr rfl fun k _ => congrArg₂ (fun a b : EReal => a * b) (iblk0_at m c t (y 0) k) (iblk1_at m c t (y 1) k)

end Cert.MemKvDxIdeal.Value

namespace Cert.MemKvDxRefIdeal.Value

open Cert.MemKvDxRefIdeal Cert.MemKvDxRefIdeal.Gen

/-- The reference's result. -/
theorem ref_eq (dkv : FVec Ideal S512x1024 .bf16) (w_kv : FVec Ideal S1024x1024 .bf16) :
    (Host.dotGeneral dot_S512x1024_S1024x1024_S512x1024_1_1_0_0_n_n none (extf .f32 dkv bitsLt_bf16_f32) (extf .f32 w_kv bitsLt_bf16_f32) : S512x1024.Idx → EReal)
    = Cert.MemKvDxIdeal.Value.grad dkv w_kv := by
  funext j
  obtain ⟨p, q, rfl⟩ : ∃ (p : Fin 512) (q : Fin 1024), j = ix2 p q := ⟨j 0, j 1, eq_ix2 j⟩
  pointwise
  exact (Cert.MemKvDxIdeal.Value.grad_of dkv w_kv (ix2 p q) p q rfl rfl).symm

end Cert.MemKvDxRefIdeal.Value

end
-- ==== Proof.MemKvDwFinal.lean ====
/- The gradient of the memory's projection: the tiled product, and the reference's. -/
module

public import proofs.«01_k».proof.Proof.Gen.MemKvDw
public import proofs.«01_k».proof.Proof.Gen.MemKvDw.Frame
public import proofs.«01_k».proof.Proof.Gen.MemKvDwIdeal
public import proofs.«01_k».proof.Proof.Gen.MemKvDwIdeal.Skeleton
public import proofs.«01_k».proof.Proof.Gen.MemKvDwIdeal.Launch
public import proofs.«01_k».proof.Proof.Gen.MemKvDwIdeal.Points
public import proofs.«01_k».proof.Proof.Gen.MemKvDwIdeal.Frame
public import proofs.«01_k».proof.Proof.Gen.MemKvDwIdeal.Value
public import proofs.«01_k».proof.Proof.Gen.MemKvDwRefIdeal
public import proofs.«01_k».proof.Proof.Gen.MemKvDwRefIdeal.Run
public import proofs.«01_k».proof.Proof.MatMul

@[expose] public section

set_option maxRecDepth 16384

noncomputable section

open Idealize.ShloMosaic Idealize.ShloMosaic.TcCoe Idealize.SL.Sem

namespace Cert.MemKvDwIdeal.Value

open Cert.MemKvDwIdeal Cert.MemKvDwIdeal.Gen Cert.MatMul

/-- The result: a plain sum. -/
def grad (memh : S512x1024.Idx → EReal) (dkv : S512x1024.Idx → EReal) : S1024x1024.Idx → EReal := fun j =>
  (∑ k : Fin 512, memh (ix2 k (at' (j 0).val)) * dkv (ix2 k (at' (j 1).val)))

theorem grad_of (memh : S512x1024.Idx → EReal) (dkv : S512x1024.Idx → EReal) (j : S1024x1024.Idx) (d : Fin 1024) (f : Fin 1024)
    (hd : d.val = (j 0).val) (hf : f.val = (j 1).val) : grad memh dkv j = (∑ k : Fin 512, memh (ix2 k d) * dkv (ix2 k f)) := by
  unfold grad
  rw [at'_eq _ d hd, at'_eq _ f hf]

variable (m : (ℓ : Loc nD τ sig) → Buf (Elt Ideal) ℓ) (c : Dev nD)

/-- A point's block. -/
theorem out_at (x : FVec Ideal S512x1024 .bf16) (y : FVec Ideal S512x1024 .bf16) (r : Fin 1024) (l : Fin 1024) :
    out0_2 (F := Ideal) x y (ix2 r l) = ((∑ k : Fin 512, (x (ix2 k r) * y (ix2 k l) : EReal)) : EReal) := by
  frame_out
  pointwise [k0_pay1]

theorem idx : ∀ t : Fin cfg0.N, win0_0.index t = ![0, 0] ∧ win0_1.index t = ![0, 0] ∧ win0_2.index t = ![0, 0] :=
  (by decide +kernel : ∀ t : Fin grid0.N, _)

theorem iblk0_at (t : Fin cfg0.N) (r : Fin 1024) (k : Fin 512) :
    (iblk m c 0 t : FVec Ideal S512x1024 .bf16) (ix2 k r) = (m ((c : Thread nD τ).loc main_arg0) : S512x1024.Idx → EReal) (ix2 k r) := by
  blk_point [iblk, V, idx t]

theorem iblk1_at (t : Fin cfg0.N) (l : Fin 1024) (k : Fin 512) :
    (iblk m c 1 t : FVec Ideal S512x1024 .bf16) (ix2 k l) = (m ((c : Thread nD τ).loc main_arg1) : S512x1024.Idx → EReal) (ix2 k l) := by
  blk_point [iblk, V, idx t]

theorem emb_val (t : Fin cfg0.N) (y : S1024x1024.Idx) :
    (((win0_2.blk t).view.emb y) 0).val = (y 0).val ∧ (((win0_2.blk t).view.emb y) 1).val = (y 1).val := by
  refine ⟨?_, ?_⟩ <;> blk_simp [idx t] <;> simp

/-- The result after the run. -/
theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨e0, e1⟩ := emb_val t y
  refine ((congrArg _ (eq_ix2 y)).trans (out_at _ _ (y 0) (y 1))).trans ?_
  refine Eq.trans ?_ (grad_of _ _ _ (y 0) (y 1) e0.symm e1.symm).symm
  exact Finset.sum_congr rfl fun k _ => congrArg₂ (fun a b : EReal => a * b) (iblk0_at m c t (y 0) k) (iblk1_at m c t (y 1) k)

end Cert.MemKvDwIdeal.Value

namespace Cert.MemKvDwRefIdeal.Value

open Cert.MemKvDwRefIdeal Cert.MemKvDwRefIdeal.Gen

/-- The reference's result. -/
theorem ref_eq (memh : FVec Ideal S512x1024 .bf16) (dkv : FVec Ideal S512x1024 .bf16) :
    (truncf .bf16 (transpose S1024x1024 [1, 0] (Host.dotGeneral dot_S512x1024_S512x1024_S1024x1024_0_0_1_1_n_n none (extf .f32 dkv bitsLt_bf16_f32) (extf .f32 memh bitsLt_bf16_f32)) transposes_S1024x1024_S1024x1024_1_0) bitsLt_bf16_f32 : S1024x1024.Idx → EReal)
    = Cert.MemKvDwIdeal.Value.grad memh dkv := by
  funext j
  obtain ⟨p, q, rfl⟩ : ∃ (p : Fin 1024) (q : Fin 1024), j = ix2 p q := ⟨j 0, j 1, eq_ix2 j⟩
  pointwise
  exact Eq.trans (Finset.sum_congr rfl fun k _ => mul_comm _ _) (Cert.MemKvDwIdeal.Value.grad_of memh dkv (ix2 p q) p q rfl rfl).symm

end Cert.MemKvDwRefIdeal.Value

end
-- ==== Proof.Rows.lean ====
/- A row of a product, and the root-mean-square norm of a row. -/
module

public import proofs.«01_k».proof.Proof.MatMul

@[expose] public section

noncomputable section

namespace Cert.MatMul

open Idealize.ShloMosaic

/-- A row times a matrix. -/
def mulRow {n w : ℕ} (a : Fin n → EReal) (b : Fin n → Fin w → EReal) : Fin w → EReal := fun l => ∑ k, a k * b k l

/-- One over the root of a row's mean square, the mean taken over 1024 entries and the small constant added to it. -/
def rstd (v : Fin 1024 → EReal) : EReal :=
  Ideal.rsqrt (Ideal.div (∑ l, v l * v l) (Ideal.ofBits .f32 0x44800000#32) + Ideal.ofBits .f32 0x358637BD#32)

/-- The norm of a row, scaled entry by entry. -/
def norm (v g : Fin 1024 → EReal) : Fin 1024 → EReal := fun l => v l * rstd v * g l

end Cert.MatMul

end
-- ==== Proof.OutNormsFinal.lean ====
/- The output projection with the two norms after it: the tiled product and its rows, and the reference's. -/
module

public import proofs.«01_k».proof.Proof.Gen.OutNorms
public import proofs.«01_k».proof.Proof.Gen.OutNorms.Frame
public import proofs.«01_k».proof.Proof.Gen.OutNormsIdeal
public import proofs.«01_k».proof.Proof.Gen.OutNormsIdeal.Skeleton
public import proofs.«01_k».proof.Proof.Gen.OutNormsIdeal.Launch
public import proofs.«01_k».proof.Proof.Gen.OutNormsIdeal.Points
public import proofs.«01_k».proof.Proof.Gen.OutNormsIdeal.Frame
public import proofs.«01_k».proof.Proof.Gen.OutNormsIdeal.Value
public import proofs.«01_k».proof.Proof.Gen.OutNormsRefIdeal
public import proofs.«01_k».proof.Proof.Gen.OutNormsRefIdeal.Run
public import proofs.«01_k».proof.Proof.Rows

@[expose] public section

set_option maxRecDepth 16384

noncomputable section

open Idealize.ShloMosaic Idealize.ShloMosaic.TcCoe Idealize.SL.Sem

namespace Cert.OutNormsIdeal.Value

open Cert.OutNormsIdeal Cert.OutNormsIdeal.Gen Cert.MatMul

/-- A row of the product, of the residual stream after it, and of the next block's input. -/
def yRow (a : Fin 1024 → EReal) (w : Fin 1024 → Fin 1024 → EReal) : Fin 1024 → EReal := mulRow a w

def xRow (a : Fin 1024 → EReal) (w : Fin 1024 → Fin 1024 → EReal) (x g : Fin 1024 → EReal) : Fin 1024 → EReal := fun l =>
  x l + norm (yRow a w) g l

def hRow (a : Fin 1024 → EReal) (w : Fin 1024 → Fin 1024 → EReal) (x g g2 : Fin 1024 → EReal) : Fin 1024 → EReal := norm (xRow a w x g) g2

/-- The three results. -/
def resY (a : S4096x1024.Idx → EReal) (w : S1024x1024.Idx → EReal) : S4096x1024.Idx → EReal := fun j =>
  yRow (fun k => a (ix2 (j 0) k)) (fun k l => w (ix2 k l)) (j 1)

def resX (a : S4096x1024.Idx → EReal) (w : S1024x1024.Idx → EReal) (x : S4096x1024.Idx → EReal) (g : S1x1024.Idx → EReal) : S4096x1024.Idx → EReal := fun j =>
  xRow (fun k => a (ix2 (j 0) k)) (fun k l => w (ix2 k l)) (fun l => x (ix2 (j 0) l)) (fun l => g (ix2 0 l)) (j 1)

def resH (a : S4096x1024.Idx → EReal) (w : S1024x1024.Idx → EReal) (x : S4096x1024.Idx → EReal) (g : S1x1024.Idx → EReal) (g2 : S1x1024.Idx → EReal) : S4096x1024.Idx → EReal := fun j =>
  hRow (fun k => a (ix2 (j 0) k)) (fun k l => w (ix2 k l)) (fun l => x (ix2 (j 0) l)) (fun l => g (ix2 0 l)) (fun l => g2 (ix2 0 l)) (j 1)

theorem pay1_at (a w : FVec Ideal S1024x1024 .bf16) (r l : Fin 1024) :
    k0_pay1 (F := Ideal) a w (ix2 r l) = yRow (fun k => a (ix2 r k)) (fun k l => w (ix2 k l)) l := by
  pointwise [k0_pay1]
  rfl

theorem pay2_at (a w : FVec Ideal S1024x1024 .bf16) (x : FVec Ideal S1024x1024 .f32) (g : FVec Ideal S1x1024 .f32) (r l : Fin 1024) :
    k0_pay2 (F := Ideal) a w x g (ix2 r l) = xRow (fun k => a (ix2 r k)) (fun k l => w (ix2 k l)) (fun l => x (ix2 r l)) (fun l => g (ix2 0 l)) l := by
  pointwise [k0_pay2]
  simp only [pay1_at]
  rfl

/-- A point's three blocks. -/
theorem out5_at (a w : FVec Ideal S1024x1024 .bf16) (x : FVec Ideal S1024x1024 .f32) (g g2 : FVec Ideal S1x1024 .f32) (r l : Fin 1024) :
    out0_5 (F := Ideal) a w x g g2 (ix2 r l) = yRow (fun k => a (ix2 r k)) (fun k l => w (ix2 k l)) l := by
  frame_out
  exact pay1_at a w r l

theorem out6_at (a w : FVec Ideal S1024x1024 .bf16) (x : FVec Ideal S1024x1024 .f32) (g g2 : FVec Ideal S1x1024 .f32) (r l : Fin 1024) :
    out0_6 (F := Ideal) a w x g g2 (ix2 r l) = xRow (fun k => a (ix2 r k)) (fun k l => w (ix2 k l)) (fun l => x (ix2 r l)) (fun l => g (ix2 0 l)) l := by
  frame_out
  exact pay2_at a w x g r l

theorem out7_at (a w : FVec Ideal S1024x1024 .bf16) (x : FVec Ideal S1024x1024 .f32) (g g2 : FVec Ideal S1x1024 .f32) (r l : Fin 1024) :
    out0_7 (F := Ideal) a w x g g2 (ix2 r l) = hRow (fun k => a (ix2 r k)) (fun k l => w (ix2 k l)) (fun l => x (ix2 r l)) (fun l => g (ix2 0 l)) (fun l => g2 (ix2 0 l)) l := by
  frame_out
  pointwise [k0_pay3]
  simp only [pay2_at]
  rfl

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The blocks' rows are the arrays' rows. -/
theorem row0 (t : Fin cfg0.N) (ht : t.val < 4) (r : Fin 1024) :
    (fun k => (iblk m c 0 t : FVec Ideal S1024x1024 .bf16) (ix2 r k)) = fun k => ((m ((c : Thread nD τ).loc main_arg0)) : S4096x1024.Idx → EReal) (ix2 ⟨1024 * t.val + r.val, by omega⟩ k) := by
  funext k
  blk_point [iblk, V, idx t]

theorem row1 (t : Fin cfg0.N) :
    (fun k l => (iblk m c 1 t : FVec Ideal S1024x1024 .bf16) (ix2 k l)) = fun k l => ((m ((c : Thread nD τ).loc main_arg1)) : S1024x1024.Idx → EReal) (ix2 k l) := by
  funext k l
  blk_point [iblk, V, idx t]

theorem row2 (t : Fin cfg0.N) (ht : t.val < 4) (r : Fin 1024) :
    (fun l => (iblk m c 2 t : FVec Ideal S1024x1024 .f32) (ix2 r l)) = fun l => ((m ((c : Thread nD τ).loc main_arg2)) : S4096x1024.Idx → EReal) (ix2 ⟨1024 * t.val + r.val, by omega⟩ l) := by
  funext l
  blk_point [iblk, V, idx t]

theorem row3 (t : Fin cfg0.N) :
    (fun l => (iblk m c 3 t : FVec Ideal S1x1024 .f32) (ix2 0 l)) = fun l => ((m ((c : Thread nD τ).loc main_arg3)) : S1x1024.Idx → EReal) (ix2 0 l) := by
  funext l
  blk_point [iblk, V, idx t]

theorem row4 (t : Fin cfg0.N) :
    (fun l => (iblk m c 4 t : FVec Ideal S1x1024 .f32) (ix2 0 l)) = fun l => ((m ((c : Thread nD τ).loc main_arg4)) : S1x1024.Idx → EReal) (ix2 0 l) := by
  funext l
  blk_point [iblk, V, idx t]

theorem emb5 (t : Fin cfg0.N) (ht : t.val < 4) (y : S1024x1024.Idx) :
    (win0_5.blk t).view.emb y = ix2 ⟨1024 * t.val + (y 0).val, by have : (y 0).val < 1024 := (y 0).isLt; omega⟩ (y 1) := by
  rw [eq_ix2 ((win0_5.blk t).view.emb y)]
  refine congrArg₂ ix2 (Fin.ext ?_) (Fin.ext ?_) <;> blk_simp [idx t] <;> simp <;> omega

theorem final5 : (dats m 0 c).arrAt 5 cfg0.N = resY (m ((c : Thread nD τ).loc main_arg0)) (m ((c : Thread nD τ).loc main_arg1)) := by
  refine (dats m 0 c).arrAt_eq_of_covers 5 _ (by decide +kernel) fun t hf y => ?_
  have ht : t.val < 4 := lt_of_lt_of_eq t.isLt (show cfg0.N = 4 from N_0)
  blk_simp
  rw [after0_5, emb5 t ht y]
  refine ((congrArg _ (eq_ix2 y)).trans (out5_at _ _ _ _ _ (y 0) (y 1))).trans ?_
  exact congrFun (congrArg₂ yRow (row0 m c t ht (y 0)) (row1 m c t)) (y 1)

theorem emb6 (t : Fin cfg0.N) (ht : t.val < 4) (y : S1024x1024.Idx) :
    (win0_6.blk t).view.emb y = ix2 ⟨1024 * t.val + (y 0).val, by have : (y 0).val < 1024 := (y 0).isLt; omega⟩ (y 1) := by
  rw [eq_ix2 ((win0_6.blk t).view.emb y)]
  refine congrArg₂ ix2 (Fin.ext ?_) (Fin.ext ?_) <;> blk_simp [idx t] <;> simp <;> omega

theorem final6 : (dats m 0 c).arrAt 6 cfg0.N = resX (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have ht : t.val < 4 := lt_of_lt_of_eq t.isLt (show cfg0.N = 4 from N_0)
  blk_simp
  rw [after0_6, emb6 t ht y]
  refine ((congrArg _ (eq_ix2 y)).trans (out6_at _ _ _ _ _ (y 0) (y 1))).trans ?_
  exact congrFun (congr (congr (congrArg₂ xRow (row0 m c t ht (y 0)) (row1 m c t)) (row2 m c t ht (y 0))) (row3 m c t)) (y 1)

theorem emb7 (t : Fin cfg0.N) (ht : t.val < 4) (y : S1024x1024.Idx) :
    (win0_7.blk t).view.emb y = ix2 ⟨1024 * t.val + (y 0).val, by have : (y 0).val < 1024 := (y 0).isLt; omega⟩ (y 1) := by
  rw [eq_ix2 ((win0_7.blk t).view.emb y)]
  refine congrArg₂ ix2 (Fin.ext ?_) (Fin.ext ?_) <;> blk_simp [idx t] <;> simp <;> omega

theorem final7 : (dats m 0 c).arrAt 7 cfg0.N = resH (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have ht : t.val < 4 := lt_of_lt_of_eq t.isLt (show cfg0.N = 4 from N_0)
  blk_simp
  rw [after0_7, emb7 t ht y]
  refine ((congrArg _ (eq_ix2 y)).trans (out7_at _ _ _ _ _ (y 0) (y 1))).trans ?_
  exact congrFun (congr (congr (congr (congrArg₂ hRow (row0 m c t ht (y 0)) (row1 m c t)) (row2 m c t ht (y 0))) (row3 m c t)) (row4 m c t)) (y 1)

end Cert.OutNormsIdeal.Value

namespace Cert.OutNormsRefIdeal.Value

open Cert.OutNormsRefIdeal Cert.OutNormsRefIdeal.Gen

/-- The reference's results. -/
theorem ref_y (a : FVec Ideal S4096x1024 .bf16) (w : FVec Ideal S1024x1024 .bf16) :
    (Host.dotGeneral dot_S4096x1024_S1024x1024_S4096x1024_1_0_0_1_n_n none (extf .f32 a bitsLt_bf16_f32) (extf .f32 w bitsLt_bf16_f32) : S4096x1024.Idx → EReal) = Cert.OutNormsIdeal.Value.resY a w := by
  funext j
  obtain ⟨p, q, rfl⟩ : ∃ (p : Fin 4096) (q : Fin 1024), j = ix2 p q := ⟨j 0, j 1, eq_ix2 j⟩
  pointwise
  rfl

/-- The residual stream, and the norm of it, as the reference's operations make them. -/
def hostX (a : FVec Ideal S4096x1024 .bf16) (w : FVec Ideal S1024x1024 .bf16) (x : FVec Ideal S4096x1024 .f32) (g : FVec Ideal S1x1024 .f32) : FVec Ideal S4096x1024 .f32 :=
  addf x (mulf (mulf (Host.dotGeneral dot_S4096x1024_S1024x1024_S4096x1024_1_0_0_1_n_n none (extf .f32 a bitsLt_bf16_f32) (extf .f32 w bitsLt_bf16_f32)) (broadcastInDim S4096x1024 ![0, 1] bcast_S4096x1_S4096x1024_0_1 (Host.rsqrt (addf (Host.divf (broadcastInDim S4096x1 ![0] bcast_S4096_S4096x1_0 (Host.reduceAdd (mulf (Host.dotGeneral dot_S4096x1024_S1024x1024_S4096x1024_1_0_0_1_n_n none (extf .f32 a bitsLt_bf16_f32) (extf .f32 w bitsLt_bf16_f32)) (Host.dotGeneral dot_S4096x1024_S1024x1024_S4096x1024_1_0_0_1_n_n none (extf .f32 a bitsLt_bf16_f32) (extf .f32 w bitsLt_bf16_f32))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g))

theorem ref_x (a : FVec Ideal S4096x1024 .bf16) (w : FVec Ideal S1024x1024 .bf16) (x : FVec Ideal S4096x1024 .f32) (g : FVec Ideal S1x1024 .f32) :
    (hostX a w x g : S4096x1024.Idx → EReal) = Cert.OutNormsIdeal.Value.resX a w x g := by
  funext j
  obtain ⟨p, q, rfl⟩ : ∃ (p : Fin 4096) (q : Fin 1024), j = ix2 p q := ⟨j 0, j 1, eq_ix2 j⟩
  unfold hostX
  pointwise
  rfl

def hostH (x : FVec Ideal S4096x1024 .f32) (g2 : FVec Ideal S1x1024 .f32) : FVec Ideal S4096x1024 .bf16 :=
  truncf .bf16 (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g2)) bitsLt_bf16_f32

theorem hostH_at (x : FVec Ideal S4096x1024 .f32) (g2 : FVec Ideal S1x1024 .f32) (p : Fin 4096) (q : Fin 1024) :
    (hostH x g2 : S4096x1024.Idx → EReal) (ix2 p q) = Cert.MatMul.norm (fun l => x (ix2 p l)) (fun l => g2 (ix2 0 l)) q := by
  unfold hostH
  pointwise
  rfl

theorem ref_h (m : (ℓ : Loc nD τ sig) → Buf (Elt Ideal) ℓ) (c : Dev nD) :
    (res_main_v28 m c : S4096x1024.Idx → EReal) = Cert.OutNormsIdeal.Value.resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext j
  obtain ⟨p, q, rfl⟩ : ∃ (p : Fin 4096) (q : Fin 1024), j = ix2 p q := ⟨j 0, j 1, eq_ix2 j⟩
  have e : (res_main_v28 m c : S4096x1024.Idx → EReal) = hostH (hostX (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := rfl
  rw [e, hostH_at]
  exact congrFun (congrFun (congrArg Cert.MatMul.norm (funext fun l => congrFun (ref_x (m ((c.tc : Thread nD τ).loc main_arg0)) (m ((c.tc : Thread nD τ).loc main_arg1)) (m ((c.tc : Thread nD τ).loc main_arg2)) (m ((c.tc : Thread nD τ).loc main_arg3))) (ix2 p l))) _) q

end Cert.OutNormsRefIdeal.Value

end
-- ==== Proof.NormGrad.lean ====
/- The gradient of the root-mean-square norm of a row, and that the two ways of writing it are the same extended real. -/
module

public import proofs.«01_k».proof.Proof.Rows

@[expose] public section

noncomputable section

namespace Cert.MatMul

open Idealize.ShloMosaic

/-- The word of 1024. -/
abbrev w1024 : EReal := Ideal.ofBits .f32 0x44800000#32

theorem w1024_eq : w1024 = ((1024 : ℝ) : EReal) := by
  simp [w1024, Ideal.ofBits, Ideal.ieee, -EReal.coe_mul]
  norm_num

theorem wRecip_eq : Ideal.ofBits .f32 0x3A800000#32 = ((1 / 1024 : ℝ) : EReal) := by
  simp [Ideal.ofBits, Ideal.ieee, -EReal.coe_mul]
  norm_num

theorem wHalf_eq : Ideal.ofBits .f32 0x3F000000#32 = ((1 / 2 : ℝ) : EReal) := by
  simp [Ideal.ofBits, Ideal.ieee, -EReal.coe_mul]
  norm_num

theorem wMinusHalf_eq : Ideal.ofBits .f32 0xBF000000#32 = ((-(1 / 2) : ℝ) : EReal) := by
  simp [Ideal.ofBits, Ideal.ieee, -EReal.coe_mul, -EReal.coe_neg]
  norm_num

theorem wTwo_eq : Ideal.ofBits .f32 0x40000000#32 = ((2 : ℝ) : EReal) := by
  simp [Ideal.ofBits, Ideal.ieee, -EReal.coe_mul]
  norm_num

theorem wOne_eq : Ideal.ofBits .f32 0x3F800000#32 = ((1 : ℝ) : EReal) := by
  simp [Ideal.ofBits, Ideal.ieee, -EReal.coe_mul]
  norm_num

/-- The small constant under the root is a positive real. -/
theorem wEps_pos : ∃ e : ℝ, 0 < e ∧ Ideal.ofBits .f32 0x358637BD#32 = (e : EReal) := by
  refine ⟨_, ?_, by simp [Ideal.ofBits, Ideal.ieee, -EReal.coe_mul]; rfl⟩
  norm_num

/-- The mean square of a row, with the small constant added to it. -/
def meanSq (v : Fin 1024 → EReal) : EReal := Ideal.div (∑ l, v l * v l) w1024 + Ideal.ofBits .f32 0x358637BD#32

theorem rstd_eq (v : Fin 1024 → EReal) : rstd v = Ideal.rsqrt (meanSq v) := rfl

theorem sq_nonneg' (x : EReal) : 0 ≤ x * x := by
  induction x with
  | bot => simp
  | top => simp
  | coe r => exact_mod_cast mul_self_nonneg r

theorem meanSq_cases (v : Fin 1024 → EReal) : meanSq v = ⊤ ∨ ∃ x : ℝ, 0 < x ∧ meanSq v = (x : EReal) := by
  obtain ⟨e, he, hE⟩ := wEps_pos
  have hs : 0 ≤ ∑ l, v l * v l := Finset.sum_nonneg fun l _ => sq_nonneg' _
  rw [meanSq, w1024_eq, Ideal.div_coe (by norm_num), hE]
  generalize (∑ l, v l * v l) = s at hs
  induction s with
  | bot => simp at hs
  | top => left; rw [EReal.top_mul_coe_of_pos (by norm_num)]; rfl
  | coe r =>
    right
    have hr : 0 ≤ r := by exact_mod_cast hs
    exact ⟨r * (1 / 1024) + e, by positivity, by push_cast; rfl⟩

/-- The gradient of a normed row by the row: the norm scales by `g`, and `dy` is the gradient of what it gives. -/
def gradX (dy v g : Fin 1024 → EReal) : Fin 1024 → EReal := fun l =>
  rstd v * (dy l * g l) - v l * (rstd v * rstd v * rstd v) * Ideal.div (∑ j, dy j * g j * v j) w1024

theorem add_self (z : EReal) : z + z = z * ((2 : ℝ) : EReal) := by
  induction z with
  | bot => rw [EReal.bot_mul_coe_of_pos (by norm_num)]; rfl
  | top => rw [EReal.top_mul_coe_of_pos (by norm_num)]; rfl
  | coe r => rw [← EReal.coe_add, ← EReal.coe_mul, mul_two]

/-- The gradient by the chain rule: the product's first factor, then twice the square's share. -/
theorem gradX_chain (v : Fin 1024 → EReal) (c x S : EReal) :
    c * rstd v + x * Ideal.div (S * (Ideal.ofBits .f32 0xBF000000#32 * Ideal.div (rstd v) (meanSq v))) w1024
        + Ideal.div (S * (Ideal.ofBits .f32 0xBF000000#32 * Ideal.div (rstd v) (meanSq v))) w1024 * x
      = rstd v * c - x * (rstd v * rstd v * rstd v) * Ideal.div S w1024 := by
  rw [rstd_eq, w1024_eq, wMinusHalf_eq, Ideal.div_coe (by norm_num), Ideal.div_coe (by norm_num), mul_comm c]
  rcases meanSq_cases v with h | ⟨t, ht, h⟩
  · rw [h, Ideal.rsqrt_top, show Ideal.div 0 ⊤ = 0 by simp [Ideal.div]]
    simp
  · rw [h, Ideal.rsqrt_coe, if_neg (by linarith), if_neg (by linarith), Ideal.div_coe (by linarith)]
    set ρ : ℝ := (√t)⁻¹ with hρ
    have hcube : ρ * (1 / t) = ρ * ρ * ρ := by
      have hq : √t * √t = t := Real.mul_self_sqrt ht.le
      have hp : 0 < √t := Real.sqrt_pos.mpr ht
      rw [hρ]
      field_simp
      nlinarith
    rw [mul_comm _ x, add_assoc, add_self, sub_eq_add_neg]
    congr 1
    rw [← EReal.coe_mul ρ (1 / t), hcube]
    have h1 : x * (S * (((-(1 / 2) : ℝ) : EReal) * ((ρ * ρ * ρ : ℝ) : EReal)) * ((1 / 1024 : ℝ) : EReal)) * ((2 : ℝ) : EReal)
        = x * S * ((-(ρ * ρ * ρ / 1024) : ℝ) : EReal) := by
      rw [show (-(ρ * ρ * ρ / 1024) : ℝ) = -(1 / 2) * (ρ * ρ * ρ) * (1 / 1024) * 2 by ring]
      push_cast
      ac_rfl
    rw [h1, show (-(ρ * ρ * ρ / 1024) : ℝ) = -(ρ * ρ * ρ * (1 / 1024)) by ring, EReal.coe_neg, mul_neg]
    congr 1
    simp only [EReal.coe_mul]
    ac_rfl

/-- The same, as the chain rule's lines write it: the row's total is summed once more over an axis of one. -/
theorem gradX_lines (dy v g : Fin 1024 → EReal) (l : Fin 1024) :
    dy l * g l * rstd v
        + v l * (∑ _ : Fin 1, Ideal.div ((∑ j, v j * (dy j * g j)) * (Ideal.ofBits .f32 0xBF000000#32 * Ideal.div (rstd v) (meanSq v))) w1024)
        + (∑ _ : Fin 1, Ideal.div ((∑ j, v j * (dy j * g j)) * (Ideal.ofBits .f32 0xBF000000#32 * Ideal.div (rstd v) (meanSq v))) w1024) * v l
      = gradX dy v g l := by
  rw [Fin.sum_univ_one, gradX_chain, gradX, Finset.sum_congr rfl fun j _ => mul_comm (v j) (dy j * g j)]

/-- What those lines compute, named. -/
def linesX (dy v g : Fin 1024 → EReal) : Fin 1024 → EReal := fun l =>
  dy l * g l * rstd v
    + v l * (∑ _ : Fin 1, Ideal.div ((∑ j, v j * (dy j * g j)) * (Ideal.ofBits .f32 0xBF000000#32 * Ideal.div (rstd v) (meanSq v))) w1024)
    + (∑ _ : Fin 1, Ideal.div ((∑ j, v j * (dy j * g j)) * (Ideal.ofBits .f32 0xBF000000#32 * Ideal.div (rstd v) (meanSq v))) w1024) * v l

theorem linesX_eq (dy v g : Fin 1024 → EReal) : linesX dy v g = gradX dy v g := funext fun l => gradX_lines dy v g l

/-- Half of the mean's weight, times the square's factor of two, is the mean's weight. -/
theorem scale_eq (z : EReal) : Ideal.div (Ideal.ofBits .f32 0x3F000000#32) w1024 * (Ideal.ofBits .f32 0x40000000#32 * z) = z * Ideal.ofBits .f32 0x3A800000#32 := by
  rw [wHalf_eq, w1024_eq, wTwo_eq, wRecip_eq, Ideal.div_coe (by norm_num), ← mul_assoc, ← EReal.coe_mul, ← EReal.coe_mul, mul_comm z]
  norm_num

/-- A positive real factor goes over a sum. -/
theorem coe_mul_add' (k : ℝ) (hk : 0 < k) (a b : EReal) : (k : EReal) * (a + b) = k * a + k * b :=
  EReal.left_distrib_of_nonneg_of_ne_top (by exact_mod_cast hk.le) (EReal.coe_ne_top k) a b

theorem coe_mul_sum (k : ℝ) (hk : 0 < k) {ι : Type} (s : Finset ι) (f : ι → EReal) : (k : EReal) * (∑ i ∈ s, f i) = ∑ i ∈ s, k * f i := by
  classical
  induction s using Finset.induction_on with
  | empty => simp
  | insert a s ha ih => rw [Finset.sum_insert ha, Finset.sum_insert ha, coe_mul_add' k hk, ih]

/-- A sum over the first entries of a blocked row: the blocks before, and the block. -/
theorem sum_block (F : ℕ → EReal) (w p : ℕ) : (∑ i ∈ Finset.range (w * (p + 1)), F i) = (∑ i ∈ Finset.range (w * p), F i) + ∑ r : Fin w, F (w * p + r.val) := by
  rw [Nat.mul_succ, Finset.sum_range_add, Finset.sum_range (n := w)]

end Cert.MatMul

end
-- ==== Proof.DownLossFinal.lean ====
/- The loss and the gradients beside it: the tiled down-projection and its rows, and the reference's. -/
module

public import proofs.«01_k».proof.Proof.Gen.DownLoss
public import proofs.«01_k».proof.Proof.Gen.DownLoss.Frame
public import proofs.«01_k».proof.Proof.Gen.DownLossIdeal
public import proofs.«01_k».proof.Proof.Gen.DownLossIdeal.Skeleton
public import proofs.«01_k».proof.Proof.Gen.DownLossIdeal.Launch
public import proofs.«01_k».proof.Proof.Gen.DownLossIdeal.Points
public import proofs.«01_k».proof.Proof.Gen.DownLossIdeal.Frame
public import proofs.«01_k».proof.Proof.Gen.DownLossIdeal.Value
public import proofs.«01_k».proof.Proof.Gen.DownLossRefIdeal
public import proofs.«01_k».proof.Proof.Gen.DownLossRefIdeal.Run
public import proofs.«01_k».proof.Proof.NormGrad

@[expose] public section

set_option maxRecDepth 16384

noncomputable section

open Idealize.ShloMosaic Idealize.ShloMosaic.TcCoe Idealize.SL.Sem

namespace Cert.DownLossIdeal.Value

open Cert.DownLossIdeal Cert.DownLossIdeal.Gen Cert.MatMul

/-- A row of the down-projection, the error of its row against the target, and the error's gradient. -/
def mulRow (a : Fin 4096 → EReal) (w : S4096x1024.Idx → EReal) : Fin 1024 → EReal := fun l => ∑ k : Fin 4096, a k * w (ix2 k l)

def errRow (d x t g : Fin 1024 → EReal) : Fin 1024 → EReal := fun l => x l + d l * rstd d * g l - t l

def gradRow (d x t g : Fin 1024 → EReal) : Fin 1024 → EReal := fun l => errRow d x t g l * Ideal.ofBits .f32 0x3A800000#32

/-- Row `p` of an array. -/
abbrev uRow (x : S4096x4096.Idx → EReal) (p : ℕ) : Fin 4096 → EReal := fun l => x (ix2 (at' p) l)
abbrev xRow (x : S4096x1024.Idx → EReal) (p : ℕ) : Fin 1024 → EReal := fun l => x (ix2 (at' p) l)
abbrev gRow (g : S1x1024.Idx → EReal) : Fin 1024 → EReal := fun l => g (ix2 0 l)

section
variable (u : S4096x4096.Idx → EReal) (w x t : S4096x1024.Idx → EReal) (g : S1x1024.Idx → EReal)

/-- Those rows of whole arrays. -/
def dRow (p : ℕ) : Fin 1024 → EReal := mulRow (uRow u p) w
def eRow (p : ℕ) : Fin 1024 → EReal := errRow (dRow u w p) (xRow x p) (xRow t p) (gRow g)
def d2Row (p : ℕ) : Fin 1024 → EReal := gradRow (dRow u w p) (xRow x p) (xRow t p) (gRow g)

/-- The gradient of the last stream, and of the down-projection. -/
def resX : S4096x1024.Idx → EReal := fun j => d2Row u w x t g (j 0).val (j 1)
def resD : S4096x1024.Idx → EReal := fun j => gradX (d2Row u w x t g (j 0).val) (dRow u w (j 0).val) (gRow g) (j 1)

/-- A row's mean square error, half of it, and its share of the gradient of the norm's weights. -/
def meanErr (p : ℕ) : EReal := Ideal.div (∑ l : Fin 1024, eRow u w x t g p l * eRow u w x t g p l) w1024
def shareL (p : ℕ) : EReal := Ideal.ofBits .f32 0x3F000000#32 * meanErr u w x t g p
def shareG (l : Fin 1024) (p : ℕ) : EReal := d2Row u w x t g p l * dRow u w p l * rstd (dRow u w p)

/-- The loss, and the gradient of the norm's weights. -/
def resL : S1x128.Idx → EReal := fun _ => ∑ p : Fin 4096, shareL u w x t g p.val
def resG : S1x1024.Idx → EReal := fun j => ∑ p : Fin 4096, shareG u w x t g (j 1) p.val
end

section
variable (a : FVec Ideal S512x4096 .bf16) (w : FVec Ideal S4096x1024 .bf16) (x t : FVec Ideal S512x1024 .f32) (g : FVec Ideal S1x1024 .f32)

/-- Row `r` of a block's product, its error and the error's gradient. -/
abbrev bD (r : Fin 512) : Fin 1024 → EReal := mulRow (fun k => a (ix2 r k)) w
abbrev bE (r : Fin 512) : Fin 1024 → EReal := errRow (bD a w r) (fun l => x (ix2 r l)) (fun l => t (ix2 r l)) (gRow g)
abbrev bG (r : Fin 512) : Fin 1024 → EReal := gradRow (bD a w r) (fun l => x (ix2 r l)) (fun l => t (ix2 r l)) (gRow g)

theorem pay2_at (r : Fin 512) (l : Fin 1024) : k0_pay2 (F := Ideal) a w (ix2 r l) = bD a w r l := by
  pointwise [k0_pay2]
  rfl

theorem pay7_at (r : Fin 512) : k0_pay7 (F := Ideal) (k0_pay6 (F := Ideal) a w) (ix2 r 0) = rstd (bD a w r) := by
  pointwise [k0_pay7, k0_pay6]
  simp only [pay2_at]
  rfl

theorem pay3_at (r : Fin 512) (l : Fin 1024) : k0_pay3 (F := Ideal) a w x t g (ix2 r l) = bE a w x t g r l := by
  pointwise [k0_pay3]
  simp only [pay2_at, pay7_at]
  rfl

theorem pay5_at (r : Fin 512) (l : Fin 1024) : k0_pay5 (F := Ideal) a w x t g (ix2 r l) = bG a w x t g r l := by
  pointwise [k0_pay5]
  simp only [pay3_at]
  rfl

theorem pay4_at : k0_pay4 (F := Ideal) a w x t g (ix2 0 0)
    = Ideal.ofBits .f32 0x3F000000#32 * ∑ r : Fin 512, Ideal.div (∑ l : Fin 1024, bE a w x t g r l * bE a w x t g r l) w1024 := by
  pointwise [k0_pay4]
  simp only [pay3_at]

theorem pay9_at (l : Fin 1024) : k0_pay9 (F := Ideal) (k0_pay2 (F := Ideal) a w) (k0_pay5 (F := Ideal) a w x t g) (k0_pay6 (F := Ideal) a w) (ix2 0 l)
    = ∑ r : Fin 512, bG a w x t g r l * bD a w r l * rstd (bD a w r) := by
  pointwise [k0_pay9]
  simp only [pay2_at, pay5_at, pay7_at]

theorem pay10_at (r : Fin 512) (l : Fin 1024) :
    k0_pay10 (F := Ideal) (k0_pay2 (F := Ideal) a w) g (k0_pay5 (F := Ideal) a w x t g) (k0_pay6 (F := Ideal) a w) (ix2 r l)
      = gradX (bG a w x t g r) (bD a w r) (gRow g) l := by
  pointwise [k0_pay10]
  simp only [pay2_at, pay5_at, pay7_at]
  rfl
end

section

variable (c : Dev nD) (i : grid0.Coords) (arg3 : Memref sig .tc .vmem S512x4096 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x128 .f32) (harg10 : arg10.IsWhole) (arg11 : Memref sig .tc .vmem S1x1024 .f32) (harg11 : arg11.IsWhole) (hc0 : cond0_0 i) (hc1 : ¬cond0_1 i) (hc2 : cond0_2 i) (hc3 : ¬cond0_3 i) (x0 : Vec Ideal S512x4096 .bf16) (x1 : Vec Ideal S4096x1024 .bf16) (x2 : Vec Ideal S512x1024 .f32) (x3 : Vec Ideal S512x1024 .f32) (x4 : Vec Ideal S1x1024 .f32)

/-- The rows of the gradient of the last stream. -/
theorem dxA (r : Fin 512) (l : Fin 1024) :
    out0_A_5 (F := Ideal) c i arg3 harg3 arg4 harg4 arg5 harg5 arg6 harg6 arg7 harg7 arg8 harg8 arg9 harg9 arg10 harg10 arg11 harg11 hc0 hc1 hc2 hc3 x0 x1 x2 x3 x4 (ix2 r l) = k0_pay5 (F := Ideal) x0 x1 x2 x3 x4 (ix2 r l) := by
  frame_out

/-- The rows of the gradient of the down-projection. -/
theorem ddA (r : Fin 512) (l : Fin 1024) :
    out0_A_6 (F := Ideal) c i arg3 harg3 arg4 harg4 arg5 harg5 arg6 harg6 arg7 harg7 arg8 harg8 arg9 harg9 arg10 harg10 arg11 harg11 hc0 hc1 hc2 hc3 x0 x1 x2 x3 x4 (ix2 r l) = k0_pay10 (F := Ideal) (k0_pay2 (F := Ideal) x0 x1) x4 (k0_pay5 (F := Ideal) x0 x1 x2 x3 x4) (k0_pay6 (F := Ideal) x0 x1) (ix2 r l) := by
  frame_out

/-- The first block's part of the loss. -/
theorem dlA (l : Fin 128) :
    out0_A_7 (F := Ideal) c i arg3 harg3 arg4 harg4 arg5 harg5 arg6 harg6 arg7 harg7 arg8 harg8 arg9 harg9 arg10 harg10 arg11 harg11 hc0 hc1 hc2 hc3 x0 x1 x2 x3 x4 (ix2 0 l) = k0_pay4 (F := Ideal) x0 x1 x2 x3 x4 (ix2 0 0) := by
  frame_out
  pointwise [k0_pay8]

/-- The first block's gradient of the norm's weights. -/
theorem dgA (l : Fin 1024) :
    out0_A_8 (F := Ideal) c i arg3 harg3 arg4 harg4 arg5 harg5 arg6 harg6 arg7 harg7 arg8 harg8 arg9 harg9 arg10 harg10 arg11 harg11 hc0 hc1 hc2 hc3 x0 x1 x2 x3 x4 (ix2 0 l) = k0_pay9 (F := Ideal) (k0_pay2 (F := Ideal) x0 x1) (k0_pay5 (F := Ideal) x0 x1 x2 x3 x4) (k0_pay6 (F := Ideal) x0 x1) (ix2 0 l) := by
  frame_out

end

section

variable (c : Dev nD) (i : grid0.Coords) (arg3 : Memref sig .tc .vmem S512x4096 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x128 .f32) (harg10 : arg10.IsWhole) (arg11 : Memref sig .tc .vmem S1x1024 .f32) (harg11 : arg11.IsWhole) (hc0 : ¬cond0_0 i) (hc1 : cond0_1 i) (hc2 : ¬cond0_2 i) (hc3 : cond0_3 i) (x0 : Vec Ideal S512x4096 .bf16) (x1 : Vec Ideal S4096x1024 .bf16) (x2 : Vec Ideal S512x1024 .f32) (x3 : Vec Ideal S512x1024 .f32) (x4 : Vec Ideal S1x1024 .f32) (xo7 : Vec Ideal S1x128 .f32) (xo8 : Vec Ideal S1x1024 .f32)

/-- The rows of the gradient of the last stream. -/
theorem dxB (r : Fin 512) (l : Fin 1024) :
    out0_B_5 (F := Ideal) c i arg3 harg3 arg4 harg4 arg5 harg5 arg6 harg6 arg7 harg7 arg8 harg8 arg9 harg9 arg10 harg10 arg11 harg11 hc0 hc1 hc2 hc3 x0 x1 x2 x3 x4 xo7 xo8 (ix2 r l) = k0_pay5 (F := Ideal) x0 x1 x2 x3 x4 (ix2 r l) := by
  frame_out

/-- The rows of the gradient of the down-projection. -/
theorem ddB (r : Fin 512) (l : Fin 1024) :
    out0_B_6 (F := Ideal) c i arg3 harg3 arg4 harg4 arg5 harg5 arg6 harg6 arg7 harg7 arg8 harg8 arg9 harg9 arg10 harg10 arg11 harg11 hc0 hc1 hc2 hc3 x0 x1 x2 x3 x4 xo7 xo8 (ix2 r l) = k0_pay10 (F := Ideal) (k0_pay2 (F := Ideal) x0 x1) x4 (k0_pay5 (F := Ideal) x0 x1 x2 x3 x4) (k0_pay6 (F := Ideal) x0 x1) (ix2 r l) := by
  frame_out

/-- A later block's, added to what the blocks before left. -/
theorem dlB (l : Fin 128) :
    out0_B_7 (F := Ideal) c i arg3 harg3 arg4 harg4 arg5 harg5 arg6 harg6 arg7 harg7 arg8 harg8 arg9 harg9 arg10 harg10 arg11 harg11 hc0 hc1 hc2 hc3 x0 x1 x2 x3 x4 xo7 xo8 (ix2 0 l) = xo7 (ix2 0 l) + k0_pay4 (F := Ideal) x0 x1 x2 x3 x4 (ix2 0 0) := by
  frame_out
  pointwise [k0_pay11, k0_pay8]

/-- A later block's, added to what the blocks before left. -/
theorem dgB (l : Fin 1024) :
    out0_B_8 (F := Ideal) c i arg3 harg3 arg4 harg4 arg5 harg5 arg6 harg6 arg7 harg7 arg8 harg8 arg9 harg9 arg10 harg10 arg11 harg11 hc0 hc1 hc2 hc3 x0 x1 x2 x3 x4 xo7 xo8 (ix2 0 l) = xo8 (ix2 0 l) + k0_pay9 (F := Ideal) (k0_pay2 (F := Ideal) x0 x1) (k0_pay5 (F := Ideal) x0 x1 x2 x3 x4) (k0_pay6 (F := Ideal) x0 x1) (ix2 0 l) := by
  frame_out
  pointwise [k0_pay1]

end

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

variable (m : (ℓ : Loc nD τ sig) → Buf (Elt Ideal) ℓ) (c : Dev nD)

/-- The five arguments. -/
abbrev A0 : S4096x4096.Idx → EReal := m ((c : Thread nD τ).loc main_arg0)
abbrev A1 : S4096x1024.Idx → EReal := m ((c : Thread nD τ).loc main_arg1)
abbrev A2 : S4096x1024.Idx → EReal := m ((c : Thread nD τ).loc main_arg2)
abbrev A3 : S4096x1024.Idx → EReal := m ((c : Thread nD τ).loc main_arg3)
abbrev A4 : S1x1024.Idx → EReal := m ((c : Thread nD τ).loc main_arg4)

/-- A point's blocks. -/
abbrev B0 (t : Fin cfg0.N) : FVec Ideal S512x4096 .bf16 := iblk m c 0 t
abbrev B1 (t : Fin cfg0.N) : FVec Ideal S4096x1024 .bf16 := iblk m c 1 t
abbrev B2 (t : Fin cfg0.N) : FVec Ideal S512x1024 .f32 := iblk m c 2 t
abbrev B3 (t : Fin cfg0.N) : FVec Ideal S512x1024 .f32 := iblk m c 3 t
abbrev B4 (t : Fin cfg0.N) : FVec Ideal S1x1024 .f32 := iblk m c 4 t

theorem B0_at (t : Fin cfg0.N) (ht : t.val < 8) (r : Fin 512) (k : Fin 4096) :
    (B0 m c t (ix2 r k) : EReal) = A0 m c (ix2 (at' (512 * t.val + r.val)) k) := by
  rw [at'_eq (n := 4096) (512 * t.val + r.val) ⟨512 * t.val + r.val, by omega⟩ rfl]
  blk_point [iblk, V, idx t]

theorem B1_at (t : Fin cfg0.N) (k : Fin 4096) (l : Fin 1024) : (B1 m c t (ix2 k l) : EReal) = A1 m c (ix2 k l) := by
  blk_point [iblk, V, idx t]

theorem B4_at (t : Fin cfg0.N) (l : Fin 1024) : (B4 m c t (ix2 0 l) : EReal) = A4 m c (ix2 0 l) := by
  blk_point [iblk, V, idx t]

theorem B2_at (t : Fin cfg0.N) (ht : t.val < 8) (r : Fin 512) (l : Fin 1024) :
    (B2 m c t (ix2 r l) : EReal) = A2 m c (ix2 (at' (512 * t.val + r.val)) l) := by
  rw [at'_eq (n := 4096) (512 * t.val + r.val) ⟨512 * t.val + r.val, by omega⟩ rfl]
  blk_point [iblk, V, idx t]

theorem B3_at (t : Fin cfg0.N) (ht : t.val < 8) (r : Fin 512) (l : Fin 1024) :
    (B3 m c t (ix2 r l) : EReal) = A3 m c (ix2 (at' (512 * t.val + r.val)) l) := by
  rw [at'_eq (n := 4096) (512 * t.val + r.val) ⟨512 * t.val + r.val, by omega⟩ rfl]
  blk_point [iblk, V, idx t]

/-- A block's rows are the whole arrays'. -/
theorem bD_at (t : Fin cfg0.N) (ht : t.val < 8) (r : Fin 512) : bD (B0 m c t) (B1 m c t) r = dRow (A0 m c) (A1 m c) (512 * t.val + r.val) :=
  funext fun l => Finset.sum_congr rfl fun k _ => congrArg₂ (fun x y : EReal => x * y) (B0_at m c t ht r k) (B1_at m c t k l)

theorem bE_at (t : Fin cfg0.N) (ht : t.val < 8) (r : Fin 512) : bE (B0 m c t) (B1 m c t) (B2 m c t) (B3 m c t) (B4 m c t) r = eRow (A0 m c) (A1 m c) (A2 m c) (A3 m c) (A4 m c) (512 * t.val + r.val) := by
  rw [bE, eRow, bD_at m c t ht r]
  exact congr (congr (congrArg _ (funext fun l => B2_at m c t ht r l)) (funext fun l => B3_at m c t ht r l)) (funext fun l => B4_at m c t l)

theorem bG_at (t : Fin cfg0.N) (ht : t.val < 8) (r : Fin 512) : bG (B0 m c t) (B1 m c t) (B2 m c t) (B3 m c t) (B4 m c t) r = d2Row (A0 m c) (A1 m c) (A2 m c) (A3 m c) (A4 m c) (512 * t.val + r.val) :=
  funext fun l => congrArg (fun z : EReal => z * Ideal.ofBits .f32 0x3A800000#32) (congrFun (bE_at m c t ht r) l)

theorem row_val (t : Fin cfg0.N) (ht : t.val < 8) (r : Fin 512) : ((at' (512 * t.val + r.val) : Fin 4096)).val = 512 * t.val + r.val :=
  congrArg Fin.val (at'_eq (n := 4096) (512 * t.val + r.val) ⟨512 * t.val + r.val, by omega⟩ rfl)

/-- The rows of the gradient of the last stream at a point. -/
theorem dx_at (t : Fin cfg0.N) (ht : t.val < 8) (r : Fin 512) (l : Fin 1024) :
    ((outsAt0 m c t.val t.isLt).1 (ix2 r l) : EReal) = resX (A0 m c) (A1 m c) (A2 m c) (A3 m c) (A4 m c) (ix2 (at' (512 * t.val + r.val)) l) := by
  have key : ((outsAt0 m c t.val t.isLt).1 (ix2 r l) : EReal) = k0_pay5 (F := Ideal) (B0 m c t) (B1 m c t) (B2 m c t) (B3 m c t) (B4 m c t) (ix2 r l) := by
    by_cases h : t.val = 0
    · rw [outsAt0_A m c t (by omega) (by omega) (by omega) (by omega)]
      dsimp only
      rw [dxA]
    · rw [outsAt0_B m c t (by omega) (by omega) (by omega) (by omega)]
      dsimp only
      rw [dxB]
  show _ = d2Row (A0 m c) (A1 m c) (A2 m c) (A3 m c) (A4 m c) ((at' (512 * t.val + r.val) : Fin 4096)).val l
  rw [key, row_val t ht r, pay5_at, bG_at m c t ht r]

/-- And those of the gradient of the down-projection. -/
theorem dd_at (t : Fin cfg0.N) (ht : t.val < 8) (r : Fin 512) (l : Fin 1024) :
    ((outsAt0 m c t.val t.isLt).2.1 (ix2 r l) : EReal) = resD (A0 m c) (A1 m c) (A2 m c) (A3 m c) (A4 m c) (ix2 (at' (512 * t.val + r.val)) l) := by
  have key : ((outsAt0 m c t.val t.isLt).2.1 (ix2 r l) : EReal)
      = k0_pay10 (F := Ideal) (k0_pay2 (F := Ideal) (B0 m c t) (B1 m c t)) (B4 m c t) (k0_pay5 (F := Ideal) (B0 m c t) (B1 m c t) (B2 m c t) (B3 m c t) (B4 m c t)) (k0_pay6 (F := Ideal) (B0 m c t) (B1 m c t)) (ix2 r l) := by
    by_cases h : t.val = 0
    · rw [outsAt0_A m c t (by omega) (by omega) (by omega) (by omega)]
      dsimp only
      rw [ddA]
    · rw [outsAt0_B m c t (by omega) (by omega) (by omega) (by omega)]
      dsimp only
      rw [ddB]
  show _ = gradX (d2Row (A0 m c) (A1 m c) (A2 m c) (A3 m c) (A4 m c) ((at' (512 * t.val + r.val) : Fin 4096)).val) (dRow (A0 m c) (A1 m c) ((at' (512 * t.val + r.val) : Fin 4096)).val) (gRow (A4 m c)) l
  rw [key, row_val t ht r, pay10_at, bG_at m c t ht r, bD_at m c t ht r]
  exact congrFun (congrArg _ (funext fun l => B4_at m c t l)) l

/-- A block's share of the loss. -/
theorem shareL_at (t : Fin cfg0.N) (ht : t.val < 8) :
    (k0_pay4 (F := Ideal) (B0 m c t) (B1 m c t) (B2 m c t) (B3 m c t) (B4 m c t) (ix2 0 0) : EReal) = ∑ r : Fin 512, shareL (A0 m c) (A1 m c) (A2 m c) (A3 m c) (A4 m c) (512 * t.val + r.val) := by
  rw [pay4_at, wHalf_eq, coe_mul_sum _ (by norm_num)]
  refine Finset.sum_congr rfl fun r _ => ?_
  rw [bE_at m c t ht r, shareL, meanErr, wHalf_eq]

/-- What the first point and a later one leave of the loss. -/
theorem firstL_at (t : Fin cfg0.N) (h : t.val = 0) (l : Fin 128) : ((outsAt0 m c t.val t.isLt).2.2.1 (ix2 0 l) : EReal) = k0_pay4 (F := Ideal) (B0 m c t) (B1 m c t) (B2 m c t) (B3 m c t) (B4 m c t) (ix2 0 0) := by
  rw [outsAt0_A m c t (by omega) (by omega) (by omega) (by omega)]
  dsimp only
  rw [dlA]

theorem nextL_at (t : Fin cfg0.N) (ht : t.val < 8) (h : ¬t.val = 0) (l : Fin 128) :
    ((outsAt0 m c t.val t.isLt).2.2.1 (ix2 0 l) : EReal) = (outsAt0 m c (t.val - 1) (Nat.lt_of_le_of_lt (Nat.sub_le _ _) t.isLt)).2.2.1 (ix2 0 l)
      + k0_pay4 (F := Ideal) (B0 m c t) (B1 m c t) (B2 m c t) (B3 m c t) (B4 m c t) (ix2 0 0) := by
  rw [outsAt0_B m c t (by omega) (by omega) (by omega) (by omega)]
  dsimp only
  rw [dlB]

/-- The points' shares of the loss so far. -/
theorem accL_at (l : Fin 128) : ∀ (p : ℕ) (t : Fin cfg0.N), t.val < 8 → t.val = p →
    ((outsAt0 m c t.val t.isLt).2.2.1 (ix2 0 l) : EReal) = ∑ i ∈ Finset.range (512 * (p + 1)), shareL (A0 m c) (A1 m c) (A2 m c) (A3 m c) (A4 m c) i := by
  intro p
  induction p with
  | zero =>
    intro t ht hp
    rw [sum_block, Nat.mul_zero, Finset.sum_range_zero, zero_add, firstL_at m c t hp, shareL_at m c t ht, hp]
  | succ p ih =>
    intro t ht hp
    have h2 := ih ⟨t.val - 1, Nat.lt_of_le_of_lt (Nat.sub_le _ _) t.isLt⟩ (by dsimp only; omega) (by dsimp only; omega)
    rw [sum_block, nextL_at m c t ht (by omega), shareL_at m c t ht]
    exact congrArg₂ (fun x y : EReal => x + y) h2 (Finset.sum_congr rfl fun r _ => by rw [hp])

theorem emb7 (t : Fin cfg0.N) (y : S1x128.Idx) : (win0_7.blk t).view.emb y = ix2 0 (y 1) := by
  rw [eq_ix2 ((win0_7.blk t).view.emb y)]
  refine congrArg₂ ix2 (Fin.ext ?_) (Fin.ext ?_) <;> blk_simp [idx t] <;> simp <;> omega

theorem finalL : (dats m 0 c).arrAt 7 cfg0.N = resL (A0 m c) (A1 m c) (A2 m c) (A3 m c) (A4 m c) := by
  refine (dats m 0 c).arrAt_eq_of_covers 7 _ (by decide +kernel) fun t hf y => ?_
  have ht : t.val < 8 := lt_of_lt_of_eq t.isLt (show cfg0.N = 8 from N_0)
  have h7 : t.val = 7 := by
    have := (flush0_7 t).mp hf
    omega
  blk_simp
  rw [after0_7, emb7 _ y]
  have hy : y = ix2 0 (y 1) := by
    rw [eq_ix2 y]
    exact congrArg₂ ix2 (Subsingleton.elim (α := Fin 1) _ _) rfl
  refine (congrArg _ hy).trans ((accL_at m c (y 1) 7 t ht h7).trans ?_)
  exact Finset.sum_range (n := 4096) _

/-- A block's share of the gradient of the norm's weights. -/
theorem shareG_at (t : Fin cfg0.N) (ht : t.val < 8) (l : Fin 1024) :
    (k0_pay9 (F := Ideal) (k0_pay2 (F := Ideal) (B0 m c t) (B1 m c t)) (k0_pay5 (F := Ideal) (B0 m c t) (B1 m c t) (B2 m c t) (B3 m c t) (B4 m c t)) (k0_pay6 (F := Ideal) (B0 m c t) (B1 m c t)) (ix2 0 l) : EReal) = ∑ r : Fin 512, shareG (A0 m c) (A1 m c) (A2 m c) (A3 m c) (A4 m c) l (512 * t.val + r.val) := by
  rw [pay9_at]
  refine Finset.sum_congr rfl fun r _ => ?_
  rw [bG_at m c t ht r, bD_at m c t ht r, shareG]

/-- What the first point and a later one leave of the gradient of the norm's weights. -/
theorem firstG_at (t : Fin cfg0.N) (h : t.val = 0) (l : Fin 1024) : ((outsAt0 m c t.val t.isLt).2.2.2 (ix2 0 l) : EReal) = k0_pay9 (F := Ideal) (k0_pay2 (F := Ideal) (B0 m c t) (B1 m c t)) (k0_pay5 (F := Ideal) (B0 m c t) (B1 m c t) (B2 m c t) (B3 m c t) (B4 m c t)) (k0_pay6 (F := Ideal) (B0 m c t) (B1 m c t)) (ix2 0 l) := by
  rw [outsAt0_A m c t (by omega) (by omega) (by omega) (by omega)]
  dsimp only
  rw [dgA]

theorem nextG_at (t : Fin cfg0.N) (ht : t.val < 8) (h : ¬t.val = 0) (l : Fin 1024) :
    ((outsAt0 m c t.val t.isLt).2.2.2 (ix2 0 l) : EReal) = (outsAt0 m c (t.val - 1) (Nat.lt_of_le_of_lt (Nat.sub_le _ _) t.isLt)).2.2.2 (ix2 0 l)
      + k0_pay9 (F := Ideal) (k0_pay2 (F := Ideal) (B0 m c t) (B1 m c t)) (k0_pay5 (F := Ideal) (B0 m c t) (B1 m c t) (B2 m c t) (B3 m c t) (B4 m c t)) (k0_pay6 (F := Ideal) (B0 m c t) (B1 m c t)) (ix2 0 l) := by
  rw [outsAt0_B m c t (by omega) (by omega) (by omega) (by omega)]
  dsimp only
  rw [dgB]

/-- The points' shares of the gradient of the norm's weights so far. -/
theorem accG_at (l : Fin 1024) : ∀ (p : ℕ) (t : Fin cfg0.N), t.val < 8 → t.val = p →
    ((outsAt0 m c t.val t.isLt).2.2.2 (ix2 0 l) : EReal) = ∑ i ∈ Finset.range (512 * (p + 1)), shareG (A0 m c) (A1 m c) (A2 m c) (A3 m c) (A4 m c) l i := by
  intro p
  induction p with
  | zero =>
    intro t ht hp
    rw [sum_block, Nat.mul_zero, Finset.sum_range_zero, zero_add, firstG_at m c t hp, shareG_at m c t ht l, hp]
  | succ p ih =>
    intro t ht hp
    have h2 := ih ⟨t.val - 1, Nat.lt_of_le_of_lt (Nat.sub_le _ _) t.isLt⟩ (by dsimp only; omega) (by dsimp only; omega)
    rw [sum_block, nextG_at m c t ht (by omega), shareG_at m c t ht l]
    exact congrArg₂ (fun x y : EReal => x + y) h2 (Finset.sum_congr rfl fun r _ => by rw [hp])

theorem emb8 (t : Fin cfg0.N) (y : S1x1024.Idx) : (win0_8.blk t).view.emb y = ix2 0 (y 1) := by
  rw [eq_ix2 ((win0_8.blk t).view.emb y)]
  refine congrArg₂ ix2 (Fin.ext ?_) (Fin.ext ?_) <;> blk_simp [idx t] <;> simp <;> omega

theorem finalG : (dats m 0 c).arrAt 8 cfg0.N = resG (A0 m c) (A1 m c) (A2 m c) (A3 m c) (A4 m c) := by
  refine (dats m 0 c).arrAt_eq_of_covers 8 _ (by decide +kernel) fun t hf y => ?_
  have ht : t.val < 8 := lt_of_lt_of_eq t.isLt (show cfg0.N = 8 from N_0)
  have h7 : t.val = 7 := by
    have := (flush0_8 t).mp hf
    omega
  blk_simp
  rw [after0_8, emb8 _ y]
  have hy : y = ix2 0 (y 1) := by
    rw [eq_ix2 y]
    exact congrArg₂ ix2 (Subsingleton.elim (α := Fin 1) _ _) rfl
  refine (congrArg _ hy).trans ((accG_at m c (y 1) 7 t ht h7).trans ?_)
  exact Finset.sum_range (n := 4096) _

theorem emb5 (t : Fin cfg0.N) (ht : t.val < 8) (y : S512x1024.Idx) :
    (win0_5.blk t).view.emb y = ix2 (at' (512 * t.val + (y 0).val)) (y 1) := by
  have hy : (y 0).val < 512 := (y 0).isLt
  rw [at'_eq (n := 4096) (512 * t.val + (y 0).val) ⟨512 * t.val + (y 0).val, by omega⟩ rfl, eq_ix2 ((win0_5.blk t).view.emb y)]
  refine congrArg₂ ix2 (Fin.ext ?_) (Fin.ext ?_) <;> blk_simp [idx t] <;> simp <;> omega

theorem finalX : (dats m 0 c).arrAt 5 cfg0.N = resX (A0 m c) (A1 m c) (A2 m c) (A3 m c) (A4 m c) := by
  refine (dats m 0 c).arrAt_eq_of_covers 5 _ (by decide +kernel) fun t hf y => ?_
  have ht : t.val < 8 := lt_of_lt_of_eq t.isLt (show cfg0.N = 8 from N_0)
  blk_simp
  rw [after0_5, emb5 t ht y]
  exact (congrArg _ (eq_ix2 y)).trans (dx_at m c t ht (y 0) (y 1))

theorem emb6 (t : Fin cfg0.N) (ht : t.val < 8) (y : S512x1024.Idx) :
    (win0_6.blk t).view.emb y = ix2 (at' (512 * t.val + (y 0).val)) (y 1) := by
  have hy : (y 0).val < 512 := (y 0).isLt
  rw [at'_eq (n := 4096) (512 * t.val + (y 0).val) ⟨512 * t.val + (y 0).val, by omega⟩ rfl, eq_ix2 ((win0_6.blk t).view.emb y)]
  refine congrArg₂ ix2 (Fin.ext ?_) (Fin.ext ?_) <;> blk_simp [idx t] <;> simp <;> omega

theorem finalD : (dats m 0 c).arrAt 6 cfg0.N = resD (A0 m c) (A1 m c) (A2 m c) (A3 m c) (A4 m c) := by
  refine (dats m 0 c).arrAt_eq_of_covers 6 _ (by decide +kernel) fun t hf y => ?_
  have ht : t.val < 8 := lt_of_lt_of_eq t.isLt (show cfg0.N = 8 from N_0)
  blk_simp
  rw [after0_6, emb6 t ht y]
  exact (congrArg _ (eq_ix2 y)).trans (dd_at m c t ht (y 0) (y 1))

end Cert.DownLossIdeal.Value

namespace Cert.DownLossRefIdeal.Value

open Cert.DownLossRefIdeal Cert.DownLossRefIdeal.Gen Cert.MatMul

variable (m : (ℓ : Loc nD τ sig) → Buf (Elt Ideal) ℓ) (c : Dev nD)

/-- The five arguments. -/
abbrev R0 : S4096x4096.Idx → EReal := m ((c.tc : Thread nD τ).loc main_arg0)
abbrev R1 : S4096x1024.Idx → EReal := m ((c.tc : Thread nD τ).loc main_arg1)
abbrev R2 : S4096x1024.Idx → EReal := m ((c.tc : Thread nD τ).loc main_arg2)
abbrev R3 : S4096x1024.Idx → EReal := m ((c.tc : Thread nD τ).loc main_arg3)
abbrev R4 : S1x1024.Idx → EReal := m ((c.tc : Thread nD τ).loc main_arg4)

/-- The rows that the reference's lines make. -/
abbrev pRow (p : Fin 4096) : Fin 1024 → EReal := Cert.DownLossIdeal.Value.mulRow (fun k => R0 m c (ix2 p k)) (R1 m c)
abbrev fRow (p : Fin 4096) : Fin 1024 → EReal := Cert.DownLossIdeal.Value.errRow (pRow m c p) (fun l => R2 m c (ix2 p l)) (fun l => R3 m c (ix2 p l)) (Cert.DownLossIdeal.Value.gRow (R4 m c))
abbrev lRow (p : Fin 4096) : Fin 1024 → EReal := fun l =>
  Ideal.div (Ideal.ofBits .f32 0x3F000000#32) w1024 * (Ideal.ofBits .f32 0x40000000#32 * fRow m c p l)

theorem row_eq (p : Fin 4096) : (at' p.val : Fin 4096) = p := at'_eq _ p rfl

theorem pRow_eq (p : Fin 4096) : pRow m c p = Cert.DownLossIdeal.Value.dRow (R0 m c) (R1 m c) p.val := by
  unfold Cert.DownLossIdeal.Value.dRow Cert.DownLossIdeal.Value.uRow
  rw [row_eq]

theorem fRow_eq (p : Fin 4096) : fRow m c p = Cert.DownLossIdeal.Value.eRow (R0 m c) (R1 m c) (R2 m c) (R3 m c) (R4 m c) p.val := by
  unfold Cert.DownLossIdeal.Value.eRow Cert.DownLossIdeal.Value.xRow
  rw [← pRow_eq, row_eq]

theorem lRow_eq (p : Fin 4096) : lRow m c p = Cert.DownLossIdeal.Value.d2Row (R0 m c) (R1 m c) (R2 m c) (R3 m c) (R4 m c) p.val := by
  funext l
  rw [lRow, scale_eq, fRow_eq]
  rfl

/-- The reference's results. -/
theorem ref_x : (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (addf (m ((c.tc : Thread nD τ).loc main_arg2)) (mulf (mulf (Host.dotGeneral dot_S4096x4096_S4096x1024_S4096x1024_1_0_0_1_n_n none (extf .f32 (m ((c.tc : Thread nD τ).loc main_arg0)) bitsLt_bf16_f32) (extf .f32 (m ((c.tc : Thread nD τ).loc main_arg1)) bitsLt_bf16_f32)) (broadcastInDim S4096x1024 ![0, 1] bcast_S4096x1_S4096x1024_0_1 (Host.rsqrt (addf (Host.divf (broadcastInDim S4096x1 ![0] bcast_S4096_S4096x1_0 (Host.reduceAdd (mulf (Host.dotGeneral dot_S4096x4096_S4096x1024_S4096x1024_1_0_0_1_n_n none (extf .f32 (m ((c.tc : Thread nD τ).loc main_arg0)) bitsLt_bf16_f32) (extf .f32 (m ((c.tc : Thread nD τ).loc main_arg1)) bitsLt_bf16_f32)) (Host.dotGeneral dot_S4096x4096_S4096x1024_S4096x1024_1_0_0_1_n_n none (extf .f32 (m ((c.tc : Thread nD τ).loc main_arg0)) bitsLt_bf16_f32) (extf .f32 (m ((c.tc : Thread nD τ).loc main_arg1)) bitsLt_bf16_f32))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (m ((c.tc : Thread nD τ).loc main_arg4))))) (m ((c.tc : Thread nD τ).loc main_arg3)))) : FVec Ideal S4096x1024 .f32) = Cert.DownLossIdeal.Value.resX (R0 m c) (R1 m c) (R2 m c) (R3 m c) (R4 m c) := by
  funext j
  obtain ⟨p, q, rfl⟩ : ∃ (p : Fin 4096) (q : Fin 1024), j = ix2 p q := ⟨j 0, j 1, eq_ix2 j⟩
  pointwise
  exact congrFun (lRow_eq m c p) q

theorem ref_d : (res_main_v53 m c : S4096x1024.Idx → EReal) = Cert.DownLossIdeal.Value.resD (R0 m c) (R1 m c) (R2 m c) (R3 m c) (R4 m c) := by
  funext j
  obtain ⟨p, q, rfl⟩ : ∃ (p : Fin 4096) (q : Fin 1024), j = ix2 p q := ⟨j 0, j 1, eq_ix2 j⟩
  unfold res_main_v53
  pointwise
  refine Eq.trans (b := linesX (lRow m c p) (pRow m c p) (Cert.DownLossIdeal.Value.gRow (R4 m c)) q) rfl ?_
  rw [linesX_eq, lRow_eq, pRow_eq]
  rfl

theorem ref_l : (broadcastInDim S1x128 ![] bcast_S_S1x128 (mulf (constant S_ .f32 0x3F000000#32) (Host.reduceAdd (Host.divf (Host.reduceAdd (mulf (subf (addf (m ((c.tc : Thread nD τ).loc main_arg2)) (mulf (mulf (Host.dotGeneral dot_S4096x4096_S4096x1024_S4096x1024_1_0_0_1_n_n none (extf .f32 (m ((c.tc : Thread nD τ).loc main_arg0)) bitsLt_bf16_f32) (extf .f32 (m ((c.tc : Thread nD τ).loc main_arg1)) bitsLt_bf16_f32)) (broadcastInDim S4096x1024 ![0, 1] bcast_S4096x1_S4096x1024_0_1 (Host.rsqrt (addf (Host.divf (broadcastInDim S4096x1 ![0] bcast_S4096_S4096x1_0 (Host.reduceAdd (mulf (Host.dotGeneral dot_S4096x4096_S4096x1024_S4096x1024_1_0_0_1_n_n none (extf .f32 (m ((c.tc : Thread nD τ).loc main_arg0)) bitsLt_bf16_f32) (extf .f32 (m ((c.tc : Thread nD τ).loc main_arg1)) bitsLt_bf16_f32)) (Host.dotGeneral dot_S4096x4096_S4096x1024_S4096x1024_1_0_0_1_n_n none (extf .f32 (m ((c.tc : Thread nD τ).loc main_arg0)) bitsLt_bf16_f32) (extf .f32 (m ((c.tc : Thread nD τ).loc main_arg1)) bitsLt_bf16_f32))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (m ((c.tc : Thread nD τ).loc main_arg4))))) (m ((c.tc : Thread nD τ).loc main_arg3))) (subf (addf (m ((c.tc : Thread nD τ).loc main_arg2)) (mulf (mulf (Host.dotGeneral dot_S4096x4096_S4096x1024_S4096x1024_1_0_0_1_n_n none (extf .f32 (m ((c.tc : Thread nD τ).loc main_arg0)) bitsLt_bf16_f32) (extf .f32 (m ((c.tc : Thread nD τ).loc main_arg1)) bitsLt_bf16_f32)) (broadcastInDim S4096x1024 ![0, 1] bcast_S4096x1_S4096x1024_0_1 (Host.rsqrt (addf (Host.divf (broadcastInDim S4096x1 ![0] bcast_S4096_S4096x1_0 (Host.reduceAdd (mulf (Host.dotGeneral dot_S4096x4096_S4096x1024_S4096x1024_1_0_0_1_n_n none (extf .f32 (m ((c.tc : Thread nD τ).loc main_arg0)) bitsLt_bf16_f32) (extf .f32 (m ((c.tc : Thread nD τ).loc main_arg1)) bitsLt_bf16_f32)) (Host.dotGeneral dot_S4096x4096_S4096x1024_S4096x1024_1_0_0_1_n_n none (extf .f32 (m ((c.tc : Thread nD τ).loc main_arg0)) bitsLt_bf16_f32) (extf .f32 (m ((c.tc : Thread nD τ).loc main_arg1)) bitsLt_bf16_f32))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (m ((c.tc : Thread nD τ).loc main_arg4))))) (m ((c.tc : Thread nD τ).loc main_arg3)))) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) : FVec Ideal S1x128 .f32) = Cert.DownLossIdeal.Value.resL (R0 m c) (R1 m c) (R2 m c) (R3 m c) (R4 m c) := by
  funext j
  obtain ⟨p, q, rfl⟩ : ∃ (p : Fin 1) (q : Fin 128), j = ix2 p q := ⟨j 0, j 1, eq_ix2 j⟩
  pointwise
  refine Eq.trans (b := Ideal.ofBits .f32 0x3F000000#32 * ∑ p : Fin 4096, Ideal.div (∑ l : Fin 1024, fRow m c p l * fRow m c p l) w1024) rfl ?_
  rw [wHalf_eq, coe_mul_sum _ (by norm_num)]
  refine Finset.sum_congr rfl fun p _ => ?_
  rw [fRow_eq, ← wHalf_eq]
  rfl

theorem ref_g : (shapeCast _ (Host.reduceAdd (mulf (mulf (Host.dotGeneral dot_S4096x4096_S4096x1024_S4096x1024_1_0_0_1_n_n none (extf .f32 (m ((c.tc : Thread nD τ).loc main_arg0)) bitsLt_bf16_f32) (extf .f32 (m ((c.tc : Thread nD τ).loc main_arg1)) bitsLt_bf16_f32)) (broadcastInDim S4096x1024 ![0, 1] bcast_S4096x1_S4096x1024_0_1 (Host.rsqrt (addf (Host.divf (broadcastInDim S4096x1 ![0] bcast_S4096_S4096x1_0 (Host.reduceAdd (mulf (Host.dotGeneral dot_S4096x4096_S4096x1024_S4096x1024_1_0_0_1_n_n none (extf .f32 (m ((c.tc : Thread nD τ).loc main_arg0)) bitsLt_bf16_f32) (extf .f32 (m ((c.tc : Thread nD τ).loc main_arg1)) bitsLt_bf16_f32)) (Host.dotGeneral dot_S4096x4096_S4096x1024_S4096x1024_1_0_0_1_n_n none (extf .f32 (m ((c.tc : Thread nD τ).loc main_arg0)) bitsLt_bf16_f32) (extf .f32 (m ((c.tc : Thread nD τ).loc main_arg1)) bitsLt_bf16_f32))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (addf (m ((c.tc : Thread nD τ).loc main_arg2)) (mulf (mulf (Host.dotGeneral dot_S4096x4096_S4096x1024_S4096x1024_1_0_0_1_n_n none (extf .f32 (m ((c.tc : Thread nD τ).loc main_arg0)) bitsLt_bf16_f32) (extf .f32 (m ((c.tc : Thread nD τ).loc main_arg1)) bitsLt_bf16_f32)) (broadcastInDim S4096x1024 ![0, 1] bcast_S4096x1_S4096x1024_0_1 (Host.rsqrt (addf (Host.divf (broadcastInDim S4096x1 ![0] bcast_S4096_S4096x1_0 (Host.reduceAdd (mulf (Host.dotGeneral dot_S4096x4096_S4096x1024_S4096x1024_1_0_0_1_n_n none (extf .f32 (m ((c.tc : Thread nD τ).loc main_arg0)) bitsLt_bf16_f32) (extf .f32 (m ((c.tc : Thread nD τ).loc main_arg1)) bitsLt_bf16_f32)) (Host.dotGeneral dot_S4096x4096_S4096x1024_S4096x1024_1_0_0_1_n_n none (extf .f32 (m ((c.tc : Thread nD τ).loc main_arg0)) bitsLt_bf16_f32) (extf .f32 (m ((c.tc : Thread nD τ).loc main_arg1)) bitsLt_bf16_f32))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (m ((c.tc : Thread nD τ).loc main_arg4))))) (m ((c.tc : Thread nD τ).loc main_arg3)))))) (constant S_ .f32 0x00000000#32) reducesTo_S4096x1024_S1024_d0 h_S_) shapeCasts_S1024_S1x1024 : FVec Ideal S1x1024 .f32) = Cert.DownLossIdeal.Value.resG (R0 m c) (R1 m c) (R2 m c) (R3 m c) (R4 m c) := by
  funext j
  obtain ⟨p, q, rfl⟩ : ∃ (p : Fin 1) (q : Fin 1024), j = ix2 p q := ⟨j 0, j 1, eq_ix2 j⟩
  obtain rfl : p = 0 := Subsingleton.elim (α := Fin 1) _ _
  pointwise
  refine Eq.trans (b := ∑ t : Fin 4096, (pRow m c t q * rstd (pRow m c t) * lRow m c t q : EReal)) rfl ?_
  refine Finset.sum_congr rfl fun t _ => ?_
  show _ = Cert.DownLossIdeal.Value.d2Row (R0 m c) (R1 m c) (R2 m c) (R3 m c) (R4 m c) t.val q * Cert.DownLossIdeal.Value.dRow (R0 m c) (R1 m c) t.val q * rstd (Cert.DownLossIdeal.Value.dRow (R0 m c) (R1 m c) t.val)
  rw [← pRow_eq, ← lRow_eq]
  exact (mul_right_comm _ _ _).trans (congrArg (fun z : EReal => z * rstd (pRow m c t)) (mul_comm (pRow m c t q) (lRow m c t q)))

end Cert.DownLossRefIdeal.Value

end
-- ==== Proof.UpDxFinal.lean ====
/- The gradient through the MLP's first product and the two norms before it: the tiled product and its rows, and the reference's. -/
module

public import proofs.«01_k».proof.Proof.Gen.UpDx
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.NormGrad

@[expose] public section

set_option maxRecDepth 16384

noncomputable section

open Idealize.ShloMosaic Idealize.ShloMosaic.TcCoe Idealize.SL.Sem

namespace Cert.UpDxIdeal.Value

open Cert.UpDxIdeal Cert.UpDxIdeal.Gen Cert.MatMul

/-- A row of the product's gradient by its input: the row of `a` times the rows of `w`. -/
def dhRow (a : S4096x4096.Idx → EReal) (w : S1024x4096.Idx → EReal) (p : ℕ) : Fin 1024 → EReal := fun l =>
  ∑ k : Fin 4096, a (ix2 (at' p) k) * w (ix2 l k)

/-- One half of the contraction. -/
def halfRow (a : S4096x4096.Idx → EReal) (w : S1024x4096.Idx → EReal) (p h : ℕ) : Fin 1024 → EReal := fun l =>
  ∑ k : Fin 2048, a (ix2 (at' p) (at' (2048 * h + k.val))) * w (ix2 l (at' (2048 * h + k.val)))

theorem dhRow_halves (a : S4096x4096.Idx → EReal) (w : S1024x4096.Idx → EReal) (p : ℕ) (l : Fin 1024) :
    halfRow a w p 0 l + halfRow a w p 1 l = dhRow a w p l := by
  refine Eq.trans ?_ (Fin.sum_univ_add (a := 2048) (b := 2048) (fun k : Fin (2048 + 2048) => (a (ix2 (at' p) k) * w (ix2 l k) : EReal))).symm
  refine congrArg₂ (fun x y : EReal => x + y) (Finset.sum_congr rfl fun k _ => ?_) (Finset.sum_congr rfl fun k _ => ?_)
  · rw [at'_eq (n := 4096) (2048 * 0 + k.val) (Fin.castAdd 2048 k) (by simp)]
  · rw [at'_eq (n := 4096) (2048 * 1 + k.val) (Fin.natAdd 2048 k) (by simp [Nat.add_comm])]

/-- A row of a residual stream. -/
abbrev xRow (x : S4096x1024.Idx → EReal) (p : ℕ) : Fin 1024 → EReal := fun l => x (ix2 (at' p) l)

/-- A row of the gradient of the stream between the two blocks. -/
def d1Row (a : S4096x4096.Idx → EReal) (w : S1024x4096.Idx → EReal) (e x : S4096x1024.Idx → EReal) (g : S1x1024.Idx → EReal) (p : ℕ) : Fin 1024 → EReal := fun l =>
  xRow e p l + gradX (dhRow a w p) (xRow x p) (fun l => g (ix2 0 l)) l

/-- The gradient of the stream between the two blocks. -/
def resX (a : S4096x4096.Idx → EReal) (w : S1024x4096.Idx → EReal) (e x : S4096x1024.Idx → EReal) (g : S1x1024.Idx → EReal) : S4096x1024.Idx → EReal := fun j =>
  d1Row a w e x g (j 0).val (j 1)

/-- The gradient of the mixing block's output. -/
def resY (a : S4096x4096.Idx → EReal) (w : S1024x4096.Idx → EReal) (e x y : S4096x1024.Idx → EReal) (g g2 : S1x1024.Idx → EReal) : S4096x1024.Idx → EReal := fun j =>
  gradX (d1Row a w e x g (j 0).val) (xRow y (j 0).val) (fun l => g2 (ix2 0 l)) (j 1)

/-- A row's share of the gradient of the first norm's weights, and of the second's. -/
def shareG (a : S4096x4096.Idx → EReal) (w : S1024x4096.Idx → EReal) (x : S4096x1024.Idx → EReal) (l : Fin 1024) (p : ℕ) : EReal :=
  dhRow a w p l * xRow x p l * rstd (xRow x p)

def shareP (a : S4096x4096.Idx → EReal) (w : S1024x4096.Idx → EReal) (e x y : S4096x1024.Idx → EReal) (g : S1x1024.Idx → EReal) (l : Fin 1024) (p : ℕ) : EReal :=
  d1Row a w e x g p l * xRow y p l * rstd (xRow y p)

/-- The gradients of the norms' weights. -/
def resG (a : S4096x4096.Idx → EReal) (w : S1024x4096.Idx → EReal) (x : S4096x1024.Idx → EReal) : S1x1024.Idx → EReal := fun j =>
  ∑ p : Fin 4096, shareG a w x (j 1) p.val

def resP (a : S4096x4096.Idx → EReal) (w : S1024x4096.Idx → EReal) (e x y : S4096x1024.Idx → EReal) (g : S1x1024.Idx → EReal) : S1x1024.Idx → EReal := fun j =>
  ∑ p : Fin 4096, shareP a w e x y g (j 1) p.val

theorem pay5_at (x : FVec Ideal S512x1024 .f32) (r : Fin 512) : k0_pay5 (F := Ideal) x (ix2 r 0) = rstd (fun l => x (ix2 r l)) := by
  pointwise [k0_pay5]
  rfl

theorem pay10_at (y : FVec Ideal S512x1024 .f32) (r : Fin 512) :
    k0_pay10 (F := Ideal) (k0_pay8 (F := Ideal) y) (k0_pay9 (F := Ideal)) (ix2 r 0) = rstd (fun l => y (ix2 r l)) := by
  pointwise [k0_pay10, k0_pay8, k0_pay9]
  rfl

theorem pay7_at (d e x : FVec Ideal S512x1024 .f32) (g : FVec Ideal S1x1024 .f32) (r : Fin 512) (l : Fin 1024) :
    k0_pay7 (F := Ideal) d e x g (ix2 r l) = e (ix2 r l) + gradX (fun l => d (ix2 r l)) (fun l => x (ix2 r l)) (fun l => g (ix2 0 l)) l := by
  pointwise [k0_pay7]
  simp only [pay5_at]
  rfl

theorem pay13_at (y d : FVec Ideal S512x1024 .f32) (g : FVec Ideal S1x1024 .f32) (r : Fin 512) (l : Fin 1024) :
    k0_pay13 (F := Ideal) y g d (k0_pay8 (F := Ideal) y) (k0_pay9 (F := Ideal)) (ix2 r l) = gradX (fun l => d (ix2 r l)) (fun l => y (ix2 r l)) (fun l => g (ix2 0 l)) l := by
  pointwise [k0_pay13]
  simp only [pay10_at]
  rfl

theorem pay11_at (d x : FVec Ideal S512x1024 .f32) (l : Fin 1024) :
    k0_pay11 (F := Ideal) (k0_pay6 (F := Ideal) d x) (ix2 0 l) = ∑ r : Fin 512, d (ix2 r l) * x (ix2 r l) * rstd (fun l => x (ix2 r l)) := by
  pointwise [k0_pay11, k0_pay6]
  simp only [pay5_at]

theorem pay12_at (y d : FVec Ideal S512x1024 .f32) (l : Fin 1024) :
    k0_pay12 (F := Ideal) y d (k0_pay8 (F := Ideal) y) (k0_pay9 (F := Ideal)) (ix2 0 l) = ∑ r : Fin 512, d (ix2 r l) * y (ix2 r l) * rstd (fun l => y (ix2 r l)) := by
  pointwise [k0_pay12]
  simp only [pay10_at]

theorem pay3_at (a : FVec Ideal S512x2048 .bf16) (w : FVec Ideal S1024x2048 .bf16) (s : FVec Ideal S512x1024 .f32) (r : Fin 512) (l : Fin 1024) :
    k0_pay3 (F := Ideal) a w s (ix2 r l) = s (ix2 r l) + ∑ k : Fin 2048, (a (ix2 r k) * w (ix2 l k) : EReal) := by
  pointwise [k0_pay3, k0_pay1]

/-- The first half leaves its product in the scratch. -/
theorem scratchA (c : Dev nD) (i : grid0.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (hc0 : cond0_0 i) (hc1 : ¬cond0_1 i) (hc2 : ¬cond0_2 i) (x0 : Vec Ideal S512x2048 .bf16) (x1 : Vec Ideal S1024x2048 .bf16) (x2 : Vec Ideal S512x1024 .f32) (x3 : Vec Ideal S512x1024 .f32) (x4 : Vec Ideal S512x1024 .f32) (x5 : Vec Ideal S1x1024 .f32) (x6 : Vec Ideal S1x1024 .f32) (r : Fin 512) (l : Fin 1024) :
    sout0_A_0 (F := Ideal) c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 (ix2 r l) = ∑ k : Fin 2048, (x0 (ix2 r k) * x1 (ix2 l k) : EReal) := by
  frame_out
  pointwise [k0_pay2, k0_pay1]

section

variable (c : Dev nD) (i : grid0.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (hc0 : ¬cond0_0 i) (hc1 : cond0_1 i) (hc2 : cond0_2 i) (hc3 : cond0_3 i) (hc4 : ¬cond0_4 i) (hc5 : cond0_5 i) (hc6 : ¬cond0_6 i) (x0 : Vec Ideal S512x2048 .bf16) (x1 : Vec Ideal S1024x2048 .bf16) (x2 : Vec Ideal S512x1024 .f32) (x3 : Vec Ideal S512x1024 .f32) (x4 : Vec Ideal S512x1024 .f32) (x5 : Vec Ideal S1x1024 .f32) (x6 : Vec Ideal S1x1024 .f32) (xs0 : Vec Ideal S512x1024 .f32)

/-- The second half gives the rows of the stream's gradient. -/
theorem dxB (r : Fin 512) (l : Fin 1024) :
    out0_B_7 (F := Ideal) c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 x6 xs0 (ix2 r l) = k0_pay7 (F := Ideal) (k0_pay3 (F := Ideal) x0 x1 xs0) x2 x3 x5 (ix2 r l) := by
  frame_out

/-- And those of the mixing block's output. -/
theorem dyB (r : Fin 512) (l : Fin 1024) :
    out0_B_8 (F := Ideal) c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 x6 xs0 (ix2 r l) = k0_pay13 (F := Ideal) x4 x6 (k0_pay7 (F := Ideal) (k0_pay3 (F := Ideal) x0 x1 xs0) x2 x3 x5) (k0_pay8 (F := Ideal) x4) (k0_pay9 (F := Ideal)) (ix2 r l) := by
  frame_out

/-- The first block's gradient of the first norm's weights. -/
theorem dgB (l : Fin 1024) :
    out0_B_9 (F := Ideal) c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 x6 xs0 (ix2 0 l) = k0_pay11 (F := Ideal) (k0_pay6 (F := Ideal) (k0_pay3 (F := Ideal) x0 x1 xs0) x3) (ix2 0 l) := by
  frame_out

/-- The first block's gradient of the second norm's weights. -/
theorem dpB (l : Fin 1024) :
    out0_B_10 (F := Ideal) c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 x6 xs0 (ix2 0 l) = k0_pay12 (F := Ideal) x4 (k0_pay7 (F := Ideal) (k0_pay3 (F := Ideal) x0 x1 xs0) x2 x3 x5) (k0_pay8 (F := Ideal) x4) (k0_pay9 (F := Ideal)) (ix2 0 l) := by
  frame_out

end

section

variable (c : Dev nD) (i : grid0.Coords) (arg3 : Memref sig .tc .vmem S512x2048 .bf16) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (hc0 : ¬cond0_0 i) (hc1 : cond0_1 i) (hc2 : cond0_2 i) (hc3 : ¬cond0_3 i) (hc4 : cond0_4 i) (hc5 : ¬cond0_5 i) (hc6 : cond0_6 i) (x0 : Vec Ideal S512x2048 .bf16) (x1 : Vec Ideal S1024x2048 .bf16) (x2 : Vec Ideal S512x1024 .f32) (x3 : Vec Ideal S512x1024 .f32) (x4 : Vec Ideal S512x1024 .f32) (x5 : Vec Ideal S1x1024 .f32) (x6 : Vec Ideal S1x1024 .f32) (xo9 : Vec Ideal S1x1024 .f32) (xo10 : Vec Ideal S1x1024 .f32) (xs0 : Vec Ideal S512x1024 .f32)

/-- The second half gives the rows of the stream's gradient. -/
theorem dxC (r : Fin 512) (l : Fin 1024) :
    out0_C_7 (F := Ideal) c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 x6 xo9 xo10 xs0 (ix2 r l) = k0_pay7 (F := Ideal) (k0_pay3 (F := Ideal) x0 x1 xs0) x2 x3 x5 (ix2 r l) := by
  frame_out

/-- And those of the mixing block's output. -/
theorem dyC (r : Fin 512) (l : Fin 1024) :
    out0_C_8 (F := Ideal) c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 x6 xo9 xo10 xs0 (ix2 r l) = k0_pay13 (F := Ideal) x4 x6 (k0_pay7 (F := Ideal) (k0_pay3 (F := Ideal) x0 x1 xs0) x2 x3 x5) (k0_pay8 (F := Ideal) x4) (k0_pay9 (F := Ideal)) (ix2 r l) := by
  frame_out

/-- A later block's, added to what the blocks before left. -/
theorem dgC (l : Fin 1024) :
    out0_C_9 (F := Ideal) c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 x6 xo9 xo10 xs0 (ix2 0 l) = xo9 (ix2 0 l) + k0_pay11 (F := Ideal) (k0_pay6 (F := Ideal) (k0_pay3 (F := Ideal) x0 x1 xs0) x3) (ix2 0 l) := by
  frame_out
  pointwise [k0_pay14]

/-- A later block's, added to what the blocks before left. -/
theorem dpC (l : Fin 1024) :
    out0_C_10 (F := Ideal) c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x0 x1 x2 x3 x4 x5 x6 xo9 xo10 xs0 (ix2 0 l) = xo10 (ix2 0 l) + k0_pay12 (F := Ideal) x4 (k0_pay7 (F := Ideal) (k0_pay3 (F := Ideal) x0 x1 xs0) x2 x3 x5) (k0_pay8 (F := Ideal) x4) (k0_pay9 (F := Ideal)) (ix2 0 l) := by
  frame_out
  pointwise [k0_pay4]

end

theorem idx : ∀ t : Fin cfg0.N, win0_0.index t = ![t.val / 2, t.val % 2] ∧ win0_1.index t = ![0, t.val % 2] ∧ win0_2.index t = ![t.val / 2, 0]
    ∧ win0_3.index t = ![t.val / 2, 0] ∧ win0_4.index t = ![t.val / 2, 0] ∧ win0_5.index t = ![0, 0] ∧ win0_6.index t = ![0, 0]
    ∧ win0_7.index t = ![t.val / 2, 0] ∧ win0_8.index t = ![t.val / 2, 0] ∧ win0_9.index t = ![0, 0] ∧ win0_10.index t = ![0, 0] :=
  (by decide +kernel : ∀ t : Fin grid0.N, _)

variable (m : (ℓ : Loc nD τ sig) → Buf (Elt Ideal) ℓ) (c : Dev nD)

/-- The seven arguments. -/
abbrev A0 : S4096x4096.Idx → EReal := m ((c : Thread nD τ).loc main_arg0)
abbrev A1 : S1024x4096.Idx → EReal := m ((c : Thread nD τ).loc main_arg1)
abbrev A2 : S4096x1024.Idx → EReal := m ((c : Thread nD τ).loc main_arg2)
abbrev A3 : S4096x1024.Idx → EReal := m ((c : Thread nD τ).loc main_arg3)
abbrev A4 : S4096x1024.Idx → EReal := m ((c : Thread nD τ).loc main_arg4)
abbrev A5 : S1x1024.Idx → EReal := m ((c : Thread nD τ).loc main_arg5)
abbrev A6 : S1x1024.Idx → EReal := m ((c : Thread nD τ).loc main_arg6)

/-- A point's blocks. -/
abbrev B0 (t : Fin cfg0.N) : FVec Ideal S512x2048 .bf16 := iblk m c 0 t
abbrev B1 (t : Fin cfg0.N) : FVec Ideal S1024x2048 .bf16 := iblk m c 1 t
abbrev B2 (t : Fin cfg0.N) : FVec Ideal S512x1024 .f32 := iblk m c 2 t
abbrev B3 (t : Fin cfg0.N) : FVec Ideal S512x1024 .f32 := iblk m c 3 t
abbrev B4 (t : Fin cfg0.N) : FVec Ideal S512x1024 .f32 := iblk m c 4 t
abbrev B5 (t : Fin cfg0.N) : FVec Ideal S1x1024 .f32 := iblk m c 5 t
abbrev B6 (t : Fin cfg0.N) : FVec Ideal S1x1024 .f32 := iblk m c 6 t

theorem B0_at (t : Fin cfg0.N) (ht : t.val < 16) (r : Fin 512) (k : Fin 2048) :
    (B0 m c t (ix2 r k) : EReal) = A0 m c (ix2 (at' (512 * (t.val / 2) + r.val)) (at' (2048 * (t.val % 2) + k.val))) := by
  rw [at'_eq (n := 4096) (512 * (t.val / 2) + r.val) ⟨512 * (t.val / 2) + r.val, by omega⟩ rfl,
    at'_eq (n := 4096) (2048 * (t.val % 2) + k.val) ⟨2048 * (t.val % 2) + k.val, by omega⟩ rfl]
  blk_point [iblk, V, idx t]

theorem B1_at (t : Fin cfg0.N) (l : Fin 1024) (k : Fin 2048) :
    (B1 m c t (ix2 l k) : EReal) = A1 m c (ix2 l (at' (2048 * (t.val % 2) + k.val))) := by
  rw [at'_eq (n := 4096) (2048 * (t.val % 2) + k.val) ⟨2048 * (t.val % 2) + k.val, by omega⟩ rfl]
  blk_point [iblk, V, idx t]

theorem B2_at (t : Fin cfg0.N) (ht : t.val < 16) (r : Fin 512) (l : Fin 1024) :
    (B2 m c t (ix2 r l) : EReal) = A2 m c (ix2 (at' (512 * (t.val / 2) + r.val)) l) := by
  rw [at'_eq (n := 4096) (512 * (t.val / 2) + r.val) ⟨512 * (t.val / 2) + r.val, by omega⟩ rfl]
  blk_point [iblk, V, idx t]

theorem B3_at (t : Fin cfg0.N) (ht : t.val < 16) (r : Fin 512) (l : Fin 1024) :
    (B3 m c t (ix2 r l) : EReal) = A3 m c (ix2 (at' (512 * (t.val / 2) + r.val)) l) := by
  rw [at'_eq (n := 4096) (512 * (t.val / 2) + r.val) ⟨512 * (t.val / 2) + r.val, by omega⟩ rfl]
  blk_point [iblk, V, idx t]

theorem B4_at (t : Fin cfg0.N) (ht : t.val < 16) (r : Fin 512) (l : Fin 1024) :
    (B4 m c t (ix2 r l) : EReal) = A4 m c (ix2 (at' (512 * (t.val / 2) + r.val)) l) := by
  rw [at'_eq (n := 4096) (512 * (t.val / 2) + r.val) ⟨512 * (t.val / 2) + r.val, by omega⟩ rfl]
  blk_point [iblk, V, idx t]

theorem B5_at (t : Fin cfg0.N) (l : Fin 1024) : (B5 m c t (ix2 0 l) : EReal) = A5 m c (ix2 0 l) := by
  blk_point [iblk, V, idx t]

theorem B6_at (t : Fin cfg0.N) (l : Fin 1024) : (B6 m c t (ix2 0 l) : EReal) = A6 m c (ix2 0 l) := by
  blk_point [iblk, V, idx t]

/-- A point's half of the contraction. -/
theorem half_at (t : Fin cfg0.N) (ht : t.val < 16) (r : Fin 512) (l : Fin 1024) :
    (∑ k : Fin 2048, (B0 m c t (ix2 r k) * B1 m c t (ix2 l k) : EReal)) = halfRow (A0 m c) (A1 m c) (512 * (t.val / 2) + r.val) (t.val % 2) l :=
  Finset.sum_congr rfl fun k _ => congrArg₂ (fun x y : EReal => x * y) (B0_at m c t ht r k) (B1_at m c t l k)

/-- What an even point leaves in the scratch. -/
theorem scratch_at (t : Fin cfg0.N) (ht : t.val < 16) (h : t.val % 2 = 0) (r : Fin 512) (l : Fin 1024) :
    ((outsAt0 m c t.val t.isLt).2.2.2.2 (ix2 r l) : EReal) = halfRow (A0 m c) (A1 m c) (512 * (t.val / 2) + r.val) 0 l := by
  rw [outsAt0_A m c t h (by omega) (by omega)]
  dsimp only
  rw [scratchA]
  refine (half_at m c t ht r l).trans ?_
  rw [h]

/-- What the scratch holds as an odd point starts. -/
abbrev before (t : Fin cfg0.N) : FVec Ideal S512x1024 .f32 := (outsAt0 m c (t.val - 1) (Nat.lt_of_le_of_lt (Nat.sub_le _ _) t.isLt)).2.2.2.2

/-- The product's gradient at an odd point, and the stream's. -/
abbrev dh (t : Fin cfg0.N) : FVec Ideal S512x1024 .f32 := k0_pay3 (F := Ideal) (B0 m c t) (B1 m c t) (before m c t)
abbrev d1 (t : Fin cfg0.N) : FVec Ideal S512x1024 .f32 := k0_pay7 (F := Ideal) (dh m c t) (B2 m c t) (B3 m c t) (B5 m c t)

theorem dh_at (t : Fin cfg0.N) (ht : t.val < 16) (h : t.val % 2 = 1) (r : Fin 512) (l : Fin 1024) :
    (dh m c t (ix2 r l) : EReal) = dhRow (A0 m c) (A1 m c) (512 * (t.val / 2) + r.val) l := by
  have hs := scratch_at m c ⟨t.val - 1, Nat.lt_of_le_of_lt (Nat.sub_le _ _) t.isLt⟩ (by dsimp only; omega) (by dsimp only; omega) r l
  dsimp only at hs
  rw [show (t.val - 1) / 2 = t.val / 2 by omega] at hs
  rw [dh, pay3_at, half_at m c t ht r l, h, ← dhRow_halves]
  exact congrArg (fun x : EReal => x + halfRow (A0 m c) (A1 m c) (512 * (t.val / 2) + r.val) 1 l) hs

theorem d1_at (t : Fin cfg0.N) (ht : t.val < 16) (h : t.val % 2 = 1) (r : Fin 512) (l : Fin 1024) :
    (d1 m c t (ix2 r l) : EReal) = d1Row (A0 m c) (A1 m c) (A2 m c) (A3 m c) (A5 m c) (512 * (t.val / 2) + r.val) l := by
  rw [d1, pay7_at]
  refine congrArg₂ (fun x y : EReal => x + y) (B2_at m c t ht r l) ?_
  exact congrFun (congr (congrArg₂ gradX (funext fun l => dh_at m c t ht h r l) (funext fun l => B3_at m c t ht r l)) (funext fun l => B5_at m c t l)) l

theorem row_val (t : Fin cfg0.N) (ht : t.val < 16) (r : Fin 512) : ((at' (512 * (t.val / 2) + r.val) : Fin 4096)).val = 512 * (t.val / 2) + r.val :=
  congrArg Fin.val (at'_eq (n := 4096) (512 * (t.val / 2) + r.val) ⟨512 * (t.val / 2) + r.val, by omega⟩ rfl)

/-- The rows of the stream's gradient at an odd point. -/
theorem dx_at (t : Fin cfg0.N) (ht : t.val < 16) (h : t.val % 2 = 1) (r : Fin 512) (l : Fin 1024) :
    ((outsAt0 m c t.val t.isLt).1 (ix2 r l) : EReal) = resX (A0 m c) (A1 m c) (A2 m c) (A3 m c) (A5 m c) (ix2 (at' (512 * (t.val / 2) + r.val)) l) := by
  have key : ((outsAt0 m c t.val t.isLt).1 (ix2 r l) : EReal) = d1 m c t (ix2 r l) := by
    by_cases h3 : t.val < 2
    · rw [outsAt0_B m c t (by omega) h h h3 (by omega) h3 (by omega)]
      dsimp only
      rw [dxB]
    · rw [outsAt0_C m c t (by omega) h h h3 (by omega) h3 (by omega)]
      dsimp only
      rw [dxC]
  show _ = d1Row (A0 m c) (A1 m c) (A2 m c) (A3 m c) (A5 m c) ((at' (512 * (t.val / 2) + r.val) : Fin 4096)).val l
  rw [key, row_val t ht r, d1_at m c t ht h r l]

/-- And those of the mixing block's output. -/
theorem dy_at (t : Fin cfg0.N) (ht : t.val < 16) (h : t.val % 2 = 1) (r : Fin 512) (l : Fin 1024) :
    ((outsAt0 m c t.val t.isLt).2.1 (ix2 r l) : EReal)
      = resY (A0 m c) (A1 m c) (A2 m c) (A3 m c) (A4 m c) (A5 m c) (A6 m c) (ix2 (at' (512 * (t.val / 2) + r.val)) l) := by
  have key : ((outsAt0 m c t.val t.isLt).2.1 (ix2 r l) : EReal)
      = k0_pay13 (F := Ideal) (B4 m c t) (B6 m c t) (d1 m c t) (k0_pay8 (F := Ideal) (B4 m c t)) (k0_pay9 (F := Ideal)) (ix2 r l) := by
    by_cases h3 : t.val < 2
    · rw [outsAt0_B m c t (by omega) h h h3 (by omega) h3 (by omega)]
      dsimp only
      rw [dyB]
    · rw [outsAt0_C m c t (by omega) h h h3 (by omega) h3 (by omega)]
      dsimp only
      rw [dyC]
  show _ = gradX (d1Row (A0 m c) (A1 m c) (A2 m c) (A3 m c) (A5 m c) ((at' (512 * (t.val / 2) + r.val) : Fin 4096)).val) (xRow (A4 m c) ((at' (512 * (t.val / 2) + r.val) : Fin 4096)).val) _ l
  rw [key, pay13_at, row_val t ht r]
  exact congrFun (congr (congrArg₂ gradX (funext fun l => d1_at m c t ht h r l) (funext fun l => B4_at m c t ht r l)) (funext fun l => B6_at m c t l)) l

/-- A block's share of the gradient of the first norm's weights. -/
theorem shareG_at (t : Fin cfg0.N) (ht : t.val < 16) (h : t.val % 2 = 1) (l : Fin 1024) :
    (k0_pay11 (F := Ideal) (k0_pay6 (F := Ideal) (dh m c t) (B3 m c t)) (ix2 0 l) : EReal) = ∑ r : Fin 512, shareG (A0 m c) (A1 m c) (A3 m c) l (512 * (t.val / 2) + r.val) := by
  rw [pay11_at]
  refine Finset.sum_congr rfl fun r _ => ?_
  exact congrArg₂ (fun x y : EReal => x * y) (congrArg₂ (fun x y : EReal => x * y) (dh_at m c t ht h r l) (B3_at m c t ht r l)) (congrArg rstd (funext fun l => B3_at m c t ht r l))

/-- What the first odd point, a later one, and an even point leave of the gradient of the first norm's weights. -/
theorem firstG_at (t : Fin cfg0.N) (h : t.val % 2 = 1) (h3 : t.val < 2) (l : Fin 1024) :
    ((outsAt0 m c t.val t.isLt).2.2.1 (ix2 0 l) : EReal) = k0_pay11 (F := Ideal) (k0_pay6 (F := Ideal) (dh m c t) (B3 m c t)) (ix2 0 l) := by
  rw [outsAt0_B m c t (by omega) h h h3 (by omega) h3 (by omega)]
  dsimp only
  rw [dgB]

theorem nextG_at (t : Fin cfg0.N) (h : t.val % 2 = 1) (h3 : ¬t.val < 2) (l : Fin 1024) :
    ((outsAt0 m c t.val t.isLt).2.2.1 (ix2 0 l) : EReal) = (outsAt0 m c (t.val - 1) (Nat.lt_of_le_of_lt (Nat.sub_le _ _) t.isLt)).2.2.1 (ix2 0 l)
      + k0_pay11 (F := Ideal) (k0_pay6 (F := Ideal) (dh m c t) (B3 m c t)) (ix2 0 l) := by
  rw [outsAt0_C m c t (by omega) h h h3 (by omega) h3 (by omega)]
  dsimp only
  rw [dgC]

theorem keepG_at (t : Fin cfg0.N) (h : t.val % 2 = 0) (l : Fin 1024) :
    ((outsAt0 m c t.val t.isLt).2.2.1 (ix2 0 l) : EReal) = (outsAt0 m c (t.val - 1) (Nat.lt_of_le_of_lt (Nat.sub_le _ _) t.isLt)).2.2.1 (ix2 0 l) := by
  rw [outsAt0_A m c t h (by omega) (by omega)]
  rfl

/-- The gradient of the first norm's weights after the odd points so far. -/
theorem accG_at (l : Fin 1024) : ∀ (p : ℕ) (t : Fin cfg0.N), t.val < 16 → t.val = 2 * p + 1 →
    ((outsAt0 m c t.val t.isLt).2.2.1 (ix2 0 l) : EReal) = ∑ i ∈ Finset.range (512 * (p + 1)), shareG (A0 m c) (A1 m c) (A3 m c) l i := by
  intro p
  induction p with
  | zero =>
    intro t ht hp
    rw [sum_block, Nat.mul_zero, Finset.sum_range_zero, zero_add, firstG_at m c t (by omega) (by omega), shareG_at m c t ht (by omega) l,
      show t.val / 2 = 0 by omega]
  | succ p ih =>
    intro t ht hp
    have h1 := keepG_at m c ⟨t.val - 1, Nat.lt_of_le_of_lt (Nat.sub_le _ _) t.isLt⟩ (by dsimp only; omega) l
    have h2 := ih ⟨t.val - 1 - 1, Nat.lt_of_le_of_lt (Nat.sub_le _ _) (Nat.lt_of_le_of_lt (Nat.sub_le _ _) t.isLt)⟩ (by dsimp only; omega) (by dsimp only; omega)
    rw [sum_block, nextG_at m c t (by omega) (by omega), shareG_at m c t ht (by omega) l, show t.val / 2 = p + 1 by omega]
    exact congrArg (fun z : EReal => z + ∑ r : Fin 512, shareG (A0 m c) (A1 m c) (A3 m c) l (512 * (p + 1) + r.val)) (h1.trans h2)

theorem emb9 (t : Fin cfg0.N) (y : S1x1024.Idx) : (win0_9.blk t).view.emb y = ix2 0 (y 1) := by
  rw [eq_ix2 ((win0_9.blk t).view.emb y)]
  refine congrArg₂ ix2 (Fin.ext ?_) (Fin.ext ?_) <;> blk_simp [idx t] <;> simp <;> omega

theorem finalG : (dats m 0 c).arrAt 9 cfg0.N = resG (A0 m c) (A1 m c) (A3 m c) := by
  refine (dats m 0 c).arrAt_eq_of_covers 9 _ (by decide +kernel) fun t hf y => ?_
  have ht : t.val < 16 := lt_of_lt_of_eq t.isLt (show cfg0.N = 16 from N_0)
  have h15 : t.val = 2 * 7 + 1 := by
    have := (flush0_9 t).mp hf
    omega
  blk_simp
  rw [after0_9, emb9 _ y]
  have hy : y = ix2 0 (y 1) := by
    rw [eq_ix2 y]
    exact congrArg₂ ix2 (Subsingleton.elim (α := Fin 1) _ _) rfl
  refine (congrArg _ hy).trans ((accG_at m c (y 1) 7 t ht h15).trans ?_)
  exact Finset.sum_range (n := 4096) _

/-- A block's share of the gradient of the second norm's weights. -/
theorem shareP_at (t : Fin cfg0.N) (ht : t.val < 16) (h : t.val % 2 = 1) (l : Fin 1024) :
    (k0_pay12 (F := Ideal) (B4 m c t) (d1 m c t) (k0_pay8 (F := Ideal) (B4 m c t)) (k0_pay9 (F := Ideal)) (ix2 0 l) : EReal) = ∑ r : Fin 512, shareP (A0 m c) (A1 m c) (A2 m c) (A3 m c) (A4 m c) (A5 m c) l (512 * (t.val / 2) + r.val) := by
  rw [pay12_at]
  refine Finset.sum_congr rfl fun r _ => ?_
  exact congrArg₂ (fun x y : EReal => x * y) (congrArg₂ (fun x y : EReal => x * y) (d1_at m c t ht h r l) (B4_at m c t ht r l)) (congrArg rstd (funext fun l => B4_at m c t ht r l))

/-- What the first odd point, a later one, and an even point leave of the gradient of the second norm's weights. -/
theorem firstP_at (t : Fin cfg0.N) (h : t.val % 2 = 1) (h3 : t.val < 2) (l : Fin 1024) :
    ((outsAt0 m c t.val t.isLt).2.2.2.1 (ix2 0 l) : EReal) = k0_pay12 (F := Ideal) (B4 m c t) (d1 m c t) (k0_pay8 (F := Ideal) (B4 m c t)) (k0_pay9 (F := Ideal)) (ix2 0 l) := by
  rw [outsAt0_B m c t (by omega) h h h3 (by omega) h3 (by omega)]
  dsimp only
  rw [dpB]

theorem nextP_at (t : Fin cfg0.N) (h : t.val % 2 = 1) (h3 : ¬t.val < 2) (l : Fin 1024) :
    ((outsAt0 m c t.val t.isLt).2.2.2.1 (ix2 0 l) : EReal) = (outsAt0 m c (t.val - 1) (Nat.lt_of_le_of_lt (Nat.sub_le _ _) t.isLt)).2.2.2.1 (ix2 0 l)
      + k0_pay12 (F := Ideal) (B4 m c t) (d1 m c t) (k0_pay8 (F := Ideal) (B4 m c t)) (k0_pay9 (F := Ideal)) (ix2 0 l) := by
  rw [outsAt0_C m c t (by omega) h h h3 (by omega) h3 (by omega)]
  dsimp only
  rw [dpC]

theorem keepP_at (t : Fin cfg0.N) (h : t.val % 2 = 0) (l : Fin 1024) :
    ((outsAt0 m c t.val t.isLt).2.2.2.1 (ix2 0 l) : EReal) = (outsAt0 m c (t.val - 1) (Nat.lt_of_le_of_lt (Nat.sub_le _ _) t.isLt)).2.2.2.1 (ix2 0 l) := by
  rw [outsAt0_A m c t h (by omega) (by omega)]
  rfl

/-- The gradient of the second norm's weights after the odd points so far. -/
theorem accP_at (l : Fin 1024) : ∀ (p : ℕ) (t : Fin cfg0.N), t.val < 16 → t.val = 2 * p + 1 →
    ((outsAt0 m c t.val t.isLt).2.2.2.1 (ix2 0 l) : EReal) = ∑ i ∈ Finset.range (512 * (p + 1)), shareP (A0 m c) (A1 m c) (A2 m c) (A3 m c) (A4 m c) (A5 m c) l i := by
  intro p
  induction p with
  | zero =>
    intro t ht hp
    rw [sum_block, Nat.mul_zero, Finset.sum_range_zero, zero_add, firstP_at m c t (by omega) (by omega), shareP_at m c t ht (by omega) l,
      show t.val / 2 = 0 by omega]
  | succ p ih =>
    intro t ht hp
    have h1 := keepP_at m c ⟨t.val - 1, Nat.lt_of_le_of_lt (Nat.sub_le _ _) t.isLt⟩ (by dsimp only; omega) l
    have h2 := ih ⟨t.val - 1 - 1, Nat.lt_of_le_of_lt (Nat.sub_le _ _) (Nat.lt_of_le_of_lt (Nat.sub_le _ _) t.isLt)⟩ (by dsimp only; omega) (by dsimp only; omega)
    rw [sum_block, nextP_at m c t (by omega) (by omega), shareP_at m c t ht (by omega) l, show t.val / 2 = p + 1 by omega]
    exact congrArg (fun z : EReal => z + ∑ r : Fin 512, shareP (A0 m c) (A1 m c) (A2 m c) (A3 m c) (A4 m c) (A5 m c) l (512 * (p + 1) + r.val)) (h1.trans h2)

theorem emb10 (t : Fin cfg0.N) (y : S1x1024.Idx) : (win0_10.blk t).view.emb y = ix2 0 (y 1) := by
  rw [eq_ix2 ((win0_10.blk t).view.emb y)]
  refine congrArg₂ ix2 (Fin.ext ?_) (Fin.ext ?_) <;> blk_simp [idx t] <;> simp <;> omega

theorem finalP : (dats m 0 c).arrAt 10 cfg0.N = resP (A0 m c) (A1 m c) (A2 m c) (A3 m c) (A4 m c) (A5 m c) := by
  refine (dats m 0 c).arrAt_eq_of_covers 10 _ (by decide +kernel) fun t hf y => ?_
  have ht : t.val < 16 := lt_of_lt_of_eq t.isLt (show cfg0.N = 16 from N_0)
  have h15 : t.val = 2 * 7 + 1 := by
    have := (flush0_10 t).mp hf
    omega
  blk_simp
  rw [after0_10, emb10 _ y]
  have hy : y = ix2 0 (y 1) := by
    rw [eq_ix2 y]
    exact congrArg₂ ix2 (Subsingleton.elim (α := Fin 1) _ _) rfl
  refine (congrArg _ hy).trans ((accP_at m c (y 1) 7 t ht h15).trans ?_)
  exact Finset.sum_range (n := 4096) _

theorem emb7 (t : Fin cfg0.N) (ht : t.val < 16) (y : S512x1024.Idx) :
    (win0_7.blk t).view.emb y = ix2 (at' (512 * (t.val / 2) + (y 0).val)) (y 1) := by
  have hy : (y 0).val < 512 := (y 0).isLt
  rw [at'_eq (n := 4096) (512 * (t.val / 2) + (y 0).val) ⟨512 * (t.val / 2) + (y 0).val, by omega⟩ rfl, eq_ix2 ((win0_7.blk t).view.emb y)]
  refine congrArg₂ ix2 (Fin.ext ?_) (Fin.ext ?_) <;> blk_simp [idx t] <;> simp <;> omega

theorem finalX : (dats m 0 c).arrAt 7 cfg0.N = resX (A0 m c) (A1 m c) (A2 m c) (A3 m c) (A5 m c) := by
  refine (dats m 0 c).arrAt_eq_of_covers 7 _ (by decide +kernel) fun t hf y => ?_
  have ht : t.val < 16 := lt_of_lt_of_eq t.isLt (show cfg0.N = 16 from N_0)
  blk_simp
  rw [after0_7, emb7 t ht y]
  exact (congrArg _ (eq_ix2 y)).trans (dx_at m c t ht ((flush0_7 t).mp hf) (y 0) (y 1))

theorem emb8 (t : Fin cfg0.N) (ht : t.val < 16) (y : S512x1024.Idx) :
    (win0_8.blk t).view.emb y = ix2 (at' (512 * (t.val / 2) + (y 0).val)) (y 1) := by
  have hy : (y 0).val < 512 := (y 0).isLt
  rw [at'_eq (n := 4096) (512 * (t.val / 2) + (y 0).val) ⟨512 * (t.val / 2) + (y 0).val, by omega⟩ rfl, eq_ix2 ((win0_8.blk t).view.emb y)]
  refine congrArg₂ ix2 (Fin.ext ?_) (Fin.ext ?_) <;> blk_simp [idx t] <;> simp <;> omega

theorem finalY : (dats m 0 c).arrAt 8 cfg0.N = resY (A0 m c) (A1 m c) (A2 m c) (A3 m c) (A4 m c) (A5 m c) (A6 m c) := by
  refine (dats m 0 c).arrAt_eq_of_covers 8 _ (by decide +kernel) fun t hf y => ?_
  have ht : t.val < 16 := lt_of_lt_of_eq t.isLt (show cfg0.N = 16 from N_0)
  blk_simp
  rw [after0_8, emb8 t ht y]
  exact (congrArg _ (eq_ix2 y)).trans (dy_at m c t ht ((flush0_8 t).mp hf) (y 0) (y 1))

end Cert.UpDxIdeal.Value

namespace Cert.UpDxRefIdeal.Value

open Cert.UpDxRefIdeal Cert.UpDxRefIdeal.Gen Cert.MatMul

variable (m : (ℓ : Loc nD τ sig) → Buf (Elt Ideal) ℓ) (c : Dev nD)

/-- The seven arguments. -/
abbrev R0 : S4096x4096.Idx → EReal := m ((c.tc : Thread nD τ).loc main_arg0)
abbrev R1 : S1024x4096.Idx → EReal := m ((c.tc : Thread nD τ).loc main_arg1)
abbrev R2 : S4096x1024.Idx → EReal := m ((c.tc : Thread nD τ).loc main_arg2)
abbrev R3 : S4096x1024.Idx → EReal := m ((c.tc : Thread nD τ).loc main_arg3)
abbrev R4 : S4096x1024.Idx → EReal := m ((c.tc : Thread nD τ).loc main_arg4)
abbrev R5 : S1x1024.Idx → EReal := m ((c.tc : Thread nD τ).loc main_arg5)
abbrev R6 : S1x1024.Idx → EReal := m ((c.tc : Thread nD τ).loc main_arg6)

/-- The rows that the reference's lines make. -/
abbrev hRow (p : Fin 4096) : Fin 1024 → EReal := fun l => ∑ k : Fin 4096, R0 m c (ix2 p k) * R1 m c (ix2 l k)
abbrev lRow (p : Fin 4096) : Fin 1024 → EReal := fun l =>
  R2 m c (ix2 p l) + linesX (hRow m c p) (fun l => R3 m c (ix2 p l)) (fun l => R5 m c (ix2 0 l)) l

theorem row_eq (p : Fin 4096) : (at' p.val : Fin 4096) = p := at'_eq _ p rfl

theorem hRow_eq (p : Fin 4096) : hRow m c p = Cert.UpDxIdeal.Value.dhRow (R0 m c) (R1 m c) p.val := by
  unfold Cert.UpDxIdeal.Value.dhRow
  rw [row_eq]

theorem lRow_eq (p : Fin 4096) : lRow m c p = Cert.UpDxIdeal.Value.d1Row (R0 m c) (R1 m c) (R2 m c) (R3 m c) (R5 m c) p.val := by
  unfold Cert.UpDxIdeal.Value.d1Row Cert.UpDxIdeal.Value.xRow
  rw [← hRow_eq, row_eq]
  funext l
  rw [lRow, linesX_eq]

/-- The reference's results. -/
theorem ref_x : (res_main_v38 m c : S4096x1024.Idx → EReal) = Cert.UpDxIdeal.Value.resX (R0 m c) (R1 m c) (R2 m c) (R3 m c) (R5 m c) := by
  funext j
  obtain ⟨p, q, rfl⟩ : ∃ (p : Fin 4096) (q : Fin 1024), j = ix2 p q := ⟨j 0, j 1, eq_ix2 j⟩
  unfold res_main_v38
  pointwise
  exact congrFun (lRow_eq m c p) q

theorem ref_y : (res_main_v73 m c : S4096x1024.Idx → EReal) = Cert.UpDxIdeal.Value.resY (R0 m c) (R1 m c) (R2 m c) (R3 m c) (R4 m c) (R5 m c) (R6 m c) := by
  funext j
  obtain ⟨p, q, rfl⟩ : ∃ (p : Fin 4096) (q : Fin 1024), j = ix2 p q := ⟨j 0, j 1, eq_ix2 j⟩
  unfold res_main_v73
  pointwise
  refine Eq.trans (b := linesX (lRow m c p) (fun l => R4 m c (ix2 p l)) (fun l => R6 m c (ix2 0 l)) q) rfl ?_
  rw [linesX_eq, lRow_eq]
  show _ = gradX (Cert.UpDxIdeal.Value.d1Row (R0 m c) (R1 m c) (R2 m c) (R3 m c) (R5 m c) p.val) (Cert.UpDxIdeal.Value.xRow (R4 m c) p.val) (fun l => R6 m c (ix2 0 l)) q
  unfold Cert.UpDxIdeal.Value.xRow
  rw [row_eq]

theorem ref_g : (shapeCast _ (Host.reduceAdd (mulf (mulf (m ((c.tc : Thread nD τ).loc main_arg3)) (broadcastInDim S4096x1024 ![0, 1] bcast_S4096x1_S4096x1024_0_1 (Host.rsqrt (addf (Host.divf (broadcastInDim S4096x1 ![0] bcast_S4096_S4096x1_0 (Host.reduceAdd (mulf (m ((c.tc : Thread nD τ).loc main_arg3)) (m ((c.tc : Thread nD τ).loc main_arg3))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral dot_S4096x4096_S1024x4096_S4096x1024_1_1_0_0_n_n none (extf .f32 (m ((c.tc : Thread nD τ).loc main_arg0)) bitsLt_bf16_f32) (extf .f32 (m ((c.tc : Thread nD τ).loc main_arg1)) bitsLt_bf16_f32))) (constant S_ .f32 0x00000000#32) reducesTo_S4096x1024_S1024_d0 h_S_) shapeCasts_S1024_S1x1024 : FVec Ideal S1x1024 .f32) = Cert.UpDxIdeal.Value.resG (R0 m c) (R1 m c) (R3 m c) := by
  funext j
  obtain ⟨p, q, rfl⟩ : ∃ (p : Fin 1) (q : Fin 1024), j = ix2 p q := ⟨j 0, j 1, eq_ix2 j⟩
  obtain rfl : p = 0 := Subsingleton.elim (α := Fin 1) _ _
  pointwise
  refine Finset.sum_congr rfl fun t _ => ?_
  show _ = Cert.UpDxIdeal.Value.dhRow (R0 m c) (R1 m c) t.val q * Cert.UpDxIdeal.Value.xRow (R3 m c) t.val q * rstd (Cert.UpDxIdeal.Value.xRow (R3 m c) t.val)
  unfold Cert.UpDxIdeal.Value.xRow
  rw [row_eq, ← hRow_eq]
  exact (mul_right_comm _ _ _).trans (congrArg (fun z : EReal => z * rstd (fun l => R3 m c (ix2 t l))) (mul_comm (R3 m c (ix2 t q)) (hRow m c t q)))

theorem ref_p : (res_main_v56 m c : S1x1024.Idx → EReal) = Cert.UpDxIdeal.Value.resP (R0 m c) (R1 m c) (R2 m c) (R3 m c) (R4 m c) (R5 m c) := by
  funext j
  obtain ⟨p, q, rfl⟩ : ∃ (p : Fin 1) (q : Fin 1024), j = ix2 p q := ⟨j 0, j 1, eq_ix2 j⟩
  obtain rfl : p = 0 := Subsingleton.elim (α := Fin 1) _ _
  unfold res_main_v56
  pointwise
  refine Eq.trans (b := ∑ t : Fin 4096, (R4 m c (ix2 t q) * rstd (fun l => R4 m c (ix2 t l)) * lRow m c t q : EReal)) rfl ?_
  refine Finset.sum_congr rfl fun t _ => ?_
  show _ = Cert.UpDxIdeal.Value.d1Row (R0 m c) (R1 m c) (R2 m c) (R3 m c) (R5 m c) t.val q * Cert.UpDxIdeal.Value.xRow (R4 m c) t.val q * rstd (Cert.UpDxIdeal.Value.xRow (R4 m c) t.val)
  unfold Cert.UpDxIdeal.Value.xRow
  rw [row_eq, ← lRow_eq]
  exact (mul_right_comm _ _ _).trans (congrArg (fun z : EReal => z * rstd (fun l => R4 m c (ix2 t l))) (mul_comm (R4 m c (ix2 t q)) (lRow m c t q)))

end Cert.UpDxRefIdeal.Value

end
-- ==== Proof.InDxFinal.lean ====
/- The gradient of the input of the first products: the tiled product and its norm's gradient, and the reference's. -/
module

public import proofs.«01_k».proof.Proof.Gen.InDx
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.NormGrad

@[expose] public section

set_option maxRecDepth 16384

noncomputable section

open Idealize.ShloMosaic Idealize.ShloMosaic.TcCoe Idealize.SL.Sem

namespace Cert.InDxIdeal.Value

open Cert.InDxIdeal Cert.InDxIdeal.Gen Cert.MatMul

/-- A row of the product's gradient by its input: the row of `a` times the rows of `w`. -/
def dhRow (a : S4096x6144.Idx → EReal) (w : S1024x6144.Idx → EReal) (p : ℕ) : Fin 1024 → EReal := fun l =>
  ∑ k : Fin 6144, a (ix2 (at' p) k) * w (ix2 l k)

/-- One half of the contraction. -/
def halfRow (a : S4096x6144.Idx → EReal) (w : S1024x6144.Idx → EReal) (p h : ℕ) : Fin 1024 → EReal := fun l =>
  ∑ k : Fin 3072, a (ix2 (at' p) (at' (3072 * h + k.val))) * w (ix2 l (at' (3072 * h + k.val)))

theorem dhRow_halves (a : S4096x6144.Idx → EReal) (w : S1024x6144.Idx → EReal) (p : ℕ) (l : Fin 1024) :
    halfRow a w p 0 l + halfRow a w p 1 l = dhRow a w p l := by
  refine Eq.trans ?_ (Fin.sum_univ_add (a := 3072) (b := 3072) (fun k : Fin (3072 + 3072) => (a (ix2 (at' p) k) * w (ix2 l k) : EReal))).symm
  refine congrArg₂ (fun x y : EReal => x + y) (Finset.sum_congr rfl fun k _ => ?_) (Finset.sum_congr rfl fun k _ => ?_)
  · rw [at'_eq (n := 6144) (3072 * 0 + k.val) (Fin.castAdd 3072 k) (by simp)]
  · rw [at'_eq (n := 6144) (3072 * 1 + k.val) (Fin.natAdd 3072 k) (by simp [Nat.add_comm])]

/-- A row of the input. -/
abbrev xRow (x : S4096x1024.Idx → EReal) (p : ℕ) : Fin 1024 → EReal := fun l => x (ix2 (at' p) l)

/-- The input's gradient. -/
def resX (a : S4096x6144.Idx → EReal) (w : S1024x6144.Idx → EReal) (x e : S4096x1024.Idx → EReal) (g : S1x1024.Idx → EReal) : S4096x1024.Idx → EReal := fun j =>
  gradX (dhRow a w (j 0).val) (xRow x (j 0).val) (fun l => g (ix2 0 l)) (j 1) + e j

/-- A row's share of the gradient of the norm's weights. -/
def shareG (a : S4096x6144.Idx → EReal) (w : S1024x6144.Idx → EReal) (x : S4096x1024.Idx → EReal) (l : Fin 1024) (p : ℕ) : EReal :=
  dhRow a w p l * xRow x p l * rstd (xRow x p)

/-- The gradient of the norm's weights. -/
def resG (a : S4096x6144.Idx → EReal) (w : S1024x6144.Idx → EReal) (x : S4096x1024.Idx → EReal) : S1x1024.Idx → EReal := fun j =>
  ∑ p : Fin 4096, shareG a w x (j 1) p.val

theorem pay5_at (x : FVec Ideal S512x1024 .f32) (r : Fin 512) : k0_pay5 (F := Ideal) x (ix2 r 0) = rstd (fun l => x (ix2 r l)) := by
  pointwise [k0_pay5]
  rfl

theorem pay6_at (d x e : FVec Ideal S512x1024 .f32) (g : FVec Ideal S1x1024 .f32) (r : Fin 512) (l : Fin 1024) :
    k0_pay6 (F := Ideal) d x e g (ix2 r l) = gradX (fun l => d (ix2 r l)) (fun l => x (ix2 r l)) (fun l => g (ix2 0 l)) l + e (ix2 r l) := by
  pointwise [k0_pay6]
  simp only [pay5_at]
  rfl

theorem pay7_at (d x : FVec Ideal S512x1024 .f32) (l : Fin 1024) :
    k0_pay7 (F := Ideal) d x (ix2 0 l) = ∑ r : Fin 512, d (ix2 r l) * x (ix2 r l) * rstd (fun l => x (ix2 r l)) := by
  pointwise [k0_pay7]
  simp only [pay5_at]

theorem pay3_at (a : FVec Ideal S512x3072 .bf16) (w : FVec Ideal S1024x3072 .bf16) (s : FVec Ideal S512x1024 .f32) (r : Fin 512) (l : Fin 1024) :
    k0_pay3 (F := Ideal) a w s (ix2 r l) = s (ix2 r l) + ∑ k : Fin 3072, (a (ix2 r k) * w (ix2 l k) : EReal) := by
  pointwise [k0_pay3, k0_pay1]

/-- The first half leaves its product in the scratch. -/
theorem scratchA (c : Dev nD) (i : grid0.Coords) (arg3 : Memref sig .tc .vmem S512x3072 .bf16) (harg3 : arg3.IsWhole) (arg4 : Memref sig .tc .vmem S1024x3072 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (hc0 : cond0_0 i) (hc1 : ¬cond0_1 i) (hc2 : ¬cond0_2 i) (x0 : Vec Ideal S512x3072 .bf16) (x1 : Vec Ideal S1024x3072 .bf16) (x2 : Vec Ideal S512x1024 .f32) (x3 : Vec Ideal S512x1024 .f32) (x4 : Vec Ideal S1x1024 .f32) (r : Fin 512) (l : Fin 1024) :
    sout0_A_0 (F := Ideal) c i arg3 harg3 arg4 harg4 arg5 harg5 arg6 harg6 arg7 harg7 arg8 harg8 arg9 harg9 arg10 harg10 hc0 hc1 hc2 x0 x1 x2 x3 x4 (ix2 r l) = ∑ k : Fin 3072, (x0 (ix2 r k) * x1 (ix2 l k) : EReal) := by
  frame_out
  pointwise [k0_pay2, k0_pay1]

section

variable (c : Dev nD) (i : grid0.Coords) (arg3 : Memref sig .tc .vmem S512x3072 .bf16) (harg3 : arg3.IsWhole) (arg4 : Memref sig .tc .vmem S1024x3072 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (hc0 : ¬cond0_0 i) (hc1 : cond0_1 i) (hc2 : cond0_2 i) (hc3 : cond0_3 i) (hc4 : ¬cond0_4 i) (x0 : Vec Ideal S512x3072 .bf16) (x1 : Vec Ideal S1024x3072 .bf16) (x2 : Vec Ideal S512x1024 .f32) (x3 : Vec Ideal S512x1024 .f32) (x4 : Vec Ideal S1x1024 .f32) (xs0 : Vec Ideal S512x1024 .f32)

/-- The second half gives the rows of the input's gradient. -/
theorem dxB (r : Fin 512) (l : Fin 1024) :
    out0_B_5 (F := Ideal) c i arg3 harg3 arg4 harg4 arg5 harg5 arg6 harg6 arg7 harg7 arg8 harg8 arg9 harg9 arg10 harg10 hc0 hc1 hc2 hc3 hc4 x0 x1 x2 x3 x4 xs0 (ix2 r l) = k0_pay6 (F := Ideal) (k0_pay3 (F := Ideal) x0 x1 xs0) x2 x3 x4 (ix2 r l) := by
  frame_out

/-- The first block's weights' gradient. -/
theorem dgB (l : Fin 1024) :
    out0_B_6 (F := Ideal) c i arg3 harg3 arg4 harg4 arg5 harg5 arg6 harg6 arg7 harg7 arg8 harg8 arg9 harg9 arg10 harg10 hc0 hc1 hc2 hc3 hc4 x0 x1 x2 x3 x4 xs0 (ix2 0 l) = k0_pay7 (F := Ideal) (k0_pay3 (F := Ideal) x0 x1 xs0) x2 (ix2 0 l) := by
  frame_out

end

section

variable (c : Dev nD) (i : grid0.Coords) (arg3 : Memref sig .tc .vmem S512x3072 .bf16) (harg3 : arg3.IsWhole) (arg4 : Memref sig .tc .vmem S1024x3072 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (hc0 : ¬cond0_0 i) (hc1 : cond0_1 i) (hc2 : cond0_2 i) (hc3 : ¬cond0_3 i) (hc4 : cond0_4 i) (x0 : Vec Ideal S512x3072 .bf16) (x1 : Vec Ideal S1024x3072 .bf16) (x2 : Vec Ideal S512x1024 .f32) (x3 : Vec Ideal S512x1024 .f32) (x4 : Vec Ideal S1x1024 .f32) (xo6 : Vec Ideal S1x1024 .f32) (xs0 : Vec Ideal S512x1024 .f32)

/-- The second half gives the rows of the input's gradient. -/
theorem dxC (r : Fin 512) (l : Fin 1024) :
    out0_C_5 (F := Ideal) c i arg3 harg3 arg4 harg4 arg5 harg5 arg6 harg6 arg7 harg7 arg8 harg8 arg9 harg9 arg10 harg10 hc0 hc1 hc2 hc3 hc4 x0 x1 x2 x3 x4 xo6 xs0 (ix2 r l) = k0_pay6 (F := Ideal) (k0_pay3 (F := Ideal) x0 x1 xs0) x2 x3 x4 (ix2 r l) := by
  frame_out

/-- A later block's, added to what the blocks before left. -/
theorem dgC (l : Fin 1024) :
    out0_C_6 (F := Ideal) c i arg3 harg3 arg4 harg4 arg5 harg5 arg6 harg6 arg7 harg7 arg8 harg8 arg9 harg9 arg10 harg10 hc0 hc1 hc2 hc3 hc4 x0 x1 x2 x3 x4 xo6 xs0 (ix2 0 l) = xo6 (ix2 0 l) + k0_pay7 (F := Ideal) (k0_pay3 (F := Ideal) x0 x1 xs0) x2 (ix2 0 l) := by
  frame_out
  pointwise [k0_pay4]

end

theorem idx : ∀ t : Fin cfg0.N, win0_0.index t = ![t.val / 2, t.val % 2] ∧ win0_1.index t = ![0, t.val % 2] ∧ win0_2.index t = ![t.val / 2, 0]
    ∧ win0_3.index t = ![t.val / 2, 0] ∧ win0_4.index t = ![0, 0] ∧ win0_5.index t = ![t.val / 2, 0] ∧ win0_6.index t = ![0, 0] :=
  (by decide +kernel : ∀ t : Fin grid0.N, _)

variable (m : (ℓ : Loc nD τ sig) → Buf (Elt Ideal) ℓ) (c : Dev nD)

/-- The five arguments. -/
abbrev A0 : S4096x6144.Idx → EReal := m ((c : Thread nD τ).loc main_arg0)
abbrev A1 : S1024x6144.Idx → EReal := m ((c : Thread nD τ).loc main_arg1)
abbrev A2 : S4096x1024.Idx → EReal := m ((c : Thread nD τ).loc main_arg2)
abbrev A3 : S4096x1024.Idx → EReal := m ((c : Thread nD τ).loc main_arg3)
abbrev A4 : S1x1024.Idx → EReal := m ((c : Thread nD τ).loc main_arg4)

/-- A point's blocks. -/
abbrev B0 (t : Fin cfg0.N) : FVec Ideal S512x3072 .bf16 := iblk m c 0 t
abbrev B1 (t : Fin cfg0.N) : FVec Ideal S1024x3072 .bf16 := iblk m c 1 t
abbrev B2 (t : Fin cfg0.N) : FVec Ideal S512x1024 .f32 := iblk m c 2 t
abbrev B3 (t : Fin cfg0.N) : FVec Ideal S512x1024 .f32 := iblk m c 3 t
abbrev B4 (t : Fin cfg0.N) : FVec Ideal S1x1024 .f32 := iblk m c 4 t

theorem B0_at (t : Fin cfg0.N) (ht : t.val < 16) (r : Fin 512) (k : Fin 3072) :
    (B0 m c t (ix2 r k) : EReal) = A0 m c (ix2 (at' (512 * (t.val / 2) + r.val)) (at' (3072 * (t.val % 2) + k.val))) := by
  rw [at'_eq (n := 4096) (512 * (t.val / 2) + r.val) ⟨512 * (t.val / 2) + r.val, by omega⟩ rfl,
    at'_eq (n := 6144) (3072 * (t.val % 2) + k.val) ⟨3072 * (t.val % 2) + k.val, by omega⟩ rfl]
  blk_point [iblk, V, idx t]

theorem B1_at (t : Fin cfg0.N) (l : Fin 1024) (k : Fin 3072) :
    (B1 m c t (ix2 l k) : EReal) = A1 m c (ix2 l (at' (3072 * (t.val % 2) + k.val))) := by
  rw [at'_eq (n := 6144) (3072 * (t.val % 2) + k.val) ⟨3072 * (t.val % 2) + k.val, by omega⟩ rfl]
  blk_point [iblk, V, idx t]

theorem B2_at (t : Fin cfg0.N) (ht : t.val < 16) (r : Fin 512) (l : Fin 1024) :
    (B2 m c t (ix2 r l) : EReal) = A2 m c (ix2 (at' (512 * (t.val / 2) + r.val)) l) := by
  rw [at'_eq (n := 4096) (512 * (t.val / 2) + r.val) ⟨512 * (t.val / 2) + r.val, by omega⟩ rfl]
  blk_point [iblk, V, idx t]

theorem B3_at (t : Fin cfg0.N) (ht : t.val < 16) (r : Fin 512) (l : Fin 1024) :
    (B3 m c t (ix2 r l) : EReal) = A3 m c (ix2 (at' (512 * (t.val / 2) + r.val)) l) := by
  rw [at'_eq (n := 4096) (512 * (t.val / 2) + r.val) ⟨512 * (t.val / 2) + r.val, by omega⟩ rfl]
  blk_point [iblk, V, idx t]

theorem B4_at (t : Fin cfg0.N) (l : Fin 1024) : (B4 m c t (ix2 0 l) : EReal) = A4 m c (ix2 0 l) := by
  blk_point [iblk, V, idx t]

/-- A point's half of the contraction. -/
theorem half_at (t : Fin cfg0.N) (ht : t.val < 16) (r : Fin 512) (l : Fin 1024) :
    (∑ k : Fin 3072, (B0 m c t (ix2 r k) * B1 m c t (ix2 l k) : EReal)) = halfRow (A0 m c) (A1 m c) (512 * (t.val / 2) + r.val) (t.val % 2) l :=
  Finset.sum_congr rfl fun k _ => congrArg₂ (fun x y : EReal => x * y) (B0_at m c t ht r k) (B1_at m c t l k)

/-- What an even point leaves in the scratch. -/
theorem scratch_at (t : Fin cfg0.N) (ht : t.val < 16) (h : t.val % 2 = 0) (r : Fin 512) (l : Fin 1024) :
    ((outsAt0 m c t.val t.isLt).2.2 (ix2 r l) : EReal) = halfRow (A0 m c) (A1 m c) (512 * (t.val / 2) + r.val) 0 l := by
  rw [outsAt0_A m c t h (by omega) (by omega)]
  dsimp only
  rw [scratchA]
  refine (half_at m c t ht r l).trans ?_
  rw [h]

/-- What the scratch holds as an odd point starts. -/
abbrev before (t : Fin cfg0.N) : FVec Ideal S512x1024 .f32 := (outsAt0 m c (t.val - 1) (Nat.lt_of_le_of_lt (Nat.sub_le _ _) t.isLt)).2.2

/-- The whole contraction at an odd point. -/
theorem dh_at (t : Fin cfg0.N) (ht : t.val < 16) (h : t.val % 2 = 1) (r : Fin 512) (l : Fin 1024) :
    (k0_pay3 (F := Ideal) (B0 m c t) (B1 m c t) (before m c t) (ix2 r l) : EReal) = dhRow (A0 m c) (A1 m c) (512 * (t.val / 2) + r.val) l := by
  have hs := scratch_at m c ⟨t.val - 1, Nat.lt_of_le_of_lt (Nat.sub_le _ _) t.isLt⟩ (by dsimp only; omega) (by dsimp only; omega) r l
  dsimp only at hs
  rw [show (t.val - 1) / 2 = t.val / 2 by omega] at hs
  rw [pay3_at, half_at m c t ht r l, h, ← dhRow_halves]
  exact congrArg (fun x : EReal => x + halfRow (A0 m c) (A1 m c) (512 * (t.val / 2) + r.val) 1 l) hs

/-- The rows of the input's gradient at an odd point. -/
theorem dx_at (t : Fin cfg0.N) (ht : t.val < 16) (h : t.val % 2 = 1) (r : Fin 512) (l : Fin 1024) :
    ((outsAt0 m c t.val t.isLt).1 (ix2 r l) : EReal) = resX (A0 m c) (A1 m c) (A2 m c) (A3 m c) (A4 m c) (ix2 (at' (512 * (t.val / 2) + r.val)) l) := by
  have key : ((outsAt0 m c t.val t.isLt).1 (ix2 r l) : EReal) = k0_pay6 (F := Ideal) (k0_pay3 (F := Ideal) (B0 m c t) (B1 m c t) (before m c t)) (B2 m c t) (B3 m c t) (B4 m c t) (ix2 r l) := by
    by_cases h3 : t.val < 2
    · rw [outsAt0_B m c t (by omega) h h h3 (by omega)]
      dsimp only
      rw [dxB]
    · rw [outsAt0_C m c t (by omega) h h h3 (by omega)]
      dsimp only
      rw [dxC]
  have hp : ((at' (512 * (t.val / 2) + r.val) : Fin 4096)).val = 512 * (t.val / 2) + r.val :=
    congrArg Fin.val (at'_eq (n := 4096) (512 * (t.val / 2) + r.val) ⟨512 * (t.val / 2) + r.val, by omega⟩ rfl)
  rw [key, pay6_at, B3_at m c t ht r l]
  refine congrArg (fun z : EReal => z + A3 m c (ix2 (at' (512 * (t.val / 2) + r.val)) l)) ?_
  show _ = gradX (dhRow (A0 m c) (A1 m c) ((at' (512 * (t.val / 2) + r.val) : Fin 4096)).val) (xRow (A2 m c) ((at' (512 * (t.val / 2) + r.val) : Fin 4096)).val) _ l
  rw [hp]
  exact congrFun (congr (congrArg₂ gradX (funext fun l => dh_at m c t ht h r l) (funext fun l => B2_at m c t ht r l)) (funext fun l => B4_at m c t l)) l

/-- A block's share of the gradient of the norm's weights. -/
theorem share_at (t : Fin cfg0.N) (ht : t.val < 16) (h : t.val % 2 = 1) (l : Fin 1024) :
    (k0_pay7 (F := Ideal) (k0_pay3 (F := Ideal) (B0 m c t) (B1 m c t) (before m c t)) (B2 m c t) (ix2 0 l) : EReal)
      = ∑ r : Fin 512, shareG (A0 m c) (A1 m c) (A2 m c) l (512 * (t.val / 2) + r.val) := by
  rw [pay7_at]
  refine Finset.sum_congr rfl fun r _ => ?_
  exact congrArg₂ (fun x y : EReal => x * y) (congrArg₂ (fun x y : EReal => x * y) (dh_at m c t ht h r l) (B2_at m c t ht r l)) (congrArg rstd (funext fun l => B2_at m c t ht r l))

/-- What the first odd point, a later one, and an even point leave of the weights' gradient. -/
theorem first_at (t : Fin cfg0.N) (h : t.val % 2 = 1) (h3 : t.val < 2) (l : Fin 1024) :
    ((outsAt0 m c t.val t.isLt).2.1 (ix2 0 l) : EReal) = k0_pay7 (F := Ideal) (k0_pay3 (F := Ideal) (B0 m c t) (B1 m c t) (before m c t)) (B2 m c t) (ix2 0 l) := by
  rw [outsAt0_B m c t (by omega) h h h3 (by omega)]
  dsimp only
  rw [dgB]

theorem next_at (t : Fin cfg0.N) (h : t.val % 2 = 1) (h3 : ¬t.val < 2) (l : Fin 1024) :
    ((outsAt0 m c t.val t.isLt).2.1 (ix2 0 l) : EReal) = (outsAt0 m c (t.val - 1) (Nat.lt_of_le_of_lt (Nat.sub_le _ _) t.isLt)).2.1 (ix2 0 l)
      + k0_pay7 (F := Ideal) (k0_pay3 (F := Ideal) (B0 m c t) (B1 m c t) (before m c t)) (B2 m c t) (ix2 0 l) := by
  rw [outsAt0_C m c t (by omega) h h h3 (by omega)]
  dsimp only
  rw [dgC]

theorem keep_at (t : Fin cfg0.N) (h : t.val % 2 = 0) (l : Fin 1024) :
    ((outsAt0 m c t.val t.isLt).2.1 (ix2 0 l) : EReal) = (outsAt0 m c (t.val - 1) (Nat.lt_of_le_of_lt (Nat.sub_le _ _) t.isLt)).2.1 (ix2 0 l) := by
  rw [outsAt0_A m c t h (by omega) (by omega)]
  rfl

/-- The gradient of the norm's weights after the odd points so far. -/
theorem acc_at (l : Fin 1024) : ∀ (p : ℕ) (t : Fin cfg0.N), t.val < 16 → t.val = 2 * p + 1 →
    ((outsAt0 m c t.val t.isLt).2.1 (ix2 0 l) : EReal) = ∑ i ∈ Finset.range (512 * (p + 1)), shareG (A0 m c) (A1 m c) (A2 m c) l i := by
  intro p
  induction p with
  | zero =>
    intro t ht hp
    rw [sum_block, Nat.mul_zero, Finset.sum_range_zero, zero_add, first_at m c t (by omega) (by omega), share_at m c t ht (by omega) l,
      show t.val / 2 = 0 by omega]
  | succ p ih =>
    intro t ht hp
    have h1 := keep_at m c ⟨t.val - 1, Nat.lt_of_le_of_lt (Nat.sub_le _ _) t.isLt⟩ (by dsimp only; omega) l
    have h2 := ih ⟨t.val - 1 - 1, Nat.lt_of_le_of_lt (Nat.sub_le _ _) (Nat.lt_of_le_of_lt (Nat.sub_le _ _) t.isLt)⟩ (by dsimp only; omega) (by dsimp only; omega)
    rw [sum_block, next_at m c t (by omega) (by omega), share_at m c t ht (by omega) l, show t.val / 2 = p + 1 by omega]
    exact congrArg (fun z : EReal => z + ∑ r : Fin 512, shareG (A0 m c) (A1 m c) (A2 m c) l (512 * (p + 1) + r.val)) (h1.trans h2)

theorem emb5 (t : Fin cfg0.N) (ht : t.val < 16) (y : S512x1024.Idx) :
    (win0_5.blk t).view.emb y = ix2 (at' (512 * (t.val / 2) + (y 0).val)) (y 1) := by
  have hy : (y 0).val < 512 := (y 0).isLt
  rw [at'_eq (n := 4096) (512 * (t.val / 2) + (y 0).val) ⟨512 * (t.val / 2) + (y 0).val, by omega⟩ rfl, eq_ix2 ((win0_5.blk t).view.emb y)]
  refine congrArg₂ ix2 (Fin.ext ?_) (Fin.ext ?_) <;> blk_simp [idx t] <;> simp <;> omega

theorem emb6 (t : Fin cfg0.N) (y : S1x1024.Idx) : (win0_6.blk t).view.emb y = ix2 0 (y 1) := by
  rw [eq_ix2 ((win0_6.blk t).view.emb y)]
  refine congrArg₂ ix2 (Fin.ext ?_) (Fin.ext ?_) <;> blk_simp [idx t] <;> simp <;> omega

/-- The results after the run. -/
theorem finalX : (dats m 0 c).arrAt 5 cfg0.N = resX (A0 m c) (A1 m c) (A2 m c) (A3 m c) (A4 m c) := by
  refine (dats m 0 c).arrAt_eq_of_covers 5 _ (by decide +kernel) fun t hf y => ?_
  have ht : t.val < 16 := lt_of_lt_of_eq t.isLt (show cfg0.N = 16 from N_0)
  blk_simp
  rw [after0_5, emb5 t ht y]
  exact (congrArg _ (eq_ix2 y)).trans (dx_at m c t ht ((flush0_5 t).mp hf) (y 0) (y 1))

theorem finalG : (dats m 0 c).arrAt 6 cfg0.N = resG (A0 m c) (A1 m c) (A2 m c) := by
  refine (dats m 0 c).arrAt_eq_of_covers 6 _ (by decide +kernel) fun t hf y => ?_
  have ht : t.val < 16 := lt_of_lt_of_eq t.isLt (show cfg0.N = 16 from N_0)
  have h15 : t.val = 2 * 7 + 1 := by
    have := (flush0_6 t).mp hf
    omega
  blk_simp
  rw [after0_6, emb6 _ y]
  have hy : y = ix2 0 (y 1) := by
    rw [eq_ix2 y]
    exact congrArg₂ ix2 (Subsingleton.elim (α := Fin 1) _ _) rfl
  refine (congrArg _ hy).trans ((acc_at m c (y 1) 7 t ht h15).trans ?_)
  exact Finset.sum_range (n := 4096) _

end Cert.InDxIdeal.Value

namespace Cert.InDxRefIdeal.Value

open Cert.InDxRefIdeal Cert.InDxRefIdeal.Gen Cert.MatMul

variable (m : (ℓ : Loc nD τ sig) → Buf (Elt Ideal) ℓ) (c : Dev nD)

/-- The five arguments. -/
abbrev R0 : S4096x6144.Idx → EReal := m ((c.tc : Thread nD τ).loc main_arg0)
abbrev R1 : S1024x6144.Idx → EReal := m ((c.tc : Thread nD τ).loc main_arg1)
abbrev R2 : S4096x1024.Idx → EReal := m ((c.tc : Thread nD τ).loc main_arg2)
abbrev R3 : S4096x1024.Idx → EReal := m ((c.tc : Thread nD τ).loc main_arg3)
abbrev R4 : S1x1024.Idx → EReal := m ((c.tc : Thread nD τ).loc main_arg4)

/-- The reference's results. -/
theorem ref_x : (res_main_v38 m c : S4096x1024.Idx → EReal) = Cert.InDxIdeal.Value.resX (R0 m c) (R1 m c) (R2 m c) (R3 m c) (R4 m c) := by
  funext j
  obtain ⟨p, q, rfl⟩ : ∃ (p : Fin 4096) (q : Fin 1024), j = ix2 p q := ⟨j 0, j 1, eq_ix2 j⟩
  unfold res_main_v38
  pointwise
  refine (add_comm (R3 m c (ix2 p q)) _).trans (congrArg (fun x : EReal => x + R3 m c (ix2 p q)) ?_)
  have hp : (at' p.val : Fin 4096) = p := at'_eq _ p rfl
  refine Eq.trans (gradX_lines (fun l => ∑ k : Fin 6144, R0 m c (ix2 p k) * R1 m c (ix2 l k)) (fun l => R2 m c (ix2 p l)) (fun l => R4 m c (ix2 0 l)) q) ?_
  show _ = gradX (Cert.InDxIdeal.Value.dhRow (R0 m c) (R1 m c) p.val) (Cert.InDxIdeal.Value.xRow (R2 m c) p.val) _ q
  unfold Cert.InDxIdeal.Value.dhRow Cert.InDxIdeal.Value.xRow
  rw [hp]

theorem ref_g : (shapeCast _ (Host.reduceAdd (mulf (mulf (m ((c.tc : Thread nD τ).loc main_arg2)) (broadcastInDim S4096x1024 ![0, 1] bcast_S4096x1_S4096x1024_0_1 (Host.rsqrt (addf (Host.divf (broadcastInDim S4096x1 ![0] bcast_S4096_S4096x1_0 (Host.reduceAdd (mulf (m ((c.tc : Thread nD τ).loc main_arg2)) (m ((c.tc : Thread nD τ).loc main_arg2))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral dot_S4096x6144_S1024x6144_S4096x1024_1_1_0_0_n_n none (extf .f32 (m ((c.tc : Thread nD τ).loc main_arg0)) bitsLt_bf16_f32) (extf .f32 (m ((c.tc : Thread nD τ).loc main_arg1)) bitsLt_bf16_f32))) (constant S_ .f32 0x00000000#32) reducesTo_S4096x1024_S1024_d0 h_S_) shapeCasts_S1024_S1x1024 : FVec Ideal S1x1024 .f32) = Cert.InDxIdeal.Value.resG (R0 m c) (R1 m c) (R2 m c) := by
  funext j
  obtain ⟨p, q, rfl⟩ : ∃ (p : Fin 1) (q : Fin 1024), j = ix2 p q := ⟨j 0, j 1, eq_ix2 j⟩
  obtain rfl : p = 0 := Subsingleton.elim (α := Fin 1) _ _
  pointwise
  refine Finset.sum_congr rfl fun t _ => ?_
  have hp : (at' t.val : Fin 4096) = t := at'_eq _ t rfl
  show _ = Cert.InDxIdeal.Value.dhRow (R0 m c) (R1 m c) t.val q * Cert.InDxIdeal.Value.xRow (R2 m c) t.val q * rstd (Cert.InDxIdeal.Value.xRow (R2 m c) t.val)
  unfold Cert.InDxIdeal.Value.dhRow Cert.InDxIdeal.Value.xRow
  rw [hp]
  have e := congrArg (fun z : EReal => z * rstd (fun l => R2 m c (ix2 t l))) (mul_comm (R2 m c (ix2 t q)) (∑ k : Fin 6144, R0 m c (ix2 t k) * R1 m c (ix2 q k)))
  exact (mul_right_comm _ _ _).trans e

end Cert.InDxRefIdeal.Value

end
-- ==== Proof.NormRow.lean ====
/- The gradient of the root-mean-square norm of a row of any width, and that the two ways of writing it are the same
   extended real. -/
module

public import proofs.«01_k».proof.Proof.NormGrad

@[expose] public section

noncomputable section

namespace Cert.NormRow

open Idealize.ShloMosaic Cert.MatMul

variable {n : ℕ} (W : EReal)

/-- The mean square of a row, with the small constant added to it, the total divided by `W`. -/
def meanSq (v : Fin n → EReal) : EReal := Ideal.div (∑ l, v l * v l) W + Ideal.ofBits .f32 0x358637BD#32

/-- One over its root. -/
def rstd (v : Fin n → EReal) : EReal := Ideal.rsqrt (meanSq W v)

/-- The gradient of a normed row by the row: the norm scales by `g`, and `dy` is the gradient of what it gives. -/
def gradX (dy v g : Fin n → EReal) : Fin n → EReal := fun l =>
  rstd W v * (dy l * g l) - v l * (rstd W v * rstd W v * rstd W v) * Ideal.div (∑ j, dy j * g j * v j) W

/-- The gradient as the chain rule's lines write it. -/
def linesX (dy v g : Fin n → EReal) : Fin n → EReal := fun l =>
  dy l * g l * rstd W v
    + v l * (∑ _ : Fin 1, Ideal.div ((∑ j, v j * (dy j * g j)) * (Ideal.ofBits .f32 0xBF000000#32 * Ideal.div (rstd W v) (meanSq W v))) W)
    + (∑ _ : Fin 1, Ideal.div ((∑ j, v j * (dy j * g j)) * (Ideal.ofBits .f32 0xBF000000#32 * Ideal.div (rstd W v) (meanSq W v))) W) * v l

variable {W} {w : ℝ} (hw : 0 < w) (hW : W = (w : EReal))

include hw hW

theorem meanSq_cases (v : Fin n → EReal) : meanSq W v = ⊤ ∨ ∃ x : ℝ, 0 < x ∧ meanSq W v = (x : EReal) := by
  obtain ⟨e, he, hE⟩ := wEps_pos
  have hs : 0 ≤ ∑ l, v l * v l := Finset.sum_nonneg fun l _ => sq_nonneg' _
  rw [meanSq, hW, Ideal.div_coe hw.ne', hE]
  generalize (∑ l, v l * v l) = s at hs
  induction s with
  | bot => simp at hs
  | top => left; rw [EReal.top_mul_coe_of_pos (by positivity)]; rfl
  | coe r =>
    right
    have hr : 0 ≤ r := by exact_mod_cast hs
    exact ⟨r * (1 / w) + e, by positivity, by push_cast; rfl⟩

/-- The gradient by the chain rule: the product's first factor, then twice the square's share. -/
theorem gradX_chain (v : Fin n → EReal) (c x S : EReal) :
    c * rstd W v + x * Ideal.div (S * (Ideal.ofBits .f32 0xBF000000#32 * Ideal.div (rstd W v) (meanSq W v))) W
        + Ideal.div (S * (Ideal.ofBits .f32 0xBF000000#32 * Ideal.div (rstd W v) (meanSq W v))) W * x
      = rstd W v * c - x * (rstd W v * rstd W v * rstd W v) * Ideal.div S W := by
  have hc := meanSq_cases hw hW v
  rw [rstd]
  generalize meanSq W v = M at hc
  rw [hW, wMinusHalf_eq, Ideal.div_coe hw.ne', Ideal.div_coe hw.ne', mul_comm c]
  rcases hc with h | ⟨t, ht, h⟩
  · rw [h, Ideal.rsqrt_top, show Ideal.div 0 ⊤ = 0 by simp [Ideal.div]]
    simp
  · rw [h, Ideal.rsqrt_coe, if_neg (by linarith), if_neg (by linarith), Ideal.div_coe (by linarith)]
    set ρ : ℝ := (√t)⁻¹ with hρ
    have hcube : ρ * (1 / t) = ρ * ρ * ρ := by
      have hq : √t * √t = t := Real.mul_self_sqrt ht.le
      have hp : 0 < √t := Real.sqrt_pos.mpr ht
      rw [hρ]
      field_simp
      nlinarith
    rw [mul_comm _ x, add_assoc, add_self, sub_eq_add_neg]
    congr 1
    rw [← EReal.coe_mul ρ (1 / t), hcube]
    have h1 : x * (S * (((-(1 / 2) : ℝ) : EReal) * ((ρ * ρ * ρ : ℝ) : EReal)) * ((1 / w : ℝ) : EReal)) * ((2 : ℝ) : EReal)
        = x * S * ((-(ρ * ρ * ρ / w) : ℝ) : EReal) := by
      rw [show (-(ρ * ρ * ρ / w) : ℝ) = -(1 / 2) * (ρ * ρ * ρ) * (1 / w) * 2 by ring]
      push_cast
      ac_rfl
    rw [h1, show (-(ρ * ρ * ρ / w) : ℝ) = -(ρ * ρ * ρ * (1 / w)) by ring, EReal.coe_neg, mul_neg]
    congr 1
    simp only [EReal.coe_mul]
    ac_rfl

theorem linesX_eq (dy v g : Fin n → EReal) : linesX W dy v g = gradX W dy v g := by
  funext l
  rw [linesX, Fin.sum_univ_one, gradX_chain hw hW, gradX, Finset.sum_congr rfl fun j _ => mul_comm (v j) (dy j * g j)]

end Cert.NormRow

end
-- ==== Proof.RmsQBwdFinal.lean ====
/- The gradient of a norm of rows of 384 entries, by its input and by its weights: the blocks', and the reference's. -/
module

public import proofs.«01_k».proof.Proof.Gen.RmsQBwd
public import proofs.«01_k».proof.Proof.Gen.RmsQBwd.Frame
public import proofs.«01_k».proof.Proof.Gen.RmsQBwdIdeal
public import proofs.«01_k».proof.Proof.Gen.RmsQBwdIdeal.Skeleton
public import proofs.«01_k».proof.Proof.Gen.RmsQBwdIdeal.Launch
public import proofs.«01_k».proof.Proof.Gen.RmsQBwdIdeal.Points
public import proofs.«01_k».proof.Proof.Gen.RmsQBwdIdeal.Frame
public import proofs.«01_k».proof.Proof.Gen.RmsQBwdIdeal.Value
public import proofs.«01_k».proof.Proof.Gen.RmsQBwdRefIdeal
public import proofs.«01_k».proof.Proof.Gen.RmsQBwdRefIdeal.Run
public import proofs.«01_k».proof.Proof.NormRow

@[expose] public section

set_option maxRecDepth 16384

noncomputable section

open Idealize.ShloMosaic Idealize.ShloMosaic.TcCoe Idealize.SL.Sem

namespace Cert.RmsQBwdIdeal.Value

open Cert.RmsQBwdIdeal Cert.RmsQBwdIdeal.Gen Cert.MatMul Cert.NormRow

/-- The word of 384. -/
abbrev wN : EReal := Ideal.ofBits .f32 0x43C00000#32

theorem wN_eq : wN = ((384 : ℝ) : EReal) := by
  simp [wN, Ideal.ofBits, Ideal.ieee, -EReal.coe_mul]
  norm_num

/-- Row `p` of the gradient, and of the normed rows. -/
abbrev dRow (x : S4096x384.Idx → EReal) (p : ℕ) : Fin 384 → EReal := fun l => x (ix2 (at' p) l)
abbrev xRow (x : S4096x6144.Idx → EReal) (p : ℕ) : Fin 384 → EReal := fun l => x (ix2 (at' p) ⟨3072 + l.val, by omega⟩)
abbrev gRow (g : S1x384.Idx → EReal) : Fin 384 → EReal := fun l => g (ix2 0 l)

section
variable (d : S4096x384.Idx → EReal) (x : S4096x6144.Idx → EReal) (g : S1x384.Idx → EReal)

/-- The gradient by the rows. -/
def resX : S4096x384.Idx → EReal := fun j => gradX wN (dRow d (j 0).val) (xRow x (j 0).val) (gRow g) (j 1)

/-- A row's share of the gradient by the weights, and that gradient. -/
def shareG (l : Fin 384) (p : ℕ) : EReal := dRow d p l * xRow x p l * rstd wN (xRow x p)
def resG : S1x384.Idx → EReal := fun j => ∑ p : Fin 4096, shareG d x (j 1) p.val
end

section
variable (a : FVec Ideal S512x384 .f32) (b : FVec Ideal S512x384 .bf16) (g : FVec Ideal S1x384 .f32)

/-- Row `r` of a block. -/
abbrev bD (r : Fin 512) : Fin 384 → EReal := fun l => a (ix2 r l)
abbrev bX (r : Fin 512) : Fin 384 → EReal := fun l => b (ix2 r l)

theorem payR_at (r : Fin 512) : k0_pay3 (F := Ideal) b (ix2 r 0) = rstd wN (bX b r) := by
  pointwise [k0_pay3, k0_pay2]
  rfl

theorem payX_at (r : Fin 512) (l : Fin 384) : k0_pay4 (F := Ideal) a b g (ix2 r l) = gradX wN (bD a r) (bX b r) (gRow g) l := by
  pointwise [k0_pay4, k0_pay2]
  simp only [payR_at]
  rfl

theorem payG_at (l : Fin 384) : k0_pay5 (F := Ideal) a b (ix2 0 l) = ∑ r : Fin 512, bD a r l * bX b r l * rstd wN (bX b r) := by
  pointwise [k0_pay5, k0_pay2]
  simp only [payR_at]
end

section

variable (c : Dev nD) (i : grid0.Coords) (arg1 : Memref sig .tc .vmem S512x384 .f32) (harg1 : arg1.IsWhole) (arg2 : Memref sig .tc .vmem S512x384 .bf16) (harg2 : arg2.IsWhole) (arg3 : Memref sig .tc .vmem S1x384 .f32) (harg3 : arg3.IsWhole) (arg4 : Memref sig .tc .vmem S512x384 .bf16) (harg4 : arg4.IsWhole) (arg5 : Memref sig .tc .vmem S1x384 .f32) (harg5 : arg5.IsWhole) (hc0 : cond0_0 i) (hc1 : ¬cond0_1 i) (x0 : Vec Ideal S512x384 .f32) (x1 : Vec Ideal S512x384 .bf16) (x2 : Vec Ideal S1x384 .f32)

/-- The rows of the gradient. -/
theorem dxA (r : Fin 512) (l : Fin 384) :
    out0_A_3 (F := Ideal) c i arg1 harg1 arg2 harg2 arg3 harg3 arg4 harg4 arg5 harg5 hc0 hc1 x0 x1 x2 (ix2 r l) = k0_pay4 (F := Ideal) x0 x1 x2 (ix2 r l) := by
  frame_out

/-- The first block's gradient of the weights. -/
theorem dgA (l : Fin 384) :
    out0_A_4 (F := Ideal) c i arg1 harg1 arg2 harg2 arg3 harg3 arg4 harg4 arg5 harg5 hc0 hc1 x0 x1 x2 (ix2 0 l) = k0_pay5 (F := Ideal) x0 x1 (ix2 0 l) := by
  frame_out

end

section

variable (c : Dev nD) (i : grid0.Coords) (arg1 : Memref sig .tc .vmem S512x384 .f32) (harg1 : arg1.IsWhole) (arg2 : Memref sig .tc .vmem S512x384 .bf16) (harg2 : arg2.IsWhole) (arg3 : Memref sig .tc .vmem S1x384 .f32) (harg3 : arg3.IsWhole) (arg4 : Memref sig .tc .vmem S512x384 .bf16) (harg4 : arg4.IsWhole) (arg5 : Memref sig .tc .vmem S1x384 .f32) (harg5 : arg5.IsWhole) (hc0 : ¬cond0_0 i) (hc1 : cond0_1 i) (x0 : Vec Ideal S512x384 .f32) (x1 : Vec Ideal S512x384 .bf16) (x2 : Vec Ideal S1x384 .f32) (xo4 : Vec Ideal S1x384 .f32)

/-- The rows of the gradient. -/
theorem dxB (r : Fin 512) (l : Fin 384) :
    out0_B_3 (F := Ideal) c i arg1 harg1 arg2 harg2 arg3 harg3 arg4 harg4 arg5 harg5 hc0 hc1 x0 x1 x2 xo4 (ix2 r l) = k0_pay4 (F := Ideal) x0 x1 x2 (ix2 r l) := by
  frame_out

/-- A later block's, added to what the blocks before left. -/
theorem dgB (l : Fin 384) :
    out0_B_4 (F := Ideal) c i arg1 harg1 arg2 harg2 arg3 harg3 arg4 harg4 arg5 harg5 hc0 hc1 x0 x1 x2 xo4 (ix2 0 l) = xo4 (ix2 0 l) + k0_pay5 (F := Ideal) x0 x1 (ix2 0 l) := by
  frame_out
  pointwise [k0_pay1]

end

theorem idx : ∀ t : Fin cfg0.N, win0_0.index t = ![t.val, 0] ∧ win0_1.index t = ![t.val, 8] ∧ win0_2.index t = ![0, 0]
    ∧ win0_3.index t = ![t.val, 0] ∧ win0_4.index t = ![0, 0] :=
  (by decide +kernel : ∀ t : Fin grid0.N, _)

variable (m : (ℓ : Loc nD τ sig) → Buf (Elt Ideal) ℓ) (c : Dev nD)

/-- The three arguments. -/
abbrev A0 : S4096x384.Idx → EReal := m ((c : Thread nD τ).loc main_arg0)
abbrev A1 : S4096x6144.Idx → EReal := m ((c : Thread nD τ).loc main_arg1)
abbrev A2 : S1x384.Idx → EReal := m ((c : Thread nD τ).loc main_arg2)

/-- A point's blocks. -/
abbrev B0 (t : Fin cfg0.N) : FVec Ideal S512x384 .f32 := iblk m c 0 t
abbrev B1 (t : Fin cfg0.N) : FVec Ideal S512x384 .bf16 := iblk m c 1 t
abbrev B2 (t : Fin cfg0.N) : FVec Ideal S1x384 .f32 := iblk m c 2 t

theorem B0_at (t : Fin cfg0.N) (ht : t.val < 8) (r : Fin 512) (l : Fin 384) :
    (B0 m c t (ix2 r l) : EReal) = A0 m c (ix2 (at' (512 * t.val + r.val)) l) := by
  rw [at'_eq (n := 4096) (512 * t.val + r.val) ⟨512 * t.val + r.val, by omega⟩ rfl]
  blk_point [iblk, V, idx t]

theorem B1_at (t : Fin cfg0.N) (ht : t.val < 8) (r : Fin 512) (l : Fin 384) :
    (B1 m c t (ix2 r l) : EReal) = A1 m c (ix2 (at' (512 * t.val + r.val)) (⟨3072 + l.val, by omega⟩ : Fin 6144)) := by
  rw [at'_eq (n := 4096) (512 * t.val + r.val) ⟨512 * t.val + r.val, by omega⟩ rfl]
  blk_point [iblk, V, idx t]

theorem B2_at (t : Fin cfg0.N) (l : Fin 384) : (B2 m c t (ix2 0 l) : EReal) = A2 m c (ix2 0 l) := by
  blk_point [iblk, V, idx t]

/-- A block's rows are the whole arrays'. -/
theorem bD_at (t : Fin cfg0.N) (ht : t.val < 8) (r : Fin 512) : bD (B0 m c t) r = dRow (A0 m c) (512 * t.val + r.val) :=
  funext fun l => B0_at m c t ht r l

theorem bX_at (t : Fin cfg0.N) (ht : t.val < 8) (r : Fin 512) : bX (B1 m c t) r = xRow (A1 m c) (512 * t.val + r.val) :=
  funext fun l => B1_at m c t ht r l

theorem row_val (t : Fin cfg0.N) (ht : t.val < 8) (r : Fin 512) : ((at' (512 * t.val + r.val) : Fin 4096)).val = 512 * t.val + r.val :=
  congrArg Fin.val (at'_eq (n := 4096) (512 * t.val + r.val) ⟨512 * t.val + r.val, by omega⟩ rfl)

theorem keyX (t : Fin cfg0.N) (ht : t.val < 8) (r : Fin 512) (l : Fin 384) :
    ((outsAt0 m c t.val t.isLt).1 (ix2 r l) : EReal) = k0_pay4 (F := Ideal) (B0 m c t) (B1 m c t) (B2 m c t) (ix2 r l) := by
  by_cases h : t.val = 0
  · rw [outsAt0_A m c t (by omega) (by omega)]
    dsimp only
    rw [dxA]
  · rw [outsAt0_B m c t (by omega) (by omega)]
    dsimp only
    rw [dxB]

/-- The rows of the gradient at a point. -/
theorem dx_at (t : Fin cfg0.N) (ht : t.val < 8) (r : Fin 512) (l : Fin 384) :
    ((outsAt0 m c t.val t.isLt).1 (ix2 r l) : EReal) = resX (A0 m c) (A1 m c) (A2 m c) (ix2 (at' (512 * t.val + r.val)) l) := by
  show _ = gradX wN (dRow (A0 m c) ((at' (512 * t.val + r.val) : Fin 4096)).val) (xRow (A1 m c) ((at' (512 * t.val + r.val) : Fin 4096)).val) (gRow (A2 m c)) l
  rw [keyX m c t ht, row_val t ht r, payX_at, bD_at m c t ht r, bX_at m c t ht r]
  exact congrFun (congrArg _ (funext fun l => B2_at m c t l)) l

/-- A block's share of the gradient of the weights. -/
theorem shareG_at (t : Fin cfg0.N) (ht : t.val < 8) (l : Fin 384) :
    (k0_pay5 (F := Ideal) (B0 m c t) (B1 m c t) (ix2 0 l) : EReal) = ∑ r : Fin 512, shareG (A0 m c) (A1 m c) l (512 * t.val + r.val) := by
  rw [payG_at]
  refine Finset.sum_congr rfl fun r _ => ?_
  rw [bD_at m c t ht r, bX_at m c t ht r, shareG]

/-- What the first point and a later one leave of it. -/
theorem firstG_at (t : Fin cfg0.N) (h : t.val = 0) (l : Fin 384) : ((outsAt0 m c t.val t.isLt).2 (ix2 0 l) : EReal) = k0_pay5 (F := Ideal) (B0 m c t) (B1 m c t) (ix2 0 l) := by
  rw [outsAt0_A m c t (by omega) (by omega)]
  dsimp only
  rw [dgA]

theorem nextG_at (t : Fin cfg0.N) (ht : t.val < 8) (h : ¬t.val = 0) (l : Fin 384) :
    ((outsAt0 m c t.val t.isLt).2 (ix2 0 l) : EReal) = (outsAt0 m c (t.val - 1) (Nat.lt_of_le_of_lt (Nat.sub_le _ _) t.isLt)).2 (ix2 0 l)
      + k0_pay5 (F := Ideal) (B0 m c t) (B1 m c t) (ix2 0 l) := by
  rw [outsAt0_B m c t (by omega) (by omega)]
  dsimp only
  rw [dgB]

/-- The points' shares so far. -/
theorem accG_at (l : Fin 384) : ∀ (p : ℕ) (t : Fin cfg0.N), t.val < 8 → t.val = p →
    ((outsAt0 m c t.val t.isLt).2 (ix2 0 l) : EReal) = ∑ i ∈ Finset.range (512 * (p + 1)), shareG (A0 m c) (A1 m c) l i := by
  intro p
  induction p with
  | zero =>
    intro t ht hp
    rw [sum_block, Nat.mul_zero, Finset.sum_range_zero, zero_add, firstG_at m c t hp, shareG_at m c t ht l, hp]
  | succ p ih =>
    intro t ht hp
    have h2 := ih ⟨t.val - 1, Nat.lt_of_le_of_lt (Nat.sub_le _ _) t.isLt⟩ (by dsimp only; omega) (by dsimp only; omega)
    rw [sum_block, nextG_at m c t ht (by omega), shareG_at m c t ht l]
    exact congrArg₂ (fun x y : EReal => x + y) h2 (Finset.sum_congr rfl fun r _ => by rw [hp])

theorem emb4 (t : Fin cfg0.N) (y : S1x384.Idx) : (win0_4.blk t).view.emb y = ix2 0 (y 1) := by
  rw [eq_ix2 ((win0_4.blk t).view.emb y)]
  refine congrArg₂ ix2 (Fin.ext ?_) (Fin.ext ?_) <;> blk_simp [idx t] <;> simp <;> omega

theorem emb3 (t : Fin cfg0.N) (ht : t.val < 8) (y : S512x384.Idx) :
    (win0_3.blk t).view.emb y = ix2 (at' (512 * t.val + (y 0).val)) (y 1) := by
  have hy : (y 0).val < 512 := (y 0).isLt
  rw [at'_eq (n := 4096) (512 * t.val + (y 0).val) ⟨512 * t.val + (y 0).val, by omega⟩ rfl, eq_ix2 ((win0_3.blk t).view.emb y)]
  refine congrArg₂ ix2 (Fin.ext ?_) (Fin.ext ?_) <;> blk_simp [idx t] <;> simp <;> omega

/-- The two results. -/
theorem finalX : (dats m 0 c).arrAt 3 cfg0.N = resX (A0 m c) (A1 m c) (A2 m c) := by
  refine (dats m 0 c).arrAt_eq_of_covers 3 _ (by decide +kernel) fun t hf y => ?_
  have ht : t.val < 8 := lt_of_lt_of_eq t.isLt (show cfg0.N = 8 from N_0)
  blk_simp
  rw [after0_3, emb3 t ht y]
  exact (congrArg _ (eq_ix2 y)).trans (dx_at m c t ht (y 0) (y 1))

theorem finalG : (dats m 0 c).arrAt 4 cfg0.N = resG (A0 m c) (A1 m c) := by
  refine (dats m 0 c).arrAt_eq_of_covers 4 _ (by decide +kernel) fun t hf y => ?_
  have ht : t.val < 8 := lt_of_lt_of_eq t.isLt (show cfg0.N = 8 from N_0)
  have hy : y = ix2 0 (y 1) := by
    rw [eq_ix2 y]
    exact congrArg₂ ix2 (Subsingleton.elim (α := Fin 1) _ _) rfl
  blk_simp
  rw [after0_4, emb4 _ y]
  have h7 : t.val = 7 := by
    have := (flush0_4 t).mp hf
    omega
  refine (congrArg _ hy).trans ((accG_at m c (y 1) 7 t ht h7).trans ?_)
  exact Finset.sum_range (n := 4096) _

end Cert.RmsQBwdIdeal.Value

namespace Cert.RmsQBwdRefIdeal.Value

open Cert.RmsQBwdRefIdeal Cert.RmsQBwdRefIdeal.Gen Cert.MatMul Cert.NormRow

variable (m : (ℓ : Loc nD τ sig) → Buf (Elt Ideal) ℓ) (c : Dev nD)

/-- The three arguments. -/
abbrev R0 : S4096x384.Idx → EReal := m ((c.tc : Thread nD τ).loc main_arg0)
abbrev R1 : S4096x6144.Idx → EReal := m ((c.tc : Thread nD τ).loc main_arg1)
abbrev R2 : S1x384.Idx → EReal := m ((c.tc : Thread nD τ).loc main_arg2)

/-- Their rows. -/
abbrev eRow (p : Fin 4096) : Fin 384 → EReal := fun l => R0 m c (ix2 p l)
abbrev vRow (p : Fin 4096) : Fin 384 → EReal := fun l => R1 m c (ix2 p ⟨3072 + l.val, by omega⟩)

theorem row_eq (p : Fin 4096) : (at' p.val : Fin 4096) = p := at'_eq _ p rfl

theorem eRow_eq (p : Fin 4096) : eRow m c p = Cert.RmsQBwdIdeal.Value.dRow (R0 m c) p.val := by
  unfold Cert.RmsQBwdIdeal.Value.dRow
  rw [row_eq]

theorem vRow_eq (p : Fin 4096) : vRow m c p = Cert.RmsQBwdIdeal.Value.xRow (R1 m c) p.val := by
  unfold Cert.RmsQBwdIdeal.Value.xRow
  rw [row_eq]

/-- The reference's results. -/
theorem ref_x : (res_main_v36 m c : S4096x384.Idx → EReal) = Cert.RmsQBwdIdeal.Value.resX (R0 m c) (R1 m c) (R2 m c) := by
  funext j
  obtain ⟨p, q, rfl⟩ : ∃ (p : Fin 4096) (q : Fin 384), j = ix2 p q := ⟨j 0, j 1, eq_ix2 j⟩
  unfold res_main_v36
  pointwise
  refine Eq.trans (b := linesX Cert.RmsQBwdIdeal.Value.wN (eRow m c p) (vRow m c p) (Cert.RmsQBwdIdeal.Value.gRow (R2 m c)) q) rfl ?_
  rw [linesX_eq (by norm_num) Cert.RmsQBwdIdeal.Value.wN_eq, eRow_eq, vRow_eq]
  rfl

theorem ref_g : (shapeCast _ (Host.reduceAdd (mulf (mulf (extf .f32 (extractStridedSlice S4096x384 ![0, 3072] (m ((c.tc : Thread nD τ).loc main_arg1)) slices_S4096x6144_S4096x384_0_3072) bitsLt_bf16_f32) (broadcastInDim S4096x384 ![0, 1] bcast_S4096x1_S4096x384_0_1 (Host.rsqrt (addf (Host.divf (broadcastInDim S4096x1 ![0] bcast_S4096_S4096x1_0 (Host.reduceAdd (mulf (extf .f32 (extractStridedSlice S4096x384 ![0, 3072] (m ((c.tc : Thread nD τ).loc main_arg1)) slices_S4096x6144_S4096x384_0_3072) bitsLt_bf16_f32) (extf .f32 (extractStridedSlice S4096x384 ![0, 3072] (m ((c.tc : Thread nD τ).loc main_arg1)) slices_S4096x6144_S4096x384_0_3072) bitsLt_bf16_f32)) (constant S_ .f32 0x00000000#32) reducesTo_S4096x384_S4096_d1 h_S_)) (broadcastInDim S4096x1 ![] bcast_S_S4096x1 (constant S_ .f32 0x43C00000#32))) (broadcastInDim S4096x1 ![] bcast_S_S4096x1 (constant S_ .f32 0x358637BD#32)))))) (m ((c.tc : Thread nD τ).loc main_arg0))) (constant S_ .f32 0x00000000#32) reducesTo_S4096x384_S384_d0 h_S_) shapeCasts_S384_S1x384 : FVec Ideal S1x384 .f32) = Cert.RmsQBwdIdeal.Value.resG (R0 m c) (R1 m c) := by
  funext j
  obtain ⟨p, q, rfl⟩ : ∃ (p : Fin 1) (q : Fin 384), j = ix2 p q := ⟨j 0, j 1, eq_ix2 j⟩
  obtain rfl : p = 0 := Subsingleton.elim (α := Fin 1) _ _
  pointwise
  refine Eq.trans (b := ∑ t : Fin 4096, (vRow m c t q * rstd Cert.RmsQBwdIdeal.Value.wN (vRow m c t) * eRow m c t q : EReal)) rfl ?_
  refine Finset.sum_congr rfl fun t _ => ?_
  show _ = Cert.RmsQBwdIdeal.Value.dRow (R0 m c) t.val q * Cert.RmsQBwdIdeal.Value.xRow (R1 m c) t.val q * rstd Cert.RmsQBwdIdeal.Value.wN (Cert.RmsQBwdIdeal.Value.xRow (R1 m c) t.val)
  rw [← eRow_eq, ← vRow_eq]
  exact (mul_right_comm _ _ _).trans (congrArg (fun z : EReal => z * rstd Cert.RmsQBwdIdeal.Value.wN (vRow m c t)) (mul_comm (vRow m c t q) (eRow m c t q)))

end Cert.RmsQBwdRefIdeal.Value

end
-- ==== Proof.RmsKvBwdFinal.lean ====
/- The gradient of a norm of rows of 256 entries, by its input and by its weights: the blocks', and the reference's. -/
module

public import proofs.«01_k».proof.Proof.Gen.RmsKvBwd
public import proofs.«01_k».proof.Proof.Gen.RmsKvBwd.Frame
public import proofs.«01_k».proof.Proof.Gen.RmsKvBwdIdeal
public import proofs.«01_k».proof.Proof.Gen.RmsKvBwdIdeal.Skeleton
public import proofs.«01_k».proof.Proof.Gen.RmsKvBwdIdeal.Launch
public import proofs.«01_k».proof.Proof.Gen.RmsKvBwdIdeal.Points
public import proofs.«01_k».proof.Proof.Gen.RmsKvBwdIdeal.Frame
public import proofs.«01_k».proof.Proof.Gen.RmsKvBwdIdeal.Value
public import proofs.«01_k».proof.Proof.Gen.RmsKvBwdRefIdeal
public import proofs.«01_k».proof.Proof.Gen.RmsKvBwdRefIdeal.Run
public import proofs.«01_k».proof.Proof.NormRow

@[expose] public section

set_option maxRecDepth 16384

noncomputable section

open Idealize.ShloMosaic Idealize.ShloMosaic.TcCoe Idealize.SL.Sem

namespace Cert.RmsKvBwdIdeal.Value

open Cert.RmsKvBwdIdeal Cert.RmsKvBwdIdeal.Gen Cert.MatMul Cert.NormRow

/-- The word of 256. -/
abbrev wN : EReal := Ideal.ofBits .f32 0x43800000#32

theorem wN_eq : wN = ((256 : ℝ) : EReal) := by
  simp [wN, Ideal.ofBits, Ideal.ieee, -EReal.coe_mul]
  norm_num

/-- Row `p` of the gradient, and of the normed rows. -/
abbrev dRow (x : S4096x256.Idx → EReal) (p : ℕ) : Fin 256 → EReal := fun l => x (ix2 (at' p) l)
abbrev xRow (x : S4096x6144.Idx → EReal) (p : ℕ) : Fin 256 → EReal := fun l => x (ix2 (at' p) ⟨3584 + l.val, by omega⟩)
abbrev gRow (g : S1x256.Idx → EReal) : Fin 256 → EReal := fun l => g (ix2 0 l)

section
variable (d : S4096x256.Idx → EReal) (x : S4096x6144.Idx → EReal) (g : S1x256.Idx → EReal)

/-- The gradient by the rows. -/
def resX : S4096x256.Idx → EReal := fun j => gradX wN (dRow d (j 0).val) (xRow x (j 0).val) (gRow g) (j 1)

/-- A row's share of the gradient by the weights, and that gradient. -/
def shareG (l : Fin 256) (p : ℕ) : EReal := dRow d p l * xRow x p l * rstd wN (xRow x p)
def resG : S1x256.Idx → EReal := fun j => ∑ p : Fin 4096, shareG d x (j 1) p.val
end

section
variable (a : FVec Ideal S512x256 .f32) (b : FVec Ideal S512x256 .bf16) (g : FVec Ideal S1x256 .f32)

/-- Row `r` of a block. -/
abbrev bD (r : Fin 512) : Fin 256 → EReal := fun l => a (ix2 r l)
abbrev bX (r : Fin 512) : Fin 256 → EReal := fun l => b (ix2 r l)

theorem payR_at (r : Fin 512) : k0_pay3 (F := Ideal) b (ix2 r 0) = rstd wN (bX b r) := by
  pointwise [k0_pay3, k0_pay2]
  rfl

theorem payX_at (r : Fin 512) (l : Fin 256) : k0_pay4 (F := Ideal) a b g (ix2 r l) = gradX wN (bD a r) (bX b r) (gRow g) l := by
  pointwise [k0_pay4, k0_pay2]
  simp only [payR_at]
  rfl

theorem payG_at (l : Fin 256) : k0_pay5 (F := Ideal) a b (ix2 0 l) = ∑ r : Fin 512, bD a r l * bX b r l * rstd wN (bX b r) := by
  pointwise [k0_pay5, k0_pay2]
  simp only [payR_at]
end

section

variable (c : Dev nD) (i : grid0.Coords) (arg1 : Memref sig .tc .vmem S512x256 .f32) (harg1 : arg1.IsWhole) (arg2 : Memref sig .tc .vmem S512x256 .bf16) (harg2 : arg2.IsWhole) (arg3 : Memref sig .tc .vmem S1x256 .f32) (harg3 : arg3.IsWhole) (arg4 : Memref sig .tc .vmem S512x256 .bf16) (harg4 : arg4.IsWhole) (arg5 : Memref sig .tc .vmem S1x256 .f32) (harg5 : arg5.IsWhole) (hc0 : cond0_0 i) (hc1 : ¬cond0_1 i) (x0 : Vec Ideal S512x256 .f32) (x1 : Vec Ideal S512x256 .bf16) (x2 : Vec Ideal S1x256 .f32)

/-- The rows of the gradient. -/
theorem dxA (r : Fin 512) (l : Fin 256) :
    out0_A_3 (F := Ideal) c i arg1 harg1 arg2 harg2 arg3 harg3 arg4 harg4 arg5 harg5 hc0 hc1 x0 x1 x2 (ix2 r l) = k0_pay4 (F := Ideal) x0 x1 x2 (ix2 r l) := by
  frame_out

/-- The first block's gradient of the weights. -/
theorem dgA (l : Fin 256) :
    out0_A_4 (F := Ideal) c i arg1 harg1 arg2 harg2 arg3 harg3 arg4 harg4 arg5 harg5 hc0 hc1 x0 x1 x2 (ix2 0 l) = k0_pay5 (F := Ideal) x0 x1 (ix2 0 l) := by
  frame_out

end

section

variable (c : Dev nD) (i : grid0.Coords) (arg1 : Memref sig .tc .vmem S512x256 .f32) (harg1 : arg1.IsWhole) (arg2 : Memref sig .tc .vmem S512x256 .bf16) (harg2 : arg2.IsWhole) (arg3 : Memref sig .tc .vmem S1x256 .f32) (harg3 : arg3.IsWhole) (arg4 : Memref sig .tc .vmem S512x256 .bf16) (harg4 : arg4.IsWhole) (arg5 : Memref sig .tc .vmem S1x256 .f32) (harg5 : arg5.IsWhole) (hc0 : ¬cond0_0 i) (hc1 : cond0_1 i) (x0 : Vec Ideal S512x256 .f32) (x1 : Vec Ideal S512x256 .bf16) (x2 : Vec Ideal S1x256 .f32) (xo4 : Vec Ideal S1x256 .f32)

/-- The rows of the gradient. -/
theorem dxB (r : Fin 512) (l : Fin 256) :
    out0_B_3 (F := Ideal) c i arg1 harg1 arg2 harg2 arg3 harg3 arg4 harg4 arg5 harg5 hc0 hc1 x0 x1 x2 xo4 (ix2 r l) = k0_pay4 (F := Ideal) x0 x1 x2 (ix2 r l) := by
  frame_out

/-- A later block's, added to what the blocks before left. -/
theorem dgB (l : Fin 256) :
    out0_B_4 (F := Ideal) c i arg1 harg1 arg2 harg2 arg3 harg3 arg4 harg4 arg5 harg5 hc0 hc1 x0 x1 x2 xo4 (ix2 0 l) = xo4 (ix2 0 l) + k0_pay5 (F := Ideal) x0 x1 (ix2 0 l) := by
  frame_out
  pointwise [k0_pay1]

end

theorem idx : ∀ t : Fin cfg0.N, win0_0.index t = ![t.val, 0] ∧ win0_1.index t = ![t.val, 14] ∧ win0_2.index t = ![0, 0]
    ∧ win0_3.index t = ![t.val, 0] ∧ win0_4.index t = ![0, 0] :=
  (by decide +kernel : ∀ t : Fin grid0.N, _)

variable (m : (ℓ : Loc nD τ sig) → Buf (Elt Ideal) ℓ) (c : Dev nD)

/-- The three arguments. -/
abbrev A0 : S4096x256.Idx → EReal := m ((c : Thread nD τ).loc main_arg0)
abbrev A1 : S4096x6144.Idx → EReal := m ((c : Thread nD τ).loc main_arg1)
abbrev A2 : S1x256.Idx → EReal := m ((c : Thread nD τ).loc main_arg2)

/-- A point's blocks. -/
abbrev B0 (t : Fin cfg0.N) : FVec Ideal S512x256 .f32 := iblk m c 0 t
abbrev B1 (t : Fin cfg0.N) : FVec Ideal S512x256 .bf16 := iblk m c 1 t
abbrev B2 (t : Fin cfg0.N) : FVec Ideal S1x256 .f32 := iblk m c 2 t

theorem B0_at (t : Fin cfg0.N) (ht : t.val < 8) (r : Fin 512) (l : Fin 256) :
    (B0 m c t (ix2 r l) : EReal) = A0 m c (ix2 (at' (512 * t.val + r.val)) l) := by
  rw [at'_eq (n := 4096) (512 * t.val + r.val) ⟨512 * t.val + r.val, by omega⟩ rfl]
  blk_point [iblk, V, idx t]

theorem B1_at (t : Fin cfg0.N) (ht : t.val < 8) (r : Fin 512) (l : Fin 256) :
    (B1 m c t (ix2 r l) : EReal) = A1 m c (ix2 (at' (512 * t.val + r.val)) (⟨3584 + l.val, by omega⟩ : Fin 6144)) := by
  rw [at'_eq (n := 4096) (512 * t.val + r.val) ⟨512 * t.val + r.val, by omega⟩ rfl]
  blk_point [iblk, V, idx t]

theorem B2_at (t : Fin cfg0.N) (l : Fin 256) : (B2 m c t (ix2 0 l) : EReal) = A2 m c (ix2 0 l) := by
  blk_point [iblk, V, idx t]

/-- A block's rows are the whole arrays'. -/
theorem bD_at (t : Fin cfg0.N) (ht : t.val < 8) (r : Fin 512) : bD (B0 m c t) r = dRow (A0 m c) (512 * t.val + r.val) :=
  funext fun l => B0_at m c t ht r l

theorem bX_at (t : Fin cfg0.N) (ht : t.val < 8) (r : Fin 512) : bX (B1 m c t) r = xRow (A1 m c) (512 * t.val + r.val) :=
  funext fun l => B1_at m c t ht r l

theorem row_val (t : Fin cfg0.N) (ht : t.val < 8) (r : Fin 512) : ((at' (512 * t.val + r.val) : Fin 4096)).val = 512 * t.val + r.val :=
  congrArg Fin.val (at'_eq (n := 4096) (512 * t.val + r.val) ⟨512 * t.val + r.val, by omega⟩ rfl)

theorem keyX (t : Fin cfg0.N) (ht : t.val < 8) (r : Fin 512) (l : Fin 256) :
    ((outsAt0 m c t.val t.isLt).1 (ix2 r l) : EReal) = k0_pay4 (F := Ideal) (B0 m c t) (B1 m c t) (B2 m c t) (ix2 r l) := by
  by_cases h : t.val = 0
  · rw [outsAt0_A m c t (by omega) (by omega)]
    dsimp only
    rw [dxA]
  · rw [outsAt0_B m c t (by omega) (by omega)]
    dsimp only
    rw [dxB]

/-- The rows of the gradient at a point. -/
theorem dx_at (t : Fin cfg0.N) (ht : t.val < 8) (r : Fin 512) (l : Fin 256) :
    ((outsAt0 m c t.val t.isLt).1 (ix2 r l) : EReal) = resX (A0 m c) (A1 m c) (A2 m c) (ix2 (at' (512 * t.val + r.val)) l) := by
  show _ = gradX wN (dRow (A0 m c) ((at' (512 * t.val + r.val) : Fin 4096)).val) (xRow (A1 m c) ((at' (512 * t.val + r.val) : Fin 4096)).val) (gRow (A2 m c)) l
  rw [keyX m c t ht, row_val t ht r, payX_at, bD_at m c t ht r, bX_at m c t ht r]
  exact congrFun (congrArg _ (funext fun l => B2_at m c t l)) l

/-- A block's share of the gradient of the weights. -/
theorem shareG_at (t : Fin cfg0.N) (ht : t.val < 8) (l : Fin 256) :
    (k0_pay5 (F := Ideal) (B0 m c t) (B1 m c t) (ix2 0 l) : EReal) = ∑ r : Fin 512, shareG (A0 m c) (A1 m c) l (512 * t.val + r.val) := by
  rw [payG_at]
  refine Finset.sum_congr rfl fun r _ => ?_
  rw [bD_at m c t ht r, bX_at m c t ht r, shareG]

/-- What the first point and a later one leave of it. -/
theorem firstG_at (t : Fin cfg0.N) (h : t.val = 0) (l : Fin 256) : ((outsAt0 m c t.val t.isLt).2 (ix2 0 l) : EReal) = k0_pay5 (F := Ideal) (B0 m c t) (B1 m c t) (ix2 0 l) := by
  rw [outsAt0_A m c t (by omega) (by omega)]
  dsimp only
  rw [dgA]

theorem nextG_at (t : Fin cfg0.N) (ht : t.val < 8) (h : ¬t.val = 0) (l : Fin 256) :
    ((outsAt0 m c t.val t.isLt).2 (ix2 0 l) : EReal) = (outsAt0 m c (t.val - 1) (Nat.lt_of_le_of_lt (Nat.sub_le _ _) t.isLt)).2 (ix2 0 l)
      + k0_pay5 (F := Ideal) (B0 m c t) (B1 m c t) (ix2 0 l) := by
  rw [outsAt0_B m c t (by omega) (by omega)]
  dsimp only
  rw [dgB]

/-- The points' shares so far. -/
theorem accG_at (l : Fin 256) : ∀ (p : ℕ) (t : Fin cfg0.N), t.val < 8 → t.val = p →
    ((outsAt0 m c t.val t.isLt).2 (ix2 0 l) : EReal) = ∑ i ∈ Finset.range (512 * (p + 1)), shareG (A0 m c) (A1 m c) l i := by
  intro p
  induction p with
  | zero =>
    intro t ht hp
    rw [sum_block, Nat.mul_zero, Finset.sum_range_zero, zero_add, firstG_at m c t hp, shareG_at m c t ht l, hp]
  | succ p ih =>
    intro t ht hp
    have h2 := ih ⟨t.val - 1, Nat.lt_of_le_of_lt (Nat.sub_le _ _) t.isLt⟩ (by dsimp only; omega) (by dsimp only; omega)
    rw [sum_block, nextG_at m c t ht (by omega), shareG_at m c t ht l]
    exact congrArg₂ (fun x y : EReal => x + y) h2 (Finset.sum_congr rfl fun r _ => by rw [hp])

theorem emb4 (t : Fin cfg0.N) (y : S1x256.Idx) : (win0_4.blk t).view.emb y = ix2 0 (y 1) := by
  rw [eq_ix2 ((win0_4.blk t).view.emb y)]
  refine congrArg₂ ix2 (Fin.ext ?_) (Fin.ext ?_) <;> blk_simp [idx t] <;> simp <;> omega

theorem emb3 (t : Fin cfg0.N) (ht : t.val < 8) (y : S512x256.Idx) :
    (win0_3.blk t).view.emb y = ix2 (at' (512 * t.val + (y 0).val)) (y 1) := by
  have hy : (y 0).val < 512 := (y 0).isLt
  rw [at'_eq (n := 4096) (512 * t.val + (y 0).val) ⟨512 * t.val + (y 0).val, by omega⟩ rfl, eq_ix2 ((win0_3.blk t).view.emb y)]
  refine congrArg₂ ix2 (Fin.ext ?_) (Fin.ext ?_) <;> blk_simp [idx t] <;> simp <;> omega

/-- The two results. -/
theorem finalX : (dats m 0 c).arrAt 3 cfg0.N = resX (A0 m c) (A1 m c) (A2 m c) := by
  refine (dats m 0 c).arrAt_eq_of_covers 3 _ (by decide +kernel) fun t hf y => ?_
  have ht : t.val < 8 := lt_of_lt_of_eq t.isLt (show cfg0.N = 8 from N_0)
  blk_simp
  rw [after0_3, emb3 t ht y]
  exact (congrArg _ (eq_ix2 y)).trans (dx_at m c t ht (y 0) (y 1))

theorem finalG : (dats m 0 c).arrAt 4 cfg0.N = resG (A0 m c) (A1 m c) := by
  refine (dats m 0 c).arrAt_eq_of_covers 4 _ (by decide +kernel) fun t hf y => ?_
  have ht : t.val < 8 := lt_of_lt_of_eq t.isLt (show cfg0.N = 8 from N_0)
  have hy : y = ix2 0 (y 1) := by
    rw [eq_ix2 y]
    exact congrArg₂ ix2 (Subsingleton.elim (α := Fin 1) _ _) rfl
  blk_simp
  rw [after0_4, emb4 _ y]
  have h7 : t.val = 7 := by
    have := (flush0_4 t).mp hf
    omega
  refine (congrArg _ hy).trans ((accG_at m c (y 1) 7 t ht h7).trans ?_)
  exact Finset.sum_range (n := 4096) _

end Cert.RmsKvBwdIdeal.Value

namespace Cert.RmsKvBwdRefIdeal.Value

open Cert.RmsKvBwdRefIdeal Cert.RmsKvBwdRefIdeal.Gen Cert.MatMul Cert.NormRow

variable (m : (ℓ : Loc nD τ sig) → Buf (Elt Ideal) ℓ) (c : Dev nD)

/-- The three arguments. -/
abbrev R0 : S4096x256.Idx → EReal := m ((c.tc : Thread nD τ).loc main_arg0)
abbrev R1 : S4096x6144.Idx → EReal := m ((c.tc : Thread nD τ).loc main_arg1)
abbrev R2 : S1x256.Idx → EReal := m ((c.tc : Thread nD τ).loc main_arg2)

/-- Their rows. -/
abbrev eRow (p : Fin 4096) : Fin 256 → EReal := fun l => R0 m c (ix2 p l)
abbrev vRow (p : Fin 4096) : Fin 256 → EReal := fun l => R1 m c (ix2 p ⟨3584 + l.val, by omega⟩)

theorem row_eq (p : Fin 4096) : (at' p.val : Fin 4096) = p := at'_eq _ p rfl

theorem eRow_eq (p : Fin 4096) : eRow m c p = Cert.RmsKvBwdIdeal.Value.dRow (R0 m c) p.val := by
  unfold Cert.RmsKvBwdIdeal.Value.dRow
  rw [row_eq]

theorem vRow_eq (p : Fin 4096) : vRow m c p = Cert.RmsKvBwdIdeal.Value.xRow (R1 m c) p.val := by
  unfold Cert.RmsKvBwdIdeal.Value.xRow
  rw [row_eq]

/-- The reference's results. -/
theorem ref_x : (res_main_v36 m c : S4096x256.Idx → EReal) = Cert.RmsKvBwdIdeal.Value.resX (R0 m c) (R1 m c) (R2 m c) := by
  funext j
  obtain ⟨p, q, rfl⟩ : ∃ (p : Fin 4096) (q : Fin 256), j = ix2 p q := ⟨j 0, j 1, eq_ix2 j⟩
  unfold res_main_v36
  pointwise
  refine Eq.trans (b := linesX Cert.RmsKvBwdIdeal.Value.wN (eRow m c p) (vRow m c p) (Cert.RmsKvBwdIdeal.Value.gRow (R2 m c)) q) rfl ?_
  rw [linesX_eq (by norm_num) Cert.RmsKvBwdIdeal.Value.wN_eq, eRow_eq, vRow_eq]
  rfl

theorem ref_g : (shapeCast _ (Host.reduceAdd (mulf (mulf (extf .f32 (extractStridedSlice S4096x256 ![0, 3584] (m ((c.tc : Thread nD τ).loc main_arg1)) slices_S4096x6144_S4096x256_0_3584) bitsLt_bf16_f32) (broadcastInDim S4096x256 ![0, 1] bcast_S4096x1_S4096x256_0_1 (Host.rsqrt (addf (Host.divf (broadcastInDim S4096x1 ![0] bcast_S4096_S4096x1_0 (Host.reduceAdd (mulf (extf .f32 (extractStridedSlice S4096x256 ![0, 3584] (m ((c.tc : Thread nD τ).loc main_arg1)) slices_S4096x6144_S4096x256_0_3584) bitsLt_bf16_f32) (extf .f32 (extractStridedSlice S4096x256 ![0, 3584] (m ((c.tc : Thread nD τ).loc main_arg1)) slices_S4096x6144_S4096x256_0_3584) bitsLt_bf16_f32)) (constant S_ .f32 0x00000000#32) reducesTo_S4096x256_S4096_d1 h_S_)) (broadcastInDim S4096x1 ![] bcast_S_S4096x1 (constant S_ .f32 0x43800000#32))) (broadcastInDim S4096x1 ![] bcast_S_S4096x1 (constant S_ .f32 0x358637BD#32)))))) (m ((c.tc : Thread nD τ).loc main_arg0))) (constant S_ .f32 0x00000000#32) reducesTo_S4096x256_S256_d0 h_S_) shapeCasts_S256_S1x256 : FVec Ideal S1x256 .f32) = Cert.RmsKvBwdIdeal.Value.resG (R0 m c) (R1 m c) := by
  funext j
  obtain ⟨p, q, rfl⟩ : ∃ (p : Fin 1) (q : Fin 256), j = ix2 p q := ⟨j 0, j 1, eq_ix2 j⟩
  obtain rfl : p = 0 := Subsingleton.elim (α := Fin 1) _ _
  pointwise
  refine Eq.trans (b := ∑ t : Fin 4096, (vRow m c t q * rstd Cert.RmsKvBwdIdeal.Value.wN (vRow m c t) * eRow m c t q : EReal)) rfl ?_
  refine Finset.sum_congr rfl fun t _ => ?_
  show _ = Cert.RmsKvBwdIdeal.Value.dRow (R0 m c) t.val q * Cert.RmsKvBwdIdeal.Value.xRow (R1 m c) t.val q * rstd Cert.RmsKvBwdIdeal.Value.wN (Cert.RmsKvBwdIdeal.Value.xRow (R1 m c) t.val)
  rw [← eRow_eq, ← vRow_eq]
  exact (mul_right_comm _ _ _).trans (congrArg (fun z : EReal => z * rstd Cert.RmsKvBwdIdeal.Value.wN (vRow m c t)) (mul_comm (vRow m c t q) (eRow m c t q)))

end Cert.RmsKvBwdRefIdeal.Value

end
-- ==== Proof.RmsMemBwdFinal.lean ====
/- The gradient of a norm of rows of 1024 entries, by its input and by its weights: the blocks', and the reference's. -/
module

public import proofs.«01_k».proof.Proof.Gen.RmsMemBwd
public import proofs.«01_k».proof.Proof.Gen.RmsMemBwd.Frame
public import proofs.«01_k».proof.Proof.Gen.RmsMemBwdIdeal
public import proofs.«01_k».proof.Proof.Gen.RmsMemBwdIdeal.Skeleton
public import proofs.«01_k».proof.Proof.Gen.RmsMemBwdIdeal.Launch
public import proofs.«01_k».proof.Proof.Gen.RmsMemBwdIdeal.Points
public import proofs.«01_k».proof.Proof.Gen.RmsMemBwdIdeal.Frame
public import proofs.«01_k».proof.Proof.Gen.RmsMemBwdIdeal.Value
public import proofs.«01_k».proof.Proof.Gen.RmsMemBwdRefIdeal
public import proofs.«01_k».proof.Proof.Gen.RmsMemBwdRefIdeal.Run
public import proofs.«01_k».proof.Proof.NormRow

@[expose] public section

set_option maxRecDepth 16384

noncomputable section

open Idealize.ShloMosaic Idealize.ShloMosaic.TcCoe Idealize.SL.Sem

namespace Cert.RmsMemBwdIdeal.Value

open Cert.RmsMemBwdIdeal Cert.RmsMemBwdIdeal.Gen Cert.MatMul Cert.NormRow

/-- The word of 1024. -/
abbrev wN : EReal := Ideal.ofBits .f32 0x44800000#32

theorem wN_eq : wN = ((1024 : ℝ) : EReal) := by
  simp [wN, Ideal.ofBits, Ideal.ieee, -EReal.coe_mul]
  norm_num

/-- Row `p` of the gradient, and of the normed rows. -/
abbrev dRow (x : S512x1024.Idx → EReal) (p : ℕ) : Fin 1024 → EReal := fun l => x (ix2 (at' p) l)
abbrev xRow (x : S512x1024.Idx → EReal) (p : ℕ) : Fin 1024 → EReal := fun l => x (ix2 (at' p) l)
abbrev gRow (g : S1x1024.Idx → EReal) : Fin 1024 → EReal := fun l => g (ix2 0 l)

section
variable (d : S512x1024.Idx → EReal) (x : S512x1024.Idx → EReal) (g : S1x1024.Idx → EReal)

/-- The gradient by the rows. -/
def resX : S512x1024.Idx → EReal := fun j => gradX wN (dRow d (j 0).val) (xRow x (j 0).val) (gRow g) (j 1)

/-- A row's share of the gradient by the weights, and that gradient. -/
def shareG (l : Fin 1024) (p : ℕ) : EReal := dRow d p l * xRow x p l * rstd wN (xRow x p)
def resG : S1x1024.Idx → EReal := fun j => ∑ p : Fin 512, shareG d x (j 1) p.val
end

section
variable (a : FVec Ideal S512x1024 .f32) (b : FVec Ideal S512x1024 .f32) (g : FVec Ideal S1x1024 .f32)

/-- Row `r` of a block. -/
abbrev bD (r : Fin 512) : Fin 1024 → EReal := fun l => a (ix2 r l)
abbrev bX (r : Fin 512) : Fin 1024 → EReal := fun l => b (ix2 r l)

theorem payR_at (r : Fin 512) : k0_pay2 (F := Ideal) b (ix2 r 0) = rstd wN (bX b r) := by
  pointwise [k0_pay2]
  rfl

theorem payX_at (r : Fin 512) (l : Fin 1024) : k0_pay3 (F := Ideal) a b g (ix2 r l) = gradX wN (bD a r) (bX b r) (gRow g) l := by
  pointwise [k0_pay3]
  simp only [payR_at]
  rfl

theorem payG_at (l : Fin 1024) : k0_pay4 (F := Ideal) a b (ix2 0 l) = ∑ r : Fin 512, bD a r l * bX b r l * rstd wN (bX b r) := by
  pointwise [k0_pay4]
  simp only [payR_at]
end

section

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (hc0 : cond0_0 i) (hc1 : ¬cond0_1 i) (x0 : Vec Ideal S512x1024 .f32) (x1 : Vec Ideal S512x1024 .f32) (x2 : Vec Ideal S1x1024 .f32)

/-- The rows of the gradient. -/
theorem dxA (r : Fin 512) (l : Fin 1024) :
    out0_A_3 (F := Ideal) c i arg1 harg1 arg2 harg2 arg3 harg3 arg4 harg4 arg5 harg5 hc0 hc1 x0 x1 x2 (ix2 r l) = k0_pay3 (F := Ideal) x0 x1 x2 (ix2 r l) := by
  frame_out

/-- The first block's gradient of the weights. -/
theorem dgA (l : Fin 1024) :
    out0_A_4 (F := Ideal) c i arg1 harg1 arg2 harg2 arg3 harg3 arg4 harg4 arg5 harg5 hc0 hc1 x0 x1 x2 (ix2 0 l) = k0_pay4 (F := Ideal) x0 x1 (ix2 0 l) := by
  frame_out

end

theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

variable (m : (ℓ : Loc nD τ sig) → Buf (Elt Ideal) ℓ) (c : Dev nD)

/-- The three arguments. -/
abbrev A0 : S512x1024.Idx → EReal := m ((c : Thread nD τ).loc main_arg0)
abbrev A1 : S512x1024.Idx → EReal := m ((c : Thread nD τ).loc main_arg1)
abbrev A2 : S1x1024.Idx → EReal := m ((c : Thread nD τ).loc main_arg2)

/-- A point's blocks. -/
abbrev B0 (t : Fin cfg0.N) : FVec Ideal S512x1024 .f32 := iblk m c 0 t
abbrev B1 (t : Fin cfg0.N) : FVec Ideal S512x1024 .f32 := iblk m c 1 t
abbrev B2 (t : Fin cfg0.N) : FVec Ideal S1x1024 .f32 := iblk m c 2 t

theorem B0_at (t : Fin cfg0.N) (ht : t.val < 1) (r : Fin 512) (l : Fin 1024) :
    (B0 m c t (ix2 r l) : EReal) = A0 m c (ix2 (at' (512 * t.val + r.val)) l) := by
  rw [at'_eq (n := 512) (512 * t.val + r.val) ⟨512 * t.val + r.val, by omega⟩ rfl]
  blk_point [iblk, V, idx t]

theorem B1_at (t : Fin cfg0.N) (ht : t.val < 1) (r : Fin 512) (l : Fin 1024) :
    (B1 m c t (ix2 r l) : EReal) = A1 m c (ix2 (at' (512 * t.val + r.val)) l) := by
  rw [at'_eq (n := 512) (512 * t.val + r.val) ⟨512 * t.val + r.val, by omega⟩ rfl]
  blk_point [iblk, V, idx t]

theorem B2_at (t : Fin cfg0.N) (l : Fin 1024) : (B2 m c t (ix2 0 l) : EReal) = A2 m c (ix2 0 l) := by
  blk_point [iblk, V, idx t]

/-- A block's rows are the whole arrays'. -/
theorem bD_at (t : Fin cfg0.N) (ht : t.val < 1) (r : Fin 512) : bD (B0 m c t) r = dRow (A0 m c) (512 * t.val + r.val) :=
  funext fun l => B0_at m c t ht r l

theorem bX_at (t : Fin cfg0.N) (ht : t.val < 1) (r : Fin 512) : bX (B1 m c t) r = xRow (A1 m c) (512 * t.val + r.val) :=
  funext fun l => B1_at m c t ht r l

theorem row_val (t : Fin cfg0.N) (ht : t.val < 1) (r : Fin 512) : ((at' (512 * t.val + r.val) : Fin 512)).val = 512 * t.val + r.val :=
  congrArg Fin.val (at'_eq (n := 512) (512 * t.val + r.val) ⟨512 * t.val + r.val, by omega⟩ rfl)

theorem keyX (t : Fin cfg0.N) (ht : t.val < 1) (r : Fin 512) (l : Fin 1024) :
    ((outsAt0 m c t).1 (ix2 r l) : EReal) = k0_pay3 (F := Ideal) (B0 m c t) (B1 m c t) (B2 m c t) (ix2 r l) := by
  unfold outsAt0
  dsimp only
  rw [dxA]

/-- The rows of the gradient at a point. -/
theorem dx_at (t : Fin cfg0.N) (ht : t.val < 1) (r : Fin 512) (l : Fin 1024) :
    ((outsAt0 m c t).1 (ix2 r l) : EReal) = resX (A0 m c) (A1 m c) (A2 m c) (ix2 (at' (512 * t.val + r.val)) l) := by
  show _ = gradX wN (dRow (A0 m c) ((at' (512 * t.val + r.val) : Fin 512)).val) (xRow (A1 m c) ((at' (512 * t.val + r.val) : Fin 512)).val) (gRow (A2 m c)) l
  rw [keyX m c t ht, row_val t ht r, payX_at, bD_at m c t ht r, bX_at m c t ht r]
  exact congrFun (congrArg _ (funext fun l => B2_at m c t l)) l

/-- A block's share of the gradient of the weights. -/
theorem shareG_at (t : Fin cfg0.N) (ht : t.val < 1) (l : Fin 1024) :
    (k0_pay4 (F := Ideal) (B0 m c t) (B1 m c t) (ix2 0 l) : EReal) = ∑ r : Fin 512, shareG (A0 m c) (A1 m c) l (512 * t.val + r.val) := by
  rw [payG_at]
  refine Finset.sum_congr rfl fun r _ => ?_
  rw [bD_at m c t ht r, bX_at m c t ht r, shareG]

theorem accG_at (t : Fin cfg0.N) (ht : t.val < 1) (l : Fin 1024) : ((outsAt0 m c t).2 (ix2 0 l) : EReal) = ∑ i ∈ Finset.range 512, shareG (A0 m c) (A1 m c) l i := by
  have h0 : t.val = 0 := by omega
  have e : ((outsAt0 m c t).2 (ix2 0 l) : EReal) = k0_pay4 (F := Ideal) (B0 m c t) (B1 m c t) (ix2 0 l) := by
    unfold outsAt0
    dsimp only
    rw [dgA]
  rw [e, shareG_at m c t ht, Finset.sum_range]
  refine Finset.sum_congr rfl fun r _ => ?_
  rw [h0, Nat.mul_zero, Nat.zero_add]

theorem emb4 (t : Fin cfg0.N) (y : S1x1024.Idx) : (win0_4.blk t).view.emb y = ix2 0 (y 1) := by
  rw [eq_ix2 ((win0_4.blk t).view.emb y)]
  refine congrArg₂ ix2 (Fin.ext ?_) (Fin.ext ?_) <;> blk_simp [idx t] <;> simp <;> omega

theorem emb3 (t : Fin cfg0.N) (ht : t.val < 1) (y : S512x1024.Idx) :
    (win0_3.blk t).view.emb y = ix2 (at' (512 * t.val + (y 0).val)) (y 1) := by
  have hy : (y 0).val < 512 := (y 0).isLt
  rw [at'_eq (n := 512) (512 * t.val + (y 0).val) ⟨512 * t.val + (y 0).val, by omega⟩ rfl, eq_ix2 ((win0_3.blk t).view.emb y)]
  refine congrArg₂ ix2 (Fin.ext ?_) (Fin.ext ?_) <;> blk_simp [idx t] <;> simp <;> omega

/-- The two results. -/
theorem finalX : (dats m 0 c).arrAt 3 cfg0.N = resX (A0 m c) (A1 m c) (A2 m c) := by
  refine (dats m 0 c).arrAt_eq_of_covers 3 _ (by decide +kernel) fun t hf y => ?_
  have ht : t.val < 1 := lt_of_lt_of_eq t.isLt (show cfg0.N = 1 from N_0)
  blk_simp
  rw [after0_3, emb3 t ht y]
  exact (congrArg _ (eq_ix2 y)).trans (dx_at m c t ht (y 0) (y 1))

theorem finalG : (dats m 0 c).arrAt 4 cfg0.N = resG (A0 m c) (A1 m c) := by
  refine (dats m 0 c).arrAt_eq_of_covers 4 _ (by decide +kernel) fun t hf y => ?_
  have ht : t.val < 1 := lt_of_lt_of_eq t.isLt (show cfg0.N = 1 from N_0)
  have hy : y = ix2 0 (y 1) := by
    rw [eq_ix2 y]
    exact congrArg₂ ix2 (Subsingleton.elim (α := Fin 1) _ _) rfl
  blk_simp
  rw [after0_4, emb4 _ y]
  refine (congrArg _ hy).trans ((accG_at m c t ht (y 1)).trans ?_)
  exact Finset.sum_range (n := 512) _

end Cert.RmsMemBwdIdeal.Value

namespace Cert.RmsMemBwdRefIdeal.Value

open Cert.RmsMemBwdRefIdeal Cert.RmsMemBwdRefIdeal.Gen Cert.MatMul Cert.NormRow

variable (m : (ℓ : Loc nD τ sig) → Buf (Elt Ideal) ℓ) (c : Dev nD)

/-- The three arguments. -/
abbrev R0 : S512x1024.Idx → EReal := m ((c.tc : Thread nD τ).loc main_arg0)
abbrev R1 : S512x1024.Idx → EReal := m ((c.tc : Thread nD τ).loc main_arg1)
abbrev R2 : S1x1024.Idx → EReal := m ((c.tc : Thread nD τ).loc main_arg2)

/-- Their rows. -/
abbrev eRow (p : Fin 512) : Fin 1024 → EReal := fun l => R0 m c (ix2 p l)
abbrev vRow (p : Fin 512) : Fin 1024 → EReal := fun l => R1 m c (ix2 p l)

theorem row_eq (p : Fin 512) : (at' p.val : Fin 512) = p := at'_eq _ p rfl

theorem eRow_eq (p : Fin 512) : eRow m c p = Cert.RmsMemBwdIdeal.Value.dRow (R0 m c) p.val := by
  unfold Cert.RmsMemBwdIdeal.Value.dRow
  rw [row_eq]

theorem vRow_eq (p : Fin 512) : vRow m c p = Cert.RmsMemBwdIdeal.Value.xRow (R1 m c) p.val := by
  unfold Cert.RmsMemBwdIdeal.Value.xRow
  rw [row_eq]

/-- The reference's results. -/
theorem ref_x : (addf (addf (mulf (mulf (m ((c.tc : Thread nD τ).loc main_arg0)) (broadcastInDim S512x1024 ![0, 1] bcast_S1x1024_S512x1024_0_1 (m ((c.tc : Thread nD τ).loc main_arg2)))) (broadcastInDim S512x1024 ![0, 1] bcast_S512x1_S512x1024_0_1 (Host.rsqrt (addf (Host.divf (broadcastInDim S512x1 ![0] bcast_S512_S512x1_0 (Host.reduceAdd (mulf (m ((c.tc : Thread nD τ).loc main_arg1)) (m ((c.tc : Thread nD τ).loc main_arg1))) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (mulf (m ((c.tc : Thread nD τ).loc main_arg1)) (broadcastInDim S512x1024 ![0] bcast_S512_S512x1024_0 (Host.reduceAdd (Host.divf (mulf (shapeCast _ (Host.reduceAdd (mulf (m ((c.tc : Thread nD τ).loc main_arg1)) (mulf (m ((c.tc : Thread nD τ).loc main_arg0)) (broadcastInDim S512x1024 ![0, 1] bcast_S1x1024_S512x1024_0_1 (m ((c.tc : Thread nD τ).loc main_arg2))))) (constant S_ .f32 0x00000000#32) reducesTo_S512x1024_S512_d1 h_S_) shapeCasts_S512_S512x1) (mulf (broadcastInDim S512x1 ![] bcast_S_S512x1 (constant S_ .f32 0xBF000000#32)) (Host.divf (Host.rsqrt (addf (Host.divf (broadcastInDim S512x1 ![0] bcast_S512_S512x1_0 (Host.reduceAdd (mulf (m ((c.tc : Thread nD τ).loc main_arg1)) (m ((c.tc : Thread nD τ).loc main_arg1))) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))) (addf (Host.divf (broadcastInDim S512x1 ![0] bcast_S512_S512x1_0 (Host.reduceAdd (mulf (m ((c.tc : Thread nD τ).loc main_arg1)) (m ((c.tc : Thread nD τ).loc main_arg1))) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1 ![] bcast_S_S512x1 (constant S_ .f32 0x44800000#32))) (constant S_ .f32 0x00000000#32) reducesTo_S512x1_S512_d1 h_S_)))) (mulf (broadcastInDim S512x1024 ![0] bcast_S512_S512x1024_0 (Host.reduceAdd (Host.divf (mulf (shapeCast _ (Host.reduceAdd (mulf (m ((c.tc : Thread nD τ).loc main_arg1)) (mulf (m ((c.tc : Thread nD τ).loc main_arg0)) (broadcastInDim S512x1024 ![0, 1] bcast_S1x1024_S512x1024_0_1 (m ((c.tc : Thread nD τ).loc main_arg2))))) (constant S_ .f32 0x00000000#32) reducesTo_S512x1024_S512_d1 h_S_) shapeCasts_S512_S512x1) (mulf (broadcastInDim S512x1 ![] bcast_S_S512x1 (constant S_ .f32 0xBF000000#32)) (Host.divf (Host.rsqrt (addf (Host.divf (broadcastInDim S512x1 ![0] bcast_S512_S512x1_0 (Host.reduceAdd (mulf (m ((c.tc : Thread nD τ).loc main_arg1)) (m ((c.tc : Thread nD τ).loc main_arg1))) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))) (addf (Host.divf (broadcastInDim S512x1 ![0] bcast_S512_S512x1_0 (Host.reduceAdd (mulf (m ((c.tc : Thread nD τ).loc main_arg1)) (m ((c.tc : Thread nD τ).loc main_arg1))) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1 ![] bcast_S_S512x1 (constant S_ .f32 0x44800000#32))) (constant S_ .f32 0x00000000#32) reducesTo_S512x1_S512_d1 h_S_)) (m ((c.tc : Thread nD τ).loc main_arg1))) : FVec Ideal S512x1024 .f32) = Cert.RmsMemBwdIdeal.Value.resX (R0 m c) (R1 m c) (R2 m c) := by
  funext j
  obtain ⟨p, q, rfl⟩ : ∃ (p : Fin 512) (q : Fin 1024), j = ix2 p q := ⟨j 0, j 1, eq_ix2 j⟩
  pointwise
  refine Eq.trans (b := linesX Cert.RmsMemBwdIdeal.Value.wN (eRow m c p) (vRow m c p) (Cert.RmsMemBwdIdeal.Value.gRow (R2 m c)) q) rfl ?_
  rw [linesX_eq (by norm_num) Cert.RmsMemBwdIdeal.Value.wN_eq, eRow_eq, vRow_eq]
  rfl

theorem ref_g : (shapeCast _ (Host.reduceAdd (mulf (mulf (m ((c.tc : Thread nD τ).loc main_arg1)) (broadcastInDim S512x1024 ![0, 1] bcast_S512x1_S512x1024_0_1 (Host.rsqrt (addf (Host.divf (broadcastInDim S512x1 ![0] bcast_S512_S512x1_0 (Host.reduceAdd (mulf (m ((c.tc : Thread nD τ).loc main_arg1)) (m ((c.tc : Thread nD τ).loc main_arg1))) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (m ((c.tc : Thread nD τ).loc main_arg0))) (constant S_ .f32 0x00000000#32) reducesTo_S512x1024_S1024_d0 h_S_) shapeCasts_S1024_S1x1024 : FVec Ideal S1x1024 .f32) = Cert.RmsMemBwdIdeal.Value.resG (R0 m c) (R1 m c) := by
  funext j
  obtain ⟨p, q, rfl⟩ : ∃ (p : Fin 1) (q : Fin 1024), j = ix2 p q := ⟨j 0, j 1, eq_ix2 j⟩
  obtain rfl : p = 0 := Subsingleton.elim (α := Fin 1) _ _
  pointwise
  refine Eq.trans (b := ∑ t : Fin 512, (vRow m c t q * rstd Cert.RmsMemBwdIdeal.Value.wN (vRow m c t) * eRow m c t q : EReal)) rfl ?_
  refine Finset.sum_congr rfl fun t _ => ?_
  show _ = Cert.RmsMemBwdIdeal.Value.dRow (R0 m c) t.val q * Cert.RmsMemBwdIdeal.Value.xRow (R1 m c) t.val q * rstd Cert.RmsMemBwdIdeal.Value.wN (Cert.RmsMemBwdIdeal.Value.xRow (R1 m c) t.val)
  rw [← eRow_eq, ← vRow_eq]
  exact (mul_right_comm _ _ _).trans (congrArg (fun z : EReal => z * rstd Cert.RmsMemBwdIdeal.Value.wN (vRow m c t)) (mul_comm (vRow m c t q) (eRow m c t q)))

end Cert.RmsMemBwdRefIdeal.Value

end
-- ==== Proof.GateBwdFinal.lean ====
/- The gradients of the gated sum of three products: the blocks', and the reference's. -/
module

public import proofs.«01_k».proof.Proof.Gen.GateBwd
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdIdeal.Value
public import proofs.«01_k».proof.Proof.Gen.GateBwdRefIdeal
public import proofs.«01_k».proof.Proof.Gen.GateBwdRefIdeal.Run
public import proofs.«01_k».proof.Proof.NormGrad

@[expose] public section

set_option maxRecDepth 16384

noncomputable section

open Idealize.ShloMosaic Idealize.ShloMosaic.TcCoe Idealize.SL.Sem

namespace Cert.GateBwdIdeal.Value

open Cert.GateBwdIdeal Cert.GateBwdIdeal.Gen Cert.MatMul

/-- The place of a gate's column among its product's. -/
def col (q : Fin 3072) : Fin 1024 := ⟨q.val % 1024, Nat.mod_lt _ (by decide)⟩

/-- The product that a gate's column scales. -/
def pick {α : Type} (p0 p1 p2 : α) (q : Fin 3072) : α := if q.val < 1024 then p0 else if q.val < 2048 then p1 else p2

theorem col0 (l : Fin 1024) : col (⟨0 + l.val, by omega⟩ : Fin 3072) = l := Fin.ext (by simp only [col]; omega)

theorem pick0 {α : Type} (p0 p1 p2 : α) (l : Fin 1024) : pick p0 p1 p2 (⟨0 + l.val, by omega⟩ : Fin 3072) = p0 := by
  simp only [pick]
  rw [if_pos (by omega)]

theorem col1 (l : Fin 1024) : col (⟨1024 + l.val, by omega⟩ : Fin 3072) = l := Fin.ext (by simp only [col]; omega)

theorem pick1 {α : Type} (p0 p1 p2 : α) (l : Fin 1024) : pick p0 p1 p2 (⟨1024 + l.val, by omega⟩ : Fin 3072) = p1 := by
  simp only [pick]
  rw [if_neg (by omega), if_pos (by omega)]

theorem col2 (l : Fin 1024) : col (⟨2048 + l.val, by omega⟩ : Fin 3072) = l := Fin.ext (by simp only [col]; omega)

theorem pick2 {α : Type} (p0 p1 p2 : α) (l : Fin 1024) : pick p0 p1 p2 (⟨2048 + l.val, by omega⟩ : Fin 3072) = p2 := by
  simp only [pick]
  rw [if_neg (by omega), if_neg (by omega)]

/-- A gate's gradient: of the merged row's `d`, the product's entry `p`, the gate's input `z`. -/
def dGate (d p z : EReal) : EReal := d * p * Ideal.logistic z * (1 - Ideal.logistic z)

section
variable (d : S4096x1024.Idx → EReal) (x : S4096x6144.Idx → EReal) (g : S1x3072.Idx → EReal) (p0 p1 p2 : S4096x1024.Idx → EReal)

/-- A gate's input, and its gradient. -/
def zIn (p : ℕ) (q : Fin 3072) : EReal := x (ix2 (at' p) ⟨q.val, by omega⟩) + g (ix2 0 q)
def dIn (p : ℕ) (q : Fin 3072) : EReal := dGate (d (ix2 (at' p) (col q))) (pick p0 p1 p2 q (ix2 (at' p) (col q))) (zIn x g p q)

/-- The results: the gradients of the gates' inputs, of the products, and of the gates' biases. -/
def resL : S4096x3072.Idx → EReal := fun j => dIn d x g p0 p1 p2 (j 0).val (j 1)
def resP (b : Fin 3) : S4096x1024.Idx → EReal := fun j =>
  d (ix2 (at' (j 0).val) (j 1)) * Ideal.logistic (zIn x g (j 0).val ⟨1024 * b.val + (j 1).val, by have := (j 1).isLt; simp only [Matrix.cons_val_one, Matrix.cons_val_fin_one] at this; omega⟩)
def resB : S1x3072.Idx → EReal := fun j => ∑ p : Fin 4096, dIn d x g p0 p1 p2 p.val (j 1)
end

section
variable (a : FVec Ideal S512x1024 .f32) (x : FVec Ideal S512x1024 .bf16) (g : FVec Ideal S1x1024 .f32) (p : FVec Ideal S512x1024 .bf16)

/-- A block's gates' gradients. -/
def bIn (r : Fin 512) (l : Fin 1024) : EReal := dGate (a (ix2 r l)) (p (ix2 r l)) (x (ix2 r l) + g (ix2 0 l))

theorem p0_at (r : Fin 512) (l : Fin 1024) : k0_pay8 (F := Ideal) a x g p (ix2 r l) = bIn a x g p r l := by
  pointwise [k0_pay8, k0_pay7, k0_pay5]
  rfl

theorem p1_at (r : Fin 512) (l : Fin 1024) : k0_pay14 (F := Ideal) a (k0_pay11 (F := Ideal) x g) p (ix2 r l) = bIn a x g p r l := by
  pointwise [k0_pay14, k0_pay13, k0_pay11]
  rfl

theorem p2_at (r : Fin 512) (l : Fin 1024) :
    k0_pay2 (F := Ideal) (k0_pay17 (F := Ideal) x g) (k0_pay19 (F := Ideal) a x g p) (k0_pay20 (F := Ideal)) (ix2 r l) = bIn a x g p r l := by
  pointwise [k0_pay2, k0_pay1, k0_pay17, k0_pay19, k0_pay20]
  rfl

theorem s0_at (l : Fin 1024) : k0_pay9 (F := Ideal) a x g p (ix2 0 l) = ∑ r : Fin 512, bIn a x g p r l := by
  pointwise [k0_pay9, k0_pay7, k0_pay5]
  rfl

theorem s1_at (l : Fin 1024) : k0_pay15 (F := Ideal) a (k0_pay11 (F := Ideal) x g) p (ix2 0 l) = ∑ r : Fin 512, bIn a x g p r l := by
  pointwise [k0_pay15, k0_pay13, k0_pay11]
  rfl

theorem s2_at (l : Fin 1024) :
    k0_pay3 (F := Ideal) (k0_pay17 (F := Ideal) x g) (k0_pay19 (F := Ideal) a x g p) (k0_pay20 (F := Ideal)) (ix2 0 l) = ∑ r : Fin 512, bIn a x g p r l := by
  pointwise [k0_pay3, k0_pay1, k0_pay17, k0_pay19, k0_pay20]
  rfl

theorem g0_at (r : Fin 512) (l : Fin 1024) : k0_pay6 (F := Ideal) a x g (ix2 r l) = a (ix2 r l) * Ideal.logistic (x (ix2 r l) + g (ix2 0 l)) := by
  pointwise [k0_pay6, k0_pay5]

theorem g1_at (r : Fin 512) (l : Fin 1024) : k0_pay12 (F := Ideal) a (k0_pay11 (F := Ideal) x g) (ix2 r l) = a (ix2 r l) * Ideal.logistic (x (ix2 r l) + g (ix2 0 l)) := by
  pointwise [k0_pay12, k0_pay11]

theorem g2_at (r : Fin 512) (l : Fin 1024) : k0_pay18 (F := Ideal) a x g (ix2 r l) = a (ix2 r l) * Ideal.logistic (x (ix2 r l) + g (ix2 0 l)) := by
  pointwise [k0_pay18, k0_pay17]
end

section
variable {R : ℕ} {e : EltTy} (i2 : ∀ k, (![0, 2048] : Fin 2 → ℕ) k + (![R, 1024] : Fin 2 → ℕ) k ≤ (⟨2, ![R, 3072]⟩ : Shape).size k)
  (i1 : ∀ k, (![0, 1024] : Fin 2 → ℕ) k + (![R, 1024] : Fin 2 → ℕ) k ≤ (⟨2, ![R, 3072]⟩ : Shape).size k)
  (i0 : ∀ k, (![0, 0] : Fin 2 → ℕ) k + (![R, 1024] : Fin 2 → ℕ) k ≤ (⟨2, ![R, 3072]⟩ : Shape).size k)
  (P2 P1 P0 : (⟨2, ![R, 1024]⟩ : Shape).Idx → Elt Ideal e) (r : Fin R) (l : Fin 1024)

/-- Three stores side by side, read at a column. -/
abbrev three : (⟨2, ![R, 3072]⟩ : Shape).Idx → Elt Ideal e :=
  View.canon (Val := Elt Ideal) (s := ⟨2, ![R, 3072]⟩) (e := e)
    [⟨Rect.unit ![0, 2048] ![R, 1024] i2, P2⟩, ⟨Rect.unit ![0, 1024] ![R, 1024] i1, P1⟩, ⟨Rect.unit ![0, 0] ![R, 1024] i0, P0⟩]

theorem tile_here (o : ℕ) (ho : o + 1024 ≤ 3072) (P : (⟨2, ![R, 1024]⟩ : Shape).Idx → Elt Ideal e) :
    View.TileAt (Val := Elt Ideal) (S := ⟨2, ![R, 3072]⟩) (ix2 r (⟨o + l.val, by omega⟩ : Fin 3072)) ![0, o] ![R, 1024] P (P (ix2 r l)) := by
  intro x hx
  refine congrArg P ?_
  have h0 : r.val = 0 + (x 0).val := hx 0
  have h1 : o + l.val = o + (x 1).val := hx 1
  rw [eq_ix2 x]
  exact congrArg₂ ix2 (Fin.ext (show (x 0).val = r.val by omega)) (Fin.ext (show (x 1).val = l.val by omega))

theorem tile_other (o o' : ℕ) (ho : o + 1024 ≤ 3072) (h : o + 1024 ≤ o' ∨ o' + 1024 ≤ o) (P : (⟨2, ![R, 1024]⟩ : Shape).Idx → Elt Ideal e) (v : Elt Ideal e) :
    View.TileAt (Val := Elt Ideal) (S := ⟨2, ![R, 3072]⟩) (ix2 r (⟨o + l.val, by omega⟩ : Fin 3072)) ![0, o'] ![R, 1024] P v := by
  intro x hx
  have h1 : o + l.val = o' + (x 1).val := hx 1
  have h2 : (x 1).val < 1024 := (x 1).isLt
  omega

theorem in_tile (o : ℕ) (ho : o + 1024 ≤ 3072) (i : ∀ k, (![0, o] : Fin 2 → ℕ) k + (![R, 1024] : Fin 2 → ℕ) k ≤ (⟨2, ![R, 3072]⟩ : Shape).size k) :
    (ix2 r (⟨o + l.val, by omega⟩ : Fin 3072) : (⟨2, ![R, 3072]⟩ : Shape).Idx) ∈ (Rect.unit (s := ⟨2, ![R, 3072]⟩) ![0, o] ![R, 1024] i).set := by
  refine Rect.mem_set_unit.mpr fun k => ?_
  match k with
  | ⟨0, _⟩ => exact ⟨Nat.zero_le _, (Nat.zero_add R).symm ▸ r.isLt⟩
  | ⟨1, _⟩ => exact ⟨Nat.le_add_right _ _, Nat.add_lt_add_left l.isLt _⟩

theorem three0 : three i2 i1 i0 P2 P1 P0 (ix2 r (⟨0 + l.val, by omega⟩ : Fin 3072)) = P0 (ix2 r l) :=
  View.canon_eq_of_allAt _ _ _ ⟨_, List.mem_cons_of_mem _ (List.mem_cons_of_mem _ List.mem_cons_self), in_tile r l 0 (by omega) i0⟩
    (View.allAt_cons_unit (Val := Elt Ideal) (S := ⟨2, ![R, 3072]⟩) ![0, 2048] ![R, 1024] i2 P2 _ (tile_other r l 0 2048 (by omega) (by omega) P2 _)
      (View.allAt_cons_unit (Val := Elt Ideal) (S := ⟨2, ![R, 3072]⟩) ![0, 1024] ![R, 1024] i1 P1 _ (tile_other r l 0 1024 (by omega) (by omega) P1 _)
        (View.allAt_cons_unit (Val := Elt Ideal) (S := ⟨2, ![R, 3072]⟩) ![0, 0] ![R, 1024] i0 P0 _ (tile_here r l 0 (by omega) P0) (View.allAt_nil _ _))))

theorem three1 : three i2 i1 i0 P2 P1 P0 (ix2 r (⟨1024 + l.val, by omega⟩ : Fin 3072)) = P1 (ix2 r l) :=
  View.canon_eq_of_allAt _ _ _ ⟨_, List.mem_cons_of_mem _ List.mem_cons_self, in_tile r l 1024 (by omega) i1⟩
    (View.allAt_cons_unit (Val := Elt Ideal) (S := ⟨2, ![R, 3072]⟩) ![0, 2048] ![R, 1024] i2 P2 _ (tile_other r l 1024 2048 (by omega) (by omega) P2 _)
      (View.allAt_cons_unit (Val := Elt Ideal) (S := ⟨2, ![R, 3072]⟩) ![0, 1024] ![R, 1024] i1 P1 _ (tile_here r l 1024 (by omega) P1)
        (View.allAt_cons_unit (Val := Elt Ideal) (S := ⟨2, ![R, 3072]⟩) ![0, 0] ![R, 1024] i0 P0 _ (tile_other r l 1024 0 (by omega) (by omega) P0 _) (View.allAt_nil _ _))))

theorem three2 : three i2 i1 i0 P2 P1 P0 (ix2 r (⟨2048 + l.val, by omega⟩ : Fin 3072)) = P2 (ix2 r l) :=
  View.canon_eq_of_allAt _ _ _ ⟨_, List.mem_cons_self, in_tile r l 2048 (by omega) i2⟩
    (View.allAt_cons_unit (Val := Elt Ideal) (S := ⟨2, ![R, 3072]⟩) ![0, 2048] ![R, 1024] i2 P2 _ (tile_here r l 2048 (by omega) P2)
      (View.allAt_cons_unit (Val := Elt Ideal) (S := ⟨2, ![R, 3072]⟩) ![0, 1024] ![R, 1024] i1 P1 _ (tile_other r l 2048 1024 (by omega) (by omega) P1 _)
        (View.allAt_cons_unit (Val := Elt Ideal) (S := ⟨2, ![R, 3072]⟩) ![0, 0] ![R, 1024] i0 P0 _ (tile_other r l 2048 0 (by omega) (by omega) P0 _) (View.allAt_nil _ _))))

end

section

variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x3072 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1x3072 .f32) (harg15 : arg15.IsWhole) (hc0 : cond0_0 i) (hc1 : ¬cond0_1 i) (hc2 : cond0_2 i) (hc3 : ¬cond0_3 i) (hc4 : cond0_4 i) (hc5 : ¬cond0_5 i) (x0 : Vec Ideal S512x1024 .f32) (x1 : Vec Ideal S512x1024 .bf16) (x2 : Vec Ideal S512x1024 .bf16) (x3 : Vec Ideal S512x1024 .bf16) (x4 : Vec Ideal S1x1024 .f32) (x5 : Vec Ideal S1x1024 .f32) (x6 : Vec Ideal S1x1024 .f32) (x7 : Vec Ideal S512x1024 .bf16) (x8 : Vec Ideal S512x1024 .bf16) (x9 : Vec Ideal S512x1024 .bf16)

/-- The gradients of gate 0's inputs. -/
theorem dlA0 (r : Fin 512) (l : Fin 1024) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 (ix2 r (⟨0 + l.val, by omega⟩ : Fin 3072)) = bIn x0 x1 x4 x7 r l := by
  frame_out
  exact (three0 _ _ _ _ _ _ r l).trans (p0_at x0 x1 x4 x7 r l)

/-- The gradient of product 0. -/
theorem dpA0 (r : Fin 512) (l : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 (ix2 r l) = x0 (ix2 r l) * Ideal.logistic (x1 (ix2 r l) + x4 (ix2 0 l)) := by
  frame_out
  exact g0_at x0 x1 x4 r l

/-- The first block's gradients of gate 0's biases. -/
theorem dbA0 (l : Fin 1024) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 (ix2 0 (⟨0 + l.val, by omega⟩ : Fin 3072)) = ∑ r : Fin 512, bIn x0 x1 x4 x7 r l := by
  frame_out
  exact (three0 (R := 1) _ _ _ _ _ _ 0 l).trans (s0_at x0 x1 x4 x7 l)

/-- The gradients of gate 1's inputs. -/
theorem dlA1 (r : Fin 512) (l : Fin 1024) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 (ix2 r (⟨1024 + l.val, by omega⟩ : Fin 3072)) = bIn x0 x2 x5 x8 r l := by
  frame_out
  exact (three1 _ _ _ _ _ _ r l).trans (p1_at x0 x2 x5 x8 r l)

/-- The gradient of product 1. -/
theorem dpA1 (r : Fin 512) (l : Fin 1024) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 (ix2 r l) = x0 (ix2 r l) * Ideal.logistic (x2 (ix2 r l) + x5 (ix2 0 l)) := by
  frame_out
  exact g1_at x0 x2 x5 r l

/-- The first block's gradients of gate 1's biases. -/
theorem dbA1 (l : Fin 1024) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 (ix2 0 (⟨1024 + l.val, by omega⟩ : Fin 3072)) = ∑ r : Fin 512, bIn x0 x2 x5 x8 r l := by
  frame_out
  exact (three1 (R := 1) _ _ _ _ _ _ 0 l).trans (s1_at x0 x2 x5 x8 l)

/-- The gradients of gate 2's inputs. -/
theorem dlA2 (r : Fin 512) (l : Fin 1024) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 (ix2 r (⟨2048 + l.val, by omega⟩ : Fin 3072)) = bIn x0 x3 x6 x9 r l := by
  frame_out
  exact (three2 _ _ _ _ _ _ r l).trans (p2_at x0 x3 x6 x9 r l)

/-- The gradient of product 2. -/
theorem dpA2 (r : Fin 512) (l : Fin 1024) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 (ix2 r l) = x0 (ix2 r l) * Ideal.logistic (x3 (ix2 r l) + x6 (ix2 0 l)) := by
  frame_out
  exact g2_at x0 x3 x6 r l

/-- The first block's gradients of gate 2's biases. -/
theorem dbA2 (l : Fin 1024) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 (ix2 0 (⟨2048 + l.val, by omega⟩ : Fin 3072)) = ∑ r : Fin 512, bIn x0 x3 x6 x9 r l := by
  frame_out
  exact (three2 (R := 1) _ _ _ _ _ _ 0 l).trans (s2_at x0 x3 x6 x9 l)

end

section

variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x3072 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1x3072 .f32) (harg15 : arg15.IsWhole) (hc0 : ¬cond0_0 i) (hc1 : cond0_1 i) (hc2 : ¬cond0_2 i) (hc3 : cond0_3 i) (hc4 : ¬cond0_4 i) (hc5 : cond0_5 i) (x0 : Vec Ideal S512x1024 .f32) (x1 : Vec Ideal S512x1024 .bf16) (x2 : Vec Ideal S512x1024 .bf16) (x3 : Vec Ideal S512x1024 .bf16) (x4 : Vec Ideal S1x1024 .f32) (x5 : Vec Ideal S1x1024 .f32) (x6 : Vec Ideal S1x1024 .f32) (x7 : Vec Ideal S512x1024 .bf16) (x8 : Vec Ideal S512x1024 .bf16) (x9 : Vec Ideal S512x1024 .bf16) (xo14 : Vec Ideal S1x3072 .f32)

/-- The gradients of gate 0's inputs. -/
theorem dlB0 (r : Fin 512) (l : Fin 1024) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 xo14 (ix2 r (⟨0 + l.val, by omega⟩ : Fin 3072)) = bIn x0 x1 x4 x7 r l := by
  frame_out
  exact (three0 _ _ _ _ _ _ r l).trans (p0_at x0 x1 x4 x7 r l)

/-- The gradient of product 0. -/
theorem dpB0 (r : Fin 512) (l : Fin 1024) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 xo14 (ix2 r l) = x0 (ix2 r l) * Ideal.logistic (x1 (ix2 r l) + x4 (ix2 0 l)) := by
  frame_out
  exact g0_at x0 x1 x4 r l

/-- A later block's, added to what the blocks before left. -/
theorem dbB0 (l : Fin 1024) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 xo14 (ix2 0 (⟨0 + l.val, by omega⟩ : Fin 3072)) = xo14 (ix2 0 (⟨0 + l.val, by omega⟩ : Fin 3072)) + ∑ r : Fin 512, bIn x0 x1 x4 x7 r l := by
  frame_out
  refine (three0 (R := 1) _ _ _ _ _ _ 0 l).trans ?_
  pointwise [k0_pay10]
  exact congrArg₂ (fun y z : EReal => y + z) (congrArg (fun q : Fin 3072 => xo14 (ix2 0 q)) (Fin.ext (by simp))) (s0_at x0 x1 x4 x7 l)

/-- The gradients of gate 1's inputs. -/
theorem dlB1 (r : Fin 512) (l : Fin 1024) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 xo14 (ix2 r (⟨1024 + l.val, by omega⟩ : Fin 3072)) = bIn x0 x2 x5 x8 r l := by
  frame_out
  exact (three1 _ _ _ _ _ _ r l).trans (p1_at x0 x2 x5 x8 r l)

/-- The gradient of product 1. -/
theorem dpB1 (r : Fin 512) (l : Fin 1024) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 xo14 (ix2 r l) = x0 (ix2 r l) * Ideal.logistic (x2 (ix2 r l) + x5 (ix2 0 l)) := by
  frame_out
  exact g1_at x0 x2 x5 r l

/-- A later block's, added to what the blocks before left. -/
theorem dbB1 (l : Fin 1024) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 xo14 (ix2 0 (⟨1024 + l.val, by omega⟩ : Fin 3072)) = xo14 (ix2 0 (⟨1024 + l.val, by omega⟩ : Fin 3072)) + ∑ r : Fin 512, bIn x0 x2 x5 x8 r l := by
  frame_out
  refine (three1 (R := 1) _ _ _ _ _ _ 0 l).trans ?_
  pointwise [k0_pay16]
  exact congrArg₂ (fun y z : EReal => y + z) (congrArg (fun q : Fin 3072 => xo14 (ix2 0 q)) (Fin.ext (by simp))) (s1_at x0 x2 x5 x8 l)

/-- The gradients of gate 2's inputs. -/
theorem dlB2 (r : Fin 512) (l : Fin 1024) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 xo14 (ix2 r (⟨2048 + l.val, by omega⟩ : Fin 3072)) = bIn x0 x3 x6 x9 r l := by
  frame_out
  exact (three2 _ _ _ _ _ _ r l).trans (p2_at x0 x3 x6 x9 r l)

/-- The gradient of product 2. -/
theorem dpB2 (r : Fin 512) (l : Fin 1024) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 xo14 (ix2 r l) = x0 (ix2 r l) * Ideal.logistic (x3 (ix2 r l) + x6 (ix2 0 l)) := by
  frame_out
  exact g2_at x0 x3 x6 r l

/-- A later block's, added to what the blocks before left. -/
theorem dbB2 (l : Fin 1024) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 hc5 x0 x1 x2 x3 x4 x5 x6 x7 x8 x9 xo14 (ix2 0 (⟨2048 + l.val, by omega⟩ : Fin 3072)) = xo14 (ix2 0 (⟨2048 + l.val, by omega⟩ : Fin 3072)) + ∑ r : Fin 512, bIn x0 x3 x6 x9 r l := by
  frame_out
  refine (three2 (R := 1) _ _ _ _ _ _ 0 l).trans ?_
  pointwise [k0_pay4]
  exact congrArg₂ (fun y z : EReal => y + z) (congrArg (fun q : Fin 3072 => xo14 (ix2 0 q)) (Fin.ext (by simp))) (s2_at x0 x3 x6 x9 l)

end

theorem idx : ∀ t : Fin cfg0.N, win0_0.index t = ![t.val, 0] ∧ win0_1.index t = ![t.val, 0] ∧ win0_4.index t = ![0, 0] ∧ win0_7.index t = ![t.val, 0] ∧ win0_11.index t = ![t.val, 0]
    ∧ win0_2.index t = ![t.val, 1] ∧ win0_5.index t = ![0, 1] ∧ win0_8.index t = ![t.val, 0] ∧ win0_12.index t = ![t.val, 0]
    ∧ win0_3.index t = ![t.val, 2] ∧ win0_6.index t = ![0, 2] ∧ win0_9.index t = ![t.val, 0] ∧ win0_13.index t = ![t.val, 0]
    ∧ win0_10.index t = ![t.val, 0] ∧ win0_14.index t = ![0, 0] :=
  (by decide +kernel : ∀ t : Fin grid0.N, _)

variable (m : (ℓ : Loc nD τ sig) → Buf (Elt Ideal) ℓ) (c : Dev nD)

/-- The six arguments. -/
abbrev A0 : S4096x1024.Idx → EReal := m ((c : Thread nD τ).loc main_arg0)
abbrev A1 : S4096x6144.Idx → EReal := m ((c : Thread nD τ).loc main_arg1)
abbrev A2 : S1x3072.Idx → EReal := m ((c : Thread nD τ).loc main_arg2)
abbrev A3 : S4096x1024.Idx → EReal := m ((c : Thread nD τ).loc main_arg3)
abbrev A4 : S4096x1024.Idx → EReal := m ((c : Thread nD τ).loc main_arg4)
abbrev A5 : S4096x1024.Idx → EReal := m ((c : Thread nD τ).loc main_arg5)

/-- A point's blocks. -/
abbrev B0 (t : Fin cfg0.N) : FVec Ideal S512x1024 .f32 := iblk m c 0 t
abbrev B1 (t : Fin cfg0.N) : FVec Ideal S512x1024 .bf16 := iblk m c 1 t
abbrev B2 (t : Fin cfg0.N) : FVec Ideal S512x1024 .bf16 := iblk m c 2 t
abbrev B3 (t : Fin cfg0.N) : FVec Ideal S512x1024 .bf16 := iblk m c 3 t
abbrev B4 (t : Fin cfg0.N) : FVec Ideal S1x1024 .f32 := iblk m c 4 t
abbrev B5 (t : Fin cfg0.N) : FVec Ideal S1x1024 .f32 := iblk m c 5 t
abbrev B6 (t : Fin cfg0.N) : FVec Ideal S1x1024 .f32 := iblk m c 6 t
abbrev B7 (t : Fin cfg0.N) : FVec Ideal S512x1024 .bf16 := iblk m c 7 t
abbrev B8 (t : Fin cfg0.N) : FVec Ideal S512x1024 .bf16 := iblk m c 8 t
abbrev B9 (t : Fin cfg0.N) : FVec Ideal S512x1024 .bf16 := iblk m c 9 t

theorem B0_at (t : Fin cfg0.N) (ht : t.val < 8) (r : Fin 512) (l : Fin 1024) :
    (B0 m c t (ix2 r l) : EReal) = A0 m c (ix2 (at' (512 * t.val + r.val)) l) := by
  rw [at'_eq (n := 4096) (512 * t.val + r.val) ⟨512 * t.val + r.val, by omega⟩ rfl]
  blk_point [iblk, V, idx t]

theorem B1_at (t : Fin cfg0.N) (ht : t.val < 8) (r : Fin 512) (l : Fin 1024) :
    (B1 m c t (ix2 r l) : EReal) = A1 m c (ix2 (at' (512 * t.val + r.val)) (⟨0 + l.val, by omega⟩ : Fin 6144)) := by
  rw [at'_eq (n := 4096) (512 * t.val + r.val) ⟨512 * t.val + r.val, by omega⟩ rfl]
  blk_point [iblk, V, idx t]

theorem B2_at (t : Fin cfg0.N) (ht : t.val < 8) (r : Fin 512) (l : Fin 1024) :
    (B2 m c t (ix2 r l) : EReal) = A1 m c (ix2 (at' (512 * t.val + r.val)) (⟨1024 + l.val, by omega⟩ : Fin 6144)) := by
  rw [at'_eq (n := 4096) (512 * t.val + r.val) ⟨512 * t.val + r.val, by omega⟩ rfl]
  blk_point [iblk, V, idx t]

theorem B3_at (t : Fin cfg0.N) (ht : t.val < 8) (r : Fin 512) (l : Fin 1024) :
    (B3 m c t (ix2 r l) : EReal) = A1 m c (ix2 (at' (512 * t.val + r.val)) (⟨2048 + l.val, by omega⟩ : Fin 6144)) := by
  rw [at'_eq (n := 4096) (512 * t.val + r.val) ⟨512 * t.val + r.val, by omega⟩ rfl]
  blk_point [iblk, V, idx t]

theorem B4_at (t : Fin cfg0.N) (l : Fin 1024) : (B4 m c t (ix2 0 l) : EReal) = A2 m c (ix2 0 (⟨0 + l.val, by omega⟩ : Fin 3072)) := by
  blk_point [iblk, V, idx t]

theorem B5_at (t : Fin cfg0.N) (l : Fin 1024) : (B5 m c t (ix2 0 l) : EReal) = A2 m c (ix2 0 (⟨1024 + l.val, by omega⟩ : Fin 3072)) := by
  blk_point [iblk, V, idx t]

theorem B6_at (t : Fin cfg0.N) (l : Fin 1024) : (B6 m c t (ix2 0 l) : EReal) = A2 m c (ix2 0 (⟨2048 + l.val, by omega⟩ : Fin 3072)) := by
  blk_point [iblk, V, idx t]

theorem B7_at (t : Fin cfg0.N) (ht : t.val < 8) (r : Fin 512) (l : Fin 1024) :
    (B7 m c t (ix2 r l) : EReal) = A3 m c (ix2 (at' (512 * t.val + r.val)) l) := by
  rw [at'_eq (n := 4096) (512 * t.val + r.val) ⟨512 * t.val + r.val, by omega⟩ rfl]
  blk_point [iblk, V, idx t]

theorem B8_at (t : Fin cfg0.N) (ht : t.val < 8) (r : Fin 512) (l : Fin 1024) :
    (B8 m c t (ix2 r l) : EReal) = A4 m c (ix2 (at' (512 * t.val + r.val)) l) := by
  rw [at'_eq (n := 4096) (512 * t.val + r.val) ⟨512 * t.val + r.val, by omega⟩ rfl]
  blk_point [iblk, V, idx t]

theorem B9_at (t : Fin cfg0.N) (ht : t.val < 8) (r : Fin 512) (l : Fin 1024) :
    (B9 m c t (ix2 r l) : EReal) = A5 m c (ix2 (at' (512 * t.val + r.val)) l) := by
  rw [at'_eq (n := 4096) (512 * t.val + r.val) ⟨512 * t.val + r.val, by omega⟩ rfl]
  blk_point [iblk, V, idx t]

theorem row_val (t : Fin cfg0.N) (ht : t.val < 8) (r : Fin 512) : ((at' (512 * t.val + r.val) : Fin 4096)).val = 512 * t.val + r.val :=
  congrArg Fin.val (at'_eq (n := 4096) (512 * t.val + r.val) ⟨512 * t.val + r.val, by omega⟩ rfl)

/-- A block's gradients are the whole arrays'. -/
theorem bIn0_at (t : Fin cfg0.N) (ht : t.val < 8) (r : Fin 512) (l : Fin 1024) :
    bIn (B0 m c t) (B1 m c t) (B4 m c t) (B7 m c t) r l = dIn (A0 m c) (A1 m c) (A2 m c) (A3 m c) (A4 m c) (A5 m c) (512 * t.val + r.val) (⟨0 + l.val, by omega⟩ : Fin 3072) := by
  rw [bIn, dIn, zIn, col0, pick0, B0_at m c t ht, B1_at m c t ht, B4_at, B7_at m c t ht]

theorem dl0_at (t : Fin cfg0.N) (ht : t.val < 8) (r : Fin 512) (l : Fin 1024) :
    ((outsAt0 m c t.val t.isLt).1 (ix2 r (⟨0 + l.val, by omega⟩ : Fin 3072)) : EReal) = dIn (A0 m c) (A1 m c) (A2 m c) (A3 m c) (A4 m c) (A5 m c) (512 * t.val + r.val) (⟨0 + l.val, by omega⟩ : Fin 3072) := by
  rw [← bIn0_at m c t ht r l]
  by_cases h : t.val = 0
  · rw [outsAt0_A m c t (by omega) (by omega) (by omega) (by omega) (by omega) (by omega)]
    dsimp only
    rw [dlA0]
  · rw [outsAt0_B m c t (by omega) (by omega) (by omega) (by omega) (by omega) (by omega)]
    dsimp only
    rw [dlB0]

theorem dp0_at (t : Fin cfg0.N) (ht : t.val < 8) (r : Fin 512) (l : Fin 1024) :
    ((outsAt0 m c t.val t.isLt).2.1 (ix2 r l) : EReal) = resP (A0 m c) (A1 m c) (A2 m c) 0 (ix2 (at' (512 * t.val + r.val)) l) := by
  have key : ((outsAt0 m c t.val t.isLt).2.1 (ix2 r l) : EReal)
      = B0 m c t (ix2 r l) * Ideal.logistic (B1 m c t (ix2 r l) + B4 m c t (ix2 0 l)) := by
    by_cases h : t.val = 0
    · rw [outsAt0_A m c t (by omega) (by omega) (by omega) (by omega) (by omega) (by omega)]
      dsimp only
      rw [dpA0]
    · rw [outsAt0_B m c t (by omega) (by omega) (by omega) (by omega) (by omega) (by omega)]
      dsimp only
      rw [dpB0]
  show _ = A0 m c (ix2 (at' ((at' (512 * t.val + r.val) : Fin 4096)).val) l)
    * Ideal.logistic (A1 m c (ix2 (at' ((at' (512 * t.val + r.val) : Fin 4096)).val) (⟨0 + l.val, by omega⟩ : Fin 6144)) + A2 m c (ix2 0 (⟨0 + l.val, by omega⟩ : Fin 3072)))
  rw [key, row_val t ht r, B0_at m c t ht, B1_at m c t ht, B4_at]

theorem first0_at (t : Fin cfg0.N) (ht : t.val < 8) (h : t.val = 0) (l : Fin 1024) :
    ((outsAt0 m c t.val t.isLt).2.2.2.2 (ix2 0 (⟨0 + l.val, by omega⟩ : Fin 3072)) : EReal) = ∑ r : Fin 512, dIn (A0 m c) (A1 m c) (A2 m c) (A3 m c) (A4 m c) (A5 m c) (512 * t.val + r.val) (⟨0 + l.val, by omega⟩ : Fin 3072) := by
  rw [← Finset.sum_congr rfl fun r _ => bIn0_at m c t ht r l, outsAt0_A m c t (by omega) (by omega) (by omega) (by omega) (by omega) (by omega)]
  dsimp only
  rw [dbA0]

theorem next0_at (t : Fin cfg0.N) (ht : t.val < 8) (h : ¬t.val = 0) (l : Fin 1024) :
    ((outsAt0 m c t.val t.isLt).2.2.2.2 (ix2 0 (⟨0 + l.val, by omega⟩ : Fin 3072)) : EReal)
      = (outsAt0 m c (t.val - 1) (Nat.lt_of_le_of_lt (Nat.sub_le _ _) t.isLt)).2.2.2.2 (ix2 0 (⟨0 + l.val, by omega⟩ : Fin 3072))
        + ∑ r : Fin 512, dIn (A0 m c) (A1 m c) (A2 m c) (A3 m c) (A4 m c) (A5 m c) (512 * t.val + r.val) (⟨0 + l.val, by omega⟩ : Fin 3072) := by
  rw [← Finset.sum_congr rfl fun r _ => bIn0_at m c t ht r l, outsAt0_B m c t (by omega) (by omega) (by omega) (by omega) (by omega) (by omega)]
  dsimp only
  rw [dbB0]

/-- A block's gradients are the whole arrays'. -/
theorem bIn1_at (t : Fin cfg0.N) (ht : t.val < 8) (r : Fin 512) (l : Fin 1024) :
    bIn (B0 m c t) (B2 m c t) (B5 m c t) (B8 m c t) r l = dIn (A0 m c) (A1 m c) (A2 m c) (A3 m c) (A4 m c) (A5 m c) (512 * t.val + r.val) (⟨1024 + l.val, by omega⟩ : Fin 3072) := by
  rw [bIn, dIn, zIn, col1, pick1, B0_at m c t ht, B2_at m c t ht, B5_at, B8_at m c t ht]

theorem dl1_at (t : Fin cfg0.N) (ht : t.val < 8) (r : Fin 512) (l : Fin 1024) :
    ((outsAt0 m c t.val t.isLt).1 (ix2 r (⟨1024 + l.val, by omega⟩ : Fin 3072)) : EReal) = dIn (A0 m c) (A1 m c) (A2 m c) (A3 m c) (A4 m c) (A5 m c) (512 * t.val + r.val) (⟨1024 + l.val, by omega⟩ : Fin 3072) := by
  rw [← bIn1_at m c t ht r l]
  by_cases h : t.val = 0
  · rw [outsAt0_A m c t (by omega) (by omega) (by omega) (by omega) (by omega) (by omega)]
    dsimp only
    rw [dlA1]
  · rw [outsAt0_B m c t (by omega) (by omega) (by omega) (by omega) (by omega) (by omega)]
    dsimp only
    rw [dlB1]

theorem dp1_at (t : Fin cfg0.N) (ht : t.val < 8) (r : Fin 512) (l : Fin 1024) :
    ((outsAt0 m c t.val t.isLt).2.2.1 (ix2 r l) : EReal) = resP (A0 m c) (A1 m c) (A2 m c) 1 (ix2 (at' (512 * t.val + r.val)) l) := by
  have key : ((outsAt0 m c t.val t.isLt).2.2.1 (ix2 r l) : EReal)
      = B0 m c t (ix2 r l) * Ideal.logistic (B2 m c t (ix2 r l) + B5 m c t (ix2 0 l)) := by
    by_cases h : t.val = 0
    · rw [outsAt0_A m c t (by omega) (by omega) (by omega) (by omega) (by omega) (by omega)]
      dsimp only
      rw [dpA1]
    · rw [outsAt0_B m c t (by omega) (by omega) (by omega) (by omega) (by omega) (by omega)]
      dsimp only
      rw [dpB1]
  show _ = A0 m c (ix2 (at' ((at' (512 * t.val + r.val) : Fin 4096)).val) l)
    * Ideal.logistic (A1 m c (ix2 (at' ((at' (512 * t.val + r.val) : Fin 4096)).val) (⟨1024 + l.val, by omega⟩ : Fin 6144)) + A2 m c (ix2 0 (⟨1024 + l.val, by omega⟩ : Fin 3072)))
  rw [key, row_val t ht r, B0_at m c t ht, B2_at m c t ht, B5_at]

theorem first1_at (t : Fin cfg0.N) (ht : t.val < 8) (h : t.val = 0) (l : Fin 1024) :
    ((outsAt0 m c t.val t.isLt).2.2.2.2 (ix2 0 (⟨1024 + l.val, by omega⟩ : Fin 3072)) : EReal) = ∑ r : Fin 512, dIn (A0 m c) (A1 m c) (A2 m c) (A3 m c) (A4 m c) (A5 m c) (512 * t.val + r.val) (⟨1024 + l.val, by omega⟩ : Fin 3072) := by
  rw [← Finset.sum_congr rfl fun r _ => bIn1_at m c t ht r l, outsAt0_A m c t (by omega) (by omega) (by omega) (by omega) (by omega) (by omega)]
  dsimp only
  rw [dbA1]

theorem next1_at (t : Fin cfg0.N) (ht : t.val < 8) (h : ¬t.val = 0) (l : Fin 1024) :
    ((outsAt0 m c t.val t.isLt).2.2.2.2 (ix2 0 (⟨1024 + l.val, by omega⟩ : Fin 3072)) : EReal)
      = (outsAt0 m c (t.val - 1) (Nat.lt_of_le_of_lt (Nat.sub_le _ _) t.isLt)).2.2.2.2 (ix2 0 (⟨1024 + l.val, by omega⟩ : Fin 3072))
        + ∑ r : Fin 512, dIn (A0 m c) (A1 m c) (A2 m c) (A3 m c) (A4 m c) (A5 m c) (512 * t.val + r.val) (⟨1024 + l.val, by omega⟩ : Fin 3072) := by
  rw [← Finset.sum_congr rfl fun r _ => bIn1_at m c t ht r l, outsAt0_B m c t (by omega) (by omega) (by omega) (by omega) (by omega) (by omega)]
  dsimp only
  rw [dbB1]

/-- A block's gradients are the whole arrays'. -/
theorem bIn2_at (t : Fin cfg0.N) (ht : t.val < 8) (r : Fin 512) (l : Fin 1024) :
    bIn (B0 m c t) (B3 m c t) (B6 m c t) (B9 m c t) r l = dIn (A0 m c) (A1 m c) (A2 m c) (A3 m c) (A4 m c) (A5 m c) (512 * t.val + r.val) (⟨2048 + l.val, by omega⟩ : Fin 3072) := by
  rw [bIn, dIn, zIn, col2, pick2, B0_at m c t ht, B3_at m c t ht, B6_at, B9_at m c t ht]

theorem dl2_at (t : Fin cfg0.N) (ht : t.val < 8) (r : Fin 512) (l : Fin 1024) :
    ((outsAt0 m c t.val t.isLt).1 (ix2 r (⟨2048 + l.val, by omega⟩ : Fin 3072)) : EReal) = dIn (A0 m c) (A1 m c) (A2 m c) (A3 m c) (A4 m c) (A5 m c) (512 * t.val + r.val) (⟨2048 + l.val, by omega⟩ : Fin 3072) := by
  rw [← bIn2_at m c t ht r l]
  by_cases h : t.val = 0
  · rw [outsAt0_A m c t (by omega) (by omega) (by omega) (by omega) (by omega) (by omega)]
    dsimp only
    rw [dlA2]
  · rw [outsAt0_B m c t (by omega) (by omega) (by omega) (by omega) (by omega) (by omega)]
    dsimp only
    rw [dlB2]

theorem dp2_at (t : Fin cfg0.N) (ht : t.val < 8) (r : Fin 512) (l : Fin 1024) :
    ((outsAt0 m c t.val t.isLt).2.2.2.1 (ix2 r l) : EReal) = resP (A0 m c) (A1 m c) (A2 m c) 2 (ix2 (at' (512 * t.val + r.val)) l) := by
  have key : ((outsAt0 m c t.val t.isLt).2.2.2.1 (ix2 r l) : EReal)
      = B0 m c t (ix2 r l) * Ideal.logistic (B3 m c t (ix2 r l) + B6 m c t (ix2 0 l)) := by
    by_cases h : t.val = 0
    · rw [outsAt0_A m c t (by omega) (by omega) (by omega) (by omega) (by omega) (by omega)]
      dsimp only
      rw [dpA2]
    · rw [outsAt0_B m c t (by omega) (by omega) (by omega) (by omega) (by omega) (by omega)]
      dsimp only
      rw [dpB2]
  show _ = A0 m c (ix2 (at' ((at' (512 * t.val + r.val) : Fin 4096)).val) l)
    * Ideal.logistic (A1 m c (ix2 (at' ((at' (512 * t.val + r.val) : Fin 4096)).val) (⟨2048 + l.val, by omega⟩ : Fin 6144)) + A2 m c (ix2 0 (⟨2048 + l.val, by omega⟩ : Fin 3072)))
  rw [key, row_val t ht r, B0_at m c t ht, B3_at m c t ht, B6_at]

theorem first2_at (t : Fin cfg0.N) (ht : t.val < 8) (h : t.val = 0) (l : Fin 1024) :
    ((outsAt0 m c t.val t.isLt).2.2.2.2 (ix2 0 (⟨2048 + l.val, by omega⟩ : Fin 3072)) : EReal) = ∑ r : Fin 512, dIn (A0 m c) (A1 m c) (A2 m c) (A3 m c) (A4 m c) (A5 m c) (512 * t.val + r.val) (⟨2048 + l.val, by omega⟩ : Fin 3072) := by
  rw [← Finset.sum_congr rfl fun r _ => bIn2_at m c t ht r l, outsAt0_A m c t (by omega) (by omega) (by omega) (by omega) (by omega) (by omega)]
  dsimp only
  rw [dbA2]

theorem next2_at (t : Fin cfg0.N) (ht : t.val < 8) (h : ¬t.val = 0) (l : Fin 1024) :
    ((outsAt0 m c t.val t.isLt).2.2.2.2 (ix2 0 (⟨2048 + l.val, by omega⟩ : Fin 3072)) : EReal)
      = (outsAt0 m c (t.val - 1) (Nat.lt_of_le_of_lt (Nat.sub_le _ _) t.isLt)).2.2.2.2 (ix2 0 (⟨2048 + l.val, by omega⟩ : Fin 3072))
        + ∑ r : Fin 512, dIn (A0 m c) (A1 m c) (A2 m c) (A3 m c) (A4 m c) (A5 m c) (512 * t.val + r.val) (⟨2048 + l.val, by omega⟩ : Fin 3072) := by
  rw [← Finset.sum_congr rfl fun r _ => bIn2_at m c t ht r l, outsAt0_B m c t (by omega) (by omega) (by omega) (by omega) (by omega) (by omega)]
  dsimp only
  rw [dbB2]

/-- Every column is one of the three gates'. -/
theorem three_cases (q : Fin 3072) (P : Fin 3072 → Prop) (h0 : ∀ l : Fin 1024, P (⟨0 + l.val, by omega⟩ : Fin 3072)) (h1 : ∀ l : Fin 1024, P (⟨1024 + l.val, by omega⟩ : Fin 3072)) (h2 : ∀ l : Fin 1024, P (⟨2048 + l.val, by omega⟩ : Fin 3072)) : P q := by
  by_cases a : q.val < 1024
  · have e : (⟨0 + (⟨q.val, a⟩ : Fin 1024).val, by simp only; omega⟩ : Fin 3072) = q := Fin.ext (Nat.zero_add _)
    exact e ▸ h0 ⟨q.val, a⟩
  · by_cases b : q.val < 2048
    · have e : (⟨1024 + (⟨q.val - 1024, by omega⟩ : Fin 1024).val, by simp only; omega⟩ : Fin 3072) = q := Fin.ext (show 1024 + (q.val - 1024) = q.val by omega)
      exact e ▸ h1 ⟨q.val - 1024, by omega⟩
    · have e : (⟨2048 + (⟨q.val - 2048, by omega⟩ : Fin 1024).val, by simp only; omega⟩ : Fin 3072) = q := Fin.ext (show 2048 + (q.val - 2048) = q.val by omega)
      exact e ▸ h2 ⟨q.val - 2048, by omega⟩

theorem dl_at (t : Fin cfg0.N) (ht : t.val < 8) (r : Fin 512) (q : Fin 3072) :
    ((outsAt0 m c t.val t.isLt).1 (ix2 r q) : EReal) = dIn (A0 m c) (A1 m c) (A2 m c) (A3 m c) (A4 m c) (A5 m c) (512 * t.val + r.val) q :=
  three_cases q (fun q => ((outsAt0 m c t.val t.isLt).1 (ix2 r q) : EReal) = dIn (A0 m c) (A1 m c) (A2 m c) (A3 m c) (A4 m c) (A5 m c) (512 * t.val + r.val) q) (dl0_at m c t ht r) (dl1_at m c t ht r) (dl2_at m c t ht r)

theorem first_at (t : Fin cfg0.N) (ht : t.val < 8) (h : t.val = 0) (q : Fin 3072) :
    ((outsAt0 m c t.val t.isLt).2.2.2.2 (ix2 0 q) : EReal) = ∑ r : Fin 512, dIn (A0 m c) (A1 m c) (A2 m c) (A3 m c) (A4 m c) (A5 m c) (512 * t.val + r.val) q :=
  three_cases q (fun q => ((outsAt0 m c t.val t.isLt).2.2.2.2 (ix2 0 q) : EReal) = ∑ r : Fin 512, dIn (A0 m c) (A1 m c) (A2 m c) (A3 m c) (A4 m c) (A5 m c) (512 * t.val + r.val) q) (first0_at m c t ht h) (first1_at m c t ht h) (first2_at m c t ht h)

theorem next_at (t : Fin cfg0.N) (ht : t.val < 8) (h : ¬t.val = 0) (q : Fin 3072) :
    ((outsAt0 m c t.val t.isLt).2.2.2.2 (ix2 0 q) : EReal)
      = (outsAt0 m c (t.val - 1) (Nat.lt_of_le_of_lt (Nat.sub_le _ _) t.isLt)).2.2.2.2 (ix2 0 q)
        + ∑ r : Fin 512, dIn (A0 m c) (A1 m c) (A2 m c) (A3 m c) (A4 m c) (A5 m c) (512 * t.val + r.val) q :=
  three_cases q (fun q => ((outsAt0 m c t.val t.isLt).2.2.2.2 (ix2 0 q) : EReal) = (outsAt0 m c (t.val - 1) (Nat.lt_of_le_of_lt (Nat.sub_le _ _) t.isLt)).2.2.2.2 (ix2 0 q) + ∑ r : Fin 512, dIn (A0 m c) (A1 m c) (A2 m c) (A3 m c) (A4 m c) (A5 m c) (512 * t.val + r.val) q) (next0_at m c t ht h) (next1_at m c t ht h) (next2_at m c t ht h)

/-- The points' shares of the biases' gradients so far. -/
theorem acc_at (q : Fin 3072) : ∀ (p : ℕ) (t : Fin cfg0.N), t.val < 8 → t.val = p →
    ((outsAt0 m c t.val t.isLt).2.2.2.2 (ix2 0 q) : EReal) = ∑ i ∈ Finset.range (512 * (p + 1)), dIn (A0 m c) (A1 m c) (A2 m c) (A3 m c) (A4 m c) (A5 m c) i q := by
  intro p
  induction p with
  | zero =>
    intro t ht hp
    rw [sum_block, Nat.mul_zero, Finset.sum_range_zero, zero_add, first_at m c t ht hp, hp]
  | succ p ih =>
    intro t ht hp
    have h2 := ih ⟨t.val - 1, Nat.lt_of_le_of_lt (Nat.sub_le _ _) t.isLt⟩ (by dsimp only; omega) (by dsimp only; omega)
    rw [sum_block, next_at m c t ht (by omega)]
    exact congrArg₂ (fun x y : EReal => x + y) h2 (Finset.sum_congr rfl fun r _ => by rw [hp])

theorem emb14 (t : Fin cfg0.N) (y : S1x3072.Idx) : (win0_14.blk t).view.emb y = ix2 0 (y 1) := by
  rw [eq_ix2 ((win0_14.blk t).view.emb y)]
  refine congrArg₂ ix2 (Fin.ext ?_) (Fin.ext ?_) <;> blk_simp [idx t] <;> simp <;> omega

theorem finalB : (dats m 0 c).arrAt 14 cfg0.N = resB (A0 m c) (A1 m c) (A2 m c) (A3 m c) (A4 m c) (A5 m c) := by
  refine (dats m 0 c).arrAt_eq_of_covers 14 _ (by decide +kernel) fun t hf y => ?_
  have ht : t.val < 8 := lt_of_lt_of_eq t.isLt (show cfg0.N = 8 from N_0)
  have h7 : t.val = 7 := by
    have := (flush0_14 t).mp hf
    omega
  blk_simp
  rw [after0_14, emb14 _ y]
  have hy : y = ix2 0 (y 1) := by
    rw [eq_ix2 y]
    exact congrArg₂ ix2 (Subsingleton.elim (α := Fin 1) _ _) rfl
  refine (congrArg _ hy).trans ((acc_at m c (y 1) 7 t ht h7).trans ?_)
  exact Finset.sum_range (n := 4096) _

theorem emb10 (t : Fin cfg0.N) (ht : t.val < 8) (y : S512x3072.Idx) :
    (win0_10.blk t).view.emb y = ix2 (at' (512 * t.val + (y 0).val)) (y 1) := by
  have hy : (y 0).val < 512 := (y 0).isLt
  rw [at'_eq (n := 4096) (512 * t.val + (y 0).val) ⟨512 * t.val + (y 0).val, by omega⟩ rfl, eq_ix2 ((win0_10.blk t).view.emb y)]
  refine congrArg₂ ix2 (Fin.ext ?_) (Fin.ext ?_) <;> blk_simp [idx t] <;> simp <;> omega

theorem finalL : (dats m 0 c).arrAt 10 cfg0.N = resL (A0 m c) (A1 m c) (A2 m c) (A3 m c) (A4 m c) (A5 m c) := by
  refine (dats m 0 c).arrAt_eq_of_covers 10 _ (by decide +kernel) fun t hf y => ?_
  have ht : t.val < 8 := lt_of_lt_of_eq t.isLt (show cfg0.N = 8 from N_0)
  blk_simp
  rw [after0_10, emb10 t ht y]
  refine (congrArg _ (eq_ix2 y)).trans ((dl_at m c t ht (y 0) (y 1)).trans ?_)
  show _ = dIn (A0 m c) (A1 m c) (A2 m c) (A3 m c) (A4 m c) (A5 m c) ((at' (512 * t.val + (y 0).val) : Fin 4096)).val (y 1)
  exact congrArg (fun p => dIn (A0 m c) (A1 m c) (A2 m c) (A3 m c) (A4 m c) (A5 m c) p (y 1)) (row_val t ht (y 0)).symm

theorem emb11 (t : Fin cfg0.N) (ht : t.val < 8) (y : S512x1024.Idx) :
    (win0_11.blk t).view.emb y = ix2 (at' (512 * t.val + (y 0).val)) (y 1) := by
  have hy : (y 0).val < 512 := (y 0).isLt
  rw [at'_eq (n := 4096) (512 * t.val + (y 0).val) ⟨512 * t.val + (y 0).val, by omega⟩ rfl, eq_ix2 ((win0_11.blk t).view.emb y)]
  refine congrArg₂ ix2 (Fin.ext ?_) (Fin.ext ?_) <;> blk_simp [idx t] <;> simp <;> omega

theorem final0 : (dats m 0 c).arrAt 11 cfg0.N = resP (A0 m c) (A1 m c) (A2 m c) 0 := by
  refine (dats m 0 c).arrAt_eq_of_covers 11 _ (by decide +kernel) fun t hf y => ?_
  have ht : t.val < 8 := lt_of_lt_of_eq t.isLt (show cfg0.N = 8 from N_0)
  blk_simp
  rw [after0_11, emb11 t ht y]
  exact (congrArg _ (eq_ix2 y)).trans (dp0_at m c t ht (y 0) (y 1))

theorem emb12 (t : Fin cfg0.N) (ht : t.val < 8) (y : S512x1024.Idx) :
    (win0_12.blk t).view.emb y = ix2 (at' (512 * t.val + (y 0).val)) (y 1) := by
  have hy : (y 0).val < 512 := (y 0).isLt
  rw [at'_eq (n := 4096) (512 * t.val + (y 0).val) ⟨512 * t.val + (y 0).val, by omega⟩ rfl, eq_ix2 ((win0_12.blk t).view.emb y)]
  refine congrArg₂ ix2 (Fin.ext ?_) (Fin.ext ?_) <;> blk_simp [idx t] <;> simp <;> omega

theorem final1 : (dats m 0 c).arrAt 12 cfg0.N = resP (A0 m c) (A1 m c) (A2 m c) 1 := by
  refine (dats m 0 c).arrAt_eq_of_covers 12 _ (by decide +kernel) fun t hf y => ?_
  have ht : t.val < 8 := lt_of_lt_of_eq t.isLt (show cfg0.N = 8 from N_0)
  blk_simp
  rw [after0_12, emb12 t ht y]
  exact (congrArg _ (eq_ix2 y)).trans (dp1_at m c t ht (y 0) (y 1))

theorem emb13 (t : Fin cfg0.N) (ht : t.val < 8) (y : S512x1024.Idx) :
    (win0_13.blk t).view.emb y = ix2 (at' (512 * t.val + (y 0).val)) (y 1) := by
  have hy : (y 0).val < 512 := (y 0).isLt
  rw [at'_eq (n := 4096) (512 * t.val + (y 0).val) ⟨512 * t.val + (y 0).val, by omega⟩ rfl, eq_ix2 ((win0_13.blk t).view.emb y)]
  refine congrArg₂ ix2 (Fin.ext ?_) (Fin.ext ?_) <;> blk_simp [idx t] <;> simp <;> omega

theorem final2 : (dats m 0 c).arrAt 13 cfg0.N = resP (A0 m c) (A1 m c) (A2 m c) 2 := by
  refine (dats m 0 c).arrAt_eq_of_covers 13 _ (by decide +kernel) fun t hf y => ?_
  have ht : t.val < 8 := lt_of_lt_of_eq t.isLt (show cfg0.N = 8 from N_0)
  blk_simp
  rw [after0_13, emb13 t ht y]
  exact (congrArg _ (eq_ix2 y)).trans (dp2_at m c t ht (y 0) (y 1))

end Cert.GateBwdIdeal.Value

namespace Cert.GateBwdRefIdeal.Value

open Cert.GateBwdRefIdeal Cert.GateBwdRefIdeal.Gen Cert.MatMul

variable (m : (ℓ : Loc nD τ sig) → Buf (Elt Ideal) ℓ) (c : Dev nD)

/-- The six arguments. -/
abbrev R0 : S4096x1024.Idx → EReal := m ((c.tc : Thread nD τ).loc main_arg0)
abbrev R1 : S4096x6144.Idx → EReal := m ((c.tc : Thread nD τ).loc main_arg1)
abbrev R2 : S1x3072.Idx → EReal := m ((c.tc : Thread nD τ).loc main_arg2)
abbrev R3 : S4096x1024.Idx → EReal := m ((c.tc : Thread nD τ).loc main_arg3)
abbrev R4 : S4096x1024.Idx → EReal := m ((c.tc : Thread nD τ).loc main_arg4)
abbrev R5 : S4096x1024.Idx → EReal := m ((c.tc : Thread nD τ).loc main_arg5)

/-- Three parts put into the columns of the three gates, zero elsewhere, and added. -/
def padSum (f2 f1 f0 : Fin 1024 → EReal) (q : Fin 3072) : EReal :=
  ((if h : (2 ≤ q.val / 1024 ∧ q.val / 1024 - 2 < 1) ∧ q.val % 1024 < 1024 then f2 ⟨q.val % 1024, h.2⟩ else 0)
    + if h : (1 ≤ q.val / 1024 ∧ q.val / 1024 - 1 < 1) ∧ q.val % 1024 < 1024 then f1 ⟨q.val % 1024, h.2⟩ else 0)
    + if h : q.val / 1024 < 1 ∧ q.val % 1024 < 1024 then f0 ⟨q.val % 1024, h.2⟩ else 0

theorem padSum_eq (f2 f1 f0 : Fin 1024 → EReal) (q : Fin 3072) : padSum f2 f1 f0 q = Cert.GateBwdIdeal.Value.pick f0 f1 f2 q (Cert.GateBwdIdeal.Value.col q) := by
  have hq : q.val < 3072 := q.isLt
  unfold padSum Cert.GateBwdIdeal.Value.pick Cert.GateBwdIdeal.Value.col
  by_cases a : q.val < 1024
  · rw [dif_neg (by omega), dif_neg (by omega), dif_pos (by omega), if_pos a, zero_add, zero_add]
  · by_cases b : q.val < 2048
    · rw [dif_neg (by omega), dif_pos (by omega), dif_neg (by omega), if_neg a, if_pos b, zero_add, add_zero]
    · rw [dif_pos (by omega), dif_neg (by omega), dif_neg (by omega), if_neg a, if_neg b, add_zero, add_zero]

theorem row_eq (p : Fin 4096) : (at' p.val : Fin 4096) = p := at'_eq _ p rfl

/-- A gate's input. -/
abbrev zRow (p : Fin 4096) (q : Fin 3072) : EReal := R1 m c (ix2 p ⟨q.val, by omega⟩) + R2 m c (ix2 0 q)

theorem zRow_eq (p : Fin 4096) (q : Fin 3072) : zRow m c p q = Cert.GateBwdIdeal.Value.zIn (R1 m c) (R2 m c) p.val q := by
  unfold Cert.GateBwdIdeal.Value.zIn
  rw [row_eq]

/-- Its gradient as the reference's lines make it. -/
abbrev gLine (p : Fin 4096) (q : Fin 3072) : EReal :=
  padSum (fun l => R0 m c (ix2 p l) * R5 m c (ix2 p l)) (fun l => R0 m c (ix2 p l) * R4 m c (ix2 p l)) (fun l => R0 m c (ix2 p l) * R3 m c (ix2 p l)) q
    * (Ideal.logistic (zRow m c p q) * (1 - Ideal.logistic (zRow m c p q)))

theorem gLine_eq (p : Fin 4096) (q : Fin 3072) : gLine m c p q = Cert.GateBwdIdeal.Value.dIn (R0 m c) (R1 m c) (R2 m c) (R3 m c) (R4 m c) (R5 m c) p.val q := by
  rw [gLine, padSum_eq, zRow_eq]
  unfold Cert.GateBwdIdeal.Value.dIn Cert.GateBwdIdeal.Value.dGate
  rw [row_eq, mul_assoc (_ * _) (Ideal.logistic _)]
  refine congrArg (fun z : EReal => z * _) ?_
  unfold Cert.GateBwdIdeal.Value.pick
  split_ifs <;> rfl

/-- The reference's results. -/
theorem ref_l : (truncf .bf16 (mulf (shapeCast _ (addf (addf (pad S4096x3x1024 ![0, 2, 0] ![0, 0, 0] ![0, 0, 0] (broadcastInDim S4096x1x1024 ![0, 2] bcast_S4096x1024_S4096x1x1024_0_2 (mulf (shapeCast _ (m ((c.tc : Thread nD τ).loc main_arg0)) shapeCasts_S4096x1024_S4096x1024) (extf .f32 (m ((c.tc : Thread nD τ).loc main_arg5)) bitsLt_bf16_f32))) (constant S_ .f32 0x00000000#32) pads_S4096x1x1024_S4096x3x1024_000_200_000 h_S_) (pad S4096x3x1024 ![0, 1, 0] ![0, 1, 0] ![0, 0, 0] (broadcastInDim S4096x1x1024 ![0, 2] bcast_S4096x1024_S4096x1x1024_0_2 (mulf (shapeCast _ (m ((c.tc : Thread nD τ).loc main_arg0)) shapeCasts_S4096x1024_S4096x1024) (extf .f32 (m ((c.tc : Thread nD τ).loc main_arg4)) bitsLt_bf16_f32))) (constant S_ .f32 0x00000000#32) pads_S4096x1x1024_S4096x3x1024_000_110_000 h_S_)) (pad S4096x3x1024 ![0, 0, 0] ![0, 2, 0] ![0, 0, 0] (broadcastInDim S4096x1x1024 ![0, 2] bcast_S4096x1024_S4096x1x1024_0_2 (mulf (shapeCast _ (m ((c.tc : Thread nD τ).loc main_arg0)) shapeCasts_S4096x1024_S4096x1024) (extf .f32 (m ((c.tc : Thread nD τ).loc main_arg3)) bitsLt_bf16_f32))) (constant S_ .f32 0x00000000#32) pads_S4096x1x1024_S4096x3x1024_000_020_000 h_S_)) shapeCasts_S4096x3x1024_S4096x3072) (mulf (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extf .f32 (extractStridedSlice S4096x3072 ![0, 0] (m ((c.tc : Thread nD τ).loc main_arg1)) slices_S4096x6144_S4096x3072_0_0) bitsLt_bf16_f32) (broadcastInDim S4096x3072 ![0, 1] bcast_S1x3072_S4096x3072_0_1 (m ((c.tc : Thread nD τ).loc main_arg2)))))))) (subf (broadcastInDim S4096x3072 ![] bcast_S_S4096x3072 (constant S_ .f32 0x3F800000#32)) (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extf .f32 (extractStridedSlice S4096x3072 ![0, 0] (m ((c.tc : Thread nD τ).loc main_arg1)) slices_S4096x6144_S4096x3072_0_0) bitsLt_bf16_f32) (broadcastInDim S4096x3072 ![0, 1] bcast_S1x3072_S4096x3072_0_1 (m ((c.tc : Thread nD τ).loc main_arg2))))))))))) bitsLt_bf16_f32 : FVec Ideal S4096x3072 .bf16) = Cert.GateBwdIdeal.Value.resL (R0 m c) (R1 m c) (R2 m c) (R3 m c) (R4 m c) (R5 m c) := by
  funext j
  obtain ⟨p, q, rfl⟩ : ∃ (p : Fin 4096) (q : Fin 3072), j = ix2 p q := ⟨j 0, j 1, eq_ix2 j⟩
  pointwise
  exact Eq.trans (b := gLine m c p q) rfl (gLine_eq m c p q)

theorem ref_b : (shapeCast _ (Host.reduceAdd (mulf (shapeCast _ (addf (addf (pad S4096x3x1024 ![0, 2, 0] ![0, 0, 0] ![0, 0, 0] (broadcastInDim S4096x1x1024 ![0, 2] bcast_S4096x1024_S4096x1x1024_0_2 (mulf (shapeCast _ (m ((c.tc : Thread nD τ).loc main_arg0)) shapeCasts_S4096x1024_S4096x1024) (extf .f32 (m ((c.tc : Thread nD τ).loc main_arg5)) bitsLt_bf16_f32))) (constant S_ .f32 0x00000000#32) pads_S4096x1x1024_S4096x3x1024_000_200_000 h_S_) (pad S4096x3x1024 ![0, 1, 0] ![0, 1, 0] ![0, 0, 0] (broadcastInDim S4096x1x1024 ![0, 2] bcast_S4096x1024_S4096x1x1024_0_2 (mulf (shapeCast _ (m ((c.tc : Thread nD τ).loc main_arg0)) shapeCasts_S4096x1024_S4096x1024) (extf .f32 (m ((c.tc : Thread nD τ).loc main_arg4)) bitsLt_bf16_f32))) (constant S_ .f32 0x00000000#32) pads_S4096x1x1024_S4096x3x1024_000_110_000 h_S_)) (pad S4096x3x1024 ![0, 0, 0] ![0, 2, 0] ![0, 0, 0] (broadcastInDim S4096x1x1024 ![0, 2] bcast_S4096x1024_S4096x1x1024_0_2 (mulf (shapeCast _ (m ((c.tc : Thread nD τ).loc main_arg0)) shapeCasts_S4096x1024_S4096x1024) (extf .f32 (m ((c.tc : Thread nD τ).loc main_arg3)) bitsLt_bf16_f32))) (constant S_ .f32 0x00000000#32) pads_S4096x1x1024_S4096x3x1024_000_020_000 h_S_)) shapeCasts_S4096x3x1024_S4096x3072) (mulf (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extf .f32 (extractStridedSlice S4096x3072 ![0, 0] (m ((c.tc : Thread nD τ).loc main_arg1)) slices_S4096x6144_S4096x3072_0_0) bitsLt_bf16_f32) (broadcastInDim S4096x3072 ![0, 1] bcast_S1x3072_S4096x3072_0_1 (m ((c.tc : Thread nD τ).loc main_arg2)))))))) (subf (broadcastInDim S4096x3072 ![] bcast_S_S4096x3072 (constant S_ .f32 0x3F800000#32)) (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extf .f32 (extractStridedSlice S4096x3072 ![0, 0] (m ((c.tc : Thread nD τ).loc main_arg1)) slices_S4096x6144_S4096x3072_0_0) bitsLt_bf16_f32) (broadcastInDim S4096x3072 ![0, 1] bcast_S1x3072_S4096x3072_0_1 (m ((c.tc : Thread nD τ).loc main_arg2))))))))))) (constant S_ .f32 0x00000000#32) reducesTo_S4096x3072_S3072_d0 h_S_) shapeCasts_S3072_S1x3072 : FVec Ideal S1x3072 .f32) = Cert.GateBwdIdeal.Value.resB (R0 m c) (R1 m c) (R2 m c) (R3 m c) (R4 m c) (R5 m c) := by
  funext j
  obtain ⟨p, q, rfl⟩ : ∃ (p : Fin 1) (q : Fin 3072), j = ix2 p q := ⟨j 0, j 1, eq_ix2 j⟩
  obtain rfl : p = 0 := Subsingleton.elim (α := Fin 1) _ _
  pointwise
  refine Eq.trans (b := ∑ t : Fin 4096, (gLine m c t q : EReal)) rfl ?_
  exact Finset.sum_congr rfl fun t _ => gLine_eq m c t q

theorem ref_0 : (truncf .bf16 (mulf (shapeCast _ (extractStridedSlice S4096x1x1024 ![0, 0, 0] (shapeCast _ (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extf .f32 (extractStridedSlice S4096x3072 ![0, 0] (m ((c.tc : Thread nD τ).loc main_arg1)) slices_S4096x6144_S4096x3072_0_0) bitsLt_bf16_f32) (broadcastInDim S4096x3072 ![0, 1] bcast_S1x3072_S4096x3072_0_1 (m ((c.tc : Thread nD τ).loc main_arg2)))))))) shapeCasts_S4096x3072_S4096x3x1024) slices_S4096x3x1024_S4096x1x1024_0_0_0) shapeCasts_S4096x1x1024_S4096x1024) (shapeCast _ (m ((c.tc : Thread nD τ).loc main_arg0)) shapeCasts_S4096x1024_S4096x1024)) bitsLt_bf16_f32 : FVec Ideal S4096x1024 .bf16) = Cert.GateBwdIdeal.Value.resP (R0 m c) (R1 m c) (R2 m c) 0 := by
  funext j
  obtain ⟨p, q, rfl⟩ : ∃ (p : Fin 4096) (q : Fin 1024), j = ix2 p q := ⟨j 0, j 1, eq_ix2 j⟩
  pointwise
  refine Eq.trans (b := Ideal.logistic (zRow m c p ⟨1024 * 0 + q.val, by omega⟩) * R0 m c (ix2 p q)) ?_ ?_
  · show _ = Ideal.logistic (zRow m c p ⟨1024 * 0 + q.val, by omega⟩) * R0 m c (ix2 p q)
    simp only [Nat.mul_zero, Nat.zero_add]
    rfl
  · rw [zRow_eq, mul_comm]
    show _ = R0 m c (ix2 (at' p.val) q) * _
    rw [row_eq]
    rfl

theorem ref_1 : (truncf .bf16 (mulf (shapeCast _ (extractStridedSlice S4096x1x1024 ![0, 1, 0] (shapeCast _ (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extf .f32 (extractStridedSlice S4096x3072 ![0, 0] (m ((c.tc : Thread nD τ).loc main_arg1)) slices_S4096x6144_S4096x3072_0_0) bitsLt_bf16_f32) (broadcastInDim S4096x3072 ![0, 1] bcast_S1x3072_S4096x3072_0_1 (m ((c.tc : Thread nD τ).loc main_arg2)))))))) shapeCasts_S4096x3072_S4096x3x1024) slices_S4096x3x1024_S4096x1x1024_0_1_0) shapeCasts_S4096x1x1024_S4096x1024) (shapeCast _ (m ((c.tc : Thread nD τ).loc main_arg0)) shapeCasts_S4096x1024_S4096x1024)) bitsLt_bf16_f32 : FVec Ideal S4096x1024 .bf16) = Cert.GateBwdIdeal.Value.resP (R0 m c) (R1 m c) (R2 m c) 1 := by
  funext j
  obtain ⟨p, q, rfl⟩ : ∃ (p : Fin 4096) (q : Fin 1024), j = ix2 p q := ⟨j 0, j 1, eq_ix2 j⟩
  pointwise
  refine Eq.trans (b := Ideal.logistic (zRow m c p ⟨1024 * 1 + q.val, by omega⟩) * R0 m c (ix2 p q)) ?_ ?_
  · rfl
  · rw [zRow_eq, mul_comm]
    show _ = R0 m c (ix2 (at' p.val) q) * _
    rw [row_eq]
    rfl

theorem ref_2 : (truncf .bf16 (mulf (shapeCast _ (extractStridedSlice S4096x1x1024 ![0, 2, 0] (shapeCast _ (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extf .f32 (extractStridedSlice S4096x3072 ![0, 0] (m ((c.tc : Thread nD τ).loc main_arg1)) slices_S4096x6144_S4096x3072_0_0) bitsLt_bf16_f32) (broadcastInDim S4096x3072 ![0, 1] bcast_S1x3072_S4096x3072_0_1 (m ((c.tc : Thread nD τ).loc main_arg2)))))))) shapeCasts_S4096x3072_S4096x3x1024) slices_S4096x3x1024_S4096x1x1024_0_2_0) shapeCasts_S4096x1x1024_S4096x1024) (shapeCast _ (m ((c.tc : Thread nD τ).loc main_arg0)) shapeCasts_S4096x1024_S4096x1024)) bitsLt_bf16_f32 : FVec Ideal S4096x1024 .bf16) = Cert.GateBwdIdeal.Value.resP (R0 m c) (R1 m c) (R2 m c) 2 := by
  funext j
  obtain ⟨p, q, rfl⟩ : ∃ (p : Fin 4096) (q : Fin 1024), j = ix2 p q := ⟨j 0, j 1, eq_ix2 j⟩
  pointwise
  refine Eq.trans (b := Ideal.logistic (zRow m c p ⟨1024 * 2 + q.val, by omega⟩) * R0 m c (ix2 p q)) ?_ ?_
  · rfl
  · rw [zRow_eq, mul_comm]
    show _ = R0 m c (ix2 (at' p.val) q) * _
    rw [row_eq]
    rfl

end Cert.GateBwdRefIdeal.Value

end
-- ==== Proof.RmsMixFinal.lean ====
/- The norm of the mixing block's input: its blocks, and the reference's. -/
module

public import proofs.«01_k».proof.Proof.Gen.RmsMix
public import proofs.«01_k».proof.Proof.Gen.RmsMix.Frame
public import proofs.«01_k».proof.Proof.Gen.RmsMixIdeal
public import proofs.«01_k».proof.Proof.Gen.RmsMixIdeal.Skeleton
public import proofs.«01_k».proof.Proof.Gen.RmsMixIdeal.Launch
public import proofs.«01_k».proof.Proof.Gen.RmsMixIdeal.Points
public import proofs.«01_k».proof.Proof.Gen.RmsMixIdeal.Frame
public import proofs.«01_k».proof.Proof.Gen.RmsMixIdeal.Value
public import proofs.«01_k».proof.Proof.Gen.RmsMixRefIdeal
public import proofs.«01_k».proof.Proof.Gen.RmsMixRefIdeal.Run
public import proofs.«01_k».proof.Proof.NormRow

@[expose] public section

set_option maxRecDepth 16384

noncomputable section

open Idealize.ShloMosaic Idealize.ShloMosaic.TcCoe Idealize.SL.Sem

namespace Cert.RmsMixIdeal.Value

open Cert.RmsMixIdeal Cert.RmsMixIdeal.Gen Cert.NormRow

/-- Row `p` of the normed rows. -/
abbrev row (x : S4096x1024.Idx → EReal) (p : Fin 4096) : Fin 1024 → EReal := fun l => x (ix2 p l)

/-- The rows over the root of their mean square, by the weights. -/
def norm (x : S4096x1024.Idx → EReal) (g : S1x1024.Idx → EReal) : S4096x1024.Idx → EReal := fun j =>
  row x (j 0) (j 1) * rstd (Ideal.ofBits .f32 0x44800000#32) (row x (j 0)) * g (ix2 0 (j 1))

/-- A point's block. -/
theorem out_at (x : FVec Ideal S512x1024 .f32) (g : FVec Ideal S1x1024 .f32) (r : Fin 512) (l : Fin 1024) :
    out0_2 (F := Ideal) x g (ix2 r l) = x (ix2 r l) * rstd (Ideal.ofBits .f32 0x44800000#32) (fun l => x (ix2 r l)) * g (ix2 0 l) := by
  frame_out
  pointwise [k0_pay1]
  rfl

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

theorem iblk0_at (t : Fin cfg0.N) (ht : t.val < 8) (r : Fin 512) (l : Fin 1024) :
    (iblk m c 0 t : FVec Ideal S512x1024 .f32) (ix2 r l) = row (m ((c : Thread nD τ).loc main_arg0)) ⟨512 * t.val + r.val, by omega⟩ l := by
  blk_point [iblk, V, idx t]

theorem iblk1_at (t : Fin cfg0.N) (l : Fin 1024) :
    (iblk m c 1 t : FVec Ideal S1x1024 .f32) (ix2 0 l) = (m ((c : Thread nD τ).loc main_arg1) : S1x1024.Idx → EReal) (ix2 0 l) := by
  blk_point [iblk, V, idx t]

theorem embOut (t : Fin cfg0.N) (ht : t.val < 8) (r : Fin 512) (l : Fin 1024) :
    (win0_2.blk t).view.emb (ix2 r l) = ix2 (⟨512 * t.val + r.val, by omega⟩ : Fin 4096) l := by
  rw [eq_ix2 ((win0_2.blk t).view.emb (ix2 r l))]
  refine congrArg₂ ix2 (Fin.ext ?_) (Fin.ext ?_) <;> blk_simp [idx t] <;> simp <;> omega

/-- The result after the run. -/
theorem final : (dats m 0 c).arrAt 2 cfg0.N = norm (m ((c : Thread nD τ).loc main_arg0)) (m ((c : Thread nD τ).loc main_arg1)) := by
  refine (dats m 0 c).arrAt_eq_of_covers 2 _ (by decide +kernel) fun t hf y => ?_
  have ht : t.val < 8 := lt_of_lt_of_eq t.isLt (show cfg0.N = 8 from N_0)
  obtain ⟨r, l, rfl⟩ : ∃ (r : Fin 512) (l : Fin 1024), y = ix2 r l := ⟨y 0, y 1, eq_ix2 y⟩
  blk_simp
  rw [after0_2, embOut t ht r l]
  refine (out_at _ _ r l).trans ?_
  rw [show (fun l => (iblk m c 0 t : FVec Ideal S512x1024 .f32) (ix2 r l)) = row (m ((c : Thread nD τ).loc main_arg0)) ⟨512 * t.val + r.val, by omega⟩ from funext fun l => iblk0_at m c t ht r l]
  exact congrArg₂ (fun a b : EReal => a * rstd _ (row (m ((c : Thread nD τ).loc main_arg0)) _) * b) (iblk0_at m c t ht r l) (iblk1_at m c t l)

end Cert.RmsMixIdeal.Value

namespace Cert.RmsMixRefIdeal.Value

open Cert.RmsMixRefIdeal Cert.RmsMixRefIdeal.Gen

/-- The reference's result. -/
theorem ref_eq (x : FVec Ideal S4096x1024 .f32) (g : FVec Ideal S1x1024 .f32) :
    (truncf .bf16 (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) bitsLt_bf16_f32 : S4096x1024.Idx → EReal)
    = Cert.RmsMixIdeal.Value.norm x g := by
  funext j
  obtain ⟨p, q, rfl⟩ : ∃ (p : Fin 4096) (q : Fin 1024), j = ix2 p q := ⟨j 0, j 1, eq_ix2 j⟩
  pointwise
  rfl

end Cert.RmsMixRefIdeal.Value

end
-- ==== Proof.RmsQFinal.lean ====
/- The norm of the query latents: its blocks, and the reference's. -/
module

public import proofs.«01_k».proof.Proof.Gen.RmsQ
public import proofs.«01_k».proof.Proof.Gen.RmsQ.Frame
public import proofs.«01_k».proof.Proof.Gen.RmsQIdeal
public import proofs.«01_k».proof.Proof.Gen.RmsQIdeal.Skeleton
public import proofs.«01_k».proof.Proof.Gen.RmsQIdeal.Launch
public import proofs.«01_k».proof.Proof.Gen.RmsQIdeal.Points
public import proofs.«01_k».proof.Proof.Gen.RmsQIdeal.Frame
public import proofs.«01_k».proof.Proof.Gen.RmsQIdeal.Value
public import proofs.«01_k».proof.Proof.Gen.RmsQRefIdeal
public import proofs.«01_k».proof.Proof.Gen.RmsQRefIdeal.Run
public import proofs.«01_k».proof.Proof.NormRow

@[expose] public section

set_option maxRecDepth 16384

noncomputable section

open Idealize.ShloMosaic Idealize.ShloMosaic.TcCoe Idealize.SL.Sem

namespace Cert.RmsQIdeal.Value

open Cert.RmsQIdeal Cert.RmsQIdeal.Gen Cert.NormRow

/-- Row `p` of the normed rows. -/
abbrev row (x : S4096x6144.Idx → EReal) (p : Fin 4096) : Fin 384 → EReal := fun l => x (ix2 p ⟨3072 + l.val, by omega⟩)

/-- The rows over the root of their mean square, by the weights. -/
def norm (x : S4096x6144.Idx → EReal) (g : S1x384.Idx → EReal) : S4096x384.Idx → EReal := fun j =>
  row x (j 0) (j 1) * rstd (Ideal.ofBits .f32 0x43C00000#32) (row x (j 0)) * g (ix2 0 (j 1))

/-- A point's block. -/
theorem out_at (x : FVec Ideal S512x384 .bf16) (g : FVec Ideal S1x384 .f32) (r : Fin 512) (l : Fin 384) :
    out0_2 (F := Ideal) x g (ix2 r l) = x (ix2 r l) * rstd (Ideal.ofBits .f32 0x43C00000#32) (fun l => x (ix2 r l)) * g (ix2 0 l) := by
  frame_out
  pointwise [k0_pay1]
  rfl

theorem idx : ∀ t : Fin cfg0.N, win0_0.index t = ![t.val, 8] ∧ win0_1.index t = ![0, 0] ∧ win0_2.index t = ![t.val, 0] :=
  (by decide +kernel : ∀ t : Fin grid0.N, _)

variable (m : (ℓ : Loc nD τ sig) → Buf (Elt Ideal) ℓ) (c : Dev nD)

theorem iblk0_at (t : Fin cfg0.N) (ht : t.val < 8) (r : Fin 512) (l : Fin 384) :
    (iblk m c 0 t : FVec Ideal S512x384 .bf16) (ix2 r l) = row (m ((c : Thread nD τ).loc main_arg0)) ⟨512 * t.val + r.val, by omega⟩ l := by
  blk_point [iblk, V, idx t]

theorem iblk1_at (t : Fin cfg0.N) (l : Fin 384) :
    (iblk m c 1 t : FVec Ideal S1x384 .f32) (ix2 0 l) = (m ((c : Thread nD τ).loc main_arg1) : S1x384.Idx → EReal) (ix2 0 l) := by
  blk_point [iblk, V, idx t]

theorem embOut (t : Fin cfg0.N) (ht : t.val < 8) (r : Fin 512) (l : Fin 384) :
    (win0_2.blk t).view.emb (ix2 r l) = ix2 (⟨512 * t.val + r.val, by omega⟩ : Fin 4096) l := by
  rw [eq_ix2 ((win0_2.blk t).view.emb (ix2 r l))]
  refine congrArg₂ ix2 (Fin.ext ?_) (Fin.ext ?_) <;> blk_simp [idx t] <;> simp <;> omega

/-- The result after the run. -/
theorem final : (dats m 0 c).arrAt 2 cfg0.N = norm (m ((c : Thread nD τ).loc main_arg0)) (m ((c : Thread nD τ).loc main_arg1)) := by
  refine (dats m 0 c).arrAt_eq_of_covers 2 _ (by decide +kernel) fun t hf y => ?_
  have ht : t.val < 8 := lt_of_lt_of_eq t.isLt (show cfg0.N = 8 from N_0)
  obtain ⟨r, l, rfl⟩ : ∃ (r : Fin 512) (l : Fin 384), y = ix2 r l := ⟨y 0, y 1, eq_ix2 y⟩
  blk_simp
  rw [after0_2, embOut t ht r l]
  refine (out_at _ _ r l).trans ?_
  rw [show (fun l => (iblk m c 0 t : FVec Ideal S512x384 .bf16) (ix2 r l)) = row (m ((c : Thread nD τ).loc main_arg0)) ⟨512 * t.val + r.val, by omega⟩ from funext fun l => iblk0_at m c t ht r l]
  exact congrArg₂ (fun a b : EReal => a * rstd _ (row (m ((c : Thread nD τ).loc main_arg0)) _) * b) (iblk0_at m c t ht r l) (iblk1_at m c t l)

end Cert.RmsQIdeal.Value

namespace Cert.RmsQRefIdeal.Value

open Cert.RmsQRefIdeal Cert.RmsQRefIdeal.Gen

/-- The reference's result. -/
theorem ref_eq (x : FVec Ideal S4096x6144 .bf16) (g : FVec Ideal S1x384 .f32) :
    (truncf .bf16 (mulf (mulf (extf .f32 (extractStridedSlice S4096x384 ![0, 3072] x slices_S4096x6144_S4096x384_0_3072) bitsLt_bf16_f32) (broadcastInDim S4096x384 ![0, 1] bcast_S4096x1_S4096x384_0_1 (Host.rsqrt (addf (Host.divf (broadcastInDim S4096x1 ![0] bcast_S4096_S4096x1_0 (Host.reduceAdd (mulf (extf .f32 (extractStridedSlice S4096x384 ![0, 3072] x slices_S4096x6144_S4096x384_0_3072) bitsLt_bf16_f32) (extf .f32 (extractStridedSlice S4096x384 ![0, 3072] x slices_S4096x6144_S4096x384_0_3072) bitsLt_bf16_f32)) (constant S_ .f32 0x00000000#32) reducesTo_S4096x384_S4096_d1 h_S_)) (broadcastInDim S4096x1 ![] bcast_S_S4096x1 (constant S_ .f32 0x43C00000#32))) (broadcastInDim S4096x1 ![] bcast_S_S4096x1 (constant S_ .f32 0x358637BD#32)))))) (broadcastInDim S4096x384 ![0, 1] bcast_S1x384_S4096x384_0_1 g)) bitsLt_bf16_f32 : S4096x384.Idx → EReal)
    = Cert.RmsQIdeal.Value.norm x g := by
  funext j
  obtain ⟨p, q, rfl⟩ : ∃ (p : Fin 4096) (q : Fin 384), j = ix2 p q := ⟨j 0, j 1, eq_ix2 j⟩
  pointwise
  rfl

end Cert.RmsQRefIdeal.Value

end
-- ==== Proof.RmsKvFinal.lean ====
/- The norm of the key latents: its blocks, and the reference's. -/
module

public import proofs.«01_k».proof.Proof.Gen.RmsKv
public import proofs.«01_k».proof.Proof.Gen.RmsKv.Frame
public import proofs.«01_k».proof.Proof.Gen.RmsKvIdeal
public import proofs.«01_k».proof.Proof.Gen.RmsKvIdeal.Skeleton
public import proofs.«01_k».proof.Proof.Gen.RmsKvIdeal.Launch
public import proofs.«01_k».proof.Proof.Gen.RmsKvIdeal.Points
public import proofs.«01_k».proof.Proof.Gen.RmsKvIdeal.Frame
public import proofs.«01_k».proof.Proof.Gen.RmsKvIdeal.Value
public import proofs.«01_k».proof.Proof.Gen.RmsKvRefIdeal
public import proofs.«01_k».proof.Proof.Gen.RmsKvRefIdeal.Run
public import proofs.«01_k».proof.Proof.NormRow

@[expose] public section

set_option maxRecDepth 16384

noncomputable section

open Idealize.ShloMosaic Idealize.ShloMosaic.TcCoe Idealize.SL.Sem

namespace Cert.RmsKvIdeal.Value

open Cert.RmsKvIdeal Cert.RmsKvIdeal.Gen Cert.NormRow

/-- Row `p` of the normed rows. -/
abbrev row (x : S4096x6144.Idx → EReal) (p : Fin 4096) : Fin 256 → EReal := fun l => x (ix2 p ⟨3584 + l.val, by omega⟩)

/-- The rows over the root of their mean square, by the weights. -/
def norm (x : S4096x6144.Idx → EReal) (g : S1x256.Idx → EReal) : S4096x256.Idx → EReal := fun j =>
  row x (j 0) (j 1) * rstd (Ideal.ofBits .f32 0x43800000#32) (row x (j 0)) * g (ix2 0 (j 1))

/-- A point's block. -/
theorem out_at (x : FVec Ideal S512x256 .bf16) (g : FVec Ideal S1x256 .f32) (r : Fin 512) (l : Fin 256) :
    out0_2 (F := Ideal) x g (ix2 r l) = x (ix2 r l) * rstd (Ideal.ofBits .f32 0x43800000#32) (fun l => x (ix2 r l)) * g (ix2 0 l) := by
  frame_out
  pointwise [k0_pay1]
  rfl

theorem idx : ∀ t : Fin cfg0.N, win0_0.index t = ![t.val, 14] ∧ win0_1.index t = ![0, 0] ∧ win0_2.index t = ![t.val, 0] :=
  (by decide +kernel : ∀ t : Fin grid0.N, _)

variable (m : (ℓ : Loc nD τ sig) → Buf (Elt Ideal) ℓ) (c : Dev nD)

theorem iblk0_at (t : Fin cfg0.N) (ht : t.val < 8) (r : Fin 512) (l : Fin 256) :
    (iblk m c 0 t : FVec Ideal S512x256 .bf16) (ix2 r l) = row (m ((c : Thread nD τ).loc main_arg0)) ⟨512 * t.val + r.val, by omega⟩ l := by
  blk_point [iblk, V, idx t]

theorem iblk1_at (t : Fin cfg0.N) (l : Fin 256) :
    (iblk m c 1 t : FVec Ideal S1x256 .f32) (ix2 0 l) = (m ((c : Thread nD τ).loc main_arg1) : S1x256.Idx → EReal) (ix2 0 l) := by
  blk_point [iblk, V, idx t]

theorem embOut (t : Fin cfg0.N) (ht : t.val < 8) (r : Fin 512) (l : Fin 256) :
    (win0_2.blk t).view.emb (ix2 r l) = ix2 (⟨512 * t.val + r.val, by omega⟩ : Fin 4096) l := by
  rw [eq_ix2 ((win0_2.blk t).view.emb (ix2 r l))]
  refine congrArg₂ ix2 (Fin.ext ?_) (Fin.ext ?_) <;> blk_simp [idx t] <;> simp <;> omega

/-- The result after the run. -/
theorem final : (dats m 0 c).arrAt 2 cfg0.N = norm (m ((c : Thread nD τ).loc main_arg0)) (m ((c : Thread nD τ).loc main_arg1)) := by
  refine (dats m 0 c).arrAt_eq_of_covers 2 _ (by decide +kernel) fun t hf y => ?_
  have ht : t.val < 8 := lt_of_lt_of_eq t.isLt (show cfg0.N = 8 from N_0)
  obtain ⟨r, l, rfl⟩ : ∃ (r : Fin 512) (l : Fin 256), y = ix2 r l := ⟨y 0, y 1, eq_ix2 y⟩
  blk_simp
  rw [after0_2, embOut t ht r l]
  refine (out_at _ _ r l).trans ?_
  rw [show (fun l => (iblk m c 0 t : FVec Ideal S512x256 .bf16) (ix2 r l)) = row (m ((c : Thread nD τ).loc main_arg0)) ⟨512 * t.val + r.val, by omega⟩ from funext fun l => iblk0_at m c t ht r l]
  exact congrArg₂ (fun a b : EReal => a * rstd _ (row (m ((c : Thread nD τ).loc main_arg0)) _) * b) (iblk0_at m c t ht r l) (iblk1_at m c t l)

end Cert.RmsKvIdeal.Value

namespace Cert.RmsKvRefIdeal.Value

open Cert.RmsKvRefIdeal Cert.RmsKvRefIdeal.Gen

/-- The reference's result. -/
theorem ref_eq (x : FVec Ideal S4096x6144 .bf16) (g : FVec Ideal S1x256 .f32) :
    (truncf .bf16 (mulf (mulf (extf .f32 (extractStridedSlice S4096x256 ![0, 3584] x slices_S4096x6144_S4096x256_0_3584) bitsLt_bf16_f32) (broadcastInDim S4096x256 ![0, 1] bcast_S4096x1_S4096x256_0_1 (Host.rsqrt (addf (Host.divf (broadcastInDim S4096x1 ![0] bcast_S4096_S4096x1_0 (Host.reduceAdd (mulf (extf .f32 (extractStridedSlice S4096x256 ![0, 3584] x slices_S4096x6144_S4096x256_0_3584) bitsLt_bf16_f32) (extf .f32 (extractStridedSlice S4096x256 ![0, 3584] x slices_S4096x6144_S4096x256_0_3584) bitsLt_bf16_f32)) (constant S_ .f32 0x00000000#32) reducesTo_S4096x256_S4096_d1 h_S_)) (broadcastInDim S4096x1 ![] bcast_S_S4096x1 (constant S_ .f32 0x43800000#32))) (broadcastInDim S4096x1 ![] bcast_S_S4096x1 (constant S_ .f32 0x358637BD#32)))))) (broadcastInDim S4096x256 ![0, 1] bcast_S1x256_S4096x256_0_1 g)) bitsLt_bf16_f32 : S4096x256.Idx → EReal)
    = Cert.RmsKvIdeal.Value.norm x g := by
  funext j
  obtain ⟨p, q, rfl⟩ : ∃ (p : Fin 4096) (q : Fin 256), j = ix2 p q := ⟨j 0, j 1, eq_ix2 j⟩
  pointwise
  rfl

end Cert.RmsKvRefIdeal.Value

end
-- ==== Proof.RmsMemFinal.lean ====
/- The norm of the memory: its blocks, and the reference's. -/
module

public import proofs.«01_k».proof.Proof.Gen.RmsMem
public import proofs.«01_k».proof.Proof.Gen.RmsMem.Frame
public import proofs.«01_k».proof.Proof.Gen.RmsMemIdeal
public import proofs.«01_k».proof.Proof.Gen.RmsMemIdeal.Skeleton
public import proofs.«01_k».proof.Proof.Gen.RmsMemIdeal.Launch
public import proofs.«01_k».proof.Proof.Gen.RmsMemIdeal.Points
public import proofs.«01_k».proof.Proof.Gen.RmsMemIdeal.Frame
public import proofs.«01_k».proof.Proof.Gen.RmsMemIdeal.Value
public import proofs.«01_k».proof.Proof.Gen.RmsMemRefIdeal
public import proofs.«01_k».proof.Proof.Gen.RmsMemRefIdeal.Run
public import proofs.«01_k».proof.Proof.NormRow

@[expose] public section

set_option maxRecDepth 16384

noncomputable section

open Idealize.ShloMosaic Idealize.ShloMosaic.TcCoe Idealize.SL.Sem

namespace Cert.RmsMemIdeal.Value

open Cert.RmsMemIdeal Cert.RmsMemIdeal.Gen Cert.NormRow

/-- Row `p` of the normed rows. -/
abbrev row (x : S512x1024.Idx → EReal) (p : Fin 512) : Fin 1024 → EReal := fun l => x (ix2 p l)

/-- The rows over the root of their mean square, by the weights. -/
def norm (x : S512x1024.Idx → EReal) (g : S1x1024.Idx → EReal) : S512x1024.Idx → EReal := fun j =>
  row x (j 0) (j 1) * rstd (Ideal.ofBits .f32 0x44800000#32) (row x (j 0)) * g (ix2 0 (j 1))

/-- A point's block. -/
theorem out_at (x : FVec Ideal S512x1024 .f32) (g : FVec Ideal S1x1024 .f32) (r : Fin 512) (l : Fin 1024) :
    out0_2 (F := Ideal) x g (ix2 r l) = x (ix2 r l) * rstd (Ideal.ofBits .f32 0x44800000#32) (fun l => x (ix2 r l)) * g (ix2 0 l) := by
  frame_out
  pointwise [k0_pay1]
  rfl

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

theorem iblk0_at (t : Fin cfg0.N) (ht : t.val < 1) (r : Fin 512) (l : Fin 1024) :
    (iblk m c 0 t : FVec Ideal S512x1024 .f32) (ix2 r l) = row (m ((c : Thread nD τ).loc main_arg0)) ⟨512 * t.val + r.val, by omega⟩ l := by
  blk_point [iblk, V, idx t]

theorem iblk1_at (t : Fin cfg0.N) (l : Fin 1024) :
    (iblk m c 1 t : FVec Ideal S1x1024 .f32) (ix2 0 l) = (m ((c : Thread nD τ).loc main_arg1) : S1x1024.Idx → EReal) (ix2 0 l) := by
  blk_point [iblk, V, idx t]

theorem embOut (t : Fin cfg0.N) (ht : t.val < 1) (r : Fin 512) (l : Fin 1024) :
    (win0_2.blk t).view.emb (ix2 r l) = ix2 (⟨512 * t.val + r.val, by omega⟩ : Fin 512) l := by
  rw [eq_ix2 ((win0_2.blk t).view.emb (ix2 r l))]
  refine congrArg₂ ix2 (Fin.ext ?_) (Fin.ext ?_) <;> blk_simp [idx t] <;> simp <;> omega

/-- The result after the run. -/
theorem final : (dats m 0 c).arrAt 2 cfg0.N = norm (m ((c : Thread nD τ).loc main_arg0)) (m ((c : Thread nD τ).loc main_arg1)) := by
  refine (dats m 0 c).arrAt_eq_of_covers 2 _ (by decide +kernel) fun t hf y => ?_
  have ht : t.val < 1 := lt_of_lt_of_eq t.isLt (show cfg0.N = 1 from N_0)
  obtain ⟨r, l, rfl⟩ : ∃ (r : Fin 512) (l : Fin 1024), y = ix2 r l := ⟨y 0, y 1, eq_ix2 y⟩
  blk_simp
  rw [after0_2, embOut t ht r l]
  refine (out_at _ _ r l).trans ?_
  rw [show (fun l => (iblk m c 0 t : FVec Ideal S512x1024 .f32) (ix2 r l)) = row (m ((c : Thread nD τ).loc main_arg0)) ⟨512 * t.val + r.val, by omega⟩ from funext fun l => iblk0_at m c t ht r l]
  exact congrArg₂ (fun a b : EReal => a * rstd _ (row (m ((c : Thread nD τ).loc main_arg0)) _) * b) (iblk0_at m c t ht r l) (iblk1_at m c t l)

end Cert.RmsMemIdeal.Value

namespace Cert.RmsMemRefIdeal.Value

open Cert.RmsMemRefIdeal Cert.RmsMemRefIdeal.Gen

/-- The reference's result. -/
theorem ref_eq (x : FVec Ideal S512x1024 .f32) (g : FVec Ideal S1x1024 .f32) :
    (truncf .bf16 (mulf (mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 g)) bitsLt_bf16_f32 : S512x1024.Idx → EReal)
    = Cert.RmsMemIdeal.Value.norm x g := by
  funext j
  obtain ⟨p, q, rfl⟩ : ∃ (p : Fin 512) (q : Fin 1024), j = ix2 p q := ⟨j 0, j 1, eq_ix2 j⟩
  pointwise
  rfl

end Cert.RmsMemRefIdeal.Value

end
-- ==== Proof.GatesFinal.lean ====
/- The gated sum of the three branches' products: its blocks, and the reference's. -/
module

public import proofs.«01_k».proof.Proof.Gen.Gates
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.NormRow

@[expose] public section

set_option maxRecDepth 16384

noncomputable section

open Idealize.ShloMosaic Idealize.ShloMosaic.TcCoe Idealize.SL.Sem

namespace Cert.GatesIdeal.Value

open Cert.GatesIdeal Cert.GatesIdeal.Gen

/-- A gate of branch `b` by its product's entry. -/
def term (x : S4096x6144.Idx → EReal) (g : S1x3072.Idx → EReal) (p : S4096x1024.Idx → EReal) (b : ℕ) (hb : b < 3) (r : Fin 4096) (l : Fin 1024) : EReal :=
  Ideal.logistic (x (ix2 r ⟨1024 * b + l.val, by omega⟩) + g (ix2 0 ⟨1024 * b + l.val, by omega⟩)) * p (ix2 r l)

/-- The gated sum. -/
def merge (x : S4096x6144.Idx → EReal) (g : S1x3072.Idx → EReal) (p0 p1 p2 : S4096x1024.Idx → EReal) : S4096x1024.Idx → EReal := fun j =>
  term x g p0 0 (by decide) (j 0) (j 1) + term x g p1 1 (by decide) (j 0) (j 1) + term x g p2 2 (by decide) (j 0) (j 1)

/-- A point's block. -/
theorem out_at (x0 x1 x2 : FVec Ideal S512x1024 .bf16) (g0 g1 g2 : FVec Ideal S1x1024 .f32) (p0 p1 p2 : FVec Ideal S512x1024 .bf16) (r : Fin 512) (l : Fin 1024) :
    out0_9 (F := Ideal) x0 x1 x2 g0 g1 g2 p0 p1 p2 (ix2 r l) = (Ideal.logistic (x0 (ix2 r l) + g0 (ix2 0 l)) * p0 (ix2 r l)
      + Ideal.logistic (x1 (ix2 r l) + g1 (ix2 0 l)) * p1 (ix2 r l) + Ideal.logistic (x2 (ix2 r l) + g2 (ix2 0 l)) * p2 (ix2 r l) : EReal) := by
  frame_out
  pointwise [k0_pay1]

theorem idx : ∀ t : Fin cfg0.N, win0_0.index t = ![t.val, 0] ∧ win0_1.index t = ![t.val, 1] ∧ win0_2.index t = ![t.val, 2]
    ∧ win0_3.index t = ![0, 0] ∧ win0_4.index t = ![0, 1] ∧ win0_5.index t = ![0, 2]
    ∧ win0_6.index t = ![t.val, 0] ∧ win0_7.index t = ![t.val, 0] ∧ win0_8.index t = ![t.val, 0] ∧ win0_9.index t = ![t.val, 0] :=
  (by decide +kernel : ∀ t : Fin grid0.N, _)

variable (m : (ℓ : Loc nD τ sig) → Buf (Elt Ideal) ℓ) (c : Dev nD)

theorem x0_at (t : Fin cfg0.N) (ht : t.val < 8) (r : Fin 512) (l : Fin 1024) :
    (iblk m c 0 t : FVec Ideal S512x1024 .bf16) (ix2 r l) = (m ((c : Thread nD τ).loc main_arg0) : S4096x6144.Idx → EReal) (ix2 ⟨512 * t.val + r.val, by omega⟩ ⟨1024 * 0 + l.val, by omega⟩) := by
  blk_point [iblk, V, idx t]

theorem g0_at (t : Fin cfg0.N) (l : Fin 1024) :
    (iblk m c 3 t : FVec Ideal S1x1024 .f32) (ix2 0 l) = (m ((c : Thread nD τ).loc main_arg1) : S1x3072.Idx → EReal) (ix2 0 ⟨1024 * 0 + l.val, by omega⟩) := by
  blk_point [iblk, V, idx t]

theorem p0_at (t : Fin cfg0.N) (ht : t.val < 8) (r : Fin 512) (l : Fin 1024) :
    (iblk m c 6 t : FVec Ideal S512x1024 .bf16) (ix2 r l) = (m ((c : Thread nD τ).loc main_arg2) : S4096x1024.Idx → EReal) (ix2 ⟨512 * t.val + r.val, by omega⟩ l) := by
  blk_point [iblk, V, idx t]

theorem x1_at (t : Fin cfg0.N) (ht : t.val < 8) (r : Fin 512) (l : Fin 1024) :
    (iblk m c 1 t : FVec Ideal S512x1024 .bf16) (ix2 r l) = (m ((c : Thread nD τ).loc main_arg0) : S4096x6144.Idx → EReal) (ix2 ⟨512 * t.val + r.val, by omega⟩ ⟨1024 * 1 + l.val, by omega⟩) := by
  blk_point [iblk, V, idx t]

theorem g1_at (t : Fin cfg0.N) (l : Fin 1024) :
    (iblk m c 4 t : FVec Ideal S1x1024 .f32) (ix2 0 l) = (m ((c : Thread nD τ).loc main_arg1) : S1x3072.Idx → EReal) (ix2 0 ⟨1024 * 1 + l.val, by omega⟩) := by
  blk_point [iblk, V, idx t]

theorem p1_at (t : Fin cfg0.N) (ht : t.val < 8) (r : Fin 512) (l : Fin 1024) :
    (iblk m c 7 t : FVec Ideal S512x1024 .bf16) (ix2 r l) = (m ((c : Thread nD τ).loc main_arg3) : S4096x1024.Idx → EReal) (ix2 ⟨512 * t.val + r.val, by omega⟩ l) := by
  blk_point [iblk, V, idx t]

theorem x2_at (t : Fin cfg0.N) (ht : t.val < 8) (r : Fin 512) (l : Fin 1024) :
    (iblk m c 2 t : FVec Ideal S512x1024 .bf16) (ix2 r l) = (m ((c : Thread nD τ).loc main_arg0) : S4096x6144.Idx → EReal) (ix2 ⟨512 * t.val + r.val, by omega⟩ ⟨1024 * 2 + l.val, by omega⟩) := by
  blk_point [iblk, V, idx t]

theorem g2_at (t : Fin cfg0.N) (l : Fin 1024) :
    (iblk m c 5 t : FVec Ideal S1x1024 .f32) (ix2 0 l) = (m ((c : Thread nD τ).loc main_arg1) : S1x3072.Idx → EReal) (ix2 0 ⟨1024 * 2 + l.val, by omega⟩) := by
  blk_point [iblk, V, idx t]

theorem p2_at (t : Fin cfg0.N) (ht : t.val < 8) (r : Fin 512) (l : Fin 1024) :
    (iblk m c 8 t : FVec Ideal S512x1024 .bf16) (ix2 r l) = (m ((c : Thread nD τ).loc main_arg4) : S4096x1024.Idx → EReal) (ix2 ⟨512 * t.val + r.val, by omega⟩ l) := by
  blk_point [iblk, V, idx t]

theorem emb9 (t : Fin cfg0.N) (ht : t.val < 8) (r : Fin 512) (l : Fin 1024) :
    (win0_9.blk t).view.emb (ix2 r l) = ix2 (⟨512 * t.val + r.val, by omega⟩ : Fin 4096) l := by
  rw [eq_ix2 ((win0_9.blk t).view.emb (ix2 r l))]
  refine congrArg₂ ix2 (Fin.ext ?_) (Fin.ext ?_) <;> blk_simp [idx t] <;> simp <;> omega

/-- The result after the run. -/
theorem final : (dats m 0 c).arrAt 9 cfg0.N = merge (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  have ht : t.val < 8 := lt_of_lt_of_eq t.isLt (show cfg0.N = 8 from N_0)
  obtain ⟨r, l, rfl⟩ : ∃ (r : Fin 512) (l : Fin 1024), y = ix2 r l := ⟨y 0, y 1, eq_ix2 y⟩
  blk_simp
  rw [after0_9, emb9 t ht r l]
  refine (out_at _ _ _ _ _ _ _ _ _ r l).trans ?_
  rw [x0_at m c t ht, x1_at m c t ht, x2_at m c t ht, g0_at m c t, g1_at m c t, g2_at m c t, p0_at m c t ht, p1_at m c t ht, p2_at m c t ht]
  rfl

end Cert.GatesIdeal.Value

namespace Cert.GatesRefIdeal.Value

open Cert.GatesRefIdeal Cert.GatesRefIdeal.Gen

/-- The reference's result. -/
theorem ref_eq (x : FVec Ideal S4096x6144 .bf16) (g : FVec Ideal S1x3072 .f32) (p0 p1 p2 : FVec Ideal S4096x1024 .bf16) :
    (truncf .bf16 (addf (addf (mulf (shapeCast _ (extractStridedSlice S4096x1x1024 ![0, 0, 0] (shapeCast _ (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extf .f32 (extractStridedSlice S4096x3072 ![0, 0] x slices_S4096x6144_S4096x3072_0_0) bitsLt_bf16_f32) (broadcastInDim S4096x3072 ![0, 1] bcast_S1x3072_S4096x3072_0_1 g)))))) shapeCasts_S4096x3072_S4096x3x1024) slices_S4096x3x1024_S4096x1x1024_0_0_0) shapeCasts_S4096x1x1024_S4096x1024) (extf .f32 p0 bitsLt_bf16_f32)) (mulf (shapeCast _ (extractStridedSlice S4096x1x1024 ![0, 1, 0] (shapeCast _ (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extf .f32 (extractStridedSlice S4096x3072 ![0, 0] x slices_S4096x6144_S4096x3072_0_0) bitsLt_bf16_f32) (broadcastInDim S4096x3072 ![0, 1] bcast_S1x3072_S4096x3072_0_1 g)))))) shapeCasts_S4096x3072_S4096x3x1024) slices_S4096x3x1024_S4096x1x1024_0_1_0) shapeCasts_S4096x1x1024_S4096x1024) (extf .f32 p1 bitsLt_bf16_f32))) (mulf (shapeCast _ (extractStridedSlice S4096x1x1024 ![0, 2, 0] (shapeCast _ (Host.divf (broadcastInDim S4096x3072 ![] bcast_S_S4096x3072 (constant S_ .f32 0x3F800000#32)) (addf (broadcastInDim S4096x3072 ![] bcast_S_S4096x3072 (constant S_ .f32 0x3F800000#32)) (Host.exp (Host.negf (addf (extf .f32 (extractStridedSlice S4096x3072 ![0, 0] x slices_S4096x6144_S4096x3072_0_0) bitsLt_bf16_f32) (broadcastInDim S4096x3072 ![0, 1] bcast_S1x3072_S4096x3072_0_1 g)))))) shapeCasts_S4096x3072_S4096x3x1024) slices_S4096x3x1024_S4096x1x1024_0_2_0) shapeCasts_S4096x1x1024_S4096x1024) (extf .f32 p2 bitsLt_bf16_f32))) bitsLt_bf16_f32 : S4096x1024.Idx → EReal)
    = Cert.GatesIdeal.Value.merge x g p0 p1 p2 := by
  funext j
  obtain ⟨p, q, rfl⟩ : ∃ (p : Fin 4096) (q : Fin 1024), j = ix2 p q := ⟨j 0, j 1, eq_ix2 j⟩
  pointwise
  simp only [Cert.GatesIdeal.Value.merge, Cert.GatesIdeal.Value.term, Nat.mul_zero, Nat.zero_add]
  rfl

end Cert.GatesRefIdeal.Value

end
-- ==== Proof.RopeRow.lean ====
/- The rotation of a head's rotary lanes, turned back. -/
module

public import proofs.«01_k».proof.Proof.NormGrad
public import proofs.«01_k».proof.Proof.MatMul

@[expose] public section

set_option maxRecDepth 16384

noncomputable section

open Idealize.ShloMosaic Idealize.ShloMosaic.TcCoe Idealize.SL.Sem

namespace Cert.RopeRow

open Cert.MatMul

variable (X C S T F : ℕ → EReal) (p : EReal) (l : ℕ)

/-- Lane `l` turned back: `F` are the frequencies, `p` the position. -/
def turned : EReal :=
  if l < 64 then X l
  else if l < 80 then X (l + 16) * Ideal.sin (p * F (l - 64)) + X l * Ideal.cos (p * F (l - 64))
  else if l < 96 then X l * Ideal.cos (p * F (l - 80)) + -X (l - 16) * Ideal.sin (p * F (l - 80))
  else X l

/-- The frequencies laid over the lanes. -/
def tab : EReal := if l < 64 then 0 else if l < 80 then F (l - 64) else if l < 96 then F (l - 80) else 0

/-- The kernel's form, of its three tables. -/
def rot : EReal := X l * C l + Ideal.ofBits .f32 0xBF800000#32 * (X ((l + 128 - 16) % 128) * S l - X ((l + 128 - 112) % 128) * T l)

theorem wNegOne : Ideal.ofBits .f32 0xBF800000#32 = -1 := by
  have h : Ideal.ofBits .f32 0xBF800000#32 = ((-1 : ℝ) : EReal) := by
    simp [Ideal.ofBits, Ideal.ieee, -EReal.coe_mul, -EReal.coe_neg]
    try norm_num
  rw [h]; rfl

theorem cos0 : Ideal.cos 0 = 1 := by
  show ((Real.cos 0 : ℝ) : EReal) = 1
  rw [Real.cos_zero]; rfl

theorem sin0 : Ideal.sin 0 = 0 := by
  show ((Real.sin 0 : ℝ) : EReal) = 0
  rw [Real.sin_zero]; rfl

theorem rot_eq (hl : l < 128) (hC : C l = Ideal.cos (p * tab F l)) (hS : S l = if 80 ≤ l then Ideal.sin (p * tab F l) else 0)
    (hT : T l = if l < 80 then Ideal.sin (p * tab F l) else 0) : rot X C S T l = turned X F p l := by
  rw [rot, wNegOne, hC, hS, hT, turned, tab]
  by_cases h1 : l < 64
  · simp [h1, cos0, sin0]
  by_cases h2 : l < 80
  · have e : (l + 128 - 112) % 128 = l + 16 := by omega
    simp only [h1, h2, if_false, if_true, if_neg (show ¬80 ≤ l by omega), mul_zero, zero_sub, EReal.neg_mul, one_mul, neg_neg, e]
    exact add_comm _ _
  by_cases h3 : l < 96
  · have e : (l + 128 - 16) % 128 = l - 16 := by omega
    simp only [h1, h2, h3, if_false, if_true, if_pos (show 80 ≤ l by omega), mul_zero, sub_zero, EReal.neg_mul, one_mul, e]
  · simp [h1, h2, h3, cos0, sin0]

theorem rot_congr {X Y : ℕ → EReal} (h : ∀ n < 128, X n = Y n) (hl : l < 128) : rot X C S T l = rot Y C S T l := by
  rw [rot, rot, h l hl, h _ (Nat.mod_lt _ (by omega)), h _ (Nat.mod_lt _ (by omega))]

theorem ge80 : ∀ l : Fin 128, IntOp.cmpi .sge (BitVec.ofNat 32 l.val) 80#32 = if 80 ≤ l.val then 1#1 else 0#1 := by decide
theorem lt80 : ∀ l : Fin 128, IntOp.cmpi .slt (BitVec.ofNat 32 l.val) 80#32 = if l.val < 80 then 1#1 else 0#1 := by decide
theorem lt32 : ∀ l : Fin 128, IntOp.cmpi .slt (BitVec.ofNat 32 l.val) 32#32 = if l.val < 32 then 1#1 else 0#1 := by decide

theorem mk_at {n : ℕ} [NeZero n] (k : ℕ) (h : k < n) : (⟨k, h⟩ : Fin n) = at' k := (at'_eq k ⟨k, h⟩ rfl).symm
theorem val_at {n : ℕ} [NeZero n] (k : Fin n) : (at' k.val : Fin n) = k := at'_eq _ k rfl

abbrev Q : Shape := ⟨2, ![4096, 1024]⟩
abbrev K : Shape := ⟨2, ![4096, 128]⟩
abbrev P : Shape := ⟨2, ![4096, 1]⟩
abbrev W : Shape := ⟨2, ![1, 16]⟩

/-- The gradient of the queries before their rotation. -/
def resQ (d : Q.Idx → EReal) (pos : P.Idx → EReal) (inv : W.Idx → EReal) : Q.Idx → EReal := fun j =>
  turned (fun n => d (ix2 (j 0) (at' (128 * ((j 1).val / 128) + n)))) (fun n => inv (ix2 0 (at' n))) (pos (ix2 (j 0) 0)) ((j 1).val % 128)

/-- The gradient of the shared rotary key before its rotation, in the first 32 lanes. -/
def resK (k : Q.Idx → EReal) (pos : P.Idx → EReal) (inv : W.Idx → EReal) : K.Idx → EReal := fun j =>
  if (j 1).val < 32 then
    turned (fun n => ∑ h : Fin 8, k (ix2 (j 0) (at' (128 * h.val + n)))) (fun n => inv (ix2 0 (at' n))) (pos (ix2 (j 0) 0)) ((j 1).val + 64)
  else 0

end Cert.RopeRow

end
-- ==== Proof.RopeBwdFinal.lean ====
/- The rotations turned back: the kernel's blocks, and the reference's. -/
module

public import proofs.«01_k».proof.Proof.Gen.RopeBwd
public import proofs.«01_k».proof.Proof.Gen.RopeBwd.Frame
public import proofs.«01_k».proof.Proof.Gen.RopeBwdIdeal
public import proofs.«01_k».proof.Proof.Gen.RopeBwdIdeal.Skeleton
public import proofs.«01_k».proof.Proof.Gen.RopeBwdIdeal.Launch
public import proofs.«01_k».proof.Proof.Gen.RopeBwdIdeal.Points
public import proofs.«01_k».proof.Proof.Gen.RopeBwdIdeal.Frame
public import proofs.«01_k».proof.Proof.Gen.RopeBwdIdeal.Value
public import proofs.«01_k».proof.Proof.Gen.RopeBwdRefIdeal
public import proofs.«01_k».proof.Proof.Gen.RopeBwdRefIdeal.Run
public import proofs.«01_k».proof.Proof.RopeRow

@[expose] public section

set_option maxRecDepth 16384

noncomputable section

open Idealize.ShloMosaic Idealize.ShloMosaic.TcCoe Idealize.SL.Sem

namespace Cert.RopeBwdIdeal.Value

open Cert.RopeBwdIdeal Cert.RopeBwdIdeal.Gen Cert.RopeRow Cert.MatMul

theorem pay11_at (C S T : FVec Ideal S512x128 .f32) (X : FVec Ideal S512x128 .bf16) (r : Fin 512) (l : Fin 128) :
    k0_pay11 (F := Ideal) C S T X (ix2 r l)
      = rot (fun n => X (ix2 r (at' n))) (fun n => C (ix2 r (at' n))) (fun n => S (ix2 r (at' n))) (fun n => T (ix2 r (at' n))) l.val := by
  pointwise [k0_pay11]
  simp only [rot, val_at, mk_at]

theorem cos_at (v0 : FVec Ideal S512x1 .f32) (v1 : FVec Ideal S1x128 .f32) (r : Fin 512) (l : Fin 128) :
    k0_pay4 (F := Ideal) v0 v1 (ix2 r l) = Ideal.cos (v0 (ix2 r 0) * v1 (ix2 0 l)) := by
  pointwise [k0_pay4, k0_pay3, k0_pay2]

theorem up_at (v0 : FVec Ideal S512x1 .f32) (v1 : FVec Ideal S1x128 .f32) (r : Fin 512) (l : Fin 128) :
    k0_pay5 (F := Ideal) v0 v1 (ix2 r l) = if 80 ≤ l.val then Ideal.sin (v0 (ix2 r 0) * v1 (ix2 0 l)) else 0 := by
  pointwise [k0_pay5, k0_pay3, k0_pay2]
  rw [ge80]
  split_ifs <;> simp [Scalar.select]

theorem dn_at (v0 : FVec Ideal S512x1 .f32) (v1 : FVec Ideal S1x128 .f32) (r : Fin 512) (l : Fin 128) :
    k0_pay6 (F := Ideal) v0 v1 (ix2 r l) = if l.val < 80 then Ideal.sin (v0 (ix2 r 0) * v1 (ix2 0 l)) else 0 := by
  pointwise [k0_pay6, k0_pay3, k0_pay2]
  rw [lt80]
  split_ifs <;> simp [Scalar.select]

theorem pay1_at (C S T A B D : FVec Ideal S512x128 .f32) (r : Fin 512) (l : Fin 128) :
    k0_pay1 (F := Ideal) (k0_pay21 C A B D) (k0_pay22 S T A B D) (ix2 r l)
      = if l.val < 32 then rot (fun n => A (ix2 r (at' n)) + B (ix2 r (at' n)) + D (ix2 r (at' n))) (fun n => C (ix2 r (at' n))) (fun n => S (ix2 r (at' n)))
          (fun n => T (ix2 r (at' n))) (l.val + 64) else 0 := by
  pointwise [k0_pay1, k0_pay21, k0_pay22, k0_pay20]
  rw [lt32]
  split_ifs with h
  · have e : (l.val + 128 - 64) % 128 = l.val + 64 := by omega
    simp only [rot, mk_at, e]
    simp [Scalar.select]
  · simp [Scalar.select]

theorem ld_at {e : EltTy} (x : S512x1024.Idx → Elt Ideal e) (o : ℕ) (ho : o + 128 ≤ 1024) (i) (r : Fin 512) (l : Fin 128) :
    View.ld (Val := Elt Ideal) x (Rect.unit (s := S512x1024) ![0, o] ![512, 128] i) (ix2 r l) = x (ix2 r (at' (o + l.val))) := by
  rw [← mk_at (o + l.val) (by omega)]
  exact View.ld_unit_apply_of _ _ _ _ _ _ fun a => by fin_cases a <;> simp

theorem ldw {e : EltTy} (x : S512x1.Idx → Elt Ideal e) : View.ld (Val := Elt Ideal) x r0_0 = x :=
  funext fun j => View.ld_unit_apply_of _ _ _ _ _ _ fun a => by fin_cases a <;> simp

theorem ldv {e : EltTy} (x : S1x128.Idx → Elt Ideal e) : View.ld (Val := Elt Ideal) x r0_1 = x :=
  funext fun j => View.ld_unit_apply_of _ _ _ _ _ _ fun a => by fin_cases a <;> simp

section
variable (C S T : FVec Ideal S512x128 .f32) (x : FVec Ideal S512x1024 .bf16) (r : Fin 512) (q : Fin 1024)

/-- A piece's value at a column. -/
abbrev val : EReal := rot (fun n => x (ix2 r (at' (128 * (q.val / 128) + n)))) (fun n => C (ix2 r (at' n))) (fun n => S (ix2 r (at' n))) (fun n => T (ix2 r (at' n))) (q.val % 128)

theorem tile (h : ℕ) (hh : h < 8) (i) :
    View.TileAt (Val := Elt Ideal) (e := .bf16) (S := S512x1024) (ix2 r q) ![0, 128 * h] ![512, 128]
      (k0_pay11 (F := Ideal) C S T (View.ld (Val := Elt Ideal) x (Rect.unit (s := S512x1024) ![0, 128 * h] ![512, 128] i))) (val C S T x r q) := by
  intro y hy
  obtain ⟨r', l, rfl⟩ : ∃ (r' : Fin 512) (l : Fin 128), y = ix2 r' l := ⟨y 0, y 1, eq_ix2 y⟩
  have h0 : r.val = 0 + r'.val := hy 0
  have h1 : q.val = 128 * h + l.val := hy 1
  obtain rfl : r' = r := Fin.ext (by omega)
  refine (pay11_at _ _ _ _ r' l).trans ?_
  have e1 : q.val / 128 = h := by omega
  have e2 : q.val % 128 = l.val := by omega
  rw [val, e1, e2]
  refine rot_congr _ _ _ _ (fun n hn => ?_) l.isLt
  rw [← mk_at n hn]
  exact ld_at (e := .bf16) x (128 * h) (by omega) i r' ⟨n, hn⟩

theorem mem_tile (h : ℕ) (hq : 128 * h ≤ q.val ∧ q.val < 128 * h + 128) (i : ∀ k, (![0, 128 * h] : Fin 2 → ℕ) k + (![512, 128] : Fin 2 → ℕ) k ≤ S512x1024.size k) :
    (ix2 r q : S512x1024.Idx) ∈ (Rect.unit (s := S512x1024) ![0, 128 * h] ![512, 128] i).set := by
  refine Rect.mem_set_unit.mpr fun k => ?_
  match k with
  | ⟨0, _⟩ => exact ⟨Nat.zero_le _, (Nat.zero_add 512).symm ▸ r.isLt⟩
  | ⟨1, _⟩ => exact hq

variable (x1 : FVec Ideal S512x1024 .f32) (v0 : FVec Ideal S512x1 .f32) (v1 : FVec Ideal S1x128 .f32)

theorem out4_val : out0_4 (F := Ideal) x x1 v0 v1 (ix2 r q) = val (k0_pay4 v0 v1) (k0_pay5 v0 v1) (k0_pay6 v0 v1) x r q := by
  unfold out0_4 k0_pay23 k0_pay24 k0_pay25
  simp only [ldw, ldv]
  refine View.canon_eq_of_allAt (Val := Elt Ideal) _ _ _ ?_ ?_
  · obtain h | h | h | h | h | h | h | h : q.val / 128 = 7 ∨ q.val / 128 = 6 ∨ q.val / 128 = 5 ∨ q.val / 128 = 4 ∨ q.val / 128 = 3 ∨ q.val / 128 = 2
        ∨ q.val / 128 = 1 ∨ q.val / 128 = 0 := by omega
    · exact ⟨_, List.mem_cons_self, mem_tile r q 7 (by omega) inb_S512x1024_S512x128_0_896⟩
    · exact ⟨_, List.mem_cons_of_mem _ List.mem_cons_self, mem_tile r q 6 (by omega) inb_S512x1024_S512x128_0_768⟩
    · exact ⟨_, List.mem_cons_of_mem _ (List.mem_cons_of_mem _ List.mem_cons_self), mem_tile r q 5 (by omega) inb_S512x1024_S512x128_0_640⟩
    · exact ⟨_, List.mem_cons_of_mem _ (List.mem_cons_of_mem _ (List.mem_cons_of_mem _ List.mem_cons_self)), mem_tile r q 4 (by omega) inb_S512x1024_S512x128_0_512⟩
    · exact ⟨_, List.mem_cons_of_mem _ (List.mem_cons_of_mem _ (List.mem_cons_of_mem _ (List.mem_cons_of_mem _ List.mem_cons_self))), mem_tile r q 3 (by omega) inb_S512x1024_S512x128_0_384⟩
    · exact ⟨_, List.mem_cons_of_mem _ (List.mem_cons_of_mem _ (List.mem_cons_of_mem _ (List.mem_cons_of_mem _ (List.mem_cons_of_mem _ List.mem_cons_self)))), mem_tile r q 2 (by omega) inb_S512x1024_S512x128_0_256⟩
    · exact ⟨_, List.mem_cons_of_mem _ (List.mem_cons_of_mem _ (List.mem_cons_of_mem _ (List.mem_cons_of_mem _ (List.mem_cons_of_mem _ (List.mem_cons_of_mem _ List.mem_cons_self))))), mem_tile r q 1 (by omega) inb_S512x1024_S512x128_0_128⟩
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_tile r q 0 (by omega) inb_S512x1024_S512x128_0_0⟩
  · exact View.allAt_cons_unit (Val := Elt Ideal) (S := S512x1024) ![0, 896] ![512, 128] _ _ _ (tile _ _ _ x r q 7 (by omega) _) (
      View.allAt_cons_unit (Val := Elt Ideal) (S := S512x1024) ![0, 768] ![512, 128] _ _ _ (tile _ _ _ x r q 6 (by omega) _) (
      View.allAt_cons_unit (Val := Elt Ideal) (S := S512x1024) ![0, 640] ![512, 128] _ _ _ (tile _ _ _ x r q 5 (by omega) _) (
      View.allAt_cons_unit (Val := Elt Ideal) (S := S512x1024) ![0, 512] ![512, 128] _ _ _ (tile _ _ _ x r q 4 (by omega) _) (
      View.allAt_cons_unit (Val := Elt Ideal) (S := S512x1024) ![0, 384] ![512, 128] _ _ _ (tile _ _ _ x r q 3 (by omega) _) (
      View.allAt_cons_unit (Val := Elt Ideal) (S := S512x1024) ![0, 256] ![512, 128] _ _ _ (tile _ _ _ x r q 2 (by omega) _) (
      View.allAt_cons_unit (Val := Elt Ideal) (S := S512x1024) ![0, 128] ![512, 128] _ _ _ (tile _ _ _ x r q 1 (by omega) _) (
      View.allAt_cons_unit (Val := Elt Ideal) (S := S512x1024) ![0, 0] ![512, 128] _ _ _ (tile _ _ _ x r q 0 (by omega) _) (View.allAt_nil _ _))))))))

theorem heads_at (l : Fin 128) (x : FVec Ideal S512x1024 .f32) :
    k0_pay17 (F := Ideal) (k0_pay12 (F := Ideal) (View.ld x r0_2) (View.ld x r0_3) (View.ld x r0_4)) (View.ld x r0_5) (View.ld x r0_6) (View.ld x r0_7) (ix2 r l)
      + (View.ld (Val := Elt Ideal) (e' := .f32) x r0_8) (ix2 r l) + (View.ld (Val := Elt Ideal) (e' := .f32) x r0_9) (ix2 r l) = ∑ h : Fin 8, x (ix2 r (at' (128 * h.val + l.val))) := by
  rw [Fin.sum_univ_eight]
  unfold k0_pay17 k0_pay12
  exact congrArg₂ (· + ·) (congrArg₂ (· + ·) (congrArg₂ (· + ·) (congrArg₂ (· + ·) (congrArg₂ (· + ·) (congrArg₂ (· + ·) (congrArg₂ (· + ·) (ld_at (e := .f32) x 0 (by omega) _ r l)
    (ld_at (e := .f32) x 128 (by omega) _ r l))
    (ld_at (e := .f32) x 256 (by omega) _ r l))
    (ld_at (e := .f32) x 384 (by omega) _ r l))
    (ld_at (e := .f32) x 512 (by omega) _ r l))
    (ld_at (e := .f32) x 640 (by omega) _ r l))
    (ld_at (e := .f32) x 768 (by omega) _ r l))
    (ld_at (e := .f32) x 896 (by omega) _ r l)

theorem out5_val (l : Fin 128) : out0_5 (F := Ideal) x x1 v0 v1 (ix2 r l)
    = if l.val < 32 then rot (fun n => ∑ h : Fin 8, x1 (ix2 r (at' (128 * h.val + n)))) (fun n => k0_pay4 (F := Ideal) v0 v1 (ix2 r (at' n)))
        (fun n => k0_pay5 (F := Ideal) v0 v1 (ix2 r (at' n))) (fun n => k0_pay6 (F := Ideal) v0 v1 (ix2 r (at' n))) (l.val + 64) else 0 := by
  frame_out
  unfold k0_pay23 k0_pay24 k0_pay25 k0_pay26
  simp only [ldw, ldv]
  refine (pay1_at _ _ _ _ _ _ r l).trans ?_
  split_ifs with h
  · refine rot_congr _ _ _ _ (fun n hn => ?_) (by omega)
    rw [← mk_at n hn]
    exact heads_at r ⟨n, hn⟩ x1
  · rfl
end

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] :=
  (by decide +kernel : ∀ t : Fin grid0.N, _)

variable (m : (ℓ : Loc nD τ sig) → Buf (Elt Ideal) ℓ) (c : Dev nD)

/-- The table the host lays out. -/
theorem V2 : (V m c main_v2 : FVec Ideal S1x128 .f32)
    = concatenate S1x128 1 [⟨S1x64, broadcastInDim S1x64 ![] bcast_S_S1x64 (constant (F := Ideal) S_ .f32 0x00000000#32)⟩, ⟨S1x16, (m (c.tc.loc main_arg3) : FVec Ideal S1x16 .f32)⟩,
      ⟨S1x16, (m (c.tc.loc main_arg3) : FVec Ideal S1x16 .f32)⟩, ⟨S1x32, broadcastInDim S1x32 ![] bcast_S_S1x32 (constant (F := Ideal) S_ .f32 0x00000000#32)⟩]
      concatenates_S1x64_S1x16_S1x16_S1x32_S1x128_d1 := by
  unfold V
  simp only [hostOps0]
  after_results_simp
  rfl

theorem V2_at (l : Fin 128) : (V m c main_v2 : FVec Ideal S1x128 .f32) (ix2 0 l) = tab (fun n => (m (c.tc.loc main_arg3) : FVec Ideal S1x16 .f32) (ix2 0 (at' n))) l.val := by
  rw [V2, tab]
  pointwise
  simp only [mk_at]
  split_ifs <;> first
    | rfl
    | (exfalso; omega)
    | exact congrArg (fun n => m (c.tc.loc main_arg3) (ix2 0 (at' n))) (by omega)

theorem iblk0_at (t : Fin cfg0.N) (ht : t.val < 8) (r : Fin 512) (l : Fin 1024) :
    (iblk m c 0 t : FVec Ideal S512x1024 .bf16) (ix2 r l) = (m (c.tc.loc main_arg0) : FVec Ideal S4096x1024 .bf16) (ix2 ⟨512 * t.val + r.val, by omega⟩ l) := by
  rw [iblk, V_main_arg0]
  blk_point [idx t]

theorem iblk1_at (t : Fin cfg0.N) (ht : t.val < 8) (r : Fin 512) (l : Fin 1024) :
    (iblk m c 1 t : FVec Ideal S512x1024 .f32) (ix2 r l) = (m (c.tc.loc main_arg1) : FVec Ideal S4096x1024 .f32) (ix2 ⟨512 * t.val + r.val, by omega⟩ l) := by
  have h := V_main_arg1 m c
  unfold iblk
  generalize V m c = v at *
  blk_point [h, idx t]

theorem iblk2_at (t : Fin cfg0.N) (ht : t.val < 8) (r : Fin 512) :
    (iblk m c 2 t : FVec Ideal S512x1 .f32) (ix2 r 0) = (m (c.tc.loc main_arg2) : FVec Ideal S4096x1 .f32) (ix2 ⟨512 * t.val + r.val, by omega⟩ 0) := by
  blk_point [iblk, V_main_arg2, idx t]

theorem iblk3_at (t : Fin cfg0.N) (l : Fin 128) : (iblk m c 3 t : FVec Ideal S1x128 .f32) (ix2 0 l) = (V m c main_v2 : FVec Ideal S1x128 .f32) (ix2 0 l) := by
  unfold iblk
  generalize V m c = v
  blk_point [idx t]

theorem emb4 (t : Fin cfg0.N) (ht : t.val < 8) (r : Fin 512) (l : Fin 1024) :
    (win0_4.blk t).view.emb (ix2 r l) = ix2 (⟨512 * t.val + r.val, by omega⟩ : Fin 4096) l := by
  rw [eq_ix2 ((win0_4.blk t).view.emb (ix2 r l))]
  refine congrArg₂ ix2 (Fin.ext ?_) (Fin.ext ?_) <;> blk_simp [idx t] <;> simp <;> omega

theorem emb5 (t : Fin cfg0.N) (ht : t.val < 8) (r : Fin 512) (l : Fin 128) :
    (win0_5.blk t).view.emb (ix2 r l) = ix2 (⟨512 * t.val + r.val, by omega⟩ : Fin 4096) l := by
  rw [eq_ix2 ((win0_5.blk t).view.emb (ix2 r l))]
  refine congrArg₂ ix2 (Fin.ext ?_) (Fin.ext ?_) <;> blk_simp [idx t] <;> simp <;> omega

section
variable (t : Fin cfg0.N) (ht : t.val < 8) (X : ℕ → EReal) (r : Fin 512) (l : ℕ) (hl : l < 128)
include ht hl

/-- A block's form, of the whole arrays. -/
theorem rot_blk : rot X (fun n => k0_pay4 (F := Ideal) (iblk m c 2 t) (iblk m c 3 t) (ix2 r (at' n))) (fun n => k0_pay5 (F := Ideal) (iblk m c 2 t) (iblk m c 3 t) (ix2 r (at' n)))
      (fun n => k0_pay6 (F := Ideal) (iblk m c 2 t) (iblk m c 3 t) (ix2 r (at' n))) l
    = turned X (fun n => (m (c.tc.loc main_arg3) : FVec Ideal S1x16 .f32) (ix2 0 (at' n)))
      ((m (c.tc.loc main_arg2) : FVec Ideal S4096x1 .f32) (ix2 ⟨512 * t.val + r.val, by omega⟩ 0)) l := by
  have e : ∀ k : Fin 128, (iblk m c 3 t : FVec Ideal S1x128 .f32) (ix2 0 k) = tab (fun n => (m (c.tc.loc main_arg3) : FVec Ideal S1x16 .f32) (ix2 0 (at' n))) k.val :=
    fun k => (iblk3_at m c t k).trans (V2_at m c k)
  refine rot_eq _ _ _ _ _ _ _ hl ?_ ?_ ?_
  · beta_reduce
    rw [← mk_at l hl]
    refine (cos_at _ _ r ⟨l, hl⟩).trans ?_
    rw [iblk2_at m c t ht r, e]
  · beta_reduce
    rw [← mk_at l hl]
    refine (up_at _ _ r ⟨l, hl⟩).trans ?_
    rw [iblk2_at m c t ht r, e]
  · beta_reduce
    rw [← mk_at l hl]
    refine (dn_at _ _ r ⟨l, hl⟩).trans ?_
    rw [iblk2_at m c t ht r, e]
end

/-- The first result after the run. -/
theorem finalQ : (dats m 0 c).arrAt 4 cfg0.N = resQ (m (c.tc.loc main_arg0)) (m (c.tc.loc main_arg2)) (m (c.tc.loc main_arg3)) := by
  refine (dats m 0 c).arrAt_eq_of_covers 4 _ (by decide +kernel) fun t hf y => ?_
  have ht : t.val < 8 := lt_of_lt_of_eq t.isLt (show cfg0.N = 8 from N_0)
  obtain ⟨r, q, rfl⟩ : ∃ (r : Fin 512) (q : Fin 1024), y = ix2 r q := ⟨y 0, y 1, eq_ix2 y⟩
  blk_simp
  rw [after0_4, emb4 t ht r q]
  refine ((out4_val _ r q _ _ _).trans (rot_blk m c t ht _ r _ (Nat.mod_lt _ (by omega)))).trans ?_
  exact congrArg (fun X => turned X _ _ _) (funext fun n => iblk0_at m c t ht r _)

/-- The second result after the run. -/
theorem finalK : (dats m 0 c).arrAt 5 cfg0.N = resK (m (c.tc.loc main_arg1)) (m (c.tc.loc main_arg2)) (m (c.tc.loc main_arg3)) := by
  refine (dats m 0 c).arrAt_eq_of_covers 5 _ (by decide +kernel) fun t hf y => ?_
  have ht : t.val < 8 := lt_of_lt_of_eq t.isLt (show cfg0.N = 8 from N_0)
  obtain ⟨r, l, rfl⟩ : ∃ (r : Fin 512) (l : Fin 128), y = ix2 r l := ⟨y 0, y 1, eq_ix2 y⟩
  blk_simp
  rw [after0_5, emb5 t ht r l]
  refine (out5_val (iblk m c 0 t) r _ _ _ l).trans ?_
  show _ = if l.val < 32 then _ else _
  split_ifs with h
  · refine (rot_blk m c t ht _ r _ (by omega)).trans ?_
    exact congrArg (fun X => turned X _ _ _) (funext fun n => Finset.sum_congr rfl fun k _ => iblk1_at m c t ht r _)
  · rfl

end Cert.RopeBwdIdeal.Value

namespace Cert.RopeBwdRefIdeal.Value

open Cert.RopeBwdRefIdeal Cert.RopeBwdRefIdeal.Gen Cert.RopeRow Cert.MatMul

set_option maxHeartbeats 4000000 in
/-- The reference's results. -/
theorem run_ref (m : (ℓ : Loc nD τ sig) → Buf (Elt Ideal) ℓ) (ρ) : θ_run defs (onTc (τ := τ) (main (F := Ideal))) ⟨m, fun _ => 0, ρ⟩ fun r => ∀ c : Dev nD,
      r.2.mem (c.tc.loc main_v98) = resQ (m (c.tc.loc main_arg0)) (m (c.tc.loc main_arg2)) (m (c.tc.loc main_arg3))
      ∧ r.2.mem (c.tc.loc main_v100) = resK (m (c.tc.loc main_arg1)) (m (c.tc.loc main_arg2)) (m (c.tc.loc main_arg3))
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3) :=
  (θ_run _ _ _).mono (fun r h c => ⟨(h c).1.trans (by
    clear h
    funext j
    obtain ⟨p, q, rfl⟩ : ∃ (p : Fin 4096) (q : Fin 1024), j = ix2 p q := ⟨j 0, j 1, eq_ix2 j⟩
    pointwise
    show _ = turned _ _ _ (q.val % 128)
    unfold turned
    simp only [mk_at]
    split_ifs <;> first
      | (exfalso; omega)
      | skip
    all_goals try simp only [zero_add, add_zero]
    · exact congrArg (fun n => m (c.tc.loc main_arg0) (ix2 p (at' n))) (show q.val / 128 * 128 + (96 + (q.val % 128 - 96)) = 128 * (q.val / 128) + q.val % 128 by omega)
    · rw [show q.val / 128 * 128 + (64 + (16 + (q.val % 128 - 64 - 16))) = 128 * (q.val / 128) + q.val % 128 by omega,
        show q.val / 128 * 128 + (64 + (q.val % 128 - 64 - 16)) = 128 * (q.val / 128) + (q.val % 128 - 16) by omega, show q.val % 128 - 64 - 16 = q.val % 128 - 80 by omega]
      rfl
    · rw [show q.val / 128 * 128 + (64 + (16 + (q.val % 128 - 64))) = 128 * (q.val / 128) + (q.val % 128 + 16) by omega,
        show q.val / 128 * 128 + (64 + (q.val % 128 - 64)) = 128 * (q.val / 128) + q.val % 128 by omega]
      rfl
    · exact congrArg (fun n => m (c.tc.loc main_arg0) (ix2 p n)) ((val_at q).symm.trans (congrArg at' (show q.val = 128 * (q.val / 128) + q.val % 128 by omega)))), (h c).2.1.trans (by
    clear h
    funext j
    obtain ⟨p, q, rfl⟩ : ∃ (p : Fin 4096) (q : Fin 128), j = ix2 p q := ⟨j 0, j 1, eq_ix2 j⟩
    pointwise
    show _ = if q.val < 32 then turned _ _ _ (q.val + 64) else 0
    unfold turned
    simp only [mk_at]
    split_ifs <;> first
      | (exfalso; omega)
      | skip
    · have e1 : ∀ x : Fin 8, x.val * 128 + (64 + (16 + (q.val - 16))) = 128 * x.val + (q.val + 64) := fun x => by omega
      have e2 : ∀ x : Fin 8, x.val * 128 + (64 + (q.val - 16)) = 128 * x.val + (q.val + 64 - 16) := fun x => by omega
      have e3 : q.val - 16 = q.val + 64 - 80 := by omega
      simp only [e1, e2]
      rw [e3]
      simp only [zero_add, add_zero, Finset.univ_unique, Finset.sum_const, Finset.card_singleton, one_smul]
      rfl
    · have e1 : ∀ x : Fin 8, x.val * 128 + (64 + (16 + q.val)) = 128 * x.val + (q.val + 64 + 16) := fun x => by omega
      have e2 : ∀ x : Fin 8, x.val * 128 + (64 + q.val) = 128 * x.val + (q.val + 64) := fun x => by omega
      simp only [e1, e2, Nat.add_sub_cancel, zero_add, Finset.univ_unique, Finset.sum_const, Finset.card_singleton, one_smul]
      rfl
    · show (((0#32 : BitVec 32).toInt : ℝ) : EReal) = 0
      simp), (h c).2.2⟩) (Cert.RopeBwdRefIdeal.Value.run m ρ)

end Cert.RopeBwdRefIdeal.Value

end
-- ==== Proof.lean ====
/- The stick-breaking attention's backward kernel computes the gradients of the attention: the claims put together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Final
public import proofs.«01_k».proof.Proof.Finite
public import proofs.«01_k».proof.Proof.UpFinal
public import proofs.«01_k».proof.Proof.DownDxFinal
public import proofs.«01_k».proof.Proof.DownDwFinal
public import proofs.«01_k».proof.Proof.UpDwFinal
public import proofs.«01_k».proof.Proof.InFwdFinal
public import proofs.«01_k».proof.Proof.InDwFinal
public import proofs.«01_k».proof.Proof.BoFinal
public import proofs.«01_k».proof.Proof.BoDxFinal
public import proofs.«01_k».proof.Proof.BoDwFinal
public import proofs.«01_k».proof.Proof.OutDxFinal
public import proofs.«01_k».proof.Proof.OutDwFinal
public import proofs.«01_k».proof.Proof.UqFinal
public import proofs.«01_k».proof.Proof.UqDxFinal
public import proofs.«01_k».proof.Proof.UqDwFinal
public import proofs.«01_k».proof.Proof.UkFinal
public import proofs.«01_k».proof.Proof.UkDxFinal
public import proofs.«01_k».proof.Proof.UkDwFinal
public import proofs.«01_k».proof.Proof.UvFinal
public import proofs.«01_k».proof.Proof.UvDxFinal
public import proofs.«01_k».proof.Proof.UvDwFinal
public import proofs.«01_k».proof.Proof.MemKvFinal
public import proofs.«01_k».proof.Proof.MemKvDxFinal
public import proofs.«01_k».proof.Proof.MemKvDwFinal
public import proofs.«01_k».proof.Proof.OutNormsFinal
public import proofs.«01_k».proof.Proof.DownLossFinal
public import proofs.«01_k».proof.Proof.UpDxFinal
public import proofs.«01_k».proof.Proof.InDxFinal
public import proofs.«01_k».proof.Proof.RmsQBwdFinal
public import proofs.«01_k».proof.Proof.RmsKvBwdFinal
public import proofs.«01_k».proof.Proof.RmsMemBwdFinal
public import proofs.«01_k».proof.Proof.GateBwdFinal
public import proofs.«01_k».proof.Proof.RmsMixFinal
public import proofs.«01_k».proof.Proof.RmsQFinal
public import proofs.«01_k».proof.Proof.RmsKvFinal
public import proofs.«01_k».proof.Proof.RmsMemFinal
public import proofs.«01_k».proof.Proof.GatesFinal
public import proofs.«01_k».proof.Proof.RopeBwdFinal
public import Idealize.ShloMosaic.Adequacy
public import Idealize.ShloMosaic.Init

@[expose] public section

noncomputable section

namespace Cert.Proof

open Idealize.ShloMosaic Idealize.ShloMosaic.StableHlo Idealize.SL.Sem Cert.Kernel

/-- The reference has no semaphore, and its run leaves its arguments as they were. -/
theorem frame_reference : Cert.quiescent_ReferenceIdeal := by
  intro m ρ _
  exact (θ_run Cert.ReferenceIdeal.defs _ _).mono (fun r h => ⟨fun c => (h c).2.2.2,
      Idealize.ShloMosaic.sem_eq_zero_of_no_sems (by decide) r.2⟩)
    (Cert.ReferenceIdeal.Value.run m ρ)

theorem frame_reference_finite : Cert.quiescent_ReferenceIdeal_pre_finite := by
  intro m ρ _
  exact frame_reference m ρ trivial

/-- The kernel's three results are the reference's, where the entries that both read are real numbers. -/
theorem gradients : Cert.algebraic_KernelIdeal_ReferenceIdeal_pre_finite := by
  intro m ρ m' ρ' hm ha
  have H := fun c => Cert.KernelIdeal.Value.reals m hm c
  have H' : ∀ c : Dev Cert.ReferenceIdeal.nD, Cert.SB.Reals (Cert.ReferenceIdeal.Value.arr0 (launchContents m' c)) (Cert.ReferenceIdeal.Value.arr2 (launchContents m' c))
      (Cert.KernelIdeal.Value.realP m c) (Cert.KernelIdeal.Value.realD m c) := by
    intro c
    have e0 : Cert.ReferenceIdeal.Value.arr0 (launchContents m' c) = Cert.KernelIdeal.Value.arr0 m c := (ha c).1
    have e2 : Cert.ReferenceIdeal.Value.arr2 (launchContents m' c) = Cert.KernelIdeal.Value.arr2 m c := (ha c).2.2
    rw [e0, e2]
    exact H c
  refine ⟨fun c => Cert.SB.allDQ (Cert.KernelIdeal.Value.realP m c) (Cert.KernelIdeal.Value.realD m c),
    fun c => Cert.SB.allDK (Cert.KernelIdeal.Value.realP m c) (Cert.KernelIdeal.Value.realD m c),
    fun c => Cert.SB.allDV (Cert.KernelIdeal.Value.realP m c) (Cert.KernelIdeal.Value.realD m c), ?_, ?_⟩
  · exact (θ_run Cert.KernelIdeal.defs _ _).mono (fun r h c => ⟨(h c).1.trans (Cert.KernelIdeal.Value.final6 (H c)),
        (h c).2.1.trans (Cert.KernelIdeal.Value.final7 (H c)), (h c).2.2.1.trans (Cert.KernelIdeal.Value.final8 (H c)), (h c).2.2.2⟩)
      (Cert.KernelIdeal.Value.run_blocks m ρ)
  · exact (θ_run Cert.ReferenceIdeal.defs _ _).mono (fun r h c => ⟨(h c).1.trans (Cert.ReferenceIdeal.Value.rDQ_eq (H' c)),
        (h c).2.1.trans (Cert.ReferenceIdeal.Value.rDK_eq (H' c)), (h c).2.2.1.trans (Cert.ReferenceIdeal.Value.rDV_eq (H' c)), (h c).2.2.2⟩)
      (Cert.ReferenceIdeal.Value.run m' ρ')

theorem frame_up_reference : quiescent_UpRefIdeal := by
  intro m ρ _
  exact (θ_run UpRefIdeal.defs _ _).mono (fun r h => ⟨fun c => (h c).2.2,
      sem_eq_zero_of_no_sems (by decide) r.2⟩)
    (UpRefIdeal.Value.run m ρ)

/-- The MLP's first product and the square of its relu are the reference's. -/
theorem up_value : algebraic_UpIdeal_UpRefIdeal := by
  intro m ρ m' ρ' _ ha
  refine ⟨fun c => UpIdeal.Value.relu2 (m (c.tc.loc UpIdeal.main_arg0)) (m (c.tc.loc UpIdeal.main_arg1)),
    fun c => UpIdeal.Value.relu (m (c.tc.loc UpIdeal.main_arg0)) (m (c.tc.loc UpIdeal.main_arg1)), ?_, ?_⟩
  · exact (θ_run UpIdeal.defs _ _).mono (fun r h c => ⟨(h c).1.trans (UpIdeal.Value.final2 m c), (h c).2.1.trans (UpIdeal.Value.final3 m c), (h c).2.2⟩)
      (UpIdeal.Value.run_blocks m ρ)
  · exact (θ_run UpRefIdeal.defs _ _).mono (fun r h c => ⟨(h c).1.trans ((UpRefIdeal.Value.ref_relu2 _ _).trans (by rw [(ha c).1, (ha c).2])),
        (h c).2.1.trans ((UpRefIdeal.Value.ref_relu _ _).trans (by rw [(ha c).1, (ha c).2])), (h c).2.2⟩)
      (UpRefIdeal.Value.run m' ρ')

theorem frame_downDx_reference : quiescent_DownDxRefIdeal := by
  intro m ρ _
  exact (θ_run DownDxRefIdeal.defs _ _).mono (fun r h => ⟨fun c => (h c).2,
      sem_eq_zero_of_no_sems (by decide) r.2⟩)
    (DownDxRefIdeal.Value.run m ρ)

/-- The gradient of the MLP's preactivations is the reference's. -/
theorem downDx_value : algebraic_DownDxIdeal_DownDxRefIdeal := by
  intro m ρ m' ρ' _ ha
  refine ⟨fun c => DownDxIdeal.Value.grad (m (c.tc.loc DownDxIdeal.main_arg0)) (m (c.tc.loc DownDxIdeal.main_arg1)) (m (c.tc.loc DownDxIdeal.main_arg2)) (m (c.tc.loc DownDxIdeal.main_arg3)), ?_, ?_⟩
  · exact (θ_run DownDxIdeal.defs _ _).mono (fun r h c => ⟨(h c).1.trans (DownDxIdeal.Value.final m c), (h c).2⟩)
      (DownDxIdeal.Value.run_blocks m ρ)
  · exact (θ_run DownDxRefIdeal.defs _ _).mono (fun r h c => ⟨(h c).1.trans ((DownDxRefIdeal.Value.ref_eq _ _ _ _).trans (by rw [(ha c).1, (ha c).2.1, (ha c).2.2.1, (ha c).2.2.2])), (h c).2⟩)
      (DownDxRefIdeal.Value.run m' ρ')

theorem frame_downDw_reference : quiescent_DownDwRefIdeal := by
  intro m ρ _
  exact (θ_run DownDwRefIdeal.defs _ _).mono (fun r h => ⟨fun c => (h c).2,
      sem_eq_zero_of_no_sems (by decide) r.2⟩)
    (DownDwRefIdeal.Value.run m ρ)

/-- The gradient of the MLP's second weight is the reference's. -/
theorem downDw_value : algebraic_DownDwIdeal_DownDwRefIdeal := by
  intro m ρ m' ρ' _ ha
  refine ⟨fun c => DownDwIdeal.Value.grad (m (c.tc.loc DownDwIdeal.main_arg0)) (m (c.tc.loc DownDwIdeal.main_arg1)), ?_, ?_⟩
  · exact (θ_run DownDwIdeal.defs _ _).mono (fun r h c => ⟨(h c).1.trans (DownDwIdeal.Value.final m c), (h c).2⟩)
      (DownDwIdeal.Value.run_blocks m ρ)
  · exact (θ_run DownDwRefIdeal.defs _ _).mono (fun r h c => ⟨(h c).1.trans ((DownDwRefIdeal.Value.ref_eq _ _).trans (by rw [(ha c).1, (ha c).2])), (h c).2⟩)
      (DownDwRefIdeal.Value.run m' ρ')

theorem frame_upDw_reference : quiescent_UpDwRefIdeal := by
  intro m ρ _
  exact (θ_run UpDwRefIdeal.defs _ _).mono (fun r h => ⟨fun c => (h c).2,
      sem_eq_zero_of_no_sems (by decide) r.2⟩)
    (UpDwRefIdeal.Value.run m ρ)

/-- The gradient of the MLP's first weight is the reference's. -/
theorem upDw_value : algebraic_UpDwIdeal_UpDwRefIdeal := by
  intro m ρ m' ρ' _ ha
  refine ⟨fun c => UpDwIdeal.Value.grad (m (c.tc.loc UpDwIdeal.main_arg0)) (m (c.tc.loc UpDwIdeal.main_arg1)), ?_, ?_⟩
  · exact (θ_run UpDwIdeal.defs _ _).mono (fun r h c => ⟨(h c).1.trans (UpDwIdeal.Value.final m c), (h c).2⟩)
      (UpDwIdeal.Value.run_blocks m ρ)
  · exact (θ_run UpDwRefIdeal.defs _ _).mono (fun r h c => ⟨(h c).1.trans ((UpDwRefIdeal.Value.ref_eq _ _).trans (by rw [(ha c).1, (ha c).2])), (h c).2⟩)
      (UpDwRefIdeal.Value.run m' ρ')

theorem frame_inFwd_reference : quiescent_InFwdRefIdeal := by
  intro m ρ _
  exact (θ_run InFwdRefIdeal.defs _ _).mono (fun r h => ⟨fun c => (h c).2,
      sem_eq_zero_of_no_sems (by decide) r.2⟩)
    (InFwdRefIdeal.Value.run m ρ)

/-- The input projection is the reference's. -/
theorem inFwd_value : algebraic_InFwdIdeal_InFwdRefIdeal := by
  intro m ρ m' ρ' _ ha
  refine ⟨fun c => InFwdIdeal.Value.prod (m (c.tc.loc InFwdIdeal.main_arg0)) (m (c.tc.loc InFwdIdeal.main_arg1)), ?_, ?_⟩
  · exact (θ_run InFwdIdeal.defs _ _).mono (fun r h c => ⟨(h c).1.trans (InFwdIdeal.Value.final m c), (h c).2⟩)
      (InFwdIdeal.Value.run_blocks m ρ)
  · exact (θ_run InFwdRefIdeal.defs _ _).mono (fun r h c => ⟨(h c).1.trans ((InFwdRefIdeal.Value.ref_eq _ _).trans (by rw [(ha c).1, (ha c).2])), (h c).2⟩)
      (InFwdRefIdeal.Value.run m' ρ')

theorem frame_inDw_reference : quiescent_InDwRefIdeal := by
  intro m ρ _
  exact (θ_run InDwRefIdeal.defs _ _).mono (fun r h => ⟨fun c => (h c).2,
      sem_eq_zero_of_no_sems (by decide) r.2⟩)
    (InDwRefIdeal.Value.run m ρ)

/-- The gradient of the input projection's weight is the reference's. -/
theorem inDw_value : algebraic_InDwIdeal_InDwRefIdeal := by
  intro m ρ m' ρ' _ ha
  refine ⟨fun c => InDwIdeal.Value.grad (m (c.tc.loc InDwIdeal.main_arg0)) (m (c.tc.loc InDwIdeal.main_arg1)), ?_, ?_⟩
  · exact (θ_run InDwIdeal.defs _ _).mono (fun r h c => ⟨(h c).1.trans (InDwIdeal.Value.final m c), (h c).2⟩)
      (InDwIdeal.Value.run_blocks m ρ)
  · exact (θ_run InDwRefIdeal.defs _ _).mono (fun r h c => ⟨(h c).1.trans ((InDwRefIdeal.Value.ref_eq _ _).trans (by rw [(ha c).1, (ha c).2])), (h c).2⟩)
      (InDwRefIdeal.Value.run m' ρ')

theorem frame_bo_reference : quiescent_BoRefIdeal := by
  intro m ρ _
  exact (θ_run BoRefIdeal.defs _ _).mono (fun r h => ⟨fun c => (h c).2,
      sem_eq_zero_of_no_sems (by decide) r.2⟩)
    (BoRefIdeal.Value.run m ρ)

/-- A branch's output projection is the reference's. -/
theorem bo_value : algebraic_BoIdeal_BoRefIdeal := by
  intro m ρ m' ρ' _ ha
  refine ⟨fun c => BoIdeal.Value.prod (m (c.tc.loc BoIdeal.main_arg0)) (m (c.tc.loc BoIdeal.main_arg1)), ?_, ?_⟩
  · exact (θ_run BoIdeal.defs _ _).mono (fun r h c => ⟨(h c).1.trans (BoIdeal.Value.final m c), (h c).2⟩)
      (BoIdeal.Value.run_blocks m ρ)
  · exact (θ_run BoRefIdeal.defs _ _).mono (fun r h c => ⟨(h c).1.trans ((BoRefIdeal.Value.ref_eq _ _).trans (by rw [(ha c).1, (ha c).2])), (h c).2⟩)
      (BoRefIdeal.Value.run m' ρ')

theorem frame_boDx_reference : quiescent_BoDxRefIdeal := by
  intro m ρ _
  exact (θ_run BoDxRefIdeal.defs _ _).mono (fun r h => ⟨fun c => (h c).2,
      sem_eq_zero_of_no_sems (by decide) r.2⟩)
    (BoDxRefIdeal.Value.run m ρ)

/-- The gradient of a branch's output is the reference's. -/
theorem boDx_value : algebraic_BoDxIdeal_BoDxRefIdeal := by
  intro m ρ m' ρ' _ ha
  refine ⟨fun c => BoDxIdeal.Value.grad (m (c.tc.loc BoDxIdeal.main_arg0)) (m (c.tc.loc BoDxIdeal.main_arg1)), ?_, ?_⟩
  · exact (θ_run BoDxIdeal.defs _ _).mono (fun r h c => ⟨(h c).1.trans (BoDxIdeal.Value.final m c), (h c).2⟩)
      (BoDxIdeal.Value.run_blocks m ρ)
  · exact (θ_run BoDxRefIdeal.defs _ _).mono (fun r h c => ⟨(h c).1.trans ((BoDxRefIdeal.Value.ref_eq _ _).trans (by rw [(ha c).1, (ha c).2])), (h c).2⟩)
      (BoDxRefIdeal.Value.run m' ρ')

theorem frame_boDw_reference : quiescent_BoDwRefIdeal := by
  intro m ρ _
  exact (θ_run BoDwRefIdeal.defs _ _).mono (fun r h => ⟨fun c => (h c).2,
      sem_eq_zero_of_no_sems (by decide) r.2⟩)
    (BoDwRefIdeal.Value.run m ρ)

/-- The gradient of a branch's output projection is the reference's. -/
theorem boDw_value : algebraic_BoDwIdeal_BoDwRefIdeal := by
  intro m ρ m' ρ' _ ha
  refine ⟨fun c => BoDwIdeal.Value.grad (m (c.tc.loc BoDwIdeal.main_arg0)) (m (c.tc.loc BoDwIdeal.main_arg1)), ?_, ?_⟩
  · exact (θ_run BoDwIdeal.defs _ _).mono (fun r h c => ⟨(h c).1.trans (BoDwIdeal.Value.final m c), (h c).2⟩)
      (BoDwIdeal.Value.run_blocks m ρ)
  · exact (θ_run BoDwRefIdeal.defs _ _).mono (fun r h c => ⟨(h c).1.trans ((BoDwRefIdeal.Value.ref_eq _ _).trans (by rw [(ha c).1, (ha c).2])), (h c).2⟩)
      (BoDwRefIdeal.Value.run m' ρ')

theorem frame_outDx_reference : quiescent_OutDxRefIdeal := by
  intro m ρ _
  exact (θ_run OutDxRefIdeal.defs _ _).mono (fun r h => ⟨fun c => (h c).2,
      sem_eq_zero_of_no_sems (by decide) r.2⟩)
    (OutDxRefIdeal.Value.run m ρ)

/-- The gradient of the merged branches is the reference's. -/
theorem outDx_value : algebraic_OutDxIdeal_OutDxRefIdeal := by
  intro m ρ m' ρ' _ ha
  refine ⟨fun c => OutDxIdeal.Value.grad (m (c.tc.loc OutDxIdeal.main_arg0)) (m (c.tc.loc OutDxIdeal.main_arg1)), ?_, ?_⟩
  · exact (θ_run OutDxIdeal.defs _ _).mono (fun r h c => ⟨(h c).1.trans (OutDxIdeal.Value.final m c), (h c).2⟩)
      (OutDxIdeal.Value.run_blocks m ρ)
  · exact (θ_run OutDxRefIdeal.defs _ _).mono (fun r h c => ⟨(h c).1.trans ((OutDxRefIdeal.Value.ref_eq _ _).trans (by rw [(ha c).1, (ha c).2])), (h c).2⟩)
      (OutDxRefIdeal.Value.run m' ρ')

theorem frame_outDw_reference : quiescent_OutDwRefIdeal := by
  intro m ρ _
  exact (θ_run OutDwRefIdeal.defs _ _).mono (fun r h => ⟨fun c => (h c).2,
      sem_eq_zero_of_no_sems (by decide) r.2⟩)
    (OutDwRefIdeal.Value.run m ρ)

/-- The gradient of the output projection is the reference's. -/
theorem outDw_value : algebraic_OutDwIdeal_OutDwRefIdeal := by
  intro m ρ m' ρ' _ ha
  refine ⟨fun c => OutDwIdeal.Value.grad (m (c.tc.loc OutDwIdeal.main_arg0)) (m (c.tc.loc OutDwIdeal.main_arg1)), ?_, ?_⟩
  · exact (θ_run OutDwIdeal.defs _ _).mono (fun r h c => ⟨(h c).1.trans (OutDwIdeal.Value.final m c), (h c).2⟩)
      (OutDwIdeal.Value.run_blocks m ρ)
  · exact (θ_run OutDwRefIdeal.defs _ _).mono (fun r h c => ⟨(h c).1.trans ((OutDwRefIdeal.Value.ref_eq _ _).trans (by rw [(ha c).1, (ha c).2])), (h c).2⟩)
      (OutDwRefIdeal.Value.run m' ρ')

theorem frame_uq_reference : quiescent_UqRefIdeal := by
  intro m ρ _
  exact (θ_run UqRefIdeal.defs _ _).mono (fun r h => ⟨fun c => (h c).2,
      sem_eq_zero_of_no_sems (by decide) r.2⟩)
    (UqRefIdeal.Value.run m ρ)

/-- The latent attention's queries are the reference's. -/
theorem uq_value : algebraic_UqIdeal_UqRefIdeal := by
  intro m ρ m' ρ' _ ha
  refine ⟨fun c => UqIdeal.Value.prod (m (c.tc.loc UqIdeal.main_arg0)) (m (c.tc.loc UqIdeal.main_arg1)), ?_, ?_⟩
  · exact (θ_run UqIdeal.defs _ _).mono (fun r h c => ⟨(h c).1.trans (UqIdeal.Value.final m c), (h c).2⟩)
      (UqIdeal.Value.run_blocks m ρ)
  · exact (θ_run UqRefIdeal.defs _ _).mono (fun r h c => ⟨(h c).1.trans ((UqRefIdeal.Value.ref_eq _ _).trans (by rw [(ha c).1, (ha c).2])), (h c).2⟩)
      (UqRefIdeal.Value.run m' ρ')

theorem frame_uqDx_reference : quiescent_UqDxRefIdeal := by
  intro m ρ _
  exact (θ_run UqDxRefIdeal.defs _ _).mono (fun r h => ⟨fun c => (h c).2,
      sem_eq_zero_of_no_sems (by decide) r.2⟩)
    (UqDxRefIdeal.Value.run m ρ)

/-- The gradient of the query latents is the reference's. -/
theorem uqDx_value : algebraic_UqDxIdeal_UqDxRefIdeal := by
  intro m ρ m' ρ' _ ha
  refine ⟨fun c => UqDxIdeal.Value.grad (m (c.tc.loc UqDxIdeal.main_arg0)) (m (c.tc.loc UqDxIdeal.main_arg1)), ?_, ?_⟩
  · exact (θ_run UqDxIdeal.defs _ _).mono (fun r h c => ⟨(h c).1.trans (UqDxIdeal.Value.final m c), (h c).2⟩)
      (UqDxIdeal.Value.run_blocks m ρ)
  · exact (θ_run UqDxRefIdeal.defs _ _).mono (fun r h c => ⟨(h c).1.trans ((UqDxRefIdeal.Value.ref_eq _ _).trans (by rw [(ha c).1, (ha c).2])), (h c).2⟩)
      (UqDxRefIdeal.Value.run m' ρ')

theorem frame_uqDw_reference : quiescent_UqDwRefIdeal := by
  intro m ρ _
  exact (θ_run UqDwRefIdeal.defs _ _).mono (fun r h => ⟨fun c => (h c).2,
      sem_eq_zero_of_no_sems (by decide) r.2⟩)
    (UqDwRefIdeal.Value.run m ρ)

/-- The gradient of the query projection is the reference's. -/
theorem uqDw_value : algebraic_UqDwIdeal_UqDwRefIdeal := by
  intro m ρ m' ρ' _ ha
  refine ⟨fun c => UqDwIdeal.Value.grad (m (c.tc.loc UqDwIdeal.main_arg0)) (m (c.tc.loc UqDwIdeal.main_arg1)), ?_, ?_⟩
  · exact (θ_run UqDwIdeal.defs _ _).mono (fun r h c => ⟨(h c).1.trans (UqDwIdeal.Value.final m c), (h c).2⟩)
      (UqDwIdeal.Value.run_blocks m ρ)
  · exact (θ_run UqDwRefIdeal.defs _ _).mono (fun r h c => ⟨(h c).1.trans ((UqDwRefIdeal.Value.ref_eq _ _).trans (by rw [(ha c).1, (ha c).2])), (h c).2⟩)
      (UqDwRefIdeal.Value.run m' ρ')

theorem frame_uk_reference : quiescent_UkRefIdeal := by
  intro m ρ _
  exact (θ_run UkRefIdeal.defs _ _).mono (fun r h => ⟨fun c => (h c).2,
      sem_eq_zero_of_no_sems (by decide) r.2⟩)
    (UkRefIdeal.Value.run m ρ)

/-- The latent attention's keys are the reference's. -/
theorem uk_value : algebraic_UkIdeal_UkRefIdeal := by
  intro m ρ m' ρ' _ ha
  refine ⟨fun c => UkIdeal.Value.prod (m (c.tc.loc UkIdeal.main_arg0)) (m (c.tc.loc UkIdeal.main_arg1)), ?_, ?_⟩
  · exact (θ_run UkIdeal.defs _ _).mono (fun r h c => ⟨(h c).1.trans (UkIdeal.Value.final m c), (h c).2⟩)
      (UkIdeal.Value.run_blocks m ρ)
  · exact (θ_run UkRefIdeal.defs _ _).mono (fun r h c => ⟨(h c).1.trans ((UkRefIdeal.Value.ref_eq _ _).trans (by rw [(ha c).1, (ha c).2])), (h c).2⟩)
      (UkRefIdeal.Value.run m' ρ')

theorem frame_ukDx_reference : quiescent_UkDxRefIdeal := by
  intro m ρ _
  exact (θ_run UkDxRefIdeal.defs _ _).mono (fun r h => ⟨fun c => (h c).2,
      sem_eq_zero_of_no_sems (by decide) r.2⟩)
    (UkDxRefIdeal.Value.run m ρ)

/-- The gradient of the key latents is the reference's. -/
theorem ukDx_value : algebraic_UkDxIdeal_UkDxRefIdeal := by
  intro m ρ m' ρ' _ ha
  refine ⟨fun c => UkDxIdeal.Value.grad (m (c.tc.loc UkDxIdeal.main_arg0)) (m (c.tc.loc UkDxIdeal.main_arg1)), ?_, ?_⟩
  · exact (θ_run UkDxIdeal.defs _ _).mono (fun r h c => ⟨(h c).1.trans (UkDxIdeal.Value.final m c), (h c).2⟩)
      (UkDxIdeal.Value.run_blocks m ρ)
  · exact (θ_run UkDxRefIdeal.defs _ _).mono (fun r h c => ⟨(h c).1.trans ((UkDxRefIdeal.Value.ref_eq _ _).trans (by rw [(ha c).1, (ha c).2])), (h c).2⟩)
      (UkDxRefIdeal.Value.run m' ρ')

theorem frame_ukDw_reference : quiescent_UkDwRefIdeal := by
  intro m ρ _
  exact (θ_run UkDwRefIdeal.defs _ _).mono (fun r h => ⟨fun c => (h c).2,
      sem_eq_zero_of_no_sems (by decide) r.2⟩)
    (UkDwRefIdeal.Value.run m ρ)

/-- The gradient of the key projection is the reference's. -/
theorem ukDw_value : algebraic_UkDwIdeal_UkDwRefIdeal := by
  intro m ρ m' ρ' _ ha
  refine ⟨fun c => UkDwIdeal.Value.grad (m (c.tc.loc UkDwIdeal.main_arg0)) (m (c.tc.loc UkDwIdeal.main_arg1)), ?_, ?_⟩
  · exact (θ_run UkDwIdeal.defs _ _).mono (fun r h c => ⟨(h c).1.trans (UkDwIdeal.Value.final m c), (h c).2⟩)
      (UkDwIdeal.Value.run_blocks m ρ)
  · exact (θ_run UkDwRefIdeal.defs _ _).mono (fun r h c => ⟨(h c).1.trans ((UkDwRefIdeal.Value.ref_eq _ _).trans (by rw [(ha c).1, (ha c).2])), (h c).2⟩)
      (UkDwRefIdeal.Value.run m' ρ')

theorem frame_uv_reference : quiescent_UvRefIdeal := by
  intro m ρ _
  exact (θ_run UvRefIdeal.defs _ _).mono (fun r h => ⟨fun c => (h c).2,
      sem_eq_zero_of_no_sems (by decide) r.2⟩)
    (UvRefIdeal.Value.run m ρ)

/-- The latent attention's values are the reference's. -/
theorem uv_value : algebraic_UvIdeal_UvRefIdeal := by
  intro m ρ m' ρ' _ ha
  refine ⟨fun c => UvIdeal.Value.prod (m (c.tc.loc UvIdeal.main_arg0)) (m (c.tc.loc UvIdeal.main_arg1)), ?_, ?_⟩
  · exact (θ_run UvIdeal.defs _ _).mono (fun r h c => ⟨(h c).1.trans (UvIdeal.Value.final m c), (h c).2⟩)
      (UvIdeal.Value.run_blocks m ρ)
  · exact (θ_run UvRefIdeal.defs _ _).mono (fun r h c => ⟨(h c).1.trans ((UvRefIdeal.Value.ref_eq _ _).trans (by rw [(ha c).1, (ha c).2])), (h c).2⟩)
      (UvRefIdeal.Value.run m' ρ')

theorem frame_uvDx_reference : quiescent_UvDxRefIdeal := by
  intro m ρ _
  exact (θ_run UvDxRefIdeal.defs _ _).mono (fun r h => ⟨fun c => (h c).2,
      sem_eq_zero_of_no_sems (by decide) r.2⟩)
    (UvDxRefIdeal.Value.run m ρ)

/-- The gradient of the key latents, added to the keys' part is the reference's. -/
theorem uvDx_value : algebraic_UvDxIdeal_UvDxRefIdeal := by
  intro m ρ m' ρ' _ ha
  refine ⟨fun c => UvDxIdeal.Value.grad (m (c.tc.loc UvDxIdeal.main_arg0)) (m (c.tc.loc UvDxIdeal.main_arg1)) (m (c.tc.loc UvDxIdeal.main_arg2)), ?_, ?_⟩
  · exact (θ_run UvDxIdeal.defs _ _).mono (fun r h c => ⟨(h c).1.trans (UvDxIdeal.Value.final m c), (h c).2⟩)
      (UvDxIdeal.Value.run_blocks m ρ)
  · exact (θ_run UvDxRefIdeal.defs _ _).mono (fun r h c => ⟨(h c).1.trans ((UvDxRefIdeal.Value.ref_eq _ _ _).trans (by rw [(ha c).1, (ha c).2.1, (ha c).2.2])), (h c).2⟩)
      (UvDxRefIdeal.Value.run m' ρ')

theorem frame_uvDw_reference : quiescent_UvDwRefIdeal := by
  intro m ρ _
  exact (θ_run UvDwRefIdeal.defs _ _).mono (fun r h => ⟨fun c => (h c).2,
      sem_eq_zero_of_no_sems (by decide) r.2⟩)
    (UvDwRefIdeal.Value.run m ρ)

/-- The gradient of the value projection is the reference's. -/
theorem uvDw_value : algebraic_UvDwIdeal_UvDwRefIdeal := by
  intro m ρ m' ρ' _ ha
  refine ⟨fun c => UvDwIdeal.Value.grad (m (c.tc.loc UvDwIdeal.main_arg0)) (m (c.tc.loc UvDwIdeal.main_arg1)), ?_, ?_⟩
  · exact (θ_run UvDwIdeal.defs _ _).mono (fun r h c => ⟨(h c).1.trans (UvDwIdeal.Value.final m c), (h c).2⟩)
      (UvDwIdeal.Value.run_blocks m ρ)
  · exact (θ_run UvDwRefIdeal.defs _ _).mono (fun r h c => ⟨(h c).1.trans ((UvDwRefIdeal.Value.ref_eq _ _).trans (by rw [(ha c).1, (ha c).2])), (h c).2⟩)
      (UvDwRefIdeal.Value.run m' ρ')

theorem frame_memKv_reference : quiescent_MemKvRefIdeal := by
  intro m ρ _
  exact (θ_run MemKvRefIdeal.defs _ _).mono (fun r h => ⟨fun c => (h c).2,
      sem_eq_zero_of_no_sems (by decide) r.2⟩)
    (MemKvRefIdeal.Value.run m ρ)

/-- The memory's keys and values are the reference's. -/
theorem memKv_value : algebraic_MemKvIdeal_MemKvRefIdeal := by
  intro m ρ m' ρ' _ ha
  refine ⟨fun c => MemKvIdeal.Value.prod (m (c.tc.loc MemKvIdeal.main_arg0)) (m (c.tc.loc MemKvIdeal.main_arg1)), ?_, ?_⟩
  · exact (θ_run MemKvIdeal.defs _ _).mono (fun r h c => ⟨(h c).1.trans (MemKvIdeal.Value.final m c), (h c).2⟩)
      (MemKvIdeal.Value.run_blocks m ρ)
  · exact (θ_run MemKvRefIdeal.defs _ _).mono (fun r h c => ⟨(h c).1.trans ((MemKvRefIdeal.Value.ref_eq _ _).trans (by rw [(ha c).1, (ha c).2])), (h c).2⟩)
      (MemKvRefIdeal.Value.run m' ρ')

theorem frame_memKvDx_reference : quiescent_MemKvDxRefIdeal := by
  intro m ρ _
  exact (θ_run MemKvDxRefIdeal.defs _ _).mono (fun r h => ⟨fun c => (h c).2,
      sem_eq_zero_of_no_sems (by decide) r.2⟩)
    (MemKvDxRefIdeal.Value.run m ρ)

/-- The gradient of the normalised memory is the reference's. -/
theorem memKvDx_value : algebraic_MemKvDxIdeal_MemKvDxRefIdeal := by
  intro m ρ m' ρ' _ ha
  refine ⟨fun c => MemKvDxIdeal.Value.grad (m (c.tc.loc MemKvDxIdeal.main_arg0)) (m (c.tc.loc MemKvDxIdeal.main_arg1)), ?_, ?_⟩
  · exact (θ_run MemKvDxIdeal.defs _ _).mono (fun r h c => ⟨(h c).1.trans (MemKvDxIdeal.Value.final m c), (h c).2⟩)
      (MemKvDxIdeal.Value.run_blocks m ρ)
  · exact (θ_run MemKvDxRefIdeal.defs _ _).mono (fun r h c => ⟨(h c).1.trans ((MemKvDxRefIdeal.Value.ref_eq _ _).trans (by rw [(ha c).1, (ha c).2])), (h c).2⟩)
      (MemKvDxRefIdeal.Value.run m' ρ')

theorem frame_memKvDw_reference : quiescent_MemKvDwRefIdeal := by
  intro m ρ _
  exact (θ_run MemKvDwRefIdeal.defs _ _).mono (fun r h => ⟨fun c => (h c).2,
      sem_eq_zero_of_no_sems (by decide) r.2⟩)
    (MemKvDwRefIdeal.Value.run m ρ)

/-- The gradient of the memory's projection is the reference's. -/
theorem memKvDw_value : algebraic_MemKvDwIdeal_MemKvDwRefIdeal := by
  intro m ρ m' ρ' _ ha
  refine ⟨fun c => MemKvDwIdeal.Value.grad (m (c.tc.loc MemKvDwIdeal.main_arg0)) (m (c.tc.loc MemKvDwIdeal.main_arg1)), ?_, ?_⟩
  · exact (θ_run MemKvDwIdeal.defs _ _).mono (fun r h c => ⟨(h c).1.trans (MemKvDwIdeal.Value.final m c), (h c).2⟩)
      (MemKvDwIdeal.Value.run_blocks m ρ)
  · exact (θ_run MemKvDwRefIdeal.defs _ _).mono (fun r h c => ⟨(h c).1.trans ((MemKvDwRefIdeal.Value.ref_eq _ _).trans (by rw [(ha c).1, (ha c).2])), (h c).2⟩)
      (MemKvDwRefIdeal.Value.run m' ρ')

theorem frame_outNorms_reference : quiescent_OutNormsRefIdeal := by
  intro m ρ _
  exact (θ_run OutNormsRefIdeal.defs _ _).mono (fun r h => ⟨fun c => (h c).2.2.2,
      sem_eq_zero_of_no_sems (by decide) r.2⟩)
    (OutNormsRefIdeal.Value.run m ρ)

/-- The branches' output projection, the residual after its norm and the MLP's normalised input are the reference's. -/
theorem outNorms_value : algebraic_OutNormsIdeal_OutNormsRefIdeal := by
  intro m ρ m' ρ' _ ha
  refine ⟨fun c => OutNormsIdeal.Value.resY (m (c.tc.loc OutNormsIdeal.main_arg0)) (m (c.tc.loc OutNormsIdeal.main_arg1)),
    fun c => OutNormsIdeal.Value.resX (m (c.tc.loc OutNormsIdeal.main_arg0)) (m (c.tc.loc OutNormsIdeal.main_arg1)) (m (c.tc.loc OutNormsIdeal.main_arg2)) (m (c.tc.loc OutNormsIdeal.main_arg3)),
    fun c => OutNormsIdeal.Value.resH (m (c.tc.loc OutNormsIdeal.main_arg0)) (m (c.tc.loc OutNormsIdeal.main_arg1)) (m (c.tc.loc OutNormsIdeal.main_arg2)) (m (c.tc.loc OutNormsIdeal.main_arg3)) (m (c.tc.loc OutNormsIdeal.main_arg4)), ?_, ?_⟩
  · exact (θ_run OutNormsIdeal.defs _ _).mono (fun r h c => ⟨(h c).1.trans (OutNormsIdeal.Value.final5 m c), (h c).2.1.trans (OutNormsIdeal.Value.final6 m c), (h c).2.2.1.trans (OutNormsIdeal.Value.final7 m c), (h c).2.2.2⟩)
      (OutNormsIdeal.Value.run_blocks m ρ)
  · exact (θ_run OutNormsRefIdeal.defs _ _).mono (fun r h c => ⟨(h c).1.trans ((OutNormsRefIdeal.Value.ref_y _ _).trans (by rw [(ha c).1, (ha c).2.1])),
        (h c).2.1.trans ((OutNormsRefIdeal.Value.ref_x _ _ _ _).trans (by rw [(ha c).1, (ha c).2.1, (ha c).2.2.1, (ha c).2.2.2.1])),
        (h c).2.2.1.trans ((OutNormsRefIdeal.Value.ref_h m' c).trans (by rw [(ha c).1, (ha c).2.1, (ha c).2.2.1, (ha c).2.2.2.1, (ha c).2.2.2.2])), (h c).2.2.2⟩)
      (OutNormsRefIdeal.Value.run m' ρ')

theorem frame_downLoss_reference : quiescent_DownLossRefIdeal := by
  intro m ρ _
  exact (θ_run DownLossRefIdeal.defs _ _).mono (fun r h => ⟨fun c => (h c).2.2.2.2,
      sem_eq_zero_of_no_sems (by decide) r.2⟩)
    (DownLossRefIdeal.Value.run m ρ)

/-- The loss, the gradients of the last stream and of the down-projection and that of the norm's weights are the reference's. -/
theorem downLoss_value : algebraic_DownLossIdeal_DownLossRefIdeal := by
  intro m ρ m' ρ' _ ha
  refine ⟨fun c => DownLossIdeal.Value.resX (m (c.tc.loc DownLossIdeal.main_arg0)) (m (c.tc.loc DownLossIdeal.main_arg1)) (m (c.tc.loc DownLossIdeal.main_arg2)) (m (c.tc.loc DownLossIdeal.main_arg3)) (m (c.tc.loc DownLossIdeal.main_arg4)),
    fun c => DownLossIdeal.Value.resD (m (c.tc.loc DownLossIdeal.main_arg0)) (m (c.tc.loc DownLossIdeal.main_arg1)) (m (c.tc.loc DownLossIdeal.main_arg2)) (m (c.tc.loc DownLossIdeal.main_arg3)) (m (c.tc.loc DownLossIdeal.main_arg4)),
    fun c => DownLossIdeal.Value.resL (m (c.tc.loc DownLossIdeal.main_arg0)) (m (c.tc.loc DownLossIdeal.main_arg1)) (m (c.tc.loc DownLossIdeal.main_arg2)) (m (c.tc.loc DownLossIdeal.main_arg3)) (m (c.tc.loc DownLossIdeal.main_arg4)),
    fun c => DownLossIdeal.Value.resG (m (c.tc.loc DownLossIdeal.main_arg0)) (m (c.tc.loc DownLossIdeal.main_arg1)) (m (c.tc.loc DownLossIdeal.main_arg2)) (m (c.tc.loc DownLossIdeal.main_arg3)) (m (c.tc.loc DownLossIdeal.main_arg4)), ?_, ?_⟩
  · exact (θ_run DownLossIdeal.defs _ _).mono (fun r h c => ⟨(h c).1.trans (DownLossIdeal.Value.finalX m c), (h c).2.1.trans (DownLossIdeal.Value.finalD m c), (h c).2.2.1.trans (DownLossIdeal.Value.finalL m c), (h c).2.2.2.1.trans (DownLossIdeal.Value.finalG m c), (h c).2.2.2.2⟩)
      (DownLossIdeal.Value.run_blocks m ρ)
  · have e0 c : DownLossRefIdeal.Value.R0 m' c = DownLossIdeal.Value.A0 m c := (ha c).1
    have e1 c : DownLossRefIdeal.Value.R1 m' c = DownLossIdeal.Value.A1 m c := (ha c).2.1
    have e2 c : DownLossRefIdeal.Value.R2 m' c = DownLossIdeal.Value.A2 m c := (ha c).2.2.1
    have e3 c : DownLossRefIdeal.Value.R3 m' c = DownLossIdeal.Value.A3 m c := (ha c).2.2.2.1
    have e4 c : DownLossRefIdeal.Value.R4 m' c = DownLossIdeal.Value.A4 m c := (ha c).2.2.2.2
    exact (θ_run DownLossRefIdeal.defs _ _).mono (fun r h c => ⟨(h c).1.trans ((DownLossRefIdeal.Value.ref_x m' c).trans (by rw [e0, e1, e2, e3, e4])),
        (h c).2.1.trans ((DownLossRefIdeal.Value.ref_d m' c).trans (by rw [e0, e1, e2, e3, e4])),
        (h c).2.2.1.trans ((DownLossRefIdeal.Value.ref_l m' c).trans (by rw [e0, e1, e2, e3, e4])),
        (h c).2.2.2.1.trans ((DownLossRefIdeal.Value.ref_g m' c).trans (by rw [e0, e1, e2, e3, e4])), (h c).2.2.2.2⟩)
      (DownLossRefIdeal.Value.run m' ρ')

theorem frame_upDx_reference : quiescent_UpDxRefIdeal := by
  intro m ρ _
  exact (θ_run UpDxRefIdeal.defs _ _).mono (fun r h => ⟨fun c => (h c).2.2.2.2,
      sem_eq_zero_of_no_sems (by decide) r.2⟩)
    (UpDxRefIdeal.Value.run m ρ)

/-- The gradients of the stream between the blocks and of the mixing block's output and those of the two norms' weights are the reference's. -/
theorem upDx_value : algebraic_UpDxIdeal_UpDxRefIdeal := by
  intro m ρ m' ρ' _ ha
  refine ⟨fun c => UpDxIdeal.Value.resX (m (c.tc.loc UpDxIdeal.main_arg0)) (m (c.tc.loc UpDxIdeal.main_arg1)) (m (c.tc.loc UpDxIdeal.main_arg2)) (m (c.tc.loc UpDxIdeal.main_arg3)) (m (c.tc.loc UpDxIdeal.main_arg5)),
    fun c => UpDxIdeal.Value.resY (m (c.tc.loc UpDxIdeal.main_arg0)) (m (c.tc.loc UpDxIdeal.main_arg1)) (m (c.tc.loc UpDxIdeal.main_arg2)) (m (c.tc.loc UpDxIdeal.main_arg3)) (m (c.tc.loc UpDxIdeal.main_arg4)) (m (c.tc.loc UpDxIdeal.main_arg5)) (m (c.tc.loc UpDxIdeal.main_arg6)),
    fun c => UpDxIdeal.Value.resG (m (c.tc.loc UpDxIdeal.main_arg0)) (m (c.tc.loc UpDxIdeal.main_arg1)) (m (c.tc.loc UpDxIdeal.main_arg3)),
    fun c => UpDxIdeal.Value.resP (m (c.tc.loc UpDxIdeal.main_arg0)) (m (c.tc.loc UpDxIdeal.main_arg1)) (m (c.tc.loc UpDxIdeal.main_arg2)) (m (c.tc.loc UpDxIdeal.main_arg3)) (m (c.tc.loc UpDxIdeal.main_arg4)) (m (c.tc.loc UpDxIdeal.main_arg5)), ?_, ?_⟩
  · exact (θ_run UpDxIdeal.defs _ _).mono (fun r h c => ⟨(h c).1.trans (UpDxIdeal.Value.finalX m c), (h c).2.1.trans (UpDxIdeal.Value.finalY m c), (h c).2.2.1.trans (UpDxIdeal.Value.finalG m c), (h c).2.2.2.1.trans (UpDxIdeal.Value.finalP m c), (h c).2.2.2.2⟩)
      (UpDxIdeal.Value.run_blocks m ρ)
  · have e0 c : UpDxRefIdeal.Value.R0 m' c = UpDxIdeal.Value.A0 m c := (ha c).1
    have e1 c : UpDxRefIdeal.Value.R1 m' c = UpDxIdeal.Value.A1 m c := (ha c).2.1
    have e2 c : UpDxRefIdeal.Value.R2 m' c = UpDxIdeal.Value.A2 m c := (ha c).2.2.1
    have e3 c : UpDxRefIdeal.Value.R3 m' c = UpDxIdeal.Value.A3 m c := (ha c).2.2.2.1
    have e4 c : UpDxRefIdeal.Value.R4 m' c = UpDxIdeal.Value.A4 m c := (ha c).2.2.2.2.1
    have e5 c : UpDxRefIdeal.Value.R5 m' c = UpDxIdeal.Value.A5 m c := (ha c).2.2.2.2.2.1
    have e6 c : UpDxRefIdeal.Value.R6 m' c = UpDxIdeal.Value.A6 m c := (ha c).2.2.2.2.2.2
    exact (θ_run UpDxRefIdeal.defs _ _).mono (fun r h c => ⟨(h c).1.trans ((UpDxRefIdeal.Value.ref_x m' c).trans (by rw [e0, e1, e2, e3, e5])),
        (h c).2.1.trans ((UpDxRefIdeal.Value.ref_y m' c).trans (by rw [e0, e1, e2, e3, e4, e5, e6])),
        (h c).2.2.1.trans ((UpDxRefIdeal.Value.ref_g m' c).trans (by rw [e0, e1, e3])),
        (h c).2.2.2.1.trans ((UpDxRefIdeal.Value.ref_p m' c).trans (by rw [e0, e1, e2, e3, e4, e5])), (h c).2.2.2.2⟩)
      (UpDxRefIdeal.Value.run m' ρ')

theorem frame_inDx_reference : quiescent_InDxRefIdeal := by
  intro m ρ _
  exact (θ_run InDxRefIdeal.defs _ _).mono (fun r h => ⟨fun c => (h c).2.2,
      sem_eq_zero_of_no_sems (by decide) r.2⟩)
    (InDxRefIdeal.Value.run m ρ)

/-- The gradient of the step's input and that of the first norm's weights are the reference's. -/
theorem inDx_value : algebraic_InDxIdeal_InDxRefIdeal := by
  intro m ρ m' ρ' _ ha
  refine ⟨fun c => InDxIdeal.Value.resX (m (c.tc.loc InDxIdeal.main_arg0)) (m (c.tc.loc InDxIdeal.main_arg1)) (m (c.tc.loc InDxIdeal.main_arg2)) (m (c.tc.loc InDxIdeal.main_arg3)) (m (c.tc.loc InDxIdeal.main_arg4)),
    fun c => InDxIdeal.Value.resG (m (c.tc.loc InDxIdeal.main_arg0)) (m (c.tc.loc InDxIdeal.main_arg1)) (m (c.tc.loc InDxIdeal.main_arg2)), ?_, ?_⟩
  · exact (θ_run InDxIdeal.defs _ _).mono (fun r h c => ⟨(h c).1.trans (InDxIdeal.Value.finalX m c), (h c).2.1.trans (InDxIdeal.Value.finalG m c), (h c).2.2⟩)
      (InDxIdeal.Value.run_blocks m ρ)
  · have e0 c : InDxRefIdeal.Value.R0 m' c = InDxIdeal.Value.A0 m c := (ha c).1
    have e1 c : InDxRefIdeal.Value.R1 m' c = InDxIdeal.Value.A1 m c := (ha c).2.1
    have e2 c : InDxRefIdeal.Value.R2 m' c = InDxIdeal.Value.A2 m c := (ha c).2.2.1
    have e3 c : InDxRefIdeal.Value.R3 m' c = InDxIdeal.Value.A3 m c := (ha c).2.2.2.1
    have e4 c : InDxRefIdeal.Value.R4 m' c = InDxIdeal.Value.A4 m c := (ha c).2.2.2.2
    exact (θ_run InDxRefIdeal.defs _ _).mono (fun r h c => ⟨(h c).1.trans ((InDxRefIdeal.Value.ref_x m' c).trans (by rw [e0, e1, e2, e3, e4])),
        (h c).2.1.trans ((InDxRefIdeal.Value.ref_g m' c).trans (by rw [e0, e1, e2])), (h c).2.2⟩)
      (InDxRefIdeal.Value.run m' ρ')

theorem frame_rmsQBwd_reference : quiescent_RmsQBwdRefIdeal := by
  intro m ρ _
  exact (θ_run RmsQBwdRefIdeal.defs _ _).mono (fun r h => ⟨fun c => (h c).2.2,
      sem_eq_zero_of_no_sems (by decide) r.2⟩)
    (RmsQBwdRefIdeal.Value.run m ρ)

/-- The gradients of the query latents before their norm and of the norm's weights are the reference's. -/
theorem rmsQBwd_value : algebraic_RmsQBwdIdeal_RmsQBwdRefIdeal := by
  intro m ρ m' ρ' _ ha
  refine ⟨fun c => RmsQBwdIdeal.Value.resX (m (c.tc.loc RmsQBwdIdeal.main_arg0)) (m (c.tc.loc RmsQBwdIdeal.main_arg1)) (m (c.tc.loc RmsQBwdIdeal.main_arg2)),
    fun c => RmsQBwdIdeal.Value.resG (m (c.tc.loc RmsQBwdIdeal.main_arg0)) (m (c.tc.loc RmsQBwdIdeal.main_arg1)), ?_, ?_⟩
  · exact (θ_run RmsQBwdIdeal.defs _ _).mono (fun r h c => ⟨(h c).1.trans (RmsQBwdIdeal.Value.finalX m c), (h c).2.1.trans (RmsQBwdIdeal.Value.finalG m c), (h c).2.2⟩)
      (RmsQBwdIdeal.Value.run_blocks m ρ)
  · have e0 c : RmsQBwdRefIdeal.Value.R0 m' c = RmsQBwdIdeal.Value.A0 m c := (ha c).1
    have e1 c : RmsQBwdRefIdeal.Value.R1 m' c = RmsQBwdIdeal.Value.A1 m c := (ha c).2.1
    have e2 c : RmsQBwdRefIdeal.Value.R2 m' c = RmsQBwdIdeal.Value.A2 m c := (ha c).2.2
    exact (θ_run RmsQBwdRefIdeal.defs _ _).mono (fun r h c => ⟨(h c).1.trans ((RmsQBwdRefIdeal.Value.ref_x m' c).trans (by rw [e0, e1, e2])),
        (h c).2.1.trans ((RmsQBwdRefIdeal.Value.ref_g m' c).trans (by rw [e0, e1])), (h c).2.2⟩)
      (RmsQBwdRefIdeal.Value.run m' ρ')

theorem frame_rmsKvBwd_reference : quiescent_RmsKvBwdRefIdeal := by
  intro m ρ _
  exact (θ_run RmsKvBwdRefIdeal.defs _ _).mono (fun r h => ⟨fun c => (h c).2.2,
      sem_eq_zero_of_no_sems (by decide) r.2⟩)
    (RmsKvBwdRefIdeal.Value.run m ρ)

/-- The gradients of the key latents before their norm and of the norm's weights are the reference's. -/
theorem rmsKvBwd_value : algebraic_RmsKvBwdIdeal_RmsKvBwdRefIdeal := by
  intro m ρ m' ρ' _ ha
  refine ⟨fun c => RmsKvBwdIdeal.Value.resX (m (c.tc.loc RmsKvBwdIdeal.main_arg0)) (m (c.tc.loc RmsKvBwdIdeal.main_arg1)) (m (c.tc.loc RmsKvBwdIdeal.main_arg2)),
    fun c => RmsKvBwdIdeal.Value.resG (m (c.tc.loc RmsKvBwdIdeal.main_arg0)) (m (c.tc.loc RmsKvBwdIdeal.main_arg1)), ?_, ?_⟩
  · exact (θ_run RmsKvBwdIdeal.defs _ _).mono (fun r h c => ⟨(h c).1.trans (RmsKvBwdIdeal.Value.finalX m c), (h c).2.1.trans (RmsKvBwdIdeal.Value.finalG m c), (h c).2.2⟩)
      (RmsKvBwdIdeal.Value.run_blocks m ρ)
  · have e0 c : RmsKvBwdRefIdeal.Value.R0 m' c = RmsKvBwdIdeal.Value.A0 m c := (ha c).1
    have e1 c : RmsKvBwdRefIdeal.Value.R1 m' c = RmsKvBwdIdeal.Value.A1 m c := (ha c).2.1
    have e2 c : RmsKvBwdRefIdeal.Value.R2 m' c = RmsKvBwdIdeal.Value.A2 m c := (ha c).2.2
    exact (θ_run RmsKvBwdRefIdeal.defs _ _).mono (fun r h c => ⟨(h c).1.trans ((RmsKvBwdRefIdeal.Value.ref_x m' c).trans (by rw [e0, e1, e2])),
        (h c).2.1.trans ((RmsKvBwdRefIdeal.Value.ref_g m' c).trans (by rw [e0, e1])), (h c).2.2⟩)
      (RmsKvBwdRefIdeal.Value.run m' ρ')

theorem frame_rmsMemBwd_reference : quiescent_RmsMemBwdRefIdeal := by
  intro m ρ _
  exact (θ_run RmsMemBwdRefIdeal.defs _ _).mono (fun r h => ⟨fun c => (h c).2.2,
      sem_eq_zero_of_no_sems (by decide) r.2⟩)
    (RmsMemBwdRefIdeal.Value.run m ρ)

/-- The gradients of the memory before its norm and of the norm's weights are the reference's. -/
theorem rmsMemBwd_value : algebraic_RmsMemBwdIdeal_RmsMemBwdRefIdeal := by
  intro m ρ m' ρ' _ ha
  refine ⟨fun c => RmsMemBwdIdeal.Value.resX (m (c.tc.loc RmsMemBwdIdeal.main_arg0)) (m (c.tc.loc RmsMemBwdIdeal.main_arg1)) (m (c.tc.loc RmsMemBwdIdeal.main_arg2)),
    fun c => RmsMemBwdIdeal.Value.resG (m (c.tc.loc RmsMemBwdIdeal.main_arg0)) (m (c.tc.loc RmsMemBwdIdeal.main_arg1)), ?_, ?_⟩
  · exact (θ_run RmsMemBwdIdeal.defs _ _).mono (fun r h c => ⟨(h c).1.trans (RmsMemBwdIdeal.Value.finalX m c), (h c).2.1.trans (RmsMemBwdIdeal.Value.finalG m c), (h c).2.2⟩)
      (RmsMemBwdIdeal.Value.run_blocks m ρ)
  · have e0 c : RmsMemBwdRefIdeal.Value.R0 m' c = RmsMemBwdIdeal.Value.A0 m c := (ha c).1
    have e1 c : RmsMemBwdRefIdeal.Value.R1 m' c = RmsMemBwdIdeal.Value.A1 m c := (ha c).2.1
    have e2 c : RmsMemBwdRefIdeal.Value.R2 m' c = RmsMemBwdIdeal.Value.A2 m c := (ha c).2.2
    exact (θ_run RmsMemBwdRefIdeal.defs _ _).mono (fun r h c => ⟨(h c).1.trans ((RmsMemBwdRefIdeal.Value.ref_x m' c).trans (by rw [e0, e1, e2])),
        (h c).2.1.trans ((RmsMemBwdRefIdeal.Value.ref_g m' c).trans (by rw [e0, e1])), (h c).2.2⟩)
      (RmsMemBwdRefIdeal.Value.run m' ρ')

theorem frame_gateBwd_reference : quiescent_GateBwdRefIdeal := by
  intro m ρ _
  exact (θ_run GateBwdRefIdeal.defs _ _).mono (fun r h => ⟨fun c => (h c).2.2.2.2.2,
      sem_eq_zero_of_no_sems (by decide) r.2⟩)
    (GateBwdRefIdeal.Value.run m ρ)

/-- The gradients of the gates' inputs, of the three products they scale and of the gates' biases are the reference's. -/
theorem gateBwd_value : algebraic_GateBwdIdeal_GateBwdRefIdeal := by
  intro m ρ m' ρ' _ ha
  refine ⟨fun c => GateBwdIdeal.Value.resL (m (c.tc.loc GateBwdIdeal.main_arg0)) (m (c.tc.loc GateBwdIdeal.main_arg1)) (m (c.tc.loc GateBwdIdeal.main_arg2)) (m (c.tc.loc GateBwdIdeal.main_arg3)) (m (c.tc.loc GateBwdIdeal.main_arg4)) (m (c.tc.loc GateBwdIdeal.main_arg5)),
    fun c => GateBwdIdeal.Value.resP (m (c.tc.loc GateBwdIdeal.main_arg0)) (m (c.tc.loc GateBwdIdeal.main_arg1)) (m (c.tc.loc GateBwdIdeal.main_arg2)) 0,
    fun c => GateBwdIdeal.Value.resP (m (c.tc.loc GateBwdIdeal.main_arg0)) (m (c.tc.loc GateBwdIdeal.main_arg1)) (m (c.tc.loc GateBwdIdeal.main_arg2)) 1,
    fun c => GateBwdIdeal.Value.resP (m (c.tc.loc GateBwdIdeal.main_arg0)) (m (c.tc.loc GateBwdIdeal.main_arg1)) (m (c.tc.loc GateBwdIdeal.main_arg2)) 2,
    fun c => GateBwdIdeal.Value.resB (m (c.tc.loc GateBwdIdeal.main_arg0)) (m (c.tc.loc GateBwdIdeal.main_arg1)) (m (c.tc.loc GateBwdIdeal.main_arg2)) (m (c.tc.loc GateBwdIdeal.main_arg3)) (m (c.tc.loc GateBwdIdeal.main_arg4)) (m (c.tc.loc GateBwdIdeal.main_arg5)), ?_, ?_⟩
  · exact (θ_run GateBwdIdeal.defs _ _).mono (fun r h c => ⟨(h c).1.trans (GateBwdIdeal.Value.finalL m c), (h c).2.1.trans (GateBwdIdeal.Value.final0 m c), (h c).2.2.1.trans (GateBwdIdeal.Value.final1 m c), (h c).2.2.2.1.trans (GateBwdIdeal.Value.final2 m c), (h c).2.2.2.2.1.trans (GateBwdIdeal.Value.finalB m c), (h c).2.2.2.2.2⟩)
      (GateBwdIdeal.Value.run_blocks m ρ)
  · have e0 c : GateBwdRefIdeal.Value.R0 m' c = GateBwdIdeal.Value.A0 m c := (ha c).1
    have e1 c : GateBwdRefIdeal.Value.R1 m' c = GateBwdIdeal.Value.A1 m c := (ha c).2.1
    have e2 c : GateBwdRefIdeal.Value.R2 m' c = GateBwdIdeal.Value.A2 m c := (ha c).2.2.1
    have e3 c : GateBwdRefIdeal.Value.R3 m' c = GateBwdIdeal.Value.A3 m c := (ha c).2.2.2.1
    have e4 c : GateBwdRefIdeal.Value.R4 m' c = GateBwdIdeal.Value.A4 m c := (ha c).2.2.2.2.1
    have e5 c : GateBwdRefIdeal.Value.R5 m' c = GateBwdIdeal.Value.A5 m c := (ha c).2.2.2.2.2
    exact (θ_run GateBwdRefIdeal.defs _ _).mono (fun r h c => ⟨(h c).1.trans ((GateBwdRefIdeal.Value.ref_l m' c).trans (by rw [e0, e1, e2, e3, e4, e5])),
        (h c).2.1.trans ((GateBwdRefIdeal.Value.ref_0 m' c).trans (by rw [e0, e1, e2])),
        (h c).2.2.1.trans ((GateBwdRefIdeal.Value.ref_1 m' c).trans (by rw [e0, e1, e2])),
        (h c).2.2.2.1.trans ((GateBwdRefIdeal.Value.ref_2 m' c).trans (by rw [e0, e1, e2])),
        (h c).2.2.2.2.1.trans ((GateBwdRefIdeal.Value.ref_b m' c).trans (by rw [e0, e1, e2, e3, e4, e5])), (h c).2.2.2.2.2⟩)
      (GateBwdRefIdeal.Value.run m' ρ')

theorem frame_rmsMix_reference : quiescent_RmsMixRefIdeal := by
  intro m ρ _
  exact (θ_run RmsMixRefIdeal.defs _ _).mono (fun r h => ⟨fun c => (h c).2,
      sem_eq_zero_of_no_sems (by decide) r.2⟩)
    (RmsMixRefIdeal.Value.run m ρ)

/-- The normed input of the mixing block is the reference's. -/
theorem rmsMix_value : algebraic_RmsMixIdeal_RmsMixRefIdeal := by
  intro m ρ m' ρ' _ ha
  refine ⟨fun c => RmsMixIdeal.Value.norm (m (c.tc.loc RmsMixIdeal.main_arg0)) (m (c.tc.loc RmsMixIdeal.main_arg1)), ?_, ?_⟩
  · exact (θ_run RmsMixIdeal.defs _ _).mono (fun r h c => ⟨(h c).1.trans (RmsMixIdeal.Value.final m c), (h c).2⟩)
      (RmsMixIdeal.Value.run_blocks m ρ)
  · exact (θ_run RmsMixRefIdeal.defs _ _).mono (fun r h c => ⟨(h c).1.trans ((RmsMixRefIdeal.Value.ref_eq _ _).trans (by rw [(ha c).1, (ha c).2])), (h c).2⟩)
      (RmsMixRefIdeal.Value.run m' ρ')

theorem frame_rmsQ_reference : quiescent_RmsQRefIdeal := by
  intro m ρ _
  exact (θ_run RmsQRefIdeal.defs _ _).mono (fun r h => ⟨fun c => (h c).2,
      sem_eq_zero_of_no_sems (by decide) r.2⟩)
    (RmsQRefIdeal.Value.run m ρ)

/-- The normed query latents are the reference's. -/
theorem rmsQ_value : algebraic_RmsQIdeal_RmsQRefIdeal := by
  intro m ρ m' ρ' _ ha
  refine ⟨fun c => RmsQIdeal.Value.norm (m (c.tc.loc RmsQIdeal.main_arg0)) (m (c.tc.loc RmsQIdeal.main_arg1)), ?_, ?_⟩
  · exact (θ_run RmsQIdeal.defs _ _).mono (fun r h c => ⟨(h c).1.trans (RmsQIdeal.Value.final m c), (h c).2⟩)
      (RmsQIdeal.Value.run_blocks m ρ)
  · exact (θ_run RmsQRefIdeal.defs _ _).mono (fun r h c => ⟨(h c).1.trans ((RmsQRefIdeal.Value.ref_eq _ _).trans (by rw [(ha c).1, (ha c).2])), (h c).2⟩)
      (RmsQRefIdeal.Value.run m' ρ')

theorem frame_rmsKv_reference : quiescent_RmsKvRefIdeal := by
  intro m ρ _
  exact (θ_run RmsKvRefIdeal.defs _ _).mono (fun r h => ⟨fun c => (h c).2,
      sem_eq_zero_of_no_sems (by decide) r.2⟩)
    (RmsKvRefIdeal.Value.run m ρ)

/-- The normed key latents are the reference's. -/
theorem rmsKv_value : algebraic_RmsKvIdeal_RmsKvRefIdeal := by
  intro m ρ m' ρ' _ ha
  refine ⟨fun c => RmsKvIdeal.Value.norm (m (c.tc.loc RmsKvIdeal.main_arg0)) (m (c.tc.loc RmsKvIdeal.main_arg1)), ?_, ?_⟩
  · exact (θ_run RmsKvIdeal.defs _ _).mono (fun r h c => ⟨(h c).1.trans (RmsKvIdeal.Value.final m c), (h c).2⟩)
      (RmsKvIdeal.Value.run_blocks m ρ)
  · exact (θ_run RmsKvRefIdeal.defs _ _).mono (fun r h c => ⟨(h c).1.trans ((RmsKvRefIdeal.Value.ref_eq _ _).trans (by rw [(ha c).1, (ha c).2])), (h c).2⟩)
      (RmsKvRefIdeal.Value.run m' ρ')

theorem frame_rmsMem_reference : quiescent_RmsMemRefIdeal := by
  intro m ρ _
  exact (θ_run RmsMemRefIdeal.defs _ _).mono (fun r h => ⟨fun c => (h c).2,
      sem_eq_zero_of_no_sems (by decide) r.2⟩)
    (RmsMemRefIdeal.Value.run m ρ)

/-- The normed memory is the reference's. -/
theorem rmsMem_value : algebraic_RmsMemIdeal_RmsMemRefIdeal := by
  intro m ρ m' ρ' _ ha
  refine ⟨fun c => RmsMemIdeal.Value.norm (m (c.tc.loc RmsMemIdeal.main_arg0)) (m (c.tc.loc RmsMemIdeal.main_arg1)), ?_, ?_⟩
  · exact (θ_run RmsMemIdeal.defs _ _).mono (fun r h c => ⟨(h c).1.trans (RmsMemIdeal.Value.final m c), (h c).2⟩)
      (RmsMemIdeal.Value.run_blocks m ρ)
  · exact (θ_run RmsMemRefIdeal.defs _ _).mono (fun r h c => ⟨(h c).1.trans ((RmsMemRefIdeal.Value.ref_eq _ _).trans (by rw [(ha c).1, (ha c).2])), (h c).2⟩)
      (RmsMemRefIdeal.Value.run m' ρ')

theorem frame_gates_reference : quiescent_GatesRefIdeal := by
  intro m ρ _
  exact (θ_run GatesRefIdeal.defs _ _).mono (fun r h => ⟨fun c => (h c).2,
      sem_eq_zero_of_no_sems (by decide) r.2⟩)
    (GatesRefIdeal.Value.run m ρ)

/-- The gated sum of the three branches' products is the reference's. -/
theorem gates_value : algebraic_GatesIdeal_GatesRefIdeal := by
  intro m ρ m' ρ' _ ha
  refine ⟨fun c => GatesIdeal.Value.merge (m (c.tc.loc GatesIdeal.main_arg0)) (m (c.tc.loc GatesIdeal.main_arg1)) (m (c.tc.loc GatesIdeal.main_arg2)) (m (c.tc.loc GatesIdeal.main_arg3)) (m (c.tc.loc GatesIdeal.main_arg4)), ?_, ?_⟩
  · exact (θ_run GatesIdeal.defs _ _).mono (fun r h c => ⟨(h c).1.trans (GatesIdeal.Value.final m c), (h c).2⟩)
      (GatesIdeal.Value.run_blocks m ρ)
  · exact (θ_run GatesRefIdeal.defs _ _).mono (fun r h c => ⟨(h c).1.trans ((GatesRefIdeal.Value.ref_eq _ _ _ _ _).trans (by rw [(ha c).1, (ha c).2.1, (ha c).2.2.1, (ha c).2.2.2.1, (ha c).2.2.2.2])), (h c).2⟩)
      (GatesRefIdeal.Value.run m' ρ')

theorem frame_ropeBwd_reference : quiescent_RopeBwdRefIdeal := by
  intro m ρ _
  exact (θ_run RopeBwdRefIdeal.defs _ _).mono (fun r h => ⟨fun c => (h c).2.2,
      sem_eq_zero_of_no_sems (by decide) r.2⟩)
    (RopeBwdRefIdeal.Value.run m ρ)

/-- The gradients of the queries and of the shared rotary key before their rotation are the reference's. -/
theorem ropeBwd_value : algebraic_RopeBwdIdeal_RopeBwdRefIdeal := by
  intro m ρ m' ρ' _ ha
  refine ⟨fun c => RopeRow.resQ (m (c.tc.loc RopeBwdIdeal.main_arg0)) (m (c.tc.loc RopeBwdIdeal.main_arg2)) (m (c.tc.loc RopeBwdIdeal.main_arg3)),
    fun c => RopeRow.resK (m (c.tc.loc RopeBwdIdeal.main_arg1)) (m (c.tc.loc RopeBwdIdeal.main_arg2)) (m (c.tc.loc RopeBwdIdeal.main_arg3)), ?_, ?_⟩
  · exact (θ_run RopeBwdIdeal.defs _ _).mono (fun r h c => ⟨(h c).1.trans (RopeBwdIdeal.Value.finalQ m c), (h c).2.1.trans (RopeBwdIdeal.Value.finalK m c), (h c).2.2⟩)
      (RopeBwdIdeal.Value.run_blocks m ρ)
  · exact (θ_run RopeBwdRefIdeal.defs _ _).mono (fun r h c => ⟨(h c).1.trans (by rw [(ha c).1, (ha c).2.2.1, (ha c).2.2.2]),
        (h c).2.1.trans (by rw [(ha c).2.1, (ha c).2.2.1, (ha c).2.2.2]), (h c).2.2⟩)
      (RopeBwdRefIdeal.Value.run_ref m' ρ')

theorem claim : Cert.Claim := ⟨Cert.Kernel.Gen.facts,
  Cert.KernelIdeal.Gen.facts,
  Cert.ReferenceIdeal.Gen.facts,
  Up.Gen.facts,
  UpIdeal.Gen.facts,
  UpRefIdeal.Gen.facts,
  DownDx.Gen.facts,
  DownDxIdeal.Gen.facts,
  DownDxRefIdeal.Gen.facts,
  DownDw.Gen.facts,
  DownDwIdeal.Gen.facts,
  DownDwRefIdeal.Gen.facts,
  UpDw.Gen.facts,
  UpDwIdeal.Gen.facts,
  UpDwRefIdeal.Gen.facts,
  InFwd.Gen.facts,
  InFwdIdeal.Gen.facts,
  InFwdRefIdeal.Gen.facts,
  InDw.Gen.facts,
  InDwIdeal.Gen.facts,
  InDwRefIdeal.Gen.facts,
  Bo.Gen.facts,
  BoIdeal.Gen.facts,
  BoRefIdeal.Gen.facts,
  BoDx.Gen.facts,
  BoDxIdeal.Gen.facts,
  BoDxRefIdeal.Gen.facts,
  BoDw.Gen.facts,
  BoDwIdeal.Gen.facts,
  BoDwRefIdeal.Gen.facts,
  OutDx.Gen.facts,
  OutDxIdeal.Gen.facts,
  OutDxRefIdeal.Gen.facts,
  OutDw.Gen.facts,
  OutDwIdeal.Gen.facts,
  OutDwRefIdeal.Gen.facts,
  Uq.Gen.facts,
  UqIdeal.Gen.facts,
  UqRefIdeal.Gen.facts,
  UqDx.Gen.facts,
  UqDxIdeal.Gen.facts,
  UqDxRefIdeal.Gen.facts,
  UqDw.Gen.facts,
  UqDwIdeal.Gen.facts,
  UqDwRefIdeal.Gen.facts,
  Uk.Gen.facts,
  UkIdeal.Gen.facts,
  UkRefIdeal.Gen.facts,
  UkDx.Gen.facts,
  UkDxIdeal.Gen.facts,
  UkDxRefIdeal.Gen.facts,
  UkDw.Gen.facts,
  UkDwIdeal.Gen.facts,
  UkDwRefIdeal.Gen.facts,
  Uv.Gen.facts,
  UvIdeal.Gen.facts,
  UvRefIdeal.Gen.facts,
  UvDx.Gen.facts,
  UvDxIdeal.Gen.facts,
  UvDxRefIdeal.Gen.facts,
  UvDw.Gen.facts,
  UvDwIdeal.Gen.facts,
  UvDwRefIdeal.Gen.facts,
  MemKv.Gen.facts,
  MemKvIdeal.Gen.facts,
  MemKvRefIdeal.Gen.facts,
  MemKvDx.Gen.facts,
  MemKvDxIdeal.Gen.facts,
  MemKvDxRefIdeal.Gen.facts,
  MemKvDw.Gen.facts,
  MemKvDwIdeal.Gen.facts,
  MemKvDwRefIdeal.Gen.facts,
  OutNorms.Gen.facts,
  OutNormsIdeal.Gen.facts,
  OutNormsRefIdeal.Gen.facts,
  DownLoss.Gen.facts,
  DownLossIdeal.Gen.facts,
  DownLossRefIdeal.Gen.facts,
  UpDx.Gen.facts,
  UpDxIdeal.Gen.facts,
  UpDxRefIdeal.Gen.facts,
  InDx.Gen.facts,
  InDxIdeal.Gen.facts,
  InDxRefIdeal.Gen.facts,
  RmsQBwd.Gen.facts,
  RmsQBwdIdeal.Gen.facts,
  RmsQBwdRefIdeal.Gen.facts,
  RmsKvBwd.Gen.facts,
  RmsKvBwdIdeal.Gen.facts,
  RmsKvBwdRefIdeal.Gen.facts,
  RmsMemBwd.Gen.facts,
  RmsMemBwdIdeal.Gen.facts,
  RmsMemBwdRefIdeal.Gen.facts,
  GateBwd.Gen.facts,
  GateBwdIdeal.Gen.facts,
  GateBwdRefIdeal.Gen.facts,
  RmsMix.Gen.facts,
  RmsMixIdeal.Gen.facts,
  RmsMixRefIdeal.Gen.facts,
  RmsQ.Gen.facts,
  RmsQIdeal.Gen.facts,
  RmsQRefIdeal.Gen.facts,
  RmsKv.Gen.facts,
  RmsKvIdeal.Gen.facts,
  RmsKvRefIdeal.Gen.facts,
  RmsMem.Gen.facts,
  RmsMemIdeal.Gen.facts,
  RmsMemRefIdeal.Gen.facts,
  Gates.Gen.facts,
  GatesIdeal.Gen.facts,
  GatesRefIdeal.Gen.facts,
  RopeBwd.Gen.facts,
  RopeBwdIdeal.Gen.facts,
  RopeBwdRefIdeal.Gen.facts,
  Cert.Pre_finite.facts,
  fun m ρ _ => Cert.Kernel.Gen.frame m ρ,
  fun m ρ _ => Cert.KernelIdeal.Gen.frame m ρ,
  fun m ρ _ => Cert.KernelIdeal.Gen.frame m ρ,
  frame_reference,
  frame_reference_finite,
  fun m ρ _ => Up.Gen.frame m ρ,
  fun m ρ _ => UpIdeal.Gen.frame m ρ,
  frame_up_reference,
  fun m ρ _ => DownDx.Gen.frame m ρ,
  fun m ρ _ => DownDxIdeal.Gen.frame m ρ,
  frame_downDx_reference,
  fun m ρ _ => DownDw.Gen.frame m ρ,
  fun m ρ _ => DownDwIdeal.Gen.frame m ρ,
  frame_downDw_reference,
  fun m ρ _ => UpDw.Gen.frame m ρ,
  fun m ρ _ => UpDwIdeal.Gen.frame m ρ,
  frame_upDw_reference,
  fun m ρ _ => InFwd.Gen.frame m ρ,
  fun m ρ _ => InFwdIdeal.Gen.frame m ρ,
  frame_inFwd_reference,
  fun m ρ _ => InDw.Gen.frame m ρ,
  fun m ρ _ => InDwIdeal.Gen.frame m ρ,
  frame_inDw_reference,
  fun m ρ _ => Bo.Gen.frame m ρ,
  fun m ρ _ => BoIdeal.Gen.frame m ρ,
  frame_bo_reference,
  fun m ρ _ => BoDx.Gen.frame m ρ,
  fun m ρ _ => BoDxIdeal.Gen.frame m ρ,
  frame_boDx_reference,
  fun m ρ _ => BoDw.Gen.frame m ρ,
  fun m ρ _ => BoDwIdeal.Gen.frame m ρ,
  frame_boDw_reference,
  fun m ρ _ => OutDx.Gen.frame m ρ,
  fun m ρ _ => OutDxIdeal.Gen.frame m ρ,
  frame_outDx_reference,
  fun m ρ _ => OutDw.Gen.frame m ρ,
  fun m ρ _ => OutDwIdeal.Gen.frame m ρ,
  frame_outDw_reference,
  fun m ρ _ => Uq.Gen.frame m ρ,
  fun m ρ _ => UqIdeal.Gen.frame m ρ,
  frame_uq_reference,
  fun m ρ _ => UqDx.Gen.frame m ρ,
  fun m ρ _ => UqDxIdeal.Gen.frame m ρ,
  frame_uqDx_reference,
  fun m ρ _ => UqDw.Gen.frame m ρ,
  fun m ρ _ => UqDwIdeal.Gen.frame m ρ,
  frame_uqDw_reference,
  fun m ρ _ => Uk.Gen.frame m ρ,
  fun m ρ _ => UkIdeal.Gen.frame m ρ,
  frame_uk_reference,
  fun m ρ _ => UkDx.Gen.frame m ρ,
  fun m ρ _ => UkDxIdeal.Gen.frame m ρ,
  frame_ukDx_reference,
  fun m ρ _ => UkDw.Gen.frame m ρ,
  fun m ρ _ => UkDwIdeal.Gen.frame m ρ,
  frame_ukDw_reference,
  fun m ρ _ => Uv.Gen.frame m ρ,
  fun m ρ _ => UvIdeal.Gen.frame m ρ,
  frame_uv_reference,
  fun m ρ _ => UvDx.Gen.frame m ρ,
  fun m ρ _ => UvDxIdeal.Gen.frame m ρ,
  frame_uvDx_reference,
  fun m ρ _ => UvDw.Gen.frame m ρ,
  fun m ρ _ => UvDwIdeal.Gen.frame m ρ,
  frame_uvDw_reference,
  fun m ρ _ => MemKv.Gen.frame m ρ,
  fun m ρ _ => MemKvIdeal.Gen.frame m ρ,
  frame_memKv_reference,
  fun m ρ _ => MemKvDx.Gen.frame m ρ,
  fun m ρ _ => MemKvDxIdeal.Gen.frame m ρ,
  frame_memKvDx_reference,
  fun m ρ _ => MemKvDw.Gen.frame m ρ,
  fun m ρ _ => MemKvDwIdeal.Gen.frame m ρ,
  frame_memKvDw_reference,
  fun m ρ _ => OutNorms.Gen.frame m ρ,
  fun m ρ _ => OutNormsIdeal.Gen.frame m ρ,
  frame_outNorms_reference,
  fun m ρ _ => DownLoss.Gen.frame m ρ,
  fun m ρ _ => DownLossIdeal.Gen.frame m ρ,
  frame_downLoss_reference,
  fun m ρ _ => UpDx.Gen.frame m ρ,
  fun m ρ _ => UpDxIdeal.Gen.frame m ρ,
  frame_upDx_reference,
  fun m ρ _ => InDx.Gen.frame m ρ,
  fun m ρ _ => InDxIdeal.Gen.frame m ρ,
  frame_inDx_reference,
  fun m ρ _ => RmsQBwd.Gen.frame m ρ,
  fun m ρ _ => RmsQBwdIdeal.Gen.frame m ρ,
  frame_rmsQBwd_reference,
  fun m ρ _ => RmsKvBwd.Gen.frame m ρ,
  fun m ρ _ => RmsKvBwdIdeal.Gen.frame m ρ,
  frame_rmsKvBwd_reference,
  fun m ρ _ => RmsMemBwd.Gen.frame m ρ,
  fun m ρ _ => RmsMemBwdIdeal.Gen.frame m ρ,
  frame_rmsMemBwd_reference,
  fun m ρ _ => GateBwd.Gen.frame m ρ,
  fun m ρ _ => GateBwdIdeal.Gen.frame m ρ,
  frame_gateBwd_reference,
  fun m ρ _ => RmsMix.Gen.frame m ρ,
  fun m ρ _ => RmsMixIdeal.Gen.frame m ρ,
  frame_rmsMix_reference,
  fun m ρ _ => RmsQ.Gen.frame m ρ,
  fun m ρ _ => RmsQIdeal.Gen.frame m ρ,
  frame_rmsQ_reference,
  fun m ρ _ => RmsKv.Gen.frame m ρ,
  fun m ρ _ => RmsKvIdeal.Gen.frame m ρ,
  frame_rmsKv_reference,
  fun m ρ _ => RmsMem.Gen.frame m ρ,
  fun m ρ _ => RmsMemIdeal.Gen.frame m ρ,
  frame_rmsMem_reference,
  fun m ρ _ => Gates.Gen.frame m ρ,
  fun m ρ _ => GatesIdeal.Gen.frame m ρ,
  frame_gates_reference,
  fun m ρ _ => RopeBwd.Gen.frame m ρ,
  fun m ρ _ => RopeBwdIdeal.Gen.frame m ρ,
  frame_ropeBwd_reference,
  trivial,
  gradients,
  trivial,
  up_value,
  trivial,
  downDx_value,
  trivial,
  downDw_value,
  trivial,
  upDw_value,
  trivial,
  inFwd_value,
  trivial,
  inDw_value,
  trivial,
  bo_value,
  trivial,
  boDx_value,
  trivial,
  boDw_value,
  trivial,
  outDx_value,
  trivial,
  outDw_value,
  trivial,
  uq_value,
  trivial,
  uqDx_value,
  trivial,
  uqDw_value,
  trivial,
  uk_value,
  trivial,
  ukDx_value,
  trivial,
  ukDw_value,
  trivial,
  uv_value,
  trivial,
  uvDx_value,
  trivial,
  uvDw_value,
  trivial,
  memKv_value,
  trivial,
  memKvDx_value,
  trivial,
  memKvDw_value,
  trivial,
  outNorms_value,
  trivial,
  downLoss_value,
  trivial,
  upDx_value,
  trivial,
  inDx_value,
  trivial,
  rmsQBwd_value,
  trivial,
  rmsKvBwd_value,
  trivial,
  rmsMemBwd_value,
  trivial,
  gateBwd_value,
  trivial,
  rmsMix_value,
  trivial,
  rmsQ_value,
  trivial,
  rmsKv_value,
  trivial,
  rmsMem_value,
  trivial,
  gates_value,
  trivial,
  ropeBwd_value⟩

end Cert.Proof

end
